-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v39_0)) (v1 : (c : Dev Cert.Kernel2Ideal.nD) → Buf (Elt Ideal) ((c.tc : Thread Cert.Kernel2Ideal.nD Cert.Kernel2Ideal.τ).loc Cert.Kernel2Ideal.main_v39_1)) (v2 : (c : Dev Cert.Kernel2Ideal.nD) → Buf (Elt Ideal) ((c.tc : Thread Cert.Kernel2Ideal.nD Cert.Kernel2Ideal.τ).loc Cert.Kernel2Ideal.main_v39_2)) (v3 : (c : Dev Cert.Kernel2Ideal.nD) → Buf (Elt Ideal) ((c.tc : Thread Cert.Kernel2Ideal.nD Cert.Kernel2Ideal.τ).loc Cert.Kernel2Ideal.main_v39_3)) (v4 : (c : Dev Cert.Kernel2Ideal.nD) → Buf (Elt Ideal) ((c.tc : Thread Cert.Kernel2Ideal.nD Cert.Kernel2Ideal.τ).loc Cert.Kernel2Ideal.main_v39_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39_0) = v0 c
          ∧ r.2.mem ((c.tc : Thread Cert.Kernel2Ideal.nD Cert.Kernel2Ideal.τ).loc Cert.Kernel2Ideal.main_v39_1) = v1 c
          ∧ r.2.mem ((c.tc : Thread Cert.Kernel2Ideal.nD Cert.Kernel2Ideal.τ).loc Cert.Kernel2Ideal.main_v39_2) = v2 c
          ∧ r.2.mem ((c.tc : Thread Cert.Kernel2Ideal.nD Cert.Kernel2Ideal.τ).loc Cert.Kernel2Ideal.main_v39_3) = v3 c
          ∧ r.2.mem ((c.tc : Thread Cert.Kernel2Ideal.nD Cert.Kernel2Ideal.τ).loc Cert.Kernel2Ideal.main_v39_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v83) = v2 c
          ∧ r.2.mem ((c.tc : Thread Cert.Reference2Ideal.nD Cert.Reference2Ideal.τ).loc Cert.Reference2Ideal.main_v65) = v3 c
          ∧ r.2.mem ((c.tc : Thread Cert.Reference2Ideal.nD Cert.Reference2Ideal.τ).loc Cert.Reference2Ideal.main_v85) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_v37) = v2 c
          ∧ r.2.mem ((c.tc : Thread Cert.Reference5Ideal.nD Cert.Reference5Ideal.τ).loc Cert.Reference5Ideal.main_v57) = v3 c
          ∧ r.2.mem ((c.tc : Thread Cert.Reference5Ideal.nD Cert.Reference5Ideal.τ).loc Cert.Reference5Ideal.main_v58) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v22_0)) (v1 : (c : Dev Cert.Kernel7Ideal.nD) → Buf (Elt Ideal) ((c.tc : Thread Cert.Kernel7Ideal.nD Cert.Kernel7Ideal.τ).loc Cert.Kernel7Ideal.main_v22_1)) (v2 : (c : Dev Cert.Kernel7Ideal.nD) → Buf (Elt Ideal) ((c.tc : Thread Cert.Kernel7Ideal.nD Cert.Kernel7Ideal.τ).loc Cert.Kernel7Ideal.main_v22_2)) (v3 : (c : Dev Cert.Kernel7Ideal.nD) → Buf (Elt Ideal) ((c.tc : Thread Cert.Kernel7Ideal.nD Cert.Kernel7Ideal.τ).loc Cert.Kernel7Ideal.main_v22_3)) (v4 : (c : Dev Cert.Kernel7Ideal.nD) → Buf (Elt Ideal) ((c.tc : Thread Cert.Kernel7Ideal.nD Cert.Kernel7Ideal.τ).loc Cert.Kernel7Ideal.main_v22_4)) (v5 : (c : Dev Cert.Kernel7Ideal.nD) → Buf (Elt Ideal) ((c.tc : Thread Cert.Kernel7Ideal.nD Cert.Kernel7Ideal.τ).loc Cert.Kernel7Ideal.main_v22_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22_0) = v0 c
          ∧ r.2.mem ((c.tc : Thread Cert.Kernel7Ideal.nD Cert.Kernel7Ideal.τ).loc Cert.Kernel7Ideal.main_v22_1) = v1 c
          ∧ r.2.mem ((c.tc : Thread Cert.Kernel7Ideal.nD Cert.Kernel7Ideal.τ).loc Cert.Kernel7Ideal.main_v22_2) = v2 c
          ∧ r.2.mem ((c.tc : Thread Cert.Kernel7Ideal.nD Cert.Kernel7Ideal.τ).loc Cert.Kernel7Ideal.main_v22_3) = v3 c
          ∧ r.2.mem ((c.tc : Thread Cert.Kernel7Ideal.nD Cert.Kernel7Ideal.τ).loc Cert.Kernel7Ideal.main_v22_4) = v4 c
          ∧ r.2.mem ((c.tc : Thread Cert.Kernel7Ideal.nD Cert.Kernel7Ideal.τ).loc Cert.Kernel7Ideal.main_v22_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v111) = v0 c
          ∧ r.2.mem ((c.tc : Thread Cert.Reference7Ideal.nD Cert.Reference7Ideal.τ).loc Cert.Reference7Ideal.main_v73) = v1 c
          ∧ r.2.mem ((c.tc : Thread Cert.Reference7Ideal.nD Cert.Reference7Ideal.τ).loc Cert.Reference7Ideal.main_v52) = v2 c
          ∧ r.2.mem ((c.tc : Thread Cert.Reference7Ideal.nD Cert.Reference7Ideal.τ).loc Cert.Reference7Ideal.main_v112) = v3 c
          ∧ r.2.mem ((c.tc : Thread Cert.Reference7Ideal.nD Cert.Reference7Ideal.τ).loc Cert.Reference7Ideal.main_v94) = v4 c
          ∧ r.2.mem ((c.tc : Thread Cert.Reference7Ideal.nD Cert.Reference7Ideal.τ).loc Cert.Reference7Ideal.main_v114) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v22) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_v18) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v28) = v0 c
          ∧ r.2.mem ((c.tc : Thread Cert.Reference12Ideal.nD Cert.Reference12Ideal.τ).loc Cert.Reference12Ideal.main_v29) = v1 c
          ∧ r.2.mem ((c.tc : Thread Cert.Reference12Ideal.nD Cert.Reference12Ideal.τ).loc Cert.Reference12Ideal.main_v32) = v2 c
          ∧ r.2.mem ((c.tc : Thread Cert.Reference12Ideal.nD Cert.Reference12Ideal.τ).loc Cert.Reference12Ideal.main_v33) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v43) = v0 c
          ∧ r.2.mem ((c.tc : Thread Cert.Reference14Ideal.nD Cert.Reference14Ideal.τ).loc Cert.Reference14Ideal.main_v44) = v1 c
          ∧ r.2.mem ((c.tc : Thread Cert.Reference14Ideal.nD Cert.Reference14Ideal.τ).loc Cert.Reference14Ideal.main_v45) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v17) = v0 c
          ∧ r.2.mem ((c.tc : Thread Cert.Reference15Ideal.nD Cert.Reference15Ideal.τ).loc Cert.Reference15Ideal.main_v18) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  IdealRules.named_const.Statement Cert.Kernel17Ideal.κ "mask" .f32 0xF149F2CA#32 ⊥

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v30_0)) (v1 : (c : Dev Cert.Kernel17Ideal.nD) → Buf (Elt Ideal) ((c.tc : Thread Cert.Kernel17Ideal.nD Cert.Kernel17Ideal.τ).loc Cert.Kernel17Ideal.main_v30_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v30_0) = v0 c
          ∧ r.2.mem ((c.tc : Thread Cert.Kernel17Ideal.nD Cert.Kernel17Ideal.τ).loc Cert.Kernel17Ideal.main_v30_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v130) = v0 c
          ∧ r.2.mem ((c.tc : Thread Cert.Reference17Ideal.nD Cert.Reference17Ideal.τ).loc Cert.Reference17Ideal.main_v135) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v7) = v2 c
          ∧ r.2.mem ((c.tc : Thread Cert.Reference19Ideal.nD Cert.Reference19Ideal.τ).loc Cert.Reference19Ideal.main_v13) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v26) = v1 c
          ∧ r.2.mem ((c.tc : Thread Cert.Reference20Ideal.nD Cert.Reference20Ideal.τ).loc Cert.Reference20Ideal.main_v7) = v2 c
          ∧ r.2.mem ((c.tc : Thread Cert.Reference20Ideal.nD Cert.Reference20Ideal.τ).loc Cert.Reference20Ideal.main_v13) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite2 : Cert.Pre_finite2.Facts) (hPre_finite3 : Cert.Pre_finite3.Facts) (hPre_finite5 : Cert.Pre_finite5.Facts) (hPre_finite7 : Cert.Pre_finite7.Facts) (hPre_finite8 : Cert.Pre_finite8.Facts) (hPre_finite17 : Cert.Pre_finite17.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite17.lean ====
abbrev S4096x1024 : Shape := ⟨2, ![4096, 1024]⟩
abbrev S4096x512 : Shape := ⟨2, ![4096, 512]⟩
abbrev S1x16 : Shape := ⟨2, ![1, 16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S4096x1024 .bf16) (main_arg1 : FVec F S4096x512 .bf16) (main_arg2 : FVec F S1x16 .f32) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S4096x512 .bf16 := Host.absf main_arg1
  let main_cst_1 : FVec F S_ .bf16 := constant S_ .bf16 0x7F80#16
  let main_v6 : FVec F S4096x512 .bf16 := broadcastInDim S4096x512 ![] bcast_S_S4096x512 main_cst_1
  let main_v7 : IVec S4096x512 1 := cmpf .olt main_v5 main_v6
  let main_c_2 : IVec S_ 1 := constantI S_ 1 1#1
  let main_v8 : IVec S_ 1 := (fun x v => Host.reduce IntOp.andi x v reducesTo_S4096x512_S_d0_1 h_S_) main_v7 main_c_2
  let main_v9 : IVec S_ 1 := andi main_v4 main_v8
  let main_v10 : FVec F S1x16 .f32 := Host.absf main_arg2
  let main_cst_3 : FVec F S_ .f32 := constant S_ .f32 0x7F800000#32
  let main_v11 : FVec F S1x16 .f32 := broadcastInDim S1x16 ![] bcast_S_S1x16 main_cst_3
  let main_v12 : IVec S1x16 1 := cmpf .olt main_v10 main_v11
  let main_c_4 : IVec S_ 1 := constantI S_ 1 1#1
  let main_v13 : IVec S_ 1 := (fun x v => Host.reduce IntOp.andi x v reducesTo_S1x16_S_d0_1 h_S_) main_v12 main_c_4
  let main_v14 : IVec S_ 1 := andi main_v9 main_v13
  main_v14
-- ==== Pre_finite2.lean ====
abbrev S4096x1024 : Shape := ⟨2, ![4096, 1024]⟩
abbrev S1024x1024 : Shape := ⟨2, ![1024, 1024]⟩
abbrev S1x1024 : Shape := ⟨2, ![1, 1024]⟩
abbrev S1024x5632 : Shape := ⟨2, ![1024, 5632]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part2 {F : FTy → Type} [FloatOps F] (main_arg7 : FVec F S4096x1024 .f32) (main_v29 : IVec S_ 1) (main_v32 : IVec S4096x2816 1) (main_c_12 : IVec S_ 1) : IVec S_ 1 :=
  let main_v33 : IVec S_ 1 := (fun x v => Host.reduce IntOp.andi x v reducesTo_S4096x2816_S_d0_1 h_S_) main_v32 main_c_12
  let main_v34 : IVec S_ 1 := andi main_v29 main_v33
  let main_v35 : FVec F S4096x1024 .f32 := Host.absf main_arg7
  let main_cst_13 : FVec F S_ .f32 := constant S_ .f32 0x7F800000#32
  let main_v36 : FVec F S4096x1024 .f32 := broadcastInDim S4096x1024 ![] bcast_S_S4096x1024 main_cst_13
  let main_v37 : IVec S4096x1024 1 := cmpf .olt main_v35 main_v36
  let main_c_14 : IVec S_ 1 := constantI S_ 1 1#1
  let main_v38 : IVec S_ 1 := (fun x v => Host.reduce IntOp.andi x v reducesTo_S4096x1024_S_d0_1 h_S_) main_v37 main_c_14
  let main_v39 : IVec S_ 1 := andi main_v34 main_v38
  main_v39

def fn_part1 {F : FTy → Type} [FloatOps F] (main_arg4 : FVec F S1x1024 .f32) (main_arg5 : FVec F S1024x5632 .f32) (main_arg6 : FVec F S4096x2816 .f32) (main_arg7 : FVec F S4096x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S1024x5632 .f32 := Host.absf main_arg5
  let main_cst_9 : FVec F S_ .f32 := constant S_ .f32 0x7F800000#32
  let main_v26 : FVec F S1024x5632 .f32 := broadcastInDim S1024x5632 ![] bcast_S_S1024x5632 main_cst_9
  let main_v27 : IVec S1024x5632 1 := cmpf .olt main_v25 main_v26
  let main_c_10 : IVec S_ 1 := constantI S_ 1 1#1
  let main_v28 : IVec S_ 1 := (fun x v => Host.reduce IntOp.andi x v reducesTo_S1024x5632_S_d0_1 h_S_) main_v27 main_c_10
  let main_v29 : IVec S_ 1 := andi main_v24 main_v28
  let main_v30 : FVec F S4096x2816 .f32 := Host.absf main_arg6
  let main_cst_11 : FVec F S_ .f32 := constant S_ .f32 0x7F800000#32
  let main_v31 : FVec F S4096x2816 .f32 := broadcastInDim S4096x2816 ![] bcast_S_S4096x2816 main_cst_11
  let main_v32 : IVec S4096x2816 1 := cmpf .olt main_v30 main_v31
  let main_c_12 : IVec S_ 1 := constantI S_ 1 1#1
  fn_part2 (F := F) main_arg7 main_v29 main_v32 main_c_12

def fn {F : FTy → Type} [FloatOps F] (main_arg0 : FVec F S4096x1024 .f32) (main_arg1 : FVec F S1024x1024 .f32) (main_arg2 : FVec F S4096x1024 .f32) (main_arg3 : FVec F S1x1024 .f32) (main_arg4 : FVec F S1x1024 .f32) (main_arg5 : FVec F S1024x5632 .f32) (main_arg6 : FVec F S4096x2816 .f32) (main_arg7 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1024x1024 .f32 := Host.absf main_arg1
  let main_cst_1 : FVec F S_ .f32 := constant S_ .f32 0x7F800000#32
  let main_v6 : FVec F S1024x1024 .f32 := broadcastInDim S1024x1024 ![] bcast_S_S1024x1024 main_cst_1
  let main_v7 : IVec S1024x1024 1 := cmpf .olt main_v5 main_v6
  let main_c_2 : IVec S_ 1 := constantI S_ 1 1#1
  let main_v8 : IVec S_ 1 := (fun x v => Host.reduce IntOp.andi x v reducesTo_S1024x1024_S_d0_1 h_S_) main_v7 main_c_2
  let main_v9 : IVec S_ 1 := andi main_v4 main_v8
  let main_v10 : FVec F S4096x1024 .f32 := Host.absf main_arg2
  let main_cst_3 : FVec F S_ .f32 := constant S_ .f32 0x7F800000#32
  let main_v11 : FVec F S4096x1024 .f32 := broadcastInDim S4096x1024 ![] bcast_S_S4096x1024 main_cst_3
  let main_v12 : IVec S4096x1024 1 := cmpf .olt main_v10 main_v11
  let main_c_4 : IVec S_ 1 := constantI S_ 1 1#1
  let main_v13 : IVec S_ 1 := (fun x v => Host.reduce IntOp.andi x v reducesTo_S4096x1024_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg5 main_arg6 main_arg7 main_v14 main_v15 main_cst_5
-- ==== Pre_finite3.lean ====
abbrev S4096x1024 : Shape := ⟨2, ![4096, 1024]⟩
abbrev S1x1024 : Shape := ⟨2, ![1, 1024]⟩
abbrev S1024x5632 : Shape := ⟨2, ![1024, 5632]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_v14 : IVec S_ 1) (main_v15 : FVec F S4096x2816 .f32) (main_cst_5 : FVec F S_ .f32) : IVec S_ 1 :=
  let main_v16 : FVec F S4096x2816 .f32 := broadcastInDim S4096x2816 ![] bcast_S_S4096x2816 main_cst_5
  let main_v17 : IVec S4096x2816 1 := cmpf .olt main_v15 main_v16
  let main_c_6 : IVec S_ 1 := constantI S_ 1 1#1
  let main_v18 : IVec S_ 1 := (fun x v => Host.reduce IntOp.andi x v reducesTo_S4096x2816_S_d0_1 h_S_) main_v17 main_c_6
  let main_v19 : IVec S_ 1 := andi main_v14 main_v18
  main_v19

def fn {F : FTy → Type} [FloatOps F] (main_arg0 : FVec F S4096x1024 .f32) (main_arg1 : FVec F S1x1024 .f32) (main_arg2 : FVec F S1024x5632 .f32) (main_arg3 : FVec F S4096x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1024x5632 .f32 := Host.absf main_arg2
  let main_cst_3 : FVec F S_ .f32 := constant S_ .f32 0x7F800000#32
  let main_v11 : FVec F S1024x5632 .f32 := broadcastInDim S1024x5632 ![] bcast_S_S1024x5632 main_cst_3
  let main_v12 : IVec S1024x5632 1 := cmpf .olt main_v10 main_v11
  let main_c_4 : IVec S_ 1 := constantI S_ 1 1#1
  let main_v13 : IVec S_ 1 := (fun x v => Host.reduce IntOp.andi x v reducesTo_S1024x5632_S_d0_1 h_S_) main_v12 main_c_4
  let main_v14 : IVec S_ 1 := andi main_v9 main_v13
  let main_v15 : FVec F S4096x2816 .f32 := Host.absf main_arg3
  let main_cst_5 : FVec F S_ .f32 := constant S_ .f32 0x7F800000#32
  fn_part1 (F := F) main_v14 main_v15 main_cst_5
-- ==== Pre_finite5.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v14 : IVec S_ 1) (main_v15 : FVec F S4096x1024 .bf16) (main_cst_5 : FVec F S_ .bf16) : IVec S_ 1 :=
  let main_v16 : FVec F S4096x1024 .bf16 := broadcastInDim S4096x1024 ![] bcast_S_S4096x1024 main_cst_5
  let main_v17 : IVec S4096x1024 1 := cmpf .olt main_v15 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v14 main_v18
  let main_v20 : FVec F S4096x1024 .f32 := Host.absf main_arg4
  let main_cst_7 : FVec F S_ .f32 := constant S_ .f32 0x7F800000#32
  let main_v21 : FVec F S4096x1024 .f32 := broadcastInDim S4096x1024 ![] bcast_S_S4096x1024 main_cst_7
  let main_v22 : IVec S4096x1024 1 := cmpf .olt main_v20 main_v21
  let main_c_8 : IVec S_ 1 := constantI S_ 1 1#1
  let main_v23 : IVec S_ 1 := (fun x v => Host.reduce IntOp.andi x v reducesTo_S4096x1024_S_d0_1 h_S_) main_v22 main_c_8
  let main_v24 : IVec S_ 1 := andi main_v19 main_v23
  main_v24

def fn {F : FTy → Type} [FloatOps F] (main_arg0 : FVec F S4096x2816 .bf16) (main_arg1 : FVec F S2816x1024 .bf16) (main_arg2 : FVec F S1x1024 .f32) (main_arg3 : FVec F S4096x1024 .bf16) (main_arg4 : FVec F S4096x1024 .f32) : IVec S_ 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_c_0 : IVec S_ 1 := constantI S_ 1 1#1
  let main_v4 : IVec S_ 1 := andi main_c_0 main_v3
  let main_v5 : FVec F S2816x1024 .bf16 := Host.absf main_arg1
  let main_cst_1 : FVec F S_ .bf16 := constant S_ .bf16 0x7F80#16
  let main_v6 : FVec F S2816x1024 .bf16 := broadcastInDim S2816x1024 ![] bcast_S_S2816x1024 main_cst_1
  let main_v7 : IVec S2816x1024 1 := cmpf .olt main_v5 main_v6
  let main_c_2 : IVec S_ 1 := constantI S_ 1 1#1
  let main_v8 : IVec S_ 1 := (fun x v => Host.reduce IntOp.andi x v reducesTo_S2816x1024_S_d0_1 h_S_) main_v7 main_c_2
  let main_v9 : IVec S_ 1 := andi main_v4 main_v8
  let main_v10 : FVec F S1x1024 .f32 := Host.absf main_arg2
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S4096x1024 .bf16 := Host.absf main_arg3
  let main_cst_5 : FVec F S_ .bf16 := constant S_ .bf16 0x7F80#16
  fn_part1 (F := F) main_arg4 main_v14 main_v15 main_cst_5
-- ==== Pre_finite7.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x1024 : Shape := ⟨2, ![1024, 1024]⟩
abbrev S1024x512 : Shape := ⟨2, ![1024, 512]⟩
abbrev S4096x512 : Shape := ⟨2, ![4096, 512]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part3 {F : FTy → Type} [FloatOps F] (main_v49 : IVec S_ 1) (main_v50 : FVec F S4096x1024 .f32) : IVec S_ 1 :=
  let main_cst_19 : FVec F S_ .f32 := constant S_ .f32 0x7F800000#32
  let main_v51 : FVec F S4096x1024 .f32 := broadcastInDim S4096x1024 ![] bcast_S_S4096x1024 main_cst_19
  let main_v52 : IVec S4096x1024 1 := cmpf .olt main_v50 main_v51
  let main_c_20 : IVec S_ 1 := constantI S_ 1 1#1
  let main_v53 : IVec S_ 1 := (fun x v => Host.reduce IntOp.andi x v reducesTo_S4096x1024_S_d0_1 h_S_) main_v52 main_c_20
  let main_v54 : IVec S_ 1 := andi main_v49 main_v53
  main_v54

def fn_part2 {F : FTy → Type} [FloatOps F] (main_arg7 : FVec F S1024x512 .f32) (main_arg8 : FVec F S4096x1024 .f32) (main_arg9 : FVec F S4096x512 .f32) (main_arg10 : FVec F S4096x1024 .f32) (main_v29 : IVec S_ 1) (main_v32 : IVec S1024x1024 1) (main_c_12 : IVec S_ 1) : IVec S_ 1 :=
  let main_v33 : IVec S_ 1 := (fun x v => Host.reduce IntOp.andi x v reducesTo_S1024x1024_S_d0_1 h_S_) main_v32 main_c_12
  let main_v34 : IVec S_ 1 := andi main_v29 main_v33
  let main_v35 : FVec F S1024x512 .f32 := Host.absf main_arg7
  let main_cst_13 : FVec F S_ .f32 := constant S_ .f32 0x7F800000#32
  let main_v36 : FVec F S1024x512 .f32 := broadcastInDim S1024x512 ![] bcast_S_S1024x512 main_cst_13
  let main_v37 : IVec S1024x512 1 := cmpf .olt main_v35 main_v36
  let main_c_14 : IVec S_ 1 := constantI S_ 1 1#1
  let main_v38 : IVec S_ 1 := (fun x v => Host.reduce IntOp.andi x v reducesTo_S1024x512_S_d0_1 h_S_) main_v37 main_c_14
  let main_v39 : IVec S_ 1 := andi main_v34 main_v38
  let main_v40 : FVec F S4096x1024 .f32 := Host.absf main_arg8
  let main_cst_15 : FVec F S_ .f32 := constant S_ .f32 0x7F800000#32
  let main_v41 : FVec F S4096x1024 .f32 := broadcastInDim S4096x1024 ![] bcast_S_S4096x1024 main_cst_15
  let main_v42 : IVec S4096x1024 1 := cmpf .olt main_v40 main_v41
  let main_c_16 : IVec S_ 1 := constantI S_ 1 1#1
  let main_v43 : IVec S_ 1 := (fun x v => Host.reduce IntOp.andi x v reducesTo_S4096x1024_S_d0_1 h_S_) main_v42 main_c_16
  let main_v44 : IVec S_ 1 := andi main_v39 main_v43
  let main_v45 : FVec F S4096x512 .f32 := Host.absf main_arg9
  let main_cst_17 : FVec F S_ .f32 := constant S_ .f32 0x7F800000#32
  let main_v46 : FVec F S4096x512 .f32 := broadcastInDim S4096x512 ![] bcast_S_S4096x512 main_cst_17
  let main_v47 : IVec S4096x512 1 := cmpf .olt main_v45 main_v46
  let main_c_18 : IVec S_ 1 := constantI S_ 1 1#1
  let main_v48 : IVec S_ 1 := (fun x v => Host.reduce IntOp.andi x v reducesTo_S4096x512_S_d0_1 h_S_) main_v47 main_c_18
  let main_v49 : IVec S_ 1 := andi main_v44 main_v48
  let main_v50 : FVec F S4096x1024 .f32 := Host.absf main_arg10
  fn_part3 (F := F) main_v49 main_v50

def fn_part1 {F : FTy → Type} [FloatOps F] (main_arg4 : FVec F S1x1024 .f32) (main_arg5 : FVec F S1x1024 .f32) (main_arg6 : FVec F S1024x1024 .f32) (main_arg7 : FVec F S1024x512 .f32) (main_arg8 : FVec F S4096x1024 .f32) (main_arg9 : FVec F S4096x512 .f32) (main_arg10 : FVec F S4096x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  let main_v30 : FVec F S1024x1024 .f32 := Host.absf main_arg6
  let main_cst_11 : FVec F S_ .f32 := constant S_ .f32 0x7F800000#32
  let main_v31 : FVec F S1024x1024 .f32 := broadcastInDim S1024x1024 ![] bcast_S_S1024x1024 main_cst_11
  let main_v32 : IVec S1024x1024 1 := cmpf .olt main_v30 main_v31
  let main_c_12 : IVec S_ 1 := constantI S_ 1 1#1
  fn_part2 (F := F) main_arg7 main_arg8 main_arg9 main_arg10 main_v29 main_v32 main_c_12

def fn {F : FTy → Type} [FloatOps F] (main_arg0 : FVec F S4096x2816 .f32) (main_arg1 : FVec F S2816x1024 .f32) (main_arg2 : FVec F S4096x1024 .f32) (main_arg3 : FVec F S1x1024 .f32) (main_arg4 : FVec F S1x1024 .f32) (main_arg5 : FVec F S1x1024 .f32) (main_arg6 : FVec F S1024x1024 .f32) (main_arg7 : FVec F S1024x512 .f32) (main_arg8 : FVec F S4096x1024 .f32) (main_arg9 : FVec F S4096x512 .f32) (main_arg10 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_c_0 : IVec S_ 1 := constantI S_ 1 1#1
  let main_v4 : IVec S_ 1 := andi main_c_0 main_v3
  let main_v5 : FVec F S2816x1024 .f32 := Host.absf main_arg1
  let main_cst_1 : FVec F S_ .f32 := constant S_ .f32 0x7F800000#32
  let main_v6 : FVec F S2816x1024 .f32 := broadcastInDim S2816x1024 ![] bcast_S_S2816x1024 main_cst_1
  let main_v7 : IVec S2816x1024 1 := cmpf .olt main_v5 main_v6
  let main_c_2 : IVec S_ 1 := constantI S_ 1 1#1
  let main_v8 : IVec S_ 1 := (fun x v => Host.reduce IntOp.andi x v reducesTo_S2816x1024_S_d0_1 h_S_) main_v7 main_c_2
  let main_v9 : IVec S_ 1 := andi main_v4 main_v8
  let main_v10 : FVec F S4096x1024 .f32 := Host.absf main_arg2
  let main_cst_3 : FVec F S_ .f32 := constant S_ .f32 0x7F800000#32
  let main_v11 : FVec F S4096x1024 .f32 := broadcastInDim S4096x1024 ![] bcast_S_S4096x1024 main_cst_3
  let main_v12 : IVec S4096x1024 1 := cmpf .olt main_v10 main_v11
  let main_c_4 : IVec S_ 1 := constantI S_ 1 1#1
  let main_v13 : IVec S_ 1 := (fun x v => Host.reduce IntOp.andi x v reducesTo_S4096x1024_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg5 main_arg6 main_arg7 main_arg8 main_arg9 main_arg10 main_v14 main_v15 main_cst_5
-- ==== Pre_finite8.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .bf16) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S4096x1024 .bf16 := Host.absf main_arg4
  let main_cst_7 : FVec F S_ .bf16 := constant S_ .bf16 0x7F80#16
  let main_v21 : FVec F S4096x1024 .bf16 := broadcastInDim S4096x1024 ![] bcast_S_S4096x1024 main_cst_7
  let main_v22 : IVec S4096x1024 1 := cmpf .olt main_v20 main_v21
  let main_c_8 : IVec S_ 1 := constantI S_ 1 1#1
  let main_v23 : IVec S_ 1 := (fun x v => Host.reduce IntOp.andi x v reducesTo_S4096x1024_S_d0_1 h_S_) main_v22 main_c_8
  let main_v24 : IVec S_ 1 := andi main_v19 main_v23
  main_v24

def fn {F : FTy → Type} [FloatOps F] (main_arg0 : FVec F S4096x3072 .bf16) (main_arg1 : FVec F S1024x3072 .bf16) (main_arg2 : FVec F S4096x1024 .f32) (main_arg3 : FVec F S1x1024 .f32) (main_arg4 : FVec F S4096x1024 .bf16) : IVec S_ 1 :=
  let main_v0 : FVec F S4096x3072 .bf16 := Host.absf main_arg0
  let main_cst : FVec F S_ .bf16 := constant S_ .bf16 0x7F80#16
  let main_v1 : FVec F S4096x3072 .bf16 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_c_0 : IVec S_ 1 := constantI S_ 1 1#1
  let main_v4 : IVec S_ 1 := andi main_c_0 main_v3
  let main_v5 : FVec F S1024x3072 .bf16 := Host.absf main_arg1
  let main_cst_1 : FVec F S_ .bf16 := constant S_ .bf16 0x7F80#16
  let main_v6 : FVec F S1024x3072 .bf16 := broadcastInDim S1024x3072 ![] bcast_S_S1024x3072 main_cst_1
  let main_v7 : IVec S1024x3072 1 := cmpf .olt main_v5 main_v6
  let main_c_2 : IVec S_ 1 := constantI S_ 1 1#1
  let main_v8 : IVec S_ 1 := (fun x v => Host.reduce IntOp.andi x v reducesTo_S1024x3072_S_d0_1 h_S_) main_v7 main_c_2
  let main_v9 : IVec S_ 1 := andi main_v4 main_v8
  let main_v10 : FVec F S4096x1024 .f32 := Host.absf main_arg2
  let main_cst_3 : FVec F S_ .f32 := constant S_ .f32 0x7F800000#32
  let main_v11 : FVec F S4096x1024 .f32 := broadcastInDim S4096x1024 ![] bcast_S_S4096x1024 main_cst_3
  let main_v12 : IVec S4096x1024 1 := cmpf .olt main_v10 main_v11
  let main_c_4 : IVec S_ 1 := constantI S_ 1 1#1
  let main_v13 : IVec S_ 1 := (fun x v => Host.reduce IntOp.andi x v reducesTo_S4096x1024_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_v14 main_v15 main_cst_5
-- ==== Kernel.lean ====
abbrev S4096x1024 : Shape := ⟨2, ![4096, 1024]⟩
abbrev S4096x3072 : Shape := ⟨2, ![4096, 3072]⟩
abbrev S3x1024 : Shape := ⟨2, ![3, 1024]⟩
abbrev S8x1024 : Shape := ⟨2, ![8, 1024]⟩
abbrev S512x1024 : Shape := ⟨2, ![512, 1024]⟩
abbrev S16x1024 : Shape := ⟨2, ![16, 1024]⟩
abbrev S512x3072 : Shape := ⟨2, ![512, 3072]⟩
abbrev S528x1024 : Shape := ⟨2, ![528, 1024]⟩
abbrev S1x1024 : Shape := ⟨2, ![1, 1024]⟩
abbrev S1024 : Shape := ⟨1, ![1024]⟩

abbrev nBuf : Space → Nat
  | .hbm => 5
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x3072, .bf16⟩
  | .hbm, ⟨4, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S3x1024, .f32⟩
  | .local _ .vmem, ⟨17, _⟩ => ⟨S512x3072, .bf16⟩
  | .local _ .vmem, ⟨18, _⟩ => ⟨S512x3072, .bf16⟩
  | .local _ .vmem, ⟨19, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_31 : BitVec 32 := 0#32
  let v92 : BitVec 1 := Scalar.cmpi .eq arg0 c0_i32_31
  let v93 : BitVec 32 := Scalar.extui v92
  let c0_i32_32 : BitVec 32 := 0#32
  let v94 : BitVec 1 := Scalar.cmpi .ne v93 c0_i32_32
  v94

def k0_cond2 (i : grid0.Coords) : BitVec 1 :=
  let arg0 : BitVec 32 := BitVec.ofNat 32 (i 0).val
  let c0_i32_31 : BitVec 32 := 0#32
  let v92 : BitVec 1 := Scalar.cmpi .eq arg0 c0_i32_31
  let v_true : BitVec 1 := 1#1
  let v95 : BitVec 1 := Scalar.xori v92 v_true
  let v96 : BitVec 32 := Scalar.extui v95
  let c0_i32_33 : BitVec 32 := 0#32
  let v97 : BitVec 1 := Scalar.cmpi .ne v96 c0_i32_33
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x1024 : Shape := ⟨2, ![4096, 1024]⟩
abbrev S4096x3072 : Shape := ⟨2, ![4096, 3072]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S2x1024, .f32⟩
  | .hbm, ⟨10, _⟩ => ⟨S4098x1024, .f32⟩
  | .hbm, ⟨11, _⟩ => ⟨S_, .f32⟩
  | .hbm, ⟨12, _⟩ => ⟨S2x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S3x1024, .f32⟩
  | .hbm, ⟨48, _⟩ => ⟨S_, .f32⟩
  | .hbm, ⟨49, _⟩ => ⟨S4098x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S3x1024, .f32⟩
  | .hbm, ⟨61, _⟩ => ⟨S3x1024, .f32⟩
  | .hbm, ⟨62, _⟩ => ⟨S_, .f32⟩
  | .hbm, ⟨63, _⟩ => ⟨S4098x1024, .f32⟩
  | .hbm, ⟨64, _⟩ => ⟨S4098x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S3x1024, .f32⟩
  | .hbm, ⟨76, _⟩ => ⟨S3x1024, .f32⟩
  | .hbm, ⟨77, _⟩ => ⟨S_, .f32⟩
  | .hbm, ⟨78, _⟩ => ⟨S4098x1024, .f32⟩
  | .hbm, ⟨79, _⟩ => ⟨S4098x1024, .f32⟩
  | .hbm, ⟨80, _⟩ => ⟨S2x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x3072, .f32⟩
  | .hbm, ⟨85, _⟩ => ⟨S4096x3072, .bf16⟩
  | .hbm, ⟨86, _⟩ => ⟨S_, .f32⟩
  | .hbm, ⟨87, _⟩ => ⟨S5x1024, .f32⟩
  | .hbm, ⟨88, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel2.lean ====
abbrev S4096x1024 : Shape := ⟨2, ![4096, 1024]⟩
abbrev S1024x1024 : Shape := ⟨2, ![1024, 1024]⟩
abbrev S1x1024 : Shape := ⟨2, ![1, 1024]⟩
abbrev S1024x5632 : Shape := ⟨2, ![1024, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1x4096x2816 : Shape := ⟨3, ![1, 4096, 2816]⟩
abbrev S2x4096x2816 : Shape := ⟨3, ![2, 4096, 2816]⟩
abbrev S512x2816 : Shape := ⟨2, ![512, 2816]⟩
abbrev S1x512x2816 : Shape := ⟨3, ![1, 512, 2816]⟩
abbrev S1024x2816 : Shape := ⟨2, ![1024, 2816]⟩
abbrev S512x1024 : Shape := ⟨2, ![512, 1024]⟩
abbrev S256x2816 : Shape := ⟨2, ![256, 2816]⟩
abbrev S1x256x2816 : Shape := ⟨3, ![1, 256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 58
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S4096x2816, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x5632, .f32⟩
  | .hbm, ⟨41, _⟩ => ⟨S4096x2816, .f32⟩
  | .hbm, ⟨42, _⟩ => ⟨S4096x2816, .f32⟩
  | .hbm, ⟨43, _⟩ => ⟨S4096x2816, .bf16⟩
  | .hbm, ⟨44, _⟩ => ⟨S1x4096x2816, .f32⟩
  | .hbm, ⟨45, _⟩ => ⟨S1x4096x2816, .f32⟩
  | .hbm, ⟨46, _⟩ => ⟨S2x4096x2816, .f32⟩
  | .hbm, ⟨47, _⟩ => ⟨S2x4096x2816, .bf16⟩
  | .hbm, ⟨48, _⟩ => ⟨S1024x5632, .bf16⟩
  | .hbm, ⟨49, _⟩ => ⟨S4096x1024, .bf16⟩
  | .hbm, ⟨50, _⟩ => ⟨S4096x1024, .bf16⟩
  | .hbm, ⟨51, _⟩ => ⟨S4096x1024, .bf16⟩
  | .hbm, ⟨52, _⟩ => ⟨S1024x1024, .bf16⟩
  | .hbm, ⟨53, _⟩ => ⟨S4096x1024, .bf16⟩
  | .hbm, ⟨54, _⟩ => ⟨S1x1024, .f32⟩
  | .hbm, ⟨55, _⟩ => ⟨S4096x1024, .bf16⟩
  | .hbm, ⟨56, _⟩ => ⟨S1x1024, .f32⟩
  | .hbm, ⟨57, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1x512x2816, .bf16⟩
  | .local _ .vmem, ⟨5, _⟩ => ⟨S1x512x2816, .bf16⟩
  | .local _ .vmem, ⟨6, _⟩ => ⟨S1024x2816, .bf16⟩
  | .local _ .vmem, ⟨7, _⟩ => ⟨S1024x2816, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | .local _ .vmem, ⟨23, _⟩ => ⟨S512x1024, .bf16⟩
  | .local _ .vmem, ⟨24, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39_0 : Ref sig .tc := ⟨.hbm, 53, rfl⟩
abbrev main_v39_1 : Ref sig .tc := ⟨.hbm, 54, rfl⟩
abbrev main_v39_2 : Ref sig .tc := ⟨.hbm, 55, rfl⟩
abbrev main_v39_3 : Ref sig .tc := ⟨.hbm, 56, rfl⟩
abbrev main_v39_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v197 : BitVec 32 := Scalar.extui v0
  let c0_i32_93 : BitVec 32 := 0#32
  let v198 : BitVec 1 := Scalar.cmpi .ne v197 c0_i32_93
  v198

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v199 : BitVec 1 := Scalar.xori v0 v_true
  let v200 : BitVec 32 := Scalar.extui v199
  let c0_i32_94 : BitVec 32 := 0#32
  let v201 : BitVec 1 := Scalar.cmpi .ne v200 c0_i32_94
  v201

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v202 : BitVec 32 := Scalar.extui v0
  let c0_i32_95 : BitVec 32 := 0#32
  let v203 : BitVec 1 := Scalar.cmpi .ne v202 c0_i32_95
  v203

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_96 : BitVec 1 := 1#1
  let v204 : BitVec 1 := Scalar.xori v0 true_96
  let v205 : BitVec 32 := Scalar.extui v204
  let c0_i32_97 : BitVec 32 := 0#32
  let v206 : BitVec 1 := Scalar.cmpi .ne v205 c0_i32_97
  v206

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S4096x1024 : Shape := ⟨2, ![4096, 1024]⟩
abbrev S1024x1024 : Shape := ⟨2, ![1024, 1024]⟩
abbrev S1x1024 : Shape := ⟨2, ![1, 1024]⟩
abbrev S1024x5632 : Shape := ⟨2, ![1024, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024 : Shape := ⟨1, ![1024]⟩

abbrev nBuf : Space → Nat
  | .hbm => 125
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S4096x2816, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x5632, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S_, .f32⟩
  | .hbm, ⟨54, _⟩ => ⟨S4096x2816, .f32⟩
  | .hbm, ⟨55, _⟩ => ⟨S4096x2816, .f32⟩
  | .hbm, ⟨56, _⟩ => ⟨S_, .f32⟩
  | .hbm, ⟨57, _⟩ => ⟨S4096x2816, .f32⟩
  | .hbm, ⟨58, _⟩ => ⟨S4096x2816, .f32⟩
  | .hbm, ⟨59, _⟩ => ⟨S_, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S4096x2816, .f32⟩
  | .hbm, ⟨71, _⟩ => ⟨S4096x5632, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S_, .f32⟩
  | .hbm, ⟨106, _⟩ => ⟨S4096, .f32⟩
  | .hbm, ⟨107, _⟩ => ⟨S4096x1, .f32⟩
  | .hbm, ⟨108, _⟩ => ⟨S4096x1024, .f32⟩
  | .hbm, ⟨109, _⟩ => ⟨S4096x1024, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S_, .f32⟩
  | .hbm, ⟨115, _⟩ => ⟨S4096, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S4096x1024, .bf16⟩
  | .hbm, ⟨122, _⟩ => ⟨S4096x1024, .bf16⟩
  | .hbm, ⟨123, _⟩ => ⟨S4096x1024, .f32⟩
  | .hbm, ⟨124, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v35_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v35_1 : Ref sig .tc := ⟨.hbm, 62, rfl⟩
abbrev main_v35_0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_7 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_v55 : Ref sig .tc := ⟨.hbm, 89, rfl⟩
abbrev main_cst_10 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_11 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_12 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_v74 : Ref sig .tc := ⟨.hbm, 112, rfl⟩
abbrev main_v75 : Ref sig .tc := ⟨.hbm, 113, rfl⟩
abbrev main_cst_14 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x5632 : Shape := ⟨2, ![1024, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024x4096 : Shape := ⟨2, ![1024, 4096]⟩
abbrev S1x4096x2816 : Shape := ⟨3, ![1, 4096, 2816]⟩
abbrev S2x4096x2816 : Shape := ⟨3, ![2, 4096, 2816]⟩
abbrev S2x1024x2816 : Shape := ⟨3, ![2, 1024, 2816]⟩
abbrev S4096x256 : Shape := ⟨2, ![4096, 256]⟩
abbrev S1x4096x256 : Shape := ⟨3, ![1, 4096, 256]⟩
abbrev S2x1024x256 : Shape := ⟨3, ![2, 1024, 256]⟩
abbrev S1024x256 : Shape := ⟨2, ![1024, 256]⟩
abbrev S1x1024x256 : Shape := ⟨3, ![1, 1024, 256]⟩

abbrev nBuf : Space → Nat
  | .hbm => 30
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S1024x4096, .f32⟩
  | .hbm, ⟨23, _⟩ => ⟨S1024x4096, .bf16⟩
  | .hbm, ⟨24, _⟩ => ⟨S4096x2816, .bf16⟩
  | .hbm, ⟨25, _⟩ => ⟨S1x4096x2816, .f32⟩
  | .hbm, ⟨26, _⟩ => ⟨S1x4096x2816, .f32⟩
  | .hbm, ⟨27, _⟩ => ⟨S2x4096x2816, .f32⟩
  | .hbm, ⟨28, _⟩ => ⟨S2x4096x2816, .bf16⟩
  | .hbm, ⟨29, _⟩ => ⟨S2x1024x2816, .bf16⟩
  | .local _ .vmem, ⟨0, _⟩ => ⟨S1024x4096, .bf16⟩
  | .local _ .vmem, ⟨1, _⟩ => ⟨S4096x256, .bf16⟩
  | .local _ .vmem, ⟨2, _⟩ => ⟨S4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S2x1024x256, .bf16⟩
  | .local _ .vmem, ⟨8, _⟩ => ⟨S2x1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4096x1024 : Shape := ⟨2, ![4096, 1024]⟩
abbrev S1x1024 : Shape := ⟨2, ![1, 1024]⟩
abbrev S1024x5632 : Shape := ⟨2, ![1024, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S5632x1024 : Shape := ⟨2, ![5632, 1024]⟩
abbrev S1024x2816 : Shape := ⟨2, ![1024, 2816]⟩
abbrev S1x1024x2816 : Shape := ⟨3, ![1, 1024, 2816]⟩
abbrev S2x1024x2816 : Shape := ⟨3, ![2, 1024, 2816]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x5632, .f32⟩
  | .hbm, ⟨43, _⟩ => ⟨S5632x1024, .f32⟩
  | .hbm, ⟨44, _⟩ => ⟨S1024x5632, .f32⟩
  | .hbm, ⟨45, _⟩ => ⟨S1024x2816, .f32⟩
  | .hbm, ⟨46, _⟩ => ⟨S1024x2816, .f32⟩
  | .hbm, ⟨47, _⟩ => ⟨S1x1024x2816, .f32⟩
  | .hbm, ⟨48, _⟩ => ⟨S1x1024x2816, .f32⟩
  | .hbm, ⟨49, _⟩ => ⟨S2x1024x2816, .f32⟩
  | .hbm, ⟨50, _⟩ => ⟨S2x1024x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v15_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v15_1 : Ref sig .tc := ⟨.hbm, 33, rfl⟩
abbrev main_v15_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x5632 : Shape := ⟨2, ![1024, 5632]⟩
abbrev S2x4096x2816 : Shape := ⟨3, ![2, 4096, 2816]⟩
abbrev S4096x2816 : Shape := ⟨2, ![4096, 2816]⟩
abbrev S1024x4096 : Shape := ⟨2, ![1024, 4096]⟩
abbrev S512x1024 : Shape := ⟨2, ![512, 1024]⟩
abbrev S1024x2816 : Shape := ⟨2, ![1024, 2816]⟩
abbrev S2x512x2816 : Shape := ⟨3, ![2, 512, 2816]⟩
abbrev S512x2816 : Shape := ⟨2, ![512, 2816]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S1x256x2816 : Shape := ⟨3, ![1, 256, 2816]⟩
abbrev S1024x256 : Shape := ⟨2, ![1024, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1024x5632, .bf16⟩
  | .hbm, ⟨3, _⟩ => ⟨S2x4096x2816, .bf16⟩
  | .hbm, ⟨4, _⟩ => ⟨S4096x2816, .bf16⟩
  | .hbm, ⟨5, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2x512x2816, .bf16⟩
  | .local _ .vmem, ⟨6, _⟩ => ⟨S2x512x2816, .bf16⟩
  | .local _ .vmem, ⟨7, _⟩ => ⟨S512x2816, .bf16⟩
  | .local _ .vmem, ⟨8, _⟩ => ⟨S512x2816, .bf16⟩
  | .local _ .vmem, ⟨9, _⟩ => ⟨S1024x512, .bf16⟩
  | .local _ .vmem, ⟨10, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1024x4096 : Shape := ⟨2, ![1024, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1024x5632, .bf16⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x5632, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S1x4096x2816, .f32⟩
  | .hbm, ⟨24, _⟩ => ⟨S1x4096x2816, .f32⟩
  | .hbm, ⟨25, _⟩ => ⟨S2x4096x2816, .f32⟩
  | .hbm, ⟨26, _⟩ => ⟨S2x4096x2816, .bf16⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | .hbm, ⟨38, _⟩ => ⟨S1024x4096, .f32⟩
  | .hbm, ⟨39, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S8x128 : Shape := ⟨2, ![8, 128]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S1x1024, .f32⟩
  | .hbm, ⟨8, _⟩ => ⟨S4096x2816, .bf16⟩
  | .hbm, ⟨9, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x2816, .bf16⟩
  | .local _ .vmem, ⟨14, _⟩ => ⟨S512x2816, .bf16⟩
  | .local _ .vmem, ⟨15, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32 : BitVec 32 := 0#32
  let v6 : BitVec 1 := Scalar.cmpi .eq arg0 c0_i32
  let v138 : BitVec 32 := Scalar.extui v6
  let c0_i32_68 : BitVec 32 := 0#32
  let v139 : BitVec 1 := Scalar.cmpi .ne v138 c0_i32_68
  v139

def k0_cond4 (i : grid0.Coords) : BitVec 1 :=
  let arg0 : BitVec 32 := BitVec.ofNat 32 (i 0).val
  let c0_i32 : BitVec 32 := 0#32
  let v6 : BitVec 1 := Scalar.cmpi .eq arg0 c0_i32
  let true_69 : BitVec 1 := 1#1
  let v140 : BitVec 1 := Scalar.xori v6 true_69
  let v141 : BitVec 32 := Scalar.extui v140
  let c0_i32_70 : BitVec 32 := 0#32
  let v142 : BitVec 1 := Scalar.cmpi .ne v141 c0_i32_70
  v142

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v133 : BitVec 32 := Scalar.extui v6
  let c0_i32_66 : BitVec 32 := 0#32
  let v134 : BitVec 1 := Scalar.cmpi .ne v133 c0_i32_66
  v134

def k0_cond2 (i : grid0.Coords) : BitVec 1 :=
  let arg0 : BitVec 32 := BitVec.ofNat 32 (i 0).val
  let c0_i32 : BitVec 32 := 0#32
  let v6 : BitVec 1 := Scalar.cmpi .eq arg0 c0_i32
  let v_true : BitVec 1 := 1#1
  let v135 : BitVec 1 := Scalar.xori v6 v_true
  let v136 : BitVec 32 := Scalar.extui v135
  let c0_i32_67 : BitVec 32 := 0#32
  let v137 : BitVec 1 := Scalar.cmpi .ne v136 c0_i32_67
  v137

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .bf16⟩
  | .hbm, ⟨4, _⟩ => ⟨S4096x1024, .f32⟩
  | .hbm, ⟨5, _⟩ => ⟨S2816x1024, .f32⟩
  | .hbm, ⟨6, _⟩ => ⟨S4096x2816, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S4096x1024, .bf16⟩
  | .hbm, ⟨76, _⟩ => ⟨S4096x2816, .f32⟩
  | .hbm, ⟨77, _⟩ => ⟨S4096x2816, .bf16⟩
  | .hbm, ⟨78, _⟩ => ⟨S8x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S1x4096x1024 : Shape := ⟨3, ![1, 4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x4096x1024, .bf16⟩
  | .hbm, ⟨3, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S1x4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x1024 : Shape := ⟨2, ![1024, 1024]⟩
abbrev S1024x512 : Shape := ⟨2, ![1024, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512x512 : Shape := ⟨2, ![512, 512]⟩
abbrev S512x2816 : Shape := ⟨2, ![512, 2816]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024 : Shape := ⟨1, ![1024]⟩
abbrev S256x2816 : Shape := ⟨2, ![256, 2816]⟩

abbrev nBuf : Space → Nat
  | .hbm => 42
  | .vmem => 25
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1024x512, .f32⟩
  | .hbm, ⟨8, _⟩ => ⟨S4096x1024, .f32⟩
  | .hbm, ⟨9, _⟩ => ⟨S4096x512, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x512, .bf16⟩
  | .hbm, ⟨30, _⟩ => ⟨S1024x1024, .bf16⟩
  | .hbm, ⟨31, _⟩ => ⟨S1024x512, .bf16⟩
  | .hbm, ⟨32, _⟩ => ⟨S4096x1024, .bf16⟩
  | .hbm, ⟨33, _⟩ => ⟨S4096x1024, .bf16⟩
  | .hbm, ⟨34, _⟩ => ⟨S4096x1024, .bf16⟩
  | .hbm, ⟨35, _⟩ => ⟨S2816x1024, .bf16⟩
  | .hbm, ⟨36, _⟩ => ⟨S4096x1024, .bf16⟩
  | .hbm, ⟨37, _⟩ => ⟨S1x1024, .f32⟩
  | .hbm, ⟨38, _⟩ => ⟨S1x1024, .f32⟩
  | .hbm, ⟨39, _⟩ => ⟨S4096x1024, .bf16⟩
  | .hbm, ⟨40, _⟩ => ⟨S1x1024, .f32⟩
  | .hbm, ⟨41, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S1024x512, .bf16⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S2816x1024, .bf16⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | .local _ .vmem, ⟨23, _⟩ => ⟨S512x2816, .bf16⟩
  | .local _ .vmem, ⟨24, _⟩ => ⟨S512x2816, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v22_3 : Ref sig .tc := ⟨.hbm, 39, rfl⟩
abbrev main_v22_4 : Ref sig .tc := ⟨.hbm, 40, rfl⟩
abbrev main_v22_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v206 : BitVec 32 := Scalar.extui v0
  let c0_i32_92 : BitVec 32 := 0#32
  let v207 : BitVec 1 := Scalar.cmpi .ne v206 c0_i32_92
  v207

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v208 : BitVec 1 := Scalar.xori v0 v_true
  let v209 : BitVec 32 := Scalar.extui v208
  let c0_i32_93 : BitVec 32 := 0#32
  let v210 : BitVec 1 := Scalar.cmpi .ne v209 c0_i32_93
  v210

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v211 : BitVec 32 := Scalar.extui v0
  let c0_i32_94 : BitVec 32 := 0#32
  let v212 : BitVec 1 := Scalar.cmpi .ne v211 c0_i32_94
  v212

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_95 : BitVec 1 := 1#1
  let v213 : BitVec 1 := Scalar.xori v0 true_95
  let v214 : BitVec 32 := Scalar.extui v213
  let c0_i32_96 : BitVec 32 := 0#32
  let v215 : BitVec 1 := Scalar.cmpi .ne v214 c0_i32_96
  v215

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v216 : BitVec 32 := Scalar.extui v0
  let c0_i32_97 : BitVec 32 := 0#32
  let v217 : BitVec 1 := Scalar.cmpi .ne v216 c0_i32_97
  v217

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_98 : BitVec 1 := 1#1
  let v218 : BitVec 1 := Scalar.xori v0 true_98
  let v219 : BitVec 32 := Scalar.extui v218
  let c0_i32_99 : BitVec 32 := 0#32
  let v220 : BitVec 1 := Scalar.cmpi .ne v219 c0_i32_99
  v220

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x1024 : Shape := ⟨2, ![1024, 1024]⟩
abbrev S1024x512 : Shape := ⟨2, ![1024, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 150
  | .vmem => 0
  | .smem => 0
  | _ => 0

abbrev hbmTy0_0 (i : Nat) : BufTy := match i % 128 with
  | 0 => ⟨S4096x2816, .f32⟩
  | 1 => ⟨S2816x1024, .f32⟩
  | 2 => ⟨S4096x1024, .f32⟩
  | 3 => ⟨S1x1024, .f32⟩
  | 4 => ⟨S1x1024, .f32⟩
  | 5 => ⟨S1x1024, .f32⟩
  | 6 => ⟨S1024x1024, .f32⟩
  | 7 => ⟨S1024x512, .f32⟩
  | 8 => ⟨S4096x1024, .f32⟩
  | 9 => ⟨S4096x512, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S_, .f32⟩
  | 40 => ⟨S4096x1, .f32⟩
  | 41 => ⟨S4096x1, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1024, .f32⟩
  | 68 => ⟨S4096x1024, .f32⟩
  | 69 => ⟨S4096x1024, .f32⟩
  | 70 => ⟨S4096x1024, .f32⟩
  | 71 => ⟨S4096x512, .f32⟩
  | 72 => ⟨S4096x1024, .f32⟩
  | 73 => ⟨S4096x1024, .f32⟩
  | 74 => ⟨S_, .f32⟩
  | 75 => ⟨S1024, .f32⟩
  | 76 => ⟨S1x1024, .f32⟩
  | 77 => ⟨S4096x1024, .f32⟩
  | 78 => ⟨S4096x1024, .f32⟩
  | 79 => ⟨S4096x1024, .f32⟩
  | 80 => ⟨S_, .f32⟩
  | 81 => ⟨S4096, .f32⟩
  | 82 => ⟨S4096x1, .f32⟩
  | 83 => ⟨S4096x1024, .f32⟩
  | 84 => ⟨S4096x1024, .f32⟩
  | 85 => ⟨S4096x1024, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S_, .f32⟩
  | 100 => ⟨S1024, .f32⟩
  | 101 => ⟨S1x1024, .f32⟩
  | 102 => ⟨S4096x1024, .f32⟩
  | 103 => ⟨S4096x1024, .f32⟩
  | 104 => ⟨S4096x1024, .f32⟩
  | 105 => ⟨S_, .f32⟩
  | 106 => ⟨S4096, .f32⟩
  | 107 => ⟨S4096x1, .f32⟩
  | 108 => ⟨S4096x1024, .f32⟩
  | 109 => ⟨S4096x1024, .f32⟩
  | 110 => ⟨S4096x1024, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S_, .f32⟩
  | 125 => ⟨S1024, .f32⟩
  | 126 => ⟨S1x1024, .f32⟩
  | 127 => ⟨S4096x1024, .f32⟩
  | _ => ⟨S4096x2816, .f32⟩

abbrev hbmTy0_1 (i : Nat) : BufTy := match i % 128 with
  | 0 => ⟨S4096x1024, .f32⟩
  | 1 => ⟨S4096x1024, .f32⟩
  | 2 => ⟨S_, .f32⟩
  | 3 => ⟨S4096, .f32⟩
  | 4 => ⟨S4096x1, .f32⟩
  | 5 => ⟨S4096x1024, .f32⟩
  | 6 => ⟨S4096x1024, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .bf16⟩
  | 19 => ⟨S4096x1024, .bf16⟩
  | 20 => ⟨S4096x2816, .f32⟩
  | 21 => ⟨S4096x2816, .bf16⟩
  | _ => ⟨S4096x2816, .f32⟩

abbrev hbmTy (i : Nat) : BufTy := match i / 128 with
  | 0 => hbmTy0_0 i
  | 1 => hbmTy0_1 i
  | _ => ⟨S4096x2816, .f32⟩

abbrev bufTy : (tb : Table) → Fin (tcTables nBuf tb) → BufTy
  | .hbm, ⟨i, _⟩ => hbmTy i
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_cst_18 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_21 : Ref sig .tc := ⟨.hbm, 136, rfl⟩
abbrev main_v103 : Ref sig .tc := ⟨.hbm, 137, rfl⟩
abbrev main_v104 : Ref sig .tc := ⟨.hbm, 138, rfl⟩
abbrev main_cst_22 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩

abbrev nD : Nat := 1
abbrev τ : Topo := Topo.v7x

variable {F : FTy → Type} [FloatOps F]
-- ==== Kernel8.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S1x4096x3072 : Shape := ⟨3, ![1, 4096, 3072]⟩
abbrev S1x512x3072 : Shape := ⟨3, ![1, 512, 3072]⟩
abbrev S512x1024 : Shape := ⟨2, ![512, 1024]⟩
abbrev S1x256x3072 : Shape := ⟨3, ![1, 256, 3072]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1x4096x3072, .bf16⟩
  | .hbm, ⟨6, _⟩ => ⟨S4096x1024, .f32⟩
  | .hbm, ⟨7, _⟩ => ⟨S1x1024, .f32⟩
  | .local _ .vmem, ⟨0, _⟩ => ⟨S1x512x3072, .bf16⟩
  | .local _ .vmem, ⟨1, _⟩ => ⟨S1x512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_38 : BitVec 32 := 0#32
  let v75 : BitVec 1 := Scalar.cmpi .ne v74 c0_i32_38
  v75

def k0_cond2 (i : grid0.Coords) : BitVec 1 :=
  let arg0 : BitVec 32 := BitVec.ofNat 32 (i 0).val
  let c0_i32 : BitVec 32 := 0#32
  let v73 : BitVec 1 := Scalar.cmpi .eq arg0 c0_i32
  let v_true : BitVec 1 := 1#1
  let v76 : BitVec 1 := Scalar.xori v73 v_true
  let v77 : BitVec 32 := Scalar.extui v76
  let c0_i32_39 : BitVec 32 := 0#32
  let v78 : BitVec 1 := Scalar.cmpi .ne v77 c0_i32_39
  v78

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x3072, .f32⟩
  | .hbm, ⟨25, _⟩ => ⟨S4096x3072, .f32⟩
  | .hbm, ⟨26, _⟩ => ⟨S4096x1024, .f32⟩
  | .hbm, ⟨27, _⟩ => ⟨S4096x3072, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1024x3072 : Shape := ⟨2, ![1024, 3072]⟩
abbrev S1x4096x3072 : Shape := ⟨3, ![1, 4096, 3072]⟩
abbrev S512x1024 : Shape := ⟨2, ![512, 1024]⟩
abbrev S1x512x3072 : Shape := ⟨3, ![1, 512, 3072]⟩
abbrev S512 : Shape := ⟨1, ![512]⟩
abbrev S512x1 : Shape := ⟨2, ![512, 1]⟩
abbrev S512x3072 : Shape := ⟨2, ![512, 3072]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .bf16⟩
  | .hbm, ⟨3, _⟩ => ⟨S1x4096x3072, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x512x3072, .bf16⟩
  | .local _ .vmem, ⟨5, _⟩ => ⟨S1x512x3072, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference9Ideal.lean ====
abbrev S4096x1024 : Shape := ⟨2, ![4096, 1024]⟩
abbrev S1x1024 : Shape := ⟨2, ![1, 1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S1x4096x3072 : Shape := ⟨3, ![1, 4096, 3072]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x3072, .f32⟩
  | .hbm, ⟨19, _⟩ => ⟨S4096x3072, .f32⟩
  | .hbm, ⟨20, _⟩ => ⟨S4096x3072, .bf16⟩
  | .hbm, ⟨21, _⟩ => ⟨S1x4096x3072, .bf16⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel10.lean ====
abbrev S4096x1024 : Shape := ⟨2, ![4096, 1024]⟩
abbrev S4096x3072 : Shape := ⟨2, ![4096, 3072]⟩
abbrev S1x4096x3072 : Shape := ⟨3, ![1, 4096, 3072]⟩
abbrev S1024x3072 : Shape := ⟨2, ![1024, 3072]⟩
abbrev S4096x256 : Shape := ⟨2, ![4096, 256]⟩
abbrev S1x4096x1536 : Shape := ⟨3, ![1, 4096, 1536]⟩
abbrev S256x1536 : Shape := ⟨2, ![256, 1536]⟩
abbrev S4096x1536 : Shape := ⟨2, ![4096, 1536]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1x4096x3072, .bf16⟩
  | .hbm, ⟨3, _⟩ => ⟨S1024x3072, .bf16⟩
  | .local _ .vmem, ⟨0, _⟩ => ⟨S4096x256, .bf16⟩
  | .local _ .vmem, ⟨1, _⟩ => ⟨S4096x256, .bf16⟩
  | .local _ .vmem, ⟨2, _⟩ => ⟨S1x4096x1536, .bf16⟩
  | .local _ .vmem, ⟨3, _⟩ => ⟨S1x4096x1536, .bf16⟩
  | .local _ .vmem, ⟨4, _⟩ => ⟨S256x1536, .bf16⟩
  | .local _ .vmem, ⟨5, _⟩ => ⟨S256x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .bf16⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1024x512 : Shape := ⟨2, ![1024, 512]⟩
abbrev S1024x1024 : Shape := ⟨2, ![1024, 1024]⟩
abbrev S4096x512 : Shape := ⟨2, ![4096, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1x1024, .f32⟩
  | .hbm, ⟨3, _⟩ => ⟨S1024x512, .bf16⟩
  | .hbm, ⟨4, _⟩ => ⟨S1024x1024, .bf16⟩
  | .hbm, ⟨5, _⟩ => ⟨S4096x512, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1x1024, .f32⟩
  | .local _ .vmem, ⟨4, _⟩ => ⟨S1024x512, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4096x1024 : Shape := ⟨2, ![4096, 1024]⟩
abbrev S1x1024 : Shape := ⟨2, ![1, 1024]⟩
abbrev S1024x512 : Shape := ⟨2, ![1024, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x512 : Shape := ⟨2, ![4096, 512]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1x1024, .f32⟩
  | .hbm, ⟨3, _⟩ => ⟨S1024x512, .bf16⟩
  | .hbm, ⟨4, _⟩ => ⟨S1024x1024, .bf16⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x512, .f32⟩
  | .hbm, ⟨38, _⟩ => ⟨S4096x512, .f32⟩
  | .hbm, ⟨39, _⟩ => ⟨S4096x512, .bf16⟩
  | .hbm, ⟨40, _⟩ => ⟨S4096x1024, .bf16⟩
  | .hbm, ⟨41, _⟩ => ⟨S1024x1024, .f32⟩
  | .hbm, ⟨42, _⟩ => ⟨S4096x1024, .f32⟩
  | .hbm, ⟨43, _⟩ => ⟨S4096x1024, .bf16⟩
  | .hbm, ⟨44, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel13.lean ====
abbrev S4096x1024 : Shape := ⟨2, ![4096, 1024]⟩
abbrev S1x4096x1024 : Shape := ⟨3, ![1, 4096, 1024]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x4096x1024, .bf16⟩
  | .hbm, ⟨3, _⟩ => ⟨S1024x1024, .bf16⟩
  | .local _ .vmem, ⟨0, _⟩ => ⟨S4096x256, .bf16⟩
  | .local _ .vmem, ⟨1, _⟩ => ⟨S4096x256, .bf16⟩
  | .local _ .vmem, ⟨2, _⟩ => ⟨S1x4096x1024, .bf16⟩
  | .local _ .vmem, ⟨3, _⟩ => ⟨S256x1024, .bf16⟩
  | .local _ .vmem, ⟨4, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x3072 : Shape := ⟨2, ![4096, 3072]⟩
abbrev S3x1024 : Shape := ⟨2, ![3, 1024]⟩
abbrev S1024x1024 : Shape := ⟨2, ![1024, 1024]⟩
abbrev S1x1024 : Shape := ⟨2, ![1, 1024]⟩
abbrev S4096x1024 : Shape := ⟨2, ![4096, 1024]⟩
abbrev S512x1024 : Shape := ⟨2, ![512, 1024]⟩
abbrev S16x1024 : Shape := ⟨2, ![16, 1024]⟩
abbrev S528x1024 : Shape := ⟨2, ![528, 1024]⟩
abbrev S512 : Shape := ⟨1, ![512]⟩
abbrev S512x1 : Shape := ⟨2, ![512, 1]⟩

abbrev nBuf : Space → Nat
  | .hbm => 8
  | .vmem => 21
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S1024x1024, .bf16⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S3x1024, .f32⟩
  | .local _ .vmem, ⟨11, _⟩ => ⟨S1024x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference14Ideal.lean ====
abbrev S4096x3072 : Shape := ⟨2, ![4096, 3072]⟩
abbrev S3x1024 : Shape := ⟨2, ![3, 1024]⟩
abbrev S1024x1024 : Shape := ⟨2, ![1024, 1024]⟩
abbrev S1x1024 : Shape := ⟨2, ![1, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S1024x1024, .bf16⟩
  | .hbm, ⟨3, _⟩ => ⟨S1x1024, .f32⟩
  | .hbm, ⟨4, _⟩ => ⟨S4096x1024, .f32⟩
  | .hbm, ⟨5, _⟩ => ⟨S4096x3072, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S2x1024, .f32⟩
  | .hbm, ⟨12, _⟩ => ⟨S4098x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1024x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S4096x1024, .bf16⟩
  | .hbm, ⟨54, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .bf16⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel16.lean ====
abbrev S4096x1024 : Shape := ⟨2, ![4096, 1024]⟩
abbrev S4096x512 : Shape := ⟨2, ![4096, 512]⟩
abbrev S1x4096x512 : Shape := ⟨3, ![1, 4096, 512]⟩
abbrev S1024x512 : Shape := ⟨2, ![1024, 512]⟩
abbrev S4096x256 : Shape := ⟨2, ![4096, 256]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1x4096x512, .bf16⟩
  | .hbm, ⟨3, _⟩ => ⟨S1024x512, .bf16⟩
  | .local _ .vmem, ⟨0, _⟩ => ⟨S4096x256, .bf16⟩
  | .local _ .vmem, ⟨1, _⟩ => ⟨S4096x256, .bf16⟩
  | .local _ .vmem, ⟨2, _⟩ => ⟨S1x4096x512, .bf16⟩
  | .local _ .vmem, ⟨3, _⟩ => ⟨S256x512, .bf16⟩
  | .local _ .vmem, ⟨4, _⟩ => ⟨S256x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x1024 : Shape := ⟨2, ![4096, 1024]⟩
abbrev S4096x512 : Shape := ⟨2, ![4096, 512]⟩
abbrev S1x16 : Shape := ⟨2, ![1, 16]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S8x4096 : Shape := ⟨2, ![8, 4096]⟩
abbrev S48x4096 : Shape := ⟨2, ![48, 4096]⟩
abbrev S64x4096 : Shape := ⟨2, ![64, 4096]⟩
abbrev S1x64x4096 : Shape := ⟨3, ![1, 64, 4096]⟩
abbrev S3x64x4096 : Shape := ⟨3, ![3, 64, 4096]⟩
abbrev S2x16x4096 : Shape := ⟨3, ![2, 16, 4096]⟩
abbrev S128x1024 : Shape := ⟨2, ![128, 1024]⟩
abbrev S128x256 : Shape := ⟨2, ![128, 256]⟩
abbrev S3x64x128 : Shape := ⟨3, ![3, 64, 128]⟩
abbrev S2x16x128 : Shape := ⟨3, ![2, 16, 128]⟩
abbrev S256x128 : Shape := ⟨2, ![256, 128]⟩
abbrev S256x512 : Shape := ⟨2, ![256, 512]⟩
abbrev S256x256 : Shape := ⟨2, ![256, 256]⟩
abbrev S1024x128 : Shape := ⟨2, ![1024, 128]⟩
abbrev S3x64x256 : Shape := ⟨3, ![3, 64, 256]⟩
abbrev S64x256 : Shape := ⟨2, ![64, 256]⟩
abbrev S1x64x256 : Shape := ⟨3, ![1, 64, 256]⟩
abbrev S64x128 : Shape := ⟨2, ![64, 128]⟩
abbrev S1x64x128 : Shape := ⟨3, ![1, 64, 128]⟩
abbrev S64x512 : Shape := ⟨2, ![64, 512]⟩
abbrev S1x512 : Shape := ⟨2, ![1, 512]⟩
abbrev S1x1 : Shape := ⟨2, ![1, 1]⟩
abbrev S512 : Shape := ⟨1, ![512]⟩
abbrev S8x256 : Shape := ⟨2, ![8, 256]⟩
abbrev S8x512 : Shape := ⟨2, ![8, 512]⟩
abbrev S1x128 : Shape := ⟨2, ![1, 128]⟩
abbrev S16x128 : Shape := ⟨2, ![16, 128]⟩
abbrev S1x16x128 : Shape := ⟨3, ![1, 16, 128]⟩

abbrev nBuf : Space → Nat
  | .hbm => 42
  | .vmem => 18
  | .smem => 1
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1x16, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S8x4096, .f32⟩
  | .hbm, ⟨24, _⟩ => ⟨S8x4096, .f32⟩
  | .hbm, ⟨25, _⟩ => ⟨S8x4096, .f32⟩
  | .hbm, ⟨26, _⟩ => ⟨S_, .f32⟩
  | .hbm, ⟨27, _⟩ => ⟨S48x4096, .f32⟩
  | .hbm, ⟨28, _⟩ => ⟨S_, .f32⟩
  | .hbm, ⟨29, _⟩ => ⟨S48x4096, .f32⟩
  | .hbm, ⟨30, _⟩ => ⟨S_, .f32⟩
  | .hbm, ⟨31, _⟩ => ⟨S8x4096, .f32⟩
  | .hbm, ⟨32, _⟩ => ⟨S64x4096, .f32⟩
  | .hbm, ⟨33, _⟩ => ⟨S8x4096, .f32⟩
  | .hbm, ⟨34, _⟩ => ⟨S64x4096, .f32⟩
  | .hbm, ⟨35, _⟩ => ⟨S64x4096, .f32⟩
  | .hbm, ⟨36, _⟩ => ⟨S1x64x4096, .f32⟩
  | .hbm, ⟨37, _⟩ => ⟨S1x64x4096, .f32⟩
  | .hbm, ⟨38, _⟩ => ⟨S1x64x4096, .f32⟩
  | .hbm, ⟨39, _⟩ => ⟨S3x64x4096, .f32⟩
  | .hbm, ⟨40, _⟩ => ⟨S4096x1024, .bf16⟩
  | .hbm, ⟨41, _⟩ => ⟨S2x16x4096, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S3x64x128, .f32⟩
  | .local _ .vmem, ⟨11, _⟩ => ⟨S3x64x128, .f32⟩
  | .local _ .vmem, ⟨12, _⟩ => ⟨S3x64x128, .f32⟩
  | .local _ .vmem, ⟨13, _⟩ => ⟨S3x64x128, .f32⟩
  | .local _ .vmem, ⟨14, _⟩ => ⟨S128x1024, .bf16⟩
  | .local _ .vmem, ⟨15, _⟩ => ⟨S128x1024, .bf16⟩
  | .local _ .vmem, ⟨16, _⟩ => ⟨S2x16x128, .f32⟩
  | .local _ .vmem, ⟨17, _⟩ => ⟨S2x16x128, .f32⟩
  | .local _ .smem, ⟨0, _⟩ => ⟨S1x16, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, c0_i32_1.toNat, v2.toNat]

def cc0_transform_6 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel17Ideal.lean ====
variable {F : FTy → Type} [FloatOps F] [Named F]
def κ : String → Option EReal := fun
  | "mask" => some ⊥
  | _ => none
-- ==== Reference17Ideal.lean ====
abbrev S4096x1024 : Shape := ⟨2, ![4096, 1024]⟩
abbrev S4096x512 : Shape := ⟨2, ![4096, 512]⟩
abbrev S1x16 : Shape := ⟨2, ![1, 16]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x256 : Shape := ⟨2, ![4096, 256]⟩
abbrev S4096x16x64 : Shape := ⟨3, ![4096, 16, 64]⟩
abbrev S4096x16x8 : Shape := ⟨3, ![4096, 16, 8]⟩
abbrev S4096x16x48 : Shape := ⟨3, ![4096, 16, 48]⟩
abbrev S4096x4x64 : Shape := ⟨3, ![4096, 4, 64]⟩
abbrev S4096x4x8 : Shape := ⟨3, ![4096, 4, 8]⟩
abbrev S4096x4x48 : Shape := ⟨3, ![4096, 4, 48]⟩
abbrev S16 : Shape := ⟨1, ![16]⟩
abbrev S32x128x4x4x64 : Shape := ⟨5, ![32, 128, 4, 4, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S4x4 : Shape := ⟨2, ![4, 4]⟩
abbrev S1x4x4x1x1 : Shape := ⟨5, ![1, 4, 4, 1, 1]⟩
abbrev S32x4x4x128x1 : Shape := ⟨5, ![32, 4, 4, 128, 1]⟩
abbrev S32x4x4x128x257 : Shape := ⟨5, ![32, 4, 4, 128, 257]⟩
abbrev S32x4x4x128 : Shape := ⟨4, ![32, 4, 4, 128]⟩
abbrev S32x4x64x4x128 : Shape := ⟨5, ![32, 4, 64, 4, 128]⟩
abbrev S1x32x4x4x128 : Shape := ⟨5, ![1, 32, 4, 4, 128]⟩
abbrev S2x32x4x4x128 : Shape := ⟨5, ![2, 32, 4, 4, 128]⟩
abbrev S2x4x4x32x128 : Shape := ⟨5, ![2, 4, 4, 32, 128]⟩
abbrev S2x16x4096 : Shape := ⟨3, ![2, 16, 4096]⟩

abbrev nBuf : Space → Nat
  | .hbm => 161
  | .vmem => 0
  | .smem => 0
  | _ => 0

abbrev hbmTy0_0 (i : Nat) : BufTy := match i % 128 with
  | 0 => ⟨S4096x1024, .bf16⟩
  | 1 => ⟨S4096x512, .bf16⟩
  | 2 => ⟨S1x16, .f32⟩
  | 3 => ⟨S4096x1024, .f32⟩
  | 4 => ⟨S4096x512, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S4096, .f32⟩
  | 20 => ⟨S4096x1, .f32⟩
  | 21 => ⟨S1x8, .f32⟩
  | 22 => ⟨S4096x8, .f32⟩
  | 23 => ⟨S4096x8, .f32⟩
  | 24 => ⟨S4096x8, .f32⟩
  | 25 => ⟨S4096x8, .f32⟩
  | 26 => ⟨S4096x1x8, .f32⟩
  | 27 => ⟨S4096x8, .f32⟩
  | 28 => ⟨S4096x1x8, .f32⟩
  | 29 => ⟨S4096x256, .f32⟩
  | 30 => ⟨S4096x256, .f32⟩
  | 31 => ⟨S4096x16x64, .f32⟩
  | 32 => ⟨S4096x16x8, .f32⟩
  | 33 => ⟨S4096x16x8, .f32⟩
  | 34 => ⟨S4096x16x48, .f32⟩
  | 35 => ⟨S4096x16x8, .f32⟩
  | 36 => ⟨S4096x16x8, .f32⟩
  | 37 => ⟨S4096x16x8, .f32⟩
  | 38 => ⟨S4096x16x8, .f32⟩
  | 39 => ⟨S4096x16x8, .f32⟩
  | 40 => ⟨S4096x16x8, .f32⟩
  | 41 => ⟨S4096x16x8, .f32⟩
  | 42 => ⟨S4096x16x8, .f32⟩
  | 43 => ⟨S4096x16x8, .f32⟩
  | 44 => ⟨S4096x16x8, .f32⟩
  | 45 => ⟨S4096x16x64, .f32⟩
  | 46 => ⟨S4096x4x64, .f32⟩
  | 47 => ⟨S4096x4x8, .f32⟩
  | 48 => ⟨S4096x4x8, .f32⟩
  | 49 => ⟨S4096x4x48, .f32⟩
  | 50 => ⟨S4096x4x8, .f32⟩
  | 51 => ⟨S4096x4x8, .f32⟩
  | 52 => ⟨S4096x4x8, .f32⟩
  | 53 => ⟨S4096x4x8, .f32⟩
  | 54 => ⟨S4096x4x8, .f32⟩
  | 55 => ⟨S4096x4x8, .f32⟩
  | 56 => ⟨S4096x4x8, .f32⟩
  | 57 => ⟨S4096x4x8, .f32⟩
  | 58 => ⟨S4096x4x8, .f32⟩
  | 59 => ⟨S4096x4x8, .f32⟩
  | 60 => ⟨S4096x4x64, .f32⟩
  | 61 => ⟨S4096x4x64, .f32⟩
  | 62 => ⟨S16, .f32⟩
  | 63 => ⟨S32x128x4x4x64, .f32⟩
  | 64 => ⟨S32x128x4x64, .f32⟩
  | 65 => ⟨S1x128x4x64, .f32⟩
  | 66 => ⟨S_, .f32⟩
  | 67 => ⟨S1x128x4x64, .f32⟩
  | 68 => ⟨S31x128x4x64, .f32⟩
  | 69 => ⟨S32x128x4x64, .f32⟩
  | 70 => ⟨S32x256x4x64, .f32⟩
  | 71 => ⟨S32x4x256x128x4, .f32⟩
  | 72 => ⟨S32x4x4x128x256, .f32⟩
  | 73 => ⟨S_, .f32⟩
  | 74 => ⟨S32x4x4x128x256, .f32⟩
  | 75 => ⟨S32x4x4x128x256, .f32⟩
  | 76 => ⟨S128, .i32⟩
  | 77 => ⟨S128x1, .i32⟩
  | 78 => ⟨S256, .i32⟩
  | 79 => ⟨S1x256, .i32⟩
  | 80 => ⟨S_, .i32⟩
  | 81 => ⟨S128x1, .i32⟩
  | 82 => ⟨S128x1, .i32⟩
  | 83 => ⟨S128x256, .i32⟩
  | 84 => ⟨S128x256, .i32⟩
  | 85 => ⟨S128x256, .i32⟩
  | 86 => ⟨S_, .i32⟩
  | 87 => ⟨S128x256, .i32⟩
  | 88 => ⟨S128x256, .i1⟩
  | 89 => ⟨S_, .i32⟩
  | 90 => ⟨S128x256, .i32⟩
  | 91 => ⟨S128x256, .i1⟩
  | 92 => ⟨S128x256, .i1⟩
  | 93 => ⟨S32, .i32⟩
  | 94 => ⟨S32x1x1, .i32⟩
  | 95 => ⟨S_, .i32⟩
  | 96 => ⟨S32x1x1, .i32⟩
  | 97 => ⟨S32x1x1, .i1⟩
  | 98 => ⟨S1x1x256, .i32⟩
  | 99 => ⟨S_, .i32⟩
  | 100 => ⟨S1x1x256, .i32⟩
  | 101 => ⟨S1x1x256, .i1⟩
  | 102 => ⟨S32x1x256, .i1⟩
  | 103 => ⟨S32x1x256, .i1⟩
  | 104 => ⟨S32x1x256, .i1⟩
  | 105 => ⟨S1x128x256, .i1⟩
  | 106 => ⟨S32x128x256, .i1⟩
  | 107 => ⟨S32x128x256, .i1⟩
  | 108 => ⟨S32x128x256, .i1⟩
  | 109 => ⟨S32x1x1x128x256, .i1⟩
  | 110 => ⟨S_, .f32⟩
  | 111 => ⟨S_, .f32⟩
  | 112 => ⟨S32x4x4x128x256, .i1⟩
  | 113 => ⟨S32x4x4x128x256, .f32⟩
  | 114 => ⟨S32x4x4x128x256, .f32⟩
  | 115 => ⟨S4x4, .f32⟩
  | 116 => ⟨S1x4x4x1x1, .f32⟩
  | 117 => ⟨S32x4x4x128x1, .f32⟩
  | 118 => ⟨S32x4x4x128x257, .f32⟩
  | 119 => ⟨S_, .f32⟩
  | 120 => ⟨S32x4x4x128, .f32⟩
  | 121 => ⟨S32x4x4x128x1, .f32⟩
  | 122 => ⟨S32x4x4x128x257, .f32⟩
  | 123 => ⟨S32x4x4x128x257, .f32⟩
  | 124 => ⟨S32x4x4x128x257, .f32⟩
  | 125 => ⟨S_, .f32⟩
  | 126 => ⟨S32x4x4x128, .f32⟩
  | 127 => ⟨S_, .f32⟩
  | _ => ⟨S4096x1024, .bf16⟩

abbrev hbmTy0_1 (i : Nat) : BufTy := match i % 128 with
  | 0 => ⟨S32x4x4x128, .f32⟩
  | 1 => ⟨S32x4x4x128, .f32⟩
  | 2 => ⟨S_, .f32⟩
  | 3 => ⟨S32x4x4x128, .f32⟩
  | 4 => ⟨S_, .f32⟩
  | 5 => ⟨S32x4x4x128, .f32⟩
  | 6 => ⟨S32x4x4x128, .f32⟩
  | 7 => ⟨S32x4x4x128x1, .f32⟩
  | 8 => ⟨S32x4x4x128x257, .f32⟩
  | 9 => ⟨S32x4x4x128x257, .f32⟩
  | 10 => ⟨S32x4x4x128x257, .f32⟩
  | 11 => ⟨S_, .f32⟩
  | 12 => ⟨S32x4x4x128, .f32⟩
  | 13 => ⟨S32x4x4x128x1, .f32⟩
  | 14 => ⟨S32x4x4x128x257, .f32⟩
  | 15 => ⟨S32x4x4x128x257, .f32⟩
  | 16 => ⟨S32x4x4x128x256, .f32⟩
  | 17 => ⟨S32x128x4x64, .f32⟩
  | 18 => ⟨S1x128x4x64, .f32⟩
  | 19 => ⟨S_, .f32⟩
  | 20 => ⟨S1x128x4x64, .f32⟩
  | 21 => ⟨S31x128x4x64, .f32⟩
  | 22 => ⟨S32x128x4x64, .f32⟩
  | 23 => ⟨S32x256x4x64, .f32⟩
  | 24 => ⟨S32x4x64x4x128, .f32⟩
  | 25 => ⟨S32x128x4x4x64, .f32⟩
  | 26 => ⟨S4096x1024, .f32⟩
  | 27 => ⟨S4096x1024, .bf16⟩
  | 28 => ⟨S1x32x4x4x128, .f32⟩
  | 29 => ⟨S1x32x4x4x128, .f32⟩
  | 30 => ⟨S2x32x4x4x128, .f32⟩
  | 31 => ⟨S2x4x4x32x128, .f32⟩
  | 32 => ⟨S2x16x4096, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst_3 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_4 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_c : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_c_5 : Ref sig .tc := ⟨.hbm, 86, rfl⟩
abbrev main_v76 : Ref sig .tc := ⟨.hbm, 87, rfl⟩
abbrev main_v77 : Ref sig .tc := ⟨.hbm, 88, rfl⟩
abbrev main_c_6 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_c_7 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_c_8 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_9 : Ref sig .tc := ⟨.hbm, 110, rfl⟩
abbrev main_call0_v0 : Ref sig .tc := ⟨.hbm, 111, rfl⟩
abbrev main_call0_v1 : Ref sig .tc := ⟨.hbm, 112, rfl⟩
abbrev main_call0_v2 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_10 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_11 : Ref sig .tc := ⟨.hbm, 125, rfl⟩
abbrev main_v106 : Ref sig .tc := ⟨.hbm, 126, rfl⟩
abbrev main_cst_12 : Ref sig .tc := ⟨.hbm, 127, rfl⟩
abbrev main_v107 : Ref sig .tc := ⟨.hbm, 128, rfl⟩
abbrev main_v108 : Ref sig .tc := ⟨.hbm, 129, rfl⟩
abbrev main_cst_13 : Ref sig .tc := ⟨.hbm, 130, rfl⟩
abbrev main_v109 : Ref sig .tc := ⟨.hbm, 131, rfl⟩
abbrev main_cst_14 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_15 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_16 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩

abbrev nD : Nat := 1
abbrev τ : Topo := Topo.v7x

variable {F : FTy → Type} [FloatOps F]

def κ : String → Option EReal := fun
  | "mask" => some ⊥
  | _ => none
-- ==== Kernel18.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S_, .f32⟩
  | .hbm, ⟨7, _⟩ => ⟨S1x1024x768, .f32⟩
  | .hbm, ⟨8, _⟩ => ⟨S1x1024x768, .f32⟩
  | .hbm, ⟨9, _⟩ => ⟨S_, .f32⟩
  | .hbm, ⟨10, _⟩ => ⟨S1x1024x768, .f32⟩
  | .hbm, ⟨11, _⟩ => ⟨S1x1024x768, .f32⟩
  | .hbm, ⟨12, _⟩ => ⟨S1x1024x768, .f32⟩
  | .hbm, ⟨13, _⟩ => ⟨S_, .f32⟩
  | .hbm, ⟨14, _⟩ => ⟨S1x1024x768, .f32⟩
  | .hbm, ⟨15, _⟩ => ⟨S1x1024x768, .f32⟩
  | .hbm, ⟨16, _⟩ => ⟨S1x1024x768, .f32⟩
  | .hbm, ⟨17, _⟩ => ⟨S_, .f32⟩
  | .hbm, ⟨18, _⟩ => ⟨S1x1024x768, .f32⟩
  | .hbm, ⟨19, _⟩ => ⟨S1x1024x768, .f32⟩
  | .hbm, ⟨20, _⟩ => ⟨S1x1024x768, .f32⟩
  | .hbm, ⟨21, _⟩ => ⟨S_, .f32⟩
  | .hbm, ⟨22, _⟩ => ⟨S1x1024x768, .f32⟩
  | .hbm, ⟨23, _⟩ => ⟨S1x1024x768, .f32⟩
  | .hbm, ⟨24, _⟩ => ⟨S_, .f32⟩
  | .hbm, ⟨25, _⟩ => ⟨S1x1024x768, .f32⟩
  | .hbm, ⟨26, _⟩ => ⟨S1x1024x768, .f32⟩
  | .hbm, ⟨27, _⟩ => ⟨S1x1024x768, .f32⟩
  | .hbm, ⟨28, _⟩ => ⟨S_, .f32⟩
  | .hbm, ⟨29, _⟩ => ⟨S1x1024x768, .f32⟩
  | .hbm, ⟨30, _⟩ => ⟨S1x1024x768, .f32⟩
  | .hbm, ⟨31, _⟩ => ⟨S1x1024x768, .f32⟩
  | .hbm, ⟨32, _⟩ => ⟨S_, .f32⟩
  | .hbm, ⟨33, _⟩ => ⟨S1x1024x768, .f32⟩
  | .hbm, ⟨34, _⟩ => ⟨S1x1024x768, .f32⟩
  | .hbm, ⟨35, _⟩ => ⟨S1x1024x768, .f32⟩
  | .hbm, ⟨36, _⟩ => ⟨S_, .f32⟩
  | .hbm, ⟨37, _⟩ => ⟨S1x1024x768, .f32⟩
  | .hbm, ⟨38, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel19.lean ====
abbrev S2x1024x1408 : Shape := ⟨3, ![2, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  ![v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S2x1024x1408 : Shape := ⟨3, ![2, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S1x1024x1408, .f32⟩
  | .hbm, ⟨6, _⟩ => ⟨S1x1024x1408, .f32⟩
  | .hbm, ⟨7, _⟩ => ⟨S2x1024x1408, .f32⟩
  | .hbm, ⟨8, _⟩ => ⟨S_, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel20.lean ====
abbrev S2x704x1024 : Shape := ⟨3, ![2, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  ![v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.ConvSpec.lean ====
/- The gradient of the short gated convolution as plain formulas over the argument arrays: `dy` is the cotangent, `B`
   holds the three projections side by side (gate, gate, value), `W` the three taps. Row numbers are natural numbers,
   a row outside the sequence reads as zero, so that shifting a row is adding to its number. -/
module

public import proofs.«01_k».proof.KernelIdeal
public import Idealize.ShloMosaic.Lib.Pointwise

set_option maxRecDepth 16384

@[expose] public section

noncomputable section

open Idealize.ShloMosaic

namespace Conv

/-- The product of the second gate and the value at row `n`; zero outside the sequence. -/
def cu (B : FVec Ideal ⟨2, ![4096, 3072]⟩ .bf16) (n : ℕ) (d : Fin 1024) : EReal :=
  if h : n < 4096 then B (ix2 ⟨n, h⟩ ⟨1024 + d.val, by omega⟩) * B (ix2 ⟨n, h⟩ ⟨2048 + d.val, by omega⟩) else 0

/-- That product with two rows of zeros put before it. -/
def up (B : FVec Ideal ⟨2, ![4096, 3072]⟩ .bf16) (n : ℕ) (d : Fin 1024) : EReal :=
  if 2 ≤ n then cu B (n - 2) d else 0

/-- The cotangent of the convolution's result: `dy` times the first gate; zero outside the sequence. -/
def dcv (Y : FVec Ideal ⟨2, ![4096, 1024]⟩ .bf16) (B : FVec Ideal ⟨2, ![4096, 3072]⟩ .bf16) (n : ℕ) (d : Fin 1024) : EReal :=
  if h : n < 4096 then Y (ix2 ⟨n, h⟩ d) * B (ix2 ⟨n, h⟩ ⟨d.val, by omega⟩) else 0

/-- The convolution at row `n`. -/
def conv (B : FVec Ideal ⟨2, ![4096, 3072]⟩ .bf16) (W : FVec Ideal ⟨2, ![3, 1024]⟩ .f32) (n : ℕ) (d : Fin 1024) : EReal :=
  W (ix2 0 d) * up B n d + W (ix2 1 d) * up B (n + 1) d + W (ix2 2 d) * up B (n + 2) d

/-- The cotangent of the convolution's argument at row `n`. -/
def dcu (Y : FVec Ideal ⟨2, ![4096, 1024]⟩ .bf16) (B : FVec Ideal ⟨2, ![4096, 3072]⟩ .bf16) (W : FVec Ideal ⟨2, ![3, 1024]⟩ .f32)
    (n : ℕ) (d : Fin 1024) : EReal :=
  W (ix2 2 d) * dcv Y B n d + W (ix2 1 d) * dcv Y B (n + 1) d + W (ix2 0 d) * dcv Y B (n + 2) d

/-- The gradient of tap `k`: the cotangent against the argument shifted by the tap, summed over the rows. -/
def dtap (Y : FVec Ideal ⟨2, ![4096, 1024]⟩ .bf16) (B : FVec Ideal ⟨2, ![4096, 3072]⟩ .bf16) (k : ℕ) (d : Fin 1024) : EReal :=
  ∑ n : Fin 4096, dcv Y B n.val d * up B (n.val + k) d

/-- The gradient of the three projections, side by side. -/
def dB (Y : FVec Ideal ⟨2, ![4096, 1024]⟩ .bf16) (B : FVec Ideal ⟨2, ![4096, 3072]⟩ .bf16) (W : FVec Ideal ⟨2, ![3, 1024]⟩ .f32) :
    FVec Ideal ⟨2, ![4096, 3072]⟩ .bf16 := fun i =>
  let n : Fin 4096 := i 0
  let e : Fin 3072 := i 1
  if h : e.val < 1024 then Y (ix2 n ⟨e.val, h⟩) * conv B W n.val ⟨e.val, h⟩
  else if h' : e.val < 2048 then dcu Y B W n.val ⟨e.val - 1024, by omega⟩ * B (ix2 n ⟨e.val + 1024, by omega⟩)
  else dcu Y B W n.val ⟨e.val - 2048, by omega⟩ * B (ix2 n ⟨e.val - 1024, by omega⟩)

/-- The gradient of the taps in the first three of eight rows, zeros in the others. -/
def dW (Y : FVec Ideal ⟨2, ![4096, 1024]⟩ .bf16) (B : FVec Ideal ⟨2, ![4096, 3072]⟩ .bf16) : FVec Ideal ⟨2, ![8, 1024]⟩ .f32 := fun i =>
  let r : Fin 8 := i 0
  let d : Fin 1024 := i 1
  if r.val < 3 then dtap Y B r.val d else 0

end Conv

end
-- ==== Proof.ConvBlock.lean ====
/- The kernel of the gated convolution's gradient at one grid point, read at an index: tile `t` of 512 rows, its halo of
   16 rows before and after, and the formulas of ConvSpec at row `512 t + r`. -/
module

public import proofs.«01_k».proof.Proof.Gen.KernelIdeal.Frame
public import proofs.«01_k».proof.Proof.ConvSpec
public import Idealize.ShloMosaic.Lib.Pipeline.ValueKit
public import Idealize.ShloMosaic.Lib.Pointwise

set_option maxRecDepth 16384

@[expose] public section

noncomputable section

open Idealize.ShloMosaic Idealize.ShloMosaic.TcCoe Idealize.SL.Sem
open Idealize.ShloMosaic.Pipeline (Dat)

namespace Cert.KernelIdeal.ConvBlock

open Cert.KernelIdeal Cert.KernelIdeal.Gen
open Conv

variable (m : (ℓ : Loc nD τ sig) → Buf (Elt Ideal) ℓ)

/-- The cotangent argument. -/
abbrev Y (c : Dev nD) : FVec Ideal S4096x1024 .bf16 := m ((c : Thread nD τ).loc main_arg0)
/-- The three projections. -/
abbrev B (c : Dev nD) : FVec Ideal S4096x3072 .bf16 := m ((c : Thread nD τ).loc main_arg1)
/-- The taps. -/
abbrev W (c : Dev nD) : FVec Ideal S3x1024 .f32 := m ((c : Thread nD τ).loc main_arg2)

/-- Every window's block index at every grid point. -/
theorem idx_val : ∀ t : Fin cfg0.N, win0_0.index t = ![t.val, 0]
    ∧ win0_1.index t = ![min 255 (32 * (t.val + 1)), 0] ∧ win0_2.index t = ![t.val, 0]
    ∧ win0_3.index t = ![min 255 (32 * (t.val + 1)), 0]
    ∧ win0_4.index t = ![t.val, 1]
    ∧ win0_5.index t = ![t.val, 2]
    ∧ win0_6.index t = ![(32 * t.val) - 1, 1]
    ∧ win0_7.index t = ![(32 * t.val) - 1, 2]
    ∧ win0_8.index t = ![0, 0]
    ∧ win0_9.index t = ![t.val, 0]
    ∧ win0_10.index t = ![0, 0] ∧ (grid0.coords t 0).val = t.val ∧ t.val < 8 :=
  (by decide +kernel : ∀ t : Fin grid0.N, _)

/-- The grid has eight points. -/
theorem lt8 (t : Fin cfg0.N) : t.val < 8 := (idx_val t).2.2.2.2.2.2.2.2.2.2.2.2

/-- The grid coordinate is the point's number. -/
theorem coord (t : Fin cfg0.N) : (grid0.coords t 0).val = t.val := (idx_val t).2.2.2.2.2.2.2.2.2.2.2.1

/-- A selection by the equality of two small numbers. -/
theorem sel_eq (n k : ℕ) (hn : n < 8) (hk : k < 8) (a b : EReal) :
    Scalar.select (Scalar.cmpi .eq (BitVec.ofNat 32 n) (BitVec.ofNat 32 k)) a b = if n = k then a else b := by
  by_cases h : n = k
  · subst h; simp [Scalar.select, Scalar.cmpi, IntOp.cmpi]
  · have : ¬ BitVec.ofNat 32 n = BitVec.ofNat 32 k := fun e => h (by
      have := congrArg BitVec.toNat e
      simp only [BitVec.toNat_ofNat] at this
      omega)
    have hb : (BitVec.ofNat 32 n == BitVec.ofNat 32 k) = false := beq_eq_false_iff_ne.mpr this
    simp [Scalar.select, Scalar.cmpi, IntOp.cmpi, hb, h]

/-- The product of gate and value inside the tile. -/
theorem cu_tile (c : Dev nD) (t : Fin cfg0.N) (r : Fin 512) (d : Fin 1024) :
    k0_pay5 (F := Ideal) (iblk m c 4 t) (iblk m c 5 t) (ix2 r d) = cu (B m c) (512 * t.val + r.val) d := by
  have ht := lt8 t
  rw [cu, dif_pos (by omega)]
  pointwise [k0_pay5, k0_pay3, k0_pay4]
  blk_point [iblk, V, idx_val t]

/-- The product of gate and value in the 16 rows before the tile; zero before the first tile. -/
theorem cu_before (c : Dev nD) (t : Fin cfg0.N) (r : Fin 16) (d : Fin 1024) :
    k0_pay6 (F := Ideal) (grid0.coords t) (iblk m c 6 t) (iblk m c 7 t) (ix2 r d)
      = if t.val = 0 then 0 else cu (B m c) (512 * t.val - 16 + r.val) d := by
  have ht := lt8 t
  pointwise [k0_pay6]
  rw [coord]
  rw [sel_eq _ _ ht (by omega)]
  by_cases h : t.val = 0
  · rw [if_pos h, if_pos h]
  · rw [if_neg h, if_neg h, cu, dif_pos (by omega)]
    blk_point [iblk, V, idx_val t]

/-- The rows shifted by one. -/
theorem up1 (c : Dev nD) (t : Fin cfg0.N) (r : Fin 512) (d : Fin 1024) :
    k0_pay7 (F := Ideal) (grid0.coords t) (iblk m c 4 t) (iblk m c 5 t) (iblk m c 6 t) (iblk m c 7 t) (ix2 r d)
      = up (B m c) (512 * t.val + r.val + 1) d := by
  have ht := lt8 t
  pointwise [k0_pay7]
  by_cases h : r.val = 0
  · refine (dif_pos (by omega)).trans ((cu_before m c t _ d).trans ?_)
    by_cases h0 : t.val = 0
    · exact (if_pos h0).trans (if_neg (by omega)).symm
    · exact (if_neg h0).trans (Eq.trans (congrArg (cu _ · _) (by dsimp only; omega)) (if_pos (by omega)).symm)
  · refine (dif_neg (by omega)).trans ((cu_tile m c t _ d).trans ?_)
    exact Eq.trans (congrArg (cu _ · _) (by dsimp only; omega)) (if_pos (by omega)).symm

/-- The rows shifted by two. -/
theorem up0 (c : Dev nD) (t : Fin cfg0.N) (r : Fin 512) (d : Fin 1024) :
    k0_pay8 (F := Ideal) (grid0.coords t) (iblk m c 4 t) (iblk m c 5 t) (iblk m c 6 t) (iblk m c 7 t) (ix2 r d)
      = up (B m c) (512 * t.val + r.val) d := by
  have ht := lt8 t
  pointwise [k0_pay8]
  by_cases h : r.val < 2
  · refine (dif_pos (by omega)).trans ((cu_before m c t _ d).trans ?_)
    by_cases h0 : t.val = 0
    · exact (if_pos h0).trans (if_neg (by omega)).symm
    · exact (if_neg h0).trans (Eq.trans (congrArg (cu _ · _) (by dsimp only; omega)) (if_pos (by omega)).symm)
  · refine (dif_neg (by omega)).trans ((cu_tile m c t _ d).trans ?_)
    exact Eq.trans (congrArg (cu _ · _) (by dsimp only; omega)) (if_pos (by omega)).symm

/-- The rows not shifted. -/
theorem up2 (c : Dev nD) (t : Fin cfg0.N) (r : Fin 512) (d : Fin 1024) :
    k0_pay5 (F := Ideal) (iblk m c 4 t) (iblk m c 5 t) (ix2 r d) = up (B m c) (512 * t.val + r.val + 2) d := by
  rw [cu_tile, up, if_pos (by omega)]
  exact congrArg (cu _ · _) (by omega)

/-- The convolution's cotangent inside the tile. -/
theorem dcv_tile (c : Dev nD) (t : Fin cfg0.N) (r : Fin 512) (d : Fin 1024) :
    k0_pay11 (F := Ideal) (k0_pay9 (iblk m c 0 t)) (iblk m c 2 t) (ix2 r d) = dcv (Y m c) (B m c) (512 * t.val + r.val) d := by
  have ht := lt8 t
  rw [dcv, dif_pos (by omega)]
  pointwise [k0_pay11, k0_pay9]
  blk_point [iblk, V, idx_val t]

/-- The convolution's cotangent in the 16 rows after the tile; zero after the last tile. -/
theorem dcv_after (c : Dev nD) (t : Fin cfg0.N) (r : Fin 16) (d : Fin 1024) :
    Scalar.select (Scalar.cmpi .eq (BitVec.ofNat 32 (grid0.coords t 0).val) 7#32) (0 : EReal)
        ((show FVec Ideal S16x1024 .bf16 from iblk m c 1 t) (ix2 r d) * (show FVec Ideal S16x1024 .bf16 from iblk m c 3 t) (ix2 r d))
      = dcv (Y m c) (B m c) (512 * t.val + 512 + r.val) d := by
  have ht := lt8 t
  rw [coord, sel_eq _ _ ht (by omega)]
  by_cases h : t.val = 7
  · rw [if_pos h, dcv, dif_neg (by omega)]
  · rw [if_neg h, dcv, dif_pos (by omega)]
    blk_point [iblk, V, idx_val t]

/-- The cotangent of the gated value inside the tile. -/
theorem dcu_tile (c : Dev nD) (t : Fin cfg0.N) (w0 w1 w2 : Vec Ideal S1x1024 .f32) (r : Fin 512) (d : Fin 1024)
    (h0 : w0 (ix2 0 d) = W m c (ix2 0 d)) (h1 : w1 (ix2 0 d) = W m c (ix2 1 d)) (h2 : w2 (ix2 0 d) = W m c (ix2 2 d)) :
    k0_pay12 (F := Ideal) (BitVec.ofNat 32 (grid0.coords t 0).val) w0 w1 w2 (k0_pay9 (iblk m c 0 t)) (iblk m c 2 t) (iblk m c 1 t)
      (iblk m c 3 t) (ix2 r d) = dcu (Y m c) (B m c) (W m c) (512 * t.val + r.val) d := by
  have ht := lt8 t
  pointwise [k0_pay12]
  rw [h0, h1, h2, dcv_tile]
  unfold dcu
  refine congrArg₂ (· + ·) (congrArg (_ + ·) (congrArg (_ * ·) ?_)) (congrArg (_ * ·) ?_)
  · by_cases h : r.val < 511
    · refine (dif_pos (by omega)).trans ((dcv_tile m c t _ d).trans ?_)
      exact congrArg (dcv _ _ · _) (by dsimp only; omega)
    · refine (dif_neg (by omega)).trans ((dcv_after m c t _ d).trans ?_)
      exact congrArg (dcv _ _ · _) (by dsimp only; omega)
  · by_cases h : r.val < 510
    · refine (dif_pos (by omega)).trans ((dcv_tile m c t _ d).trans ?_)
      exact congrArg (dcv _ _ · _) (by dsimp only; omega)
    · refine (dif_neg (by omega)).trans ((dcv_after m c t _ d).trans ?_)
      exact congrArg (dcv _ _ · _) (by dsimp only; omega)

/-- What tile `t` adds to tap `k`. -/
def part (c : Dev nD) (t k : ℕ) (d : Fin 1024) : EReal :=
  ∑ r : Fin 512, dcv (Y m c) (B m c) (512 * t + r.val) d * up (B m c) (512 * t + r.val + k) d

/-- The tile's contribution to the eight rows of the taps' gradient. -/
theorem taps (c : Dev nD) (t : Fin cfg0.N) (r : Fin 8) (d : Fin 1024) :
    k0_pay1 (F := Ideal) (k0_pay5 (iblk m c 4 t) (iblk m c 5 t))
      (k0_pay7 (grid0.coords t) (iblk m c 4 t) (iblk m c 5 t) (iblk m c 6 t) (iblk m c 7 t))
      (k0_pay11 (k0_pay9 (iblk m c 0 t)) (iblk m c 2 t)) (iota Kind.tc S8x1024 32 [0] iota_S8x1024_d0_w32)
      (k0_pay15 (k0_pay8 (grid0.coords t) (iblk m c 4 t) (iblk m c 5 t) (iblk m c 6 t) (iblk m c 7 t))
        (k0_pay9 (iblk m c 0 t)) (iblk m c 2 t)) 1#32 (ix2 r d)
      = if r.val < 3 then part m c t.val r.val d else 0 := by
  pointwise [k0_pay1, k0_pay15]
  have e0 : ∑ x : Fin 512, k0_pay11 (F := Ideal) (k0_pay9 (iblk m c 0 t)) (iblk m c 2 t) (ix2 x d) *
      k0_pay8 (F := Ideal) (grid0.coords t) (iblk m c 4 t) (iblk m c 5 t) (iblk m c 6 t) (iblk m c 7 t) (ix2 x d) = part m c t.val 0 d :=
    Finset.sum_congr rfl fun x _ => by rw [dcv_tile, up0]; rfl
  have e1 : ∑ x : Fin 512, k0_pay11 (F := Ideal) (k0_pay9 (iblk m c 0 t)) (iblk m c 2 t) (ix2 x d) *
      k0_pay7 (F := Ideal) (grid0.coords t) (iblk m c 4 t) (iblk m c 5 t) (iblk m c 6 t) (iblk m c 7 t) (ix2 x d) = part m c t.val 1 d :=
    Finset.sum_congr rfl fun x _ => by rw [dcv_tile, up1]
  have e2 : ∑ x : Fin 512, k0_pay11 (F := Ideal) (k0_pay9 (iblk m c 0 t)) (iblk m c 2 t) (ix2 x d) *
      k0_pay5 (F := Ideal) (iblk m c 4 t) (iblk m c 5 t) (ix2 x d) = part m c t.val 2 d :=
    Finset.sum_congr rfl fun x _ => by rw [dcv_tile, up2]
  rw [e0, e1, e2]
  have s (k : ℕ) (hk : k < 8) (a b : EReal) : Scalar.select (IntOp.cmpi .eq (BitVec.ofNat 32 r.val) (BitVec.ofNat 32 k)) a b
      = if r.val = k then a else b := sel_eq r.val k r.isLt hk a b
  rw [s 2 (by omega), s 1 (by omega), s 0 (by omega)]
  by_cases h2 : r.val = 2
  · rw [if_pos h2, if_pos (by omega), h2]
  by_cases h1 : r.val = 1
  · rw [if_neg h2, if_pos h1, if_pos (by omega), h1]
  by_cases h0 : r.val = 0
  · rw [if_neg h2, if_neg h1, if_pos h0, if_pos (by omega), h0]
  · rw [if_neg h2, if_neg h1, if_neg h0, if_neg (by omega)]

end Cert.KernelIdeal.ConvBlock

end
-- ==== Proof.ConvArray.lean ====
/- The arrays the gated convolution's gradient kernel leaves: the formulas of ConvSpec over its arguments. -/
module

public import proofs.«01_k».proof.Proof.ConvBlock

set_option maxRecDepth 16384

@[expose] public section

noncomputable section

open Idealize.ShloMosaic Idealize.ShloMosaic.TcCoe Idealize.SL.Sem
open Idealize.ShloMosaic.Pipeline (Dat)

namespace Cert.KernelIdeal.ConvBlock

open Cert.KernelIdeal Cert.KernelIdeal.Gen
open Conv

variable (m : (ℓ : Loc nD τ sig) → Buf (Elt Ideal) ℓ)

/-- The first third of a tile of the projections' gradient. -/
theorem third0 (c : Dev nD) (t : Fin cfg0.N) (w0 w1 w2 : Vec Ideal S1x1024 .f32) (r : Fin 512) (d : Fin 1024)
    (h0 : w0 (ix2 0 d) = W m c (ix2 0 d)) (h1 : w1 (ix2 0 d) = W m c (ix2 1 d)) (h2 : w2 (ix2 0 d) = W m c (ix2 2 d))
    (i : S4096x3072.Idx) (hi0 : (i 0 : ℕ) = 512 * t.val + r.val) (hi1 : (i 1 : ℕ) = d.val) :
    k0_pay10 (F := Ideal) (grid0.coords t) (iblk m c 4 t) (iblk m c 5 t) (iblk m c 6 t) (iblk m c 7 t) w0 w1 w2 (iblk m c 0 t) (ix2 r d)
      = dB (Y m c) (B m c) (W m c) i := by
  have ht := lt8 t
  idx_vars i
  pointwise [k0_pay10, k0_pay9]
  rw [h0, h1, h2, up0, up1, up2]
  unfold dB
  dsimp only
  refine Eq.trans ?_ (dif_pos (show i1.val < 1024 by omega)).symm
  have e1 : (⟨i1.val, by omega⟩ : Fin 1024) = d := Fin.ext hi1
  show _ = Y m c (ix2 i0 (⟨i1.val, _⟩ : Fin 1024)) * conv (B m c) (W m c) i0.val ⟨i1.val, _⟩
  rw [e1, hi0]
  refine congrArg₂ (· * ·) ?_ rfl
  blk_point [iblk, V, idx_val t]

/-- The second third. -/
theorem third1 (c : Dev nD) (t : Fin cfg0.N) (w0 w1 w2 : Vec Ideal S1x1024 .f32) (r : Fin 512) (d : Fin 1024)
    (h0 : w0 (ix2 0 d) = W m c (ix2 0 d)) (h1 : w1 (ix2 0 d) = W m c (ix2 1 d)) (h2 : w2 (ix2 0 d) = W m c (ix2 2 d))
    (i : S4096x3072.Idx) (hi0 : (i 0 : ℕ) = 512 * t.val + r.val) (hi1 : (i 1 : ℕ) = 1024 + d.val) :
    k0_pay13 (F := Ideal) (BitVec.ofNat 32 (grid0.coords t 0).val) (k0_pay4 (iblk m c 5 t)) w0 w1 w2 (k0_pay9 (iblk m c 0 t))
      (iblk m c 2 t) (iblk m c 1 t) (iblk m c 3 t) (ix2 r d) = dB (Y m c) (B m c) (W m c) i := by
  have ht := lt8 t
  idx_vars i
  pointwise [k0_pay13, k0_pay4]
  rw [dcu_tile m c t w0 w1 w2 r d h0 h1 h2]
  unfold dB
  dsimp only
  refine Eq.trans ?_ ((dif_neg (show ¬ i1.val < 1024 by omega)).trans (dif_pos (show i1.val < 2048 by omega))).symm
  have e1 : (⟨i1.val - 1024, by omega⟩ : Fin 1024) = d := Fin.ext (by dsimp only; omega)
  show _ = dcu (Y m c) (B m c) (W m c) i0.val ⟨i1.val - 1024, _⟩ * B m c (ix2 i0 (⟨i1.val + 1024, _⟩ : Fin 3072))
  rw [e1, hi0]
  refine congrArg₂ (· * ·) rfl ?_
  blk_point [iblk, V, idx_val t]

/-- The last third. -/
theorem third2 (c : Dev nD) (t : Fin cfg0.N) (w0 w1 w2 : Vec Ideal S1x1024 .f32) (r : Fin 512) (d : Fin 1024)
    (h0 : w0 (ix2 0 d) = W m c (ix2 0 d)) (h1 : w1 (ix2 0 d) = W m c (ix2 1 d)) (h2 : w2 (ix2 0 d) = W m c (ix2 2 d))
    (i : S4096x3072.Idx) (hi0 : (i 0 : ℕ) = 512 * t.val + r.val) (hi1 : (i 1 : ℕ) = 2048 + d.val) :
    k0_pay14 (F := Ideal) (BitVec.ofNat 32 (grid0.coords t 0).val) (k0_pay3 (iblk m c 4 t)) w0 w1 w2 (k0_pay9 (iblk m c 0 t))
      (iblk m c 2 t) (iblk m c 1 t) (iblk m c 3 t) (ix2 r d) = dB (Y m c) (B m c) (W m c) i := by
  have ht := lt8 t
  idx_vars i
  pointwise [k0_pay14, k0_pay3]
  rw [dcu_tile m c t w0 w1 w2 r d h0 h1 h2]
  unfold dB
  dsimp only
  refine Eq.trans ?_ ((dif_neg (show ¬ i1.val < 1024 by omega)).trans (dif_neg (show ¬ i1.val < 2048 by omega))).symm
  have e1 : (⟨i1.val - 2048, by omega⟩ : Fin 1024) = d := Fin.ext (by dsimp only; omega)
  show _ = dcu (Y m c) (B m c) (W m c) i0.val ⟨i1.val - 2048, _⟩ * B m c (ix2 i0 (⟨i1.val - 1024, _⟩ : Fin 3072))
  rw [e1, hi0]
  refine congrArg₂ (· * ·) rfl ?_
  blk_point [iblk, V, idx_val t]

set_option maxHeartbeats 1600000 in
/-- A tile of the projections' gradient, as the kernel leaves it. -/
theorem point9 (c : Dev nD) (t : Fin cfg0.N) (y : S512x3072.Idx) (i : S4096x3072.Idx) (hi0 : (i 0 : ℕ) = 512 * t.val + (y 0 : ℕ))
    (hi1 : (i 1 : ℕ) = (y 1 : ℕ)) : ((outsAt0 m c t.val t.isLt).1) y = dB (Y m c) (B m c) (W m c) i := by
  have ht := lt8 t
  by_cases hz : t.val % 8 = 0
  · rw [outsAt0_A m c t hz (by omega)]
    frame_out
    canon_tiles x h
    all_goals idx_vars x
    · exact third2 m c t _ _ _ x0 x1 (by pointwise; blk_point [iblk, V, idx_val t]) (by pointwise; blk_point [iblk, V, idx_val t]) (by pointwise; blk_point [iblk, V, idx_val t]) i (by omega) (by omega)
    · exact third1 m c t _ _ _ x0 x1 (by pointwise; blk_point [iblk, V, idx_val t]) (by pointwise; blk_point [iblk, V, idx_val t]) (by pointwise; blk_point [iblk, V, idx_val t]) i (by omega) (by omega)
    · exact third0 m c t _ _ _ x0 x1 (by pointwise; blk_point [iblk, V, idx_val t]) (by pointwise; blk_point [iblk, V, idx_val t]) (by pointwise; blk_point [iblk, V, idx_val t]) i (by omega) (by omega)
  · rw [outsAt0_B m c t hz (by omega)]
    frame_out
    canon_tiles x h
    all_goals idx_vars x
    · exact third2 m c t _ _ _ x0 x1 (by pointwise; blk_point [iblk, V, idx_val t]) (by pointwise; blk_point [iblk, V, idx_val t]) (by pointwise; blk_point [iblk, V, idx_val t]) i (by omega) (by omega)
    · exact third1 m c t _ _ _ x0 x1 (by pointwise; blk_point [iblk, V, idx_val t]) (by pointwise; blk_point [iblk, V, idx_val t]) (by pointwise; blk_point [iblk, V, idx_val t]) i (by omega) (by omega)
    · exact third0 m c t _ _ _ x0 x1 (by pointwise; blk_point [iblk, V, idx_val t]) (by pointwise; blk_point [iblk, V, idx_val t]) (by pointwise; blk_point [iblk, V, idx_val t]) i (by omega) (by omega)

/-- The projections' gradient after the run. -/
theorem final9 (c : Dev nD) : (dats m 0 c).arrAt 9 (cfgs 0).N = dB (Y m c) (B m c) (W m c) := by
  refine (dats m 0 c).arrAt_eq_of_covers 9 _ (by decide +kernel) fun t hf y => ?_
  blk_simp; rw [after0_9]
  refine point9 m c t y _ ?_ ?_
  · blk_simp [idx_val t] <;> try omega
  · blk_simp [idx_val t] <;> try omega

/-- The eight rows after point `t`, in steps. -/
theorem step_A (c : Dev nD) (t : Fin cfg0.N) (hz : t.val % 8 = 0) (y : S8x1024.Idx) :
    ((outsAt0 m c t.val t.isLt).2) y = 0 + (show EReal from if (y 0 : ℕ) < 3 then part m c t.val (y 0 : ℕ) (y 1) else 0) := by
  have ht := lt8 t
  rw [outsAt0_A m c t hz (by omega)]
  frame_out
  rw [zero_add]
  exact (congrArg _ (eq_ix2 y)).trans (taps m c t (y 0) (y 1))

/-- The eight rows after a later point: what was there and the tile's part. -/
theorem step_B (c : Dev nD) (t : Fin cfg0.N) (hz : ¬t.val % 8 = 0) (y : S8x1024.Idx) :
    ((outsAt0 m c t.val t.isLt).2) y = ((outsAt0 m c (t.val - 1) (Nat.lt_of_le_of_lt (Nat.sub_le _ _) t.isLt)).2) y
      + (show EReal from if (y 0 : ℕ) < 3 then part m c t.val (y 0 : ℕ) (y 1) else 0) := by
  have ht := lt8 t
  rw [outsAt0_B m c t hz (by omega)]
  frame_out
  pointwise [k0_pay2]
  refine congrArg (_ + ·) ?_
  exact (congrArg _ (eq_ix2 y)).trans (taps m c t (y 0) (y 1))

/-- A sum over the rows, tile by tile. -/
theorem sum_tiles (f : ℕ → EReal) :
    ∑ n : Fin 4096, f n.val = ∑ t : Fin cfg0.N, ∑ r : Fin 512, f (512 * t.val + r.val) := by
  rw [Fin.sum_univ_tiles 8 512 rfl (fun n => f n.val)]
  refine Finset.sum_congr rfl fun t _ => Finset.sum_congr rfl fun r _ => congrArg f ?_
  show t.val * 512 + r.val = 512 * t.val + r.val
  omega

/-- The taps' gradient after the run. -/
theorem final10 (c : Dev nD) : (dats m 0 c).arrAt 10 (cfgs 0).N = dW (Y m c) (B m c) := by
  refine (dats m 0 c).arrAt_eq_of_after_last 10 t0_7 (by decide +kernel) _ fun j => ?_
  blk_simp
  rw [after0_10, Pipeline.eq_sum_fin_of_reset_step_apply_last (fun n h => (outsAt0 m c n h).2) 8 (fun _ => 0)
    (fun t y => show EReal from if (y 0 : ℕ) < 3 then part m c t.val (y 0 : ℕ) (y 1) else 0)
    (fun t h j => step_A m c t h j) (fun t h j => step_B m c t h j) (le_of_eq N_0) t0_7 rfl j, zero_add]
  show (∑ p : Fin cfg0.N, if (j 0 : ℕ) < 3 then part m c p.val (j 0 : ℕ) (j 1) else 0)
    = if (j 0 : ℕ) < 3 then dtap (Y m c) (B m c) (j 0 : ℕ) (j 1) else 0
  by_cases h : (j 0 : ℕ) < 3
  · rw [if_pos h]
    refine (Finset.sum_congr rfl fun p _ => if_pos h).trans ?_
    refine (sum_tiles (fun n => dcv (Y m c) (B m c) n (j 1) * up (B m c) (n + (j 0 : ℕ)) (j 1))).symm
  · rw [if_neg h]
    exact Finset.sum_eq_zero fun p _ => if_neg h

end Cert.KernelIdeal.ConvBlock

end
-- ==== Proof.ConvRef.lean ====
/- The reference of the gated convolution's gradient, read at an index: its two results are the formulas of ConvSpec. -/
module

public import proofs.«01_k».proof.Proof.Gen.ReferenceIdeal.Read
public import proofs.«01_k».proof.Proof.ConvSpec
public import Idealize.ShloMosaic.Lib.Pipeline.ValueKit
public import Idealize.ShloMosaic.Lib.Pointwise

set_option maxRecDepth 16384

@[expose] public section

noncomputable section

open Idealize.ShloMosaic Idealize.ShloMosaic.TcCoe Idealize.SL.Sem

namespace Cert.ReferenceIdeal.ConvRef

open Cert.ReferenceIdeal Cert.ReferenceIdeal.Gen Cert.ReferenceIdeal.Read
open Conv

variable (Y : FVec Ideal S4096x1024 .bf16) (B : FVec Ideal S4096x3072 .bf16) (W : FVec Ideal S3x1024 .f32)

/-- The gated value at a row. -/
theorem cu_at (n : Fin 4096) (d : Fin 1024) : val_main_v4 (F := Ideal) B (ix2 n d) = cu B n.val d := by
  pointwise [val_main_v4, val_main_v2, val_main_v3, val_main_v0]
  rw [cu, dif_pos n.isLt]

/-- The gated value with its two rows of zeros. -/
theorem up_at (n : Fin 4098) (d : Fin 1024) : val_main_v6 (F := Ideal) B (ix2 n d) = up B n.val d := by
  pointwise [val_main_v6, val_main_v5, val_main_cst]
  by_cases h : n.val < 2
  · exact (dif_pos h).trans (if_neg (by omega)).symm
  · exact (dif_neg h).trans ((cu_at B _ d).trans (if_pos (by omega)).symm)

/-- The convolution's cotangent at a row. -/
theorem dcv_at (n : Fin 4096) (d : Fin 1024) : val_main_v30 (F := Ideal) Y B (ix2 n d) = dcv Y B n.val d := by
  pointwise [val_main_v30, val_main_v29, val_main_v1, val_main_v0]
  rw [dcv, dif_pos n.isLt]
  first | rfl | exact mul_comm _ _

/-- The convolution at a row. -/
theorem conv_at (n : Fin 4096) (d : Fin 1024) : val_main_v27 (F := Ideal) B W (ix2 n d) = conv B W n.val d := by
  pointwise [val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8]
  rw [up_at, up_at, up_at, mul_comm _ (W (ix2 0 d)), mul_comm _ (W (ix2 1 d)), mul_comm _ (W (ix2 2 d))]
  dsimp only
  simp only [conv, add_comm n.val]

/-- A value that is read only inside the sequence, and is zero elsewhere, times a weight. -/
theorem guard_mul (n : ℕ) (d : Fin 1024) (w : EReal) {p : Prop} [Decidable p] (hp : p ↔ n < 4096) (k : p → Fin 4096)
    (hk : ∀ h, (k h).val = n) :
    (if h : p then val_main_v30 (F := Ideal) Y B (ix2 (k h) d) * w else 0) = w * dcv Y B n d := by
  by_cases h : p
  · rw [dif_pos h, dcv_at, hk, mul_comm]
  · rw [dif_neg h, dcv, dif_neg (fun h' => h (hp.mpr h')), mul_zero]

/-- The cotangent of the gated value at a row. -/
theorem dcu_at (n : Fin 4096) (d : Fin 1024) : val_main_v64 (F := Ideal) Y B W (ix2 n d) = dcu Y B W n.val d := by
  pointwise [val_main_v64, val_main_v62, val_main_v51, val_main_v61, val_main_v50, val_main_v40, val_main_cst_4, val_main_cst_8,
    val_main_cst_12, val_main_v36, val_main_v45, val_main_v56, val_main_v35, val_main_v44, val_main_v55, val_main_v22, val_main_v15,
    val_main_v9, val_main_v24, val_main_v17, val_main_v11, val_main_v23, val_main_v16, val_main_v10]
  unfold dcu
  refine congrArg₂ (· + ·) (congrArg₂ (· + ·) ?_ ?_) ?_
  · rw [dcv_at, mul_comm]
  · exact guard_mul Y B _ _ _ (by omega) _ (fun _ => by dsimp only; omega)
  · exact guard_mul Y B _ _ _ (by omega) _ (fun _ => by dsimp only; omega)

/-- The gradient of the taps. -/
theorem dW_eq : val_main_v70 (F := Ideal) Y B = dW Y B := by
  funext i
  idx_vars i
  pointwise [val_main_v70, val_main_v60, val_main_v49, val_main_v59, val_main_v39, val_main_v48, val_main_v69, val_main_cst_3,
    val_main_cst_7, val_main_cst_11, val_main_cst_13, val_main_v38, val_main_v47, val_main_v58, val_main_v37, val_main_v46,
    val_main_v57, val_main_v34, val_main_v43, val_main_v54, val_main_v33, val_main_v42, val_main_v53, val_main_v32, val_main_v41,
    val_main_v52, val_main_v21, val_main_v14, val_main_v8, val_main_cst_1, val_main_cst_2, val_main_cst_5, val_main_cst_6,
    val_main_cst_9, val_main_cst_10]
  simp only [zero_add, Finset.univ_unique, Finset.sum_singleton]
  have e (k : ℕ) (f : Fin 4096 → Fin 4098) (hf : ∀ n, (f n).val = n.val + k) :
      ∑ n : Fin 4096, val_main_v6 (F := Ideal) B (ix2 (f n) i1) * val_main_v30 (F := Ideal) Y B (ix2 n i1) = dtap Y B k i1 :=
    Finset.sum_congr rfl fun n _ => by rw [up_at, dcv_at, hf, mul_comm]
  show _ = if i0.val < 3 then dtap Y B i0.val i1 else 0
  rw [e 2 _ (fun n => by dsimp only; omega), e 1 _ (fun n => by dsimp only; omega), e 0 _ (fun n => rfl)]
  fin_vals i0 with hk <;> simp [hk]

/-- The gradient of the three projections. -/
theorem dB_eq : val_main_v68 (F := Ideal) Y B W = dB Y B W := by
  funext i
  idx_vars i
  pointwise [val_main_v68, val_main_v67, val_main_v31, val_main_v66, val_main_v65, val_main_v29, val_main_v2, val_main_v3,
    val_main_v0]
  show _ = if h : i1.val < 1024 then Y (ix2 i0 ⟨i1.val, h⟩) * conv B W i0.val ⟨i1.val, h⟩
    else if h' : i1.val < 2048 then dcu Y B W i0.val ⟨i1.val - 1024, by omega⟩ * B (ix2 i0 ⟨i1.val + 1024, by omega⟩)
    else dcu Y B W i0.val ⟨i1.val - 2048, by omega⟩ * B (ix2 i0 ⟨i1.val - 1024, by omega⟩)
  by_cases h : i1.val < 1024
  · refine (dif_pos h).trans (Eq.trans ?_ (dif_pos h).symm)
    exact congrArg (_ * ·) (conv_at B W _ _)
  · refine (dif_neg h).trans (Eq.trans ?_ (dif_neg h).symm)
    by_cases h' : i1.val < 2048
    · refine (dif_pos (by omega)).trans (Eq.trans ?_ (dif_pos h').symm)
      refine congrArg₂ (· * ·) (dcu_at Y B W _ _) (congrArg B ?_)
      exact (ix2_inj ..).2 ⟨rfl, Fin.ext (by dsimp only; omega)⟩
    · refine (dif_neg (by omega)).trans (Eq.trans ?_ (dif_neg h').symm)
      refine (mul_comm _ _).trans (congrArg₂ (· * ·) ((dcu_at Y B W _ _).trans ?_) (congrArg B ?_))
      · exact congrArg (dcu Y B W _) (Fin.ext (by dsimp only; omega))
      · exact (ix2_inj ..).2 ⟨rfl, Fin.ext (by dsimp only; omega)⟩

end Cert.ReferenceIdeal.ConvRef

end
-- ==== Proof.Finite.lean ====
/- From "every entry of an array is finite", as the preconditions state it, to real entries. -/
module

public import Idealize.ShloMosaic.Lib.Pipeline.ValueKit
public import Idealize.ShloMosaic.Lib.Pointwise
public import Idealize.ShloMosaic.Lib.Affine

set_option maxRecDepth 16384

@[expose] public section

noncomputable section

open Idealize.ShloMosaic

namespace Finite

/-- An extended real that is a real number. -/
def IsReal (x : EReal) : Prop := ∃ r : ℝ, x = (r : EReal)

/-- A value strictly below plus infinity in absolute value is a real number. -/
theorem isReal_of_abs_lt (x : EReal) (h : max x (-x) < ⊤) : IsReal x := by
  induction x with
  | bot => simp at h
  | top => simp at h
  | coe r => exact ⟨r, rfl⟩

/-- A conjunction folded over a list is one only if it starts at one and every member is one. -/
theorem fold_andi {ι : Type} (g : ι → BitVec 1) (l : List ι) (a : BitVec 1)
    (h : l.foldl (fun r n => IntOp.andi r (g n)) a = 1#1) : a = 1#1 ∧ ∀ n ∈ l, g n = 1#1 := by
  induction l generalizing a with
  | nil => exact ⟨h, fun n hn => absurd hn (by simp)⟩
  | cons b l ih =>
    obtain ⟨h1, h2⟩ := ih _ h
    have h3 : a = 1#1 ∧ g b = 1#1 := by
      revert h1; show IntOp.andi a (g b) = 1#1 → _; clear ih h h2; generalize g b = e; revert a e; decide
    refine ⟨h3.1, fun n hn => ?_⟩
    rcases List.mem_cons.1 hn with rfl | hn
    · exact h3.2
    · exact h2 n hn

/-- A conjunction over a whole array is one only if every entry is. -/
theorem all_of_reduce {s : Shape} {axes : List (Fin s.rank)} (x : s.Idx → BitVec 1) (v : (⟨0, ![]⟩ : Shape).Idx → BitVec 1)
    (h : s.ReducesTo axes ⟨0, ![]⟩) (hu : 0 < (⟨0, ![]⟩ : Shape).numel) (j : (⟨0, ![]⟩ : Shape).Idx)
    (e : Host.reduce IntOp.andi x v h hu j = 1#1) (i : s.Idx) : x i = 1#1 := by
  have e' := (fold_andi (fun n => x (s.rowMajor.symm n)) _ _ e).2 (s.rowMajor i)
    (List.mem_filter.2 ⟨List.mem_finRange _, decide_eq_true (funext fun a => a.elim0)⟩)
  simpa using e'

/-- The bits of plus infinity denote it. -/
theorem ofBits_inf : Ideal.ofBits .f32 0x7F800000#32 = (⊤ : EReal) := by
  rfl

/-- An array all of whose entries compare below plus infinity in absolute value has real entries. -/
theorem real_of_reduce {s : Shape} {axes : List (Fin s.rank)} (x : FVec Ideal s .f32) (v : (⟨0, ![]⟩ : Shape).Idx → BitVec 1)
    (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32))) v h hu j = 1#1)
    (i : s.Idx) : IsReal (x i) := by
  have e1 := all_of_reduce _ _ h hu j e i
  have e2 : Ideal.cmp .olt (max (x i) (-(x i))) (Ideal.ofBits .f32 0x7F800000#32) = 1#1 := e1
  rw [ofBits_inf] at e2
  refine isReal_of_abs_lt _ ?_
  have e3 : BitVec.ofBool (decide (max (x i) (-(x i)) < ⊤)) = 1#1 := e2
  by_contra hn
  rw [decide_eq_false hn] at e3
  exact absurd e3 (by decide)

/-- A conjunction of two arrays of truth values at an index. -/
theorem andi_split {s : Shape} (x y : IVec s 1) (j : s.Idx) (h : andi x y j = 1#1) : x j = 1#1 ∧ y j = 1#1 := by
  have h' : IntOp.andi (x j) (y j) = 1#1 := h
  revert h'; generalize x j = a; generalize y j = b; revert a b; decide

/-- Real entries as a function into the reals. -/
theorem choose_real {ι : Type} {x : ι → EReal} (h : ∀ i, IsReal (x i)) : ∃ X : ι → ℝ, ∀ i, x i = (X i : EReal) :=
  ⟨fun i => (h i).choose, fun i => (h i).choose_spec⟩

/-- Sums, differences, products of real numbers are real. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.coe (r : ℝ) : IsReal (r : EReal) := ⟨r, rfl⟩

/-- A finite sum of real numbers is the real sum. -/
theorem coe_sum {n : ℕ} (f : Fin n → ℝ) : (∑ k, (f k : EReal)) = ((∑ k, f k : ℝ) : EReal) := by
  induction n with
  | zero => simp
  | succ n ih => rw [Fin.sum_univ_succ, Fin.sum_univ_succ, ih, EReal.coe_add]
theorem IsReal.sum {n : ℕ} {f : Fin n → EReal} (h : ∀ k, IsReal (f k)) : IsReal (∑ k, f k) := by
  obtain ⟨g, hg⟩ := choose_real h
  rw [Finset.sum_congr rfl fun k _ => hg k, coe_sum]; exact ⟨_, rfl⟩

end Finite

end

end
-- ==== Proof.NormSpec.lean ====
/- The gradients of the root-mean-square norm and of the SiLU gate on real numbers: the form a vector-Jacobian product leaves and the form the kernels compute. -/
module

public import proofs.«01_k».proof.Proof.Finite

set_option maxRecDepth 16384

@[expose] public section

noncomputable section

open Idealize.ShloMosaic

namespace Finite

/-- The row length 1024. -/
def c1024 : EReal := Ideal.ofBits .f32 0x44800000#32
/-- The norm's epsilon. -/
def ceps : EReal := Ideal.ofBits .f32 0x358637BD#32
/-- Minus one half. -/
def cmhalf : EReal := Ideal.ofBits .f32 0xBF000000#32

theorem c1024_eq : c1024 = ((1024 : ℝ) : EReal) := by
  simp [c1024, Ideal.ofBits, Ideal.ieee, -EReal.coe_mul]; norm_num
theorem ceps_eq : ceps = ((8796093 / 2 ^ 43 : ℝ) : EReal) := by
  simp [ceps, Ideal.ofBits, Ideal.ieee, -EReal.coe_mul]; norm_num
theorem cmhalf_eq : cmhalf = ((-(1 / 2) : ℝ) : EReal) := by
  simp [cmhalf, Ideal.ofBits, Ideal.ieee, -EReal.coe_mul]; norm_num

/-- The mean square of a row plus epsilon. -/
def vE (x : Fin 1024 → EReal) : EReal := Ideal.div (∑ k, x k * x k) c1024 + ceps
/-- The reciprocal root of the mean square. -/
def rsE (x : Fin 1024 → EReal) : EReal := Ideal.rsqrt (vE x)
/-- The same over the reals. -/
def vR (x : Fin 1024 → ℝ) : ℝ := (∑ k, x k * x k) * (1 / 1024) + 8796093 / 2 ^ 43
/-- The same over the reals. -/
def rsR (x : Fin 1024 → ℝ) : ℝ := (Real.sqrt (vR x))⁻¹

theorem vR_pos (x : Fin 1024 → ℝ) : 0 < vR x := by
  have h : 0 ≤ ∑ k, x k * x k := Finset.sum_nonneg fun k _ => mul_self_nonneg _
  unfold vR; positivity

theorem vE_coe (x : Fin 1024 → ℝ) : vE (fun k => (x k : EReal)) = (vR x : EReal) := by
  unfold vE vR
  rw [c1024_eq, ceps_eq, Ideal.div_coe (by norm_num)]
  simp only [← EReal.coe_mul]
  rw [coe_sum, ← EReal.coe_mul, ← EReal.coe_add]

theorem rsE_coe (x : Fin 1024 → ℝ) : rsE (fun k => (x k : EReal)) = (rsR x : EReal) := by
  unfold rsE rsR
  rw [vE_coe, Ideal.rsqrt_coe, if_neg (not_lt.2 (vR_pos x).le), if_neg (vR_pos x).ne']

/-- The reciprocal root over the mean square is its cube. -/
theorem rsR_cube (x : Fin 1024 → ℝ) : rsR x * (1 / vR x) = rsR x * rsR x * rsR x := by
  have h := vR_pos x
  have h2 : rsR x * rsR x = 1 / vR x := by
    unfold rsR
    rw [← mul_inv, Real.mul_self_sqrt h.le, one_div]
  rw [mul_assoc (rsR x), h2]

/-- The norm of a row times its gain. -/
def normE (x g : Fin 1024 → EReal) (d : Fin 1024) : EReal := x d * rsE x * g d

/-- The gradient of the norm with respect to the row, as the kernels compute it. -/
def normBwd (x g dy : Fin 1024 → EReal) (d : Fin 1024) : EReal :=
  rsE x * (g d * dy d - x d * rsE x * Ideal.div (∑ k, x k * rsE x * (g k * dy k)) c1024)

/-- The term of the vector-Jacobian product that comes through the mean square. -/
def normSide (x g dy : Fin 1024 → EReal) : EReal :=
  Ideal.div ((∑ k, x k * (dy k * g k)) * (cmhalf * Ideal.div (rsE x) (vE x))) c1024

theorem isReal_rsE {x : Fin 1024 → EReal} (hx : ∀ k, IsReal (x k)) : IsReal (rsE x) := by
  obtain ⟨X, hX⟩ := choose_real hx
  rw [funext hX, rsE_coe]; exact ⟨_, rfl⟩

theorem isReal_normE {x g : Fin 1024 → EReal} (hx : ∀ k, IsReal (x k)) (hg : ∀ k, IsReal (g k)) (d : Fin 1024) : IsReal (normE x g d) :=
  ((hx d).mul (isReal_rsE hx)).mul (hg d)

theorem isReal_div_c1024 {x : EReal} (hx : IsReal x) : IsReal (Ideal.div x c1024) := by
  rw [c1024_eq, Ideal.div_coe (by norm_num)]; exact hx.mul (IsReal.coe _)

theorem isReal_normBwd {x g dy : Fin 1024 → EReal} (hx : ∀ k, IsReal (x k)) (hg : ∀ k, IsReal (g k)) (hy : ∀ k, IsReal (dy k)) (d : Fin 1024) :
    IsReal (normBwd x g dy d) :=
  (isReal_rsE hx).mul (((hg d).mul (hy d)).sub (((hx d).mul (isReal_rsE hx)).mul
    (isReal_div_c1024 (IsReal.sum fun k => ((hx k).mul (isReal_rsE hx)).mul ((hg k).mul (hy k))))))

/-- On real rows the vector-Jacobian product of the norm is the kernels' formula. -/
theorem normBwd_eq {x g dy : Fin 1024 → EReal} (hx : ∀ k, IsReal (x k)) (hg : ∀ k, IsReal (g k)) (hy : ∀ k, IsReal (dy k)) (d : Fin 1024) :
    dy d * g d * rsE x + x d * normSide x g dy + normSide x g dy * x d = normBwd x g dy d := by
  obtain ⟨X, hX⟩ := choose_real hx
  obtain ⟨G, hG⟩ := choose_real hg
  obtain ⟨Y, hY⟩ := choose_real hy
  have h := vR_pos X
  unfold normBwd normSide
  rw [funext hX, funext hG, funext hY, rsE_coe, vE_coe, c1024_eq, cmhalf_eq, Ideal.div_coe (by norm_num), Ideal.div_coe h.ne', Ideal.div_coe (by norm_num)]
  simp only [← EReal.coe_mul, rsR_cube]
  rw [coe_sum, coe_sum]
  simp only [← EReal.coe_mul, ← EReal.coe_add, ← EReal.coe_sub]
  refine congrArg _ ?_
  have e : (∑ k, X k * rsR X * (G k * Y k)) = rsR X * ∑ k, X k * (Y k * G k) := by
    rw [Finset.mul_sum]; exact Finset.sum_congr rfl fun k _ => by ring
  rw [e]; ring

/-- The gate's gradient of SiLU(g)·u at cotangent d, as the kernels compute it. -/
def dgate (g u d : EReal) : EReal := d * u * (Ideal.logistic g * (1 + g * (1 - Ideal.logistic g)))
/-- The gradient of the other factor. -/
def dup (g d : EReal) : EReal := d * (g * Ideal.logistic g)

theorem dgate_congr {g g' u u' d d' : EReal} (hg : g = g') (hu : u = u') (hd : d = d') : dgate g u d = dgate g' u' d' := by rw [hg, hu, hd]

theorem isReal_logistic {g : EReal} (h : IsReal g) : IsReal (Ideal.logistic g) := by
  obtain ⟨a, rfl⟩ := h; rw [Ideal.logistic_coe]; exact ⟨_, rfl⟩

theorem isReal_one : IsReal 1 := ⟨1, rfl⟩

theorem isReal_dgate {g u d : EReal} (hg : IsReal g) (hu : IsReal u) (hd : IsReal d) : IsReal (dgate g u d) :=
  (hd.mul hu).mul ((isReal_logistic hg).mul (isReal_one.add (hg.mul (isReal_one.sub (isReal_logistic hg)))))
theorem isReal_dup {g d : EReal} (hg : IsReal g) (hd : IsReal d) : IsReal (dup g d) := hd.mul (hg.mul (isReal_logistic hg))

/-- On real numbers the vector-Jacobian product of SiLU is the kernels' formula. -/
theorem dgate_eq {g u d : EReal} (hg : IsReal g) (hu : IsReal u) (hd : IsReal d) :
    d * u * Ideal.div 1 (1 + Ideal.exp (-g)) + g * (d * u) * (Ideal.div 1 (1 + Ideal.exp (-g)) * (1 - Ideal.div 1 (1 + Ideal.exp (-g))))
      = dgate g u d := by
  show d * u * Ideal.logistic g + g * (d * u) * (Ideal.logistic g * (1 - Ideal.logistic g)) = dgate g u d
  unfold dgate
  obtain ⟨l, hl⟩ := isReal_logistic hg
  rw [hl]
  obtain ⟨g, rfl⟩ := hg; obtain ⟨u, rfl⟩ := hu; obtain ⟨d, rfl⟩ := hd
  rw [← EReal.coe_one]
  simp only [← EReal.coe_mul, ← EReal.coe_add, ← EReal.coe_sub]
  exact congrArg _ (by ring)

/-- The other factor's gradient, its factors in the order of the vector-Jacobian product. -/
theorem dup_eq (g d : EReal) : g * Ideal.div 1 (1 + Ideal.exp (-g)) * d = dup g d := mul_comm _ _

end Finite

end

end
-- ==== Proof.Ffn2Spec.lean ====
/- The formulas of the input gradient of the SwiGLU block behind its norm and the norm of the mixer's output, over arrays as functions. -/
module

public import proofs.«01_k».proof.Proof.NormSpec

@[expose] public section

noncomputable section

open Idealize.ShloMosaic

namespace Ffn2

open Finite

/-- The arrays the gradient reads: the activation's cotangent, the gate and up values, the two halves of the weight,
    the residual stream with its gain and cotangent, the mixer's output with its gain, and the output projection. -/
structure Args where
  da : Fin 4096 → Fin 2816 → EReal
  ga : Fin 4096 → Fin 2816 → EReal
  up : Fin 4096 → Fin 2816 → EReal
  wg : Fin 1024 → Fin 2816 → EReal
  wu : Fin 1024 → Fin 2816 → EReal
  h : Fin 4096 → Fin 1024 → EReal
  gh : Fin 1024 → EReal
  dout : Fin 4096 → Fin 1024 → EReal
  z : Fin 4096 → Fin 1024 → EReal
  gz : Fin 1024 → EReal
  wo : Fin 1024 → Fin 1024 → EReal

variable (A : Args)

/-- The cotangent of the normed input. -/
def dn (t : Fin 4096) (d : Fin 1024) : EReal :=
  ∑ f, dgate (A.ga t f) (A.up t f) (A.da t f) * A.wg d f + ∑ f, dup (A.ga t f) (A.da t f) * A.wu d f
/-- The cotangent of the residual stream. -/
def dh (t : Fin 4096) (d : Fin 1024) : EReal := A.dout t d + normBwd (A.h t) A.gh (dn A t) d
/-- One row's part of the first gain's gradient. -/
def gain (x : Fin 1024 → EReal) (dy : Fin 1024 → EReal) (d : Fin 1024) : EReal := dy d * (x d * rsE x)
/-- The first gain's gradient. -/
def dgh (d : Fin 1024) : EReal := ∑ t, gain (A.h t) (dn A t) d
/-- The cotangent of the mixer's output. -/
def dz (t : Fin 4096) (d : Fin 1024) : EReal := normBwd (A.z t) A.gz (dh A t) d
/-- The second gain's gradient. -/
def dgz (d : Fin 1024) : EReal := ∑ t, gain (A.z t) (dh A t) d
/-- The cotangent of the output projection's input. -/
def dx (t : Fin 4096) (d : Fin 1024) : EReal := ∑ e, dz A t e * A.wo d e

end Ffn2

end

end
-- ==== Proof.Ffn2Tile.lean ====
/- The SwiGLU block's input gradient on a sub-tile of 256 rows: each payload is the formula of Ffn2Spec. -/
module

public import proofs.«01_k».proof.Proof.Gen.Kernel2Ideal.Value
public import proofs.«01_k».proof.Proof.Ffn2Spec

set_option maxRecDepth 16384

@[expose] public section

noncomputable section

open Idealize.ShloMosaic Idealize.ShloMosaic.TcCoe Idealize.SL.Sem

namespace Cert.Kernel2Ideal.FfnTile

open Cert.Kernel2Ideal Cert.Kernel2Ideal.Gen
open Finite Ffn2

/-- The loaded vectors are the rows `row` of the arrays. -/
structure Reads (A : Args) (row : Fin 256 → Fin 4096) (da : Vec Ideal S256x2816 .bf16) (ga up : Vec Ideal S1x256x2816 .bf16)
    (wg wu : Vec Ideal S1024x2816 .bf16) (h : Vec Ideal S256x1024 .bf16) (gh : Vec Ideal S1x1024 .f32) (dout z : Vec Ideal S256x1024 .bf16)
    (gz : Vec Ideal S1x1024 .f32) (wo : Vec Ideal S1024x1024 .bf16) : Prop where
  da : ∀ r f, da (ix2 r f) = A.da (row r) f
  ga : ∀ r f, ga (ix3 0 r f) = A.ga (row r) f
  up : ∀ r f, up (ix3 0 r f) = A.up (row r) f
  wg : ∀ d f, wg (ix2 d f) = A.wg d f
  wu : ∀ d f, wu (ix2 d f) = A.wu d f
  h : ∀ r d, h (ix2 r d) = A.h (row r) d
  gh : ∀ d, gh (ix2 0 d) = A.gh d
  dout : ∀ r d, dout (ix2 r d) = A.dout (row r) d
  z : ∀ r d, z (ix2 r d) = A.z (row r) d
  gz : ∀ d, gz (ix2 0 d) = A.gz d
  wo : ∀ d e, wo (ix2 d e) = A.wo d e

variable (A : Args) (row : Fin 256 → Fin 4096) (da : Vec Ideal S256x2816 .bf16) (ga up : Vec Ideal S1x256x2816 .bf16)
  (wg wu : Vec Ideal S1024x2816 .bf16) (h : Vec Ideal S256x1024 .bf16) (gh : Vec Ideal S1x1024 .f32) (dout z : Vec Ideal S256x1024 .bf16)
  (gz : Vec Ideal S1x1024 .f32) (wo : Vec Ideal S1024x1024 .bf16)

/-- The first sub-tile's cotangent of the normed input. -/
abbrev dn1 : FVec Ideal S256x1024 .f32 := k0_pay3 (F := Ideal) da ga up wg wu
/-- The second's. -/
abbrev dn2 : FVec Ideal S256x1024 .f32 :=
  k0_pay8 (F := Ideal) (k0_pay4 da) (k0_pay5 ga) (k0_pay6 ga) (k0_pay7 da up) (FloatOps.ofBits FTy.bf16 16256#16) wg wu

/-- The formulas over the rows of a loaded vector. -/
theorem bwd_congr {x x' g g' dy dy' : Fin 1024 → EReal} (hx : x = x') (hg : g = g') (hy : dy = dy') (d : Fin 1024) :
    normBwd x g dy d = normBwd x' g' dy' d := by rw [hx, hg, hy]
theorem gain_congr {x x' dy dy' : Fin 1024 → EReal} (hx : x = x') (hy : dy = dy') (d : Fin 1024) : gain x dy d = gain x' dy' d := by rw [hx, hy]

/-- The first sub-tile's residual cotangent, from the cotangent of its normed input. -/
theorem res1 (n : FVec Ideal S256x1024 .f32) (r : Fin 256) (d : Fin 1024) : k0_pay15 (F := Ideal) (k0_pay12 h) (k0_pay14 n h gh) dout (ix2 r d)
    = dout (ix2 r d) + normBwd (fun k => h (ix2 r k)) (fun k => gh (ix2 0 k)) (fun k => n (ix2 r k)) d := by
  pointwise [k0_pay15, k0_pay12, k0_pay14, k0_pay11, k0_pay13]
  rfl
/-- The second's. -/
theorem res2 (n : FVec Ideal S256x1024 .f32) (r : Fin 256) (d : Fin 1024) : k0_pay28 (F := Ideal) n h gh dout (ix2 r d)
    = dout (ix2 r d) + normBwd (fun k => h (ix2 r k)) (fun k => gh (ix2 0 k)) (fun k => n (ix2 r k)) d := by
  pointwise [k0_pay28, k0_pay25, k0_pay26, k0_pay27]
  rfl
/-- The first sub-tile's cotangent of the mixer's output, from the residual cotangent. -/
theorem mix1 (n : FVec Ideal S256x1024 .f32) (r : Fin 256) (d : Fin 1024) :
    k0_pay21 (F := Ideal) (k0_pay12 h) (k0_pay14 n h gh) dout z gz (ix2 r d)
    = normBwd (fun k => z (ix2 r k)) (fun k => gz (ix2 0 k)) (fun k => k0_pay15 (F := Ideal) (k0_pay12 h) (k0_pay14 n h gh) dout (ix2 r k)) d := by
  pointwise [k0_pay21, k0_pay18, k0_pay19, k0_pay20]
  rfl
/-- The second's. -/
theorem mix2 (v : FVec Ideal S256x1024 .f32) (r : Fin 256) (d : Fin 1024) : k0_pay34 (F := Ideal) v z gz (ix2 r d)
    = normBwd (fun k => z (ix2 r k)) (fun k => gz (ix2 0 k)) (fun k => v (ix2 r k)) d := by
  pointwise [k0_pay34, k0_pay31, k0_pay32, k0_pay33]
  rfl

variable (R : Reads A row da ga up wg wu h gh dout z gz wo)

section
include R

/-- The cotangent of the normed input. -/
theorem dn1_at (r : Fin 256) (d : Fin 1024) : dn1 da ga up wg wu (ix2 r d) = dn A (row r) d := by
  unfold dn1 dn
  pointwise [k0_pay3]
  simp only [R.da, R.ga, R.up, R.wg, R.wu]
  rfl
theorem dn2_at (r : Fin 256) (d : Fin 1024) : dn2 da ga up wg wu (ix2 r d) = dn A (row r) d := by
  unfold dn2 dn
  pointwise [k0_pay8, k0_pay4, k0_pay5, k0_pay6, k0_pay7]
  simp only [R.da, R.ga, R.up, R.wg, R.wu]
  rfl

/-- The residual cotangent. -/
theorem dh1_at (r : Fin 256) (d : Fin 1024) : k0_pay15 (F := Ideal) (k0_pay12 h) (k0_pay14 (dn1 da ga up wg wu) h gh) dout (ix2 r d) = dh A (row r) d := by
  rw [res1]
  exact congrArg₂ (· + ·) (R.dout _ _) (bwd_congr (funext fun k => R.h _ _) (funext fun k => R.gh _)
    (funext fun k => dn1_at A row da ga up wg wu h gh dout z gz wo R r k) d)
/-- As it is stored. -/
theorem out11_1 (r : Fin 256) (d : Fin 1024) : k0_pay16 (F := Ideal) (k0_pay12 h) (k0_pay14 (dn1 da ga up wg wu) h gh) dout (ix2 r d) = dh A (row r) d :=
  dh1_at A row da ga up wg wu h gh dout z gz wo R r d
/-- The cotangent of the mixer's output. -/
theorem dz1_at (r : Fin 256) (d : Fin 1024) : k0_pay21 (F := Ideal) (k0_pay12 h) (k0_pay14 (dn1 da ga up wg wu) h gh) dout z gz (ix2 r d) = dz A (row r) d := by
  rw [mix1]
  exact bwd_congr (funext fun k => R.z _ _) (funext fun k => R.gz _) (funext fun k => dh1_at A row da ga up wg wu h gh dout z gz wo R r k) d
/-- The cotangent of the output projection's input. -/
theorem dx1_at (r : Fin 256) (d : Fin 1024) : k0_pay24 (F := Ideal) (k0_pay21 (k0_pay12 h) (k0_pay14 (dn1 da ga up wg wu) h gh) dout z gz) wo (ix2 r d) = dx A (row r) d := by
  pointwise [k0_pay24]
  exact Finset.sum_congr rfl fun e _ => congrArg₂ (· * ·) (dz1_at A row da ga up wg wu h gh dout z gz wo R r e) (R.wo _ _)
/-- The first gain's part. -/
theorem gh1_at (v : FVec Ideal S1x1024 .f32) (d : Fin 1024) : k0_pay17 (F := Ideal) (dn1 da ga up wg wu) v (k0_pay13 h) (ix2 0 d)
    = v (ix2 0 d) + ∑ r : Fin 256, gain (A.h (row r)) (dn A (row r)) d := by
  pointwise [k0_pay17, k0_pay13, k0_pay12, k0_pay11]
  exact congrArg _ (Finset.sum_congr rfl fun r _ => (show _ = gain (fun k => h (ix2 r k)) (fun k => dn1 da ga up wg wu (ix2 r k)) d from rfl).trans
    (gain_congr (funext fun k => R.h _ _) (funext fun k => dn1_at A row da ga up wg wu h gh dout z gz wo R r k) d))
/-- The second gain's part. -/
theorem gz1_at (v : FVec Ideal S1x1024 .f32) (d : Fin 1024) : k0_pay23 (F := Ideal) v (k0_pay22 (k0_pay12 h) (k0_pay14 (dn1 da ga up wg wu) h gh) dout z) (ix2 0 d)
    = v (ix2 0 d) + ∑ r : Fin 256, gain (A.z (row r)) (dh A (row r)) d := by
  pointwise [k0_pay23, k0_pay22, k0_pay20, k0_pay19, k0_pay18]
  exact congrArg _ (Finset.sum_congr rfl fun r _ => (show _ = gain (fun k => z (ix2 r k)) (fun k => k0_pay15 (F := Ideal) (k0_pay12 h) (k0_pay14 (dn1 da ga up wg wu) h gh) dout (ix2 r k)) d from rfl).trans
    (gain_congr (funext fun k => R.z _ _) (funext fun k => dh1_at A row da ga up wg wu h gh dout z gz wo R r k) d))

/-- The residual cotangent. -/
theorem dh2_at (r : Fin 256) (d : Fin 1024) : k0_pay28 (F := Ideal) (dn2 da ga up wg wu) h gh dout (ix2 r d) = dh A (row r) d := by
  rw [res2]
  exact congrArg₂ (· + ·) (R.dout _ _) (bwd_congr (funext fun k => R.h _ _) (funext fun k => R.gh _)
    (funext fun k => dn2_at A row da ga up wg wu h gh dout z gz wo R r k) d)
/-- As it is stored. -/
theorem out11_2 (r : Fin 256) (d : Fin 1024) : k0_pay29 (F := Ideal) (dn2 da ga up wg wu) h gh dout (ix2 r d) = dh A (row r) d :=
  dh2_at A row da ga up wg wu h gh dout z gz wo R r d
/-- The cotangent of the mixer's output. -/
theorem dz2_at (r : Fin 256) (d : Fin 1024) : k0_pay34 (F := Ideal) (k0_pay28 (dn2 da ga up wg wu) h gh dout) z gz (ix2 r d) = dz A (row r) d := by
  rw [mix2]
  exact bwd_congr (funext fun k => R.z _ _) (funext fun k => R.gz _) (funext fun k => dh2_at A row da ga up wg wu h gh dout z gz wo R r k) d
/-- The cotangent of the output projection's input. -/
theorem dx2_at (r : Fin 256) (d : Fin 1024) : k0_pay36 (F := Ideal) (k0_pay28 (dn2 da ga up wg wu) h gh dout) z gz wo (ix2 r d) = dx A (row r) d := by
  pointwise [k0_pay36]
  exact Finset.sum_congr rfl fun e _ => congrArg₂ (· * ·) (dz2_at A row da ga up wg wu h gh dout z gz wo R r e) (R.wo _ _)
/-- The first gain's part. -/
theorem gh2_at (v : FVec Ideal S1x1024 .f32) (d : Fin 1024) : k0_pay30 (F := Ideal) (dn2 da ga up wg wu) v (k0_pay27 h) (ix2 0 d)
    = v (ix2 0 d) + ∑ r : Fin 256, gain (A.h (row r)) (dn A (row r)) d := by
  pointwise [k0_pay30, k0_pay27, k0_pay26, k0_pay25]
  exact congrArg _ (Finset.sum_congr rfl fun r _ => (show _ = gain (fun k => h (ix2 r k)) (fun k => dn2 da ga up wg wu (ix2 r k)) d from rfl).trans
    (gain_congr (funext fun k => R.h _ _) (funext fun k => dn2_at A row da ga up wg wu h gh dout z gz wo R r k) d))
/-- The second gain's part. -/
theorem gz2_at (v : FVec Ideal S1x1024 .f32) (d : Fin 1024) : k0_pay35 (F := Ideal) v (k0_pay28 (dn2 da ga up wg wu) h gh dout) z (ix2 0 d)
    = v (ix2 0 d) + ∑ r : Fin 256, gain (A.z (row r)) (dh A (row r)) d := by
  pointwise [k0_pay35, k0_pay33, k0_pay32, k0_pay31]
  exact congrArg _ (Finset.sum_congr rfl fun r _ => (show _ = gain (fun k => z (ix2 r k)) (fun k => k0_pay28 (F := Ideal) (dn2 da ga up wg wu) h gh dout (ix2 r k)) d from rfl).trans
    (gain_congr (funext fun k => R.z _ _) (funext fun k => dh2_at A row da ga up wg wu h gh dout z gz wo R r k) d))

end

end Cert.Kernel2Ideal.FfnTile

end

end
-- ==== Proof.Ffn2Ref.lean ====
/- The reference of the SwiGLU block's input gradient, read at an index on real arguments: the formulas of Ffn2Spec. -/
module

public import proofs.«01_k».proof.Proof.Gen.Reference2Ideal.Read
public import proofs.«01_k».proof.Proof.Ffn2Spec

set_option maxRecDepth 16384

@[expose] public section

noncomputable section

open Idealize.ShloMosaic Idealize.ShloMosaic.TcCoe Idealize.SL.Sem

namespace Cert.Reference2Ideal.FfnRef

open Cert.Reference2Ideal Cert.Reference2Ideal.Gen Cert.Reference2Ideal.Read
open Finite Ffn2

variable (x0 : FVec Ideal S4096x1024 .f32) (x1 : FVec Ideal S1024x1024 .f32) (x2 : FVec Ideal S4096x1024 .f32) (x3 x4 : FVec Ideal S1x1024 .f32)
  (x5 : FVec Ideal S1024x5632 .f32) (x6 : FVec Ideal S4096x2816 .f32) (x7 : FVec Ideal S4096x1024 .f32)

/-- The arrays the gradient reads, of the reference's arguments. -/
def args : Args where
  da t f := x6 (ix2 t f)
  ga t f := val_main_v32 (F := Ideal) x0 x1 x2 x3 x4 x5 (ix2 t ⟨f.val, by omega⟩)
  up t f := val_main_v32 (F := Ideal) x0 x1 x2 x3 x4 x5 (ix2 t ⟨2816 + f.val, by omega⟩)
  wg d f := x5 (ix2 d ⟨f.val, by omega⟩)
  wu d f := x5 (ix2 d ⟨2816 + f.val, by omega⟩)
  h t d := val_main_v16 (F := Ideal) x0 x1 x2 x3 (ix2 t d)
  gh d := x4 (ix2 0 d)
  dout t d := x7 (ix2 t d)
  z t d := val_main_v0 (F := Ideal) x0 x1 (ix2 t d)
  gz d := x3 (ix2 0 d)
  wo d e := x1 (ix2 d e)

/-- Every argument's entries are real. -/
structure Real : Prop where
  r0 : ∀ i, IsReal (x0 i)
  r1 : ∀ i, IsReal (x1 i)
  r2 : ∀ i, IsReal (x2 i)
  r3 : ∀ i, IsReal (x3 i)
  r4 : ∀ i, IsReal (x4 i)
  r5 : ∀ i, IsReal (x5 i)
  r6 : ∀ i, IsReal (x6 i)
  r7 : ∀ i, IsReal (x7 i)

variable (R : Real x0 x1 x2 x3 x4 x5 x6 x7)

section
include R

/-- The mixer's output is real. -/
theorem z_real (t : Fin 4096) (d : Fin 1024) : IsReal (val_main_v0 (F := Ideal) x0 x1 (ix2 t d)) := by
  pointwise [val_main_v0]
  exact IsReal.sum fun k => (R.r0 _).mul (R.r1 _)

/-- The residual stream after the mixer. -/
theorem h_at (t : Fin 4096) (d : Fin 1024) : val_main_v16 (F := Ideal) x0 x1 x2 x3 (ix2 t d)
    = x2 (ix2 t d) + normE (fun k => val_main_v0 (F := Ideal) x0 x1 (ix2 t k)) (fun k => x3 (ix2 0 k)) d := by
  pointwise [val_main_v16, val_main_v15, val_main_v14, val_main_v13, val_main_v12, val_main_v8, val_main_v7, val_main_v6, val_main_v5,
    val_main_v4, val_main_v3, val_main_v2, val_main_v1, val_main_cst, val_main_cst_0, val_main_cst_1]
  rfl

/-- It is real. -/
theorem h_real (t : Fin 4096) (d : Fin 1024) : IsReal (val_main_v16 (F := Ideal) x0 x1 x2 x3 (ix2 t d)) := by
  rw [h_at x0 x1 x2 x3 x4 x5 x6 x7 R]
  exact (R.r2 _).add (isReal_normE (fun k => z_real x0 x1 x2 x3 x4 x5 x6 x7 R t k) (fun k => R.r3 _) d)

/-- The gate and up values are real. -/
theorem pre_real (t : Fin 4096) (f : Fin 5632) : IsReal (val_main_v32 (F := Ideal) x0 x1 x2 x3 x4 x5 (ix2 t f)) := by
  pointwise [val_main_v32, val_main_v31, val_main_v30, val_main_v29, val_main_v28, val_main_v24, val_main_v23, val_main_v22, val_main_v21, val_main_v20,
    val_main_v19, val_main_v18, val_main_v17, val_main_cst_3, val_main_cst_4, val_main_cst_5]
  exact IsReal.sum fun k => (isReal_normE (fun k => h_real x0 x1 x2 x3 x4 x5 x6 x7 R t k) (fun k => R.r4 _) k).mul (R.r5 _)

/-- The gate's gradient. -/
theorem dgate_at (t : Fin 4096) (f : Fin 2816) : val_main_v39 (F := Ideal) x0 x1 x2 x3 x4 x5 x6 (ix2 t f)
    = dgate ((args x0 x1 x2 x3 x4 x5 x6 x7).ga t f) ((args x0 x1 x2 x3 x4 x5 x6 x7).up t f) ((args x0 x1 x2 x3 x4 x5 x6 x7).da t f) := by
  pointwise [val_main_v39, val_main_call1_v0, val_main_call1_v1, val_main_call1_v2, val_main_v38, val_main_v35_2, val_main_v35_1,
    val_main_call0_v7, val_main_call0_v6, val_main_call0_v4, val_main_call0_v3, val_main_call0_v2, val_main_call0_v1, val_main_call0_v0,
    val_main_call0_cst, val_main_call0_cst_0, val_main_call0_cst_1, val_main_v34, val_main_v33]
  exact dgate_eq (pre_real x0 x1 x2 x3 x4 x5 x6 x7 R _ _) (pre_real x0 x1 x2 x3 x4 x5 x6 x7 R _ _) (R.r6 _)

/-- The up projection's gradient. -/
theorem dup_at (t : Fin 4096) (f : Fin 2816) : val_main_v37 (F := Ideal) x0 x1 x2 x3 x4 x5 x6 (ix2 t f)
    = dup ((args x0 x1 x2 x3 x4 x5 x6 x7).ga t f) ((args x0 x1 x2 x3 x4 x5 x6 x7).da t f) := by
  pointwise [val_main_v37, val_main_v35_0, val_main_v33, val_main_v35_2, val_main_call0_v4, val_main_call0_v3, val_main_call0_v2,
    val_main_call0_v1, val_main_call0_v0, val_main_call0_cst, val_main_call0_cst_0]
  exact dup_eq _ _

/-- The cotangent of the normed input. -/
theorem dn_at (t : Fin 4096) (d : Fin 1024) :
    val_main_v41 (F := Ideal) x0 x1 x2 x3 x4 x5 x6 (ix2 t d) = dn (args x0 x1 x2 x3 x4 x5 x6 x7) t d := by
  pointwise [val_main_v41, val_main_v40]
  simp only [dgate_at x0 x1 x2 x3 x4 x5 x6 x7 R, dup_at x0 x1 x2 x3 x4 x5 x6 x7 R]
  rfl

/-- It is real. -/
theorem dn_real (t : Fin 4096) (d : Fin 1024) : IsReal (dn (args x0 x1 x2 x3 x4 x5 x6 x7) t d) :=
  (IsReal.sum fun f => (isReal_dgate (pre_real x0 x1 x2 x3 x4 x5 x6 x7 R _ _) (pre_real x0 x1 x2 x3 x4 x5 x6 x7 R _ _) (R.r6 _)).mul (R.r5 _)).add
    (IsReal.sum fun f => (isReal_dup (pre_real x0 x1 x2 x3 x4 x5 x6 x7 R _ _) (R.r6 _)).mul (R.r5 _))

/-- The cotangent of the residual stream. -/
theorem dh_at (t : Fin 4096) (d : Fin 1024) :
    val_main_v61 (F := Ideal) x0 x1 x2 x3 x4 x5 x6 x7 (ix2 t d) = dh (args x0 x1 x2 x3 x4 x5 x6 x7) t d := by
  pointwise [val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v27, val_main_v26,
    val_main_v25, val_main_v24, val_main_v23, val_main_v22, val_main_v21, val_main_v20, val_main_v19, val_main_v18, val_main_v17,
    val_main_cst_3, val_main_cst_4, val_main_cst_5, val_main_cst_6, val_main_cst_7, val_main_cst_8, val_main_cst_9, val_main_cst_10]
  simp only [dn_at x0 x1 x2 x3 x4 x5 x6 x7 R, Fin.sum_univ_one]
  unfold dh
  rw [← normBwd_eq (x := (args x0 x1 x2 x3 x4 x5 x6 x7).h t) (g := (args x0 x1 x2 x3 x4 x5 x6 x7).gh)
    (fun k => h_real x0 x1 x2 x3 x4 x5 x6 x7 R t k) (fun k => R.r4 _) (fun k => dn_real x0 x1 x2 x3 x4 x5 x6 x7 R t k) d]
  rw [add_assoc, add_assoc, add_assoc]
  rfl

/-- It is real. -/
theorem dh_real (t : Fin 4096) (d : Fin 1024) : IsReal (dh (args x0 x1 x2 x3 x4 x5 x6 x7) t d) :=
  (R.r7 _).add (isReal_normBwd (fun k => h_real x0 x1 x2 x3 x4 x5 x6 x7 R t k) (fun k => R.r4 _) (fun k => dn_real x0 x1 x2 x3 x4 x5 x6 x7 R t k) d)

/-- The cotangent of the mixer's output. -/
theorem dz_at (t : Fin 4096) (d : Fin 1024) :
    val_main_v81 (F := Ideal) x0 x1 x2 x3 x4 x5 x6 x7 (ix2 t d) = dz (args x0 x1 x2 x3 x4 x5 x6 x7) t d := by
  pointwise [val_main_v81, val_main_v80, val_main_v79, val_main_v78, val_main_v77, val_main_v76, val_main_v75, val_main_v74,
    val_main_v73, val_main_v72, val_main_v71, val_main_v70, val_main_v69, val_main_v68, val_main_v67, val_main_v66, val_main_v62,
    val_main_v11, val_main_v10, val_main_v9, val_main_v8, val_main_v7, val_main_v6, val_main_v5, val_main_v4, val_main_v3, val_main_v2, val_main_v1,
    val_main_cst, val_main_cst_0, val_main_cst_1, val_main_cst_2, val_main_cst_12, val_main_cst_13, val_main_cst_14]
  simp only [dh_at x0 x1 x2 x3 x4 x5 x6 x7 R, Fin.sum_univ_one]
  exact normBwd_eq (x := (args x0 x1 x2 x3 x4 x5 x6 x7).z t) (g := (args x0 x1 x2 x3 x4 x5 x6 x7).gz) (dy := dh (args x0 x1 x2 x3 x4 x5 x6 x7) t)
    (fun k => z_real x0 x1 x2 x3 x4 x5 x6 x7 R t k) (fun k => R.r3 _) (fun k => dh_real x0 x1 x2 x3 x4 x5 x6 x7 R t k) d

/-- The first result: the cotangent of the residual stream. -/
theorem out0_at (t : Fin 4096) (d : Fin 1024) :
    val_main_v82 (F := Ideal) x0 x1 x2 x3 x4 x5 x6 x7 (ix2 t d) = dh (args x0 x1 x2 x3 x4 x5 x6 x7) t d := by
  pointwise [val_main_v82, val_main_v62]
  exact dh_at x0 x1 x2 x3 x4 x5 x6 x7 R t d

/-- The second result: the first gain's gradient. -/
theorem out1_at (d : Fin 1024) :
    val_main_v44 (F := Ideal) x0 x1 x2 x3 x4 x5 x6 (ix2 0 d) = dgh (args x0 x1 x2 x3 x4 x5 x6 x7) d := by
  pointwise [val_main_v44, val_main_v43, val_main_v42, val_main_v29, val_main_v28, val_main_v24, val_main_v23, val_main_v22, val_main_v21, val_main_v20,
    val_main_v19, val_main_v18, val_main_v17, val_main_cst_3, val_main_cst_4, val_main_cst_5, val_main_cst_7]
  simp only [dn_at x0 x1 x2 x3 x4 x5 x6 x7 R]
  exact Finset.sum_congr rfl fun t _ => mul_comm _ _

/-- The third result: the cotangent of the mixer's output. -/
theorem out2_at (t : Fin 4096) (d : Fin 1024) :
    val_main_v83 (F := Ideal) x0 x1 x2 x3 x4 x5 x6 x7 (ix2 t d) = dz (args x0 x1 x2 x3 x4 x5 x6 x7) t d := by
  pointwise [val_main_v83]
  exact dz_at x0 x1 x2 x3 x4 x5 x6 x7 R t d

/-- The fourth result: the second gain's gradient. -/
theorem out3_at (d : Fin 1024) :
    val_main_v65 (F := Ideal) x0 x1 x2 x3 x4 x5 x6 x7 (ix2 0 d) = dgz (args x0 x1 x2 x3 x4 x5 x6 x7) d := by
  pointwise [val_main_v65, val_main_v64, val_main_v63, val_main_v62, val_main_v13, val_main_v12, val_main_v8, val_main_v7, val_main_v6, val_main_v5,
    val_main_v4, val_main_v3, val_main_v2, val_main_v1, val_main_cst, val_main_cst_0, val_main_cst_1, val_main_cst_11]
  simp only [dh_at x0 x1 x2 x3 x4 x5 x6 x7 R]
  exact Finset.sum_congr rfl fun t _ => mul_comm _ _

/-- The last result: the cotangent of the output projection's input. -/
theorem out4_at (t : Fin 4096) (d : Fin 1024) :
    val_main_v85 (F := Ideal) x0 x1 x2 x3 x4 x5 x6 x7 (ix2 t d) = dx (args x0 x1 x2 x3 x4 x5 x6 x7) t d := by
  pointwise [val_main_v85, val_main_v84]
  simp only [dz_at x0 x1 x2 x3 x4 x5 x6 x7 R]
  rfl

end

end Cert.Reference2Ideal.FfnRef

end

end
-- ==== Proof.Ffn2Block.lean ====
/- The SwiGLU block's input gradient, block by block: the arrays the kernel leaves are the formulas of Ffn2Spec. -/
module

public import proofs.«01_k».proof.Proof.Ffn2Tile
public import proofs.«01_k».proof.Proof.Ffn2Ref

set_option maxRecDepth 16384

@[expose] public section

noncomputable section

open Idealize.ShloMosaic Idealize.ShloMosaic.TcCoe Idealize.SL.Sem
open Idealize.ShloMosaic.Pipeline (Dat)

namespace Cert.Kernel2Ideal.FfnBlock

open Cert.Kernel2Ideal Cert.Kernel2Ideal.Gen Cert.Kernel2Ideal.FfnTile
open Cert.Reference2Ideal.Read
open Finite Ffn2

variable (m : (ℓ : Loc nD τ sig) → Buf (Elt Ideal) ℓ)

/-- The mixer's input to its output projection. -/
abbrev A0 (c : Dev nD) : FVec Ideal S4096x1024 .f32 := m ((c : Thread nD τ).loc main_arg0)
/-- The output projection. -/
abbrev A1 (c : Dev nD) : FVec Ideal S1024x1024 .f32 := m ((c : Thread nD τ).loc main_arg1)
/-- The residual stream before the mixer. -/
abbrev A2 (c : Dev nD) : FVec Ideal S4096x1024 .f32 := m ((c : Thread nD τ).loc main_arg2)
/-- The mixer output norm's gain. -/
abbrev A3 (c : Dev nD) : FVec Ideal S1x1024 .f32 := m ((c : Thread nD τ).loc main_arg3)
/-- The block norm's gain. -/
abbrev A4 (c : Dev nD) : FVec Ideal S1x1024 .f32 := m ((c : Thread nD τ).loc main_arg4)
/-- The gate and up weights. -/
abbrev A5 (c : Dev nD) : FVec Ideal S1024x5632 .f32 := m ((c : Thread nD τ).loc main_arg5)
/-- The cotangent of the activation. -/
abbrev A6 (c : Dev nD) : FVec Ideal S4096x2816 .f32 := m ((c : Thread nD τ).loc main_arg6)
/-- The cotangent of the residual stream. -/
abbrev A7 (c : Dev nD) : FVec Ideal S4096x1024 .f32 := m ((c : Thread nD τ).loc main_arg7)

/-- The arrays the gradient reads. -/
abbrev AR (c : Dev nD) : Args := Cert.Reference2Ideal.FfnRef.args (A0 m c) (A1 m c) (A2 m c) (A3 m c) (A4 m c) (A5 m c) (A6 m c) (A7 m c)

/-- An array at entry. -/
def DA (c : Dev nD) : FVec Ideal S4096x2816 .bf16 := V m c main_v29
theorem DA_eq (c : Dev nD) : DA m c = truncf .bf16 (A6 m c) bitsLt_bf16_f32 := by
  unfold DA V
  after_results
  try rfl
/-- An array at entry. -/
def ST (c : Dev nD) : FVec Ideal S2x4096x2816 .bf16 := V m c main_v33
theorem ST_eq (c : Dev nD) : ST m c = truncf .bf16 (concatenate S2x4096x2816 0
    [⟨S1x4096x2816, broadcastInDim S1x4096x2816 ![1, 2] bcast_S4096x2816_S1x4096x2816_1_2 (val_main_v33 (F := Ideal) (A0 m c) (A1 m c) (A2 m c) (A3 m c) (A4 m c) (A5 m c))⟩,
     ⟨S1x4096x2816, broadcastInDim S1x4096x2816 ![1, 2] bcast_S4096x2816_S1x4096x2816_1_2 (val_main_v34 (F := Ideal) (A0 m c) (A1 m c) (A2 m c) (A3 m c) (A4 m c) (A5 m c))⟩]
    concatenates_S1x4096x2816_S1x4096x2816_S2x4096x2816_d0) bitsLt_bf16_f32 := by
  unfold ST V
  after_results
  try rfl
/-- An array at entry. -/
def WT (c : Dev nD) : FVec Ideal S1024x5632 .bf16 := V m c main_v34
theorem WT_eq (c : Dev nD) : WT m c = truncf .bf16 (A5 m c) bitsLt_bf16_f32 := by
  unfold WT V
  after_results
  try rfl
/-- An array at entry. -/
def HS (c : Dev nD) : FVec Ideal S4096x1024 .bf16 := V m c main_v35
theorem HS_eq (c : Dev nD) : HS m c = truncf .bf16 (val_main_v16 (F := Ideal) (A0 m c) (A1 m c) (A2 m c) (A3 m c)) bitsLt_bf16_f32 := by
  unfold HS V
  after_results
  try rfl
/-- An array at entry. -/
def DO (c : Dev nD) : FVec Ideal S4096x1024 .bf16 := V m c main_v36
theorem DO_eq (c : Dev nD) : DO m c = truncf .bf16 (A7 m c) bitsLt_bf16_f32 := by
  unfold DO V
  after_results
  try rfl
/-- An array at entry. -/
def ZS (c : Dev nD) : FVec Ideal S4096x1024 .bf16 := V m c main_v37
theorem ZS_eq (c : Dev nD) : ZS m c = truncf .bf16 (val_main_v0 (F := Ideal) (A0 m c) (A1 m c)) bitsLt_bf16_f32 := by
  unfold ZS V
  after_results
  try rfl
/-- An array at entry. -/
def WO (c : Dev nD) : FVec Ideal S1024x1024 .bf16 := V m c main_v38
theorem WO_eq (c : Dev nD) : WO m c = truncf .bf16 (A1 m c) bitsLt_bf16_f32 := by
  unfold WO V
  after_results
  try rfl
theorem DA_at (c : Dev nD) (t : Fin 4096) (f : Fin 2816) : DA m c (ix2 t f) = (AR m c).da t f := by
  rw [DA_eq]
  pointwise
  try rfl
theorem ST_at0 (c : Dev nD) (t : Fin 4096) (f : Fin 2816) : ST m c (ix3 0 t f) = (AR m c).ga t f := by
  rw [ST_eq]
  pointwise [val_main_v33]
  try rfl
theorem ST_at1 (c : Dev nD) (t : Fin 4096) (f : Fin 2816) : ST m c (ix3 1 t f) = (AR m c).up t f := by
  rw [ST_eq]
  pointwise [val_main_v34]
  try rfl
theorem HS_at (c : Dev nD) (t : Fin 4096) (d : Fin 1024) : HS m c (ix2 t d) = (AR m c).h t d := by
  rw [HS_eq]
  pointwise
  try rfl
theorem DO_at (c : Dev nD) (t : Fin 4096) (d : Fin 1024) : DO m c (ix2 t d) = (AR m c).dout t d := by
  rw [DO_eq]
  pointwise
  try rfl
theorem ZS_at (c : Dev nD) (t : Fin 4096) (d : Fin 1024) : ZS m c (ix2 t d) = (AR m c).z t d := by
  rw [ZS_eq]
  pointwise
  try rfl
theorem WO_at (c : Dev nD) (d e : Fin 1024) : WO m c (ix2 d e) = (AR m c).wo d e := by
  rw [WO_eq]
  pointwise
  try rfl
theorem WT_at0 (c : Dev nD) (d : Fin 1024) (f : Fin 2816) : WT m c (ix2 d ⟨f.val, by omega⟩) = (AR m c).wg d f := by
  rw [WT_eq]
  pointwise
  try rfl
theorem WT_at1 (c : Dev nD) (d : Fin 1024) (f : Fin 2816) : WT m c (ix2 d ⟨2816 + f.val, by omega⟩) = (AR m c).wu d f := by
  rw [WT_eq]
  pointwise
  try rfl

/-- Every window's block index at every grid point. -/
theorem idx_val : ∀ t : Fin cfg0.N, win0_0.index t = ![t.val, 0] ∧ win0_1.index t = ![0, t.val, 0] ∧ win0_2.index t = ![1, t.val, 0]
    ∧ win0_3.index t = ![0, 0] ∧ win0_4.index t = ![0, 1] ∧ win0_5.index t = ![t.val, 0] ∧ win0_6.index t = ![0, 0] ∧ win0_7.index t = ![t.val, 0]
    ∧ win0_8.index t = ![t.val, 0] ∧ win0_9.index t = ![0, 0] ∧ win0_10.index t = ![0, 0] ∧ win0_11.index t = ![t.val, 0] ∧ win0_12.index t = ![0, 0]
    ∧ win0_13.index t = ![t.val, 0] ∧ win0_14.index t = ![0, 0] ∧ win0_15.index t = ![t.val, 0] ∧ t.val < 8 :=
  (by decide +kernel : ∀ t : Fin grid0.N, _)
/-- The grid has eight points. -/
theorem lt8 (t : Fin cfg0.N) : t.val < 8 := (idx_val t).2.2.2.2.2.2.2.2.2.2.2.2.2.2.2.2

/-- The row of a sub-tile. -/
def row (t : Fin cfg0.N) (s : Fin 2) (r : Fin 256) : Fin 4096 := ⟨512 * t.val + 256 * s.val + r.val, by have := lt8 t; omega⟩

/-- A load of the first 256 rows. -/
theorem ldA_0 (X : Vec Ideal S512x2816 .bf16) (r : Fin 256) (k : Fin 2816) :
    View.ld (Val := Elt Ideal) (e' := .bf16) X (Rect.unit ![0, 0] ![256, 2816] inb_S512x2816_S256x2816_0_0) (ix2 r k) = X (ix2 ⟨0 + r.val, by omega⟩ k) := by
  pointwise
/-- A load of the first 256 rows. -/
theorem ldB_0 (X : Vec Ideal S512x1024 .bf16) (r : Fin 256) (k : Fin 1024) :
    View.ld (Val := Elt Ideal) (e' := .bf16) X (Rect.unit ![0, 0] ![256, 1024] inb_S512x1024_S256x1024_0_0) (ix2 r k) = X (ix2 ⟨0 + r.val, by omega⟩ k) := by
  pointwise
/-- The same of one layer. -/
theorem ldC_0 (X : Vec Ideal S1x512x2816 .bf16) (r : Fin 256) (k : Fin 2816) :
    View.ld (Val := Elt Ideal) (e' := .bf16) X (Rect.unit ![0, 0, 0] ![1, 256, 2816] inb_S1x512x2816_S1x256x2816_0_0_0) (ix3 0 r k) = X (ix3 0 ⟨0 + r.val, by omega⟩ k) := by
  pointwise
/-- A load of the last 256 rows. -/
theorem ldA_1 (X : Vec Ideal S512x2816 .bf16) (r : Fin 256) (k : Fin 2816) :
    View.ld (Val := Elt Ideal) (e' := .bf16) X (Rect.unit ![256, 0] ![256, 2816] inb_S512x2816_S256x2816_256_0) (ix2 r k) = X (ix2 ⟨256 + r.val, by omega⟩ k) := by
  pointwise
/-- A load of the last 256 rows. -/
theorem ldB_1 (X : Vec Ideal S512x1024 .bf16) (r : Fin 256) (k : Fin 1024) :
    View.ld (Val := Elt Ideal) (e' := .bf16) X (Rect.unit ![256, 0] ![256, 1024] inb_S512x1024_S256x1024_256_0) (ix2 r k) = X (ix2 ⟨256 + r.val, by omega⟩ k) := by
  pointwise
/-- The same of one layer. -/
theorem ldC_1 (X : Vec Ideal S1x512x2816 .bf16) (r : Fin 256) (k : Fin 2816) :
    View.ld (Val := Elt Ideal) (e' := .bf16) X (Rect.unit ![0, 256, 0] ![1, 256, 2816] inb_S1x512x2816_S1x256x2816_0_256_0) (ix3 0 r k) = X (ix3 0 ⟨256 + r.val, by omega⟩ k) := by
  pointwise
/-- A block of 512 rows. -/
theorem rd0 (A : FVec Ideal S4096x2816 .bf16) (t : Fin cfg0.N) (r : Fin 512) (k : Fin 2816) (j : Fin 4096) (hj : j.val = 512 * t.val + r.val) :
    (((cfg0.win 0).blk t).view.read (Elt Ideal) A) (ix2 r k) = A (ix2 j k) := by
  blk_ext [idx_val t]
/-- A block of 512 rows. -/
theorem rd5 (A : FVec Ideal S4096x1024 .bf16) (t : Fin cfg0.N) (r : Fin 512) (k : Fin 1024) (j : Fin 4096) (hj : j.val = 512 * t.val + r.val) :
    (((cfg0.win 5).blk t).view.read (Elt Ideal) A) (ix2 r k) = A (ix2 j k) := by
  blk_ext [idx_val t]
/-- A block of 512 rows. -/
theorem rd7 (A : FVec Ideal S4096x1024 .bf16) (t : Fin cfg0.N) (r : Fin 512) (k : Fin 1024) (j : Fin 4096) (hj : j.val = 512 * t.val + r.val) :
    (((cfg0.win 7).blk t).view.read (Elt Ideal) A) (ix2 r k) = A (ix2 j k) := by
  blk_ext [idx_val t]
/-- A block of 512 rows. -/
theorem rd8 (A : FVec Ideal S4096x1024 .bf16) (t : Fin cfg0.N) (r : Fin 512) (k : Fin 1024) (j : Fin 4096) (hj : j.val = 512 * t.val + r.val) :
    (((cfg0.win 8).blk t).view.read (Elt Ideal) A) (ix2 r k) = A (ix2 j k) := by
  blk_ext [idx_val t]
/-- A block of 512 rows. -/
theorem rd1 (A : FVec Ideal S2x4096x2816 .bf16) (t : Fin cfg0.N) (r : Fin 512) (k : Fin 2816) (j : Fin 4096) (hj : j.val = 512 * t.val + r.val) :
    (((cfg0.win 1).blk t).view.read (Elt Ideal) A) (ix3 0 r k) = A (ix3 0 j k) := by
  blk_ext [idx_val t]
/-- A block of 512 rows. -/
theorem rd2 (A : FVec Ideal S2x4096x2816 .bf16) (t : Fin cfg0.N) (r : Fin 512) (k : Fin 2816) (j : Fin 4096) (hj : j.val = 512 * t.val + r.val) :
    (((cfg0.win 2).blk t).view.read (Elt Ideal) A) (ix3 0 r k) = A (ix3 1 j k) := by
  blk_ext [idx_val t]
theorem rd3 (A : FVec Ideal S1024x5632 .bf16) (t : Fin cfg0.N) (d : Fin 1024) (f : Fin 2816) :
    (((cfg0.win 3).blk t).view.read (Elt Ideal) A) (ix2 d f) = A (ix2 d ⟨f.val, by omega⟩) := by
  blk_ext [idx_val t]
theorem rd4 (A : FVec Ideal S1024x5632 .bf16) (t : Fin cfg0.N) (d : Fin 1024) (f : Fin 2816) :
    (((cfg0.win 4).blk t).view.read (Elt Ideal) A) (ix2 d f) = A (ix2 d ⟨2816 + f.val, by omega⟩) := by
  blk_ext [idx_val t]
theorem rd6 (A : FVec Ideal S1x1024 .f32) (t : Fin cfg0.N) (d : Fin 1024) :
    (((cfg0.win 6).blk t).view.read (Elt Ideal) A) (ix2 0 d) = A (ix2 0 d) := by
  blk_ext [idx_val t]
theorem rd9 (A : FVec Ideal S1x1024 .f32) (t : Fin cfg0.N) (d : Fin 1024) :
    (((cfg0.win 9).blk t).view.read (Elt Ideal) A) (ix2 0 d) = A (ix2 0 d) := by
  blk_ext [idx_val t]
theorem rd10 (A : FVec Ideal S1024x1024 .bf16) (t : Fin cfg0.N) (d e : Fin 1024) :
    (((cfg0.win 10).blk t).view.read (Elt Ideal) A) (ix2 d e) = A (ix2 d e) := by
  blk_ext [idx_val t]

/-- The first sub-tile's loads. -/
theorem reads0 (c : Dev nD) (t : Fin cfg0.N) : Reads (AR m c) (row t 0) (View.ld (iblk m c 0 t) (Rect.unit ![0, 0] ![256, 2816] inb_S512x2816_S256x2816_0_0))
    (View.ld (iblk m c 1 t) (Rect.unit ![0, 0, 0] ![1, 256, 2816] inb_S1x512x2816_S1x256x2816_0_0_0))
    (View.ld (iblk m c 2 t) (Rect.unit ![0, 0, 0] ![1, 256, 2816] inb_S1x512x2816_S1x256x2816_0_0_0))
    (iblk m c 3 t) (iblk m c 4 t)
    (View.ld (iblk m c 5 t) (Rect.unit ![0, 0] ![256, 1024] inb_S512x1024_S256x1024_0_0)) (iblk m c 6 t)
    (View.ld (iblk m c 7 t) (Rect.unit ![0, 0] ![256, 1024] inb_S512x1024_S256x1024_0_0))
    (View.ld (iblk m c 8 t) (Rect.unit ![0, 0] ![256, 1024] inb_S512x1024_S256x1024_0_0)) (iblk m c 9 t)
    (iblk m c 10 t) where
  da r f := ((ldA_0 _ r f).trans (rd0 (DA m c) t ⟨0 + r.val, _⟩ f _ (Nat.add_assoc _ _ _))).trans (DA_at m c _ _)
  ga r f := ((ldC_0 _ r f).trans (rd1 (ST m c) t ⟨0 + r.val, _⟩ f _ (Nat.add_assoc _ _ _))).trans (ST_at0 m c _ _)
  up r f := ((ldC_0 _ r f).trans (rd2 (ST m c) t ⟨0 + r.val, _⟩ f _ (Nat.add_assoc _ _ _))).trans (ST_at1 m c _ _)
  wg d f := (rd3 (WT m c) t d f).trans (WT_at0 m c _ _)
  wu d f := (rd4 (WT m c) t d f).trans (WT_at1 m c _ _)
  h r d := ((ldB_0 _ r d).trans (rd5 (HS m c) t ⟨0 + r.val, _⟩ d _ (Nat.add_assoc _ _ _))).trans (HS_at m c _ _)
  gh d := rd6 (A4 m c) t d
  dout r d := ((ldB_0 _ r d).trans (rd7 (DO m c) t ⟨0 + r.val, _⟩ d _ (Nat.add_assoc _ _ _))).trans (DO_at m c _ _)
  z r d := ((ldB_0 _ r d).trans (rd8 (ZS m c) t ⟨0 + r.val, _⟩ d _ (Nat.add_assoc _ _ _))).trans (ZS_at m c _ _)
  gz d := rd9 (A3 m c) t d
  wo d e := (rd10 (WO m c) t d e).trans (WO_at m c _ _)

/-- The second sub-tile's loads. -/
theorem reads1 (c : Dev nD) (t : Fin cfg0.N) : Reads (AR m c) (row t 1) (View.ld (iblk m c 0 t) (Rect.unit ![256, 0] ![256, 2816] inb_S512x2816_S256x2816_256_0))
    (View.ld (iblk m c 1 t) (Rect.unit ![0, 256, 0] ![1, 256, 2816] inb_S1x512x2816_S1x256x2816_0_256_0))
    (View.ld (iblk m c 2 t) (Rect.unit ![0, 256, 0] ![1, 256, 2816] inb_S1x512x2816_S1x256x2816_0_256_0))
    (iblk m c 3 t) (iblk m c 4 t)
    (View.ld (iblk m c 5 t) (Rect.unit ![256, 0] ![256, 1024] inb_S512x1024_S256x1024_256_0)) (iblk m c 6 t)
    (View.ld (iblk m c 7 t) (Rect.unit ![256, 0] ![256, 1024] inb_S512x1024_S256x1024_256_0))
    (View.ld (iblk m c 8 t) (Rect.unit ![256, 0] ![256, 1024] inb_S512x1024_S256x1024_256_0)) (iblk m c 9 t)
    (iblk m c 10 t) where
  da r f := ((ldA_1 _ r f).trans (rd0 (DA m c) t ⟨256 + r.val, _⟩ f _ (Nat.add_assoc _ _ _))).trans (DA_at m c _ _)
  ga r f := ((ldC_1 _ r f).trans (rd1 (ST m c) t ⟨256 + r.val, _⟩ f _ (Nat.add_assoc _ _ _))).trans (ST_at0 m c _ _)
  up r f := ((ldC_1 _ r f).trans (rd2 (ST m c) t ⟨256 + r.val, _⟩ f _ (Nat.add_assoc _ _ _))).trans (ST_at1 m c _ _)
  wg d f := (rd3 (WT m c) t d f).trans (WT_at0 m c _ _)
  wu d f := (rd4 (WT m c) t d f).trans (WT_at1 m c _ _)
  h r d := ((ldB_1 _ r d).trans (rd5 (HS m c) t ⟨256 + r.val, _⟩ d _ (Nat.add_assoc _ _ _))).trans (HS_at m c _ _)
  gh d := rd6 (A4 m c) t d
  dout r d := ((ldB_1 _ r d).trans (rd7 (DO m c) t ⟨256 + r.val, _⟩ d _ (Nat.add_assoc _ _ _))).trans (DO_at m c _ _)
  z r d := ((ldB_1 _ r d).trans (rd8 (ZS m c) t ⟨256 + r.val, _⟩ d _ (Nat.add_assoc _ _ _))).trans (ZS_at m c _ _)
  gz d := rd9 (A3 m c) t d
  wo d e := (rd10 (WO m c) t d e).trans (WO_at m c _ _)

/-- What a grid point leaves in window 11 is its block. -/
theorem point11 (c : Dev nD) (t : Fin cfg0.N) (y : S512x1024.Idx) (i : S4096x1024.Idx) (hi0 : (i 0 : ℕ) = 512 * t.val + (y 0 : ℕ))
    (hi1 : (i 1 : ℕ) = (y 1 : ℕ)) : ((outsAt0 m c t.val t.isLt).1) y = dh (AR m c) (i 0) (i 1) := by
  have ht := lt8 t
  by_cases hz : t.val % 8 = 0
  · rw [outsAt0_A m c t hz (by omega) hz (by omega)]
    frame_out
    canon_tiles x h
    all_goals idx_vars x
    · exact (out11_2 _ _ _ _ _ _ _ _ _ _ _ _ _ (reads1 m c t) x0 x1).trans (congrArg₂ (dh (AR m c)) (Fin.ext (show 512 * t.val + 256 * 1 + x0.val = _ by omega)) (Fin.ext (by omega)))
    · exact (out11_1 _ _ _ _ _ _ _ _ _ _ _ _ _ (reads0 m c t) x0 x1).trans (congrArg₂ (dh (AR m c)) (Fin.ext (show 512 * t.val + 256 * 0 + x0.val = _ by omega)) (Fin.ext (by omega)))
  · rw [outsAt0_B m c t hz (by omega) hz (by omega)]
    frame_out
    canon_tiles x h
    all_goals idx_vars x
    · exact (out11_2 _ _ _ _ _ _ _ _ _ _ _ _ _ (reads1 m c t) x0 x1).trans (congrArg₂ (dh (AR m c)) (Fin.ext (show 512 * t.val + 256 * 1 + x0.val = _ by omega)) (Fin.ext (by omega)))
    · exact (out11_1 _ _ _ _ _ _ _ _ _ _ _ _ _ (reads0 m c t) x0 x1).trans (congrArg₂ (dh (AR m c)) (Fin.ext (show 512 * t.val + 256 * 0 + x0.val = _ by omega)) (Fin.ext (by omega)))

/-- The array of window 11 after the run. -/
theorem final11 (c : Dev nD) : (dats m 0 c).arrAt 11 (cfgs 0).N = fun i => dh (AR m c) (i 0) (i 1) := by
  refine (dats m 0 c).arrAt_eq_of_covers 11 _ (by decide +kernel) fun t hf y => ?_
  blk_simp; rw [after0_11]
  refine point11 m c t y _ ?_ ?_
  · blk_simp [idx_val t] <;> try omega
  · blk_simp [idx_val t] <;> try omega

/-- What a grid point leaves in window 13 is its block. -/
theorem point13 (c : Dev nD) (t : Fin cfg0.N) (y : S512x1024.Idx) (i : S4096x1024.Idx) (hi0 : (i 0 : ℕ) = 512 * t.val + (y 0 : ℕ))
    (hi1 : (i 1 : ℕ) = (y 1 : ℕ)) : ((outsAt0 m c t.val t.isLt).2.2.1) y = dz (AR m c) (i 0) (i 1) := by
  have ht := lt8 t
  by_cases hz : t.val % 8 = 0
  · rw [outsAt0_A m c t hz (by omega) hz (by omega)]
    frame_out
    canon_tiles x h
    all_goals idx_vars x
    · exact (dz2_at _ _ _ _ _ _ _ _ _ _ _ _ _ (reads1 m c t) x0 x1).trans (congrArg₂ (dz (AR m c)) (Fin.ext (show 512 * t.val + 256 * 1 + x0.val = _ by omega)) (Fin.ext (by omega)))
    · exact (dz1_at _ _ _ _ _ _ _ _ _ _ _ _ _ (reads0 m c t) x0 x1).trans (congrArg₂ (dz (AR m c)) (Fin.ext (show 512 * t.val + 256 * 0 + x0.val = _ by omega)) (Fin.ext (by omega)))
  · rw [outsAt0_B m c t hz (by omega) hz (by omega)]
    frame_out
    canon_tiles x h
    all_goals idx_vars x
    · exact (dz2_at _ _ _ _ _ _ _ _ _ _ _ _ _ (reads1 m c t) x0 x1).trans (congrArg₂ (dz (AR m c)) (Fin.ext (show 512 * t.val + 256 * 1 + x0.val = _ by omega)) (Fin.ext (by omega)))
    · exact (dz1_at _ _ _ _ _ _ _ _ _ _ _ _ _ (reads0 m c t) x0 x1).trans (congrArg₂ (dz (AR m c)) (Fin.ext (show 512 * t.val + 256 * 0 + x0.val = _ by omega)) (Fin.ext (by omega)))

/-- The array of window 13 after the run. -/
theorem final13 (c : Dev nD) : (dats m 0 c).arrAt 13 (cfgs 0).N = fun i => dz (AR m c) (i 0) (i 1) := by
  refine (dats m 0 c).arrAt_eq_of_covers 13 _ (by decide +kernel) fun t hf y => ?_
  blk_simp; rw [after0_13]
  refine point13 m c t y _ ?_ ?_
  · blk_simp [idx_val t] <;> try omega
  · blk_simp [idx_val t] <;> try omega

/-- What a grid point leaves in window 15 is its block. -/
theorem point15 (c : Dev nD) (t : Fin cfg0.N) (y : S512x1024.Idx) (i : S4096x1024.Idx) (hi0 : (i 0 : ℕ) = 512 * t.val + (y 0 : ℕ))
    (hi1 : (i 1 : ℕ) = (y 1 : ℕ)) : ((outsAt0 m c t.val t.isLt).2.2.2.2) y = dx (AR m c) (i 0) (i 1) := by
  have ht := lt8 t
  by_cases hz : t.val % 8 = 0
  · rw [outsAt0_A m c t hz (by omega) hz (by omega)]
    frame_out
    canon_tiles x h
    all_goals idx_vars x
    · exact (dx2_at _ _ _ _ _ _ _ _ _ _ _ _ _ (reads1 m c t) x0 x1).trans (congrArg₂ (dx (AR m c)) (Fin.ext (show 512 * t.val + 256 * 1 + x0.val = _ by omega)) (Fin.ext (by omega)))
    · exact (dx1_at _ _ _ _ _ _ _ _ _ _ _ _ _ (reads0 m c t) x0 x1).trans (congrArg₂ (dx (AR m c)) (Fin.ext (show 512 * t.val + 256 * 0 + x0.val = _ by omega)) (Fin.ext (by omega)))
  · rw [outsAt0_B m c t hz (by omega) hz (by omega)]
    frame_out
    canon_tiles x h
    all_goals idx_vars x
    · exact (dx2_at _ _ _ _ _ _ _ _ _ _ _ _ _ (reads1 m c t) x0 x1).trans (congrArg₂ (dx (AR m c)) (Fin.ext (show 512 * t.val + 256 * 1 + x0.val = _ by omega)) (Fin.ext (by omega)))
    · exact (dx1_at _ _ _ _ _ _ _ _ _ _ _ _ _ (reads0 m c t) x0 x1).trans (congrArg₂ (dx (AR m c)) (Fin.ext (show 512 * t.val + 256 * 0 + x0.val = _ by omega)) (Fin.ext (by omega)))

/-- The array of window 15 after the run. -/
theorem final15 (c : Dev nD) : (dats m 0 c).arrAt 15 (cfgs 0).N = fun i => dx (AR m c) (i 0) (i 1) := by
  refine (dats m 0 c).arrAt_eq_of_covers 15 _ (by decide +kernel) fun t hf y => ?_
  blk_simp; rw [after0_15]
  refine point15 m c t y _ ?_ ?_
  · blk_simp [idx_val t] <;> try omega
  · blk_simp [idx_val t] <;> try omega

/-- A sum over the rows, sub-tile by sub-tile. -/
theorem sum_tiles (f : Fin 4096 → EReal) : ∑ n, f n = ∑ t : Fin cfg0.N, (∑ r, f (row t 0 r) + ∑ r, f (row t 1 r)) := by
  rw [Fin.sum_univ_tiles 8 512 rfl f]
  refine Finset.sum_congr rfl fun t _ => ?_
  rw [Fin.sum_univ_tiles 2 256 rfl, Fin.sum_univ_two]
  refine congrArg₂ (· + ·) (Finset.sum_congr rfl fun r _ => congrArg f (Fin.ext ?_)) (Finset.sum_congr rfl fun r _ => congrArg f (Fin.ext ?_))
  · show t.val * 512 + (0 * 256 + r.val) = 512 * t.val + 256 * 0 + r.val; omega
  · show t.val * 512 + (1 * 256 + r.val) = 512 * t.val + 256 * 1 + r.val; omega

/-- A grid point's part of the gain's gradient. -/
def part12 (c : Dev nD) (t : Fin cfg0.N) (d : Fin 1024) : EReal := ∑ r, gain ((AR m c).h (row t 0 r)) (dn (AR m c) (row t 0 r)) d + ∑ r, gain ((AR m c).h (row t 1 r)) (dn (AR m c) (row t 1 r)) d
/-- The first point starts the sum. -/
theorem step12_A (c : Dev nD) (t : Fin cfg0.N) (hz : t.val % 8 = 0) (y : S1x1024.Idx) :
    ((outsAt0 m c t.val t.isLt).2.1) y = 0 + part12 m c t (y 1) := by
  have ht := lt8 t
  rw [outsAt0_A m c t hz (by omega) hz (by omega)]
  frame_out
  idx_vars y
  obtain rfl : y0 = 0 := Subsingleton.elim _ _
  refine (gh2_at _ _ _ _ _ _ _ _ _ _ _ _ _ (reads1 m c t) _ y1).trans ?_
  refine (congrArg (· + _) (gh1_at _ _ _ _ _ _ _ _ _ _ _ _ _ (reads0 m c t) _ y1)).trans ?_
  pointwise [k0_pay9, k0_pay10]
  rfl
/-- What a later point stores. -/
theorem add_at12 (v w : FVec Ideal S1x1024 .f32) (d : Fin 1024) : k0_pay1 (F := Ideal) v w (ix2 0 d) = w (ix2 0 d) + v (ix2 0 d) := by
  pointwise [k0_pay1]
/-- A later point adds to it. -/
theorem step12_B (c : Dev nD) (t : Fin cfg0.N) (hz : ¬t.val % 8 = 0) (y : S1x1024.Idx) :
    ((outsAt0 m c t.val t.isLt).2.1) y = ((outsAt0 m c (t.val - 1) (Nat.lt_of_le_of_lt (Nat.sub_le _ _) t.isLt)).2.1) y + part12 m c t (y 1) := by
  have ht := lt8 t
  rw [outsAt0_B m c t hz (by omega) hz (by omega)]
  frame_out
  idx_vars y
  obtain rfl : y0 = 0 := Subsingleton.elim _ _
  refine (add_at12 _ _ y1).trans (congrArg (_ + ·) ?_)
  refine (gh2_at _ _ _ _ _ _ _ _ _ _ _ _ _ (reads1 m c t) _ y1).trans ?_
  refine (congrArg (· + _) (gh1_at _ _ _ _ _ _ _ _ _ _ _ _ _ (reads0 m c t) _ y1)).trans ?_
  pointwise [k0_pay9, k0_pay10]
  rfl
/-- The gain's gradient after the run. -/
theorem final12 (c : Dev nD) : (dats m 0 c).arrAt 12 (cfgs 0).N = fun i => dgh (AR m c) (i 1) := by
  refine (dats m 0 c).arrAt_eq_of_after_last 12 t0_7 (by decide +kernel) _ fun j => ?_
  blk_simp
  rw [after0_12, Pipeline.eq_sum_fin_of_reset_step_apply_last (fun n h => (outsAt0 m c n h).2.1) 8 (fun _ => 0)
    (fun t y => part12 m c t (y 1))
    (fun t h j => step12_A m c t h j) (fun t h j => step12_B m c t h j) (le_of_eq N_0) t0_7 rfl j, zero_add]
  refine (sum_tiles (fun t => gain ((AR m c).h t) (dn (AR m c) t) (j 1))).symm

/-- A grid point's part of the gain's gradient. -/
def part14 (c : Dev nD) (t : Fin cfg0.N) (d : Fin 1024) : EReal := ∑ r, gain ((AR m c).z (row t 0 r)) (dh (AR m c) (row t 0 r)) d + ∑ r, gain ((AR m c).z (row t 1 r)) (dh (AR m c) (row t 1 r)) d
/-- The first point starts the sum. -/
theorem step14_A (c : Dev nD) (t : Fin cfg0.N) (hz : t.val % 8 = 0) (y : S1x1024.Idx) :
    ((outsAt0 m c t.val t.isLt).2.2.2.1) y = 0 + part14 m c t (y 1) := by
  have ht := lt8 t
  rw [outsAt0_A m c t hz (by omega) hz (by omega)]
  frame_out
  idx_vars y
  obtain rfl : y0 = 0 := Subsingleton.elim _ _
  refine (gz2_at _ _ _ _ _ _ _ _ _ _ _ _ _ (reads1 m c t) _ y1).trans ?_
  refine (congrArg (· + _) (gz1_at _ _ _ _ _ _ _ _ _ _ _ _ _ (reads0 m c t) _ y1)).trans ?_
  pointwise [k0_pay9, k0_pay10]
  rfl
/-- What a later point stores. -/
theorem add_at14 (v w : FVec Ideal S1x1024 .f32) (d : Fin 1024) : k0_pay2 (F := Ideal) v w (ix2 0 d) = w (ix2 0 d) + v (ix2 0 d) := by
  pointwise [k0_pay2]
/-- A later point adds to it. -/
theorem step14_B (c : Dev nD) (t : Fin cfg0.N) (hz : ¬t.val % 8 = 0) (y : S1x1024.Idx) :
    ((outsAt0 m c t.val t.isLt).2.2.2.1) y = ((outsAt0 m c (t.val - 1) (Nat.lt_of_le_of_lt (Nat.sub_le _ _) t.isLt)).2.2.2.1) y + part14 m c t (y 1) := by
  have ht := lt8 t
  rw [outsAt0_B m c t hz (by omega) hz (by omega)]
  frame_out
  idx_vars y
  obtain rfl : y0 = 0 := Subsingleton.elim _ _
  refine (add_at14 _ _ y1).trans (congrArg (_ + ·) ?_)
  refine (gz2_at _ _ _ _ _ _ _ _ _ _ _ _ _ (reads1 m c t) _ y1).trans ?_
  refine (congrArg (· + _) (gz1_at _ _ _ _ _ _ _ _ _ _ _ _ _ (reads0 m c t) _ y1)).trans ?_
  pointwise [k0_pay9, k0_pay10]
  rfl
/-- The gain's gradient after the run. -/
theorem final14 (c : Dev nD) : (dats m 0 c).arrAt 14 (cfgs 0).N = fun i => dgz (AR m c) (i 1) := by
  refine (dats m 0 c).arrAt_eq_of_after_last 14 t0_7 (by decide +kernel) _ fun j => ?_
  blk_simp
  rw [after0_14, Pipeline.eq_sum_fin_of_reset_step_apply_last (fun n h => (outsAt0 m c n h).2.2.2.1) 8 (fun _ => 0)
    (fun t y => part14 m c t (y 1))
    (fun t h j => step14_A m c t h j) (fun t h j => step14_B m c t h j) (le_of_eq N_0) t0_7 rfl j, zero_add]
  refine (sum_tiles (fun t => gain ((AR m c).z t) (dh (AR m c) t) (j 1))).symm

end Cert.Kernel2Ideal.FfnBlock

end

end
-- ==== Proof.FinitePre.lean ====
/- What the preconditions say: every entry of every argument is real. -/
module

public import proofs.«01_k».proof.Proof.Gen.Pre_finite2
public import proofs.«01_k».proof.Proof.Gen.Pre_finite3
public import proofs.«01_k».proof.Proof.Ffn2Ref

@[expose] public section

noncomputable section

open Idealize.ShloMosaic Idealize.SL.Sem

namespace Finite

/-- The three-projection kernel's precondition. -/
theorem of_finite3 (x0 : FVec Ideal Cert.Pre_finite3.S4096x1024 .f32) (x1 : FVec Ideal Cert.Pre_finite3.S1x1024 .f32)
    (x2 : FVec Ideal Cert.Pre_finite3.S1024x5632 .f32) (x3 : FVec Ideal Cert.Pre_finite3.S4096x2816 .f32)
    (h : Cert.Pre_finite3.fn (F := Ideal) x0 x1 x2 x3 = fun _ => 1#1) :
    (∀ i, IsReal (x0 i)) ∧ (∀ i, IsReal (x1 i)) ∧ (∀ i, IsReal (x2 i)) ∧ (∀ i, IsReal (x3 i)) := by
  have e := congrFun h ix0
  unfold Cert.Pre_finite3.fn Cert.Pre_finite3.fn_part1 at e
  dsimp only at e
  obtain ⟨e, e3⟩ := andi_split _ _ _ e
  obtain ⟨e, e2⟩ := andi_split _ _ _ e
  obtain ⟨e, e1⟩ := andi_split _ _ _ e
  obtain ⟨e, e0⟩ := andi_split _ _ _ e
  exact ⟨real_of_reduce _ _ _ _ _ _ e0, real_of_reduce _ _ _ _ _ _ e1, real_of_reduce _ _ _ _ _ _ e2, real_of_reduce _ _ _ _ _ _ e3⟩

/-- The input gradient's precondition. -/
theorem of_finite2 (x0 : FVec Ideal Cert.Pre_finite2.S4096x1024 .f32) (x1 : FVec Ideal Cert.Pre_finite2.S1024x1024 .f32)
    (x2 : FVec Ideal Cert.Pre_finite2.S4096x1024 .f32) (x3 x4 : FVec Ideal Cert.Pre_finite2.S1x1024 .f32)
    (x5 : FVec Ideal Cert.Pre_finite2.S1024x5632 .f32) (x6 : FVec Ideal Cert.Pre_finite2.S4096x2816 .f32)
    (x7 : FVec Ideal Cert.Pre_finite2.S4096x1024 .f32)
    (h : Cert.Pre_finite2.fn (F := Ideal) x0 x1 x2 x3 x4 x5 x6 x7 = fun _ => 1#1) :
    Cert.Reference2Ideal.FfnRef.Real x0 x1 x2 x3 x4 x5 x6 x7 := by
  have e := congrFun h ix0
  unfold Cert.Pre_finite2.fn Cert.Pre_finite2.fn_part1 Cert.Pre_finite2.fn_part2 at e
  dsimp only at e
  obtain ⟨e, e7⟩ := andi_split _ _ _ e
  obtain ⟨e, e6⟩ := andi_split _ _ _ e
  obtain ⟨e, e5⟩ := andi_split _ _ _ e
  obtain ⟨e, e4⟩ := andi_split _ _ _ e
  obtain ⟨e, e3⟩ := andi_split _ _ _ e
  obtain ⟨e, e2⟩ := andi_split _ _ _ e
  obtain ⟨e, e1⟩ := andi_split _ _ _ e
  obtain ⟨e, e0⟩ := andi_split _ _ _ e
  exact ⟨real_of_reduce _ _ _ _ _ _ e0, real_of_reduce _ _ _ _ _ _ e1, real_of_reduce _ _ _ _ _ _ e2, real_of_reduce _ _ _ _ _ _ e3,
    real_of_reduce _ _ _ _ _ _ e4, real_of_reduce _ _ _ _ _ _ e5, real_of_reduce _ _ _ _ _ _ e6, real_of_reduce _ _ _ _ _ _ e7⟩

end Finite

end

end
-- ==== Proof.Ffn2Claim.lean ====
/- The claims about the SwiGLU block's input gradient. -/
module

public import proofs.«01_k».proof.Defs
public import proofs.«01_k».proof.Proof.Gen.Kernel2.Frame
public import proofs.«01_k».proof.Proof.Gen.Reference2Ideal.Run
public import proofs.«01_k».proof.Proof.Ffn2Block
public import proofs.«01_k».proof.Proof.FinitePre

set_option maxRecDepth 16384

@[expose] public section

noncomputable section

open Idealize.ShloMosaic Idealize.SL.Sem

namespace Cert.Proof

set_option maxHeartbeats 2000000 in
/-- On finite arguments the kernel's five arrays are the reference's. -/
theorem value_ffn2 : Cert.algebraic_Kernel2Ideal_Reference2Ideal_pre_finite2 := fun m ρ m' ρ' hp hag =>
  ⟨fun c i => Ffn2.dh (Cert.Kernel2Ideal.FfnBlock.AR m c) (i 0) (i 1),
    fun c i => Ffn2.dgh (Cert.Kernel2Ideal.FfnBlock.AR m c) (i 1),
    fun c i => Ffn2.dz (Cert.Kernel2Ideal.FfnBlock.AR m c) (i 0) (i 1),
    fun c i => Ffn2.dgz (Cert.Kernel2Ideal.FfnBlock.AR m c) (i 1),
    fun c i => Ffn2.dx (Cert.Kernel2Ideal.FfnBlock.AR m c) (i 0) (i 1),
    (θ_run _ _ _).mono (fun _ h c => ⟨(h c).1.trans (Cert.Kernel2Ideal.FfnBlock.final11 m c),
      (h c).2.1.trans (Cert.Kernel2Ideal.FfnBlock.final12 m c),
      (h c).2.2.1.trans (Cert.Kernel2Ideal.FfnBlock.final13 m c),
      (h c).2.2.2.1.trans (Cert.Kernel2Ideal.FfnBlock.final14 m c),
      (h c).2.2.2.2.1.trans (Cert.Kernel2Ideal.FfnBlock.final15 m c),
      (h c).2.2.2.2.2⟩) (Cert.Kernel2Ideal.Value.run_blocks m ρ),
    (θ_run _ _ _).mono (fun _ h c => ⟨by
        have f := Finite.of_finite2 _ _ _ _ _ _ _ _ (hp c)
        refine (h c).1.trans ((Cert.Reference2Ideal.Read.val_main_v82_eq _).trans ?_)
        show Cert.Reference2Ideal.Read.val_main_v82 (F := Ideal) (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4)) (m' ((c.tc : Thread _ _).loc Cert.Reference2Ideal.main_arg5)) (m' ((c.tc : Thread _ _).loc Cert.Reference2Ideal.main_arg6)) (m' ((c.tc : Thread _ _).loc Cert.Reference2Ideal.main_arg7)) = _
        rw [(hag c).1, (hag c).2.1, (hag c).2.2.1, (hag c).2.2.2.1, (hag c).2.2.2.2.1, (hag c).2.2.2.2.2.1, (hag c).2.2.2.2.2.2.1, (hag c).2.2.2.2.2.2.2]
        funext i
        idx_vars i

        exact Cert.Reference2Ideal.FfnRef.out0_at _ _ _ _ _ _ _ _ f i0 i1,
      by
        have f := Finite.of_finite2 _ _ _ _ _ _ _ _ (hp c)
        refine (h c).2.1.trans ((Cert.Reference2Ideal.Read.val_main_v44_eq _).trans ?_)
        show Cert.Reference2Ideal.Read.val_main_v44 (F := Ideal) (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4)) (m' ((c.tc : Thread _ _).loc Cert.Reference2Ideal.main_arg5)) (m' ((c.tc : Thread _ _).loc Cert.Reference2Ideal.main_arg6)) = _
        rw [(hag c).1, (hag c).2.1, (hag c).2.2.1, (hag c).2.2.2.1, (hag c).2.2.2.2.1, (hag c).2.2.2.2.2.1, (hag c).2.2.2.2.2.2.1]
        funext i
        idx_vars i
        obtain rfl : i0 = 0 := Subsingleton.elim _ _
        exact Cert.Reference2Ideal.FfnRef.out1_at _ _ _ _ _ _ _ _ f i1,
      by
        have f := Finite.of_finite2 _ _ _ _ _ _ _ _ (hp c)
        refine (h c).2.2.1.trans ((Cert.Reference2Ideal.Read.val_main_v83_eq _).trans ?_)
        show Cert.Reference2Ideal.Read.val_main_v83 (F := Ideal) (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4)) (m' ((c.tc : Thread _ _).loc Cert.Reference2Ideal.main_arg5)) (m' ((c.tc : Thread _ _).loc Cert.Reference2Ideal.main_arg6)) (m' ((c.tc : Thread _ _).loc Cert.Reference2Ideal.main_arg7)) = _
        rw [(hag c).1, (hag c).2.1, (hag c).2.2.1, (hag c).2.2.2.1, (hag c).2.2.2.2.1, (hag c).2.2.2.2.2.1, (hag c).2.2.2.2.2.2.1, (hag c).2.2.2.2.2.2.2]
        funext i
        idx_vars i

        exact Cert.Reference2Ideal.FfnRef.out2_at _ _ _ _ _ _ _ _ f i0 i1,
      by
        have f := Finite.of_finite2 _ _ _ _ _ _ _ _ (hp c)
        refine (h c).2.2.2.1.trans ((Cert.Reference2Ideal.Read.val_main_v65_eq _).trans ?_)
        show Cert.Reference2Ideal.Read.val_main_v65 (F := Ideal) (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4)) (m' ((c.tc : Thread _ _).loc Cert.Reference2Ideal.main_arg5)) (m' ((c.tc : Thread _ _).loc Cert.Reference2Ideal.main_arg6)) (m' ((c.tc : Thread _ _).loc Cert.Reference2Ideal.main_arg7)) = _
        rw [(hag c).1, (hag c).2.1, (hag c).2.2.1, (hag c).2.2.2.1, (hag c).2.2.2.2.1, (hag c).2.2.2.2.2.1, (hag c).2.2.2.2.2.2.1, (hag c).2.2.2.2.2.2.2]
        funext i
        idx_vars i
        obtain rfl : i0 = 0 := Subsingleton.elim _ _
        exact Cert.Reference2Ideal.FfnRef.out3_at _ _ _ _ _ _ _ _ f i1,
      by
        have f := Finite.of_finite2 _ _ _ _ _ _ _ _ (hp c)
        refine (h c).2.2.2.2.1.trans ((Cert.Reference2Ideal.Read.val_main_v85_eq _).trans ?_)
        show Cert.Reference2Ideal.Read.val_main_v85 (F := Ideal) (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg3)) (m' ((c.tc : Thread _ _).loc Cert.Reference2Ideal.main_arg4)) (m' ((c.tc : Thread _ _).loc Cert.Reference2Ideal.main_arg5)) (m' ((c.tc : Thread _ _).loc Cert.Reference2Ideal.main_arg6)) (m' ((c.tc : Thread _ _).loc Cert.Reference2Ideal.main_arg7)) = _
        rw [(hag c).1, (hag c).2.1, (hag c).2.2.1, (hag c).2.2.2.1, (hag c).2.2.2.2.1, (hag c).2.2.2.2.2.1, (hag c).2.2.2.2.2.2.1, (hag c).2.2.2.2.2.2.2]
        funext i
        idx_vars i

        exact Cert.Reference2Ideal.FfnRef.out4_at _ _ _ _ _ _ _ _ f i0 i1,
      (h c).2.2.2.2.2⟩) (Cert.Reference2Ideal.Value.run m' ρ')⟩

end Cert.Proof

end

end
-- ==== Proof.Ffn3Ref.lean ====
/- The reference of the gradient of the gate and up projections, read at an index on real arguments. -/
module

public import proofs.«01_k».proof.Proof.Gen.Reference3Ideal.Read
public import proofs.«01_k».proof.Proof.NormSpec

set_option maxRecDepth 16384

@[expose] public section

noncomputable section

open Idealize.ShloMosaic Idealize.ShloMosaic.TcCoe Idealize.SL.Sem

namespace Cert.Reference3Ideal.FfnRef

open Cert.Reference3Ideal Cert.Reference3Ideal.Gen Cert.Reference3Ideal.Read
open Finite

variable (x0 : FVec Ideal S4096x1024 .f32) (x1 : FVec Ideal S1x1024 .f32) (x2 : FVec Ideal S1024x5632 .f32) (x3 : FVec Ideal S4096x2816 .f32)

/-- The normed input. -/
theorem xn_at (t : Fin 4096) (d : Fin 1024) :
    val_main_v11 (F := Ideal) x0 x1 (ix2 t d) = normE (fun k => x0 (ix2 t k)) (fun k => x1 (ix2 0 k)) d := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

/-- The gate and up values are real. -/
theorem pre_real (h0 : ∀ i, IsReal (x0 i)) (h1 : ∀ i, IsReal (x1 i)) (h2 : ∀ i, IsReal (x2 i)) (t : Fin 4096) (f : Fin 5632) :
    IsReal (val_main_v12 (F := Ideal) x0 x1 x2 (ix2 t f)) := by
  pointwise [val_main_v12]
  refine IsReal.sum fun k => ?_
  rw [xn_at]
  exact (isReal_normE (fun k => h0 _) (fun k => h1 _) k).mul (h2 _)

/-- The gate's value. -/
abbrev gate (t : Fin 4096) (f : Fin 2816) : EReal := val_main_v12 (F := Ideal) x0 x1 x2 (ix2 t ⟨f.val, by omega⟩)
/-- The up projection's value. -/
abbrev up (t : Fin 4096) (f : Fin 2816) : EReal := val_main_v12 (F := Ideal) x0 x1 x2 (ix2 t ⟨2816 + f.val, by omega⟩)

/-- The gate's gradient. -/
theorem dgate_at (h0 : ∀ i, IsReal (x0 i)) (h1 : ∀ i, IsReal (x1 i)) (h2 : ∀ i, IsReal (x2 i)) (h3 : ∀ i, IsReal (x3 i)) (t : Fin 4096) (f : Fin 2816) :
    val_main_v19 (F := Ideal) x0 x1 x2 x3 (ix2 t f) = dgate (gate x0 x1 x2 t f) (up x0 x1 x2 t f) (x3 (ix2 t f)) := by
  pointwise [val_main_v19, val_main_call1_v0, val_main_call1_v1, val_main_call1_v2, val_main_v18, val_main_v15_2, val_main_v15_1,
    val_main_call0_v7, val_main_call0_v6, val_main_call0_v4, val_main_call0_v3, val_main_call0_v2, val_main_call0_v1, val_main_call0_v0,
    val_main_call0_cst, val_main_call0_cst_0, val_main_call0_cst_1, val_main_v14, val_main_v13]
  exact dgate_eq (pre_real x0 x1 x2 h0 h1 h2 _ _) (pre_real x0 x1 x2 h0 h1 h2 _ _) (h3 _)

/-- The up projection's gradient. -/
theorem dup_at (t : Fin 4096) (f : Fin 2816) :
    val_main_v17 (F := Ideal) x0 x1 x2 x3 (ix2 t f) = dup (gate x0 x1 x2 t f) (x3 (ix2 t f)) := by
  pointwise [val_main_v17, val_main_v15_0, val_main_v13, val_main_v15_2, val_main_call0_v4, val_main_call0_v3, val_main_call0_v2,
    val_main_call0_v1, val_main_call0_v0, val_main_call0_cst, val_main_call0_cst_0]
  exact dup_eq _ _

/-- The result: the gradients of the two halves of the weight, stacked. -/
theorem dw_at (h0 : ∀ i, IsReal (x0 i)) (h1 : ∀ i, IsReal (x1 i)) (h2 : ∀ i, IsReal (x2 i)) (h3 : ∀ i, IsReal (x3 i))
    (s : Fin 2) (d : Fin 1024) (f : Fin 2816) :
    val_main_v28 (F := Ideal) x0 x1 x2 x3 (ix3 s d f)
      = if s.val < 1 then ∑ t, val_main_v11 (F := Ideal) x0 x1 (ix2 t d) * dgate (gate x0 x1 x2 t f) (up x0 x1 x2 t f) (x3 (ix2 t f))
        else ∑ t, val_main_v11 (F := Ideal) x0 x1 (ix2 t d) * dup (gate x0 x1 x2 t f) (x3 (ix2 t f)) := by
  pointwise [val_main_v28, val_main_v27, val_main_v26, val_main_v25, val_main_v24, val_main_v23, val_main_v22, val_main_v21, val_main_v20]
  refine ite_congr rfl (fun _ => ?_) fun _ => ?_
  · exact Finset.sum_congr rfl fun t _ => by rw [dgate_at x0 x1 x2 x3 h0 h1 h2 h3, mul_comm]
  · exact Finset.sum_congr rfl fun t _ => by rw [dup_at, mul_comm]

end Cert.Reference3Ideal.FfnRef

end

end
-- ==== Proof.Ffn3Block.lean ====
/- The gradient of the gate and up projections, block by block: the array the kernel leaves is the reference's formula. -/
module

public import proofs.«01_k».proof.Proof.Gen.Kernel3Ideal.Value
public import proofs.«01_k».proof.Proof.Ffn3Ref

set_option maxRecDepth 16384

@[expose] public section

noncomputable section

open Idealize.ShloMosaic Idealize.ShloMosaic.TcCoe Idealize.SL.Sem
open Idealize.ShloMosaic.Pipeline (Dat)

namespace Cert.Kernel3Ideal.FfnBlock

open Cert.Kernel3Ideal Cert.Kernel3Ideal.Gen
open Cert.Reference3Ideal.Read Cert.Reference3Ideal.FfnRef
open Finite

variable (m : (ℓ : Loc nD τ sig) → Buf (Elt Ideal) ℓ)

/-- The layer's input. -/
abbrev A0 (c : Dev nD) : FVec Ideal S4096x1024 .f32 := m ((c : Thread nD τ).loc main_arg0)
/-- The norm's gain. -/
abbrev A1 (c : Dev nD) : FVec Ideal S1x1024 .f32 := m ((c : Thread nD τ).loc main_arg1)
/-- The gate and up weights. -/
abbrev A2 (c : Dev nD) : FVec Ideal S1024x5632 .f32 := m ((c : Thread nD τ).loc main_arg2)
/-- The cotangent of the activation. -/
abbrev A3 (c : Dev nD) : FVec Ideal S4096x2816 .f32 := m ((c : Thread nD τ).loc main_arg3)

/-- The first window's array at entry. -/
def XN (c : Dev nD) : FVec Ideal S1024x4096 .bf16 := V m c main_v16
/-- The second window's array at entry. -/
def DA (c : Dev nD) : FVec Ideal S4096x2816 .bf16 := V m c main_v17
/-- The array of the third and fourth windows at entry. -/
def ST (c : Dev nD) : FVec Ideal S2x4096x2816 .bf16 := V m c main_v21

/-- It is the normed input, transposed. -/
theorem XN_eq (c : Dev nD) : XN m c = truncf .bf16 (transpose S1024x4096 [1, 0] (val_main_v11 (F := Ideal) (A0 m c) (A1 m c)) transposes_S4096x1024_S1024x4096_1_0) bitsLt_bf16_f32 := by
  unfold XN V
  after_results
  try rfl
/-- It is the cotangent. -/
theorem DA_eq (c : Dev nD) : DA m c = truncf .bf16 (A3 m c) bitsLt_bf16_f32 := by
  unfold DA V
  after_results
  try rfl
/-- It is the gate's and the up projection's values, stacked. -/
theorem ST_eq (c : Dev nD) : ST m c = truncf .bf16 (concatenate S2x4096x2816 0
    [⟨S1x4096x2816, broadcastInDim S1x4096x2816 ![1, 2] bcast_S4096x2816_S1x4096x2816_1_2 (val_main_v13 (F := Ideal) (A0 m c) (A1 m c) (A2 m c))⟩,
     ⟨S1x4096x2816, broadcastInDim S1x4096x2816 ![1, 2] bcast_S4096x2816_S1x4096x2816_1_2 (val_main_v14 (F := Ideal) (A0 m c) (A1 m c) (A2 m c))⟩]
    concatenates_S1x4096x2816_S1x4096x2816_S2x4096x2816_d0) bitsLt_bf16_f32 := by
  unfold ST V
  after_results
  try rfl

theorem XN_at (c : Dev nD) (d : Fin 1024) (t : Fin 4096) : XN m c (ix2 d t) = val_main_v11 (F := Ideal) (A0 m c) (A1 m c) (ix2 t d) := by
  rw [XN_eq]
  pointwise
theorem DA_at (c : Dev nD) (t : Fin 4096) (f : Fin 2816) : DA m c (ix2 t f) = A3 m c (ix2 t f) := by
  rw [DA_eq]
  pointwise
theorem ST_at0 (c : Dev nD) (t : Fin 4096) (f : Fin 2816) : ST m c (ix3 0 t f) = gate (A0 m c) (A1 m c) (A2 m c) t f := by
  rw [ST_eq]
  pointwise [val_main_v13]
theorem ST_at1 (c : Dev nD) (t : Fin 4096) (f : Fin 2816) : ST m c (ix3 1 t f) = up (A0 m c) (A1 m c) (A2 m c) t f := by
  rw [ST_eq]
  pointwise [val_main_v14]

/-- Every window's block index at every grid point. -/
theorem idx_val : ∀ t : Fin cfg0.N, win0_0.index t = ![0, 0] ∧ win0_1.index t = ![0, t.val] ∧ win0_2.index t = ![0, 0, t.val]
    ∧ win0_3.index t = ![1, 0, t.val] ∧ win0_4.index t = ![0, 0, t.val] ∧ t.val < 11 :=
  (by decide +kernel : ∀ t : Fin grid0.N, _)

/-- The weights' gradient at an index. -/
def dwAt (c : Dev nD) (s : Fin 2) (d : Fin 1024) (f : Fin 2816) : EReal :=
  if s.val < 1 then ∑ t, XN m c (ix2 d t) * dgate (ST m c (ix3 0 t f)) (ST m c (ix3 1 t f)) (DA m c (ix2 t f))
  else ∑ t, XN m c (ix2 d t) * dup (ST m c (ix3 0 t f)) (DA m c (ix2 t f))
/-- The weights' gradient. -/
def dw (c : Dev nD) : FVec Ideal S2x1024x2816 .bf16 := fun i => dwAt m c (i 0) (i 1) (i 2)

/-- The grid has eleven points. -/
theorem lt11 (t : Fin cfg0.N) : t.val < 11 := (idx_val t).2.2.2.2.2

/-- A block of the first window is the whole array. -/
theorem rd0 (A : FVec Ideal S1024x4096 .bf16) (t : Fin cfg0.N) (d : Fin 1024) (k : Fin 4096) :
    ((cfg0.win 0).blk t).view.read (Elt Ideal) A (ix2 d k) = A (ix2 d k) := by
  blk_ext [idx_val t]
/-- A block of the second window is 256 columns. -/
theorem rd1 (A : FVec Ideal S4096x2816 .bf16) (t : Fin cfg0.N) (k : Fin 4096) (f : Fin 256) (j : Fin 2816) (hj : j.val = 256 * t.val + f.val) :
    ((cfg0.win 1).blk t).view.read (Elt Ideal) A (ix2 k f) = A (ix2 k j) := by
  blk_ext [idx_val t]
/-- A block of the third window is 256 columns of the first layer. -/
theorem rd2 (A : FVec Ideal S2x4096x2816 .bf16) (t : Fin cfg0.N) (k : Fin 4096) (f : Fin 256) (j : Fin 2816) (hj : j.val = 256 * t.val + f.val) :
    ((cfg0.win 2).blk t).view.read (Elt Ideal) A (ix3 0 k f) = A (ix3 0 k j) := by
  blk_ext [idx_val t]
/-- A block of the fourth window is 256 columns of the second layer. -/
theorem rd3 (A : FVec Ideal S2x4096x2816 .bf16) (t : Fin cfg0.N) (k : Fin 4096) (f : Fin 256) (j : Fin 2816) (hj : j.val = 256 * t.val + f.val) :
    ((cfg0.win 3).blk t).view.read (Elt Ideal) A (ix3 0 k f) = A (ix3 1 k j) := by
  blk_ext [idx_val t]

/-- The gate half of a block. -/
theorem half0 (c : Dev nD) (t : Fin cfg0.N) (d : Fin 1024) (f : Fin 256) (i : S2x1024x2816.Idx)
    (hi0 : (i 0 : ℕ) = 0) (hi1 : (i 1 : ℕ) = d.val) (hi2 : (i 2 : ℕ) = 256 * t.val + f.val) :
    k0_pay4 (F := Ideal) (iblk m c 1 t) (iblk m c 2 t) (iblk m c 3 t) (iblk m c 0 t) (ix3 0 d f) = dw m c i := by
  have ht := lt11 t
  idx_vars i
  pointwise [k0_pay4, k0_pay3, k0_pay2, k0_pay1]
  show _ = dwAt m c i0 i1 i2
  unfold dwAt
  refine Eq.trans ?_ (if_pos (show i0.val < 1 by omega)).symm
  refine Finset.sum_congr rfl fun k _ => ?_
  obtain rfl : i1 = d := Fin.ext hi1
  exact congrArg₂ (· * ·) (rd0 (XN m c) t i1 k)
    (dgate_congr (rd2 (ST m c) t k f i2 hi2) (rd3 (ST m c) t k f i2 hi2) (rd1 (DA m c) t k f i2 hi2))

/-- The up half of a block. -/
theorem half1 (c : Dev nD) (t : Fin cfg0.N) (d : Fin 1024) (f : Fin 256) (i : S2x1024x2816.Idx)
    (hi0 : (i 0 : ℕ) = 1) (hi1 : (i 1 : ℕ) = d.val) (hi2 : (i 2 : ℕ) = 256 * t.val + f.val) :
    k0_pay5 (F := Ideal) (iblk m c 1 t) (iblk m c 2 t) (iblk m c 0 t) (ix3 0 d f) = dw m c i := by
  have ht := lt11 t
  idx_vars i
  pointwise [k0_pay5, k0_pay3, k0_pay2, k0_pay1]
  show _ = dwAt m c i0 i1 i2
  unfold dwAt
  refine Eq.trans ?_ (if_neg (show ¬ i0.val < 1 by omega)).symm
  refine Finset.sum_congr rfl fun k _ => ?_
  obtain rfl : i1 = d := Fin.ext hi1
  exact congrArg₂ (· * ·) (rd0 (XN m c) t i1 k) (congrArg₂ dup (rd2 (ST m c) t k f i2 hi2) (rd1 (DA m c) t k f i2 hi2))

/-- What a grid point leaves is its block of the gradient. -/
theorem point4 (c : Dev nD) (t : Fin cfg0.N) (y : S2x1024x256.Idx) (i : S2x1024x2816.Idx) (hi0 : (i 0 : ℕ) = (y 0 : ℕ))
    (hi1 : (i 1 : ℕ) = (y 1 : ℕ)) (hi2 : (i 2 : ℕ) = 256 * t.val + (y 2 : ℕ)) :
    out0_4 (F := Ideal) (iblk m c 0 t) (iblk m c 1 t) (iblk m c 2 t) (iblk m c 3 t) y = dw m c i := by
  frame_out
  canon_tiles x h
  all_goals idx_vars x
  · obtain rfl : x0 = 0 := Subsingleton.elim _ _; exact half1 m c t x1 x2 i (by omega) (by omega) (by omega)
  · obtain rfl : x0 = 0 := Subsingleton.elim _ _; exact half0 m c t x1 x2 i (by omega) (by omega) (by omega)

/-- The weights' gradient after the run. -/
theorem final4 (c : Dev nD) : (dats m 0 c).arrAt 4 (cfgs 0).N = dw m c := by
  refine (dats m 0 c).arrAt_eq_of_covers 4 _ (by decide +kernel) fun t hf y => ?_
  blk_simp; rw [after0_4]
  refine point4 m c t y _ ?_ ?_ ?_
  · blk_simp [idx_val t] <;> try omega
  · blk_simp [idx_val t] <;> try omega
  · blk_simp [idx_val t] <;> try omega

/-- On real arguments it is the reference's result. -/
theorem dw_eq (c : Dev nD) (h0 : ∀ i, IsReal (A0 m c i)) (h1 : ∀ i, IsReal (A1 m c i)) (h2 : ∀ i, IsReal (A2 m c i)) (h3 : ∀ i, IsReal (A3 m c i)) :
    dw m c = val_main_v28 (F := Ideal) (A0 m c) (A1 m c) (A2 m c) (A3 m c) := by
  funext i
  idx_vars i
  rw [dw_at _ _ _ _ h0 h1 h2 h3]
  show dwAt m c i0 i1 i2 = _
  unfold dwAt
  simp only [XN_at, ST_at0, ST_at1, DA_at]

end Cert.Kernel3Ideal.FfnBlock

end

end
-- ==== Proof.Ffn3Claim.lean ====
/- The claims about the gradient of the gate and up projections. -/
module

public import proofs.«01_k».proof.Defs
public import proofs.«01_k».proof.Proof.Gen.Kernel3.Frame
public import proofs.«01_k».proof.Proof.Gen.Reference3Ideal.Run
public import proofs.«01_k».proof.Proof.Ffn3Block
public import proofs.«01_k».proof.Proof.FinitePre

set_option maxRecDepth 16384

@[expose] public section

noncomputable section

open Idealize.ShloMosaic Idealize.SL.Sem

namespace Cert.Proof

/-- On finite arguments the kernel's array is the reference's. -/
theorem value_ffn3 : Cert.algebraic_Kernel3Ideal_Reference3Ideal_pre_finite3 := fun m ρ m' ρ' hp hag =>
  ⟨fun c => Cert.Kernel3Ideal.FfnBlock.dw m c,
    (θ_run _ _ _).mono (fun _ h c => ⟨(h c).1.trans (Cert.Kernel3Ideal.FfnBlock.final4 m c), (h c).2⟩) (Cert.Kernel3Ideal.Value.run_blocks m ρ),
    (θ_run _ _ _).mono (fun _ h c => ⟨by
        have f := Finite.of_finite3 _ _ _ _ (hp c)
        refine (h c).1.trans ((Cert.Reference3Ideal.Read.val_main_v28_eq _ _).trans ?_)
        rw [(hag c).1, (hag c).2.1, (hag c).2.2.1, (hag c).2.2.2]
        exact (Cert.Kernel3Ideal.FfnBlock.dw_eq m c f.1 f.2.1 f.2.2.1 f.2.2.2).symm,
      (h c).2⟩) (Cert.Reference3Ideal.Value.run m' ρ')⟩

end Cert.Proof

end

end
-- ==== Proof.InRef.lean ====
/- The forward pass of the SwiGLU block's input half, read at an index: the norm, the two projections and the gated product. -/
module

public import proofs.«01_k».proof.Proof.Gen.Reference4Ideal.Read
public import proofs.«01_k».proof.Proof.NormSpec

set_option maxRecDepth 16384

@[expose] public section

noncomputable section

open Idealize.ShloMosaic Idealize.ShloMosaic.TcCoe Idealize.SL.Sem

namespace Cert.Reference4Ideal.InRef

open Cert.Reference4Ideal Cert.Reference4Ideal.Gen Cert.Reference4Ideal.Read
open Finite

variable (x0 : FVec Ideal S4096x1024 .bf16) (x1 : FVec Ideal S1x1024 .f32) (x2 : FVec Ideal S1024x5632 .bf16)

/-- The normed input. -/
def xn (t : Fin 4096) (d : Fin 1024) : EReal := normE (fun k => x0 (ix2 t k)) (fun k => x1 (ix2 0 k)) d
/-- The joint projection of the normed input. -/
def pre (t : Fin 4096) (j : Fin 5632) : EReal := ∑ d, xn x0 x1 t d * x2 (ix2 d j)
/-- The gate's value. -/
def gate (t : Fin 4096) (f : Fin 2816) : EReal := pre x0 x1 x2 t ⟨f.val, by omega⟩
/-- The up projection's value. -/
def up (t : Fin 4096) (f : Fin 2816) : EReal := pre x0 x1 x2 t ⟨2816 + f.val, by omega⟩
/-- Both, one after the other. -/
def both (s : Fin 2) (t : Fin 4096) (f : Fin 2816) : EReal := if s.val < 1 then gate x0 x1 x2 t f else up x0 x1 x2 t f
/-- The activation. -/
def act (t : Fin 4096) (f : Fin 2816) : EReal := gate x0 x1 x2 t f * Ideal.logistic (gate x0 x1 x2 t f) * up x0 x1 x2 t f

theorem xn_at (t : Fin 4096) (d : Fin 1024) : val_main_v12 (F := Ideal) x0 x1 (ix2 t d) = xn x0 x1 t d := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

theorem pre_at (t : Fin 4096) (j : Fin 5632) : val_main_v14 (F := Ideal) x0 x1 x2 (ix2 t j) = pre x0 x1 x2 t j := by
  pointwise [val_main_v14, val_main_v13]
  exact Finset.sum_congr rfl fun d _ => congrArg (· * _) (xn_at x0 x1 t d)

theorem gate_at (t : Fin 4096) (f : Fin 2816) : val_main_v15 (F := Ideal) x0 x1 x2 (ix2 t f) = gate x0 x1 x2 t f := by
  pointwise [val_main_v15]
  exact pre_at x0 x1 x2 t _
theorem up_at (t : Fin 4096) (f : Fin 2816) : val_main_v16 (F := Ideal) x0 x1 x2 (ix2 t f) = up x0 x1 x2 t f := by
  pointwise [val_main_v16]
  exact pre_at x0 x1 x2 t _

/-- The first result: the gate's and the up projection's values. -/
theorem both_at (s : Fin 2) (t : Fin 4096) (f : Fin 2816) : val_main_v20 (F := Ideal) x0 x1 x2 (ix3 s t f) = both x0 x1 x2 s t f := by
  pointwise [val_main_v20, val_main_v19, val_main_v18, val_main_v17]
  exact ite_congr rfl (fun _ => gate_at x0 x1 x2 t f) fun _ => up_at x0 x1 x2 t f
/-- The second: the activation. -/
theorem act_at (t : Fin 4096) (f : Fin 2816) : val_main_v23 (F := Ideal) x0 x1 x2 (ix2 t f) = act x0 x1 x2 t f := by
  unfold act
  rw [← gate_at, ← up_at]
  pointwise [val_main_v23, val_main_v22, val_main_v21, val_main_call0_v5, val_main_call0_v4, val_main_call0_v3, val_main_call0_v2,
    val_main_call0_v1, val_main_call0_v0, val_main_call0_cst, val_main_call0_cst_0]
  rfl
/-- The third: the normed input, transposed. -/
theorem xt_at (d : Fin 1024) (t : Fin 4096) : val_main_v25 (F := Ideal) x0 x1 (ix2 d t) = xn x0 x1 t d := by
  pointwise [val_main_v25, val_main_v24]
  exact xn_at x0 x1 t d

end Cert.Reference4Ideal.InRef

end

end
-- ==== Proof.InBlock.lean ====
/- The forward pass of the SwiGLU block's input half, block by block: the arrays the kernel leaves are the formulas of InRef. -/
module

public import proofs.«01_k».proof.Proof.Gen.Kernel4Ideal.Value
public import proofs.«01_k».proof.Proof.InRef

set_option maxRecDepth 16384

@[expose] public section

noncomputable section

open Idealize.ShloMosaic Idealize.ShloMosaic.TcCoe Idealize.SL.Sem
open Idealize.ShloMosaic.Pipeline (Dat)

namespace Cert.Kernel4Ideal.InBlock

open Cert.Kernel4Ideal Cert.Kernel4Ideal.Gen
open Cert.Reference4Ideal.InRef
open Finite

/-- The loaded vectors are the rows `row` of the input, the gain and the two halves of the weight. -/
structure Reads (A0 : FVec Ideal S4096x1024 .bf16) (A1 : FVec Ideal S1x1024 .f32) (A2 : FVec Ideal S1024x5632 .bf16) (row : Fin 256 → Fin 4096)
    (h : Vec Ideal S256x1024 .bf16) (g : Vec Ideal S1x1024 .f32) (wg wu : Vec Ideal S1024x2816 .bf16) : Prop where
  h : ∀ r d, h (ix2 r d) = A0 (ix2 (row r) d)
  g : ∀ d, g (ix2 0 d) = A1 (ix2 0 d)
  wg : ∀ d f, wg (ix2 d f) = A2 (ix2 d ⟨f.val, by omega⟩)
  wu : ∀ d f, wu (ix2 d f) = A2 (ix2 d ⟨2816 + f.val, by omega⟩)

section
variable (A0 : FVec Ideal S4096x1024 .bf16) (A1 : FVec Ideal S1x1024 .f32) (A2 : FVec Ideal S1024x5632 .bf16) (row : Fin 256 → Fin 4096)
  (h : Vec Ideal S256x1024 .bf16) (g : Vec Ideal S1x1024 .f32) (wg wu : Vec Ideal S1024x2816 .bf16) (R : Reads A0 A1 A2 row h g wg wu)
include R

/-- The normed rows. -/
theorem xn1_at (r : Fin 256) (d : Fin 1024) : k0_pay2 (F := Ideal) h g (ix2 r d) = xn A0 A1 (row r) d := by
  refine (show _ = normE (fun k => h (ix2 r k)) (fun k => g (ix2 0 k)) d from ?_).trans ?_
  · pointwise [k0_pay2]
    rfl
  · simp only [R.h, R.g]
    rfl
/-- The gate's rows. -/
theorem ga1_at (r : Fin 256) (f : Fin 2816) : k0_pay6 (F := Ideal) h g wg (ix2 r f) = gate A0 A1 A2 (row r) f := by
  pointwise [k0_pay6, k0_pay4]
  exact Finset.sum_congr rfl fun d _ => congrArg₂ (· * ·) (xn1_at A0 A1 A2 row h g wg wu R r d) (R.wg d f)
/-- The up projection's rows. -/
theorem up1_at (r : Fin 256) (f : Fin 2816) : k0_pay8 (F := Ideal) (k0_pay4 h g) wu (ix2 r f) = up A0 A1 A2 (row r) f := by
  pointwise [k0_pay8, k0_pay4]
  exact Finset.sum_congr rfl fun d _ => congrArg₂ (· * ·) (xn1_at A0 A1 A2 row h g wg wu R r d) (R.wu d f)
/-- As they are stored. -/
theorem sga1_at (r : Fin 256) (f : Fin 2816) : k0_pay10 (F := Ideal) (k0_pay6 h g wg) (ix3 0 r f) = gate A0 A1 A2 (row r) f := by
  refine Eq.trans ?_ (ga1_at A0 A1 A2 row h g wg wu R r f)
  pointwise [k0_pay10]
theorem sup1_at (r : Fin 256) (f : Fin 2816) : k0_pay11 (F := Ideal) (k0_pay4 h g) wu (ix3 0 r f) = up A0 A1 A2 (row r) f := by
  refine Eq.trans ?_ (up1_at A0 A1 A2 row h g wg wu R r f)
  pointwise [k0_pay11]
/-- The activation's rows. -/
theorem act1_at (r : Fin 256) (f : Fin 2816) : k0_pay12 (F := Ideal) (k0_pay4 h g) (k0_pay6 h g wg) wu (ix2 r f) = act A0 A1 A2 (row r) f := by
  unfold act
  rw [← ga1_at A0 A1 A2 row h g wg wu R r f, ← up1_at A0 A1 A2 row h g wg wu R r f]
  pointwise [k0_pay12]
/-- The normed rows. -/
theorem xn2_at (r : Fin 256) (d : Fin 1024) : k0_pay3 (F := Ideal) h g (ix2 r d) = xn A0 A1 (row r) d := by
  refine (show _ = normE (fun k => h (ix2 r k)) (fun k => g (ix2 0 k)) d from ?_).trans ?_
  · pointwise [k0_pay3]
    rfl
  · simp only [R.h, R.g]
    rfl
/-- The gate's rows. -/
theorem ga2_at (r : Fin 256) (f : Fin 2816) : k0_pay7 (F := Ideal) h g wg (ix2 r f) = gate A0 A1 A2 (row r) f := by
  pointwise [k0_pay7, k0_pay5]
  exact Finset.sum_congr rfl fun d _ => congrArg₂ (· * ·) (xn2_at A0 A1 A2 row h g wg wu R r d) (R.wg d f)
/-- The up projection's rows. -/
theorem up2_at (r : Fin 256) (f : Fin 2816) : k0_pay9 (F := Ideal) (k0_pay5 h g) wu (ix2 r f) = up A0 A1 A2 (row r) f := by
  pointwise [k0_pay9, k0_pay5]
  exact Finset.sum_congr rfl fun d _ => congrArg₂ (· * ·) (xn2_at A0 A1 A2 row h g wg wu R r d) (R.wu d f)
/-- As they are stored. -/
theorem sga2_at (r : Fin 256) (f : Fin 2816) : k0_pay13 (F := Ideal) (k0_pay7 h g wg) (ix3 0 r f) = gate A0 A1 A2 (row r) f := by
  refine Eq.trans ?_ (ga2_at A0 A1 A2 row h g wg wu R r f)
  pointwise [k0_pay13]
theorem sup2_at (r : Fin 256) (f : Fin 2816) : k0_pay14 (F := Ideal) (k0_pay5 h g) wu (ix3 0 r f) = up A0 A1 A2 (row r) f := by
  refine Eq.trans ?_ (up2_at A0 A1 A2 row h g wg wu R r f)
  pointwise [k0_pay14]
/-- The activation's rows. -/
theorem act2_at (r : Fin 256) (f : Fin 2816) : k0_pay15 (F := Ideal) (k0_pay5 h g) (k0_pay7 h g wg) wu (ix2 r f) = act A0 A1 A2 (row r) f := by
  unfold act
  rw [← ga2_at A0 A1 A2 row h g wg wu R r f, ← up2_at A0 A1 A2 row h g wg wu R r f]
  pointwise [k0_pay15]
/-- The transposed rows. -/
theorem xt1_at (d : Fin 1024) (r : Fin 256) : k0_pay16 (F := Ideal) (k0_pay2 h g) (ix2 d r) = xn A0 A1 (row r) d := by
  pointwise [k0_pay16]
  exact xn1_at A0 A1 A2 row h g wg wu R r d
theorem xt2_at (d : Fin 1024) (r : Fin 256) : k0_pay1 (F := Ideal) (k0_pay17 (k0_pay3 h g)) (ix2 d r) = xn A0 A1 (row r) d := by
  pointwise [k0_pay1, k0_pay17]
  exact xn2_at A0 A1 A2 row h g wg wu R r d
end

variable (m : (ℓ : Loc nD τ sig) → Buf (Elt Ideal) ℓ)

/-- The block's input. -/
abbrev A0 (c : Dev nD) : FVec Ideal S4096x1024 .bf16 := m ((c : Thread nD τ).loc main_arg0)
/-- The norm's gain. -/
abbrev A1 (c : Dev nD) : FVec Ideal S1x1024 .f32 := m ((c : Thread nD τ).loc main_arg1)
/-- The gate and up weights. -/
abbrev A2 (c : Dev nD) : FVec Ideal S1024x5632 .bf16 := m ((c : Thread nD τ).loc main_arg2)

/-- Every window's block index at every grid point. -/
theorem idx_val : ∀ t : Fin cfg0.N, win0_0.index t = ![t.val, 0] ∧ win0_1.index t = ![0, 0] ∧ win0_2.index t = ![0, 0]
    ∧ win0_3.index t = ![0, 1] ∧ win0_4.index t = ![0, t.val, 0] ∧ win0_5.index t = ![t.val, 0] ∧ win0_6.index t = ![0, t.val] ∧ t.val < 8 :=
  (by decide +kernel : ∀ t : Fin grid0.N, _)
/-- The grid has eight points. -/
theorem lt8 (t : Fin cfg0.N) : t.val < 8 := (idx_val t).2.2.2.2.2.2.2

/-- The row of a sub-tile. -/
def row (t : Fin cfg0.N) (s : Fin 2) (r : Fin 256) : Fin 4096 := ⟨512 * t.val + 256 * s.val + r.val, by have := lt8 t; omega⟩

/-- A load of the first 256 rows. -/
theorem ld_0 (X : Vec Ideal S512x1024 .bf16) (r : Fin 256) (k : Fin 1024) :
    View.ld (Val := Elt Ideal) (e' := .bf16) X (Rect.unit ![0, 0] ![256, 1024] inb_S512x1024_S256x1024_0_0) (ix2 r k) = X (ix2 ⟨0 + r.val, by omega⟩ k) := by
  pointwise
/-- A load of the last 256 rows. -/
theorem ld_1 (X : Vec Ideal S512x1024 .bf16) (r : Fin 256) (k : Fin 1024) :
    View.ld (Val := Elt Ideal) (e' := .bf16) X (Rect.unit ![256, 0] ![256, 1024] inb_S512x1024_S256x1024_256_0) (ix2 r k) = X (ix2 ⟨256 + r.val, by omega⟩ k) := by
  pointwise
/-- A block of 512 rows. -/
theorem rd0 (A : FVec Ideal S4096x1024 .bf16) (t : Fin cfg0.N) (r : Fin 512) (k : Fin 1024) (j : Fin 4096) (hj : j.val = 512 * t.val + r.val) :
    (((cfg0.win 0).blk t).view.read (Elt Ideal) A) (ix2 r k) = A (ix2 j k) := by
  blk_ext [idx_val t]
theorem rd1 (A : FVec Ideal S1x1024 .f32) (t : Fin cfg0.N) (d : Fin 1024) :
    (((cfg0.win 1).blk t).view.read (Elt Ideal) A) (ix2 0 d) = A (ix2 0 d) := by
  blk_ext [idx_val t]
theorem rd2 (A : FVec Ideal S1024x5632 .bf16) (t : Fin cfg0.N) (d : Fin 1024) (f : Fin 2816) :
    (((cfg0.win 2).blk t).view.read (Elt Ideal) A) (ix2 d f) = A (ix2 d ⟨f.val, by omega⟩) := by
  blk_ext [idx_val t]
theorem rd3 (A : FVec Ideal S1024x5632 .bf16) (t : Fin cfg0.N) (d : Fin 1024) (f : Fin 2816) :
    (((cfg0.win 3).blk t).view.read (Elt Ideal) A) (ix2 d f) = A (ix2 d ⟨2816 + f.val, by omega⟩) := by
  blk_ext [idx_val t]

/-- The first sub-tile's loads. -/
theorem reads0 (c : Dev nD) (t : Fin cfg0.N) : Reads (A0 m c) (A1 m c) (A2 m c) (row t 0)
    (View.ld (iblk m c 0 t) (Rect.unit ![0, 0] ![256, 1024] inb_S512x1024_S256x1024_0_0)) (iblk m c 1 t) (iblk m c 2 t) (iblk m c 3 t) where
  h r d := (ld_0 _ r d).trans (rd0 (A0 m c) t ⟨0 + r.val, _⟩ d _ (Nat.add_assoc _ _ _))
  g d := rd1 (A1 m c) t d
  wg d f := rd2 (A2 m c) t d f
  wu d f := rd3 (A2 m c) t d f
/-- The second sub-tile's. -/
theorem reads1 (c : Dev nD) (t : Fin cfg0.N) : Reads (A0 m c) (A1 m c) (A2 m c) (row t 1)
    (View.ld (iblk m c 0 t) (Rect.unit ![256, 0] ![256, 1024] inb_S512x1024_S256x1024_256_0)) (iblk m c 1 t) (iblk m c 2 t) (iblk m c 3 t) where
  h r d := (ld_1 _ r d).trans (rd0 (A0 m c) t ⟨256 + r.val, _⟩ d _ (Nat.add_assoc _ _ _))
  g d := rd1 (A1 m c) t d
  wg d f := rd2 (A2 m c) t d f
  wu d f := rd3 (A2 m c) t d f

/-- The row an array index of a block belongs to. -/
theorem row_eq {t : Fin cfg0.N} {s : Fin 2} {r : Fin 256} {j : Fin 4096} (h : j.val = 512 * t.val + (256 * s.val + r.val)) : row t s r = j :=
  Fin.ext (by show 512 * t.val + 256 * s.val + r.val = j.val; omega)

/-- Loads of whole blocks. -/
theorem ldg (X : Vec Ideal S1x1024 .f32) : View.ld (Val := Elt Ideal) (e' := .f32) X r0_1 = X := View.ld_unit_lit' _ X (by decide)
theorem ldw (X : Vec Ideal S1024x2816 .bf16) : View.ld (Val := Elt Ideal) (e' := .bf16) X r0_3 = X := View.ld_unit_lit' _ X (by decide)

/-- What a grid point leaves in the first output's buffer is its block. -/
theorem point4 (c : Dev nD) (t : Fin cfg0.N) (y : S2x512x2816.Idx) (i : S2x4096x2816.Idx) (hi0 : (i 0 : ℕ) = (y 0 : ℕ))
    (hi1 : (i 1 : ℕ) = 512 * t.val + (y 1 : ℕ)) (hi2 : (i 2 : ℕ) = (y 2 : ℕ)) :
    out0_4 (F := Ideal) (iblk m c 0 t) (iblk m c 1 t) (iblk m c 2 t) (iblk m c 3 t) y = both (A0 m c) (A1 m c) (A2 m c) (i 0) (i 1) (i 2) := by
  unfold both
  frame_out
  canon_tiles x h
  all_goals idx_vars x
  all_goals try simp only [k0_pay18, k0_pay19, k0_pay20, k0_pay21, ldg, ldw]
  all_goals obtain rfl : x0 = 0 := Subsingleton.elim _ _
  · exact ((sup2_at _ _ _ _ _ _ _ _ (reads1 m c t) x1 x2).trans (congrArg₂ _ (row_eq (by simp; omega)) (Fin.ext (by omega)))).trans (if_neg (by omega)).symm
  · exact ((sga2_at _ _ _ _ _ _ _ _ (reads1 m c t) x1 x2).trans (congrArg₂ _ (row_eq (by simp; omega)) (Fin.ext (by omega)))).trans (if_pos (by omega)).symm
  · exact ((sup1_at _ _ _ _ _ _ _ _ (reads0 m c t) x1 x2).trans (congrArg₂ _ (row_eq (by simp; omega)) (Fin.ext (by omega)))).trans (if_neg (by omega)).symm
  · exact ((sga1_at _ _ _ _ _ _ _ _ (reads0 m c t) x1 x2).trans (congrArg₂ _ (row_eq (by simp; omega)) (Fin.ext (by omega)))).trans (if_pos (by omega)).symm
/-- In the second's. -/
theorem point5 (c : Dev nD) (t : Fin cfg0.N) (y : S512x2816.Idx) (i : S4096x2816.Idx) (hi0 : (i 0 : ℕ) = 512 * t.val + (y 0 : ℕ))
    (hi1 : (i 1 : ℕ) = (y 1 : ℕ)) :
    out0_5 (F := Ideal) (iblk m c 0 t) (iblk m c 1 t) (iblk m c 2 t) (iblk m c 3 t) y = act (A0 m c) (A1 m c) (A2 m c) (i 0) (i 1) := by
  frame_out
  canon_tiles x h
  all_goals idx_vars x
  all_goals try simp only [k0_pay18, k0_pay19, k0_pay20, k0_pay21, ldg, ldw]
  · exact (act2_at _ _ _ _ _ _ _ _ (reads1 m c t) x0 x1).trans (congrArg₂ _ (row_eq (by simp; omega)) (Fin.ext (by omega)))
  · exact (act1_at _ _ _ _ _ _ _ _ (reads0 m c t) x0 x1).trans (congrArg₂ _ (row_eq (by simp; omega)) (Fin.ext (by omega)))
/-- In the third's. -/
theorem point6 (c : Dev nD) (t : Fin cfg0.N) (y : S1024x512.Idx) (i : S1024x4096.Idx) (hi0 : (i 0 : ℕ) = (y 0 : ℕ))
    (hi1 : (i 1 : ℕ) = 512 * t.val + (y 1 : ℕ)) :
    out0_6 (F := Ideal) (iblk m c 0 t) (iblk m c 1 t) (iblk m c 2 t) (iblk m c 3 t) y = xn (A0 m c) (A1 m c) (i 1) (i 0) := by
  frame_out
  canon_tiles x h
  all_goals idx_vars x
  · exact (xt2_at _ _ _ _ _ _ _ _ (reads1 m c t) x0 x1).trans (congrArg₂ _ (row_eq (by simp; omega)) (Fin.ext (by omega)))
  · exact (xt1_at _ _ _ _ _ _ _ _ (reads0 m c t) x0 x1).trans (congrArg₂ _ (row_eq (by simp; omega)) (Fin.ext (by omega)))

/-- The first result after the run. -/
theorem final4 (c : Dev nD) : (dats m 0 c).arrAt 4 (cfgs 0).N = fun i => both (A0 m c) (A1 m c) (A2 m c) (i 0) (i 1) (i 2) := by
  refine (dats m 0 c).arrAt_eq_of_covers 4 _ (by decide +kernel) fun t hf y => ?_
  blk_simp; rw [after0_4]
  refine point4 m c t y _ ?_ ?_ ?_ <;> blk_simp [idx_val t] <;> try omega
/-- The second. -/
theorem final5 (c : Dev nD) : (dats m 0 c).arrAt 5 (cfgs 0).N = fun i => act (A0 m c) (A1 m c) (A2 m c) (i 0) (i 1) := by
  refine (dats m 0 c).arrAt_eq_of_covers 5 _ (by decide +kernel) fun t hf y => ?_
  blk_simp; rw [after0_5]
  refine point5 m c t y _ ?_ ?_ <;> blk_simp [idx_val t] <;> try omega
/-- The third. -/
theorem final6 (c : Dev nD) : (dats m 0 c).arrAt 6 (cfgs 0).N = fun i => xn (A0 m c) (A1 m c) (i 1) (i 0) := by
  refine (dats m 0 c).arrAt_eq_of_covers 6 _ (by decide +kernel) fun t hf y => ?_
  blk_simp; rw [after0_6]
  refine point6 m c t y _ ?_ ?_ <;> blk_simp [idx_val t] <;> try omega

end Cert.Kernel4Ideal.InBlock

end

end
-- ==== Proof.InClaim.lean ====
/- The claims about the norm and the gate and up projections. -/
module

public import proofs.«01_k».proof.Defs
public import proofs.«01_k».proof.Proof.Gen.Kernel4.Frame
public import proofs.«01_k».proof.Proof.Gen.Reference4Ideal.Run
public import proofs.«01_k».proof.Proof.InBlock

set_option maxRecDepth 16384

@[expose] public section

noncomputable section

open Idealize.ShloMosaic Idealize.SL.Sem

namespace Cert.Proof

set_option maxHeartbeats 2000000 in
/-- The kernel's arrays are the reference's. -/
theorem value_In : Cert.algebraic_Kernel4Ideal_Reference4Ideal := fun m ρ m' ρ' _ hag =>
  ⟨fun c i => Cert.Reference4Ideal.InRef.both (Cert.Kernel4Ideal.InBlock.A0 m c) (Cert.Kernel4Ideal.InBlock.A1 m c) (Cert.Kernel4Ideal.InBlock.A2 m c) (i 0) (i 1) (i 2),
    fun c i => Cert.Reference4Ideal.InRef.act (Cert.Kernel4Ideal.InBlock.A0 m c) (Cert.Kernel4Ideal.InBlock.A1 m c) (Cert.Kernel4Ideal.InBlock.A2 m c) (i 0) (i 1),
    fun c i => Cert.Reference4Ideal.InRef.xn (Cert.Kernel4Ideal.InBlock.A0 m c) (Cert.Kernel4Ideal.InBlock.A1 m c) (i 1) (i 0),
    (θ_run _ _ _).mono (fun _ h c => ⟨(h c).1.trans (Cert.Kernel4Ideal.InBlock.final4 m c),
      (h c).2.1.trans (Cert.Kernel4Ideal.InBlock.final5 m c),
      (h c).2.2.1.trans (Cert.Kernel4Ideal.InBlock.final6 m c),
      (h c).2.2.2⟩) (Cert.Kernel4Ideal.Value.run_blocks m ρ),
    (θ_run _ _ _).mono (fun _ h c => ⟨by
        refine (h c).1.trans ((Cert.Reference4Ideal.Read.val_main_v20_eq ..).trans ?_)
        show Cert.Reference4Ideal.Read.val_main_v20 (F := Ideal) (m' ((c.tc : Thread _ _).loc Cert.Reference4Ideal.main_arg0)) (m' ((c.tc : Thread _ _).loc Cert.Reference4Ideal.main_arg1)) (m' ((c.tc : Thread _ _).loc Cert.Reference4Ideal.main_arg2)) = _
        rw [(hag c).1, (hag c).2.1, (hag c).2.2]
        funext i
        idx_vars i
        exact Cert.Reference4Ideal.InRef.both_at _ _ _ i0 i1 i2,
      by
        refine (h c).2.1.trans ((Cert.Reference4Ideal.Read.val_main_v23_eq ..).trans ?_)
        show Cert.Reference4Ideal.Read.val_main_v23 (F := Ideal) (m' ((c.tc : Thread _ _).loc Cert.Reference4Ideal.main_arg0)) (m' ((c.tc : Thread _ _).loc Cert.Reference4Ideal.main_arg1)) (m' ((c.tc : Thread _ _).loc Cert.Reference4Ideal.main_arg2)) = _
        rw [(hag c).1, (hag c).2.1, (hag c).2.2]
        funext i
        idx_vars i
        exact Cert.Reference4Ideal.InRef.act_at _ _ _ i0 i1,
      by
        refine (h c).2.2.1.trans ((Cert.Reference4Ideal.Read.val_main_v25_eq ..).trans ?_)
        show Cert.Reference4Ideal.Read.val_main_v25 (F := Ideal) (m' ((c.tc : Thread _ _).loc Cert.Reference4Ideal.main_arg0)) (m' ((c.tc : Thread _ _).loc Cert.Reference4Ideal.main_arg1)) = _
        rw [(hag c).1, (hag c).2.1]
        funext i
        idx_vars i
        exact Cert.Reference4Ideal.InRef.xt_at _ _ i0 i1,
      (h c).2.2.2⟩) (Cert.Reference4Ideal.Value.run m' ρ')⟩

/-- The reference runs and leaves its arguments. -/
theorem frame_InRef : Cert.quiescent_Reference4Ideal := fun m ρ _ =>
  (θ_run Cert.Reference4Ideal.defs _ _).mono (fun r h => ⟨fun c => (h c).2.2.2,
      sem_eq_zero_of_no_sems (by decide) r.2⟩)
    (Cert.Reference4Ideal.Value.run m ρ)

end Cert.Proof

end

end
-- ==== Proof.NormRow.lean ====
/- The norm's gradient over rows that agree. -/
module

public import proofs.«01_k».proof.Proof.Ffn2Spec

@[expose] public section

noncomputable section

open Idealize.ShloMosaic

namespace Finite

/-- The formulas over rows that agree. -/
theorem normE_congr {x x' g g' : Fin 1024 → EReal} (hx : ∀ k, x k = x' k) (hg : ∀ k, g k = g' k) (d : Fin 1024) : normE x g d = normE x' g' d := by
  rw [funext hx, funext hg]
theorem normBwd_congr {x x' g g' dy dy' : Fin 1024 → EReal} (hx : ∀ k, x k = x' k) (hg : ∀ k, g k = g' k) (hy : ∀ k, dy k = dy' k) (d : Fin 1024) :
    normBwd x g dy d = normBwd x' g' dy' d := by rw [funext hx, funext hg, funext hy]
theorem gain_congr {x x' dy dy' : Fin 1024 → EReal} (hx : ∀ k, x k = x' k) (hy : ∀ k, dy k = dy' k) (d : Fin 1024) :
    Ffn2.gain x dy d = Ffn2.gain x' dy' d := by rw [funext hx, funext hy]

end Finite

end

end
-- ==== Proof.LossRef.lean ====
/- The loss and its gradient through the last norm and projection, read at an index of the reference on real arguments. -/
module

public import proofs.«01_k».proof.Proof.Gen.Reference5Ideal.Read
public import proofs.«01_k».proof.Proof.NormRow

set_option maxRecDepth 16384

@[expose] public section

noncomputable section

open Idealize.ShloMosaic Idealize.ShloMosaic.TcCoe Idealize.SL.Sem

namespace Cert.Reference5Ideal.LossRef

open Cert.Reference5Ideal Cert.Reference5Ideal.Gen Cert.Reference5Ideal.Read
open Finite Ffn2

variable (x0 : FVec Ideal S4096x2816 .bf16) (x1 : FVec Ideal S2816x1024 .bf16) (x2 : FVec Ideal S1x1024 .f32) (x3 : FVec Ideal S4096x1024 .bf16)
  (x4 : FVec Ideal S4096x1024 .f32)

/-- One over the row length. -/
def cinv : EReal := Ideal.ofBits .f32 0x3A800000#32
/-- One half over the row length. -/
def chalfinv : EReal := Ideal.ofBits .f32 0x3A000000#32
theorem cinv_eq : cinv = ((1 / 1024 : ℝ) : EReal) := by
  simp [cinv, Ideal.ofBits, Ideal.ieee, -EReal.coe_mul]; norm_num
theorem chalfinv_eq : chalfinv = ((1 / 2048 : ℝ) : EReal) := by
  simp [chalfinv, Ideal.ofBits, Ideal.ieee, -EReal.coe_mul]; norm_num
theorem chalf_eq : Ideal.ofBits .f32 0x3F000000#32 = ((1 / 2 : ℝ) : EReal) := by
  simp [Ideal.ofBits, Ideal.ieee, -EReal.coe_mul]; norm_num

/-- The projection's output. -/
def z (t : Fin 4096) (d : Fin 1024) : EReal := ∑ f, x0 (ix2 t f) * x1 (ix2 f d)
/-- The prediction minus the target. -/
def err (t : Fin 4096) (d : Fin 1024) : EReal := x3 (ix2 t d) + normE (z x0 x1 t) (fun k => x2 (ix2 0 k)) d - x4 (ix2 t d)
/-- The loss's gradient with respect to the prediction. -/
def dh (t : Fin 4096) (d : Fin 1024) : EReal := err x0 x1 x2 x3 x4 t d * cinv
/-- The gradient with respect to the projection's output. -/
def dz (t : Fin 4096) (d : Fin 1024) : EReal := normBwd (z x0 x1 t) (fun k => x2 (ix2 0 k)) (dh x0 x1 x2 x3 x4 t) d
/-- The gain's gradient. -/
def dg (d : Fin 1024) : EReal := ∑ t, gain (z x0 x1 t) (dh x0 x1 x2 x3 x4 t) d
/-- The gradient with respect to the projection's input. -/
def da (t : Fin 4096) (f : Fin 2816) : EReal := ∑ d, dz x0 x1 x2 x3 x4 t d * x1 (ix2 f d)
/-- One row's squared error. -/
def sq (t : Fin 4096) : EReal := ∑ d, err x0 x1 x2 x3 x4 t d * err x0 x1 x2 x3 x4 t d
/-- The loss. -/
def loss : EReal := chalfinv * ∑ t, sq x0 x1 x2 x3 x4 t

/-- Every argument's entries are real. -/
structure Real : Prop where
  r0 : ∀ i, IsReal (x0 i)
  r1 : ∀ i, IsReal (x1 i)
  r2 : ∀ i, IsReal (x2 i)
  r3 : ∀ i, IsReal (x3 i)
  r4 : ∀ i, IsReal (x4 i)

/-- The scale of a mean's gradient, taken twice. -/
theorem twice {e : EReal} (h : IsReal e) :
    e * Ideal.div (Ideal.ofBits .f32 0x3F000000#32) c1024
      + Ideal.div (Ideal.ofBits .f32 0x3F000000#32) c1024 * e = e * cinv := by
  obtain ⟨a, rfl⟩ := h
  rw [chalf_eq, cinv_eq, c1024_eq, Ideal.div_coe (by norm_num)]
  simp only [← EReal.coe_mul, ← EReal.coe_add]
  congr 1; ring

/-- Half the sum of the means. -/
theorem half_mean {q : Fin 4096 → EReal} (h : ∀ t, IsReal (q t)) :
    Ideal.ofBits .f32 0x3F000000#32 * ∑ t, Ideal.div (q t) c1024 = chalfinv * ∑ t, q t := by
  obtain ⟨Q, hQ⟩ := choose_real h
  rw [chalf_eq, chalfinv_eq, c1024_eq]
  simp only [hQ, Ideal.div_coe (show (1024 : ℝ) ≠ 0 by norm_num), ← EReal.coe_mul, coe_sum]
  congr 1
  rw [← Finset.sum_mul]; ring

/-- A real factor of a sum. -/
theorem mul_sum_real {n : ℕ} {q : Fin n → EReal} (h : ∀ t, IsReal (q t)) : ∑ t, chalfinv * q t = chalfinv * ∑ t, q t := by
  obtain ⟨Q, hQ⟩ := choose_real h
  rw [chalfinv_eq]
  simp only [hQ, ← EReal.coe_mul, coe_sum]
  congr 1
  rw [← Finset.mul_sum]

/-- The projection's output. -/
theorem z_at (t : Fin 4096) (d : Fin 1024) : val_main_v2 (F := Ideal) x0 x1 (ix2 t d) = z x0 x1 t d := by
  pointwise [val_main_v2, val_main_v1, val_main_v0]
  rfl
/-- The prediction minus the target. -/
theorem err_at (t : Fin 4096) (d : Fin 1024) : val_main_v20 (F := Ideal) x0 x1 x2 x3 x4 (ix2 t d) = err x0 x1 x2 x3 x4 t d := by
  pointwise [val_main_v20, val_main_v19, val_main_v18, val_main_v17, val_main_v16, val_main_v15, val_main_v3, val_main_v11, val_main_v10, val_main_v9, val_main_v8, val_main_v7, val_main_v6, val_main_v5, val_main_v4, val_main_cst, val_main_cst_0, val_main_cst_1]
  simp only [z_at]
  rfl

variable (R : Real x0 x1 x2 x3 x4)
include R

theorem z_real (t : Fin 4096) (d : Fin 1024) : IsReal (z x0 x1 t d) := IsReal.sum fun f => (R.r0 _).mul (R.r1 _)
theorem err_real (t : Fin 4096) (d : Fin 1024) : IsReal (err x0 x1 x2 x3 x4 t d) :=
  ((R.r3 _).add (isReal_normE (fun k => z_real x0 x1 x2 x3 x4 R t k) (fun k => R.r2 _) d)).sub (R.r4 _)
theorem dh_real (t : Fin 4096) (d : Fin 1024) : IsReal (dh x0 x1 x2 x3 x4 t d) :=
  (err_real x0 x1 x2 x3 x4 R t d).mul (by rw [cinv_eq]; exact IsReal.coe _)
theorem sq_real (t : Fin 4096) : IsReal (sq x0 x1 x2 x3 x4 t) :=
  IsReal.sum fun d => (err_real x0 x1 x2 x3 x4 R t d).mul (err_real x0 x1 x2 x3 x4 R t d)

/-- The loss's gradient with respect to the prediction. -/
theorem dh_at (t : Fin 4096) (d : Fin 1024) : val_main_v34 (F := Ideal) x0 x1 x2 x3 x4 (ix2 t d) = dh x0 x1 x2 x3 x4 t d := by
  pointwise [val_main_v34, val_main_v33, val_main_v32, val_main_v31, val_main_v30, val_main_v29, val_main_v28, val_main_v27,
    val_main_cst_7, val_main_cst_8, val_main_cst_9]
  simp only [err_at]
  exact twice (err_real x0 x1 x2 x3 x4 R t d)
/-- The gradient with respect to the projection's output. -/
theorem dz_at (t : Fin 4096) (d : Fin 1024) : val_main_v53 (F := Ideal) x0 x1 x2 x3 x4 (ix2 t d) = dz x0 x1 x2 x3 x4 t d := by
  pointwise [val_main_v53, val_main_v52, val_main_v51, val_main_v50, val_main_v49, val_main_v48, val_main_v47, val_main_v46, val_main_v45,
    val_main_v44, val_main_v43, val_main_v42, val_main_v41, val_main_v40, val_main_v39, val_main_v38, val_main_v14, val_main_v13, val_main_v12,
    val_main_v11, val_main_v10, val_main_v9, val_main_v8, val_main_v7, val_main_v6, val_main_v5, val_main_v4, val_main_cst, val_main_cst_0, val_main_cst_1, val_main_cst_2, val_main_cst_11, val_main_cst_12, val_main_cst_13]
  simp only [dh_at x0 x1 x2 x3 x4 R, z_at, Fin.sum_univ_one]
  exact normBwd_eq (x := z x0 x1 t) (g := fun k => x2 (ix2 0 k))
    (fun k => z_real x0 x1 x2 x3 x4 R t k) (fun k => R.r2 _) (fun k => dh_real x0 x1 x2 x3 x4 R t k) d

/-- The first result. -/
theorem out0_at (t : Fin 4096) (d : Fin 1024) : val_main_v54 (F := Ideal) x0 x1 x2 x3 x4 (ix2 t d) = dh x0 x1 x2 x3 x4 t d := by
  refine Eq.trans ?_ (dh_at x0 x1 x2 x3 x4 R t d)
  pointwise [val_main_v54]
/-- The second. -/
theorem out1_at (t : Fin 4096) (d : Fin 1024) : val_main_v55 (F := Ideal) x0 x1 x2 x3 x4 (ix2 t d) = dz x0 x1 x2 x3 x4 t d := by
  refine Eq.trans ?_ (dz_at x0 x1 x2 x3 x4 R t d)
  pointwise [val_main_v55]
/-- The third. -/
theorem out2_at (d : Fin 1024) : val_main_v37 (F := Ideal) x0 x1 x2 x3 x4 (ix2 0 d) = dg x0 x1 x2 x3 x4 d := by
  pointwise [val_main_v37, val_main_v36, val_main_v35, val_main_v16, val_main_v15, val_main_v11, val_main_v10, val_main_v9, val_main_v8, val_main_v7, val_main_v6, val_main_v5, val_main_v4, val_main_cst, val_main_cst_0, val_main_cst_1, val_main_cst_10]
  simp only [dh_at x0 x1 x2 x3 x4 R, z_at]
  exact Finset.sum_congr rfl fun t _ => mul_comm _ _
/-- The fourth. -/
theorem out3_at (t : Fin 4096) (f : Fin 2816) : val_main_v57 (F := Ideal) x0 x1 x2 x3 x4 (ix2 t f) = da x0 x1 x2 x3 x4 t f := by
  pointwise [val_main_v57, val_main_v56, val_main_v0]
  simp only [dz_at x0 x1 x2 x3 x4 R]
  rfl
/-- The fifth, the loss in every entry. -/
theorem out4_at (i : Fin 8) (j : Fin 128) : val_main_v58 (F := Ideal) x0 x1 x2 x3 x4 (ix2 i j) = loss x0 x1 x2 x3 x4 := by
  pointwise [val_main_v58, val_main_v26, val_main_v25, val_main_v24, val_main_v23, val_main_v22, val_main_v21,
    val_main_cst_3, val_main_cst_4, val_main_cst_5, val_main_cst_6]
  simp only [err_at]
  exact half_mean fun t => sq_real x0 x1 x2 x3 x4 R t

end Cert.Reference5Ideal.LossRef

end

end
-- ==== Proof.LossBlock.lean ====
/- The loss and its gradient through the last norm and projection, block by block: the arrays the kernel leaves are the formulas of LossRef. -/
module

public import proofs.«01_k».proof.Proof.Gen.Kernel5Ideal.Value
public import proofs.«01_k».proof.Proof.LossRef

set_option maxRecDepth 16384

@[expose] public section

noncomputable section

open Idealize.ShloMosaic Idealize.ShloMosaic.TcCoe Idealize.SL.Sem
open Idealize.ShloMosaic.Pipeline (Dat)

namespace Cert.Kernel5Ideal.LossBlock

open Cert.Kernel5Ideal Cert.Kernel5Ideal.Gen
open Cert.Reference5Ideal.LossRef
open Finite Ffn2

/-- The loaded vectors are the rows `row` of the arrays. -/
structure Reads (A0 : FVec Ideal S4096x2816 .bf16) (A1 : FVec Ideal S2816x1024 .bf16) (A2 : FVec Ideal S1x1024 .f32) (A3 : FVec Ideal S4096x1024 .bf16)
    (A4 : FVec Ideal S4096x1024 .f32) (row : Fin 256 → Fin 4096) (a : Vec Ideal S256x2816 .bf16) (w : Vec Ideal S2816x1024 .bf16)
    (g : Vec Ideal S1x1024 .f32) (h : Vec Ideal S256x1024 .bf16) (y : Vec Ideal S256x1024 .f32) : Prop where
  a : ∀ r f, a (ix2 r f) = A0 (ix2 (row r) f)
  w : ∀ f d, w (ix2 f d) = A1 (ix2 f d)
  g : ∀ d, g (ix2 0 d) = A2 (ix2 0 d)
  h : ∀ r d, h (ix2 r d) = A3 (ix2 (row r) d)
  y : ∀ r d, y (ix2 r d) = A4 (ix2 (row r) d)

section
variable (n e s v v' : FVec Ideal S256x1024 .f32) (u : FVec Ideal S1x1024 .f32) (a : Vec Ideal S256x2816 .bf16) (w : Vec Ideal S2816x1024 .bf16)
    (g : Vec Ideal S1x1024 .f32) (h : Vec Ideal S256x1024 .bf16) (y : Vec Ideal S256x1024 .f32)

/-- The error of the first sub-tile's rows. -/
theorem ef1 (r : Fin 256) (d : Fin 1024) : k0_pay10 (F := Ideal) a w h g y (ix2 r d)
    = h (ix2 r d) + normE (fun k => k0_pay7 (F := Ideal) a w (ix2 r k)) (fun k => g (ix2 0 k)) d - y (ix2 r d) := by
  pointwise [k0_pay10]
  rfl
/-- Of the second's. -/
theorem ef2 (r : Fin 256) (d : Fin 1024) : k0_pay22 (F := Ideal) n (k0_pay20 h) (k0_pay21 n) g y (ix2 r d)
    = h (ix2 r d) + normE (fun k => n (ix2 r k)) (fun k => g (ix2 0 k)) d - y (ix2 r d) := by
  pointwise [k0_pay22, k0_pay21, k0_pay20]
  rfl
/-- The error scaled. -/
theorem sc1 (r : Fin 256) (d : Fin 1024) : k0_pay11 (F := Ideal) a w h g y (ix2 r d) = k0_pay10 (F := Ideal) a w h g y (ix2 r d) * cinv := by
  pointwise [k0_pay11]
  rfl
theorem sc2 (r : Fin 256) (d : Fin 1024) : k0_pay23 (F := Ideal) n e s g y (ix2 r d) = k0_pay22 (F := Ideal) n e s g y (ix2 r d) * cinv := by
  pointwise [k0_pay23]
  rfl
/-- The norm's gradient of rows. -/
theorem nb1 (r : Fin 256) (d : Fin 1024) : k0_pay17 (F := Ideal) n v g (ix2 r d)
    = normBwd (fun k => n (ix2 r k)) (fun k => g (ix2 0 k)) (fun k => v (ix2 r k)) d := by
  pointwise [k0_pay17, k0_pay16, k0_pay15]
  rfl
theorem nb2 (r : Fin 256) (d : Fin 1024) :
    k0_pay1 (F := Ideal) (k0_pay26 n) (k0_pay27 n) (k0_pay28 n e s g y g) (k0_pay29 n e s g y g) (k0_pay30 (F := Ideal)) (ix2 r d)
      = normBwd (fun k => n (ix2 r k)) (fun k => g (ix2 0 k)) (fun k => k0_pay23 (F := Ideal) n e s g y (ix2 r k)) d := by
  pointwise [k0_pay1, k0_pay30, k0_pay29, k0_pay28, k0_pay27, k0_pay26]
  rfl
/-- The projection's transpose of rows. -/
theorem pr1 (r : Fin 256) (f : Fin 2816) : k0_pay19 (F := Ideal) n v g w (ix2 r f) = ∑ d, k0_pay17 (F := Ideal) n v g (ix2 r d) * w (ix2 f d) := by
  pointwise [k0_pay19]
theorem pr2 (c1 c4 c5 : FVec Ideal S256x1 .f32) (c2 c3 : FVec Ideal S256x1024 .f32) (r : Fin 256) (f : Fin 2816) :
    k0_pay3 (F := Ideal) c1 c2 c3 c4 c5 w (ix2 r f) = ∑ d, k0_pay1 (F := Ideal) c1 c2 c3 c4 c5 (ix2 r d) * w (ix2 f d) := by
  pointwise [k0_pay3]
/-- The gain's part of rows. -/
theorem gn1 (d : Fin 1024) : k0_pay18 (F := Ideal) n u v (ix2 0 d) = u (ix2 0 d) + ∑ r : Fin 256, gain (fun k => n (ix2 r k)) (fun k => v (ix2 r k)) d := by
  pointwise [k0_pay18, k0_pay16, k0_pay15]
  rfl
theorem gn2 (d : Fin 1024) : k0_pay2 (F := Ideal) u v (k0_pay27 n) (ix2 0 d)
    = u (ix2 0 d) + ∑ r : Fin 256, gain (fun k => n (ix2 r k)) (fun k => v (ix2 r k)) d := by
  pointwise [k0_pay2, k0_pay27, k0_pay26]
  rfl
theorem zero_at (d : Fin 1024) : k0_pay9 (F := Ideal) (ix2 0 d) = 0 := by
  pointwise [k0_pay9]
/-- The loss's part of rows. -/
theorem lo_at (i : Fin 8) (j : Fin 128) :
    k0_pay4 (F := Ideal) (k0_pay25 n (k0_pay14 (k0_pay13 a w h g y)) e s g v) (ix2 i j)
      = chalfinv * ((0 + ∑ r : Fin 256, ∑ d : Fin 1024, k0_pay10 (F := Ideal) a w h g y (ix2 r d) * k0_pay10 (F := Ideal) a w h g y (ix2 r d))
        + ∑ r : Fin 256, ∑ d : Fin 1024, k0_pay22 (F := Ideal) n e s g v (ix2 r d) * k0_pay22 (F := Ideal) n e s g v (ix2 r d)) := by
  pointwise [k0_pay4, k0_pay25, k0_pay14, k0_pay13]

  rfl
end

section
variable (A0 : FVec Ideal S4096x2816 .bf16) (A1 : FVec Ideal S2816x1024 .bf16) (A2 : FVec Ideal S1x1024 .f32) (A3 : FVec Ideal S4096x1024 .bf16)
    (A4 : FVec Ideal S4096x1024 .f32) (row : Fin 256 → Fin 4096) (a : Vec Ideal S256x2816 .bf16) (w : Vec Ideal S2816x1024 .bf16)
    (g : Vec Ideal S1x1024 .f32) (h : Vec Ideal S256x1024 .bf16) (y : Vec Ideal S256x1024 .f32) (R : Reads A0 A1 A2 A3 A4 row a w g h y)
include R

/-- The projection's rows. -/
theorem z1_at (r : Fin 256) (d : Fin 1024) : k0_pay7 (F := Ideal) a w (ix2 r d) = z A0 A1 (row r) d := by
  pointwise [k0_pay7]
  exact Finset.sum_congr rfl fun f _ => congrArg₂ (· * ·) (R.a r f) (R.w f d)
theorem z2_at (r : Fin 256) (d : Fin 1024) : k0_pay8 (F := Ideal) a w (ix2 r d) = z A0 A1 (row r) d := by
  pointwise [k0_pay8]
  exact Finset.sum_congr rfl fun f _ => congrArg₂ (· * ·) (R.a r f) (R.w f d)
/-- The error's rows. -/
theorem err1_at (r : Fin 256) (d : Fin 1024) : k0_pay10 (F := Ideal) a w h g y (ix2 r d) = err A0 A1 A2 A3 A4 (row r) d :=
  (ef1 a w g h y r d).trans (congrArg₂ (· - ·) (congrArg₂ (· + ·) (R.h r d) (normE_congr (fun k => z1_at A0 A1 A2 A3 A4 row a w g h y R r k) (fun k => R.g k) d)) (R.y r d))
theorem err2_at (r : Fin 256) (d : Fin 1024) :
    k0_pay22 (F := Ideal) (k0_pay8 a w) (k0_pay20 h) (k0_pay21 (k0_pay8 a w)) g y (ix2 r d) = err A0 A1 A2 A3 A4 (row r) d :=
  (ef2 _ g h y r d).trans (congrArg₂ (· - ·) (congrArg₂ (· + ·) (R.h r d) (normE_congr (fun k => z2_at A0 A1 A2 A3 A4 row a w g h y R r k) (fun k => R.g k) d)) (R.y r d))
/-- The rows of the loss's gradient. -/
theorem dh1_at (r : Fin 256) (d : Fin 1024) : k0_pay11 (F := Ideal) a w h g y (ix2 r d) = dh A0 A1 A2 A3 A4 (row r) d :=
  (sc1 a w g h y r d).trans (congrArg (· * cinv) (err1_at A0 A1 A2 A3 A4 row a w g h y R r d))
theorem dh2_at (r : Fin 256) (d : Fin 1024) :
    k0_pay23 (F := Ideal) (k0_pay8 a w) (k0_pay20 h) (k0_pay21 (k0_pay8 a w)) g y (ix2 r d) = dh A0 A1 A2 A3 A4 (row r) d :=
  (sc2 _ _ _ g y r d).trans (congrArg (· * cinv) (err2_at A0 A1 A2 A3 A4 row a w g h y R r d))
/-- As they are stored. -/
theorem sdh1_at (r : Fin 256) (d : Fin 1024) : k0_pay12 (F := Ideal) a w h g y (ix2 r d) = dh A0 A1 A2 A3 A4 (row r) d := by
  refine Eq.trans ?_ (dh1_at A0 A1 A2 A3 A4 row a w g h y R r d)
  pointwise [k0_pay12]
theorem sdh2_at (r : Fin 256) (d : Fin 1024) :
    k0_pay24 (F := Ideal) (k0_pay8 a w) (k0_pay20 h) (k0_pay21 (k0_pay8 a w)) g y (ix2 r d) = dh A0 A1 A2 A3 A4 (row r) d := by
  refine Eq.trans ?_ (dh2_at A0 A1 A2 A3 A4 row a w g h y R r d)
  pointwise [k0_pay24]
/-- The rows of the gradient of the projection's output. -/
theorem dz1_at (r : Fin 256) (d : Fin 1024) : k0_pay17 (F := Ideal) (k0_pay7 a w) (k0_pay11 a w h g y) g (ix2 r d) = dz A0 A1 A2 A3 A4 (row r) d :=
  (nb1 _ _ g r d).trans (normBwd_congr (fun k => z1_at A0 A1 A2 A3 A4 row a w g h y R r k) (fun k => R.g k) (fun k => dh1_at A0 A1 A2 A3 A4 row a w g h y R r k) d)
theorem dz2_at (r : Fin 256) (d : Fin 1024) :
    k0_pay1 (F := Ideal) (k0_pay26 (k0_pay8 a w)) (k0_pay27 (k0_pay8 a w)) (k0_pay28 (k0_pay8 a w) (k0_pay20 h) (k0_pay21 (k0_pay8 a w)) g y g)
      (k0_pay29 (k0_pay8 a w) (k0_pay20 h) (k0_pay21 (k0_pay8 a w)) g y g) (k0_pay30 (F := Ideal)) (ix2 r d) = dz A0 A1 A2 A3 A4 (row r) d :=
  (nb2 _ _ _ g y r d).trans (normBwd_congr (fun k => z2_at A0 A1 A2 A3 A4 row a w g h y R r k) (fun k => R.g k) (fun k => dh2_at A0 A1 A2 A3 A4 row a w g h y R r k) d)
/-- The rows of the gradient of the projection's input. -/
theorem da1_at (r : Fin 256) (f : Fin 2816) : k0_pay19 (F := Ideal) (k0_pay7 a w) (k0_pay11 a w h g y) g w (ix2 r f) = da A0 A1 A2 A3 A4 (row r) f :=
  (pr1 _ _ w g r f).trans (Finset.sum_congr rfl fun d _ => congrArg₂ (· * ·) (dz1_at A0 A1 A2 A3 A4 row a w g h y R r d) (R.w f d))
theorem da2_at (r : Fin 256) (f : Fin 2816) :
    k0_pay3 (F := Ideal) (k0_pay26 (k0_pay8 a w)) (k0_pay27 (k0_pay8 a w)) (k0_pay28 (k0_pay8 a w) (k0_pay20 h) (k0_pay21 (k0_pay8 a w)) g y g)
      (k0_pay29 (k0_pay8 a w) (k0_pay20 h) (k0_pay21 (k0_pay8 a w)) g y g) (k0_pay30 (F := Ideal)) w (ix2 r f) = da A0 A1 A2 A3 A4 (row r) f :=
  (pr2 w _ _ _ _ _ r f).trans (Finset.sum_congr rfl fun d _ => congrArg₂ (· * ·) (dz2_at A0 A1 A2 A3 A4 row a w g h y R r d) (R.w f d))
/-- A row's part of the gain's gradient. -/
theorem gain1_at (r : Fin 256) (d : Fin 1024) : gain (fun k => k0_pay7 (F := Ideal) a w (ix2 r k)) (fun k => k0_pay11 (F := Ideal) a w h g y (ix2 r k)) d
    = gain (z A0 A1 (row r)) (dh A0 A1 A2 A3 A4 (row r)) d :=
  gain_congr (fun k => z1_at A0 A1 A2 A3 A4 row a w g h y R r k) (fun k => dh1_at A0 A1 A2 A3 A4 row a w g h y R r k) d
theorem gain2_at (r : Fin 256) (d : Fin 1024) : gain (fun k => k0_pay8 (F := Ideal) a w (ix2 r k))
    (fun k => k0_pay23 (F := Ideal) (k0_pay8 a w) (k0_pay20 h) (k0_pay21 (k0_pay8 a w)) g y (ix2 r k)) d
    = gain (z A0 A1 (row r)) (dh A0 A1 A2 A3 A4 (row r)) d :=
  gain_congr (fun k => z2_at A0 A1 A2 A3 A4 row a w g h y R r k) (fun k => dh2_at A0 A1 A2 A3 A4 row a w g h y R r k) d
end

variable (m : (ℓ : Loc nD τ sig) → Buf (Elt Ideal) ℓ)

/-- The activation. -/
abbrev A0 (c : Dev nD) : FVec Ideal S4096x2816 .bf16 := m ((c : Thread nD τ).loc main_arg0)
/-- The down projection. -/
abbrev A1 (c : Dev nD) : FVec Ideal S2816x1024 .bf16 := m ((c : Thread nD τ).loc main_arg1)
/-- The gain. -/
abbrev A2 (c : Dev nD) : FVec Ideal S1x1024 .f32 := m ((c : Thread nD τ).loc main_arg2)
/-- The residual stream. -/
abbrev A3 (c : Dev nD) : FVec Ideal S4096x1024 .bf16 := m ((c : Thread nD τ).loc main_arg3)
/-- The target. -/
abbrev A4 (c : Dev nD) : FVec Ideal S4096x1024 .f32 := m ((c : Thread nD τ).loc main_arg4)

/-- Every window's block index at every grid point. -/
theorem idx_val : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![0, 0] ∧ win0_8.index t = ![t.val, 0] ∧ win0_9.index t = ![0, 0] ∧ t.val < 8 :=
  (by decide +kernel : ∀ t : Fin grid0.N, _)
theorem ltN (t : Fin cfg0.N) : t.val < 8 := (idx_val t).2.2.2.2.2.2.2.2.2.2

/-- The row of a sub-tile. -/
def row (t : Fin cfg0.N) (s : Fin 2) (r : Fin 256) : Fin 4096 := ⟨512 * t.val + 256 * s.val + r.val, by have := ltN t; omega⟩
/-- The row an array index of a block belongs to. -/
theorem row_eq {t : Fin cfg0.N} {s : Fin 2} {r : Fin 256} {j : Fin 4096} (h : j.val = 512 * t.val + (256 * s.val + r.val)) : row t s r = j :=
  Fin.ext (by show 512 * t.val + 256 * s.val + r.val = j.val; omega)

/-- A load of rows 0 to 255. -/
theorem ldA_0 (X : Vec Ideal S512x2816 .bf16) (r : Fin 256) (k : Fin 2816) :
    View.ld (Val := Elt Ideal) (e' := .bf16) X (Rect.unit ![0, 0] ![256, 2816] inb_S512x2816_S256x2816_0_0) (ix2 r k) = X (ix2 ⟨0 + r.val, by omega⟩ k) := by
  pointwise
/-- A load of rows 0 to 255. -/
theorem ldH_0 (X : Vec Ideal S512x1024 .bf16) (r : Fin 256) (k : Fin 1024) :
    View.ld (Val := Elt Ideal) (e' := .bf16) X (Rect.unit ![0, 0] ![256, 1024] inb_S512x1024_S256x1024_0_0) (ix2 r k) = X (ix2 ⟨0 + r.val, by omega⟩ k) := by
  pointwise
/-- A load of rows 0 to 255. -/
theorem ldY_0 (X : Vec Ideal S512x1024 .f32) (r : Fin 256) (k : Fin 1024) :
    View.ld (Val := Elt Ideal) (e' := .f32) X (Rect.unit ![0, 0] ![256, 1024] inb_S512x1024_S256x1024_0_0) (ix2 r k) = X (ix2 ⟨0 + r.val, by omega⟩ k) := by
  pointwise
/-- A load of rows 256 to 511. -/
theorem ldA_1 (X : Vec Ideal S512x2816 .bf16) (r : Fin 256) (k : Fin 2816) :
    View.ld (Val := Elt Ideal) (e' := .bf16) X (Rect.unit ![256, 0] ![256, 2816] inb_S512x2816_S256x2816_256_0) (ix2 r k) = X (ix2 ⟨256 + r.val, by omega⟩ k) := by
  pointwise
/-- A load of rows 256 to 511. -/
theorem ldH_1 (X : Vec Ideal S512x1024 .bf16) (r : Fin 256) (k : Fin 1024) :
    View.ld (Val := Elt Ideal) (e' := .bf16) X (Rect.unit ![256, 0] ![256, 1024] inb_S512x1024_S256x1024_256_0) (ix2 r k) = X (ix2 ⟨256 + r.val, by omega⟩ k) := by
  pointwise
/-- A load of rows 256 to 511. -/
theorem ldY_1 (X : Vec Ideal S512x1024 .f32) (r : Fin 256) (k : Fin 1024) :
    View.ld (Val := Elt Ideal) (e' := .f32) X (Rect.unit ![256, 0] ![256, 1024] inb_S512x1024_S256x1024_256_0) (ix2 r k) = X (ix2 ⟨256 + r.val, by omega⟩ k) := by
  pointwise
/-- A block of 512 rows. -/
theorem rd0 (A : FVec Ideal S4096x2816 .bf16) (t : Fin cfg0.N) (r : Fin 512) (k : Fin 2816) (j : Fin 4096) (hj : j.val = 512 * t.val + r.val) :
    (((cfg0.win 0).blk t).view.read (Elt Ideal) A) (ix2 r k) = A (ix2 j k) := by
  blk_ext [idx_val t]
/-- A block is the whole array. -/
theorem rd1 (A : FVec Ideal S2816x1024 .bf16) (t : Fin cfg0.N) (d : Fin 2816) (e : Fin 1024) :
    (((cfg0.win 1).blk t).view.read (Elt Ideal) A) (ix2 d e) = A (ix2 d e) := by
  blk_ext [idx_val t]
/-- A block is the whole row. -/
theorem rd2 (A : FVec Ideal S1x1024 .f32) (t : Fin cfg0.N) (d : Fin 1024) :
    (((cfg0.win 2).blk t).view.read (Elt Ideal) A) (ix2 0 d) = A (ix2 0 d) := by
  blk_ext [idx_val t]
/-- A block of 512 rows. -/
theorem rd3 (A : FVec Ideal S4096x1024 .bf16) (t : Fin cfg0.N) (r : Fin 512) (k : Fin 1024) (j : Fin 4096) (hj : j.val = 512 * t.val + r.val) :
    (((cfg0.win 3).blk t).view.read (Elt Ideal) A) (ix2 r k) = A (ix2 j k) := by
  blk_ext [idx_val t]
/-- A block of 512 rows. -/
theorem rd4 (A : FVec Ideal S4096x1024 .f32) (t : Fin cfg0.N) (r : Fin 512) (k : Fin 1024) (j : Fin 4096) (hj : j.val = 512 * t.val + r.val) :
    (((cfg0.win 4).blk t).view.read (Elt Ideal) A) (ix2 r k) = A (ix2 j k) := by
  blk_ext [idx_val t]
/-- A sub-tile's loads. -/
theorem reads0 (c : Dev nD) (t : Fin cfg0.N) : Reads (A0 m c) (A1 m c) (A2 m c) (A3 m c) (A4 m c) (row t 0)
    (View.ld (iblk m c 0 t) (Rect.unit ![0, 0] ![256, 2816] inb_S512x2816_S256x2816_0_0)) (iblk m c 1 t) (iblk m c 2 t)
    (View.ld (iblk m c 3 t) (Rect.unit ![0, 0] ![256, 1024] inb_S512x1024_S256x1024_0_0))
    (View.ld (iblk m c 4 t) (Rect.unit ![0, 0] ![256, 1024] inb_S512x1024_S256x1024_0_0)) where
  a r f := (ldA_0 _ r f).trans (rd0 (A0 m c) t ⟨0 + r.val, _⟩ f _ (Nat.add_assoc _ _ _))
  w f d := rd1 (A1 m c) t f d
  g d := rd2 (A2 m c) t d
  h r d := (ldH_0 _ r d).trans (rd3 (A3 m c) t ⟨0 + r.val, _⟩ d _ (Nat.add_assoc _ _ _))
  y r d := (ldY_0 _ r d).trans (rd4 (A4 m c) t ⟨0 + r.val, _⟩ d _ (Nat.add_assoc _ _ _))
/-- A sub-tile's loads. -/
theorem reads1 (c : Dev nD) (t : Fin cfg0.N) : Reads (A0 m c) (A1 m c) (A2 m c) (A3 m c) (A4 m c) (row t 1)
    (View.ld (iblk m c 0 t) (Rect.unit ![256, 0] ![256, 2816] inb_S512x2816_S256x2816_256_0)) (iblk m c 1 t) (iblk m c 2 t)
    (View.ld (iblk m c 3 t) (Rect.unit ![256, 0] ![256, 1024] inb_S512x1024_S256x1024_256_0))
    (View.ld (iblk m c 4 t) (Rect.unit ![256, 0] ![256, 1024] inb_S512x1024_S256x1024_256_0)) where
  a r f := (ldA_1 _ r f).trans (rd0 (A0 m c) t ⟨256 + r.val, _⟩ f _ (Nat.add_assoc _ _ _))
  w f d := rd1 (A1 m c) t f d
  g d := rd2 (A2 m c) t d
  h r d := (ldH_1 _ r d).trans (rd3 (A3 m c) t ⟨256 + r.val, _⟩ d _ (Nat.add_assoc _ _ _))
  y r d := (ldY_1 _ r d).trans (rd4 (A4 m c) t ⟨256 + r.val, _⟩ d _ (Nat.add_assoc _ _ _))
/-- What a grid point leaves in window 5 is its block. -/
theorem point5 (c : Dev nD) (t : Fin cfg0.N) (y : S512x1024.Idx) (i : S4096x1024.Idx) (hi0 : (i 0 : ℕ) = 512 * t.val + (y 0 : ℕ))
    (hi1 : (i 1 : ℕ) = (y 1 : ℕ)) : (outsAt0 m c t.val t.isLt).1 y = dh (A0 m c) (A1 m c) (A2 m c) (A3 m c) (A4 m c) (i 0) (i 1) := by
  have ht := ltN t
  by_cases hz : t.val % 8 = 0
  · rw [outsAt0_A m c t hz (by omega) hz (by omega)]
    frame_out
    canon_tiles x h
    all_goals idx_vars x
    · exact (sdh2_at _ _ _ _ _ _ _ _ _ _ _ (reads1 m c t) x0 x1).trans (congrArg₂ _ (row_eq (by simp; omega)) (Fin.ext (by omega)))
    · exact (sdh1_at _ _ _ _ _ _ _ _ _ _ _ (reads0 m c t) x0 x1).trans (congrArg₂ _ (row_eq (by simp; omega)) (Fin.ext (by omega)))
  · rw [outsAt0_B m c t hz (by omega) hz (by omega)]
    frame_out
    canon_tiles x h
    all_goals idx_vars x
    · exact (sdh2_at _ _ _ _ _ _ _ _ _ _ _ (reads1 m c t) x0 x1).trans (congrArg₂ _ (row_eq (by simp; omega)) (Fin.ext (by omega)))
    · exact (sdh1_at _ _ _ _ _ _ _ _ _ _ _ (reads0 m c t) x0 x1).trans (congrArg₂ _ (row_eq (by simp; omega)) (Fin.ext (by omega)))

/-- The array of window 5 after the run. -/
theorem final5 (c : Dev nD) : (dats m 0 c).arrAt 5 (cfgs 0).N = fun i => dh (A0 m c) (A1 m c) (A2 m c) (A3 m c) (A4 m c) (i 0) (i 1) := by
  refine (dats m 0 c).arrAt_eq_of_covers 5 _ (by decide +kernel) fun t hf y => ?_
  blk_simp; rw [after0_5]
  refine point5 m c t y _ ?_ ?_ <;> blk_simp [idx_val t] <;> try omega

/-- What a grid point leaves in window 6 is its block. -/
theorem point6 (c : Dev nD) (t : Fin cfg0.N) (y : S512x1024.Idx) (i : S4096x1024.Idx) (hi0 : (i 0 : ℕ) = 512 * t.val + (y 0 : ℕ))
    (hi1 : (i 1 : ℕ) = (y 1 : ℕ)) : (outsAt0 m c t.val t.isLt).2.1 y = dz (A0 m c) (A1 m c) (A2 m c) (A3 m c) (A4 m c) (i 0) (i 1) := by
  have ht := ltN t
  by_cases hz : t.val % 8 = 0
  · rw [outsAt0_A m c t hz (by omega) hz (by omega)]
    frame_out
    canon_tiles x h
    all_goals idx_vars x
    · exact (dz2_at _ _ _ _ _ _ _ _ _ _ _ (reads1 m c t) x0 x1).trans (congrArg₂ _ (row_eq (by simp; omega)) (Fin.ext (by omega)))
    · exact (dz1_at _ _ _ _ _ _ _ _ _ _ _ (reads0 m c t) x0 x1).trans (congrArg₂ _ (row_eq (by simp; omega)) (Fin.ext (by omega)))
  · rw [outsAt0_B m c t hz (by omega) hz (by omega)]
    frame_out
    canon_tiles x h
    all_goals idx_vars x
    · exact (dz2_at _ _ _ _ _ _ _ _ _ _ _ (reads1 m c t) x0 x1).trans (congrArg₂ _ (row_eq (by simp; omega)) (Fin.ext (by omega)))
    · exact (dz1_at _ _ _ _ _ _ _ _ _ _ _ (reads0 m c t) x0 x1).trans (congrArg₂ _ (row_eq (by simp; omega)) (Fin.ext (by omega)))

/-- The array of window 6 after the run. -/
theorem final6 (c : Dev nD) : (dats m 0 c).arrAt 6 (cfgs 0).N = fun i => dz (A0 m c) (A1 m c) (A2 m c) (A3 m c) (A4 m c) (i 0) (i 1) := by
  refine (dats m 0 c).arrAt_eq_of_covers 6 _ (by decide +kernel) fun t hf y => ?_
  blk_simp; rw [after0_6]
  refine point6 m c t y _ ?_ ?_ <;> blk_simp [idx_val t] <;> try omega

/-- What a grid point leaves in window 8 is its block. -/
theorem point8 (c : Dev nD) (t : Fin cfg0.N) (y : S512x2816.Idx) (i : S4096x2816.Idx) (hi0 : (i 0 : ℕ) = 512 * t.val + (y 0 : ℕ))
    (hi1 : (i 1 : ℕ) = (y 1 : ℕ)) : (outsAt0 m c t.val t.isLt).2.2.2.1 y = da (A0 m c) (A1 m c) (A2 m c) (A3 m c) (A4 m c) (i 0) (i 1) := by
  have ht := ltN t
  by_cases hz : t.val % 8 = 0
  · rw [outsAt0_A m c t hz (by omega) hz (by omega)]
    frame_out
    canon_tiles x h
    all_goals idx_vars x
    · exact (da2_at _ _ _ _ _ _ _ _ _ _ _ (reads1 m c t) x0 x1).trans (congrArg₂ _ (row_eq (by simp; omega)) (Fin.ext (by omega)))
    · exact (da1_at _ _ _ _ _ _ _ _ _ _ _ (reads0 m c t) x0 x1).trans (congrArg₂ _ (row_eq (by simp; omega)) (Fin.ext (by omega)))
  · rw [outsAt0_B m c t hz (by omega) hz (by omega)]
    frame_out
    canon_tiles x h
    all_goals idx_vars x
    · exact (da2_at _ _ _ _ _ _ _ _ _ _ _ (reads1 m c t) x0 x1).trans (congrArg₂ _ (row_eq (by simp; omega)) (Fin.ext (by omega)))
    · exact (da1_at _ _ _ _ _ _ _ _ _ _ _ (reads0 m c t) x0 x1).trans (congrArg₂ _ (row_eq (by simp; omega)) (Fin.ext (by omega)))

/-- The array of window 8 after the run. -/
theorem final8 (c : Dev nD) : (dats m 0 c).arrAt 8 (cfgs 0).N = fun i => da (A0 m c) (A1 m c) (A2 m c) (A3 m c) (A4 m c) (i 0) (i 1) := by
  refine (dats m 0 c).arrAt_eq_of_covers 8 _ (by decide +kernel) fun t hf y => ?_
  blk_simp; rw [after0_8]
  refine point8 m c t y _ ?_ ?_ <;> blk_simp [idx_val t] <;> try omega

/-- A sum over the rows, sub-tile by sub-tile. -/
theorem sum_tiles (f : Fin 4096 → EReal) : ∑ n, f n = ∑ t : Fin cfg0.N, (∑ r, f (row t 0 r) + ∑ r, f (row t 1 r)) := by
  rw [Fin.sum_univ_tiles 8 512 rfl f]
  refine Finset.sum_congr rfl fun t _ => ?_
  rw [Fin.sum_univ_tiles 2 256 rfl, Fin.sum_univ_two]
  refine (congrArg₂ (· + ·) (Finset.sum_congr rfl fun r _ => congrArg f (Fin.ext ?_)) (Finset.sum_congr rfl fun r _ => congrArg f (Fin.ext ?_)))
  · show t.val * 512 + (0 * 256 + r.val) = 512 * t.val + 256 * 0 + r.val; omega
  · show t.val * 512 + (1 * 256 + r.val) = 512 * t.val + 256 * 1 + r.val; omega

/-- A grid point's part of the gain's gradient. -/
def part7 (c : Dev nD) (t : Fin cfg0.N) (d : Fin 1024) : EReal := ∑ r, gain (z (A0 m c) (A1 m c) (row t 0 r)) (dh (A0 m c) (A1 m c) (A2 m c) (A3 m c) (A4 m c) (row t 0 r)) d + ∑ r, gain (z (A0 m c) (A1 m c) (row t 1 r)) (dh (A0 m c) (A1 m c) (A2 m c) (A3 m c) (A4 m c) (row t 1 r)) d
/-- The first point starts the sum. -/
theorem step7_A (c : Dev nD) (t : Fin cfg0.N) (hz : t.val % 8 = 0) (y : S1x1024.Idx) :
    (outsAt0 m c t.val t.isLt).2.2.1 y = 0 + part7 m c t (y 1) := by
  have ht := ltN t
  rw [outsAt0_A m c t hz (by omega) hz (by omega)]
  frame_out
  idx_vars y
  obtain rfl : y0 = 0 := Subsingleton.elim _ _
  refine (gn2 _ _ _ y1).trans ((congrArg₂ (· + ·) ((gn1 _ _ _ y1).trans (congrArg₂ (· + ·) (zero_at y1) (Finset.sum_congr rfl fun r _ => gain1_at _ _ _ _ _ _ _ _ _ _ _ (reads0 m c t) r y1)))
    (Finset.sum_congr rfl fun r _ => gain2_at _ _ _ _ _ _ _ _ _ _ _ (reads1 m c t) r y1)).trans ?_)
  exact add_assoc _ _ _
/-- What a later point stores. -/
theorem add_at7 (u : FVec Ideal S1x1024 .f32) (v v' : FVec Ideal S256x1024 .f32) (w : FVec Ideal S1x1024 .f32) (d : Fin 1024) :
    k0_pay6 (F := Ideal) u v v' w (ix2 0 d) = w (ix2 0 d) + k0_pay2 (F := Ideal) u v v' (ix2 0 d) := by
  pointwise [k0_pay6]
/-- A later point adds to it. -/
theorem step7_B (c : Dev nD) (t : Fin cfg0.N) (hz : ¬t.val % 8 = 0) (y : S1x1024.Idx) :
    (outsAt0 m c t.val t.isLt).2.2.1 y = (outsAt0 m c (t.val - 1) (Nat.lt_of_le_of_lt (Nat.sub_le _ _) t.isLt)).2.2.1 y + part7 m c t (y 1) := by
  have ht := ltN t
  rw [outsAt0_B m c t hz (by omega) hz (by omega)]
  frame_out
  idx_vars y
  obtain rfl : y0 = 0 := Subsingleton.elim _ _
  refine (add_at7 _ _ _ _ y1).trans (congrArg (_ + ·) ?_)
  refine (gn2 _ _ _ y1).trans ((congrArg₂ (· + ·) ((gn1 _ _ _ y1).trans (congrArg₂ (· + ·) (zero_at y1) (Finset.sum_congr rfl fun r _ => gain1_at _ _ _ _ _ _ _ _ _ _ _ (reads0 m c t) r y1)))
    (Finset.sum_congr rfl fun r _ => gain2_at _ _ _ _ _ _ _ _ _ _ _ (reads1 m c t) r y1)).trans ?_)
  rw [zero_add]; rfl
/-- The gain's gradient after the run. -/
theorem final7 (c : Dev nD) : (dats m 0 c).arrAt 7 (cfgs 0).N = fun i => dg (A0 m c) (A1 m c) (A2 m c) (A3 m c) (A4 m c) (i 1) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun t y => part7 m c t (y 1))
    (fun t h j => step7_A m c t h j) (fun t h j => step7_B m c t h j) (le_of_eq N_0) t0_7 rfl j, zero_add]
  refine (sum_tiles (fun t => gain (z (A0 m c) (A1 m c) t) (dh (A0 m c) (A1 m c) (A2 m c) (A3 m c) (A4 m c) t) (j 1))).symm

/-- A grid point's part of the loss. -/
def part9 (c : Dev nD) (t : Fin cfg0.N) : EReal := chalfinv * (∑ r, sq (A0 m c) (A1 m c) (A2 m c) (A3 m c) (A4 m c) (row t 0 r) + ∑ r, sq (A0 m c) (A1 m c) (A2 m c) (A3 m c) (A4 m c) (row t 1 r))
/-- The first point starts the sum. -/
theorem lossPart (c : Dev nD) (t : Fin cfg0.N) (i : Fin 8) (j : Fin 128) (a a' : Vec Ideal S256x2816 .bf16) (w : Vec Ideal S2816x1024 .bf16)
    (g : Vec Ideal S1x1024 .f32) (h h' : Vec Ideal S256x1024 .bf16) (y y' : Vec Ideal S256x1024 .f32)
    (R : Reads (A0 m c) (A1 m c) (A2 m c) (A3 m c) (A4 m c) (row t 0) a w g h y) (R' : Reads (A0 m c) (A1 m c) (A2 m c) (A3 m c) (A4 m c) (row t 1) a' w g h' y') :
    k0_pay4 (F := Ideal) (k0_pay25 (k0_pay8 a' w) (k0_pay14 (k0_pay13 a w h g y)) (k0_pay20 h') (k0_pay21 (k0_pay8 a' w)) g y') (ix2 i j)
      = part9 m c t := by
  refine (lo_at _ _ _ y' a w g h y i j).trans ?_
  unfold part9 Cert.Reference5Ideal.LossRef.sq
  rw [zero_add]
  simp only [err1_at _ _ _ _ _ _ _ _ _ _ _ R, err2_at _ _ _ _ _ _ _ _ _ _ _ R']
theorem step9_A (c : Dev nD) (t : Fin cfg0.N) (hz : t.val % 8 = 0) (y : S8x128.Idx) :
    (outsAt0 m c t.val t.isLt).2.2.2.2 y = 0 + part9 m c t := by
  have ht := ltN t
  rw [outsAt0_A m c t hz (by omega) hz (by omega), zero_add]
  frame_out
  idx_vars y
  exact lossPart m c t y0 y1 _ _ _ _ _ _ _ _ (reads0 m c t) (reads1 m c t)
/-- What a later point stores. -/
theorem add_at9 (x : Ideal .f32) (w : FVec Ideal S8x128 .f32) (i : Fin 8) (j : Fin 128) :
    k0_pay5 (F := Ideal) x w (ix2 i j) = w (ix2 i j) + k0_pay4 (F := Ideal) x (ix2 i j) := by
  pointwise [k0_pay5]
/-- A later point adds to it. -/
theorem step9_B (c : Dev nD) (t : Fin cfg0.N) (hz : ¬t.val % 8 = 0) (y : S8x128.Idx) :
    (outsAt0 m c t.val t.isLt).2.2.2.2 y = (outsAt0 m c (t.val - 1) (Nat.lt_of_le_of_lt (Nat.sub_le _ _) t.isLt)).2.2.2.2 y + part9 m c t := by
  have ht := ltN t
  rw [outsAt0_B m c t hz (by omega) hz (by omega)]
  frame_out
  idx_vars y
  refine (add_at9 _ _ y0 y1).trans (congrArg (_ + ·) ?_)
  exact lossPart m c t y0 y1 _ _ _ _ _ _ _ _ (reads0 m c t) (reads1 m c t)
/-- The loss after the run, on real arguments. -/
theorem final9 (c : Dev nD) (R : Real (A0 m c) (A1 m c) (A2 m c) (A3 m c) (A4 m c)) : (dats m 0 c).arrAt 9 (cfgs 0).N = fun _ => loss (A0 m c) (A1 m c) (A2 m c) (A3 m c) (A4 m c) := by
  refine (dats m 0 c).arrAt_eq_of_after_last 9 t0_7 (by decide +kernel) _ fun j => ?_
  blk_simp
  rw [after0_9, Pipeline.eq_sum_fin_of_reset_step_apply_last (fun n h => (outsAt0 m c n h).2.2.2.2) 8 (fun _ => 0)
    (fun t y => part9 m c t)
    (fun t h j => step9_A m c t h j) (fun t h j => step9_B m c t h j) (le_of_eq N_0) t0_7 rfl j, zero_add]
  unfold loss
  rw [sum_tiles]
  exact mul_sum_real (n := 8) fun t => (IsReal.sum fun r => sq_real _ _ _ _ _ R _).add (IsReal.sum fun r => sq_real _ _ _ _ _ R _)

end Cert.Kernel5Ideal.LossBlock

end

end
-- ==== Proof.QkvSpec.lean ====
/- The formulas of the input gradient of two projections of one stream, each behind its norm, and of the norm and projection before the stream,
   over arrays as functions. -/
module

public import proofs.«01_k».proof.Proof.NormRow

@[expose] public section

noncomputable section

open Idealize.ShloMosaic

namespace QkvBwd

open Finite

/-- The arrays the gradient reads: the cotangents of the two projections and their weights, the stream with its two gains and its cotangent,
    the output of the projection before it with its gain and weight. -/
structure Args where
  dq : Fin 4096 → Fin 1024 → EReal
  dkv : Fin 4096 → Fin 512 → EReal
  wq : Fin 1024 → Fin 1024 → EReal
  wkv : Fin 1024 → Fin 512 → EReal
  gq : Fin 1024 → EReal
  gkv : Fin 1024 → EReal
  h : Fin 4096 → Fin 1024 → EReal
  dout : Fin 4096 → Fin 1024 → EReal
  z : Fin 4096 → Fin 1024 → EReal
  gp : Fin 1024 → EReal
  w : Fin 2816 → Fin 1024 → EReal

variable (A : Args)

/-- The cotangent of the first normed stream. -/
def nq (t : Fin 4096) (d : Fin 1024) : EReal := ∑ e, A.dq t e * A.wq d e
/-- The cotangent of the second. -/
def nkv (t : Fin 4096) (d : Fin 1024) : EReal := ∑ e, A.dkv t e * A.wkv d e
/-- The cotangent of the stream. -/
def dh (t : Fin 4096) (d : Fin 1024) : EReal := A.dout t d + normBwd (A.h t) A.gq (nq A t) d + normBwd (A.h t) A.gkv (nkv A t) d
/-- The first gain's gradient. -/
def dgq (d : Fin 1024) : EReal := ∑ t, Ffn2.gain (A.h t) (nq A t) d
/-- The second gain's gradient. -/
def dgkv (d : Fin 1024) : EReal := ∑ t, Ffn2.gain (A.h t) (nkv A t) d
/-- The cotangent of the projection before the stream. -/
def dz (t : Fin 4096) (d : Fin 1024) : EReal := normBwd (A.z t) A.gp (dh A t) d
/-- Its gain's gradient. -/
def dgp (d : Fin 1024) : EReal := ∑ t, Ffn2.gain (A.z t) (dh A t) d
/-- The cotangent of that projection's input. -/
def da (t : Fin 4096) (f : Fin 2816) : EReal := ∑ d, dz A t d * A.w f d

end QkvBwd

end

end
-- ==== Proof.QkvRef.lean ====
/- The input gradient of the two attention projections and of the block before them, read at an index of the reference on real arguments. -/
module

public import proofs.«01_k».proof.Proof.Gen.Reference7Ideal.Read
public import proofs.«01_k».proof.Proof.QkvSpec

set_option maxRecDepth 16384

@[expose] public section

noncomputable section

open Idealize.ShloMosaic Idealize.ShloMosaic.TcCoe Idealize.SL.Sem

namespace Cert.Reference7Ideal.QkvRef

open Cert.Reference7Ideal Cert.Reference7Ideal.Gen Cert.Reference7Ideal.Read
open Finite QkvBwd
open Ffn2 (gain)

variable (x0 : FVec Ideal S4096x2816 .f32) (x1 : FVec Ideal S2816x1024 .f32) (x2 : FVec Ideal S4096x1024 .f32) (x3 : FVec Ideal S1x1024 .f32) (x4 : FVec Ideal S1x1024 .f32) (x5 : FVec Ideal S1x1024 .f32) (x6 : FVec Ideal S1024x1024 .f32) (x7 : FVec Ideal S1024x512 .f32) (x8 : FVec Ideal S4096x1024 .f32) (x9 : FVec Ideal S4096x512 .f32) (x10 : FVec Ideal S4096x1024 .f32)

/-- The arrays the gradient reads. -/
def args : Args where
  dq t e := x8 (ix2 t e)
  dkv t e := x9 (ix2 t e)
  wq d e := x6 (ix2 d e)
  wkv d e := x7 (ix2 d e)
  gq d := x4 (ix2 0 d)
  gkv d := x5 (ix2 0 d)
  h t d := val_main_v16 (F := Ideal) x0 x1 x2 x3 (ix2 t d)
  dout t d := x10 (ix2 t d)
  z t d := val_main_v0 (F := Ideal) x0 x1 (ix2 t d)
  gp d := x3 (ix2 0 d)
  w f d := x1 (ix2 f d)

/-- Every argument's entries are real. -/
structure Real : Prop where
  r0 : ∀ i, IsReal (x0 i)
  r1 : ∀ i, IsReal (x1 i)
  r2 : ∀ i, IsReal (x2 i)
  r3 : ∀ i, IsReal (x3 i)
  r4 : ∀ i, IsReal (x4 i)
  r5 : ∀ i, IsReal (x5 i)
  r6 : ∀ i, IsReal (x6 i)
  r7 : ∀ i, IsReal (x7 i)
  r8 : ∀ i, IsReal (x8 i)
  r9 : ∀ i, IsReal (x9 i)
  r10 : ∀ i, IsReal (x10 i)

/-- A sum's four parts, regrouped. -/
theorem regroup (p a s x : EReal) : p + a + x * s + s * x = p + (a + x * s + s * x) := by
  rw [add_assoc, add_assoc, add_assoc]
/-- The cotangents of the normed streams. -/
theorem nq_at (t : Fin 4096) (d : Fin 1024) : val_main_v70 (F := Ideal) x6 x8 (ix2 t d) = nq (args x0 x1 x2 x3 x4 x5 x6 x7 x8 x9 x10) t d := by
  pointwise [val_main_v70]
  rfl
theorem nkv_at (t : Fin 4096) (d : Fin 1024) : val_main_v49 (F := Ideal) x7 x9 (ix2 t d) = nkv (args x0 x1 x2 x3 x4 x5 x6 x7 x8 x9 x10) t d := by
  pointwise [val_main_v49]
  rfl
/-- The stream is the residual plus the norm of the projection. -/
theorem h_at (t : Fin 4096) (d : Fin 1024) : val_main_v16 (F := Ideal) x0 x1 x2 x3 (ix2 t d)
    = x2 (ix2 t d) + normE (fun k => val_main_v0 (F := Ideal) x0 x1 (ix2 t k)) (fun k => x3 (ix2 0 k)) d := by
  pointwise [val_main_v16, val_main_v15, val_main_v14, val_main_v13, val_main_v12, val_main_v8, val_main_v7, val_main_v6, val_main_v5, val_main_v4, val_main_v3, val_main_v2, val_main_v1, val_main_cst, val_main_cst_0, val_main_cst_1]
  rfl

variable (R : Real x0 x1 x2 x3 x4 x5 x6 x7 x8 x9 x10)
include R

theorem z_real (t : Fin 4096) (d : Fin 1024) : IsReal ((args x0 x1 x2 x3 x4 x5 x6 x7 x8 x9 x10).z t d) := by
  show IsReal (val_main_v0 (F := Ideal) x0 x1 (ix2 t d))
  pointwise [val_main_v0]
  exact IsReal.sum fun f => (R.r0 _).mul (R.r1 _)
theorem h_real (t : Fin 4096) (d : Fin 1024) : IsReal ((args x0 x1 x2 x3 x4 x5 x6 x7 x8 x9 x10).h t d) := by
  show IsReal (val_main_v16 (F := Ideal) x0 x1 x2 x3 (ix2 t d))
  rw [h_at]
  exact (R.r2 _).add (isReal_normE (fun k => z_real x0 x1 x2 x3 x4 x5 x6 x7 x8 x9 x10 R t k) (fun k => R.r3 _) d)
theorem nq_real (t : Fin 4096) (d : Fin 1024) : IsReal (nq (args x0 x1 x2 x3 x4 x5 x6 x7 x8 x9 x10) t d) := IsReal.sum fun e => (R.r8 _).mul (R.r6 _)
theorem nkv_real (t : Fin 4096) (d : Fin 1024) : IsReal (nkv (args x0 x1 x2 x3 x4 x5 x6 x7 x8 x9 x10) t d) := IsReal.sum fun e => (R.r9 _).mul (R.r7 _)
theorem dh_real (t : Fin 4096) (d : Fin 1024) : IsReal (dh (args x0 x1 x2 x3 x4 x5 x6 x7 x8 x9 x10) t d) :=
  ((R.r10 _).add (isReal_normBwd (fun k => h_real x0 x1 x2 x3 x4 x5 x6 x7 x8 x9 x10 R t k) (fun k => R.r4 _) (fun k => nq_real x0 x1 x2 x3 x4 x5 x6 x7 x8 x9 x10 R t k) d)).add
    (isReal_normBwd (fun k => h_real x0 x1 x2 x3 x4 x5 x6 x7 x8 x9 x10 R t k) (fun k => R.r5 _) (fun k => nkv_real x0 x1 x2 x3 x4 x5 x6 x7 x8 x9 x10 R t k) d)

/-- The stream's cotangent with the second projection's part. -/
theorem half_at (t : Fin 4096) (d : Fin 1024) : val_main_v69 (F := Ideal) x0 x1 x2 x3 x5 x7 x9 x10 (ix2 t d)
    = x10 (ix2 t d) + normBwd ((args x0 x1 x2 x3 x4 x5 x6 x7 x8 x9 x10).h t) (args x0 x1 x2 x3 x4 x5 x6 x7 x8 x9 x10).gkv (nkv (args x0 x1 x2 x3 x4 x5 x6 x7 x8 x9 x10) t) d := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v43, val_main_v42, val_main_v41, val_main_v40, val_main_v39, val_main_v38, val_main_v37, val_main_v36, val_main_v35, val_main_v34, val_main_v33, val_main_cst_7, val_main_cst_8, val_main_cst_9, val_main_cst_10, val_main_cst_12, val_main_cst_13, val_main_cst_14]
  simp only [nkv_at x0 x1 x2 x3 x4 x5 x6 x7 x8 x9 x10, Fin.sum_univ_one]
  rw [← normBwd_eq (x := (args x0 x1 x2 x3 x4 x5 x6 x7 x8 x9 x10).h t) (g := (args x0 x1 x2 x3 x4 x5 x6 x7 x8 x9 x10).gkv)
    (fun k => h_real x0 x1 x2 x3 x4 x5 x6 x7 x8 x9 x10 R t k) (fun k => R.r5 _) (fun k => nkv_real x0 x1 x2 x3 x4 x5 x6 x7 x8 x9 x10 R t k) d]
  rw [add_assoc, add_assoc, add_assoc]
  rfl
/-- The stream's cotangent. -/
theorem dh_at (t : Fin 4096) (d : Fin 1024) : val_main_v90 (F := Ideal) x0 x1 x2 x3 x4 x5 x6 x7 x8 x9 x10 (ix2 t d) = dh (args x0 x1 x2 x3 x4 x5 x6 x7 x8 x9 x10) t d := by
  pointwise [val_main_v90, val_main_v89, val_main_v88, val_main_v87, val_main_v86, val_main_v85, val_main_v84, val_main_v83, val_main_v82, val_main_v81, val_main_v80, val_main_v79, val_main_v78, val_main_v77, val_main_v76, val_main_v75, val_main_v74, val_main_v27, val_main_v26, val_main_v25, val_main_v24, val_main_v23, val_main_v22, val_main_v21, val_main_v20, val_main_v19, val_main_v18, val_main_v17, val_main_cst_3, val_main_cst_4, val_main_cst_5, val_main_cst_6, val_main_cst_16, val_main_cst_17, val_main_cst_18]
  simp only [half_at x0 x1 x2 x3 x4 x5 x6 x7 x8 x9 x10 R, nq_at x0 x1 x2 x3 x4 x5 x6 x7 x8 x9 x10, Fin.sum_univ_one]
  refine Eq.trans ?_ (add_right_comm ((args x0 x1 x2 x3 x4 x5 x6 x7 x8 x9 x10).dout t d) _ _)
  rw [← normBwd_eq (x := (args x0 x1 x2 x3 x4 x5 x6 x7 x8 x9 x10).h t) (g := (args x0 x1 x2 x3 x4 x5 x6 x7 x8 x9 x10).gq)
    (fun k => h_real x0 x1 x2 x3 x4 x5 x6 x7 x8 x9 x10 R t k) (fun k => R.r4 _) (fun k => nq_real x0 x1 x2 x3 x4 x5 x6 x7 x8 x9 x10 R t k) d]
  exact regroup _ _ _ _
theorem dh2_at (t : Fin 4096) (d : Fin 1024) : val_main_v91 (F := Ideal) x0 x1 x2 x3 x4 x5 x6 x7 x8 x9 x10 (ix2 t d) = dh (args x0 x1 x2 x3 x4 x5 x6 x7 x8 x9 x10) t d := by
  refine Eq.trans ?_ (dh_at x0 x1 x2 x3 x4 x5 x6 x7 x8 x9 x10 R t d)
  pointwise [val_main_v91]
/-- The cotangent of the projection before the stream. -/
theorem dz_at (t : Fin 4096) (d : Fin 1024) : val_main_v110 (F := Ideal) x0 x1 x2 x3 x4 x5 x6 x7 x8 x9 x10 (ix2 t d) = dz (args x0 x1 x2 x3 x4 x5 x6 x7 x8 x9 x10) t d := by
  pointwise [val_main_v110, val_main_v109, val_main_v108, val_main_v107, val_main_v106, val_main_v105, val_main_v104, val_main_v103, val_main_v102, val_main_v101, val_main_v100, val_main_v99, val_main_v98, val_main_v97, val_main_v96, val_main_v95, val_main_v11, val_main_v10, val_main_v9, val_main_v8, val_main_v7, val_main_v6, val_main_v5, val_main_v4, val_main_v3, val_main_v2, val_main_v1, val_main_cst, val_main_cst_0, val_main_cst_1, val_main_cst_2, val_main_cst_20, val_main_cst_21, val_main_cst_22]
  simp only [dh2_at x0 x1 x2 x3 x4 x5 x6 x7 x8 x9 x10 R, Fin.sum_univ_one]
  exact normBwd_eq (x := (args x0 x1 x2 x3 x4 x5 x6 x7 x8 x9 x10).z t) (g := (args x0 x1 x2 x3 x4 x5 x6 x7 x8 x9 x10).gp)
    (fun k => z_real x0 x1 x2 x3 x4 x5 x6 x7 x8 x9 x10 R t k) (fun k => R.r3 _) (fun k => dh_real x0 x1 x2 x3 x4 x5 x6 x7 x8 x9 x10 R t k) d

/-- The first result. -/
theorem out0_at (t : Fin 4096) (d : Fin 1024) : val_main_v111 (F := Ideal) x0 x1 x2 x3 x4 x5 x6 x7 x8 x9 x10 (ix2 t d) = dh (args x0 x1 x2 x3 x4 x5 x6 x7 x8 x9 x10) t d := by
  refine Eq.trans ?_ (dh_at x0 x1 x2 x3 x4 x5 x6 x7 x8 x9 x10 R t d)
  pointwise [val_main_v111]
/-- The second. -/
theorem out1_at (d : Fin 1024) : val_main_v73 (F := Ideal) x0 x1 x2 x3 x6 x8 (ix2 0 d) = dgq (args x0 x1 x2 x3 x4 x5 x6 x7 x8 x9 x10) d := by
  pointwise [val_main_v73, val_main_v72, val_main_v71, val_main_v29, val_main_v28, val_main_v24, val_main_v23, val_main_v22, val_main_v21, val_main_v20, val_main_v19, val_main_v18, val_main_v17, val_main_cst_3, val_main_cst_4, val_main_cst_5, val_main_cst_15]
  simp only [nq_at x0 x1 x2 x3 x4 x5 x6 x7 x8 x9 x10]
  exact Finset.sum_congr rfl fun t _ => mul_comm _ _
/-- The third. -/
theorem out2_at (d : Fin 1024) : val_main_v52 (F := Ideal) x0 x1 x2 x3 x7 x9 (ix2 0 d) = dgkv (args x0 x1 x2 x3 x4 x5 x6 x7 x8 x9 x10) d := by
  pointwise [val_main_v52, val_main_v51, val_main_v50, val_main_v45, val_main_v44, val_main_v40, val_main_v39, val_main_v38, val_main_v37, val_main_v36, val_main_v35, val_main_v34, val_main_v33, val_main_cst_7, val_main_cst_8, val_main_cst_9, val_main_cst_11]
  simp only [nkv_at x0 x1 x2 x3 x4 x5 x6 x7 x8 x9 x10]
  exact Finset.sum_congr rfl fun t _ => mul_comm _ _
/-- The fourth. -/
theorem out3_at (t : Fin 4096) (d : Fin 1024) : val_main_v112 (F := Ideal) x0 x1 x2 x3 x4 x5 x6 x7 x8 x9 x10 (ix2 t d) = dz (args x0 x1 x2 x3 x4 x5 x6 x7 x8 x9 x10) t d := by
  refine Eq.trans ?_ (dz_at x0 x1 x2 x3 x4 x5 x6 x7 x8 x9 x10 R t d)
  pointwise [val_main_v112]
/-- The fifth. -/
theorem out4_at (d : Fin 1024) : val_main_v94 (F := Ideal) x0 x1 x2 x3 x4 x5 x6 x7 x8 x9 x10 (ix2 0 d) = dgp (args x0 x1 x2 x3 x4 x5 x6 x7 x8 x9 x10) d := by
  pointwise [val_main_v94, val_main_v93, val_main_v92, val_main_v13, val_main_v12, val_main_v8, val_main_v7, val_main_v6, val_main_v5, val_main_v4, val_main_v3, val_main_v2, val_main_v1, val_main_cst, val_main_cst_0, val_main_cst_1, val_main_cst_19]
  simp only [dh2_at x0 x1 x2 x3 x4 x5 x6 x7 x8 x9 x10 R]
  exact Finset.sum_congr rfl fun t _ => mul_comm _ _
/-- The sixth. -/
theorem out5_at (t : Fin 4096) (f : Fin 2816) : val_main_v114 (F := Ideal) x0 x1 x2 x3 x4 x5 x6 x7 x8 x9 x10 (ix2 t f) = da (args x0 x1 x2 x3 x4 x5 x6 x7 x8 x9 x10) t f := by
  pointwise [val_main_v114, val_main_v113]
  simp only [dz_at x0 x1 x2 x3 x4 x5 x6 x7 x8 x9 x10 R]
  rfl

end Cert.Reference7Ideal.QkvRef

end

end
-- ==== Proof.InBwdRef.lean ====
/- The gradient of the first norm and projection, read at an index of the reference on real arguments. -/
module

public import proofs.«01_k».proof.Proof.Gen.Reference8Ideal.Read
public import proofs.«01_k».proof.Proof.NormRow

set_option maxRecDepth 16384

@[expose] public section

noncomputable section

open Idealize.ShloMosaic Idealize.ShloMosaic.TcCoe Idealize.SL.Sem

namespace Cert.Reference8Ideal.InBwdRef

open Cert.Reference8Ideal Cert.Reference8Ideal.Gen Cert.Reference8Ideal.Read
open Finite Ffn2

variable (x0 : FVec Ideal S4096x3072 .bf16) (x1 : FVec Ideal S1024x3072 .bf16) (x2 : FVec Ideal S4096x1024 .f32) (x3 : FVec Ideal S1x1024 .f32)
  (x4 : FVec Ideal S4096x1024 .bf16)

/-- The cotangent of the normed input. -/
def dn (t : Fin 4096) (d : Fin 1024) : EReal := ∑ e, x0 (ix2 t e) * x1 (ix2 d e)
/-- The gradient of the step's input. -/
def dx (t : Fin 4096) (d : Fin 1024) : EReal := x4 (ix2 t d) + normBwd (fun k => x2 (ix2 t k)) (fun k => x3 (ix2 0 k)) (dn x0 x1 t) d
/-- The gain's gradient. -/
def dg (d : Fin 1024) : EReal := ∑ t, gain (fun k => x2 (ix2 t k)) (dn x0 x1 t) d

/-- Every argument's entries are real. -/
structure Real : Prop where
  r0 : ∀ i, IsReal (x0 i)
  r1 : ∀ i, IsReal (x1 i)
  r2 : ∀ i, IsReal (x2 i)
  r3 : ∀ i, IsReal (x3 i)
  r4 : ∀ i, IsReal (x4 i)

/-- The cotangent of the normed input. -/
theorem dn_at (t : Fin 4096) (d : Fin 1024) : val_main_v19 (F := Ideal) x0 x1 (ix2 t d) = dn x0 x1 t d := by
  pointwise [val_main_v19, val_main_v18, val_main_v15]
  rfl

variable (R : Real x0 x1 x2 x3 x4)
include R

theorem dn_real (t : Fin 4096) (d : Fin 1024) : IsReal (dn x0 x1 t d) := IsReal.sum fun e => (R.r0 _).mul (R.r1 _)

/-- The first result: the gradient of the step's input. -/
theorem out0_at (t : Fin 4096) (d : Fin 1024) : val_main_v39 (F := Ideal) x0 x1 x2 x3 x4 (ix2 t d) = dx x0 x1 x2 x3 x4 t d := by
  pointwise [val_main_v39, val_main_v38, val_main_v37, val_main_v36, val_main_v35, val_main_v34, val_main_v33, val_main_v32, val_main_v31, val_main_v30,
    val_main_v29, val_main_v28, val_main_v27, val_main_v26, val_main_v25, val_main_v24, val_main_v23, val_main_v17, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_4, val_main_cst_5, val_main_cst_6]
  simp only [dn_at, Fin.sum_univ_one]
  unfold dx
  rw [← normBwd_eq (x := fun k => x2 (ix2 t k)) (g := fun k => x3 (ix2 0 k))
    (fun k => R.r2 _) (fun k => R.r3 _) (fun k => dn_real x0 x1 x2 x3 x4 R t k) d]
  rw [add_assoc, add_assoc, add_assoc]
  rfl

/-- The second: the gain's gradient. -/
theorem out1_at (d : Fin 1024) : val_main_v22 (F := Ideal) x0 x1 x2 (ix2 0 d) = dg x0 x1 x2 d := by
  pointwise [val_main_v22, val_main_v21, val_main_v20, val_main_v12, val_main_v11, val_main_v7, val_main_v6, val_main_v5, val_main_v4, val_main_v3,
    val_main_v2, val_main_v1, val_main_v0, val_main_cst, val_main_cst_0, val_main_cst_1, val_main_cst_3]
  simp only [dn_at]
  exact Finset.sum_congr rfl fun t _ => mul_comm _ _

end Cert.Reference8Ideal.InBwdRef

end

end
-- ==== Proof.FinitePre2.lean ====
/- What the further preconditions say: every entry of every argument is real. -/
module

public import proofs.«01_k».proof.Proof.Gen.Pre_finite5
public import proofs.«01_k».proof.Proof.Gen.Pre_finite7
public import proofs.«01_k».proof.Proof.Gen.Pre_finite8
public import proofs.«01_k».proof.Proof.LossRef
public import proofs.«01_k».proof.Proof.QkvRef
public import proofs.«01_k».proof.Proof.InBwdRef

@[expose] public section

noncomputable section

open Idealize.ShloMosaic Idealize.SL.Sem

namespace Finite

/-- The bits of plus infinity in sixteen bits denote it. -/
theorem ofBits_inf16 : Ideal.ofBits .bf16 0x7F80#16 = (⊤ : EReal) := by
  rfl

/-- A sixteen-bit array all of whose entries compare below plus infinity in absolute value has real entries. -/
theorem real_of_reduce16 {s : Shape} {axes : List (Fin s.rank)} (x : FVec Ideal s .bf16) (v : (⟨0, ![]⟩ : Shape).Idx → BitVec 1)
    (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .bf16 0x7F80#16))) v h hu j = 1#1)
    (i : s.Idx) : IsReal (x i) := by
  have e1 := all_of_reduce _ _ h hu j e i
  have e2 : Ideal.cmp .olt (max (x i) (-(x i))) (Ideal.ofBits .bf16 0x7F80#16) = 1#1 := e1
  rw [ofBits_inf16] at e2
  refine isReal_of_abs_lt _ ?_
  have e3 : BitVec.ofBool (decide (max (x i) (-(x i)) < ⊤)) = 1#1 := e2
  by_contra hn
  rw [decide_eq_false hn] at e3
  exact absurd e3 (by decide)

/-- The down projection's and the loss's precondition. -/
theorem of_finite5 (x0 : FVec Ideal Cert.Pre_finite5.S4096x2816 .bf16) (x1 : FVec Ideal Cert.Pre_finite5.S2816x1024 .bf16) (x2 : FVec Ideal Cert.Pre_finite5.S1x1024 .f32) (x3 : FVec Ideal Cert.Pre_finite5.S4096x1024 .bf16) (x4 : FVec Ideal Cert.Pre_finite5.S4096x1024 .f32)
    (h : Cert.Pre_finite5.fn (F := Ideal) x0 x1 x2 x3 x4 = fun _ => 1#1) : Cert.Reference5Ideal.LossRef.Real x0 x1 x2 x3 x4 := by
  have e := congrFun h ix0
  unfold Cert.Pre_finite5.fn Cert.Pre_finite5.fn_part1 at e
  dsimp only at e
  obtain ⟨e, e4⟩ := andi_split _ _ _ e
  obtain ⟨e, e3⟩ := andi_split _ _ _ e
  obtain ⟨e, e2⟩ := andi_split _ _ _ e
  obtain ⟨e, e1⟩ := andi_split _ _ _ e
  obtain ⟨e, e0⟩ := andi_split _ _ _ e
  exact ⟨real_of_reduce16 _ _ _ _ _ _ e0, real_of_reduce16 _ _ _ _ _ _ e1, real_of_reduce _ _ _ _ _ _ e2, real_of_reduce16 _ _ _ _ _ _ e3, real_of_reduce _ _ _ _ _ _ e4⟩

/-- The precondition of the attention projections' input gradient. -/
theorem of_finite7 (x0 : FVec Ideal Cert.Pre_finite7.S4096x2816 .f32) (x1 : FVec Ideal Cert.Pre_finite7.S2816x1024 .f32) (x2 : FVec Ideal Cert.Pre_finite7.S4096x1024 .f32) (x3 : FVec Ideal Cert.Pre_finite7.S1x1024 .f32) (x4 : FVec Ideal Cert.Pre_finite7.S1x1024 .f32) (x5 : FVec Ideal Cert.Pre_finite7.S1x1024 .f32) (x6 : FVec Ideal Cert.Pre_finite7.S1024x1024 .f32) (x7 : FVec Ideal Cert.Pre_finite7.S1024x512 .f32) (x8 : FVec Ideal Cert.Pre_finite7.S4096x1024 .f32) (x9 : FVec Ideal Cert.Pre_finite7.S4096x512 .f32) (x10 : FVec Ideal Cert.Pre_finite7.S4096x1024 .f32)
    (h : Cert.Pre_finite7.fn (F := Ideal) x0 x1 x2 x3 x4 x5 x6 x7 x8 x9 x10 = fun _ => 1#1) : Cert.Reference7Ideal.QkvRef.Real x0 x1 x2 x3 x4 x5 x6 x7 x8 x9 x10 := by
  have e := congrFun h ix0
  unfold Cert.Pre_finite7.fn Cert.Pre_finite7.fn_part1 Cert.Pre_finite7.fn_part2 Cert.Pre_finite7.fn_part3 at e
  dsimp only at e
  obtain ⟨e, e10⟩ := andi_split _ _ _ e
  obtain ⟨e, e9⟩ := andi_split _ _ _ e
  obtain ⟨e, e8⟩ := andi_split _ _ _ e
  obtain ⟨e, e7⟩ := andi_split _ _ _ e
  obtain ⟨e, e6⟩ := andi_split _ _ _ e
  obtain ⟨e, e5⟩ := andi_split _ _ _ e
  obtain ⟨e, e4⟩ := andi_split _ _ _ e
  obtain ⟨e, e3⟩ := andi_split _ _ _ e
  obtain ⟨e, e2⟩ := andi_split _ _ _ e
  obtain ⟨e, e1⟩ := andi_split _ _ _ e
  obtain ⟨e, e0⟩ := andi_split _ _ _ e
  exact ⟨real_of_reduce _ _ _ _ _ _ e0, real_of_reduce _ _ _ _ _ _ e1, real_of_reduce _ _ _ _ _ _ e2, real_of_reduce _ _ _ _ _ _ e3, real_of_reduce _ _ _ _ _ _ e4, real_of_reduce _ _ _ _ _ _ e5, real_of_reduce _ _ _ _ _ _ e6, real_of_reduce _ _ _ _ _ _ e7, real_of_reduce _ _ _ _ _ _ e8, real_of_reduce _ _ _ _ _ _ e9, real_of_reduce _ _ _ _ _ _ e10⟩

/-- The precondition of the convolution block's input gradient. -/
theorem of_finite8 (x0 : FVec Ideal Cert.Pre_finite8.S4096x3072 .bf16) (x1 : FVec Ideal Cert.Pre_finite8.S1024x3072 .bf16) (x2 : FVec Ideal Cert.Pre_finite8.S4096x1024 .f32) (x3 : FVec Ideal Cert.Pre_finite8.S1x1024 .f32) (x4 : FVec Ideal Cert.Pre_finite8.S4096x1024 .bf16)
    (h : Cert.Pre_finite8.fn (F := Ideal) x0 x1 x2 x3 x4 = fun _ => 1#1) : Cert.Reference8Ideal.InBwdRef.Real x0 x1 x2 x3 x4 := by
  have e := congrFun h ix0
  unfold Cert.Pre_finite8.fn Cert.Pre_finite8.fn_part1 at e
  dsimp only at e
  obtain ⟨e, e4⟩ := andi_split _ _ _ e
  obtain ⟨e, e3⟩ := andi_split _ _ _ e
  obtain ⟨e, e2⟩ := andi_split _ _ _ e
  obtain ⟨e, e1⟩ := andi_split _ _ _ e
  obtain ⟨e, e0⟩ := andi_split _ _ _ e
  exact ⟨real_of_reduce16 _ _ _ _ _ _ e0, real_of_reduce16 _ _ _ _ _ _ e1, real_of_reduce _ _ _ _ _ _ e2, real_of_reduce _ _ _ _ _ _ e3, real_of_reduce16 _ _ _ _ _ _ e4⟩

end Finite

end

end
-- ==== Proof.LossClaim.lean ====
/- The claims about the down projection, the loss and their gradients. -/
module

public import proofs.«01_k».proof.Defs
public import proofs.«01_k».proof.Proof.Gen.Kernel5.Frame
public import proofs.«01_k».proof.Proof.Gen.Reference5Ideal.Run
public import proofs.«01_k».proof.Proof.LossBlock
public import proofs.«01_k».proof.Proof.FinitePre2

set_option maxRecDepth 16384

@[expose] public section

noncomputable section

open Idealize.ShloMosaic Idealize.SL.Sem

namespace Cert.Proof

set_option maxHeartbeats 2000000 in
/-- The kernel's arrays are the reference's. -/
theorem value_Loss : Cert.algebraic_Kernel5Ideal_Reference5Ideal_pre_finite5 := fun m ρ m' ρ' hp hag =>
  ⟨fun c i => Cert.Reference5Ideal.LossRef.dh (Cert.Kernel5Ideal.LossBlock.A0 m c) (Cert.Kernel5Ideal.LossBlock.A1 m c) (Cert.Kernel5Ideal.LossBlock.A2 m c) (Cert.Kernel5Ideal.LossBlock.A3 m c) (Cert.Kernel5Ideal.LossBlock.A4 m c) (i 0) (i 1),
    fun c i => Cert.Reference5Ideal.LossRef.dz (Cert.Kernel5Ideal.LossBlock.A0 m c) (Cert.Kernel5Ideal.LossBlock.A1 m c) (Cert.Kernel5Ideal.LossBlock.A2 m c) (Cert.Kernel5Ideal.LossBlock.A3 m c) (Cert.Kernel5Ideal.LossBlock.A4 m c) (i 0) (i 1),
    fun c i => Cert.Reference5Ideal.LossRef.dg (Cert.Kernel5Ideal.LossBlock.A0 m c) (Cert.Kernel5Ideal.LossBlock.A1 m c) (Cert.Kernel5Ideal.LossBlock.A2 m c) (Cert.Kernel5Ideal.LossBlock.A3 m c) (Cert.Kernel5Ideal.LossBlock.A4 m c) (i 1),
    fun c i => Cert.Reference5Ideal.LossRef.da (Cert.Kernel5Ideal.LossBlock.A0 m c) (Cert.Kernel5Ideal.LossBlock.A1 m c) (Cert.Kernel5Ideal.LossBlock.A2 m c) (Cert.Kernel5Ideal.LossBlock.A3 m c) (Cert.Kernel5Ideal.LossBlock.A4 m c) (i 0) (i 1),
    fun c i => Cert.Reference5Ideal.LossRef.loss (Cert.Kernel5Ideal.LossBlock.A0 m c) (Cert.Kernel5Ideal.LossBlock.A1 m c) (Cert.Kernel5Ideal.LossBlock.A2 m c) (Cert.Kernel5Ideal.LossBlock.A3 m c) (Cert.Kernel5Ideal.LossBlock.A4 m c),
    (θ_run _ _ _).mono (fun _ h c => ⟨(h c).1.trans (Cert.Kernel5Ideal.LossBlock.final5 m c),
      (h c).2.1.trans (Cert.Kernel5Ideal.LossBlock.final6 m c),
      (h c).2.2.1.trans (Cert.Kernel5Ideal.LossBlock.final7 m c),
      (h c).2.2.2.1.trans (Cert.Kernel5Ideal.LossBlock.final8 m c),
      (h c).2.2.2.2.1.trans (Cert.Kernel5Ideal.LossBlock.final9 m c (Finite.of_finite5 _ _ _ _ _ (hp c))),
      (h c).2.2.2.2.2⟩) (Cert.Kernel5Ideal.Value.run_blocks m ρ),
    (θ_run _ _ _).mono (fun _ h c => ⟨by
        have f := Finite.of_finite5 _ _ _ _ _ (hp c)
        refine (h c).1.trans ((Cert.Reference5Ideal.Read.val_main_v54_eq ..).trans ?_)
        show Cert.Reference5Ideal.Read.val_main_v54 (F := Ideal) (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)) (m' ((c.tc : Thread _ _).loc Cert.Reference5Ideal.main_arg4)) = _
        rw [(hag c).1, (hag c).2.1, (hag c).2.2.1, (hag c).2.2.2.1, (hag c).2.2.2.2]
        funext i
        idx_vars i
        exact Cert.Reference5Ideal.LossRef.out0_at _ _ _ _ _ f i0 i1,
      by
        have f := Finite.of_finite5 _ _ _ _ _ (hp c)
        refine (h c).2.1.trans ((Cert.Reference5Ideal.Read.val_main_v55_eq ..).trans ?_)
        show Cert.Reference5Ideal.Read.val_main_v55 (F := Ideal) (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)) (m' ((c.tc : Thread _ _).loc Cert.Reference5Ideal.main_arg4)) = _
        rw [(hag c).1, (hag c).2.1, (hag c).2.2.1, (hag c).2.2.2.1, (hag c).2.2.2.2]
        funext i
        idx_vars i
        exact Cert.Reference5Ideal.LossRef.out1_at _ _ _ _ _ f i0 i1,
      by
        have f := Finite.of_finite5 _ _ _ _ _ (hp c)
        refine (h c).2.2.1.trans ((Cert.Reference5Ideal.Read.val_main_v37_eq ..).trans ?_)
        show Cert.Reference5Ideal.Read.val_main_v37 (F := Ideal) (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)) (m' ((c.tc : Thread _ _).loc Cert.Reference5Ideal.main_arg4)) = _
        rw [(hag c).1, (hag c).2.1, (hag c).2.2.1, (hag c).2.2.2.1, (hag c).2.2.2.2]
        funext i
        idx_vars i
        obtain rfl : i0 = 0 := Subsingleton.elim _ _
        exact Cert.Reference5Ideal.LossRef.out2_at _ _ _ _ _ f i1,
      by
        have f := Finite.of_finite5 _ _ _ _ _ (hp c)
        refine (h c).2.2.2.1.trans ((Cert.Reference5Ideal.Read.val_main_v57_eq ..).trans ?_)
        show Cert.Reference5Ideal.Read.val_main_v57 (F := Ideal) (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)) (m' ((c.tc : Thread _ _).loc Cert.Reference5Ideal.main_arg4)) = _
        rw [(hag c).1, (hag c).2.1, (hag c).2.2.1, (hag c).2.2.2.1, (hag c).2.2.2.2]
        funext i
        idx_vars i
        exact Cert.Reference5Ideal.LossRef.out3_at _ _ _ _ _ f i0 i1,
      by
        have f := Finite.of_finite5 _ _ _ _ _ (hp c)
        refine (h c).2.2.2.2.1.trans ((Cert.Reference5Ideal.Read.val_main_v58_eq ..).trans ?_)
        show Cert.Reference5Ideal.Read.val_main_v58 (F := Ideal) (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)) (m' ((c.tc : Thread _ _).loc Cert.Reference5Ideal.main_arg4)) = _
        rw [(hag c).1, (hag c).2.1, (hag c).2.2.1, (hag c).2.2.2.1, (hag c).2.2.2.2]
        funext i
        idx_vars i
        exact Cert.Reference5Ideal.LossRef.out4_at _ _ _ _ _ f i0 i1,
      (h c).2.2.2.2.2⟩) (Cert.Reference5Ideal.Value.run m' ρ')⟩

/-- The reference runs and leaves its arguments. -/
theorem frame_LossRef : Cert.quiescent_Reference5Ideal := fun m ρ _ =>
  (θ_run Cert.Reference5Ideal.defs _ _).mono (fun r h => ⟨fun c => (h c).2.2.2.2.2,
      sem_eq_zero_of_no_sems (by decide) r.2⟩)
    (Cert.Reference5Ideal.Value.run m ρ)

end Cert.Proof

end

end
-- ==== Proof.DownBlock.lean ====
/- The gradient of the down projection, block by block, and the reference read at an index. -/
module

public import proofs.«01_k».proof.Proof.Gen.Kernel6Ideal.Value
public import proofs.«01_k».proof.Proof.Gen.Reference6Ideal.Read
public import proofs.«01_k».proof.Proof.Finite

set_option maxRecDepth 16384

@[expose] public section

noncomputable section

open Idealize.ShloMosaic Idealize.ShloMosaic.TcCoe Idealize.SL.Sem
open Idealize.ShloMosaic.Pipeline (Dat)

namespace Cert.Kernel6Ideal.DownBlock

open Cert.Kernel6Ideal Cert.Kernel6Ideal.Gen
open Cert.Reference6Ideal.Read

variable (m : (ℓ : Loc nD τ sig) → Buf (Elt Ideal) ℓ)

/-- The product's left argument, read by columns. -/
abbrev A0 (c : Dev nD) : FVec Ideal S4096x2816 .bf16 := m ((c : Thread nD τ).loc main_arg0)
/-- The cotangent of the product. -/
abbrev A1 (c : Dev nD) : FVec Ideal S4096x1024 .bf16 := m ((c : Thread nD τ).loc main_arg1)

/-- The second window's array at entry. -/
def DB (c : Dev nD) : FVec Ideal S1x4096x1024 .bf16 := V m c main_v0
theorem DB_eq (c : Dev nD) : DB m c = broadcastInDim S1x4096x1024 ![1, 2] bcast_S4096x1024_S1x4096x1024_1_2 (A1 m c) := by
  unfold DB V
  after_results
  try rfl
/-- It is the cotangent. -/
theorem DB_at (c : Dev nD) (t : Fin 4096) (f : Fin 1024) : DB m c (ix3 0 t f) = A1 m c (ix2 t f) := by
  rw [DB_eq]
  pointwise
  try rfl

/-- The weight's gradient at an index. -/
def dwAt (a : FVec Ideal S4096x2816 .bf16) (b : FVec Ideal S4096x1024 .bf16) (d : Fin 2816) (f : Fin 1024) : EReal := ∑ t, a (ix2 t d) * b (ix2 t f)

/-- Every window's block index at every grid point. -/
theorem idx_val : ∀ t : Fin cfg0.N, win0_0.index t = ![0, t.val] ∧ win0_1.index t = ![0, 0, 0] ∧ win0_2.index t = ![t.val, 0] ∧ t.val < 11 :=
  (by decide +kernel : ∀ t : Fin grid0.N, _)
theorem ltN (t : Fin cfg0.N) : t.val < 11 := (idx_val t).2.2.2

/-- A block of the first window is 256 columns. -/
theorem rd0 (A : FVec Ideal S4096x2816 .bf16) (t : Fin cfg0.N) (k : Fin 4096) (f : Fin 256) (j : Fin 2816) (hj : j.val = 256 * t.val + f.val) :
    ((cfg0.win 0).blk t).view.read (Elt Ideal) A (ix2 k f) = A (ix2 k j) := by
  blk_ext [idx_val t]
/-- A block of the second window. -/
theorem rd1 (A : FVec Ideal S1x4096x1024 .bf16) (t : Fin cfg0.N) (k : Fin 4096) (f : Fin 1024) (j : Fin 1024) (hj : j.val = f.val) :
    ((cfg0.win 1).blk t).view.read (Elt Ideal) A (ix3 0 k f) = A (ix3 0 k j) := by
  blk_ext [idx_val t]

/-- What a grid point leaves is its block of the gradient. -/
theorem point2 (c : Dev nD) (t : Fin cfg0.N) (y : S256x1024.Idx) (i : S2816x1024.Idx) (hi0 : (i 0 : ℕ) = 256 * t.val + (y 0 : ℕ)) (hi1 : (i 1 : ℕ) = (y 1 : ℕ)) :
    out0_2 (F := Ideal) (iblk m c 0 t) (iblk m c 1 t) y = dwAt (A0 m c) (A1 m c) (i 0) (i 1) := by
  have ht := ltN t
  frame_out
  idx_vars y
  pointwise [k0_pay1]
  exact Finset.sum_congr rfl fun k _ => congrArg₂ (· * ·) (rd0 (A0 m c) t k y0 (i 0) hi0) ((rd1 (DB m c) t k y1 (i 1) hi1).trans (DB_at m c k (i 1)))

/-- The weight's gradient after the run. -/
theorem final2 (c : Dev nD) : (dats m 0 c).arrAt 2 (cfgs 0).N = fun i => dwAt (A0 m c) (A1 m c) (i 0) (i 1) := by
  refine (dats m 0 c).arrAt_eq_of_covers 2 _ (by decide +kernel) fun t hf y => ?_
  blk_simp; rw [after0_2]
  refine point2 m c t y _ ?_ ?_ <;> blk_simp [idx_val t] <;> try omega

/-- The reference's result at an index. -/
theorem ref_at (a : FVec Ideal S4096x2816 .bf16) (b : FVec Ideal S4096x1024 .bf16) (d : Fin 2816) (f : Fin 1024) :
    val_main_v6 (F := Ideal) a b (ix2 d f) = dwAt a b d f := by
  unfold dwAt
  pointwise [val_main_v6, val_main_v5, val_main_v4, val_main_v3, val_main_v1]
  exact Finset.sum_congr rfl fun t _ => mul_comm _ _

end Cert.Kernel6Ideal.DownBlock

end

end
-- ==== Proof.DownClaim.lean ====
/- The claims about the down projection's gradient. -/
module

public import proofs.«01_k».proof.Defs
public import proofs.«01_k».proof.Proof.Gen.Kernel6.Frame
public import proofs.«01_k».proof.Proof.Gen.Reference6Ideal.Run
public import proofs.«01_k».proof.Proof.DownBlock

set_option maxRecDepth 16384

@[expose] public section

noncomputable section

open Idealize.ShloMosaic Idealize.SL.Sem

namespace Cert.Proof

set_option maxHeartbeats 2000000 in
/-- The kernel's arrays are the reference's. -/
theorem value_Down : Cert.algebraic_Kernel6Ideal_Reference6Ideal := fun m ρ m' ρ' _ hag =>
  ⟨fun c i => Cert.Kernel6Ideal.DownBlock.dwAt (Cert.Kernel6Ideal.DownBlock.A0 m c) (Cert.Kernel6Ideal.DownBlock.A1 m c) (i 0) (i 1),
    (θ_run _ _ _).mono (fun _ h c => ⟨(h c).1.trans (Cert.Kernel6Ideal.DownBlock.final2 m c),
      (h c).2⟩) (Cert.Kernel6Ideal.Value.run_blocks m ρ),
    (θ_run _ _ _).mono (fun _ h c => ⟨by
        refine (h c).1.trans ((Cert.Reference6Ideal.Read.val_main_v6_eq ..).trans ?_)
        show Cert.Reference6Ideal.Read.val_main_v6 (F := Ideal) (m' ((c.tc : Thread _ _).loc Cert.Reference6Ideal.main_arg0)) (m' ((c.tc : Thread _ _).loc Cert.Reference6Ideal.main_arg1)) = _
        rw [(hag c).1, (hag c).2]
        funext i
        idx_vars i
        exact Cert.Kernel6Ideal.DownBlock.ref_at _ _ i0 i1,
      (h c).2⟩) (Cert.Reference6Ideal.Value.run m' ρ')⟩

/-- The reference runs and leaves its arguments. -/
theorem frame_DownRef : Cert.quiescent_Reference6Ideal := fun m ρ _ =>
  (θ_run Cert.Reference6Ideal.defs _ _).mono (fun r h => ⟨fun c => (h c).2,
      sem_eq_zero_of_no_sems (by decide) r.2⟩)
    (Cert.Reference6Ideal.Value.run m ρ)

end Cert.Proof

end

end
-- ==== Proof.QkvBlock.lean ====
/- The input gradient of the two attention projections and of the block before them, block by block: the arrays the kernel leaves are the formulas of QkvSpec. -/
module

public import proofs.«01_k».proof.Proof.Gen.Kernel7Ideal.Value
public import proofs.«01_k».proof.Proof.QkvRef

set_option maxRecDepth 16384

@[expose] public section

noncomputable section

open Idealize.ShloMosaic Idealize.ShloMosaic.TcCoe Idealize.SL.Sem
open Idealize.ShloMosaic.Pipeline (Dat)

namespace Cert.Kernel7Ideal.QkvBlock

open Cert.Kernel7Ideal Cert.Kernel7Ideal.Gen
open Cert.Reference7Ideal.Read
open Finite QkvBwd
open Ffn2 (gain)

/-- The loaded vectors are the rows `row` of the arrays. -/
structure Reads (A : Args) (row : Fin 256 → Fin 4096) (dq : Vec Ideal S256x1024 .bf16) (wq : Vec Ideal S1024x1024 .bf16) (dkv : Vec Ideal S256x512 .bf16) (wkv : Vec Ideal S1024x512 .bf16) (gq : Vec Ideal S1x1024 .f32) (gkv : Vec Ideal S1x1024 .f32) (h : Vec Ideal S256x1024 .bf16) (o : Vec Ideal S256x1024 .bf16) (z : Vec Ideal S256x1024 .bf16) (gp : Vec Ideal S1x1024 .f32) (w : Vec Ideal S2816x1024 .bf16) : Prop where
  dq : ∀ r e, dq (ix2 r e) = A.dq (row r) e
  wq : ∀ d e, wq (ix2 d e) = A.wq d e
  dkv : ∀ r e, dkv (ix2 r e) = A.dkv (row r) e
  wkv : ∀ d e, wkv (ix2 d e) = A.wkv d e
  gq : ∀ d, gq (ix2 0 d) = A.gq d
  gkv : ∀ d, gkv (ix2 0 d) = A.gkv d
  h : ∀ r d, h (ix2 r d) = A.h (row r) d
  o : ∀ r d, o (ix2 r d) = A.dout (row r) d
  z : ∀ r d, z (ix2 r d) = A.z (row r) d
  gp : ∀ d, gp (ix2 0 d) = A.gp d
  w : ∀ f d, w (ix2 f d) = A.w f d

section
variable (n k v v' : FVec Ideal S256x1024 .f32) (vb : FVec Ideal S256x1024 .bf16) (c1 : FVec Ideal S256x1 .f32) (u : FVec Ideal S1x1024 .f32) (dq : Vec Ideal S256x1024 .bf16) (wq : Vec Ideal S1024x1024 .bf16) (dkv : Vec Ideal S256x512 .bf16) (wkv : Vec Ideal S1024x512 .bf16) (gq : Vec Ideal S1x1024 .f32) (gkv : Vec Ideal S1x1024 .f32) (h : Vec Ideal S256x1024 .bf16) (o : Vec Ideal S256x1024 .bf16) (z : Vec Ideal S256x1024 .bf16) (gp : Vec Ideal S1x1024 .f32) (w : Vec Ideal S2816x1024 .bf16)

/-- The stream's cotangent of rows. -/
theorem st1 (r : Fin 256) (d : Fin 1024) : k0_pay18 (F := Ideal) n k (k0_pay12 h) (k0_pay13 h) (k0_pay14 (F := Ideal)) o gq gkv (ix2 r d)
    = o (ix2 r d) + normBwd (fun j => h (ix2 r j)) (fun j => gq (ix2 0 j)) (fun j => n (ix2 r j)) d
      + normBwd (fun j => h (ix2 r j)) (fun j => gkv (ix2 0 j)) (fun j => k (ix2 r j)) d := by
  pointwise [k0_pay18, k0_pay16, k0_pay15, k0_pay14, k0_pay13, k0_pay12]
  rfl
theorem st2 (r : Fin 256) (d : Fin 1024) : k0_pay33 (F := Ideal) (k0_pay28 h) (k0_pay30 n h o gq) (k0_pay32 k h gkv) (ix2 r d)
    = o (ix2 r d) + normBwd (fun j => h (ix2 r j)) (fun j => gq (ix2 0 j)) (fun j => n (ix2 r j)) d
      + normBwd (fun j => h (ix2 r j)) (fun j => gkv (ix2 0 j)) (fun j => k (ix2 r j)) d := by
  pointwise [k0_pay33, k0_pay32, k0_pay30, k0_pay29, k0_pay28, k0_pay27]
  rfl
/-- The norm's gradient of rows. -/
theorem nb1 (r : Fin 256) (d : Fin 1024) : k0_pay24 (F := Ideal) v z gp (ix2 r d)
    = normBwd (fun j => z (ix2 r j)) (fun j => gp (ix2 0 j)) (fun j => v (ix2 r j)) d := by
  pointwise [k0_pay24, k0_pay23, k0_pay22, k0_pay21]
  rfl
theorem nb2 (r : Fin 256) (d : Fin 1024) : k0_pay39 (F := Ideal) c1 v v' z gp (ix2 r d)
    = normBwd (fun j => z (ix2 r j)) (fun j => gp (ix2 0 j)) (fun j => k0_pay33 (F := Ideal) c1 v v' (ix2 r j)) d := by
  pointwise [k0_pay39, k0_pay38, k0_pay37, k0_pay36]
  rfl
/-- The projection's transpose of rows. -/
theorem pr1 (r : Fin 256) (f : Fin 2816) : k0_pay26 (F := Ideal) v z gp w (ix2 r f) = ∑ d, k0_pay24 (F := Ideal) v z gp (ix2 r d) * w (ix2 f d) := by
  pointwise [k0_pay26]
theorem pr2 (r : Fin 256) (f : Fin 2816) : k0_pay1 (F := Ideal) vb w (ix2 r f) = ∑ d, vb (ix2 r d) * w (ix2 f d) := by
  pointwise [k0_pay1]
/-- The gains' parts of rows. -/
theorem gq1 (d : Fin 1024) : k0_pay17 (F := Ideal) n u (k0_pay12 h) (k0_pay13 h) (k0_pay14 (F := Ideal)) (ix2 0 d)
    = u (ix2 0 d) + ∑ r : Fin 256, gain (fun j => h (ix2 r j)) (fun j => n (ix2 r j)) d := by
  pointwise [k0_pay17, k0_pay16, k0_pay15, k0_pay14, k0_pay13, k0_pay12]
  rfl
theorem gq2 (d : Fin 1024) : k0_pay31 (F := Ideal) n u h (ix2 0 d) = u (ix2 0 d) + ∑ r : Fin 256, gain (fun j => h (ix2 r j)) (fun j => n (ix2 r j)) d := by
  pointwise [k0_pay31, k0_pay29, k0_pay28, k0_pay27]
  rfl
theorem gk1 (d : Fin 1024) : k0_pay19 (F := Ideal) n u (k0_pay12 h) (k0_pay13 h) (k0_pay14 (F := Ideal)) (ix2 0 d)
    = u (ix2 0 d) + ∑ r : Fin 256, gain (fun j => h (ix2 r j)) (fun j => n (ix2 r j)) d := by
  pointwise [k0_pay19, k0_pay16, k0_pay15, k0_pay14, k0_pay13, k0_pay12]
  rfl
theorem gk2 (d : Fin 1024) : k0_pay34 (F := Ideal) n u (k0_pay29 h) (ix2 0 d)
    = u (ix2 0 d) + ∑ r : Fin 256, gain (fun j => h (ix2 r j)) (fun j => n (ix2 r j)) d := by
  pointwise [k0_pay34, k0_pay29, k0_pay28, k0_pay27]
  rfl
theorem gp1 (d : Fin 1024) : k0_pay25 (F := Ideal) u v z (ix2 0 d) = u (ix2 0 d) + ∑ r : Fin 256, gain (fun j => z (ix2 r j)) (fun j => v (ix2 r j)) d := by
  pointwise [k0_pay25, k0_pay23, k0_pay22, k0_pay21]
  rfl
theorem gp2 (d : Fin 1024) : k0_pay40 (F := Ideal) u c1 v v' z (ix2 0 d)
    = u (ix2 0 d) + ∑ r : Fin 256, gain (fun j => z (ix2 r j)) (fun j => k0_pay33 (F := Ideal) c1 v v' (ix2 r j)) d := by
  pointwise [k0_pay40, k0_pay38, k0_pay37, k0_pay36]
  rfl
/-- The sums start at zero. -/
theorem zero9 (d : Fin 1024) : k0_pay9 (F := Ideal) (ix2 0 d) = 0 := by
  pointwise [k0_pay9]
theorem zero10 (d : Fin 1024) : k0_pay10 (F := Ideal) (ix2 0 d) = 0 := by
  pointwise [k0_pay10]
theorem zero11 (d : Fin 1024) : k0_pay11 (F := Ideal) (ix2 0 d) = 0 := by
  pointwise [k0_pay11]
end

section
variable (A : Args) (row : Fin 256 → Fin 4096) (dq : Vec Ideal S256x1024 .bf16) (wq : Vec Ideal S1024x1024 .bf16) (dkv : Vec Ideal S256x512 .bf16) (wkv : Vec Ideal S1024x512 .bf16) (gq : Vec Ideal S1x1024 .f32) (gkv : Vec Ideal S1x1024 .f32) (h : Vec Ideal S256x1024 .bf16) (o : Vec Ideal S256x1024 .bf16) (z : Vec Ideal S256x1024 .bf16) (gp : Vec Ideal S1x1024 .f32) (w : Vec Ideal S2816x1024 .bf16) (R : Reads A row dq wq dkv wkv gq gkv h o z gp w)
include R

/-- The cotangents of the normed rows. -/
theorem nq1_at (r : Fin 256) (d : Fin 1024) : k0_pay5 (F := Ideal) dq wq (ix2 r d) = nq A (row r) d := by
  pointwise [k0_pay5]
  exact Finset.sum_congr rfl fun e _ => congrArg₂ (· * ·) (R.dq r e) (R.wq d e)
theorem nkv1_at (r : Fin 256) (d : Fin 1024) : k0_pay6 (F := Ideal) dkv wkv (ix2 r d) = nkv A (row r) d := by
  pointwise [k0_pay6]
  exact Finset.sum_congr rfl fun e _ => congrArg₂ (· * ·) (R.dkv r e) (R.wkv d e)
/-- The stream's cotangent. -/
theorem dh1_at (r : Fin 256) (d : Fin 1024) : k0_pay18 (F := Ideal) (k0_pay5 dq wq) (k0_pay6 dkv wkv) (k0_pay12 h) (k0_pay13 h) (k0_pay14 (F := Ideal)) o gq gkv (ix2 r d) = dh A (row r) d :=
  (st1 _ _ gq gkv h o r d).trans (congrArg₂ (· + ·) (congrArg₂ (· + ·) (R.o r d)
    (normBwd_congr (fun j => R.h r j) (fun j => R.gq j) (fun j => nq1_at A row dq wq dkv wkv gq gkv h o z gp w R r j) d))
    (normBwd_congr (fun j => R.h r j) (fun j => R.gkv j) (fun j => nkv1_at A row dq wq dkv wkv gq gkv h o z gp w R r j) d))
/-- As it is stored. -/
theorem sdh1_at (r : Fin 256) (d : Fin 1024) : k0_pay20 (F := Ideal) (k0_pay5 dq wq) (k0_pay6 dkv wkv) (k0_pay12 h) (k0_pay13 h) (k0_pay14 (F := Ideal)) o gq gkv (ix2 r d) = dh A (row r) d := by
  refine Eq.trans ?_ (dh1_at A row dq wq dkv wkv gq gkv h o z gp w R r d)
  pointwise [k0_pay20]
/-- A row's parts of the gains' gradients. -/
theorem gq1_at (r : Fin 256) (d : Fin 1024) : gain (fun j => h (ix2 r j)) (fun j => k0_pay5 (F := Ideal) dq wq (ix2 r j)) d
    = gain (A.h (row r)) (nq A (row r)) d := gain_congr (fun j => R.h r j) (fun j => nq1_at A row dq wq dkv wkv gq gkv h o z gp w R r j) d
theorem gk1_at (r : Fin 256) (d : Fin 1024) : gain (fun j => h (ix2 r j)) (fun j => k0_pay6 (F := Ideal) dkv wkv (ix2 r j)) d
    = gain (A.h (row r)) (nkv A (row r)) d := gain_congr (fun j => R.h r j) (fun j => nkv1_at A row dq wq dkv wkv gq gkv h o z gp w R r j) d
theorem gp1_at (r : Fin 256) (d : Fin 1024) : gain (fun j => z (ix2 r j)) (fun j => k0_pay18 (F := Ideal) (k0_pay5 dq wq) (k0_pay6 dkv wkv) (k0_pay12 h) (k0_pay13 h) (k0_pay14 (F := Ideal)) o gq gkv (ix2 r j)) d
    = gain (A.z (row r)) (dh A (row r)) d := gain_congr (fun j => R.z r j) (fun j => dh1_at A row dq wq dkv wkv gq gkv h o z gp w R r j) d
/-- The cotangents of the normed rows. -/
theorem nq2_at (r : Fin 256) (d : Fin 1024) : k0_pay7 (F := Ideal) dq wq (ix2 r d) = nq A (row r) d := by
  pointwise [k0_pay7]
  exact Finset.sum_congr rfl fun e _ => congrArg₂ (· * ·) (R.dq r e) (R.wq d e)
theorem nkv2_at (r : Fin 256) (d : Fin 1024) : k0_pay8 (F := Ideal) dkv wkv (ix2 r d) = nkv A (row r) d := by
  pointwise [k0_pay8]
  exact Finset.sum_congr rfl fun e _ => congrArg₂ (· * ·) (R.dkv r e) (R.wkv d e)
/-- The stream's cotangent. -/
theorem dh2_at (r : Fin 256) (d : Fin 1024) : k0_pay33 (F := Ideal) (k0_pay28 h) (k0_pay30 (k0_pay7 dq wq) h o gq) (k0_pay32 (k0_pay8 dkv wkv) h gkv) (ix2 r d) = dh A (row r) d :=
  (st2 _ _ gq gkv h o r d).trans (congrArg₂ (· + ·) (congrArg₂ (· + ·) (R.o r d)
    (normBwd_congr (fun j => R.h r j) (fun j => R.gq j) (fun j => nq2_at A row dq wq dkv wkv gq gkv h o z gp w R r j) d))
    (normBwd_congr (fun j => R.h r j) (fun j => R.gkv j) (fun j => nkv2_at A row dq wq dkv wkv gq gkv h o z gp w R r j) d))
/-- As it is stored. -/
theorem sdh2_at (r : Fin 256) (d : Fin 1024) : k0_pay35 (F := Ideal) (k0_pay28 h) (k0_pay30 (k0_pay7 dq wq) h o gq) (k0_pay32 (k0_pay8 dkv wkv) h gkv) (ix2 r d) = dh A (row r) d := by
  refine Eq.trans ?_ (dh2_at A row dq wq dkv wkv gq gkv h o z gp w R r d)
  pointwise [k0_pay35]
/-- A row's parts of the gains' gradients. -/
theorem gq2_at (r : Fin 256) (d : Fin 1024) : gain (fun j => h (ix2 r j)) (fun j => k0_pay7 (F := Ideal) dq wq (ix2 r j)) d
    = gain (A.h (row r)) (nq A (row r)) d := gain_congr (fun j => R.h r j) (fun j => nq2_at A row dq wq dkv wkv gq gkv h o z gp w R r j) d
theorem gk2_at (r : Fin 256) (d : Fin 1024) : gain (fun j => h (ix2 r j)) (fun j => k0_pay8 (F := Ideal) dkv wkv (ix2 r j)) d
    = gain (A.h (row r)) (nkv A (row r)) d := gain_congr (fun j => R.h r j) (fun j => nkv2_at A row dq wq dkv wkv gq gkv h o z gp w R r j) d
theorem gp2_at (r : Fin 256) (d : Fin 1024) : gain (fun j => z (ix2 r j)) (fun j => k0_pay33 (F := Ideal) (k0_pay28 h) (k0_pay30 (k0_pay7 dq wq) h o gq) (k0_pay32 (k0_pay8 dkv wkv) h gkv) (ix2 r j)) d
    = gain (A.z (row r)) (dh A (row r)) d := gain_congr (fun j => R.z r j) (fun j => dh2_at A row dq wq dkv wkv gq gkv h o z gp w R r j) d
/-- The cotangent of the projection before the stream. -/
theorem dz1_at (r : Fin 256) (d : Fin 1024) : k0_pay24 (F := Ideal) (k0_pay18 (k0_pay5 dq wq) (k0_pay6 dkv wkv) (k0_pay12 h) (k0_pay13 h) (k0_pay14 (F := Ideal)) o gq gkv) z gp (ix2 r d) = dz A (row r) d :=
  (nb1 _ z gp r d).trans (normBwd_congr (fun j => R.z r j) (fun j => R.gp j) (fun j => dh1_at A row dq wq dkv wkv gq gkv h o z gp w R r j) d)
theorem dz2_at (r : Fin 256) (d : Fin 1024) : k0_pay39 (F := Ideal) (k0_pay28 h) (k0_pay30 (k0_pay7 dq wq) h o gq) (k0_pay32 (k0_pay8 dkv wkv) h gkv) z gp (ix2 r d) = dz A (row r) d :=
  (nb2 _ _ _ z gp r d).trans (normBwd_congr (fun j => R.z r j) (fun j => R.gp j) (fun j => dh2_at A row dq wq dkv wkv gq gkv h o z gp w R r j) d)
/-- The cotangent of that projection's input. -/
theorem da1_at (r : Fin 256) (f : Fin 2816) : k0_pay26 (F := Ideal) (k0_pay18 (k0_pay5 dq wq) (k0_pay6 dkv wkv) (k0_pay12 h) (k0_pay13 h) (k0_pay14 (F := Ideal)) o gq gkv) z gp w (ix2 r f) = da A (row r) f :=
  (pr1 _ z gp w r f).trans (Finset.sum_congr rfl fun d _ => congrArg₂ (· * ·) (dz1_at A row dq wq dkv wkv gq gkv h o z gp w R r d) (R.w f d))
theorem da2_at (r : Fin 256) (f : Fin 2816) : k0_pay1 (F := Ideal) (k0_pay39 (k0_pay28 h) (k0_pay30 (k0_pay7 dq wq) h o gq) (k0_pay32 (k0_pay8 dkv wkv) h gkv) z gp) w (ix2 r f) = da A (row r) f :=
  (pr2 _ w r f).trans (Finset.sum_congr rfl fun d _ => congrArg₂ (· * ·) (dz2_at A row dq wq dkv wkv gq gkv h o z gp w R r d) (R.w f d))
end

variable (m : (ℓ : Loc nD τ sig) → Buf (Elt Ideal) ℓ)

/-- The input of the projection before the stream. -/
abbrev A0 (c : Dev nD) : FVec Ideal S4096x2816 .f32 := m ((c : Thread nD τ).loc main_arg0)
/-- That projection. -/
abbrev A1 (c : Dev nD) : FVec Ideal S2816x1024 .f32 := m ((c : Thread nD τ).loc main_arg1)
/-- The residual before it. -/
abbrev A2 (c : Dev nD) : FVec Ideal S4096x1024 .f32 := m ((c : Thread nD τ).loc main_arg2)
/-- Its gain. -/
abbrev A3 (c : Dev nD) : FVec Ideal S1x1024 .f32 := m ((c : Thread nD τ).loc main_arg3)
/-- The first gain. -/
abbrev A4 (c : Dev nD) : FVec Ideal S1x1024 .f32 := m ((c : Thread nD τ).loc main_arg4)
/-- The second gain. -/
abbrev A5 (c : Dev nD) : FVec Ideal S1x1024 .f32 := m ((c : Thread nD τ).loc main_arg5)
/-- The first projection. -/
abbrev A6 (c : Dev nD) : FVec Ideal S1024x1024 .f32 := m ((c : Thread nD τ).loc main_arg6)
/-- The second projection. -/
abbrev A7 (c : Dev nD) : FVec Ideal S1024x512 .f32 := m ((c : Thread nD τ).loc main_arg7)
/-- The cotangent of the first. -/
abbrev A8 (c : Dev nD) : FVec Ideal S4096x1024 .f32 := m ((c : Thread nD τ).loc main_arg8)
/-- The cotangent of the second. -/
abbrev A9 (c : Dev nD) : FVec Ideal S4096x512 .f32 := m ((c : Thread nD τ).loc main_arg9)
/-- The cotangent of the stream. -/
abbrev A10 (c : Dev nD) : FVec Ideal S4096x1024 .f32 := m ((c : Thread nD τ).loc main_arg10)
/-- The arrays the gradient reads. -/
abbrev AR (c : Dev nD) : Args := Cert.Reference7Ideal.QkvRef.args (A0 m c) (A1 m c) (A2 m c) (A3 m c) (A4 m c) (A5 m c) (A6 m c) (A7 m c) (A8 m c) (A9 m c) (A10 m c)

/-- An array at entry. -/
def DQ (c : Dev nD) : FVec Ideal S4096x1024 .bf16 := V m c main_v14
theorem DQ_eq (c : Dev nD) : DQ m c = truncf .bf16 (A8 m c) bitsLt_bf16_f32 := by
  unfold DQ V
  after_results
  try rfl
theorem DQ_at (c : Dev nD) (t : Fin 4096) (e : Fin 1024) : DQ m c (ix2 t e) = (AR m c).dq t e := by
  rw [DQ_eq]
  pointwise
  try rfl
/-- An array at entry. -/
def DK (c : Dev nD) : FVec Ideal S4096x512 .bf16 := V m c main_v15
theorem DK_eq (c : Dev nD) : DK m c = truncf .bf16 (A9 m c) bitsLt_bf16_f32 := by
  unfold DK V
  after_results
  try rfl
theorem DK_at (c : Dev nD) (t : Fin 4096) (e : Fin 512) : DK m c (ix2 t e) = (AR m c).dkv t e := by
  rw [DK_eq]
  pointwise
  try rfl
/-- An array at entry. -/
def WQ (c : Dev nD) : FVec Ideal S1024x1024 .bf16 := V m c main_v16
theorem WQ_eq (c : Dev nD) : WQ m c = truncf .bf16 (A6 m c) bitsLt_bf16_f32 := by
  unfold WQ V
  after_results
  try rfl
theorem WQ_at (c : Dev nD) (d : Fin 1024) (e : Fin 1024) : WQ m c (ix2 d e) = (AR m c).wq d e := by
  rw [WQ_eq]
  pointwise
  try rfl
/-- An array at entry. -/
def WK (c : Dev nD) : FVec Ideal S1024x512 .bf16 := V m c main_v17
theorem WK_eq (c : Dev nD) : WK m c = truncf .bf16 (A7 m c) bitsLt_bf16_f32 := by
  unfold WK V
  after_results
  try rfl
theorem WK_at (c : Dev nD) (d : Fin 1024) (e : Fin 512) : WK m c (ix2 d e) = (AR m c).wkv d e := by
  rw [WK_eq]
  pointwise
  try rfl
/-- An array at entry. -/
def HS (c : Dev nD) : FVec Ideal S4096x1024 .bf16 := V m c main_v18
theorem HS_eq (c : Dev nD) : HS m c = truncf .bf16 (val_main_v16 (F := Ideal) (A0 m c) (A1 m c) (A2 m c) (A3 m c)) bitsLt_bf16_f32 := by
  unfold HS V
  after_results
  try rfl
theorem HS_at (c : Dev nD) (t : Fin 4096) (d : Fin 1024) : HS m c (ix2 t d) = (AR m c).h t d := by
  rw [HS_eq]
  pointwise
  try rfl
/-- An array at entry. -/
def DO (c : Dev nD) : FVec Ideal S4096x1024 .bf16 := V m c main_v19
theorem DO_eq (c : Dev nD) : DO m c = truncf .bf16 (A10 m c) bitsLt_bf16_f32 := by
  unfold DO V
  after_results
  try rfl
theorem DO_at (c : Dev nD) (t : Fin 4096) (d : Fin 1024) : DO m c (ix2 t d) = (AR m c).dout t d := by
  rw [DO_eq]
  pointwise
  try rfl
/-- An array at entry. -/
def ZS (c : Dev nD) : FVec Ideal S4096x1024 .bf16 := V m c main_v20
theorem ZS_eq (c : Dev nD) : ZS m c = truncf .bf16 (val_main_v0 (F := Ideal) (A0 m c) (A1 m c)) bitsLt_bf16_f32 := by
  unfold ZS V
  after_results
  try rfl
theorem ZS_at (c : Dev nD) (t : Fin 4096) (d : Fin 1024) : ZS m c (ix2 t d) = (AR m c).z t d := by
  rw [ZS_eq]
  pointwise
  try rfl
/-- An array at entry. -/
def WO (c : Dev nD) : FVec Ideal S2816x1024 .bf16 := V m c main_v21
theorem WO_eq (c : Dev nD) : WO m c = truncf .bf16 (A1 m c) bitsLt_bf16_f32 := by
  unfold WO V
  after_results
  try rfl
theorem WO_at (c : Dev nD) (f : Fin 2816) (d : Fin 1024) : WO m c (ix2 f d) = (AR m c).w f d := by
  rw [WO_eq]
  pointwise
  try rfl
/-- Every window's block index at every grid point. -/
theorem idx_val : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![0, 0] ∧ win0_10.index t = ![0, 0] ∧ win0_11.index t = ![t.val, 0] ∧ win0_12.index t = ![0, 0] ∧ win0_13.index t = ![0, 0] ∧ win0_14.index t = ![t.val, 0] ∧ win0_15.index t = ![0, 0] ∧ win0_16.index t = ![t.val, 0] ∧ t.val < 8 :=
  (by decide +kernel : ∀ t : Fin grid0.N, _)
theorem ltN (t : Fin cfg0.N) : t.val < 8 := (idx_val t).2.2.2.2.2.2.2.2.2.2.2.2.2.2.2.2.2

/-- The row of a sub-tile. -/
def row (t : Fin cfg0.N) (s : Fin 2) (r : Fin 256) : Fin 4096 := ⟨512 * t.val + 256 * s.val + r.val, by have := ltN t; omega⟩
/-- The row an array index of a block belongs to. -/
theorem row_eq {t : Fin cfg0.N} {s : Fin 2} {r : Fin 256} {j : Fin 4096} (h : j.val = 512 * t.val + (256 * s.val + r.val)) : row t s r = j :=
  Fin.ext (by show 512 * t.val + 256 * s.val + r.val = j.val; omega)

/-- A load of rows 0 to 255. -/
theorem ldA_0 (X : Vec Ideal S512x1024 .bf16) (r : Fin 256) (k : Fin 1024) :
    View.ld (Val := Elt Ideal) (e' := .bf16) X (Rect.unit ![0, 0] ![256, 1024] inb_S512x1024_S256x1024_0_0) (ix2 r k) = X (ix2 ⟨0 + r.val, by omega⟩ k) := by
  pointwise
/-- A load of rows 0 to 255. -/
theorem ldK_0 (X : Vec Ideal S512x512 .bf16) (r : Fin 256) (k : Fin 512) :
    View.ld (Val := Elt Ideal) (e' := .bf16) X (Rect.unit ![0, 0] ![256, 512] inb_S512x512_S256x512_0_0) (ix2 r k) = X (ix2 ⟨0 + r.val, by omega⟩ k) := by
  pointwise
/-- A load of rows 256 to 511. -/
theorem ldA_1 (X : Vec Ideal S512x1024 .bf16) (r : Fin 256) (k : Fin 1024) :
    View.ld (Val := Elt Ideal) (e' := .bf16) X (Rect.unit ![256, 0] ![256, 1024] inb_S512x1024_S256x1024_256_0) (ix2 r k) = X (ix2 ⟨256 + r.val, by omega⟩ k) := by
  pointwise
/-- A load of rows 256 to 511. -/
theorem ldK_1 (X : Vec Ideal S512x512 .bf16) (r : Fin 256) (k : Fin 512) :
    View.ld (Val := Elt Ideal) (e' := .bf16) X (Rect.unit ![256, 0] ![256, 512] inb_S512x512_S256x512_256_0) (ix2 r k) = X (ix2 ⟨256 + r.val, by omega⟩ k) := by
  pointwise
/-- A block of 512 rows. -/
theorem rd0 (A : FVec Ideal S4096x1024 .bf16) (t : Fin cfg0.N) (r : Fin 512) (k : Fin 1024) (j : Fin 4096) (hj : j.val = 512 * t.val + r.val) :
    (((cfg0.win 0).blk t).view.read (Elt Ideal) A) (ix2 r k) = A (ix2 j k) := by
  blk_ext [idx_val t]
/-- A block of 512 rows. -/
theorem rd1 (A : FVec Ideal S4096x512 .bf16) (t : Fin cfg0.N) (r : Fin 512) (k : Fin 512) (j : Fin 4096) (hj : j.val = 512 * t.val + r.val) :
    (((cfg0.win 1).blk t).view.read (Elt Ideal) A) (ix2 r k) = A (ix2 j k) := by
  blk_ext [idx_val t]
/-- A block of 512 rows. -/
theorem rd6 (A : FVec Ideal S4096x1024 .bf16) (t : Fin cfg0.N) (r : Fin 512) (k : Fin 1024) (j : Fin 4096) (hj : j.val = 512 * t.val + r.val) :
    (((cfg0.win 6).blk t).view.read (Elt Ideal) A) (ix2 r k) = A (ix2 j k) := by
  blk_ext [idx_val t]
/-- A block of 512 rows. -/
theorem rd7 (A : FVec Ideal S4096x1024 .bf16) (t : Fin cfg0.N) (r : Fin 512) (k : Fin 1024) (j : Fin 4096) (hj : j.val = 512 * t.val + r.val) :
    (((cfg0.win 7).blk t).view.read (Elt Ideal) A) (ix2 r k) = A (ix2 j k) := by
  blk_ext [idx_val t]
/-- A block of 512 rows. -/
theorem rd8 (A : FVec Ideal S4096x1024 .bf16) (t : Fin cfg0.N) (r : Fin 512) (k : Fin 1024) (j : Fin 4096) (hj : j.val = 512 * t.val + r.val) :
    (((cfg0.win 8).blk t).view.read (Elt Ideal) A) (ix2 r k) = A (ix2 j k) := by
  blk_ext [idx_val t]
/-- A block is the whole array. -/
theorem rd2 (A : FVec Ideal S1024x1024 .bf16) (t : Fin cfg0.N) (d : Fin 1024) (e : Fin 1024) :
    (((cfg0.win 2).blk t).view.read (Elt Ideal) A) (ix2 d e) = A (ix2 d e) := by
  blk_ext [idx_val t]
/-- A block is the whole array. -/
theorem rd3 (A : FVec Ideal S1024x512 .bf16) (t : Fin cfg0.N) (d : Fin 1024) (e : Fin 512) :
    (((cfg0.win 3).blk t).view.read (Elt Ideal) A) (ix2 d e) = A (ix2 d e) := by
  blk_ext [idx_val t]
/-- A block is the whole array. -/
theorem rd10 (A : FVec Ideal S2816x1024 .bf16) (t : Fin cfg0.N) (d : Fin 2816) (e : Fin 1024) :
    (((cfg0.win 10).blk t).view.read (Elt Ideal) A) (ix2 d e) = A (ix2 d e) := by
  blk_ext [idx_val t]
/-- A block is the whole row. -/
theorem rd4 (A : FVec Ideal S1x1024 .f32) (t : Fin cfg0.N) (d : Fin 1024) :
    (((cfg0.win 4).blk t).view.read (Elt Ideal) A) (ix2 0 d) = A (ix2 0 d) := by
  blk_ext [idx_val t]
/-- A block is the whole row. -/
theorem rd5 (A : FVec Ideal S1x1024 .f32) (t : Fin cfg0.N) (d : Fin 1024) :
    (((cfg0.win 5).blk t).view.read (Elt Ideal) A) (ix2 0 d) = A (ix2 0 d) := by
  blk_ext [idx_val t]
/-- A block is the whole row. -/
theorem rd9 (A : FVec Ideal S1x1024 .f32) (t : Fin cfg0.N) (d : Fin 1024) :
    (((cfg0.win 9).blk t).view.read (Elt Ideal) A) (ix2 0 d) = A (ix2 0 d) := by
  blk_ext [idx_val t]
/-- A sub-tile's loads. -/
theorem reads0 (c : Dev nD) (t : Fin cfg0.N) : Reads (AR m c) (row t 0) (View.ld (iblk m c 0 t) (Rect.unit ![0, 0] ![256, 1024] inb_S512x1024_S256x1024_0_0)) (iblk m c 2 t) (View.ld (iblk m c 1 t) (Rect.unit ![0, 0] ![256, 512] inb_S512x512_S256x512_0_0)) (iblk m c 3 t)
    (iblk m c 4 t) (iblk m c 5 t) (View.ld (iblk m c 6 t) (Rect.unit ![0, 0] ![256, 1024] inb_S512x1024_S256x1024_0_0)) (View.ld (iblk m c 7 t) (Rect.unit ![0, 0] ![256, 1024] inb_S512x1024_S256x1024_0_0))
    (View.ld (iblk m c 8 t) (Rect.unit ![0, 0] ![256, 1024] inb_S512x1024_S256x1024_0_0)) (iblk m c 9 t) (iblk m c 10 t) where
  dq r e := ((ldA_0 _ r e).trans (rd0 (DQ m c) t ⟨0 + r.val, _⟩ e _ (Nat.add_assoc _ _ _))).trans (DQ_at m c _ _)
  wq d e := (rd2 (WQ m c) t d e).trans (WQ_at m c _ _)
  dkv r e := ((ldK_0 _ r e).trans (rd1 (DK m c) t ⟨0 + r.val, _⟩ e _ (Nat.add_assoc _ _ _))).trans (DK_at m c _ _)
  wkv d e := (rd3 (WK m c) t d e).trans (WK_at m c _ _)
  gq d := rd4 (A4 m c) t d
  gkv d := rd5 (A5 m c) t d
  h r d := ((ldA_0 _ r d).trans (rd6 (HS m c) t ⟨0 + r.val, _⟩ d _ (Nat.add_assoc _ _ _))).trans (HS_at m c _ _)
  o r d := ((ldA_0 _ r d).trans (rd7 (DO m c) t ⟨0 + r.val, _⟩ d _ (Nat.add_assoc _ _ _))).trans (DO_at m c _ _)
  z r d := ((ldA_0 _ r d).trans (rd8 (ZS m c) t ⟨0 + r.val, _⟩ d _ (Nat.add_assoc _ _ _))).trans (ZS_at m c _ _)
  gp d := rd9 (A3 m c) t d
  w f d := (rd10 (WO m c) t f d).trans (WO_at m c _ _)
/-- A sub-tile's loads. -/
theorem reads1 (c : Dev nD) (t : Fin cfg0.N) : Reads (AR m c) (row t 1) (View.ld (iblk m c 0 t) (Rect.unit ![256, 0] ![256, 1024] inb_S512x1024_S256x1024_256_0)) (iblk m c 2 t) (View.ld (iblk m c 1 t) (Rect.unit ![256, 0] ![256, 512] inb_S512x512_S256x512_256_0)) (iblk m c 3 t)
    (iblk m c 4 t) (iblk m c 5 t) (View.ld (iblk m c 6 t) (Rect.unit ![256, 0] ![256, 1024] inb_S512x1024_S256x1024_256_0)) (View.ld (iblk m c 7 t) (Rect.unit ![256, 0] ![256, 1024] inb_S512x1024_S256x1024_256_0))
    (View.ld (iblk m c 8 t) (Rect.unit ![256, 0] ![256, 1024] inb_S512x1024_S256x1024_256_0)) (iblk m c 9 t) (iblk m c 10 t) where
  dq r e := ((ldA_1 _ r e).trans (rd0 (DQ m c) t ⟨256 + r.val, _⟩ e _ (Nat.add_assoc _ _ _))).trans (DQ_at m c _ _)
  wq d e := (rd2 (WQ m c) t d e).trans (WQ_at m c _ _)
  dkv r e := ((ldK_1 _ r e).trans (rd1 (DK m c) t ⟨256 + r.val, _⟩ e _ (Nat.add_assoc _ _ _))).trans (DK_at m c _ _)
  wkv d e := (rd3 (WK m c) t d e).trans (WK_at m c _ _)
  gq d := rd4 (A4 m c) t d
  gkv d := rd5 (A5 m c) t d
  h r d := ((ldA_1 _ r d).trans (rd6 (HS m c) t ⟨256 + r.val, _⟩ d _ (Nat.add_assoc _ _ _))).trans (HS_at m c _ _)
  o r d := ((ldA_1 _ r d).trans (rd7 (DO m c) t ⟨256 + r.val, _⟩ d _ (Nat.add_assoc _ _ _))).trans (DO_at m c _ _)
  z r d := ((ldA_1 _ r d).trans (rd8 (ZS m c) t ⟨256 + r.val, _⟩ d _ (Nat.add_assoc _ _ _))).trans (ZS_at m c _ _)
  gp d := rd9 (A3 m c) t d
  w f d := (rd10 (WO m c) t f d).trans (WO_at m c _ _)
/-- What a grid point leaves in window 11 is its block. -/
theorem point11 (c : Dev nD) (t : Fin cfg0.N) (y : S512x1024.Idx) (i : S4096x1024.Idx) (hi0 : (i 0 : ℕ) = 512 * t.val + (y 0 : ℕ))
    (hi1 : (i 1 : ℕ) = (y 1 : ℕ)) : (outsAt0 m c t.val t.isLt).1 y = dh (AR m c) (i 0) (i 1) := by
  have ht := ltN t
  by_cases hz : t.val % 8 = 0
  · rw [outsAt0_A m c t hz (by omega) hz (by omega) hz (by omega)]
    frame_out
    canon_tiles x h
    all_goals idx_vars x
    · exact (sdh2_at _ _ _ _ _ _ _ _ _ _ _ _ _ (reads1 m c t) x0 x1).trans (congrArg₂ _ (row_eq (by simp; omega)) (Fin.ext (by omega)))
    · exact (sdh1_at _ _ _ _ _ _ _ _ _ _ _ _ _ (reads0 m c t) x0 x1).trans (congrArg₂ _ (row_eq (by simp; omega)) (Fin.ext (by omega)))
  · rw [outsAt0_B m c t hz (by omega) hz (by omega) hz (by omega)]
    frame_out
    canon_tiles x h
    all_goals idx_vars x
    · exact (sdh2_at _ _ _ _ _ _ _ _ _ _ _ _ _ (reads1 m c t) x0 x1).trans (congrArg₂ _ (row_eq (by simp; omega)) (Fin.ext (by omega)))
    · exact (sdh1_at _ _ _ _ _ _ _ _ _ _ _ _ _ (reads0 m c t) x0 x1).trans (congrArg₂ _ (row_eq (by simp; omega)) (Fin.ext (by omega)))

/-- The array of window 11 after the run. -/
theorem final11 (c : Dev nD) : (dats m 0 c).arrAt 11 (cfgs 0).N = fun i => dh (AR m c) (i 0) (i 1) := by
  refine (dats m 0 c).arrAt_eq_of_covers 11 _ (by decide +kernel) fun t hf y => ?_
  blk_simp; rw [after0_11]
  refine point11 m c t y _ ?_ ?_ <;> blk_simp [idx_val t] <;> try omega

/-- What a grid point leaves in window 14 is its block. -/
theorem point14 (c : Dev nD) (t : Fin cfg0.N) (y : S512x1024.Idx) (i : S4096x1024.Idx) (hi0 : (i 0 : ℕ) = 512 * t.val + (y 0 : ℕ))
    (hi1 : (i 1 : ℕ) = (y 1 : ℕ)) : (outsAt0 m c t.val t.isLt).2.2.2.1 y = dz (AR m c) (i 0) (i 1) := by
  have ht := ltN t
  by_cases hz : t.val % 8 = 0
  · rw [outsAt0_A m c t hz (by omega) hz (by omega) hz (by omega)]
    frame_out
    canon_tiles x h
    all_goals idx_vars x
    · exact (dz2_at _ _ _ _ _ _ _ _ _ _ _ _ _ (reads1 m c t) x0 x1).trans (congrArg₂ _ (row_eq (by simp; omega)) (Fin.ext (by omega)))
    · exact (dz1_at _ _ _ _ _ _ _ _ _ _ _ _ _ (reads0 m c t) x0 x1).trans (congrArg₂ _ (row_eq (by simp; omega)) (Fin.ext (by omega)))
  · rw [outsAt0_B m c t hz (by omega) hz (by omega) hz (by omega)]
    frame_out
    canon_tiles x h
    all_goals idx_vars x
    · exact (dz2_at _ _ _ _ _ _ _ _ _ _ _ _ _ (reads1 m c t) x0 x1).trans (congrArg₂ _ (row_eq (by simp; omega)) (Fin.ext (by omega)))
    · exact (dz1_at _ _ _ _ _ _ _ _ _ _ _ _ _ (reads0 m c t) x0 x1).trans (congrArg₂ _ (row_eq (by simp; omega)) (Fin.ext (by omega)))

/-- The array of window 14 after the run. -/
theorem final14 (c : Dev nD) : (dats m 0 c).arrAt 14 (cfgs 0).N = fun i => dz (AR m c) (i 0) (i 1) := by
  refine (dats m 0 c).arrAt_eq_of_covers 14 _ (by decide +kernel) fun t hf y => ?_
  blk_simp; rw [after0_14]
  refine point14 m c t y _ ?_ ?_ <;> blk_simp [idx_val t] <;> try omega

/-- What a grid point leaves in window 16 is its block. -/
theorem point16 (c : Dev nD) (t : Fin cfg0.N) (y : S512x2816.Idx) (i : S4096x2816.Idx) (hi0 : (i 0 : ℕ) = 512 * t.val + (y 0 : ℕ))
    (hi1 : (i 1 : ℕ) = (y 1 : ℕ)) : (outsAt0 m c t.val t.isLt).2.2.2.2.2 y = da (AR m c) (i 0) (i 1) := by
  have ht := ltN t
  by_cases hz : t.val % 8 = 0
  · rw [outsAt0_A m c t hz (by omega) hz (by omega) hz (by omega)]
    frame_out
    canon_tiles x h
    all_goals idx_vars x
    · exact (da2_at _ _ _ _ _ _ _ _ _ _ _ _ _ (reads1 m c t) x0 x1).trans (congrArg₂ _ (row_eq (by simp; omega)) (Fin.ext (by omega)))
    · exact (da1_at _ _ _ _ _ _ _ _ _ _ _ _ _ (reads0 m c t) x0 x1).trans (congrArg₂ _ (row_eq (by simp; omega)) (Fin.ext (by omega)))
  · rw [outsAt0_B m c t hz (by omega) hz (by omega) hz (by omega)]
    frame_out
    canon_tiles x h
    all_goals idx_vars x
    · exact (da2_at _ _ _ _ _ _ _ _ _ _ _ _ _ (reads1 m c t) x0 x1).trans (congrArg₂ _ (row_eq (by simp; omega)) (Fin.ext (by omega)))
    · exact (da1_at _ _ _ _ _ _ _ _ _ _ _ _ _ (reads0 m c t) x0 x1).trans (congrArg₂ _ (row_eq (by simp; omega)) (Fin.ext (by omega)))

/-- The array of window 16 after the run. -/
theorem final16 (c : Dev nD) : (dats m 0 c).arrAt 16 (cfgs 0).N = fun i => da (AR m c) (i 0) (i 1) := by
  refine (dats m 0 c).arrAt_eq_of_covers 16 _ (by decide +kernel) fun t hf y => ?_
  blk_simp; rw [after0_16]
  refine point16 m c t y _ ?_ ?_ <;> blk_simp [idx_val t] <;> try omega

/-- A sum over the rows, sub-tile by sub-tile. -/
theorem sum_tiles (f : Fin 4096 → EReal) : ∑ n, f n = ∑ t : Fin cfg0.N, (∑ r, f (row t 0 r) + ∑ r, f (row t 1 r)) := by
  rw [Fin.sum_univ_tiles 8 512 rfl f]
  refine Finset.sum_congr rfl fun t _ => ?_
  rw [Fin.sum_univ_tiles 2 256 rfl, Fin.sum_univ_two]
  refine (congrArg₂ (· + ·) (Finset.sum_congr rfl fun r _ => congrArg f (Fin.ext ?_)) (Finset.sum_congr rfl fun r _ => congrArg f (Fin.ext ?_)))
  · show t.val * 512 + (0 * 256 + r.val) = 512 * t.val + 256 * 0 + r.val; omega
  · show t.val * 512 + (1 * 256 + r.val) = 512 * t.val + 256 * 1 + r.val; omega

/-- A grid point's part of the gain's gradient. -/
def part12 (c : Dev nD) (t : Fin cfg0.N) (d : Fin 1024) : EReal := ∑ r, gain ((AR m c).h (row t 0 r)) (nq (AR m c) (row t 0 r)) d + ∑ r, gain ((AR m c).h (row t 1 r)) (nq (AR m c) (row t 1 r)) d
/-- The first point starts the sum. -/
theorem step12_A (c : Dev nD) (t : Fin cfg0.N) (hz : t.val % 8 = 0) (y : S1x1024.Idx) :
    (outsAt0 m c t.val t.isLt).2.1 y = 0 + part12 m c t (y 1) := by
  have ht := ltN t
  rw [outsAt0_A m c t hz (by omega) hz (by omega) hz (by omega)]
  frame_out
  idx_vars y
  obtain rfl : y0 = 0 := Subsingleton.elim _ _
  refine (gq2 _ _ _ y1).trans ((congrArg₂ (· + ·) ((gq1 _ _ _ y1).trans (congrArg₂ (· + ·) (zero9 y1) (Finset.sum_congr rfl fun r _ => gq1_at _ _ _ _ _ _ _ _ _ _ _ _ _ (reads0 m c t) r y1)))
    (Finset.sum_congr rfl fun r _ => gq2_at _ _ _ _ _ _ _ _ _ _ _ _ _ (reads1 m c t) r y1)).trans ?_)
  exact add_assoc _ _ _
/-- What a later point stores. -/
theorem add_at12 (v w : FVec Ideal S1x1024 .f32) (d : Fin 1024) : k0_pay2 (F := Ideal) v w (ix2 0 d) = w (ix2 0 d) + v (ix2 0 d) := by
  pointwise [k0_pay2]
/-- A later point adds to it. -/
theorem step12_B (c : Dev nD) (t : Fin cfg0.N) (hz : ¬t.val % 8 = 0) (y : S1x1024.Idx) :
    (outsAt0 m c t.val t.isLt).2.1 y = (outsAt0 m c (t.val - 1) (Nat.lt_of_le_of_lt (Nat.sub_le _ _) t.isLt)).2.1 y + part12 m c t (y 1) := by
  have ht := ltN t
  rw [outsAt0_B m c t hz (by omega) hz (by omega) hz (by omega)]
  frame_out
  idx_vars y
  obtain rfl : y0 = 0 := Subsingleton.elim _ _
  refine (add_at12 _ _ y1).trans (congrArg (_ + ·) ?_)
  refine (gq2 _ _ _ y1).trans ((congrArg₂ (· + ·) ((gq1 _ _ _ y1).trans (congrArg₂ (· + ·) (zero9 y1) (Finset.sum_congr rfl fun r _ => gq1_at _ _ _ _ _ _ _ _ _ _ _ _ _ (reads0 m c t) r y1)))
    (Finset.sum_congr rfl fun r _ => gq2_at _ _ _ _ _ _ _ _ _ _ _ _ _ (reads1 m c t) r y1)).trans ?_)
  rw [zero_add]; rfl
/-- The gain's gradient after the run. -/
theorem final12 (c : Dev nD) : (dats m 0 c).arrAt 12 (cfgs 0).N = fun i => dgq (AR m c) (i 1) := by
  refine (dats m 0 c).arrAt_eq_of_after_last 12 t0_7 (by decide +kernel) _ fun j => ?_
  blk_simp
  rw [after0_12, Pipeline.eq_sum_fin_of_reset_step_apply_last (fun n h => (outsAt0 m c n h).2.1) 8 (fun _ => 0)
    (fun t y => part12 m c t (y 1))
    (fun t h j => step12_A m c t h j) (fun t h j => step12_B m c t h j) (le_of_eq N_0) t0_7 rfl j, zero_add]
  refine (sum_tiles (fun t => gain ((AR m c).h t) (nq (AR m c) t) (j 1))).symm

/-- A grid point's part of the gain's gradient. -/
def part13 (c : Dev nD) (t : Fin cfg0.N) (d : Fin 1024) : EReal := ∑ r, gain ((AR m c).h (row t 0 r)) (nkv (AR m c) (row t 0 r)) d + ∑ r, gain ((AR m c).h (row t 1 r)) (nkv (AR m c) (row t 1 r)) d
/-- The first point starts the sum. -/
theorem step13_A (c : Dev nD) (t : Fin cfg0.N) (hz : t.val % 8 = 0) (y : S1x1024.Idx) :
    (outsAt0 m c t.val t.isLt).2.2.1 y = 0 + part13 m c t (y 1) := by
  have ht := ltN t
  rw [outsAt0_A m c t hz (by omega) hz (by omega) hz (by omega)]
  frame_out
  idx_vars y
  obtain rfl : y0 = 0 := Subsingleton.elim _ _
  refine (gk2 _ _ _ y1).trans ((congrArg₂ (· + ·) ((gk1 _ _ _ y1).trans (congrArg₂ (· + ·) (zero10 y1) (Finset.sum_congr rfl fun r _ => gk1_at _ _ _ _ _ _ _ _ _ _ _ _ _ (reads0 m c t) r y1)))
    (Finset.sum_congr rfl fun r _ => gk2_at _ _ _ _ _ _ _ _ _ _ _ _ _ (reads1 m c t) r y1)).trans ?_)
  exact add_assoc _ _ _
/-- What a later point stores. -/
theorem add_at13 (v w : FVec Ideal S1x1024 .f32) (d : Fin 1024) : k0_pay3 (F := Ideal) v w (ix2 0 d) = w (ix2 0 d) + v (ix2 0 d) := by
  pointwise [k0_pay3]
/-- A later point adds to it. -/
theorem step13_B (c : Dev nD) (t : Fin cfg0.N) (hz : ¬t.val % 8 = 0) (y : S1x1024.Idx) :
    (outsAt0 m c t.val t.isLt).2.2.1 y = (outsAt0 m c (t.val - 1) (Nat.lt_of_le_of_lt (Nat.sub_le _ _) t.isLt)).2.2.1 y + part13 m c t (y 1) := by
  have ht := ltN t
  rw [outsAt0_B m c t hz (by omega) hz (by omega) hz (by omega)]
  frame_out
  idx_vars y
  obtain rfl : y0 = 0 := Subsingleton.elim _ _
  refine (add_at13 _ _ y1).trans (congrArg (_ + ·) ?_)
  refine (gk2 _ _ _ y1).trans ((congrArg₂ (· + ·) ((gk1 _ _ _ y1).trans (congrArg₂ (· + ·) (zero10 y1) (Finset.sum_congr rfl fun r _ => gk1_at _ _ _ _ _ _ _ _ _ _ _ _ _ (reads0 m c t) r y1)))
    (Finset.sum_congr rfl fun r _ => gk2_at _ _ _ _ _ _ _ _ _ _ _ _ _ (reads1 m c t) r y1)).trans ?_)
  rw [zero_add]; rfl
/-- The gain's gradient after the run. -/
theorem final13 (c : Dev nD) : (dats m 0 c).arrAt 13 (cfgs 0).N = fun i => dgkv (AR m c) (i 1) := by
  refine (dats m 0 c).arrAt_eq_of_after_last 13 t0_7 (by decide +kernel) _ fun j => ?_
  blk_simp
  rw [after0_13, Pipeline.eq_sum_fin_of_reset_step_apply_last (fun n h => (outsAt0 m c n h).2.2.1) 8 (fun _ => 0)
    (fun t y => part13 m c t (y 1))
    (fun t h j => step13_A m c t h j) (fun t h j => step13_B m c t h j) (le_of_eq N_0) t0_7 rfl j, zero_add]
  refine (sum_tiles (fun t => gain ((AR m c).h t) (nkv (AR m c) t) (j 1))).symm

/-- A grid point's part of the gain's gradient. -/
def part15 (c : Dev nD) (t : Fin cfg0.N) (d : Fin 1024) : EReal := ∑ r, gain ((AR m c).z (row t 0 r)) (dh (AR m c) (row t 0 r)) d + ∑ r, gain ((AR m c).z (row t 1 r)) (dh (AR m c) (row t 1 r)) d
/-- The first point starts the sum. -/
theorem step15_A (c : Dev nD) (t : Fin cfg0.N) (hz : t.val % 8 = 0) (y : S1x1024.Idx) :
    (outsAt0 m c t.val t.isLt).2.2.2.2.1 y = 0 + part15 m c t (y 1) := by
  have ht := ltN t
  rw [outsAt0_A m c t hz (by omega) hz (by omega) hz (by omega)]
  frame_out
  idx_vars y
  obtain rfl : y0 = 0 := Subsingleton.elim _ _
  refine (gp2 _ _ _ _ _ y1).trans ((congrArg₂ (· + ·) ((gp1 _ _ _ y1).trans (congrArg₂ (· + ·) (zero11 y1) (Finset.sum_congr rfl fun r _ => gp1_at _ _ _ _ _ _ _ _ _ _ _ _ _ (reads0 m c t) r y1)))
    (Finset.sum_congr rfl fun r _ => gp2_at _ _ _ _ _ _ _ _ _ _ _ _ _ (reads1 m c t) r y1)).trans ?_)
  exact add_assoc _ _ _
/-- What a later point stores. -/
theorem add_at15 (v w : FVec Ideal S1x1024 .f32) (d : Fin 1024) : k0_pay4 (F := Ideal) v w (ix2 0 d) = w (ix2 0 d) + v (ix2 0 d) := by
  pointwise [k0_pay4]
/-- A later point adds to it. -/
theorem step15_B (c : Dev nD) (t : Fin cfg0.N) (hz : ¬t.val % 8 = 0) (y : S1x1024.Idx) :
    (outsAt0 m c t.val t.isLt).2.2.2.2.1 y = (outsAt0 m c (t.val - 1) (Nat.lt_of_le_of_lt (Nat.sub_le _ _) t.isLt)).2.2.2.2.1 y + part15 m c t (y 1) := by
  have ht := ltN t
  rw [outsAt0_B m c t hz (by omega) hz (by omega) hz (by omega)]
  frame_out
  idx_vars y
  obtain rfl : y0 = 0 := Subsingleton.elim _ _
  refine (add_at15 _ _ y1).trans (congrArg (_ + ·) ?_)
  refine (gp2 _ _ _ _ _ y1).trans ((congrArg₂ (· + ·) ((gp1 _ _ _ y1).trans (congrArg₂ (· + ·) (zero11 y1) (Finset.sum_congr rfl fun r _ => gp1_at _ _ _ _ _ _ _ _ _ _ _ _ _ (reads0 m c t) r y1)))
    (Finset.sum_congr rfl fun r _ => gp2_at _ _ _ _ _ _ _ _ _ _ _ _ _ (reads1 m c t) r y1)).trans ?_)
  rw [zero_add]; rfl
/-- The gain's gradient after the run. -/
theorem final15 (c : Dev nD) : (dats m 0 c).arrAt 15 (cfgs 0).N = fun i => dgp (AR m c) (i 1) := by
  refine (dats m 0 c).arrAt_eq_of_after_last 15 t0_7 (by decide +kernel) _ fun j => ?_
  blk_simp
  rw [after0_15, Pipeline.eq_sum_fin_of_reset_step_apply_last (fun n h => (outsAt0 m c n h).2.2.2.2.1) 8 (fun _ => 0)
    (fun t y => part15 m c t (y 1))
    (fun t h j => step15_A m c t h j) (fun t h j => step15_B m c t h j) (le_of_eq N_0) t0_7 rfl j, zero_add]
  refine (sum_tiles (fun t => gain ((AR m c).z t) (dh (AR m c) t) (j 1))).symm

end Cert.Kernel7Ideal.QkvBlock

end

end
-- ==== Proof.QkvClaim.lean ====
/- The claims about the input gradient of the attention projections. -/
module

public import proofs.«01_k».proof.Defs
public import proofs.«01_k».proof.Proof.Gen.Kernel7.Frame
public import proofs.«01_k».proof.Proof.Gen.Reference7Ideal.Run
public import proofs.«01_k».proof.Proof.QkvBlock
public import proofs.«01_k».proof.Proof.FinitePre2

set_option maxRecDepth 16384

@[expose] public section

noncomputable section

open Idealize.ShloMosaic Idealize.SL.Sem

namespace Cert.Proof

set_option maxHeartbeats 2000000 in
/-- The kernel's arrays are the reference's. -/
theorem value_Qkv : Cert.algebraic_Kernel7Ideal_Reference7Ideal_pre_finite7 := fun m ρ m' ρ' hp hag =>
  ⟨fun c i => QkvBwd.dh (Cert.Kernel7Ideal.QkvBlock.AR m c) (i 0) (i 1),
    fun c i => QkvBwd.dgq (Cert.Kernel7Ideal.QkvBlock.AR m c) (i 1),
    fun c i => QkvBwd.dgkv (Cert.Kernel7Ideal.QkvBlock.AR m c) (i 1),
    fun c i => QkvBwd.dz (Cert.Kernel7Ideal.QkvBlock.AR m c) (i 0) (i 1),
    fun c i => QkvBwd.dgp (Cert.Kernel7Ideal.QkvBlock.AR m c) (i 1),
    fun c i => QkvBwd.da (Cert.Kernel7Ideal.QkvBlock.AR m c) (i 0) (i 1),
    (θ_run _ _ _).mono (fun _ h c => ⟨(h c).1.trans (Cert.Kernel7Ideal.QkvBlock.final11 m c),
      (h c).2.1.trans (Cert.Kernel7Ideal.QkvBlock.final12 m c),
      (h c).2.2.1.trans (Cert.Kernel7Ideal.QkvBlock.final13 m c),
      (h c).2.2.2.1.trans (Cert.Kernel7Ideal.QkvBlock.final14 m c),
      (h c).2.2.2.2.1.trans (Cert.Kernel7Ideal.QkvBlock.final15 m c),
      (h c).2.2.2.2.2.1.trans (Cert.Kernel7Ideal.QkvBlock.final16 m c),
      (h c).2.2.2.2.2.2⟩) (Cert.Kernel7Ideal.Value.run_blocks m ρ),
    (θ_run _ _ _).mono (fun _ h c => ⟨by
        have f := Finite.of_finite7 _ _ _ _ _ _ _ _ _ _ _ (hp c)
        refine (h c).1.trans ((Cert.Reference7Ideal.Read.val_main_v111_eq ..).trans ?_)
        show Cert.Reference7Ideal.Read.val_main_v111 (F := Ideal) (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3)) (m' ((c.tc : Thread _ _).loc Cert.Reference7Ideal.main_arg4)) (m' ((c.tc : Thread _ _).loc Cert.Reference7Ideal.main_arg5)) (m' ((c.tc : Thread _ _).loc Cert.Reference7Ideal.main_arg6)) (m' ((c.tc : Thread _ _).loc Cert.Reference7Ideal.main_arg7)) (m' ((c.tc : Thread _ _).loc Cert.Reference7Ideal.main_arg8)) (m' ((c.tc : Thread _ _).loc Cert.Reference7Ideal.main_arg9)) (m' ((c.tc : Thread _ _).loc Cert.Reference7Ideal.main_arg10)) = _
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2]
        funext i
        idx_vars i
        exact Cert.Reference7Ideal.QkvRef.out0_at _ _ _ _ _ _ _ _ _ _ _ f i0 i1,
      by
        have f := Finite.of_finite7 _ _ _ _ _ _ _ _ _ _ _ (hp c)
        refine (h c).2.1.trans ((Cert.Reference7Ideal.Read.val_main_v73_eq ..).trans ?_)
        show Cert.Reference7Ideal.Read.val_main_v73 (F := Ideal) (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3)) (m' ((c.tc : Thread _ _).loc Cert.Reference7Ideal.main_arg6)) (m' ((c.tc : Thread _ _).loc Cert.Reference7Ideal.main_arg8)) = _
        rw [(hag c).1, (hag c).2.1, (hag c).2.2.1, (hag c).2.2.2.1, (hag c).2.2.2.2.2.2.1, (hag c).2.2.2.2.2.2.2.2.1]
        funext i
        idx_vars i
        obtain rfl : i0 = 0 := Subsingleton.elim _ _
        exact Cert.Reference7Ideal.QkvRef.out1_at _ _ _ _ _ _ _ _ _ _ _ f i1,
      by
        have f := Finite.of_finite7 _ _ _ _ _ _ _ _ _ _ _ (hp c)
        refine (h c).2.2.1.trans ((Cert.Reference7Ideal.Read.val_main_v52_eq ..).trans ?_)
        show Cert.Reference7Ideal.Read.val_main_v52 (F := Ideal) (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3)) (m' ((c.tc : Thread _ _).loc Cert.Reference7Ideal.main_arg7)) (m' ((c.tc : Thread _ _).loc Cert.Reference7Ideal.main_arg9)) = _
        rw [(hag c).1, (hag c).2.1, (hag c).2.2.1, (hag c).2.2.2.1, (hag c).2.2.2.2.2.2.2.1, (hag c).2.2.2.2.2.2.2.2.2.1]
        funext i
        idx_vars i
        obtain rfl : i0 = 0 := Subsingleton.elim _ _
        exact Cert.Reference7Ideal.QkvRef.out2_at _ _ _ _ _ _ _ _ _ _ _ f i1,
      by
        have f := Finite.of_finite7 _ _ _ _ _ _ _ _ _ _ _ (hp c)
        refine (h c).2.2.2.1.trans ((Cert.Reference7Ideal.Read.val_main_v112_eq ..).trans ?_)
        show Cert.Reference7Ideal.Read.val_main_v112 (F := Ideal) (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3)) (m' ((c.tc : Thread _ _).loc Cert.Reference7Ideal.main_arg4)) (m' ((c.tc : Thread _ _).loc Cert.Reference7Ideal.main_arg5)) (m' ((c.tc : Thread _ _).loc Cert.Reference7Ideal.main_arg6)) (m' ((c.tc : Thread _ _).loc Cert.Reference7Ideal.main_arg7)) (m' ((c.tc : Thread _ _).loc Cert.Reference7Ideal.main_arg8)) (m' ((c.tc : Thread _ _).loc Cert.Reference7Ideal.main_arg9)) (m' ((c.tc : Thread _ _).loc Cert.Reference7Ideal.main_arg10)) = _
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2]
        funext i
        idx_vars i
        exact Cert.Reference7Ideal.QkvRef.out3_at _ _ _ _ _ _ _ _ _ _ _ f i0 i1,
      by
        have f := Finite.of_finite7 _ _ _ _ _ _ _ _ _ _ _ (hp c)
        refine (h c).2.2.2.2.1.trans ((Cert.Reference7Ideal.Read.val_main_v94_eq ..).trans ?_)
        show Cert.Reference7Ideal.Read.val_main_v94 (F := Ideal) (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3)) (m' ((c.tc : Thread _ _).loc Cert.Reference7Ideal.main_arg4)) (m' ((c.tc : Thread _ _).loc Cert.Reference7Ideal.main_arg5)) (m' ((c.tc : Thread _ _).loc Cert.Reference7Ideal.main_arg6)) (m' ((c.tc : Thread _ _).loc Cert.Reference7Ideal.main_arg7)) (m' ((c.tc : Thread _ _).loc Cert.Reference7Ideal.main_arg8)) (m' ((c.tc : Thread _ _).loc Cert.Reference7Ideal.main_arg9)) (m' ((c.tc : Thread _ _).loc Cert.Reference7Ideal.main_arg10)) = _
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2]
        funext i
        idx_vars i
        obtain rfl : i0 = 0 := Subsingleton.elim _ _
        exact Cert.Reference7Ideal.QkvRef.out4_at _ _ _ _ _ _ _ _ _ _ _ f i1,
      by
        have f := Finite.of_finite7 _ _ _ _ _ _ _ _ _ _ _ (hp c)
        refine (h c).2.2.2.2.2.1.trans ((Cert.Reference7Ideal.Read.val_main_v114_eq ..).trans ?_)
        show Cert.Reference7Ideal.Read.val_main_v114 (F := Ideal) (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3)) (m' ((c.tc : Thread _ _).loc Cert.Reference7Ideal.main_arg4)) (m' ((c.tc : Thread _ _).loc Cert.Reference7Ideal.main_arg5)) (m' ((c.tc : Thread _ _).loc Cert.Reference7Ideal.main_arg6)) (m' ((c.tc : Thread _ _).loc Cert.Reference7Ideal.main_arg7)) (m' ((c.tc : Thread _ _).loc Cert.Reference7Ideal.main_arg8)) (m' ((c.tc : Thread _ _).loc Cert.Reference7Ideal.main_arg9)) (m' ((c.tc : Thread _ _).loc Cert.Reference7Ideal.main_arg10)) = _
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2]
        funext i
        idx_vars i
        exact Cert.Reference7Ideal.QkvRef.out5_at _ _ _ _ _ _ _ _ _ _ _ f i0 i1,
      (h c).2.2.2.2.2.2⟩) (Cert.Reference7Ideal.Value.run m' ρ')⟩

/-- The reference runs and leaves its arguments. -/
theorem frame_QkvRef : Cert.quiescent_Reference7Ideal := fun m ρ _ =>
  (θ_run Cert.Reference7Ideal.defs _ _).mono (fun r h => ⟨fun c => (h c).2.2.2.2.2.2,
      sem_eq_zero_of_no_sems (by decide) r.2⟩)
    (Cert.Reference7Ideal.Value.run m ρ)

end Cert.Proof

end

end
-- ==== Proof.InBwdBlock.lean ====
/- The gradient of the first norm and projection, block by block: the arrays the kernel leaves are the formulas of InBwdRef. -/
module

public import proofs.«01_k».proof.Proof.Gen.Kernel8Ideal.Value
public import proofs.«01_k».proof.Proof.InBwdRef

set_option maxRecDepth 16384

@[expose] public section

noncomputable section

open Idealize.ShloMosaic Idealize.ShloMosaic.TcCoe Idealize.SL.Sem
open Idealize.ShloMosaic.Pipeline (Dat)

namespace Cert.Kernel8Ideal.InBwdBlock

open Cert.Kernel8Ideal Cert.Kernel8Ideal.Gen
open Cert.Reference8Ideal.InBwdRef
open Finite Ffn2

/-- The loaded vectors are the rows `row` of the arrays. -/
structure Reads (A0 : FVec Ideal S4096x3072 .bf16) (A1 : FVec Ideal S1024x3072 .bf16) (A2 : FVec Ideal S4096x1024 .f32) (A3 : FVec Ideal S1x1024 .f32)
    (A4 : FVec Ideal S4096x1024 .bf16) (row : Fin 256 → Fin 4096) (da : Vec Ideal S1x256x3072 .bf16) (w : Vec Ideal S1024x3072 .bf16)
    (x : Vec Ideal S256x1024 .f32) (g : Vec Ideal S1x1024 .f32) (dout : Vec Ideal S256x1024 .bf16) : Prop where
  da : ∀ r e, da (ix3 0 r e) = A0 (ix2 (row r) e)
  w : ∀ d e, w (ix2 d e) = A1 (ix2 d e)
  x : ∀ r d, x (ix2 r d) = A2 (ix2 (row r) d)
  g : ∀ d, g (ix2 0 d) = A3 (ix2 0 d)
  dout : ∀ r d, dout (ix2 r d) = A4 (ix2 (row r) d)

section
variable (A0 : FVec Ideal S4096x3072 .bf16) (A1 : FVec Ideal S1024x3072 .bf16) (A2 : FVec Ideal S4096x1024 .f32) (A3 : FVec Ideal S1x1024 .f32)
    (A4 : FVec Ideal S4096x1024 .bf16) (row : Fin 256 → Fin 4096) (da : Vec Ideal S1x256x3072 .bf16) (w : Vec Ideal S1024x3072 .bf16)
    (x : Vec Ideal S256x1024 .f32) (g : Vec Ideal S1x1024 .f32) (dout : Vec Ideal S256x1024 .bf16)

/-- A sub-tile's gradient, from its loaded rows. -/
theorem tile1 (n : FVec Ideal S256x1024 .f32) (hn : n = k0_pay2 (F := Ideal) da w) (r : Fin 256) (d : Fin 1024) :
    k0_pay9 (F := Ideal) (k0_pay7 da w x g) (k0_pay8 dout) (ix2 r d)
      = dout (ix2 r d) + normBwd (fun k => x (ix2 r k)) (fun k => g (ix2 0 k)) (fun k => n (ix2 r k)) d := by
  subst hn
  pointwise [k0_pay9, k0_pay8, k0_pay7, k0_pay6, k0_pay5]
  rfl
theorem tile2 (n : FVec Ideal S256x1024 .f32) (r : Fin 256) (d : Fin 1024) :
    k0_pay12 (F := Ideal) n x g dout (ix2 r d)
      = dout (ix2 r d) + normBwd (fun k => x (ix2 r k)) (fun k => g (ix2 0 k)) (fun k => n (ix2 r k)) d := by
  pointwise [k0_pay12, k0_pay11, k0_pay10]
  rfl
/-- The gain's part, from the loaded rows of both sub-tiles. -/
theorem part_at (n n' : FVec Ideal S256x1024 .f32) (v : FVec Ideal S1x1024 .f32) (x' : Vec Ideal S256x1024 .f32) (d : Fin 1024) :
    k0_pay13 (F := Ideal) n n' v (k0_pay6 x) x' (ix2 0 d) = v (ix2 0 d) + ∑ r : Fin 256, gain (fun k => x (ix2 r k)) (fun k => n (ix2 r k)) d
      + ∑ r : Fin 256, gain (fun k => x' (ix2 r k)) (fun k => n' (ix2 r k)) d := by
  pointwise [k0_pay13, k0_pay11, k0_pay10, k0_pay6, k0_pay5]
  rfl

/-- The gain's sum starts at zero. -/
theorem z_at (d : Fin 1024) : k0_pay4 (F := Ideal) (ix2 0 d) = 0 := by
  pointwise [k0_pay4]

variable (R : Reads A0 A1 A2 A3 A4 row da w x g dout)
include R

/-- The cotangent of the normed rows. -/
theorem dn1_at (r : Fin 256) (d : Fin 1024) : k0_pay2 (F := Ideal) da w (ix2 r d) = dn A0 A1 (row r) d := by
  pointwise [k0_pay2]
  exact Finset.sum_congr rfl fun e _ => congrArg₂ (· * ·) (R.da r e) (R.w d e)
theorem dn2_at (r : Fin 256) (d : Fin 1024) : k0_pay3 (F := Ideal) da w (ix2 r d) = dn A0 A1 (row r) d := by
  pointwise [k0_pay3]
  exact Finset.sum_congr rfl fun e _ => congrArg₂ (· * ·) (R.da r e) (R.w d e)
/-- The gradient of the rows. -/
theorem dx1_at (r : Fin 256) (d : Fin 1024) : k0_pay9 (F := Ideal) (k0_pay7 da w x g) (k0_pay8 dout) (ix2 r d) = dx A0 A1 A2 A3 A4 (row r) d :=
  (tile1 da w x g dout _ rfl r d).trans (congrArg₂ (· + ·) (R.dout r d) (normBwd_congr (fun k => R.x r k) (fun k => R.g k)
    (fun k => dn1_at A0 A1 A2 A3 A4 row da w x g dout R r k) d))
theorem dx2_at (r : Fin 256) (d : Fin 1024) : k0_pay12 (F := Ideal) (k0_pay3 da w) x g dout (ix2 r d) = dx A0 A1 A2 A3 A4 (row r) d :=
  (tile2 x g dout _ r d).trans (congrArg₂ (· + ·) (R.dout r d) (normBwd_congr (fun k => R.x r k) (fun k => R.g k)
    (fun k => dn2_at A0 A1 A2 A3 A4 row da w x g dout R r k) d))
/-- A row's part of the gain's gradient. -/
theorem gain1_at (r : Fin 256) (d : Fin 1024) : gain (fun k => x (ix2 r k)) (fun k => k0_pay2 (F := Ideal) da w (ix2 r k)) d
    = gain (fun k => A2 (ix2 (row r) k)) (dn A0 A1 (row r)) d :=
  gain_congr (fun k => R.x r k) (fun k => dn1_at A0 A1 A2 A3 A4 row da w x g dout R r k) d
theorem gain2_at (r : Fin 256) (d : Fin 1024) : gain (fun k => x (ix2 r k)) (fun k => k0_pay3 (F := Ideal) da w (ix2 r k)) d
    = gain (fun k => A2 (ix2 (row r) k)) (dn A0 A1 (row r)) d :=
  gain_congr (fun k => R.x r k) (fun k => dn2_at A0 A1 A2 A3 A4 row da w x g dout R r k) d
end

variable (m : (ℓ : Loc nD τ sig) → Buf (Elt Ideal) ℓ)

/-- The cotangent of the projection. -/
abbrev A0 (c : Dev nD) : FVec Ideal S4096x3072 .bf16 := m ((c : Thread nD τ).loc main_arg0)
/-- The projection. -/
abbrev A1 (c : Dev nD) : FVec Ideal S1024x3072 .bf16 := m ((c : Thread nD τ).loc main_arg1)
/-- The step's input. -/
abbrev A2 (c : Dev nD) : FVec Ideal S4096x1024 .f32 := m ((c : Thread nD τ).loc main_arg2)
/-- The gain. -/
abbrev A3 (c : Dev nD) : FVec Ideal S1x1024 .f32 := m ((c : Thread nD τ).loc main_arg3)
/-- The cotangent of the residual stream. -/
abbrev A4 (c : Dev nD) : FVec Ideal S4096x1024 .bf16 := m ((c : Thread nD τ).loc main_arg4)

/-- The first window's array at entry. -/
def DB (c : Dev nD) : FVec Ideal S1x4096x3072 .bf16 := V m c main_v0
theorem DB_eq (c : Dev nD) : DB m c = broadcastInDim S1x4096x3072 ![1, 2] bcast_S4096x3072_S1x4096x3072_1_2 (A0 m c) := by
  unfold DB V
  after_results
  try rfl
theorem DB_at (c : Dev nD) (t : Fin 4096) (e : Fin 3072) : DB m c (ix3 0 t e) = A0 m c (ix2 t e) := by
  rw [DB_eq]
  pointwise
  try rfl

/-- Every window's block index at every grid point. -/
theorem idx_val : ∀ t : Fin cfg0.N, win0_0.index t = ![0, t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] ∧ t.val < 8 :=
  (by decide +kernel : ∀ t : Fin grid0.N, _)
theorem ltN (t : Fin cfg0.N) : t.val < 8 := (idx_val t).2.2.2.2.2.2.2

/-- The row of a sub-tile. -/
def row (t : Fin cfg0.N) (s : Fin 2) (r : Fin 256) : Fin 4096 := ⟨512 * t.val + 256 * s.val + r.val, by have := ltN t; omega⟩
/-- The row an array index of a block belongs to. -/
theorem row_eq {t : Fin cfg0.N} {s : Fin 2} {r : Fin 256} {j : Fin 4096} (h : j.val = 512 * t.val + (256 * s.val + r.val)) : row t s r = j :=
  Fin.ext (by show 512 * t.val + 256 * s.val + r.val = j.val; omega)

/-- A load of rows 0 to 255 of a layer. -/
theorem ldC_0 (X : Vec Ideal S1x512x3072 .bf16) (r : Fin 256) (k : Fin 3072) :
    View.ld (Val := Elt Ideal) (e' := .bf16) X (Rect.unit ![0, 0, 0] ![1, 256, 3072] inb_S1x512x3072_S1x256x3072_0_0_0) (ix3 0 r k) = X (ix3 0 ⟨0 + r.val, by omega⟩ k) := by
  pointwise
/-- A load of rows 0 to 255. -/
theorem ldX_0 (X : Vec Ideal S512x1024 .f32) (r : Fin 256) (k : Fin 1024) :
    View.ld (Val := Elt Ideal) (e' := .f32) X (Rect.unit ![0, 0] ![256, 1024] inb_S512x1024_S256x1024_0_0) (ix2 r k) = X (ix2 ⟨0 + r.val, by omega⟩ k) := by
  pointwise
/-- A load of rows 0 to 255. -/
theorem ldB_0 (X : Vec Ideal S512x1024 .bf16) (r : Fin 256) (k : Fin 1024) :
    View.ld (Val := Elt Ideal) (e' := .bf16) X (Rect.unit ![0, 0] ![256, 1024] inb_S512x1024_S256x1024_0_0) (ix2 r k) = X (ix2 ⟨0 + r.val, by omega⟩ k) := by
  pointwise
/-- A load of rows 256 to 511 of a layer. -/
theorem ldC_1 (X : Vec Ideal S1x512x3072 .bf16) (r : Fin 256) (k : Fin 3072) :
    View.ld (Val := Elt Ideal) (e' := .bf16) X (Rect.unit ![0, 256, 0] ![1, 256, 3072] inb_S1x512x3072_S1x256x3072_0_256_0) (ix3 0 r k) = X (ix3 0 ⟨256 + r.val, by omega⟩ k) := by
  pointwise
/-- A load of rows 256 to 511. -/
theorem ldX_1 (X : Vec Ideal S512x1024 .f32) (r : Fin 256) (k : Fin 1024) :
    View.ld (Val := Elt Ideal) (e' := .f32) X (Rect.unit ![256, 0] ![256, 1024] inb_S512x1024_S256x1024_256_0) (ix2 r k) = X (ix2 ⟨256 + r.val, by omega⟩ k) := by
  pointwise
/-- A load of rows 256 to 511. -/
theorem ldB_1 (X : Vec Ideal S512x1024 .bf16) (r : Fin 256) (k : Fin 1024) :
    View.ld (Val := Elt Ideal) (e' := .bf16) X (Rect.unit ![256, 0] ![256, 1024] inb_S512x1024_S256x1024_256_0) (ix2 r k) = X (ix2 ⟨256 + r.val, by omega⟩ k) := by
  pointwise
/-- A block of 512 rows. -/
theorem rd0 (A : FVec Ideal S1x4096x3072 .bf16) (t : Fin cfg0.N) (r : Fin 512) (k : Fin 3072) (j : Fin 4096) (hj : j.val = 512 * t.val + r.val) :
    (((cfg0.win 0).blk t).view.read (Elt Ideal) A) (ix3 0 r k) = A (ix3 0 j k) := by
  blk_ext [idx_val t]
/-- A block is the whole array. -/
theorem rd1 (A : FVec Ideal S1024x3072 .bf16) (t : Fin cfg0.N) (d : Fin 1024) (e : Fin 3072) :
    (((cfg0.win 1).blk t).view.read (Elt Ideal) A) (ix2 d e) = A (ix2 d e) := by
  blk_ext [idx_val t]
/-- A block of 512 rows. -/
theorem rd2 (A : FVec Ideal S4096x1024 .f32) (t : Fin cfg0.N) (r : Fin 512) (k : Fin 1024) (j : Fin 4096) (hj : j.val = 512 * t.val + r.val) :
    (((cfg0.win 2).blk t).view.read (Elt Ideal) A) (ix2 r k) = A (ix2 j k) := by
  blk_ext [idx_val t]
/-- A block is the whole row. -/
theorem rd3 (A : FVec Ideal S1x1024 .f32) (t : Fin cfg0.N) (d : Fin 1024) :
    (((cfg0.win 3).blk t).view.read (Elt Ideal) A) (ix2 0 d) = A (ix2 0 d) := by
  blk_ext [idx_val t]
/-- A block of 512 rows. -/
theorem rd4 (A : FVec Ideal S4096x1024 .bf16) (t : Fin cfg0.N) (r : Fin 512) (k : Fin 1024) (j : Fin 4096) (hj : j.val = 512 * t.val + r.val) :
    (((cfg0.win 4).blk t).view.read (Elt Ideal) A) (ix2 r k) = A (ix2 j k) := by
  blk_ext [idx_val t]
/-- A sub-tile's loads. -/
theorem reads0 (c : Dev nD) (t : Fin cfg0.N) : Reads (A0 m c) (A1 m c) (A2 m c) (A3 m c) (A4 m c) (row t 0)
    (View.ld (iblk m c 0 t) (Rect.unit ![0, 0, 0] ![1, 256, 3072] inb_S1x512x3072_S1x256x3072_0_0_0)) (iblk m c 1 t)
    (View.ld (iblk m c 2 t) (Rect.unit ![0, 0] ![256, 1024] inb_S512x1024_S256x1024_0_0)) (iblk m c 3 t)
    (View.ld (iblk m c 4 t) (Rect.unit ![0, 0] ![256, 1024] inb_S512x1024_S256x1024_0_0)) where
  da r e := ((ldC_0 _ r e).trans (rd0 (DB m c) t ⟨0 + r.val, _⟩ e _ (Nat.add_assoc _ _ _))).trans (DB_at m c _ _)
  w d e := rd1 (A1 m c) t d e
  x r d := (ldX_0 _ r d).trans (rd2 (A2 m c) t ⟨0 + r.val, _⟩ d _ (Nat.add_assoc _ _ _))
  g d := rd3 (A3 m c) t d
  dout r d := (ldB_0 _ r d).trans (rd4 (A4 m c) t ⟨0 + r.val, _⟩ d _ (Nat.add_assoc _ _ _))
/-- A sub-tile's loads. -/
theorem reads1 (c : Dev nD) (t : Fin cfg0.N) : Reads (A0 m c) (A1 m c) (A2 m c) (A3 m c) (A4 m c) (row t 1)
    (View.ld (iblk m c 0 t) (Rect.unit ![0, 256, 0] ![1, 256, 3072] inb_S1x512x3072_S1x256x3072_0_256_0)) (iblk m c 1 t)
    (View.ld (iblk m c 2 t) (Rect.unit ![256, 0] ![256, 1024] inb_S512x1024_S256x1024_256_0)) (iblk m c 3 t)
    (View.ld (iblk m c 4 t) (Rect.unit ![256, 0] ![256, 1024] inb_S512x1024_S256x1024_256_0)) where
  da r e := ((ldC_1 _ r e).trans (rd0 (DB m c) t ⟨256 + r.val, _⟩ e _ (Nat.add_assoc _ _ _))).trans (DB_at m c _ _)
  w d e := rd1 (A1 m c) t d e
  x r d := (ldX_1 _ r d).trans (rd2 (A2 m c) t ⟨256 + r.val, _⟩ d _ (Nat.add_assoc _ _ _))
  g d := rd3 (A3 m c) t d
  dout r d := (ldB_1 _ r d).trans (rd4 (A4 m c) t ⟨256 + r.val, _⟩ d _ (Nat.add_assoc _ _ _))
/-- What a grid point leaves in window 5 is its block. -/
theorem point5 (c : Dev nD) (t : Fin cfg0.N) (y : S512x1024.Idx) (i : S4096x1024.Idx) (hi0 : (i 0 : ℕ) = 512 * t.val + (y 0 : ℕ))
    (hi1 : (i 1 : ℕ) = (y 1 : ℕ)) : (outsAt0 m c t.val t.isLt).1 y = dx (A0 m c) (A1 m c) (A2 m c) (A3 m c) (A4 m c) (i 0) (i 1) := by
  have ht := ltN t
  by_cases hz : t.val % 8 = 0
  · rw [outsAt0_A m c t hz (by omega)]
    frame_out
    canon_tiles x h
    all_goals idx_vars x
    · exact (dx2_at _ _ _ _ _ _ _ _ _ _ _ (reads1 m c t) x0 x1).trans (congrArg₂ _ (row_eq (by simp; omega)) (Fin.ext (by omega)))
    · exact (dx1_at _ _ _ _ _ _ _ _ _ _ _ (reads0 m c t) x0 x1).trans (congrArg₂ _ (row_eq (by simp; omega)) (Fin.ext (by omega)))
  · rw [outsAt0_B m c t hz (by omega)]
    frame_out
    canon_tiles x h
    all_goals idx_vars x
    · exact (dx2_at _ _ _ _ _ _ _ _ _ _ _ (reads1 m c t) x0 x1).trans (congrArg₂ _ (row_eq (by simp; omega)) (Fin.ext (by omega)))
    · exact (dx1_at _ _ _ _ _ _ _ _ _ _ _ (reads0 m c t) x0 x1).trans (congrArg₂ _ (row_eq (by simp; omega)) (Fin.ext (by omega)))

/-- The array of window 5 after the run. -/
theorem final5 (c : Dev nD) : (dats m 0 c).arrAt 5 (cfgs 0).N = fun i => dx (A0 m c) (A1 m c) (A2 m c) (A3 m c) (A4 m c) (i 0) (i 1) := by
  refine (dats m 0 c).arrAt_eq_of_covers 5 _ (by decide +kernel) fun t hf y => ?_
  blk_simp; rw [after0_5]
  refine point5 m c t y _ ?_ ?_ <;> blk_simp [idx_val t] <;> try omega

/-- A sum over the rows, sub-tile by sub-tile. -/
theorem sum_tiles (f : Fin 4096 → EReal) : ∑ n, f n = ∑ t : Fin cfg0.N, (∑ r, f (row t 0 r) + ∑ r, f (row t 1 r)) := by
  rw [Fin.sum_univ_tiles 8 512 rfl f]
  refine Finset.sum_congr rfl fun t _ => ?_
  rw [Fin.sum_univ_tiles 2 256 rfl, Fin.sum_univ_two]
  refine (congrArg₂ (· + ·) (Finset.sum_congr rfl fun r _ => congrArg f (Fin.ext ?_)) (Finset.sum_congr rfl fun r _ => congrArg f (Fin.ext ?_)))
  · show t.val * 512 + (0 * 256 + r.val) = 512 * t.val + 256 * 0 + r.val; omega
  · show t.val * 512 + (1 * 256 + r.val) = 512 * t.val + 256 * 1 + r.val; omega

/-- A grid point's part of the gain's gradient. -/
def part6 (c : Dev nD) (t : Fin cfg0.N) (d : Fin 1024) : EReal := ∑ r, gain (fun k => A2 m c (ix2 (row t 0 r) k)) (dn (A0 m c) (A1 m c) (row t 0 r)) d + ∑ r, gain (fun k => A2 m c (ix2 (row t 1 r) k)) (dn (A0 m c) (A1 m c) (row t 1 r)) d
/-- The first point starts the sum. -/
theorem step6_A (c : Dev nD) (t : Fin cfg0.N) (hz : t.val % 8 = 0) (y : S1x1024.Idx) :
    (outsAt0 m c t.val t.isLt).2 y = 0 + part6 m c t (y 1) := by
  have ht := ltN t
  rw [outsAt0_A m c t hz (by omega)]
  frame_out
  idx_vars y
  obtain rfl : y0 = 0 := Subsingleton.elim _ _
  refine (part_at _ _ _ _ _ y1).trans ?_
  exact (congrArg₂ (· + ·) (congrArg₂ (· + ·) (z_at y1) (Finset.sum_congr rfl fun r _ => gain1_at _ _ _ _ _ _ _ _ _ _ _ (reads0 m c t) r y1))
    (Finset.sum_congr rfl fun r _ => gain2_at _ _ _ _ _ _ _ _ _ _ _ (reads1 m c t) r y1)).trans (add_assoc _ _ _)
/-- What a later point stores. -/
theorem add_at6 (v w : FVec Ideal S1x1024 .f32) (d : Fin 1024) : k0_pay1 (F := Ideal) v w (ix2 0 d) = w (ix2 0 d) + v (ix2 0 d) := by
  pointwise [k0_pay1]
/-- A later point adds to it. -/
theorem step6_B (c : Dev nD) (t : Fin cfg0.N) (hz : ¬t.val % 8 = 0) (y : S1x1024.Idx) :
    (outsAt0 m c t.val t.isLt).2 y = (outsAt0 m c (t.val - 1) (Nat.lt_of_le_of_lt (Nat.sub_le _ _) t.isLt)).2 y + part6 m c t (y 1) := by
  have ht := ltN t
  rw [outsAt0_B m c t hz (by omega)]
  frame_out
  idx_vars y
  obtain rfl : y0 = 0 := Subsingleton.elim _ _
  refine (add_at6 _ _ y1).trans (congrArg (_ + ·) ?_)
  refine (part_at _ _ _ _ _ y1).trans ?_
  refine (congrArg₂ (· + ·) (congrArg₂ (· + ·) (z_at y1) (Finset.sum_congr rfl fun r _ => gain1_at _ _ _ _ _ _ _ _ _ _ _ (reads0 m c t) r y1))
    (Finset.sum_congr rfl fun r _ => gain2_at _ _ _ _ _ _ _ _ _ _ _ (reads1 m c t) r y1)).trans ?_
  rw [zero_add]
  rfl
/-- The gain's gradient after the run. -/
theorem final6 (c : Dev nD) : (dats m 0 c).arrAt 6 (cfgs 0).N = fun i => dg (A0 m c) (A1 m c) (A2 m c) (i 1) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t y => part6 m c t (y 1))
    (fun t h j => step6_A m c t h j) (fun t h j => step6_B m c t h j) (le_of_eq N_0) t0_7 rfl j, zero_add]
  refine (sum_tiles (fun t => gain (fun k => A2 m c (ix2 t k)) (dn (A0 m c) (A1 m c) t) (j 1))).symm

end Cert.Kernel8Ideal.InBwdBlock

end

end
-- ==== Proof.InBwdClaim.lean ====
/- The claims about the input gradient of the convolution block. -/
module

public import proofs.«01_k».proof.Defs
public import proofs.«01_k».proof.Proof.Gen.Kernel8.Frame
public import proofs.«01_k».proof.Proof.Gen.Reference8Ideal.Run
public import proofs.«01_k».proof.Proof.InBwdBlock
public import proofs.«01_k».proof.Proof.FinitePre2

set_option maxRecDepth 16384

@[expose] public section

noncomputable section

open Idealize.ShloMosaic Idealize.SL.Sem

namespace Cert.Proof

set_option maxHeartbeats 2000000 in
/-- The kernel's arrays are the reference's. -/
theorem value_InBwd : Cert.algebraic_Kernel8Ideal_Reference8Ideal_pre_finite8 := fun m ρ m' ρ' hp hag =>
  ⟨fun c i => Cert.Reference8Ideal.InBwdRef.dx (Cert.Kernel8Ideal.InBwdBlock.A0 m c) (Cert.Kernel8Ideal.InBwdBlock.A1 m c) (Cert.Kernel8Ideal.InBwdBlock.A2 m c) (Cert.Kernel8Ideal.InBwdBlock.A3 m c) (Cert.Kernel8Ideal.InBwdBlock.A4 m c) (i 0) (i 1),
    fun c i => Cert.Reference8Ideal.InBwdRef.dg (Cert.Kernel8Ideal.InBwdBlock.A0 m c) (Cert.Kernel8Ideal.InBwdBlock.A1 m c) (Cert.Kernel8Ideal.InBwdBlock.A2 m c) (i 1),
    (θ_run _ _ _).mono (fun _ h c => ⟨(h c).1.trans (Cert.Kernel8Ideal.InBwdBlock.final5 m c),
      (h c).2.1.trans (Cert.Kernel8Ideal.InBwdBlock.final6 m c),
      (h c).2.2⟩) (Cert.Kernel8Ideal.Value.run_blocks m ρ),
    (θ_run _ _ _).mono (fun _ h c => ⟨by
        have f := Finite.of_finite8 _ _ _ _ _ (hp c)
        refine (h c).1.trans ((Cert.Reference8Ideal.Read.val_main_v39_eq ..).trans ?_)
        show Cert.Reference8Ideal.Read.val_main_v39 (F := Ideal) (m' ((c.tc : Thread _ _).loc Cert.Reference8Ideal.main_arg0)) (m' ((c.tc : Thread _ _).loc Cert.Reference8Ideal.main_arg1)) (m' ((c.tc : Thread _ _).loc Cert.Reference8Ideal.main_arg2)) (m' ((c.tc : Thread _ _).loc Cert.Reference8Ideal.main_arg3)) (m' ((c.tc : Thread _ _).loc Cert.Reference8Ideal.main_arg4)) = _
        rw [(hag c).1, (hag c).2.1, (hag c).2.2.1, (hag c).2.2.2.1, (hag c).2.2.2.2]
        funext i
        idx_vars i
        exact Cert.Reference8Ideal.InBwdRef.out0_at _ _ _ _ _ f i0 i1,
      by
        have f := Finite.of_finite8 _ _ _ _ _ (hp c)
        refine (h c).2.1.trans ((Cert.Reference8Ideal.Read.val_main_v22_eq ..).trans ?_)
        show Cert.Reference8Ideal.Read.val_main_v22 (F := Ideal) (m' ((c.tc : Thread _ _).loc Cert.Reference8Ideal.main_arg0)) (m' ((c.tc : Thread _ _).loc Cert.Reference8Ideal.main_arg1)) (m' ((c.tc : Thread _ _).loc Cert.Reference8Ideal.main_arg2)) = _
        rw [(hag c).1, (hag c).2.1, (hag c).2.2.1]
        funext i
        idx_vars i
        obtain rfl : i0 = 0 := Subsingleton.elim _ _
        exact Cert.Reference8Ideal.InBwdRef.out1_at _ _ _ _ _ f i1,
      (h c).2.2⟩) (Cert.Reference8Ideal.Value.run m' ρ')⟩

/-- The reference runs and leaves its arguments. -/
theorem frame_InBwdRef : Cert.quiescent_Reference8Ideal := fun m ρ _ =>
  (θ_run Cert.Reference8Ideal.defs _ _).mono (fun r h => ⟨fun c => (h c).2.2,
      sem_eq_zero_of_no_sems (by decide) r.2⟩)
    (Cert.Reference8Ideal.Value.run m ρ)

end Cert.Proof

end

end
-- ==== Proof.PreBlock.lean ====
/- The norm and the three input projections of the convolution block: the arrays the kernel leaves and the reference's results, read at an index. -/
module

public import proofs.«01_k».proof.Proof.Gen.Kernel9Ideal.Value
public import proofs.«01_k».proof.Proof.Gen.Reference9Ideal.Read
public import proofs.«01_k».proof.Proof.NormSpec

set_option maxRecDepth 16384

@[expose] public section

noncomputable section

open Idealize.ShloMosaic Idealize.ShloMosaic.TcCoe Idealize.SL.Sem
open Idealize.ShloMosaic.Pipeline (Dat)

namespace Cert.Kernel9Ideal.PreBlock

open Cert.Kernel9Ideal Cert.Kernel9Ideal.Gen
open Cert.Reference9Ideal.Read
open Finite

/-- The normed input. -/
def xn (x0 : FVec Ideal S4096x1024 .f32) (x1 : FVec Ideal S1x1024 .f32) (t : Fin 4096) (d : Fin 1024) : EReal :=
  normE (fun k => x0 (ix2 t k)) (fun k => x1 (ix2 0 k)) d
/-- The joint projection of the normed input. -/
def pre (x0 : FVec Ideal S4096x1024 .f32) (x1 : FVec Ideal S1x1024 .f32) (x2 : FVec Ideal S1024x3072 .bf16) (t : Fin 4096) (j : Fin 3072) : EReal :=
  ∑ d, xn x0 x1 t d * x2 (ix2 d j)

section
variable (x0 : FVec Ideal S4096x1024 .f32) (x1 : FVec Ideal S1x1024 .f32) (x2 : FVec Ideal S1024x3072 .bf16)
/-- The reference's normed input. -/
theorem ref_xn (t : Fin 4096) (d : Fin 1024) : val_main_v11 (F := Ideal) x0 x1 (ix2 t d) = xn x0 x1 t d := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl
/-- The reference's second result. -/
theorem ref1 (t : Fin 4096) (d : Fin 1024) : val_main_v16 (F := Ideal) x0 x1 (ix2 t d) = xn x0 x1 t d := by
  pointwise [val_main_v16]
  exact ref_xn x0 x1 t d
/-- The reference's first result. -/
theorem ref0 (t : Fin 4096) (j : Fin 3072) : val_main_v15 (F := Ideal) x0 x1 x2 (ix3 0 t j) = pre x0 x1 x2 t j := by
  pointwise [val_main_v15, val_main_v14, val_main_v13, val_main_v12]
  exact Finset.sum_congr rfl fun d _ => congrArg (· * _) (ref_xn x0 x1 t d)
end

section
variable (A0 : FVec Ideal S4096x1024 .f32) (A1 : FVec Ideal S1x1024 .f32) (A2 : FVec Ideal S1024x3072 .bf16) (row : Fin 512 → Fin 4096)
  (h : Vec Ideal S512x1024 .f32) (g : Vec Ideal S1x1024 .f32) (w : Vec Ideal S1024x3072 .bf16)
/-- The normed rows. -/
theorem xn_at (hh : ∀ r d, h (ix2 r d) = A0 (ix2 (row r) d)) (hg : ∀ d, g (ix2 0 d) = A1 (ix2 0 d)) (r : Fin 512) (d : Fin 1024) :
    k0_pay1 (F := Ideal) h g (ix2 r d) = xn A0 A1 (row r) d := by
  refine (show _ = normE (fun k => h (ix2 r k)) (fun k => g (ix2 0 k)) d from ?_).trans ?_
  · pointwise [k0_pay1]
    rfl
  · simp only [hh, hg]
    rfl
/-- The projected rows. -/
theorem pre_at (hh : ∀ r d, h (ix2 r d) = A0 (ix2 (row r) d)) (hg : ∀ d, g (ix2 0 d) = A1 (ix2 0 d))
    (hw : ∀ d j, w (ix2 d j) = A2 (ix2 d j)) (r : Fin 512) (j : Fin 3072) :
    k0_pay2 (F := Ideal) (k0_pay1 h g) w (ix3 0 r j) = pre A0 A1 A2 (row r) j := by
  pointwise [k0_pay2]
  exact Finset.sum_congr rfl fun d _ => congrArg₂ (· * ·) (xn_at A0 A1 row h g hh hg r d) (hw d j)
end

variable (m : (ℓ : Loc nD τ sig) → Buf (Elt Ideal) ℓ)
/-- The block's input. -/
abbrev A0 (c : Dev nD) : FVec Ideal S4096x1024 .f32 := m ((c : Thread nD τ).loc main_arg0)
/-- The norm's gain. -/
abbrev A1 (c : Dev nD) : FVec Ideal S1x1024 .f32 := m ((c : Thread nD τ).loc main_arg1)
/-- The weight. -/
abbrev A2 (c : Dev nD) : FVec Ideal S1024x3072 .bf16 := m ((c : Thread nD τ).loc main_arg2)

/-- Every window's block index at every grid point. -/
theorem idx_val : ∀ t : Fin cfg0.N, win0_0.index t = ![t.val, 0] ∧ win0_1.index t = ![0, 0] ∧ win0_2.index t = ![0, 0] ∧ win0_3.index t = ![0, t.val, 0] ∧ win0_4.index t = ![t.val, 0] ∧ t.val < 8 :=
  (by decide +kernel : ∀ t : Fin grid0.N, _)
theorem ltN (t : Fin cfg0.N) : t.val < 8 := (idx_val t).2.2.2.2.2

/-- The row of a tile. -/
def row (t : Fin cfg0.N) (r : Fin 512) : Fin 4096 := ⟨512 * t.val + r.val, by have := ltN t; omega⟩
theorem row_eq {t : Fin cfg0.N} {r : Fin 512} {j : Fin 4096} (h : j.val = 512 * t.val + r.val) : row t r = j := Fin.ext h.symm
/-- A block of 512 rows. -/
theorem rd0 (A : FVec Ideal S4096x1024 .f32) (t : Fin cfg0.N) (r : Fin 512) (k : Fin 1024) (j : Fin 4096) (hj : j.val = 512 * t.val + r.val) :
    (((cfg0.win 0).blk t).view.read (Elt Ideal) A) (ix2 r k) = A (ix2 j k) := by
  blk_ext [idx_val t]
/-- A block is the whole row. -/
theorem rd1 (A : FVec Ideal S1x1024 .f32) (t : Fin cfg0.N) (d : Fin 1024) :
    (((cfg0.win 1).blk t).view.read (Elt Ideal) A) (ix2 0 d) = A (ix2 0 d) := by
  blk_ext [idx_val t]
/-- A block is the whole array. -/
theorem rd2 (A : FVec Ideal S1024x3072 .bf16) (t : Fin cfg0.N) (d : Fin 1024) (e : Fin 3072) :
    (((cfg0.win 2).blk t).view.read (Elt Ideal) A) (ix2 d e) = A (ix2 d e) := by
  blk_ext [idx_val t]

/-- The projections a grid point leaves. -/
theorem point3 (c : Dev nD) (t : Fin cfg0.N) (y : S1x512x3072.Idx) (i : S1x4096x3072.Idx) (hi1 : (i 1 : ℕ) = 512 * t.val + (y 1 : ℕ))
    (hi2 : (i 2 : ℕ) = (y 2 : ℕ)) : (outsAt0 m c t).1 y = pre (A0 m c) (A1 m c) (A2 m c) (i 1) (i 2) := by
  unfold outsAt0
  frame_out
  idx_vars y
  obtain rfl : y0 = 0 := Subsingleton.elim _ _
  exact (pre_at (A0 m c) (A1 m c) (A2 m c) (row t) _ _ _ (fun r d => rd0 (A0 m c) t r d _ rfl) (rd1 (A1 m c) t) (rd2 (A2 m c) t) y1 y2).trans
    (congrArg₂ _ (row_eq hi1) (Fin.ext hi2.symm))
/-- The normed rows a grid point leaves. -/
theorem point4 (c : Dev nD) (t : Fin cfg0.N) (y : S512x1024.Idx) (i : S4096x1024.Idx) (hi0 : (i 0 : ℕ) = 512 * t.val + (y 0 : ℕ))
    (hi1 : (i 1 : ℕ) = (y 1 : ℕ)) : (outsAt0 m c t).2 y = xn (A0 m c) (A1 m c) (i 0) (i 1) := by
  unfold outsAt0
  frame_out
  idx_vars y
  exact (xn_at (A0 m c) (A1 m c) (row t) _ _ (fun r d => rd0 (A0 m c) t r d _ rfl) (rd1 (A1 m c) t) y0 y1).trans
    (congrArg₂ _ (row_eq hi0) (Fin.ext hi1.symm))
/-- The first result after the run. -/
theorem final3 (c : Dev nD) : (dats m 0 c).arrAt 3 (cfgs 0).N = fun i => pre (A0 m c) (A1 m c) (A2 m c) (i 1) (i 2) := by
  refine (dats m 0 c).arrAt_eq_of_covers 3 _ (by decide +kernel) fun t hf y => ?_
  blk_simp; rw [after0_3]
  refine point3 m c t y _ ?_ ?_ <;> blk_simp [idx_val t] <;> try omega
/-- The second. -/
theorem final4 (c : Dev nD) : (dats m 0 c).arrAt 4 (cfgs 0).N = fun i => xn (A0 m c) (A1 m c) (i 0) (i 1) := by
  refine (dats m 0 c).arrAt_eq_of_covers 4 _ (by decide +kernel) fun t hf y => ?_
  blk_simp; rw [after0_4]
  refine point4 m c t y _ ?_ ?_ <;> blk_simp [idx_val t] <;> try omega

end Cert.Kernel9Ideal.PreBlock

end

end
-- ==== Proof.PreClaim.lean ====
/- The claims about the norm and the input projections of the convolution block. -/
module

public import proofs.«01_k».proof.Defs
public import proofs.«01_k».proof.Proof.Gen.Kernel9.Frame
public import proofs.«01_k».proof.Proof.Gen.Reference9Ideal.Run
public import proofs.«01_k».proof.Proof.PreBlock

set_option maxRecDepth 16384

@[expose] public section

noncomputable section

open Idealize.ShloMosaic Idealize.SL.Sem

namespace Cert.Proof

set_option maxHeartbeats 2000000 in
/-- The kernel's arrays are the reference's. -/
theorem value_Pre : Cert.algebraic_Kernel9Ideal_Reference9Ideal := fun m ρ m' ρ' _ hag =>
  ⟨fun c i => Cert.Kernel9Ideal.PreBlock.pre (Cert.Kernel9Ideal.PreBlock.A0 m c) (Cert.Kernel9Ideal.PreBlock.A1 m c) (Cert.Kernel9Ideal.PreBlock.A2 m c) (i 1) (i 2),
    fun c i => Cert.Kernel9Ideal.PreBlock.xn (Cert.Kernel9Ideal.PreBlock.A0 m c) (Cert.Kernel9Ideal.PreBlock.A1 m c) (i 0) (i 1),
    (θ_run _ _ _).mono (fun _ h c => ⟨(h c).1.trans (Cert.Kernel9Ideal.PreBlock.final3 m c),
      (h c).2.1.trans (Cert.Kernel9Ideal.PreBlock.final4 m c),
      (h c).2.2⟩) (Cert.Kernel9Ideal.Value.run_blocks m ρ),
    (θ_run _ _ _).mono (fun _ h c => ⟨by
        refine (h c).1.trans ((Cert.Reference9Ideal.Read.val_main_v15_eq ..).trans ?_)
        show Cert.Reference9Ideal.Read.val_main_v15 (F := Ideal) (m' ((c.tc : Thread _ _).loc Cert.Reference9Ideal.main_arg0)) (m' ((c.tc : Thread _ _).loc Cert.Reference9Ideal.main_arg1)) (m' ((c.tc : Thread _ _).loc Cert.Reference9Ideal.main_arg2)) = _
        rw [(hag c).1, (hag c).2.1, (hag c).2.2]
        funext i
        idx_vars i
        obtain rfl : i0 = 0 := Subsingleton.elim _ _
        exact Cert.Kernel9Ideal.PreBlock.ref0 _ _ _ i1 i2,
      by
        refine (h c).2.1.trans ((Cert.Reference9Ideal.Read.val_main_v16_eq ..).trans ?_)
        show Cert.Reference9Ideal.Read.val_main_v16 (F := Ideal) (m' ((c.tc : Thread _ _).loc Cert.Reference9Ideal.main_arg0)) (m' ((c.tc : Thread _ _).loc Cert.Reference9Ideal.main_arg1)) = _
        rw [(hag c).1, (hag c).2.1]
        funext i
        idx_vars i
        exact Cert.Kernel9Ideal.PreBlock.ref1 _ _ i0 i1,
      (h c).2.2⟩) (Cert.Reference9Ideal.Value.run m' ρ')⟩

/-- The reference runs and leaves its arguments. -/
theorem frame_PreRef : Cert.quiescent_Reference9Ideal := fun m ρ _ =>
  (θ_run Cert.Reference9Ideal.defs _ _).mono (fun r h => ⟨fun c => (h c).2.2,
      sem_eq_zero_of_no_sems (by decide) r.2⟩)
    (Cert.Reference9Ideal.Value.run m ρ)

end Cert.Proof

end

end
-- ==== Proof.DwInBlock.lean ====
/- The gradient of the weight of the convolution block's input projections, block by block and as a whole. -/
module

public import proofs.«01_k».proof.Proof.Gen.Kernel10Ideal.Value
public import proofs.«01_k».proof.Proof.Gen.Reference10Ideal.Read
public import proofs.«01_k».proof.Proof.Finite

set_option maxRecDepth 16384

@[expose] public section

noncomputable section

open Idealize.ShloMosaic Idealize.ShloMosaic.TcCoe Idealize.SL.Sem
open Idealize.ShloMosaic.Pipeline (Dat)

namespace Cert.Kernel10Ideal.DwInBlock

open Cert.Kernel10Ideal Cert.Kernel10Ideal.Gen
open Cert.Reference10Ideal.Read

variable (m : (ℓ : Loc nD τ sig) → Buf (Elt Ideal) ℓ)

/-- The product's left argument, read by columns. -/
abbrev A0 (c : Dev nD) : FVec Ideal S4096x1024 .bf16 := m ((c : Thread nD τ).loc main_arg0)
/-- The cotangent of the product. -/
abbrev A1 (c : Dev nD) : FVec Ideal S4096x3072 .bf16 := m ((c : Thread nD τ).loc main_arg1)

/-- The second window's array at entry. -/
def DB (c : Dev nD) : FVec Ideal S1x4096x3072 .bf16 := V m c main_v0
theorem DB_eq (c : Dev nD) : DB m c = broadcastInDim S1x4096x3072 ![1, 2] bcast_S4096x3072_S1x4096x3072_1_2 (A1 m c) := by
  unfold DB V
  after_results
  try rfl
/-- It is the cotangent. -/
theorem DB_at (c : Dev nD) (t : Fin 4096) (f : Fin 3072) : DB m c (ix3 0 t f) = A1 m c (ix2 t f) := by
  rw [DB_eq]
  pointwise
  try rfl

/-- The weight's gradient at an index. -/
def dwAt (a : FVec Ideal S4096x1024 .bf16) (b : FVec Ideal S4096x3072 .bf16) (d : Fin 1024) (f : Fin 3072) : EReal := ∑ t, a (ix2 t d) * b (ix2 t f)

/-- Every window's block index at every grid point. -/
theorem idx_val : ∀ t : Fin cfg0.N, win0_0.index t = ![0, t.val % 4] ∧ win0_1.index t = ![0, 0, t.val / 4] ∧ win0_2.index t = ![t.val % 4, t.val / 4] ∧ t.val < 8 :=
  (by decide +kernel : ∀ t : Fin grid0.N, _)
theorem ltN (t : Fin cfg0.N) : t.val < 8 := (idx_val t).2.2.2

/-- A block of the first window is 256 columns. -/
theorem rd0 (A : FVec Ideal S4096x1024 .bf16) (t : Fin cfg0.N) (k : Fin 4096) (f : Fin 256) (j : Fin 1024) (hj : j.val = 256 * (t.val % 4) + f.val) :
    ((cfg0.win 0).blk t).view.read (Elt Ideal) A (ix2 k f) = A (ix2 k j) := by
  blk_ext [idx_val t]
/-- A block of the second window. -/
theorem rd1 (A : FVec Ideal S1x4096x3072 .bf16) (t : Fin cfg0.N) (k : Fin 4096) (f : Fin 1536) (j : Fin 3072) (hj : j.val = 1536 * (t.val / 4) + f.val) :
    ((cfg0.win 1).blk t).view.read (Elt Ideal) A (ix3 0 k f) = A (ix3 0 k j) := by
  blk_ext [idx_val t]

/-- What a grid point leaves is its block of the gradient. -/
theorem point2 (c : Dev nD) (t : Fin cfg0.N) (y : S256x1536.Idx) (i : S1024x3072.Idx) (hi0 : (i 0 : ℕ) = 256 * (t.val % 4) + (y 0 : ℕ)) (hi1 : (i 1 : ℕ) = 1536 * (t.val / 4) + (y 1 : ℕ)) :
    out0_2 (F := Ideal) (iblk m c 0 t) (iblk m c 1 t) y = dwAt (A0 m c) (A1 m c) (i 0) (i 1) := by
  have ht := ltN t
  frame_out
  idx_vars y
  pointwise [k0_pay1]
  exact Finset.sum_congr rfl fun k _ => congrArg₂ (· * ·) (rd0 (A0 m c) t k y0 (i 0) hi0) ((rd1 (DB m c) t k y1 (i 1) hi1).trans (DB_at m c k (i 1)))

/-- The weight's gradient after the run. -/
theorem final2 (c : Dev nD) : (dats m 0 c).arrAt 2 (cfgs 0).N = fun i => dwAt (A0 m c) (A1 m c) (i 0) (i 1) := by
  refine (dats m 0 c).arrAt_eq_of_covers 2 _ (by decide +kernel) fun t hf y => ?_
  blk_simp; rw [after0_2]
  refine point2 m c t y _ ?_ ?_ <;> blk_simp [idx_val t] <;> try omega

/-- The reference's result at an index. -/
theorem ref_at (a : FVec Ideal S4096x1024 .bf16) (b : FVec Ideal S4096x3072 .bf16) (d : Fin 1024) (f : Fin 3072) :
    val_main_v6 (F := Ideal) a b (ix2 d f) = dwAt a b d f := by
  unfold dwAt
  pointwise [val_main_v6, val_main_v5, val_main_v4, val_main_v3, val_main_v1]
  exact Finset.sum_congr rfl fun t _ => mul_comm _ _

end Cert.Kernel10Ideal.DwInBlock

end

end
-- ==== Proof.DwInClaim.lean ====
/- The claims about the gradient of the weight of the convolution block's input projections. -/
module

public import proofs.«01_k».proof.Defs
public import proofs.«01_k».proof.Proof.Gen.Kernel10.Frame
public import proofs.«01_k».proof.Proof.Gen.Reference10Ideal.Run
public import proofs.«01_k».proof.Proof.DwInBlock

set_option maxRecDepth 16384

@[expose] public section

noncomputable section

open Idealize.ShloMosaic Idealize.SL.Sem

namespace Cert.Proof

set_option maxHeartbeats 2000000 in
/-- The kernel's arrays are the reference's. -/
theorem value_DwIn : Cert.algebraic_Kernel10Ideal_Reference10Ideal := fun m ρ m' ρ' _ hag =>
  ⟨fun c i => Cert.Kernel10Ideal.DwInBlock.dwAt (Cert.Kernel10Ideal.DwInBlock.A0 m c) (Cert.Kernel10Ideal.DwInBlock.A1 m c) (i 0) (i 1),
    (θ_run _ _ _).mono (fun _ h c => ⟨(h c).1.trans (Cert.Kernel10Ideal.DwInBlock.final2 m c),
      (h c).2⟩) (Cert.Kernel10Ideal.Value.run_blocks m ρ),
    (θ_run _ _ _).mono (fun _ h c => ⟨by
        refine (h c).1.trans ((Cert.Reference10Ideal.Read.val_main_v6_eq ..).trans ?_)
        show Cert.Reference10Ideal.Read.val_main_v6 (F := Ideal) (m' ((c.tc : Thread _ _).loc Cert.Reference10Ideal.main_arg0)) (m' ((c.tc : Thread _ _).loc Cert.Reference10Ideal.main_arg1)) = _
        rw [(hag c).1, (hag c).2]
        funext i
        idx_vars i
        exact Cert.Kernel10Ideal.DwInBlock.ref_at _ _ i0 i1,
      (h c).2⟩) (Cert.Reference10Ideal.Value.run m' ρ')⟩

/-- The reference runs and leaves its arguments. -/
theorem frame_DwInRef : Cert.quiescent_Reference10Ideal := fun m ρ _ =>
  (θ_run Cert.Reference10Ideal.defs _ _).mono (fun r h => ⟨fun c => (h c).2,
      sem_eq_zero_of_no_sems (by decide) r.2⟩)
    (Cert.Reference10Ideal.Value.run m ρ)

end Cert.Proof

end

end
-- ==== Proof.MixBlock.lean ====
/- The down projection and the norm after it: the arrays the kernel leaves and the reference's results, read at an index. -/
module

public import proofs.«01_k».proof.Proof.Gen.Kernel11Ideal.Value
public import proofs.«01_k».proof.Proof.Gen.Reference11Ideal.Read
public import proofs.«01_k».proof.Proof.NormSpec

set_option maxRecDepth 16384

@[expose] public section

noncomputable section

open Idealize.ShloMosaic Idealize.ShloMosaic.TcCoe Idealize.SL.Sem
open Idealize.ShloMosaic.Pipeline (Dat)

namespace Cert.Kernel11Ideal.MixBlock

open Cert.Kernel11Ideal Cert.Kernel11Ideal.Gen
open Cert.Reference11Ideal.Read
open Finite

/-- The product. -/
def z (x0 : FVec Ideal S4096x2816 .bf16) (x1 : FVec Ideal S2816x1024 .bf16) (t : Fin 4096) (d : Fin 1024) : EReal := ∑ k, x0 (ix2 t k) * x1 (ix2 k d)
/-- The stream after the block. -/
def h (x0 : FVec Ideal S4096x2816 .bf16) (x1 : FVec Ideal S2816x1024 .bf16) (x2 : FVec Ideal S1x1024 .f32) (x3 : FVec Ideal S4096x1024 .bf16)
    (t : Fin 4096) (d : Fin 1024) : EReal := x3 (ix2 t d) + normE (z x0 x1 t) (fun k => x2 (ix2 0 k)) d

section
variable (x0 : FVec Ideal S4096x2816 .bf16) (x1 : FVec Ideal S2816x1024 .bf16) (x2 : FVec Ideal S1x1024 .f32) (x3 : FVec Ideal S4096x1024 .bf16)
/-- The reference's product. -/
theorem ref_z (t : Fin 4096) (d : Fin 1024) : val_main_v2 (F := Ideal) x0 x1 (ix2 t d) = z x0 x1 t d := by
  unfold z
  pointwise [val_main_v2, val_main_v1, val_main_v0]
/-- The reference's second result. -/
theorem ref1 (t : Fin 4096) (d : Fin 1024) : val_main_v18 (F := Ideal) x0 x1 (ix2 t d) = z x0 x1 t d := by
  pointwise [val_main_v18]
  exact ref_z x0 x1 t d
/-- The reference's first result. -/
theorem ref0 (t : Fin 4096) (d : Fin 1024) : val_main_v17 (F := Ideal) x0 x1 x2 x3 (ix2 t d) = h x0 x1 x2 x3 t d := by
  refine (show _ = x3 (ix2 t d) + normE (fun k => val_main_v2 (F := Ideal) x0 x1 (ix2 t k)) (fun k => x2 (ix2 0 k)) d from ?_).trans ?_
  · pointwise [val_main_v17, val_main_v16, val_main_v15, val_main_v14, val_main_v13, val_main_v12, val_main_v11, val_main_v10, val_main_v9,
      val_main_v8, val_main_v7, val_main_v6, val_main_v5, val_main_v4, val_main_v3, val_main_cst, val_main_cst_0, val_main_cst_1]
    rfl
  · simp only [ref_z]
    rfl
end

/-- The loaded vectors are the rows `row` of the left argument and of the stream, the weight and the gain. -/
structure Reads (A0 : FVec Ideal S4096x2816 .bf16) (A1 : FVec Ideal S2816x1024 .bf16) (A2 : FVec Ideal S1x1024 .f32) (A3 : FVec Ideal S4096x1024 .bf16)
    (row : Fin 256 → Fin 4096) (a : Vec Ideal S256x2816 .bf16) (w : Vec Ideal S2816x1024 .bf16) (g : Vec Ideal S1x1024 .f32) (x : Vec Ideal S256x1024 .bf16) : Prop where
  a : ∀ r d, a (ix2 r d) = A0 (ix2 (row r) d)
  w : ∀ k d, w (ix2 k d) = A1 (ix2 k d)
  g : ∀ d, g (ix2 0 d) = A2 (ix2 0 d)
  x : ∀ r d, x (ix2 r d) = A3 (ix2 (row r) d)

section
variable (A0 : FVec Ideal S4096x2816 .bf16) (A1 : FVec Ideal S2816x1024 .bf16) (A2 : FVec Ideal S1x1024 .f32) (A3 : FVec Ideal S4096x1024 .bf16)
  (row : Fin 256 → Fin 4096) (a : Vec Ideal S256x2816 .bf16) (w : Vec Ideal S2816x1024 .bf16) (g : Vec Ideal S1x1024 .f32) (x : Vec Ideal S256x1024 .bf16)
  (R : Reads A0 A1 A2 A3 row a w g x)
include R
/-- The product's rows. -/
theorem z0_at (r : Fin 256) (d : Fin 1024) : k0_pay3 (F := Ideal) a w (ix2 r d) = z A0 A1 (row r) d := by
  pointwise [k0_pay3]
  exact Finset.sum_congr rfl fun k _ => congrArg₂ (· * ·) (R.a r k) (R.w k d)
/-- As they are stored. -/
theorem sz0_at (r : Fin 256) (d : Fin 1024) : k0_pay6 (F := Ideal) a w (ix2 r d) = z A0 A1 (row r) d := by
  pointwise [k0_pay6]
  exact z0_at A0 A1 A2 A3 row a w g x R r d
/-- The stream's rows. -/
theorem h0_at (r : Fin 256) (d : Fin 1024) : k0_pay5 (F := Ideal) a w x g (ix2 r d) = h A0 A1 A2 A3 (row r) d := by
  refine (show _ = x (ix2 r d) + normE (fun k => k0_pay3 (F := Ideal) a w (ix2 r k)) (fun k => g (ix2 0 k)) d from ?_).trans ?_
  · pointwise [k0_pay5]
    rfl
  · simp only [z0_at A0 A1 A2 A3 row a w g x R, R.g, R.x]
    rfl
/-- The product's rows. -/
theorem z1_at (r : Fin 256) (d : Fin 1024) : k0_pay4 (F := Ideal) a w (ix2 r d) = z A0 A1 (row r) d := by
  pointwise [k0_pay4]
  exact Finset.sum_congr rfl fun k _ => congrArg₂ (· * ·) (R.a r k) (R.w k d)
/-- As they are stored. -/
theorem sz1_at (r : Fin 256) (d : Fin 1024) : k0_pay2 (F := Ideal) (k0_pay4 a w) (ix2 r d) = z A0 A1 (row r) d := by
  pointwise [k0_pay2]
  exact z1_at A0 A1 A2 A3 row a w g x R r d
/-- The stream's rows. -/
theorem h1_at (r : Fin 256) (d : Fin 1024) : k0_pay1 (F := Ideal) (k0_pay4 a w) (k0_pay7 x) (k0_pay8 a w) k0_pay9 g (ix2 r d) = h A0 A1 A2 A3 (row r) d := by
  refine (show _ = x (ix2 r d) + normE (fun k => k0_pay4 (F := Ideal) a w (ix2 r k)) (fun k => g (ix2 0 k)) d from ?_).trans ?_
  · pointwise [k0_pay1, k0_pay7, k0_pay8, k0_pay9]
    rfl
  · simp only [z1_at A0 A1 A2 A3 row a w g x R, R.g, R.x]
    rfl
end

variable (m : (ℓ : Loc nD τ sig) → Buf (Elt Ideal) ℓ)
/-- The product's left argument. -/
abbrev A0 (c : Dev nD) : FVec Ideal S4096x2816 .bf16 := m ((c : Thread nD τ).loc main_arg0)
/-- The weight. -/
abbrev A1 (c : Dev nD) : FVec Ideal S2816x1024 .bf16 := m ((c : Thread nD τ).loc main_arg1)
/-- The norm's gain. -/
abbrev A2 (c : Dev nD) : FVec Ideal S1x1024 .f32 := m ((c : Thread nD τ).loc main_arg2)
/-- The stream before the block. -/
abbrev A3 (c : Dev nD) : FVec Ideal S4096x1024 .bf16 := m ((c : Thread nD τ).loc main_arg3)

/-- Every window's block index at every grid point. -/
theorem idx_val : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ t.val < 8 :=
  (by decide +kernel : ∀ t : Fin grid0.N, _)
theorem ltN (t : Fin cfg0.N) : t.val < 8 := (idx_val t).2.2.2.2.2.2

/-- The row of a sub-tile. -/
def row (t : Fin cfg0.N) (s : Fin 2) (r : Fin 256) : Fin 4096 := ⟨512 * t.val + 256 * s.val + r.val, by have := ltN t; omega⟩
/-- The row an array index of a block belongs to. -/
theorem row_eq {t : Fin cfg0.N} {s : Fin 2} {r : Fin 256} {j : Fin 4096} (h : j.val = 512 * t.val + (256 * s.val + r.val)) : row t s r = j :=
  Fin.ext (by show 512 * t.val + 256 * s.val + r.val = j.val; omega)

/-- A load of rows 0 to 255. -/
theorem ldx0 (X : Vec Ideal S512x1024 .bf16) (r : Fin 256) (k : Fin 1024) :
    View.ld (Val := Elt Ideal) (e' := .bf16) X (Rect.unit ![0, 0] ![256, 1024] inb_S512x1024_S256x1024_0_0) (ix2 r k) = X (ix2 ⟨0 + r.val, by omega⟩ k) := by
  pointwise
/-- A load of rows 256 to 511. -/
theorem ldx1 (X : Vec Ideal S512x1024 .bf16) (r : Fin 256) (k : Fin 1024) :
    View.ld (Val := Elt Ideal) (e' := .bf16) X (Rect.unit ![256, 0] ![256, 1024] inb_S512x1024_S256x1024_256_0) (ix2 r k) = X (ix2 ⟨256 + r.val, by omega⟩ k) := by
  pointwise
/-- A load of rows 0 to 255. -/
theorem lda0 (X : Vec Ideal S512x2816 .bf16) (r : Fin 256) (k : Fin 2816) :
    View.ld (Val := Elt Ideal) (e' := .bf16) X (Rect.unit ![0, 0] ![256, 2816] inb_S512x2816_S256x2816_0_0) (ix2 r k) = X (ix2 ⟨0 + r.val, by omega⟩ k) := by
  pointwise
/-- A load of rows 256 to 511. -/
theorem lda1 (X : Vec Ideal S512x2816 .bf16) (r : Fin 256) (k : Fin 2816) :
    View.ld (Val := Elt Ideal) (e' := .bf16) X (Rect.unit ![256, 0] ![256, 2816] inb_S512x2816_S256x2816_256_0) (ix2 r k) = X (ix2 ⟨256 + r.val, by omega⟩ k) := by
  pointwise
/-- A block of 512 rows. -/
theorem rd0 (A : FVec Ideal S4096x2816 .bf16) (t : Fin cfg0.N) (r : Fin 512) (k : Fin 2816) (j : Fin 4096) (hj : j.val = 512 * t.val + r.val) :
    (((cfg0.win 0).blk t).view.read (Elt Ideal) A) (ix2 r k) = A (ix2 j k) := by
  blk_ext [idx_val t]
/-- A block is the whole array. -/
theorem rd1 (A : FVec Ideal S2816x1024 .bf16) (t : Fin cfg0.N) (d : Fin 2816) (e : Fin 1024) :
    (((cfg0.win 1).blk t).view.read (Elt Ideal) A) (ix2 d e) = A (ix2 d e) := by
  blk_ext [idx_val t]
/-- A block is the whole row. -/
theorem rd2 (A : FVec Ideal S1x1024 .f32) (t : Fin cfg0.N) (d : Fin 1024) :
    (((cfg0.win 2).blk t).view.read (Elt Ideal) A) (ix2 0 d) = A (ix2 0 d) := by
  blk_ext [idx_val t]
/-- A block of 512 rows. -/
theorem rd3 (A : FVec Ideal S4096x1024 .bf16) (t : Fin cfg0.N) (r : Fin 512) (k : Fin 1024) (j : Fin 4096) (hj : j.val = 512 * t.val + r.val) :
    (((cfg0.win 3).blk t).view.read (Elt Ideal) A) (ix2 r k) = A (ix2 j k) := by
  blk_ext [idx_val t]
/-- A sub-tile's loads. -/
theorem reads0 (c : Dev nD) (t : Fin cfg0.N) : Reads (A0 m c) (A1 m c) (A2 m c) (A3 m c) (row t 0)
    (View.ld (iblk m c 0 t) (Rect.unit ![0, 0] ![256, 2816] inb_S512x2816_S256x2816_0_0)) (iblk m c 1 t) (iblk m c 2 t)
    (View.ld (iblk m c 3 t) (Rect.unit ![0, 0] ![256, 1024] inb_S512x1024_S256x1024_0_0)) where
  a r d := (lda0 _ r d).trans (rd0 (A0 m c) t ⟨0 + r.val, _⟩ d _ (Nat.add_assoc _ _ _))
  w k d := rd1 (A1 m c) t k d
  g d := rd2 (A2 m c) t d
  x r d := (ldx0 _ r d).trans (rd3 (A3 m c) t ⟨0 + r.val, _⟩ d _ (Nat.add_assoc _ _ _))
/-- A sub-tile's loads. -/
theorem reads1 (c : Dev nD) (t : Fin cfg0.N) : Reads (A0 m c) (A1 m c) (A2 m c) (A3 m c) (row t 1)
    (View.ld (iblk m c 0 t) (Rect.unit ![256, 0] ![256, 2816] inb_S512x2816_S256x2816_256_0)) (iblk m c 1 t) (iblk m c 2 t)
    (View.ld (iblk m c 3 t) (Rect.unit ![256, 0] ![256, 1024] inb_S512x1024_S256x1024_256_0)) where
  a r d := (lda1 _ r d).trans (rd0 (A0 m c) t ⟨256 + r.val, _⟩ d _ (Nat.add_assoc _ _ _))
  w k d := rd1 (A1 m c) t k d
  g d := rd2 (A2 m c) t d
  x r d := (ldx1 _ r d).trans (rd3 (A3 m c) t ⟨256 + r.val, _⟩ d _ (Nat.add_assoc _ _ _))
/-- Loads of whole blocks. -/
theorem ldg (X : Vec Ideal S1x1024 .f32) : View.ld (Val := Elt Ideal) (e' := .f32) X r0_4 = X := View.ld_unit_lit' _ X (by decide)
theorem ldw (X : Vec Ideal S2816x1024 .bf16) : View.ld (Val := Elt Ideal) (e' := .bf16) X r0_1 = X := View.ld_unit_lit' _ X (by decide)

/-- What a grid point leaves in window 4 is its block. -/
theorem point4 (c : Dev nD) (t : Fin cfg0.N) (y : S512x1024.Idx) (i : S4096x1024.Idx) (hi0 : (i 0 : ℕ) = 512 * t.val + (y 0 : ℕ))
    (hi1 : (i 1 : ℕ) = (y 1 : ℕ)) : out0_4 (F := Ideal) (iblk m c 0 t) (iblk m c 1 t) (iblk m c 2 t) (iblk m c 3 t) y = h (A0 m c) (A1 m c) (A2 m c) (A3 m c) (i 0) (i 1) := by
  frame_out
  canon_tiles x h
  all_goals idx_vars x
  all_goals try simp only [k0_pay10, ldg, ldw]
  · exact (h1_at _ _ _ _ _ _ _ _ _ (reads1 m c t) x0 x1).trans (congrArg₂ _ (row_eq (by simp; omega)) (Fin.ext (by omega)))
  · exact (h0_at _ _ _ _ _ _ _ _ _ (reads0 m c t) x0 x1).trans (congrArg₂ _ (row_eq (by simp; omega)) (Fin.ext (by omega)))
/-- The array of window 4 after the run. -/
theorem final4 (c : Dev nD) : (dats m 0 c).arrAt 4 (cfgs 0).N = fun i => h (A0 m c) (A1 m c) (A2 m c) (A3 m c) (i 0) (i 1) := by
  refine (dats m 0 c).arrAt_eq_of_covers 4 _ (by decide +kernel) fun t hf y => ?_
  blk_simp; rw [after0_4]
  refine point4 m c t y _ ?_ ?_ <;> blk_simp [idx_val t] <;> try omega

/-- What a grid point leaves in window 5 is its block. -/
theorem point5 (c : Dev nD) (t : Fin cfg0.N) (y : S512x1024.Idx) (i : S4096x1024.Idx) (hi0 : (i 0 : ℕ) = 512 * t.val + (y 0 : ℕ))
    (hi1 : (i 1 : ℕ) = (y 1 : ℕ)) : out0_5 (F := Ideal) (iblk m c 0 t) (iblk m c 1 t) (iblk m c 2 t) (iblk m c 3 t) y = z (A0 m c) (A1 m c) (i 0) (i 1) := by
  frame_out
  canon_tiles x h
  all_goals idx_vars x
  all_goals try simp only [k0_pay10, ldg, ldw]
  · exact (sz1_at _ _ _ _ _ _ _ _ _ (reads1 m c t) x0 x1).trans (congrArg₂ _ (row_eq (by simp; omega)) (Fin.ext (by omega)))
  · exact (sz0_at _ _ _ _ _ _ _ _ _ (reads0 m c t) x0 x1).trans (congrArg₂ _ (row_eq (by simp; omega)) (Fin.ext (by omega)))
/-- The array of window 5 after the run. -/
theorem final5 (c : Dev nD) : (dats m 0 c).arrAt 5 (cfgs 0).N = fun i => z (A0 m c) (A1 m c) (i 0) (i 1) := by
  refine (dats m 0 c).arrAt_eq_of_covers 5 _ (by decide +kernel) fun t hf y => ?_
  blk_simp; rw [after0_5]
  refine point5 m c t y _ ?_ ?_ <;> blk_simp [idx_val t] <;> try omega

end Cert.Kernel11Ideal.MixBlock

end

end
-- ==== Proof.MixClaim.lean ====
/- The claims about the down projection and the norm after it. -/
module

public import proofs.«01_k».proof.Defs
public import proofs.«01_k».proof.Proof.Gen.Kernel11.Frame
public import proofs.«01_k».proof.Proof.Gen.Reference11Ideal.Run
public import proofs.«01_k».proof.Proof.MixBlock

set_option maxRecDepth 16384

@[expose] public section

noncomputable section

open Idealize.ShloMosaic Idealize.SL.Sem

namespace Cert.Proof

set_option maxHeartbeats 2000000 in
/-- The kernel's arrays are the reference's. -/
theorem value_Mix : Cert.algebraic_Kernel11Ideal_Reference11Ideal := fun m ρ m' ρ' _ hag =>
  ⟨fun c i => Cert.Kernel11Ideal.MixBlock.h (Cert.Kernel11Ideal.MixBlock.A0 m c) (Cert.Kernel11Ideal.MixBlock.A1 m c) (Cert.Kernel11Ideal.MixBlock.A2 m c) (Cert.Kernel11Ideal.MixBlock.A3 m c) (i 0) (i 1),
    fun c i => Cert.Kernel11Ideal.MixBlock.z (Cert.Kernel11Ideal.MixBlock.A0 m c) (Cert.Kernel11Ideal.MixBlock.A1 m c) (i 0) (i 1),
    (θ_run _ _ _).mono (fun _ h c => ⟨(h c).1.trans (Cert.Kernel11Ideal.MixBlock.final4 m c),
      (h c).2.1.trans (Cert.Kernel11Ideal.MixBlock.final5 m c),
      (h c).2.2⟩) (Cert.Kernel11Ideal.Value.run_blocks m ρ),
    (θ_run _ _ _).mono (fun _ h c => ⟨by
        refine (h c).1.trans ((Cert.Reference11Ideal.Read.val_main_v17_eq ..).trans ?_)
        show Cert.Reference11Ideal.Read.val_main_v17 (F := Ideal) (m' ((c.tc : Thread _ _).loc Cert.Reference11Ideal.main_arg0)) (m' ((c.tc : Thread _ _).loc Cert.Reference11Ideal.main_arg1)) (m' ((c.tc : Thread _ _).loc Cert.Reference11Ideal.main_arg2)) (m' ((c.tc : Thread _ _).loc Cert.Reference11Ideal.main_arg3)) = _
        rw [(hag c).1, (hag c).2.1, (hag c).2.2.1, (hag c).2.2.2]
        funext i
        idx_vars i
        exact Cert.Kernel11Ideal.MixBlock.ref0 _ _ _ _ i0 i1,
      by
        refine (h c).2.1.trans ((Cert.Reference11Ideal.Read.val_main_v18_eq ..).trans ?_)
        show Cert.Reference11Ideal.Read.val_main_v18 (F := Ideal) (m' ((c.tc : Thread _ _).loc Cert.Reference11Ideal.main_arg0)) (m' ((c.tc : Thread _ _).loc Cert.Reference11Ideal.main_arg1)) = _
        rw [(hag c).1, (hag c).2.1]
        funext i
        idx_vars i
        exact Cert.Kernel11Ideal.MixBlock.ref1 _ _ i0 i1,
      (h c).2.2⟩) (Cert.Reference11Ideal.Value.run m' ρ')⟩

/-- The reference runs and leaves its arguments. -/
theorem frame_MixRef : Cert.quiescent_Reference11Ideal := fun m ρ _ =>
  (θ_run Cert.Reference11Ideal.defs _ _).mono (fun r h => ⟨fun c => (h c).2.2,
      sem_eq_zero_of_no_sems (by decide) r.2⟩)
    (Cert.Reference11Ideal.Value.run m ρ)

end Cert.Proof

end

end
-- ==== Proof.ProjBlock.lean ====
/- The two norms and projections before the attention: the arrays the kernel leaves and the reference's results, read at an index. -/
module

public import proofs.«01_k».proof.Proof.Gen.Kernel12Ideal.Value
public import proofs.«01_k».proof.Proof.Gen.Reference12Ideal.Read
public import proofs.«01_k».proof.Proof.NormSpec

set_option maxRecDepth 16384

@[expose] public section

noncomputable section

open Idealize.ShloMosaic Idealize.ShloMosaic.TcCoe Idealize.SL.Sem
open Idealize.ShloMosaic.Pipeline (Dat)

namespace Cert.Kernel12Ideal.ProjBlock

open Cert.Kernel12Ideal Cert.Kernel12Ideal.Gen
open Cert.Reference12Ideal.Read
open Finite

/-- The normed input. -/
def xn (x0 : FVec Ideal S4096x1024 .bf16) (g : FVec Ideal S1x1024 .f32) (t : Fin 4096) (d : Fin 1024) : EReal :=
  normE (fun k => x0 (ix2 t k)) (fun k => g (ix2 0 k)) d
/-- A projection of the normed input. -/
def proj {n : ℕ} (x0 : FVec Ideal S4096x1024 .bf16) (g : FVec Ideal S1x1024 .f32) (w : FVec Ideal ⟨2, ![1024, n]⟩ .bf16) (t : Fin 4096) (j : Fin n) : EReal :=
  ∑ d, xn x0 g t d * w (ix2 d j)

section
variable (x0 : FVec Ideal S4096x1024 .bf16) (x1 x2 : FVec Ideal S1x1024 .f32) (x3 : FVec Ideal S1024x512 .bf16) (x4 : FVec Ideal S1024x1024 .bf16)
/-- The reference's norm before the keys and values. -/
theorem ref_xkv (t : Fin 4096) (d : Fin 1024) : val_main_v12 (F := Ideal) x0 x1 (ix2 t d) = xn x0 x1 t d := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl
/-- The reference's norm before the queries. -/
theorem ref_xq (t : Fin 4096) (d : Fin 1024) : val_main_v25 (F := Ideal) x0 x2 (ix2 t d) = xn x0 x2 t d := by
  pointwise [val_main_v25, val_main_v24, val_main_v23, val_main_v22, val_main_v21, val_main_v20, val_main_v19, val_main_v18, val_main_v17, val_main_v16, val_main_v15, val_main_v14, val_main_v13, val_main_cst_2, val_main_cst_3, val_main_cst_4]
  rfl
/-- The reference's four results. -/
theorem ref0 (t : Fin 4096) (j : Fin 512) : val_main_v28 (F := Ideal) x0 x1 x3 (ix2 t j) = proj x0 x1 x3 t j := by
  pointwise [val_main_v28, val_main_v27, val_main_v26]
  exact Finset.sum_congr rfl fun d _ => congrArg (· * _) (ref_xkv x0 x1 t d)
theorem ref1 (t : Fin 4096) (d : Fin 1024) : val_main_v29 (F := Ideal) x0 x1 (ix2 t d) = xn x0 x1 t d := by
  pointwise [val_main_v29]
  exact ref_xkv x0 x1 t d
theorem ref2 (t : Fin 4096) (j : Fin 1024) : val_main_v32 (F := Ideal) x0 x2 x4 (ix2 t j) = proj x0 x2 x4 t j := by
  pointwise [val_main_v32, val_main_v31, val_main_v30]
  exact Finset.sum_congr rfl fun d _ => congrArg (· * _) (ref_xq x0 x2 t d)
theorem ref3 (t : Fin 4096) (d : Fin 1024) : val_main_v33 (F := Ideal) x0 x2 (ix2 t d) = xn x0 x2 t d := by
  pointwise [val_main_v33]
  exact ref_xq x0 x2 t d
end

section
variable (A0 : FVec Ideal S4096x1024 .bf16) (G : FVec Ideal S1x1024 .f32) (row : Fin 256 → Fin 4096)
  (x : Vec Ideal S256x1024 .bf16) (g : Vec Ideal S1x1024 .f32) (hx : ∀ r d, x (ix2 r d) = A0 (ix2 (row r) d)) (hg : ∀ d, g (ix2 0 d) = G (ix2 0 d))
include hx hg
/-- The normed rows. -/
theorem xkv0 (r : Fin 256) (d : Fin 1024) : k0_pay12 (F := Ideal) (k0_pay6 x) g (ix2 r d) = xn A0 G (row r) d := by
  refine (show _ = normE (fun k => x (ix2 r k)) (fun k => g (ix2 0 k)) d from ?_).trans ?_
  · pointwise [k0_pay12, k0_pay6]
    rfl
  · simp only [hx, hg]
    rfl
/-- The projected rows. -/
theorem pkv0 (W : FVec Ideal S1024x512 .bf16) (w : Vec Ideal S1024x512 .bf16) (hw : ∀ d j, w (ix2 d j) = W (ix2 d j)) (r : Fin 256) (j : Fin 512) :
    k0_pay13 (F := Ideal) (k0_pay6 x) g w (ix2 r j) = proj A0 G W (row r) j := by
  pointwise [k0_pay13]
  exact Finset.sum_congr rfl fun d _ => congrArg₂ (· * ·) (xkv0 A0 G row x g hx hg r d) (hw d j)
/-- The normed rows. -/
theorem xkv1 (r : Fin 256) (d : Fin 1024) : k0_pay14 (F := Ideal) (k0_pay7 x) g (ix2 r d) = xn A0 G (row r) d := by
  refine (show _ = normE (fun k => x (ix2 r k)) (fun k => g (ix2 0 k)) d from ?_).trans ?_
  · pointwise [k0_pay14, k0_pay7]
    rfl
  · simp only [hx, hg]
    rfl
/-- The projected rows. -/
theorem pkv1 (W : FVec Ideal S1024x512 .bf16) (w : Vec Ideal S1024x512 .bf16) (hw : ∀ d j, w (ix2 d j) = W (ix2 d j)) (r : Fin 256) (j : Fin 512) :
    k0_pay15 (F := Ideal) (k0_pay7 x) g w (ix2 r j) = proj A0 G W (row r) j := by
  pointwise [k0_pay15]
  exact Finset.sum_congr rfl fun d _ => congrArg₂ (· * ·) (xkv1 A0 G row x g hx hg r d) (hw d j)
/-- The normed rows. -/
theorem xkv2 (r : Fin 256) (d : Fin 1024) : k0_pay16 (F := Ideal) (k0_pay8 x) g (ix2 r d) = xn A0 G (row r) d := by
  refine (show _ = normE (fun k => x (ix2 r k)) (fun k => g (ix2 0 k)) d from ?_).trans ?_
  · pointwise [k0_pay16, k0_pay8]
    rfl
  · simp only [hx, hg]
    rfl
/-- The projected rows. -/
theorem pkv2 (W : FVec Ideal S1024x512 .bf16) (w : Vec Ideal S1024x512 .bf16) (hw : ∀ d j, w (ix2 d j) = W (ix2 d j)) (r : Fin 256) (j : Fin 512) :
    k0_pay17 (F := Ideal) (k0_pay16 (k0_pay8 x) g) w (ix2 r j) = proj A0 G W (row r) j := by
  pointwise [k0_pay17]
  exact Finset.sum_congr rfl fun d _ => congrArg₂ (· * ·) (xkv2 A0 G row x g hx hg r d) (hw d j)
/-- The normed rows. -/
theorem xkv3 (r : Fin 256) (d : Fin 1024) : k0_pay18 (F := Ideal) (k0_pay11 (k0_pay9 x) (k0_pay10 x)) g (ix2 r d) = xn A0 G (row r) d := by
  refine (show _ = normE (fun k => x (ix2 r k)) (fun k => g (ix2 0 k)) d from ?_).trans ?_
  · pointwise [k0_pay18, k0_pay11, k0_pay9, k0_pay10]
    rfl
  · simp only [hx, hg]
    rfl
/-- The projected rows. -/
theorem pkv3 (W : FVec Ideal S1024x512 .bf16) (w : Vec Ideal S1024x512 .bf16) (hw : ∀ d j, w (ix2 d j) = W (ix2 d j)) (r : Fin 256) (j : Fin 512) :
    k0_pay19 (F := Ideal) (k0_pay11 (k0_pay9 x) (k0_pay10 x)) g w (ix2 r j) = proj A0 G W (row r) j := by
  pointwise [k0_pay19]
  exact Finset.sum_congr rfl fun d _ => congrArg₂ (· * ·) (xkv3 A0 G row x g hx hg r d) (hw d j)
/-- The normed rows. -/
theorem xq0 (r : Fin 256) (d : Fin 1024) : k0_pay20 (F := Ideal) (k0_pay6 x) g (ix2 r d) = xn A0 G (row r) d := by
  refine (show _ = normE (fun k => x (ix2 r k)) (fun k => g (ix2 0 k)) d from ?_).trans ?_
  · pointwise [k0_pay20, k0_pay6]
    rfl
  · simp only [hx, hg]
    rfl
/-- The projected rows. -/
theorem pq0 (W : FVec Ideal S1024x1024 .bf16) (w : Vec Ideal S1024x1024 .bf16) (hw : ∀ d j, w (ix2 d j) = W (ix2 d j)) (r : Fin 256) (j : Fin 1024) :
    k0_pay21 (F := Ideal) (k0_pay6 x) g w (ix2 r j) = proj A0 G W (row r) j := by
  pointwise [k0_pay21]
  exact Finset.sum_congr rfl fun d _ => congrArg₂ (· * ·) (xq0 A0 G row x g hx hg r d) (hw d j)
/-- The normed rows. -/
theorem xq1 (r : Fin 256) (d : Fin 1024) : k0_pay22 (F := Ideal) (k0_pay7 x) g (ix2 r d) = xn A0 G (row r) d := by
  refine (show _ = normE (fun k => x (ix2 r k)) (fun k => g (ix2 0 k)) d from ?_).trans ?_
  · pointwise [k0_pay22, k0_pay7]
    rfl
  · simp only [hx, hg]
    rfl
/-- The projected rows. -/
theorem pq1 (W : FVec Ideal S1024x1024 .bf16) (w : Vec Ideal S1024x1024 .bf16) (hw : ∀ d j, w (ix2 d j) = W (ix2 d j)) (r : Fin 256) (j : Fin 1024) :
    k0_pay1 (F := Ideal) (k0_pay22 (k0_pay7 x) g) w (ix2 r j) = proj A0 G W (row r) j := by
  pointwise [k0_pay1]
  exact Finset.sum_congr rfl fun d _ => congrArg₂ (· * ·) (xq1 A0 G row x g hx hg r d) (hw d j)
/-- The normed rows. -/
theorem xq2 (r : Fin 256) (d : Fin 1024) : k0_pay2 (F := Ideal) (k0_pay8 x) g (ix2 r d) = xn A0 G (row r) d := by
  refine (show _ = normE (fun k => x (ix2 r k)) (fun k => g (ix2 0 k)) d from ?_).trans ?_
  · pointwise [k0_pay2, k0_pay8]
    rfl
  · simp only [hx, hg]
    rfl
/-- The projected rows. -/
theorem pq2 (W : FVec Ideal S1024x1024 .bf16) (w : Vec Ideal S1024x1024 .bf16) (hw : ∀ d j, w (ix2 d j) = W (ix2 d j)) (r : Fin 256) (j : Fin 1024) :
    k0_pay3 (F := Ideal) (k0_pay8 x) g w (ix2 r j) = proj A0 G W (row r) j := by
  pointwise [k0_pay3]
  exact Finset.sum_congr rfl fun d _ => congrArg₂ (· * ·) (xq2 A0 G row x g hx hg r d) (hw d j)
/-- The normed rows. -/
theorem xq3 (r : Fin 256) (d : Fin 1024) : k0_pay4 (F := Ideal) (k0_pay11 (k0_pay9 x) (k0_pay10 x)) g (ix2 r d) = xn A0 G (row r) d := by
  refine (show _ = normE (fun k => x (ix2 r k)) (fun k => g (ix2 0 k)) d from ?_).trans ?_
  · pointwise [k0_pay4, k0_pay11, k0_pay9, k0_pay10]
    rfl
  · simp only [hx, hg]
    rfl
/-- The projected rows. -/
theorem pq3 (W : FVec Ideal S1024x1024 .bf16) (w : Vec Ideal S1024x1024 .bf16) (hw : ∀ d j, w (ix2 d j) = W (ix2 d j)) (r : Fin 256) (j : Fin 1024) :
    k0_pay5 (F := Ideal) (k0_pay11 (k0_pay9 x) (k0_pay10 x)) g w (ix2 r j) = proj A0 G W (row r) j := by
  pointwise [k0_pay5]
  exact Finset.sum_congr rfl fun d _ => congrArg₂ (· * ·) (xq3 A0 G row x g hx hg r d) (hw d j)
end

variable (m : (ℓ : Loc nD τ sig) → Buf (Elt Ideal) ℓ)
/-- The stream. -/
abbrev A0 (c : Dev nD) : FVec Ideal S4096x1024 .bf16 := m ((c : Thread nD τ).loc main_arg0)
/-- The gain before the keys and values. -/
abbrev A1 (c : Dev nD) : FVec Ideal S1x1024 .f32 := m ((c : Thread nD τ).loc main_arg1)
/-- The gain before the queries. -/
abbrev A2 (c : Dev nD) : FVec Ideal S1x1024 .f32 := m ((c : Thread nD τ).loc main_arg2)
/-- The key and value weight. -/
abbrev A3 (c : Dev nD) : FVec Ideal S1024x512 .bf16 := m ((c : Thread nD τ).loc main_arg3)
/-- The query weight. -/
abbrev A4 (c : Dev nD) : FVec Ideal S1024x1024 .bf16 := m ((c : Thread nD τ).loc main_arg4)

/-- Every window's block index at every grid point. -/
theorem idx_val : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ t.val < 4 :=
  (by decide +kernel : ∀ t : Fin grid0.N, _)
theorem ltN (t : Fin cfg0.N) : t.val < 4 := (idx_val t).2.2.2.2.2.2.2.2.2

/-- The row of a sub-tile. -/
def row (t : Fin cfg0.N) (s : Fin 4) (r : Fin 256) : Fin 4096 := ⟨1024 * t.val + 256 * s.val + r.val, by have := ltN t; omega⟩
/-- The row an array index of a block belongs to. -/
theorem row_eq {t : Fin cfg0.N} {s : Fin 4} {r : Fin 256} {j : Fin 4096} (h : j.val = 1024 * t.val + (256 * s.val + r.val)) : row t s r = j :=
  Fin.ext (by show 1024 * t.val + 256 * s.val + r.val = j.val; omega)

/-- A load of rows 0 to 255. -/
theorem ldx0 (X : Vec Ideal S1024x1024 .bf16) (r : Fin 256) (k : Fin 1024) :
    View.ld (Val := Elt Ideal) (e' := .bf16) X (Rect.unit ![0, 0] ![256, 1024] inb_S1024x1024_S256x1024_0_0) (ix2 r k) = X (ix2 ⟨0 + r.val, by omega⟩ k) := by
  pointwise
/-- A load of rows 256 to 511. -/
theorem ldx1 (X : Vec Ideal S1024x1024 .bf16) (r : Fin 256) (k : Fin 1024) :
    View.ld (Val := Elt Ideal) (e' := .bf16) X (Rect.unit ![256, 0] ![256, 1024] inb_S1024x1024_S256x1024_256_0) (ix2 r k) = X (ix2 ⟨256 + r.val, by omega⟩ k) := by
  pointwise
/-- A load of rows 512 to 767. -/
theorem ldx2 (X : Vec Ideal S1024x1024 .bf16) (r : Fin 256) (k : Fin 1024) :
    View.ld (Val := Elt Ideal) (e' := .bf16) X (Rect.unit ![512, 0] ![256, 1024] inb_S1024x1024_S256x1024_512_0) (ix2 r k) = X (ix2 ⟨512 + r.val, by omega⟩ k) := by
  pointwise
/-- A load of rows 768 to 1023. -/
theorem ldx3 (X : Vec Ideal S1024x1024 .bf16) (r : Fin 256) (k : Fin 1024) :
    View.ld (Val := Elt Ideal) (e' := .bf16) X (Rect.unit ![768, 0] ![256, 1024] inb_S1024x1024_S256x1024_768_0) (ix2 r k) = X (ix2 ⟨768 + r.val, by omega⟩ k) := by
  pointwise
/-- A block of 1024 rows. -/
theorem rd0 (A : FVec Ideal S4096x1024 .bf16) (t : Fin cfg0.N) (r : Fin 1024) (k : Fin 1024) (j : Fin 4096) (hj : j.val = 1024 * t.val + r.val) :
    (((cfg0.win 0).blk t).view.read (Elt Ideal) A) (ix2 r k) = A (ix2 j k) := by
  blk_ext [idx_val t]
/-- A block is the whole row. -/
theorem rd1 (A : FVec Ideal S1x1024 .f32) (t : Fin cfg0.N) (d : Fin 1024) :
    (((cfg0.win 1).blk t).view.read (Elt Ideal) A) (ix2 0 d) = A (ix2 0 d) := by
  blk_ext [idx_val t]
/-- A block is the whole row. -/
theorem rd2 (A : FVec Ideal S1x1024 .f32) (t : Fin cfg0.N) (d : Fin 1024) :
    (((cfg0.win 2).blk t).view.read (Elt Ideal) A) (ix2 0 d) = A (ix2 0 d) := by
  blk_ext [idx_val t]
/-- A block is the whole array. -/
theorem rd3 (A : FVec Ideal S1024x512 .bf16) (t : Fin cfg0.N) (d : Fin 1024) (e : Fin 512) :
    (((cfg0.win 3).blk t).view.read (Elt Ideal) A) (ix2 d e) = A (ix2 d e) := by
  blk_ext [idx_val t]
/-- A block is the whole array. -/
theorem rd4 (A : FVec Ideal S1024x1024 .bf16) (t : Fin cfg0.N) (d : Fin 1024) (e : Fin 1024) :
    (((cfg0.win 4).blk t).view.read (Elt Ideal) A) (ix2 d e) = A (ix2 d e) := by
  blk_ext [idx_val t]
/-- A sub-tile's rows of the stream. -/
theorem hx0 (c : Dev nD) (t : Fin cfg0.N) (r : Fin 256) (d : Fin 1024) :
    View.ld (Val := Elt Ideal) (e' := .bf16) (iblk m c 0 t) (Rect.unit ![0, 0] ![256, 1024] inb_S1024x1024_S256x1024_0_0) (ix2 r d) = A0 m c (ix2 (row t 0 r) d) :=
  (ldx0 _ r d).trans (rd0 (A0 m c) t ⟨0 + r.val, _⟩ d _ (Nat.add_assoc _ _ _))
/-- A sub-tile's rows of the stream. -/
theorem hx1 (c : Dev nD) (t : Fin cfg0.N) (r : Fin 256) (d : Fin 1024) :
    View.ld (Val := Elt Ideal) (e' := .bf16) (iblk m c 0 t) (Rect.unit ![256, 0] ![256, 1024] inb_S1024x1024_S256x1024_256_0) (ix2 r d) = A0 m c (ix2 (row t 1 r) d) :=
  (ldx1 _ r d).trans (rd0 (A0 m c) t ⟨256 + r.val, _⟩ d _ (Nat.add_assoc _ _ _))
/-- A sub-tile's rows of the stream. -/
theorem hx2 (c : Dev nD) (t : Fin cfg0.N) (r : Fin 256) (d : Fin 1024) :
    View.ld (Val := Elt Ideal) (e' := .bf16) (iblk m c 0 t) (Rect.unit ![512, 0] ![256, 1024] inb_S1024x1024_S256x1024_512_0) (ix2 r d) = A0 m c (ix2 (row t 2 r) d) :=
  (ldx2 _ r d).trans (rd0 (A0 m c) t ⟨512 + r.val, _⟩ d _ (Nat.add_assoc _ _ _))
/-- A sub-tile's rows of the stream. -/
theorem hx3 (c : Dev nD) (t : Fin cfg0.N) (r : Fin 256) (d : Fin 1024) :
    View.ld (Val := Elt Ideal) (e' := .bf16) (iblk m c 0 t) (Rect.unit ![768, 0] ![256, 1024] inb_S1024x1024_S256x1024_768_0) (ix2 r d) = A0 m c (ix2 (row t 3 r) d) :=
  (ldx3 _ r d).trans (rd0 (A0 m c) t ⟨768 + r.val, _⟩ d _ (Nat.add_assoc _ _ _))
/-- Loads of whole blocks. -/
theorem ldg (X : Vec Ideal S1x1024 .f32) : View.ld (Val := Elt Ideal) (e' := .f32) X r0_4 = X := View.ld_unit_lit' _ X (by decide)
theorem ldk (X : Vec Ideal S1024x512 .bf16) : View.ld (Val := Elt Ideal) (e' := .bf16) X r0_5 = X := View.ld_unit_lit' _ X (by decide)
theorem ldq (X : Vec Ideal S1024x1024 .bf16) : View.ld (Val := Elt Ideal) (e' := .bf16) X r0_10 = X := View.ld_unit_lit' _ X (by decide)

/-- What a grid point leaves in window 5 is its block. -/
theorem point5 (c : Dev nD) (t : Fin cfg0.N) (y : S1024x512.Idx) (i : S4096x512.Idx) (hi0 : (i 0 : ℕ) = 1024 * t.val + (y 0 : ℕ))
    (hi1 : (i 1 : ℕ) = (y 1 : ℕ)) : out0_5 (F := Ideal) (iblk m c 0 t) (iblk m c 1 t) (iblk m c 2 t) (iblk m c 3 t) (iblk m c 4 t) y = proj (A0 m c) (A1 m c) (A3 m c) (i 0) (i 1) := by
  frame_out
  canon_tiles x h
  all_goals idx_vars x
  all_goals try simp only [k0_pay23, k0_pay24, k0_pay25, k0_pay26, ldg, ldk, ldq]
  · exact (pkv3 (A0 m c) (A1 m c) (row t 3) _ _ (hx3 m c t) (rd1 (A1 m c) t) (A3 m c) _ (rd3 (A3 m c) t) x0 x1).trans (congrArg₂ _ (row_eq (by simp; omega)) (Fin.ext (by omega)))
  · exact (pkv2 (A0 m c) (A1 m c) (row t 2) _ _ (hx2 m c t) (rd1 (A1 m c) t) (A3 m c) _ (rd3 (A3 m c) t) x0 x1).trans (congrArg₂ _ (row_eq (by simp; omega)) (Fin.ext (by omega)))
  · exact (pkv1 (A0 m c) (A1 m c) (row t 1) _ _ (hx1 m c t) (rd1 (A1 m c) t) (A3 m c) _ (rd3 (A3 m c) t) x0 x1).trans (congrArg₂ _ (row_eq (by simp; omega)) (Fin.ext (by omega)))
  · exact (pkv0 (A0 m c) (A1 m c) (row t 0) _ _ (hx0 m c t) (rd1 (A1 m c) t) (A3 m c) _ (rd3 (A3 m c) t) x0 x1).trans (congrArg₂ _ (row_eq (by simp; omega)) (Fin.ext (by omega)))
/-- The array of window 5 after the run. -/
theorem final5 (c : Dev nD) : (dats m 0 c).arrAt 5 (cfgs 0).N = fun i => proj (A0 m c) (A1 m c) (A3 m c) (i 0) (i 1) := by
  refine (dats m 0 c).arrAt_eq_of_covers 5 _ (by decide +kernel) fun t hf y => ?_
  blk_simp; rw [after0_5]
  refine point5 m c t y _ ?_ ?_ <;> blk_simp [idx_val t] <;> try omega

/-- What a grid point leaves in window 6 is its block. -/
theorem point6 (c : Dev nD) (t : Fin cfg0.N) (y : S1024x1024.Idx) (i : S4096x1024.Idx) (hi0 : (i 0 : ℕ) = 1024 * t.val + (y 0 : ℕ))
    (hi1 : (i 1 : ℕ) = (y 1 : ℕ)) : out0_6 (F := Ideal) (iblk m c 0 t) (iblk m c 1 t) (iblk m c 2 t) (iblk m c 3 t) (iblk m c 4 t) y = xn (A0 m c) (A1 m c) (i 0) (i 1) := by
  frame_out
  canon_tiles x h
  all_goals idx_vars x
  all_goals try simp only [k0_pay23, k0_pay24, k0_pay25, k0_pay26, ldg, ldk, ldq]
  · exact (xkv3 (A0 m c) (A1 m c) (row t 3) _ _ (hx3 m c t) (rd1 (A1 m c) t) x0 x1).trans (congrArg₂ _ (row_eq (by simp; omega)) (Fin.ext (by omega)))
  · exact (xkv2 (A0 m c) (A1 m c) (row t 2) _ _ (hx2 m c t) (rd1 (A1 m c) t) x0 x1).trans (congrArg₂ _ (row_eq (by simp; omega)) (Fin.ext (by omega)))
  · exact (xkv1 (A0 m c) (A1 m c) (row t 1) _ _ (hx1 m c t) (rd1 (A1 m c) t) x0 x1).trans (congrArg₂ _ (row_eq (by simp; omega)) (Fin.ext (by omega)))
  · exact (xkv0 (A0 m c) (A1 m c) (row t 0) _ _ (hx0 m c t) (rd1 (A1 m c) t) x0 x1).trans (congrArg₂ _ (row_eq (by simp; omega)) (Fin.ext (by omega)))
/-- The array of window 6 after the run. -/
theorem final6 (c : Dev nD) : (dats m 0 c).arrAt 6 (cfgs 0).N = fun i => xn (A0 m c) (A1 m c) (i 0) (i 1) := by
  refine (dats m 0 c).arrAt_eq_of_covers 6 _ (by decide +kernel) fun t hf y => ?_
  blk_simp; rw [after0_6]
  refine point6 m c t y _ ?_ ?_ <;> blk_simp [idx_val t] <;> try omega

/-- What a grid point leaves in window 7 is its block. -/
theorem point7 (c : Dev nD) (t : Fin cfg0.N) (y : S1024x1024.Idx) (i : S4096x1024.Idx) (hi0 : (i 0 : ℕ) = 1024 * t.val + (y 0 : ℕ))
    (hi1 : (i 1 : ℕ) = (y 1 : ℕ)) : out0_7 (F := Ideal) (iblk m c 0 t) (iblk m c 1 t) (iblk m c 2 t) (iblk m c 3 t) (iblk m c 4 t) y = proj (A0 m c) (A2 m c) (A4 m c) (i 0) (i 1) := by
  frame_out
  canon_tiles x h
  all_goals idx_vars x
  all_goals try simp only [k0_pay23, k0_pay24, k0_pay25, k0_pay26, ldg, ldk, ldq]
  · exact (pq3 (A0 m c) (A2 m c) (row t 3) _ _ (hx3 m c t) (rd2 (A2 m c) t) (A4 m c) _ (rd4 (A4 m c) t) x0 x1).trans (congrArg₂ _ (row_eq (by simp; omega)) (Fin.ext (by omega)))
  · exact (pq2 (A0 m c) (A2 m c) (row t 2) _ _ (hx2 m c t) (rd2 (A2 m c) t) (A4 m c) _ (rd4 (A4 m c) t) x0 x1).trans (congrArg₂ _ (row_eq (by simp; omega)) (Fin.ext (by omega)))
  · exact (pq1 (A0 m c) (A2 m c) (row t 1) _ _ (hx1 m c t) (rd2 (A2 m c) t) (A4 m c) _ (rd4 (A4 m c) t) x0 x1).trans (congrArg₂ _ (row_eq (by simp; omega)) (Fin.ext (by omega)))
  · exact (pq0 (A0 m c) (A2 m c) (row t 0) _ _ (hx0 m c t) (rd2 (A2 m c) t) (A4 m c) _ (rd4 (A4 m c) t) x0 x1).trans (congrArg₂ _ (row_eq (by simp; omega)) (Fin.ext (by omega)))
/-- The array of window 7 after the run. -/
theorem final7 (c : Dev nD) : (dats m 0 c).arrAt 7 (cfgs 0).N = fun i => proj (A0 m c) (A2 m c) (A4 m c) (i 0) (i 1) := by
  refine (dats m 0 c).arrAt_eq_of_covers 7 _ (by decide +kernel) fun t hf y => ?_
  blk_simp; rw [after0_7]
  refine point7 m c t y _ ?_ ?_ <;> blk_simp [idx_val t] <;> try omega

/-- What a grid point leaves in window 8 is its block. -/
theorem point8 (c : Dev nD) (t : Fin cfg0.N) (y : S1024x1024.Idx) (i : S4096x1024.Idx) (hi0 : (i 0 : ℕ) = 1024 * t.val + (y 0 : ℕ))
    (hi1 : (i 1 : ℕ) = (y 1 : ℕ)) : out0_8 (F := Ideal) (iblk m c 0 t) (iblk m c 1 t) (iblk m c 2 t) (iblk m c 3 t) (iblk m c 4 t) y = xn (A0 m c) (A2 m c) (i 0) (i 1) := by
  frame_out
  canon_tiles x h
  all_goals idx_vars x
  all_goals try simp only [k0_pay23, k0_pay24, k0_pay25, k0_pay26, ldg, ldk, ldq]
  · exact (xq3 (A0 m c) (A2 m c) (row t 3) _ _ (hx3 m c t) (rd2 (A2 m c) t) x0 x1).trans (congrArg₂ _ (row_eq (by simp; omega)) (Fin.ext (by omega)))
  · exact (xq2 (A0 m c) (A2 m c) (row t 2) _ _ (hx2 m c t) (rd2 (A2 m c) t) x0 x1).trans (congrArg₂ _ (row_eq (by simp; omega)) (Fin.ext (by omega)))
  · exact (xq1 (A0 m c) (A2 m c) (row t 1) _ _ (hx1 m c t) (rd2 (A2 m c) t) x0 x1).trans (congrArg₂ _ (row_eq (by simp; omega)) (Fin.ext (by omega)))
  · exact (xq0 (A0 m c) (A2 m c) (row t 0) _ _ (hx0 m c t) (rd2 (A2 m c) t) x0 x1).trans (congrArg₂ _ (row_eq (by simp; omega)) (Fin.ext (by omega)))
/-- The array of window 8 after the run. -/
theorem final8 (c : Dev nD) : (dats m 0 c).arrAt 8 (cfgs 0).N = fun i => xn (A0 m c) (A2 m c) (i 0) (i 1) := by
  refine (dats m 0 c).arrAt_eq_of_covers 8 _ (by decide +kernel) fun t hf y => ?_
  blk_simp; rw [after0_8]
  refine point8 m c t y _ ?_ ?_ <;> blk_simp [idx_val t] <;> try omega

end Cert.Kernel12Ideal.ProjBlock

end

end
-- ==== Proof.ProjClaim.lean ====
/- The claims about the norms and projections before the attention. -/
module

public import proofs.«01_k».proof.Defs
public import proofs.«01_k».proof.Proof.Gen.Kernel12.Frame
public import proofs.«01_k».proof.Proof.Gen.Reference12Ideal.Run
public import proofs.«01_k».proof.Proof.ProjBlock

set_option maxRecDepth 16384

@[expose] public section

noncomputable section

open Idealize.ShloMosaic Idealize.SL.Sem

namespace Cert.Proof

set_option maxHeartbeats 2000000 in
/-- The kernel's arrays are the reference's. -/
theorem value_Proj : Cert.algebraic_Kernel12Ideal_Reference12Ideal := fun m ρ m' ρ' _ hag =>
  ⟨fun c i => Cert.Kernel12Ideal.ProjBlock.proj (Cert.Kernel12Ideal.ProjBlock.A0 m c) (Cert.Kernel12Ideal.ProjBlock.A1 m c) (Cert.Kernel12Ideal.ProjBlock.A3 m c) (i 0) (i 1),
    fun c i => Cert.Kernel12Ideal.ProjBlock.xn (Cert.Kernel12Ideal.ProjBlock.A0 m c) (Cert.Kernel12Ideal.ProjBlock.A1 m c) (i 0) (i 1),
    fun c i => Cert.Kernel12Ideal.ProjBlock.proj (Cert.Kernel12Ideal.ProjBlock.A0 m c) (Cert.Kernel12Ideal.ProjBlock.A2 m c) (Cert.Kernel12Ideal.ProjBlock.A4 m c) (i 0) (i 1),
    fun c i => Cert.Kernel12Ideal.ProjBlock.xn (Cert.Kernel12Ideal.ProjBlock.A0 m c) (Cert.Kernel12Ideal.ProjBlock.A2 m c) (i 0) (i 1),
    (θ_run _ _ _).mono (fun _ h c => ⟨(h c).1.trans (Cert.Kernel12Ideal.ProjBlock.final5 m c),
      (h c).2.1.trans (Cert.Kernel12Ideal.ProjBlock.final6 m c),
      (h c).2.2.1.trans (Cert.Kernel12Ideal.ProjBlock.final7 m c),
      (h c).2.2.2.1.trans (Cert.Kernel12Ideal.ProjBlock.final8 m c),
      (h c).2.2.2.2⟩) (Cert.Kernel12Ideal.Value.run_blocks m ρ),
    (θ_run _ _ _).mono (fun _ h c => ⟨by
        refine (h c).1.trans ((Cert.Reference12Ideal.Read.val_main_v28_eq ..).trans ?_)
        show Cert.Reference12Ideal.Read.val_main_v28 (F := Ideal) (m' ((c.tc : Thread _ _).loc Cert.Reference12Ideal.main_arg0)) (m' ((c.tc : Thread _ _).loc Cert.Reference12Ideal.main_arg1)) (m' ((c.tc : Thread _ _).loc Cert.Reference12Ideal.main_arg3)) = _
        rw [(hag c).1, (hag c).2.1, (hag c).2.2.2.1]
        funext i
        idx_vars i
        exact Cert.Kernel12Ideal.ProjBlock.ref0 _ _ _ i0 i1,
      by
        refine (h c).2.1.trans ((Cert.Reference12Ideal.Read.val_main_v29_eq ..).trans ?_)
        show Cert.Reference12Ideal.Read.val_main_v29 (F := Ideal) (m' ((c.tc : Thread _ _).loc Cert.Reference12Ideal.main_arg0)) (m' ((c.tc : Thread _ _).loc Cert.Reference12Ideal.main_arg1)) = _
        rw [(hag c).1, (hag c).2.1]
        funext i
        idx_vars i
        exact Cert.Kernel12Ideal.ProjBlock.ref1 _ _ i0 i1,
      by
        refine (h c).2.2.1.trans ((Cert.Reference12Ideal.Read.val_main_v32_eq ..).trans ?_)
        show Cert.Reference12Ideal.Read.val_main_v32 (F := Ideal) (m' ((c.tc : Thread _ _).loc Cert.Reference12Ideal.main_arg0)) (m' ((c.tc : Thread _ _).loc Cert.Reference12Ideal.main_arg2)) (m' ((c.tc : Thread _ _).loc Cert.Reference12Ideal.main_arg4)) = _
        rw [(hag c).1, (hag c).2.2.1, (hag c).2.2.2.2]
        funext i
        idx_vars i
        exact Cert.Kernel12Ideal.ProjBlock.ref2 _ _ _ i0 i1,
      by
        refine (h c).2.2.2.1.trans ((Cert.Reference12Ideal.Read.val_main_v33_eq ..).trans ?_)
        show Cert.Reference12Ideal.Read.val_main_v33 (F := Ideal) (m' ((c.tc : Thread _ _).loc Cert.Reference12Ideal.main_arg0)) (m' ((c.tc : Thread _ _).loc Cert.Reference12Ideal.main_arg2)) = _
        rw [(hag c).1, (hag c).2.2.1]
        funext i
        idx_vars i
        exact Cert.Kernel12Ideal.ProjBlock.ref3 _ _ i0 i1,
      (h c).2.2.2.2⟩) (Cert.Reference12Ideal.Value.run m' ρ')⟩

/-- The reference runs and leaves its arguments. -/
theorem frame_ProjRef : Cert.quiescent_Reference12Ideal := fun m ρ _ =>
  (θ_run Cert.Reference12Ideal.defs _ _).mono (fun r h => ⟨fun c => (h c).2.2.2.2,
      sem_eq_zero_of_no_sems (by decide) r.2⟩)
    (Cert.Reference12Ideal.Value.run m ρ)

end Cert.Proof

end

end
-- ==== Proof.DwSqBlock.lean ====
/- The gradient of a square weight, block by block and as a whole. -/
module

public import proofs.«01_k».proof.Proof.Gen.Kernel13Ideal.Value
public import proofs.«01_k».proof.Proof.Gen.Reference13Ideal.Read
public import proofs.«01_k».proof.Proof.Finite

set_option maxRecDepth 16384

@[expose] public section

noncomputable section

open Idealize.ShloMosaic Idealize.ShloMosaic.TcCoe Idealize.SL.Sem
open Idealize.ShloMosaic.Pipeline (Dat)

namespace Cert.Kernel13Ideal.DwSqBlock

open Cert.Kernel13Ideal Cert.Kernel13Ideal.Gen
open Cert.Reference13Ideal.Read

variable (m : (ℓ : Loc nD τ sig) → Buf (Elt Ideal) ℓ)

/-- The product's left argument, read by columns. -/
abbrev A0 (c : Dev nD) : FVec Ideal S4096x1024 .bf16 := m ((c : Thread nD τ).loc main_arg0)
/-- The cotangent of the product. -/
abbrev A1 (c : Dev nD) : FVec Ideal S4096x1024 .bf16 := m ((c : Thread nD τ).loc main_arg1)

/-- The second window's array at entry. -/
def DB (c : Dev nD) : FVec Ideal S1x4096x1024 .bf16 := V m c main_v0
theorem DB_eq (c : Dev nD) : DB m c = broadcastInDim S1x4096x1024 ![1, 2] bcast_S4096x1024_S1x4096x1024_1_2 (A1 m c) := by
  unfold DB V
  after_results
  try rfl
/-- It is the cotangent. -/
theorem DB_at (c : Dev nD) (t : Fin 4096) (f : Fin 1024) : DB m c (ix3 0 t f) = A1 m c (ix2 t f) := by
  rw [DB_eq]
  pointwise
  try rfl

/-- The weight's gradient at an index. -/
def dwAt (a : FVec Ideal S4096x1024 .bf16) (b : FVec Ideal S4096x1024 .bf16) (d : Fin 1024) (f : Fin 1024) : EReal := ∑ t, a (ix2 t d) * b (ix2 t f)

/-- Every window's block index at every grid point. -/
theorem idx_val : ∀ t : Fin cfg0.N, win0_0.index t = ![0, t.val] ∧ win0_1.index t = ![0, 0, 0] ∧ win0_2.index t = ![t.val, 0] ∧ t.val < 4 :=
  (by decide +kernel : ∀ t : Fin grid0.N, _)
theorem ltN (t : Fin cfg0.N) : t.val < 4 := (idx_val t).2.2.2

/-- A block of the first window is 256 columns. -/
theorem rd0 (A : FVec Ideal S4096x1024 .bf16) (t : Fin cfg0.N) (k : Fin 4096) (f : Fin 256) (j : Fin 1024) (hj : j.val = 256 * t.val + f.val) :
    ((cfg0.win 0).blk t).view.read (Elt Ideal) A (ix2 k f) = A (ix2 k j) := by
  blk_ext [idx_val t]
/-- A block of the second window. -/
theorem rd1 (A : FVec Ideal S1x4096x1024 .bf16) (t : Fin cfg0.N) (k : Fin 4096) (f : Fin 1024) (j : Fin 1024) (hj : j.val = f.val) :
    ((cfg0.win 1).blk t).view.read (Elt Ideal) A (ix3 0 k f) = A (ix3 0 k j) := by
  blk_ext [idx_val t]

/-- What a grid point leaves is its block of the gradient. -/
theorem point2 (c : Dev nD) (t : Fin cfg0.N) (y : S256x1024.Idx) (i : S1024x1024.Idx) (hi0 : (i 0 : ℕ) = 256 * t.val + (y 0 : ℕ)) (hi1 : (i 1 : ℕ) = (y 1 : ℕ)) :
    out0_2 (F := Ideal) (iblk m c 0 t) (iblk m c 1 t) y = dwAt (A0 m c) (A1 m c) (i 0) (i 1) := by
  have ht := ltN t
  frame_out
  idx_vars y
  pointwise [k0_pay1]
  exact Finset.sum_congr rfl fun k _ => congrArg₂ (· * ·) (rd0 (A0 m c) t k y0 (i 0) hi0) ((rd1 (DB m c) t k y1 (i 1) hi1).trans (DB_at m c k (i 1)))

/-- The weight's gradient after the run. -/
theorem final2 (c : Dev nD) : (dats m 0 c).arrAt 2 (cfgs 0).N = fun i => dwAt (A0 m c) (A1 m c) (i 0) (i 1) := by
  refine (dats m 0 c).arrAt_eq_of_covers 2 _ (by decide +kernel) fun t hf y => ?_
  blk_simp; rw [after0_2]
  refine point2 m c t y _ ?_ ?_ <;> blk_simp [idx_val t] <;> try omega

/-- The reference's result at an index. -/
theorem ref_at (a : FVec Ideal S4096x1024 .bf16) (b : FVec Ideal S4096x1024 .bf16) (d : Fin 1024) (f : Fin 1024) :
    val_main_v6 (F := Ideal) a b (ix2 d f) = dwAt a b d f := by
  unfold dwAt
  pointwise [val_main_v6, val_main_v5, val_main_v4, val_main_v3, val_main_v1]
  exact Finset.sum_congr rfl fun t _ => mul_comm _ _

end Cert.Kernel13Ideal.DwSqBlock

end

end
-- ==== Proof.DwSqClaim.lean ====
/- The claims about the gradient of a square weight. -/
module

public import proofs.«01_k».proof.Defs
public import proofs.«01_k».proof.Proof.Gen.Kernel13.Frame
public import proofs.«01_k».proof.Proof.Gen.Reference13Ideal.Run
public import proofs.«01_k».proof.Proof.DwSqBlock

set_option maxRecDepth 16384

@[expose] public section

noncomputable section

open Idealize.ShloMosaic Idealize.SL.Sem

namespace Cert.Proof

set_option maxHeartbeats 2000000 in
/-- The kernel's arrays are the reference's. -/
theorem value_DwSq : Cert.algebraic_Kernel13Ideal_Reference13Ideal := fun m ρ m' ρ' _ hag =>
  ⟨fun c i => Cert.Kernel13Ideal.DwSqBlock.dwAt (Cert.Kernel13Ideal.DwSqBlock.A0 m c) (Cert.Kernel13Ideal.DwSqBlock.A1 m c) (i 0) (i 1),
    (θ_run _ _ _).mono (fun _ h c => ⟨(h c).1.trans (Cert.Kernel13Ideal.DwSqBlock.final2 m c),
      (h c).2⟩) (Cert.Kernel13Ideal.Value.run_blocks m ρ),
    (θ_run _ _ _).mono (fun _ h c => ⟨by
        refine (h c).1.trans ((Cert.Reference13Ideal.Read.val_main_v6_eq ..).trans ?_)
        show Cert.Reference13Ideal.Read.val_main_v6 (F := Ideal) (m' ((c.tc : Thread _ _).loc Cert.Reference13Ideal.main_arg0)) (m' ((c.tc : Thread _ _).loc Cert.Reference13Ideal.main_arg1)) = _
        rw [(hag c).1, (hag c).2]
        funext i
        idx_vars i
        exact Cert.Kernel13Ideal.DwSqBlock.ref_at _ _ i0 i1,
      (h c).2⟩) (Cert.Reference13Ideal.Value.run m' ρ')⟩

/-- The reference runs and leaves its arguments. -/
theorem frame_DwSqRef : Cert.quiescent_Reference13Ideal := fun m ρ _ =>
  (θ_run Cert.Reference13Ideal.defs _ _).mono (fun r h => ⟨fun c => (h c).2,
      sem_eq_zero_of_no_sems (by decide) r.2⟩)
    (Cert.Reference13Ideal.Value.run m ρ)

end Cert.Proof

end

end
-- ==== Proof.ConvFwdBlock.lean ====
/- The gated convolution's forward pass with its output projection and norm: the arrays the kernel leaves and the reference's results, read at an index. -/
module

public import proofs.«01_k».proof.Proof.Gen.Kernel14Ideal.Value
public import proofs.«01_k».proof.Proof.Gen.Reference14Ideal.Read
public import proofs.«01_k».proof.Proof.NormSpec
public import proofs.«01_k».proof.Proof.ConvSpec

set_option maxRecDepth 16384

@[expose] public section

noncomputable section

open Idealize.ShloMosaic Idealize.ShloMosaic.TcCoe Idealize.SL.Sem
open Idealize.ShloMosaic.Pipeline (Dat)

namespace Cert.Kernel14Ideal.ConvFwdBlock

open Cert.Kernel14Ideal Cert.Kernel14Ideal.Gen
open Cert.Reference14Ideal.Read
open Finite Conv

/-- The gated convolution. -/
def gated (x0 : FVec Ideal S4096x3072 .bf16) (x1 : FVec Ideal S3x1024 .f32) (t : Fin 4096) (d : Fin 1024) : EReal :=
  x0 (ix2 t ⟨d.val, by omega⟩) * conv x0 x1 t.val d
/-- Its projection. -/
def z (x0 : FVec Ideal S4096x3072 .bf16) (x1 : FVec Ideal S3x1024 .f32) (x2 : FVec Ideal S1024x1024 .bf16) (t : Fin 4096) (d : Fin 1024) : EReal :=
  ∑ k, gated x0 x1 t k * x2 (ix2 k d)
/-- The stream after the block. -/
def h (x0 : FVec Ideal S4096x3072 .bf16) (x1 : FVec Ideal S3x1024 .f32) (x2 : FVec Ideal S1024x1024 .bf16) (x3 : FVec Ideal S1x1024 .f32)
    (x4 : FVec Ideal S4096x1024 .f32) (t : Fin 4096) (d : Fin 1024) : EReal := x4 (ix2 t d) + normE (z x0 x1 x2 t) (fun k => x3 (ix2 0 k)) d

section
variable (x0 : FVec Ideal S4096x3072 .bf16) (x1 : FVec Ideal S3x1024 .f32) (x2 : FVec Ideal S1024x1024 .bf16) (x3 : FVec Ideal S1x1024 .f32)
    (x4 : FVec Ideal S4096x1024 .f32)
/-- The reference's product of the second gate and the value. -/
theorem ref_cu (n : Fin 4096) (d : Fin 1024) : val_main_v4 (F := Ideal) x0 (ix2 n d) = cu x0 n.val d := by
  pointwise [val_main_v4, val_main_v2, val_main_v3, val_main_v0]
  rw [cu, dif_pos n.isLt]
/-- The same with its two rows of zeros. -/
theorem ref_up (n : Fin 4098) (d : Fin 1024) : val_main_v6 (F := Ideal) x0 (ix2 n d) = up x0 n.val d := by
  pointwise [val_main_v6, val_main_v5, val_main_cst]
  by_cases h : n.val < 2
  · exact (dif_pos h).trans (if_neg (by omega)).symm
  · exact (dif_neg h).trans ((ref_cu x0 _ d).trans (if_pos (by omega)).symm)
/-- The reference's gated convolution. -/
theorem ref_y (n : Fin 4096) (d : Fin 1024) : val_main_v27 (F := Ideal) x0 x1 (ix2 n d) = gated x0 x1 n d := by
  pointwise [val_main_v27, val_main_v1, val_main_v0, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7]
  rw [ref_up, ref_up, ref_up, mul_comm _ (x1 (ix2 0 d)), mul_comm _ (x1 (ix2 1 d)), mul_comm _ (x1 (ix2 2 d))]
  dsimp only
  simp only [gated, conv, add_comm n.val]
/-- The reference's projection. -/
theorem ref_z (t : Fin 4096) (d : Fin 1024) : val_main_v29 (F := Ideal) x0 x1 x2 (ix2 t d) = z x0 x1 x2 t d := by
  unfold z
  pointwise [val_main_v29, val_main_v28]
  exact Finset.sum_congr rfl fun k _ => congrArg (· * _) (ref_y x0 x1 t k)
/-- The reference's three results. -/
theorem ref0 (t : Fin 4096) (d : Fin 1024) : val_main_v43 (F := Ideal) x0 x1 x2 x3 x4 (ix2 t d) = h x0 x1 x2 x3 x4 t d := by
  refine (show _ = x4 (ix2 t d) + normE (fun k => val_main_v29 (F := Ideal) x0 x1 x2 (ix2 t k)) (fun k => x3 (ix2 0 k)) d from ?_).trans ?_
  · pointwise [val_main_v43, val_main_v42, val_main_v41, val_main_v40, val_main_v39, val_main_v38, val_main_v37, val_main_v36, val_main_v35,
      val_main_v34, val_main_v33, val_main_v32, val_main_v31, val_main_v30, val_main_cst_0, val_main_cst_1, val_main_cst_2]
    rfl
  · simp only [ref_z]
    rfl
theorem ref1 (t : Fin 4096) (d : Fin 1024) : val_main_v44 (F := Ideal) x0 x1 x2 (ix2 t d) = z x0 x1 x2 t d := by
  pointwise [val_main_v44]
  exact ref_z x0 x1 x2 t d
theorem ref2 (t : Fin 4096) (d : Fin 1024) : val_main_v45 (F := Ideal) x0 x1 (ix2 t d) = gated x0 x1 t d := by
  pointwise [val_main_v45]
  exact ref_y x0 x1 t d
end

variable (m : (ℓ : Loc nD τ sig) → Buf (Elt Ideal) ℓ)
/-- The three projections. -/
abbrev A0 (c : Dev nD) : FVec Ideal S4096x3072 .bf16 := m ((c : Thread nD τ).loc main_arg0)
/-- The taps. -/
abbrev A1 (c : Dev nD) : FVec Ideal S3x1024 .f32 := m ((c : Thread nD τ).loc main_arg1)
/-- The output weight. -/
abbrev A2 (c : Dev nD) : FVec Ideal S1024x1024 .bf16 := m ((c : Thread nD τ).loc main_arg2)
/-- The norm's gain. -/
abbrev A3 (c : Dev nD) : FVec Ideal S1x1024 .f32 := m ((c : Thread nD τ).loc main_arg3)
/-- The stream before the block. -/
abbrev A4 (c : Dev nD) : FVec Ideal S4096x1024 .f32 := m ((c : Thread nD τ).loc main_arg4)

/-- Every window's block index at every grid point. -/
theorem idx_val : ∀ t : Fin cfg0.N, win0_0.index t = ![t.val, 0] ∧ win0_1.index t = ![t.val, 1] ∧ win0_2.index t = ![t.val, 2]
    ∧ win0_3.index t = ![(32 * t.val) - 1, 1] ∧ win0_4.index t = ![(32 * t.val) - 1, 2] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ (grid0.coords t 0).val = t.val ∧ t.val < 8 :=
  (by decide +kernel : ∀ t : Fin grid0.N, _)
theorem ltN (t : Fin cfg0.N) : t.val < 8 := (idx_val t).2.2.2.2.2.2.2.2.2.2.2.2.2
/-- The grid coordinate is the point's number. -/
theorem coord (t : Fin cfg0.N) : (grid0.coords t 0).val = t.val := (idx_val t).2.2.2.2.2.2.2.2.2.2.2.2.1
/-- The row of a tile. -/
def row (t : Fin cfg0.N) (r : Fin 512) : Fin 4096 := ⟨512 * t.val + r.val, by have := ltN t; omega⟩
theorem row_eq {t : Fin cfg0.N} {r : Fin 512} {j : Fin 4096} (h : j.val = 512 * t.val + r.val) : row t r = j := Fin.ext h.symm

/-- A selection at the first tile. -/
theorem sel_zero (n : ℕ) (hn : n < 8) (a b : EReal) : Scalar.select (Scalar.cmpi .eq (BitVec.ofNat 32 n) 0#32) a b = if n = 0 then a else b := by
  obtain rfl | h := Nat.eq_zero_or_pos n
  · rfl
  · have : ¬ BitVec.ofNat 32 n = 0#32 := fun e => by
      have := congrArg BitVec.toNat e
      simp only [BitVec.toNat_ofNat] at this
      omega
    have hb : (BitVec.ofNat 32 n == 0#32) = false := beq_eq_false_iff_ne.mpr this
    simp [Scalar.select, Scalar.cmpi, IntOp.cmpi, hb, h.ne']

/-- The gate's block. -/
theorem rd0 (A : FVec Ideal S4096x3072 .bf16) (t : Fin cfg0.N) (r : Fin 512) (d : Fin 1024) :
    (((cfg0.win 0).blk t).view.read (Elt Ideal) A) (ix2 r d) = A (ix2 (row t r) ⟨d.val, by omega⟩) := by
  unfold row
  blk_ext [idx_val t]
/-- The product of gate and value inside the tile. -/
theorem cu_tile (c : Dev nD) (t : Fin cfg0.N) (r : Fin 512) (d : Fin 1024) :
    (show FVec Ideal S512x1024 .bf16 from iblk m c 1 t) (ix2 r d) * (show FVec Ideal S512x1024 .bf16 from iblk m c 2 t) (ix2 r d)
      = cu (A0 m c) (512 * t.val + r.val) d := by
  have ht := ltN t
  rw [cu, dif_pos (by omega)]
  blk_point [iblk, V, idx_val t]
/-- The product in the 16 rows before the tile; zero before the first tile. -/
theorem cu_before (c : Dev nD) (t : Fin cfg0.N) (r : Fin 16) (d : Fin 1024) :
    Scalar.select (Scalar.cmpi .eq (BitVec.ofNat 32 (grid0.coords t 0).val) 0#32) (0 : EReal)
      ((show FVec Ideal S16x1024 .bf16 from iblk m c 3 t) (ix2 r d) * (show FVec Ideal S16x1024 .bf16 from iblk m c 4 t) (ix2 r d))
      = if t.val = 0 then 0 else cu (A0 m c) (512 * t.val - 16 + r.val) d := by
  have ht := ltN t
  rw [coord, sel_zero _ ht]
  by_cases h : t.val = 0
  · rw [if_pos h, if_pos h]
  · rw [if_neg h, if_neg h, cu, dif_pos (by omega)]
    blk_point [iblk, V, idx_val t]
/-- A row of the tile with the 16 rows before it, `s` rows up. -/
theorem shifted (c : Dev nD) (t : Fin cfg0.N) (r : Fin 512) (s : ℕ) (hs : s ≤ 2) (d : Fin 1024) {p : Prop} [Decidable p] (hp : p ↔ r.val < s) (a : p → EReal)
    (b : ¬p → EReal) (ha : ∀ h, a h = if t.val = 0 then 0 else cu (A0 m c) (512 * t.val - 16 + (16 + r.val - s)) d)
    (hb : ∀ h, b h = cu (A0 m c) (512 * t.val + (r.val - s)) d) : (if h : p then a h else b h) = up (A0 m c) (512 * t.val + r.val + (2 - s)) d := by
  unfold up
  by_cases h : p
  · have hr := hp.1 h
    rw [dif_pos h, ha]
    by_cases h0 : t.val = 0
    · rw [if_pos h0, if_neg (by omega)]
    · rw [if_neg h0, if_pos (by omega)]
      exact congrArg (cu _ · _) (by omega)
  · have hr : ¬r.val < s := fun h' => h (hp.2 h')
    rw [dif_neg h, hb, if_pos (by omega)]
    exact congrArg (cu _ · _) (by omega)
/-- The taps' loads. -/
theorem tap0 (c : Dev nD) (t : Fin cfg0.N) (d : Fin 1024) : View.ld (Val := Elt Ideal) (e' := .f32) (iblk m c 5 t) r0_2 (ix2 0 d) = A1 m c (ix2 0 d) := by
  blk_point [iblk, V, idx_val t]
theorem tap1 (c : Dev nD) (t : Fin cfg0.N) (d : Fin 1024) : View.ld (Val := Elt Ideal) (e' := .f32) (iblk m c 5 t) r0_3 (ix2 0 d) = A1 m c (ix2 1 d) := by
  blk_point [iblk, V, idx_val t]
theorem tap2 (c : Dev nD) (t : Fin cfg0.N) (d : Fin 1024) : View.ld (Val := Elt Ideal) (e' := .f32) (iblk m c 5 t) r0_4 (ix2 0 d) = A1 m c (ix2 2 d) := by
  blk_point [iblk, V, idx_val t]
/-- The gated convolution's rows. -/
theorem y_at (c : Dev nD) (t : Fin cfg0.N) (w0 w1 w2 : Vec Ideal S1x1024 .f32) (r : Fin 512) (d : Fin 1024)
    (h0 : w0 (ix2 0 d) = A1 m c (ix2 0 d)) (h1 : w1 (ix2 0 d) = A1 m c (ix2 1 d)) (h2 : w2 (ix2 0 d) = A1 m c (ix2 2 d)) :
    k0_pay4 (F := Ideal) (grid0.coords t) (iblk m c 1 t) (iblk m c 2 t) (iblk m c 3 t) (iblk m c 4 t) w0 w1 w2 (iblk m c 0 t) (ix2 r d)
      = gated (A0 m c) (A1 m c) (row t r) d := by
  have ht := ltN t
  unfold gated conv
  rw [← h0, ← h1, ← h2]
  pointwise [k0_pay4]
  refine congrArg₂ (· * ·) (rd0 (A0 m c) t r d) (congrArg₂ (· + ·) (congrArg₂ (· + ·) (congrArg (_ * ·) ?_) (congrArg (_ * ·) ?_)) (congrArg (_ * ·) ?_))
  · exact shifted m c t r 2 (by omega) d (by omega) _ _ (fun h => (cu_before m c t _ d).trans (if_congr Iff.rfl rfl (congrArg (cu _ · _) (by dsimp only; omega)))) (fun h => (cu_tile m c t _ d).trans (congrArg (cu _ · _) (by dsimp only; omega)))
  · exact shifted m c t r 1 (by omega) d (by omega) _ _ (fun h => (cu_before m c t _ d).trans (if_congr Iff.rfl rfl (congrArg (cu _ · _) (by dsimp only; omega)))) (fun h => (cu_tile m c t _ d).trans (congrArg (cu _ · _) (by dsimp only; omega)))
  · rw [cu_tile, up, if_pos (by omega)]
    rfl
/-- A block is the whole array. -/
theorem rd6 (A : FVec Ideal S1024x1024 .bf16) (t : Fin cfg0.N) (d : Fin 1024) (e : Fin 1024) :
    (((cfg0.win 6).blk t).view.read (Elt Ideal) A) (ix2 d e) = A (ix2 d e) := by
  blk_ext [idx_val t]
/-- A block is the whole row. -/
theorem rd7 (A : FVec Ideal S1x1024 .f32) (t : Fin cfg0.N) (d : Fin 1024) :
    (((cfg0.win 7).blk t).view.read (Elt Ideal) A) (ix2 0 d) = A (ix2 0 d) := by
  blk_ext [idx_val t]
/-- A block of 512 rows. -/
theorem rd8 (A : FVec Ideal S4096x1024 .f32) (t : Fin cfg0.N) (r : Fin 512) (k : Fin 1024) (j : Fin 4096) (hj : j.val = 512 * t.val + r.val) :
    (((cfg0.win 8).blk t).view.read (Elt Ideal) A) (ix2 r k) = A (ix2 j k) := by
  blk_ext [idx_val t]

section
variable (Y : Fin 4096 → Fin 1024 → EReal) (A2 : FVec Ideal S1024x1024 .bf16) (A3 : FVec Ideal S1x1024 .f32) (A4 : FVec Ideal S4096x1024 .f32)
  (row : Fin 512 → Fin 4096) (y : FVec Ideal S512x1024 .bf16) (w : Vec Ideal S1024x1024 .bf16) (g : Vec Ideal S1x1024 .f32) (x : Vec Ideal S512x1024 .f32)
  (hy : ∀ r d, y (ix2 r d) = Y (row r) d) (hw : ∀ k d, w (ix2 k d) = A2 (ix2 k d))
include hy hw
/-- The projection's rows. -/
theorem z_at (r : Fin 512) (d : Fin 1024) : k0_pay1 (F := Ideal) y w (ix2 r d) = ∑ k, Y (row r) k * A2 (ix2 k d) := by
  pointwise [k0_pay1]
  exact Finset.sum_congr rfl fun k _ => congrArg₂ (· * ·) (hy r k) (hw k d)
/-- As they are stored. -/
theorem sz_at (r : Fin 512) (d : Fin 1024) : k0_pay2 (F := Ideal) y w (ix2 r d) = ∑ k, Y (row r) k * A2 (ix2 k d) := by
  pointwise [k0_pay2]
  exact z_at Y A2 row y w hy hw r d
/-- The stream's rows. -/
theorem h_at (hg : ∀ d, g (ix2 0 d) = A3 (ix2 0 d)) (hx : ∀ r d, x (ix2 r d) = A4 (ix2 (row r) d)) (r : Fin 512) (d : Fin 1024) :
    k0_pay3 (F := Ideal) y w x g (ix2 r d) = A4 (ix2 (row r) d) + normE (fun j => ∑ k, Y (row r) k * A2 (ix2 k j)) (fun k => A3 (ix2 0 k)) d := by
  refine (show _ = x (ix2 r d) + normE (fun k => k0_pay1 (F := Ideal) y w (ix2 r k)) (fun k => g (ix2 0 k)) d from ?_).trans ?_
  · pointwise [k0_pay3]
    rfl
  · simp only [z_at Y A2 row y w hy hw, hg, hx]
end

/-- Loads of whole blocks. -/
theorem ldb (X : Vec Ideal S512x1024 .bf16) : View.ld (Val := Elt Ideal) (e' := .bf16) X r0_0 = X := View.ld_unit_lit' _ X (by decide)
theorem ldx (X : Vec Ideal S512x1024 .f32) : View.ld (Val := Elt Ideal) (e' := .f32) X r0_0 = X := View.ld_unit_lit' _ X (by decide)
theorem ldh (X : Vec Ideal S16x1024 .bf16) : View.ld (Val := Elt Ideal) (e' := .bf16) X r0_1 = X := View.ld_unit_lit' _ X (by decide)
theorem ldw (X : Vec Ideal S1024x1024 .bf16) : View.ld (Val := Elt Ideal) (e' := .bf16) X r0_5 = X := View.ld_unit_lit' _ X (by decide)
theorem ldg (X : Vec Ideal S1x1024 .f32) : View.ld (Val := Elt Ideal) (e' := .f32) X r0_6 = X := View.ld_unit_lit' _ X (by decide)
/-- The gated rows of a tile. -/
theorem hy (c : Dev nD) (t : Fin cfg0.N) (r : Fin 512) (d : Fin 1024) :
    k0_pay4 (F := Ideal) (grid0.coords t) (iblk m c 1 t) (iblk m c 2 t) (iblk m c 3 t) (iblk m c 4 t) (View.ld (iblk m c 5 t) r0_2) (View.ld (iblk m c 5 t) r0_3)
      (View.ld (iblk m c 5 t) r0_4) (iblk m c 0 t) (ix2 r d) = gated (A0 m c) (A1 m c) (row t r) d :=
  y_at m c t _ _ _ r d (tap0 m c t d) (tap1 m c t d) (tap2 m c t d)

/-- What a grid point leaves in window 9 is its block. -/
theorem point9 (c : Dev nD) (t : Fin cfg0.N) (y : S512x1024.Idx) (i : S4096x1024.Idx) (hi0 : (i 0 : ℕ) = 512 * t.val + (y 0 : ℕ))
    (hi1 : (i 1 : ℕ) = (y 1 : ℕ)) : out0_9 (F := Ideal) (grid0.coords t) (iblk m c 0 t) (iblk m c 1 t) (iblk m c 2 t) (iblk m c 3 t) (iblk m c 4 t) (iblk m c 5 t) (iblk m c 6 t) (iblk m c 7 t) (iblk m c 8 t) y = h (A0 m c) (A1 m c) (A2 m c) (A3 m c) (A4 m c) (i 0) (i 1) := by
  frame_out
  idx_vars y
  try simp only [k0_pay5, ldb, ldx, ldh, ldw, ldg]
  exact (h_at (gated (A0 m c) (A1 m c)) (A2 m c) (A3 m c) (A4 m c) (row t) _ _ _ _ (hy m c t) (rd6 (A2 m c) t) (rd7 (A3 m c) t) (fun r d => rd8 (A4 m c) t r d _ rfl) y0 y1).trans (congrArg₂ (h (A0 m c) (A1 m c) (A2 m c) (A3 m c) (A4 m c)) (row_eq hi0) (Fin.ext hi1.symm))
/-- The array of window 9 after the run. -/
theorem final9 (c : Dev nD) : (dats m 0 c).arrAt 9 (cfgs 0).N = fun i => h (A0 m c) (A1 m c) (A2 m c) (A3 m c) (A4 m c) (i 0) (i 1) := by
  refine (dats m 0 c).arrAt_eq_of_covers 9 _ (by decide +kernel) fun t hf y => ?_
  blk_simp; rw [after0_9]
  refine point9 m c t y _ ?_ ?_ <;> blk_simp [idx_val t] <;> try omega

/-- What a grid point leaves in window 10 is its block. -/
theorem point10 (c : Dev nD) (t : Fin cfg0.N) (y : S512x1024.Idx) (i : S4096x1024.Idx) (hi0 : (i 0 : ℕ) = 512 * t.val + (y 0 : ℕ))
    (hi1 : (i 1 : ℕ) = (y 1 : ℕ)) : out0_10 (F := Ideal) (grid0.coords t) (iblk m c 0 t) (iblk m c 1 t) (iblk m c 2 t) (iblk m c 3 t) (iblk m c 4 t) (iblk m c 5 t) (iblk m c 6 t) (iblk m c 7 t) (iblk m c 8 t) y = z (A0 m c) (A1 m c) (A2 m c) (i 0) (i 1) := by
  frame_out
  idx_vars y
  try simp only [k0_pay5, ldb, ldx, ldh, ldw, ldg]
  exact (sz_at (gated (A0 m c) (A1 m c)) (A2 m c) (row t) _ _ (hy m c t) (rd6 (A2 m c) t) y0 y1).trans (congrArg₂ (z (A0 m c) (A1 m c) (A2 m c)) (row_eq hi0) (Fin.ext hi1.symm))
/-- The array of window 10 after the run. -/
theorem final10 (c : Dev nD) : (dats m 0 c).arrAt 10 (cfgs 0).N = fun i => z (A0 m c) (A1 m c) (A2 m c) (i 0) (i 1) := by
  refine (dats m 0 c).arrAt_eq_of_covers 10 _ (by decide +kernel) fun t hf y => ?_
  blk_simp; rw [after0_10]
  refine point10 m c t y _ ?_ ?_ <;> blk_simp [idx_val t] <;> try omega

/-- What a grid point leaves in window 11 is its block. -/
theorem point11 (c : Dev nD) (t : Fin cfg0.N) (y : S512x1024.Idx) (i : S4096x1024.Idx) (hi0 : (i 0 : ℕ) = 512 * t.val + (y 0 : ℕ))
    (hi1 : (i 1 : ℕ) = (y 1 : ℕ)) : out0_11 (F := Ideal) (grid0.coords t) (iblk m c 0 t) (iblk m c 1 t) (iblk m c 2 t) (iblk m c 3 t) (iblk m c 4 t) (iblk m c 5 t) (iblk m c 6 t) (iblk m c 7 t) (iblk m c 8 t) y = gated (A0 m c) (A1 m c) (i 0) (i 1) := by
  frame_out
  idx_vars y
  try simp only [k0_pay5, ldb, ldx, ldh, ldw, ldg]
  exact (hy m c t y0 y1).trans (congrArg₂ (gated (A0 m c) (A1 m c)) (row_eq hi0) (Fin.ext hi1.symm))
/-- The array of window 11 after the run. -/
theorem final11 (c : Dev nD) : (dats m 0 c).arrAt 11 (cfgs 0).N = fun i => gated (A0 m c) (A1 m c) (i 0) (i 1) := by
  refine (dats m 0 c).arrAt_eq_of_covers 11 _ (by decide +kernel) fun t hf y => ?_
  blk_simp; rw [after0_11]
  refine point11 m c t y _ ?_ ?_ <;> blk_simp [idx_val t] <;> try omega

end Cert.Kernel14Ideal.ConvFwdBlock

end

end
-- ==== Proof.ConvFwdClaim.lean ====
/- The claims about the gated convolution's forward pass. -/
module

public import proofs.«01_k».proof.Defs
public import proofs.«01_k».proof.Proof.Gen.Kernel14.Frame
public import proofs.«01_k».proof.Proof.Gen.Reference14Ideal.Run
public import proofs.«01_k».proof.Proof.ConvFwdBlock

set_option maxRecDepth 16384

@[expose] public section

noncomputable section

open Idealize.ShloMosaic Idealize.SL.Sem

namespace Cert.Proof

set_option maxHeartbeats 2000000 in
/-- The kernel's arrays are the reference's. -/
theorem value_ConvFwd : Cert.algebraic_Kernel14Ideal_Reference14Ideal := fun m ρ m' ρ' _ hag =>
  ⟨fun c i => Cert.Kernel14Ideal.ConvFwdBlock.h (Cert.Kernel14Ideal.ConvFwdBlock.A0 m c) (Cert.Kernel14Ideal.ConvFwdBlock.A1 m c) (Cert.Kernel14Ideal.ConvFwdBlock.A2 m c) (Cert.Kernel14Ideal.ConvFwdBlock.A3 m c) (Cert.Kernel14Ideal.ConvFwdBlock.A4 m c) (i 0) (i 1),
    fun c i => Cert.Kernel14Ideal.ConvFwdBlock.z (Cert.Kernel14Ideal.ConvFwdBlock.A0 m c) (Cert.Kernel14Ideal.ConvFwdBlock.A1 m c) (Cert.Kernel14Ideal.ConvFwdBlock.A2 m c) (i 0) (i 1),
    fun c i => Cert.Kernel14Ideal.ConvFwdBlock.gated (Cert.Kernel14Ideal.ConvFwdBlock.A0 m c) (Cert.Kernel14Ideal.ConvFwdBlock.A1 m c) (i 0) (i 1),
    (θ_run _ _ _).mono (fun _ h c => ⟨(h c).1.trans (Cert.Kernel14Ideal.ConvFwdBlock.final9 m c),
      (h c).2.1.trans (Cert.Kernel14Ideal.ConvFwdBlock.final10 m c),
      (h c).2.2.1.trans (Cert.Kernel14Ideal.ConvFwdBlock.final11 m c),
      (h c).2.2.2⟩) (Cert.Kernel14Ideal.Value.run_blocks m ρ),
    (θ_run _ _ _).mono (fun _ h c => ⟨by
        refine (h c).1.trans ((Cert.Reference14Ideal.Read.val_main_v43_eq ..).trans ?_)
        show Cert.Reference14Ideal.Read.val_main_v43 (F := Ideal) (m' ((c.tc : Thread _ _).loc Cert.Reference14Ideal.main_arg0)) (m' ((c.tc : Thread _ _).loc Cert.Reference14Ideal.main_arg1)) (m' ((c.tc : Thread _ _).loc Cert.Reference14Ideal.main_arg2)) (m' ((c.tc : Thread _ _).loc Cert.Reference14Ideal.main_arg3)) (m' ((c.tc : Thread _ _).loc Cert.Reference14Ideal.main_arg4)) = _
        rw [(hag c).1, (hag c).2.1, (hag c).2.2.1, (hag c).2.2.2.1, (hag c).2.2.2.2]
        funext i
        idx_vars i
        exact Cert.Kernel14Ideal.ConvFwdBlock.ref0 _ _ _ _ _ i0 i1,
      by
        refine (h c).2.1.trans ((Cert.Reference14Ideal.Read.val_main_v44_eq ..).trans ?_)
        show Cert.Reference14Ideal.Read.val_main_v44 (F := Ideal) (m' ((c.tc : Thread _ _).loc Cert.Reference14Ideal.main_arg0)) (m' ((c.tc : Thread _ _).loc Cert.Reference14Ideal.main_arg1)) (m' ((c.tc : Thread _ _).loc Cert.Reference14Ideal.main_arg2)) = _
        rw [(hag c).1, (hag c).2.1, (hag c).2.2.1]
        funext i
        idx_vars i
        exact Cert.Kernel14Ideal.ConvFwdBlock.ref1 _ _ _ i0 i1,
      by
        refine (h c).2.2.1.trans ((Cert.Reference14Ideal.Read.val_main_v45_eq ..).trans ?_)
        show Cert.Reference14Ideal.Read.val_main_v45 (F := Ideal) (m' ((c.tc : Thread _ _).loc Cert.Reference14Ideal.main_arg0)) (m' ((c.tc : Thread _ _).loc Cert.Reference14Ideal.main_arg1)) = _
        rw [(hag c).1, (hag c).2.1]
        funext i
        idx_vars i
        exact Cert.Kernel14Ideal.ConvFwdBlock.ref2 _ _ i0 i1,
      (h c).2.2.2⟩) (Cert.Reference14Ideal.Value.run m' ρ')⟩

/-- The reference runs and leaves its arguments. -/
theorem frame_ConvFwdRef : Cert.quiescent_Reference14Ideal := fun m ρ _ =>
  (θ_run Cert.Reference14Ideal.defs _ _).mono (fun r h => ⟨fun c => (h c).2.2.2,
      sem_eq_zero_of_no_sems (by decide) r.2⟩)
    (Cert.Reference14Ideal.Value.run m ρ)

end Cert.Proof

end

end
-- ==== Proof.AttnOutBlock.lean ====
/- The output projection of the attention and the norm after it: the arrays the kernel leaves and the reference's results, read at an index. -/
module

public import proofs.«01_k».proof.Proof.Gen.Kernel15Ideal.Value
public import proofs.«01_k».proof.Proof.Gen.Reference15Ideal.Read
public import proofs.«01_k».proof.Proof.NormSpec

set_option maxRecDepth 16384

@[expose] public section

noncomputable section

open Idealize.ShloMosaic Idealize.ShloMosaic.TcCoe Idealize.SL.Sem
open Idealize.ShloMosaic.Pipeline (Dat)

namespace Cert.Kernel15Ideal.AttnOutBlock

open Cert.Kernel15Ideal Cert.Kernel15Ideal.Gen
open Cert.Reference15Ideal.Read
open Finite

/-- The product. -/
def z (x0 : FVec Ideal S4096x1024 .bf16) (x1 : FVec Ideal S1024x1024 .bf16) (t : Fin 4096) (d : Fin 1024) : EReal := ∑ k, x0 (ix2 t k) * x1 (ix2 k d)
/-- The stream after the block. -/
def h (x0 : FVec Ideal S4096x1024 .bf16) (x1 : FVec Ideal S1024x1024 .bf16) (x2 : FVec Ideal S1x1024 .f32) (x3 : FVec Ideal S4096x1024 .bf16)
    (t : Fin 4096) (d : Fin 1024) : EReal := x3 (ix2 t d) + normE (z x0 x1 t) (fun k => x2 (ix2 0 k)) d

section
variable (x0 : FVec Ideal S4096x1024 .bf16) (x1 : FVec Ideal S1024x1024 .bf16) (x2 : FVec Ideal S1x1024 .f32) (x3 : FVec Ideal S4096x1024 .bf16)
/-- The reference's product. -/
theorem ref_z (t : Fin 4096) (d : Fin 1024) : val_main_v2 (F := Ideal) x0 x1 (ix2 t d) = z x0 x1 t d := by
  unfold z
  pointwise [val_main_v2, val_main_v1, val_main_v0]
/-- The reference's second result. -/
theorem ref1 (t : Fin 4096) (d : Fin 1024) : val_main_v18 (F := Ideal) x0 x1 (ix2 t d) = z x0 x1 t d := by
  pointwise [val_main_v18]
  exact ref_z x0 x1 t d
/-- The reference's first result. -/
theorem ref0 (t : Fin 4096) (d : Fin 1024) : val_main_v17 (F := Ideal) x0 x1 x2 x3 (ix2 t d) = h x0 x1 x2 x3 t d := by
  refine (show _ = x3 (ix2 t d) + normE (fun k => val_main_v2 (F := Ideal) x0 x1 (ix2 t k)) (fun k => x2 (ix2 0 k)) d from ?_).trans ?_
  · pointwise [val_main_v17, val_main_v16, val_main_v15, val_main_v14, val_main_v13, val_main_v12, val_main_v11, val_main_v10, val_main_v9,
      val_main_v8, val_main_v7, val_main_v6, val_main_v5, val_main_v4, val_main_v3, val_main_cst, val_main_cst_0, val_main_cst_1]
    rfl
  · simp only [ref_z]
    rfl
end

/-- The loaded vectors are the rows `row` of the left argument and of the stream, the weight and the gain. -/
structure Reads (A0 : FVec Ideal S4096x1024 .bf16) (A1 : FVec Ideal S1024x1024 .bf16) (A2 : FVec Ideal S1x1024 .f32) (A3 : FVec Ideal S4096x1024 .bf16)
    (row : Fin 256 → Fin 4096) (a : Vec Ideal S256x1024 .bf16) (w : Vec Ideal S1024x1024 .bf16) (g : Vec Ideal S1x1024 .f32) (x : Vec Ideal S256x1024 .bf16) : Prop where
  a : ∀ r d, a (ix2 r d) = A0 (ix2 (row r) d)
  w : ∀ k d, w (ix2 k d) = A1 (ix2 k d)
  g : ∀ d, g (ix2 0 d) = A2 (ix2 0 d)
  x : ∀ r d, x (ix2 r d) = A3 (ix2 (row r) d)

section
variable (A0 : FVec Ideal S4096x1024 .bf16) (A1 : FVec Ideal S1024x1024 .bf16) (A2 : FVec Ideal S1x1024 .f32) (A3 : FVec Ideal S4096x1024 .bf16)
  (row : Fin 256 → Fin 4096) (a : Vec Ideal S256x1024 .bf16) (w : Vec Ideal S1024x1024 .bf16) (g : Vec Ideal S1x1024 .f32) (x : Vec Ideal S256x1024 .bf16)
  (R : Reads A0 A1 A2 A3 row a w g x)
include R
/-- The product's rows. -/
theorem z0_at (r : Fin 256) (d : Fin 1024) : k0_pay5 (F := Ideal) a w (ix2 r d) = z A0 A1 (row r) d := by
  pointwise [k0_pay5]
  exact Finset.sum_congr rfl fun k _ => congrArg₂ (· * ·) (R.a r k) (R.w k d)
/-- As they are stored. -/
theorem sz0_at (r : Fin 256) (d : Fin 1024) : k0_pay10 (F := Ideal) (k0_pay5 a w) (ix2 r d) = z A0 A1 (row r) d := by
  pointwise [k0_pay10]
  exact z0_at A0 A1 A2 A3 row a w g x R r d
/-- The stream's rows. -/
theorem h0_at (r : Fin 256) (d : Fin 1024) : k0_pay9 (F := Ideal) a w x g (ix2 r d) = h A0 A1 A2 A3 (row r) d := by
  refine (show _ = x (ix2 r d) + normE (fun k => k0_pay5 (F := Ideal) a w (ix2 r k)) (fun k => g (ix2 0 k)) d from ?_).trans ?_
  · pointwise [k0_pay9]
    rfl
  · simp only [z0_at A0 A1 A2 A3 row a w g x R, R.g, R.x]
    rfl
/-- The product's rows. -/
theorem z1_at (r : Fin 256) (d : Fin 1024) : k0_pay6 (F := Ideal) a w (ix2 r d) = z A0 A1 (row r) d := by
  pointwise [k0_pay6]
  exact Finset.sum_congr rfl fun k _ => congrArg₂ (· * ·) (R.a r k) (R.w k d)
/-- As they are stored. -/
theorem sz1_at (r : Fin 256) (d : Fin 1024) : k0_pay12 (F := Ideal) (k0_pay6 a w) (ix2 r d) = z A0 A1 (row r) d := by
  pointwise [k0_pay12]
  exact z1_at A0 A1 A2 A3 row a w g x R r d
/-- The stream's rows. -/
theorem h1_at (r : Fin 256) (d : Fin 1024) : k0_pay11 (F := Ideal) (k0_pay6 a w) x g (ix2 r d) = h A0 A1 A2 A3 (row r) d := by
  refine (show _ = x (ix2 r d) + normE (fun k => k0_pay6 (F := Ideal) a w (ix2 r k)) (fun k => g (ix2 0 k)) d from ?_).trans ?_
  · pointwise [k0_pay11]
    rfl
  · simp only [z1_at A0 A1 A2 A3 row a w g x R, R.g, R.x]
    rfl
/-- The product's rows. -/
theorem z2_at (r : Fin 256) (d : Fin 1024) : k0_pay7 (F := Ideal) a w (ix2 r d) = z A0 A1 (row r) d := by
  pointwise [k0_pay7]
  exact Finset.sum_congr rfl fun k _ => congrArg₂ (· * ·) (R.a r k) (R.w k d)
/-- As they are stored. -/
theorem sz2_at (r : Fin 256) (d : Fin 1024) : k0_pay2 (F := Ideal) (k0_pay7 a w) (ix2 r d) = z A0 A1 (row r) d := by
  pointwise [k0_pay2]
  exact z2_at A0 A1 A2 A3 row a w g x R r d
/-- The stream's rows. -/
theorem h2_at (r : Fin 256) (d : Fin 1024) : k0_pay1 (F := Ideal) (k0_pay13 x) (k0_pay14 (k0_pay7 a w)) (k0_pay15 g) (ix2 r d) = h A0 A1 A2 A3 (row r) d := by
  refine (show _ = x (ix2 r d) + normE (fun k => k0_pay7 (F := Ideal) a w (ix2 r k)) (fun k => g (ix2 0 k)) d from ?_).trans ?_
  · pointwise [k0_pay1, k0_pay13, k0_pay14, k0_pay15]
    rfl
  · simp only [z2_at A0 A1 A2 A3 row a w g x R, R.g, R.x]
    rfl
/-- The product's rows. -/
theorem z3_at (r : Fin 256) (d : Fin 1024) : k0_pay8 (F := Ideal) a w (ix2 r d) = z A0 A1 (row r) d := by
  pointwise [k0_pay8]
  exact Finset.sum_congr rfl fun k _ => congrArg₂ (· * ·) (R.a r k) (R.w k d)
/-- As they are stored. -/
theorem sz3_at (r : Fin 256) (d : Fin 1024) : k0_pay4 (F := Ideal) (k0_pay8 a w) (ix2 r d) = z A0 A1 (row r) d := by
  pointwise [k0_pay4]
  exact z3_at A0 A1 A2 A3 row a w g x R r d
/-- The stream's rows. -/
theorem h3_at (r : Fin 256) (d : Fin 1024) : k0_pay3 (F := Ideal) (k0_pay8 a w) x g (ix2 r d) = h A0 A1 A2 A3 (row r) d := by
  refine (show _ = x (ix2 r d) + normE (fun k => k0_pay8 (F := Ideal) a w (ix2 r k)) (fun k => g (ix2 0 k)) d from ?_).trans ?_
  · pointwise [k0_pay3]
    rfl
  · simp only [z3_at A0 A1 A2 A3 row a w g x R, R.g, R.x]
    rfl
end

variable (m : (ℓ : Loc nD τ sig) → Buf (Elt Ideal) ℓ)
/-- The product's left argument. -/
abbrev A0 (c : Dev nD) : FVec Ideal S4096x1024 .bf16 := m ((c : Thread nD τ).loc main_arg0)
/-- The weight. -/
abbrev A1 (c : Dev nD) : FVec Ideal S1024x1024 .bf16 := m ((c : Thread nD τ).loc main_arg1)
/-- The norm's gain. -/
abbrev A2 (c : Dev nD) : FVec Ideal S1x1024 .f32 := m ((c : Thread nD τ).loc main_arg2)
/-- The stream before the block. -/
abbrev A3 (c : Dev nD) : FVec Ideal S4096x1024 .bf16 := m ((c : Thread nD τ).loc main_arg3)

/-- Every window's block index at every grid point. -/
theorem idx_val : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ t.val < 4 :=
  (by decide +kernel : ∀ t : Fin grid0.N, _)
theorem ltN (t : Fin cfg0.N) : t.val < 4 := (idx_val t).2.2.2.2.2.2

/-- The row of a sub-tile. -/
def row (t : Fin cfg0.N) (s : Fin 4) (r : Fin 256) : Fin 4096 := ⟨1024 * t.val + 256 * s.val + r.val, by have := ltN t; omega⟩
/-- The row an array index of a block belongs to. -/
theorem row_eq {t : Fin cfg0.N} {s : Fin 4} {r : Fin 256} {j : Fin 4096} (h : j.val = 1024 * t.val + (256 * s.val + r.val)) : row t s r = j :=
  Fin.ext (by show 1024 * t.val + 256 * s.val + r.val = j.val; omega)

/-- A load of rows 0 to 255. -/
theorem ldx0 (X : Vec Ideal S1024x1024 .bf16) (r : Fin 256) (k : Fin 1024) :
    View.ld (Val := Elt Ideal) (e' := .bf16) X (Rect.unit ![0, 0] ![256, 1024] inb_S1024x1024_S256x1024_0_0) (ix2 r k) = X (ix2 ⟨0 + r.val, by omega⟩ k) := by
  pointwise
/-- A load of rows 256 to 511. -/
theorem ldx1 (X : Vec Ideal S1024x1024 .bf16) (r : Fin 256) (k : Fin 1024) :
    View.ld (Val := Elt Ideal) (e' := .bf16) X (Rect.unit ![256, 0] ![256, 1024] inb_S1024x1024_S256x1024_256_0) (ix2 r k) = X (ix2 ⟨256 + r.val, by omega⟩ k) := by
  pointwise
/-- A load of rows 512 to 767. -/
theorem ldx2 (X : Vec Ideal S1024x1024 .bf16) (r : Fin 256) (k : Fin 1024) :
    View.ld (Val := Elt Ideal) (e' := .bf16) X (Rect.unit ![512, 0] ![256, 1024] inb_S1024x1024_S256x1024_512_0) (ix2 r k) = X (ix2 ⟨512 + r.val, by omega⟩ k) := by
  pointwise
/-- A load of rows 768 to 1023. -/
theorem ldx3 (X : Vec Ideal S1024x1024 .bf16) (r : Fin 256) (k : Fin 1024) :
    View.ld (Val := Elt Ideal) (e' := .bf16) X (Rect.unit ![768, 0] ![256, 1024] inb_S1024x1024_S256x1024_768_0) (ix2 r k) = X (ix2 ⟨768 + r.val, by omega⟩ k) := by
  pointwise
/-- A block of 1024 rows. -/
theorem rd0 (A : FVec Ideal S4096x1024 .bf16) (t : Fin cfg0.N) (r : Fin 1024) (k : Fin 1024) (j : Fin 4096) (hj : j.val = 1024 * t.val + r.val) :
    (((cfg0.win 0).blk t).view.read (Elt Ideal) A) (ix2 r k) = A (ix2 j k) := by
  blk_ext [idx_val t]
/-- A block is the whole array. -/
theorem rd1 (A : FVec Ideal S1024x1024 .bf16) (t : Fin cfg0.N) (d : Fin 1024) (e : Fin 1024) :
    (((cfg0.win 1).blk t).view.read (Elt Ideal) A) (ix2 d e) = A (ix2 d e) := by
  blk_ext [idx_val t]
/-- A block is the whole row. -/
theorem rd2 (A : FVec Ideal S1x1024 .f32) (t : Fin cfg0.N) (d : Fin 1024) :
    (((cfg0.win 2).blk t).view.read (Elt Ideal) A) (ix2 0 d) = A (ix2 0 d) := by
  blk_ext [idx_val t]
/-- A block of 1024 rows. -/
theorem rd3 (A : FVec Ideal S4096x1024 .bf16) (t : Fin cfg0.N) (r : Fin 1024) (k : Fin 1024) (j : Fin 4096) (hj : j.val = 1024 * t.val + r.val) :
    (((cfg0.win 3).blk t).view.read (Elt Ideal) A) (ix2 r k) = A (ix2 j k) := by
  blk_ext [idx_val t]
/-- A sub-tile's loads. -/
theorem reads0 (c : Dev nD) (t : Fin cfg0.N) : Reads (A0 m c) (A1 m c) (A2 m c) (A3 m c) (row t 0)
    (View.ld (iblk m c 0 t) (Rect.unit ![0, 0] ![256, 1024] inb_S1024x1024_S256x1024_0_0)) (iblk m c 1 t) (iblk m c 2 t)
    (View.ld (iblk m c 3 t) (Rect.unit ![0, 0] ![256, 1024] inb_S1024x1024_S256x1024_0_0)) where
  a r d := (ldx0 _ r d).trans (rd0 (A0 m c) t ⟨0 + r.val, _⟩ d _ (Nat.add_assoc _ _ _))
  w k d := rd1 (A1 m c) t k d
  g d := rd2 (A2 m c) t d
  x r d := (ldx0 _ r d).trans (rd3 (A3 m c) t ⟨0 + r.val, _⟩ d _ (Nat.add_assoc _ _ _))
/-- A sub-tile's loads. -/
theorem reads1 (c : Dev nD) (t : Fin cfg0.N) : Reads (A0 m c) (A1 m c) (A2 m c) (A3 m c) (row t 1)
    (View.ld (iblk m c 0 t) (Rect.unit ![256, 0] ![256, 1024] inb_S1024x1024_S256x1024_256_0)) (iblk m c 1 t) (iblk m c 2 t)
    (View.ld (iblk m c 3 t) (Rect.unit ![256, 0] ![256, 1024] inb_S1024x1024_S256x1024_256_0)) where
  a r d := (ldx1 _ r d).trans (rd0 (A0 m c) t ⟨256 + r.val, _⟩ d _ (Nat.add_assoc _ _ _))
  w k d := rd1 (A1 m c) t k d
  g d := rd2 (A2 m c) t d
  x r d := (ldx1 _ r d).trans (rd3 (A3 m c) t ⟨256 + r.val, _⟩ d _ (Nat.add_assoc _ _ _))
/-- A sub-tile's loads. -/
theorem reads2 (c : Dev nD) (t : Fin cfg0.N) : Reads (A0 m c) (A1 m c) (A2 m c) (A3 m c) (row t 2)
    (View.ld (iblk m c 0 t) (Rect.unit ![512, 0] ![256, 1024] inb_S1024x1024_S256x1024_512_0)) (iblk m c 1 t) (iblk m c 2 t)
    (View.ld (iblk m c 3 t) (Rect.unit ![512, 0] ![256, 1024] inb_S1024x1024_S256x1024_512_0)) where
  a r d := (ldx2 _ r d).trans (rd0 (A0 m c) t ⟨512 + r.val, _⟩ d _ (Nat.add_assoc _ _ _))
  w k d := rd1 (A1 m c) t k d
  g d := rd2 (A2 m c) t d
  x r d := (ldx2 _ r d).trans (rd3 (A3 m c) t ⟨512 + r.val, _⟩ d _ (Nat.add_assoc _ _ _))
/-- A sub-tile's loads. -/
theorem reads3 (c : Dev nD) (t : Fin cfg0.N) : Reads (A0 m c) (A1 m c) (A2 m c) (A3 m c) (row t 3)
    (View.ld (iblk m c 0 t) (Rect.unit ![768, 0] ![256, 1024] inb_S1024x1024_S256x1024_768_0)) (iblk m c 1 t) (iblk m c 2 t)
    (View.ld (iblk m c 3 t) (Rect.unit ![768, 0] ![256, 1024] inb_S1024x1024_S256x1024_768_0)) where
  a r d := (ldx3 _ r d).trans (rd0 (A0 m c) t ⟨768 + r.val, _⟩ d _ (Nat.add_assoc _ _ _))
  w k d := rd1 (A1 m c) t k d
  g d := rd2 (A2 m c) t d
  x r d := (ldx3 _ r d).trans (rd3 (A3 m c) t ⟨768 + r.val, _⟩ d _ (Nat.add_assoc _ _ _))
/-- Loads of whole blocks. -/
theorem ldg (X : Vec Ideal S1x1024 .f32) : View.ld (Val := Elt Ideal) (e' := .f32) X r0_5 = X := View.ld_unit_lit' _ X (by decide)
theorem ldw (X : Vec Ideal S1024x1024 .bf16) : View.ld (Val := Elt Ideal) (e' := .bf16) X r0_1 = X := View.ld_unit_lit' _ X (by decide)

/-- What a grid point leaves in window 4 is its block. -/
theorem point4 (c : Dev nD) (t : Fin cfg0.N) (y : S1024x1024.Idx) (i : S4096x1024.Idx) (hi0 : (i 0 : ℕ) = 1024 * t.val + (y 0 : ℕ))
    (hi1 : (i 1 : ℕ) = (y 1 : ℕ)) : out0_4 (F := Ideal) (iblk m c 0 t) (iblk m c 1 t) (iblk m c 2 t) (iblk m c 3 t) y = h (A0 m c) (A1 m c) (A2 m c) (A3 m c) (i 0) (i 1) := by
  frame_out
  canon_tiles x h
  all_goals idx_vars x
  all_goals try simp only [k0_pay16, k0_pay17, k0_pay18, ldg, ldw]
  · exact (h3_at _ _ _ _ _ _ _ _ _ (reads3 m c t) x0 x1).trans (congrArg₂ _ (row_eq (by simp; omega)) (Fin.ext (by omega)))
  · exact (h2_at _ _ _ _ _ _ _ _ _ (reads2 m c t) x0 x1).trans (congrArg₂ _ (row_eq (by simp; omega)) (Fin.ext (by omega)))
  · exact (h1_at _ _ _ _ _ _ _ _ _ (reads1 m c t) x0 x1).trans (congrArg₂ _ (row_eq (by simp; omega)) (Fin.ext (by omega)))
  · exact (h0_at _ _ _ _ _ _ _ _ _ (reads0 m c t) x0 x1).trans (congrArg₂ _ (row_eq (by simp; omega)) (Fin.ext (by omega)))
/-- The array of window 4 after the run. -/
theorem final4 (c : Dev nD) : (dats m 0 c).arrAt 4 (cfgs 0).N = fun i => h (A0 m c) (A1 m c) (A2 m c) (A3 m c) (i 0) (i 1) := by
  refine (dats m 0 c).arrAt_eq_of_covers 4 _ (by decide +kernel) fun t hf y => ?_
  blk_simp; rw [after0_4]
  refine point4 m c t y _ ?_ ?_ <;> blk_simp [idx_val t] <;> try omega

/-- What a grid point leaves in window 5 is its block. -/
theorem point5 (c : Dev nD) (t : Fin cfg0.N) (y : S1024x1024.Idx) (i : S4096x1024.Idx) (hi0 : (i 0 : ℕ) = 1024 * t.val + (y 0 : ℕ))
    (hi1 : (i 1 : ℕ) = (y 1 : ℕ)) : out0_5 (F := Ideal) (iblk m c 0 t) (iblk m c 1 t) (iblk m c 2 t) (iblk m c 3 t) y = z (A0 m c) (A1 m c) (i 0) (i 1) := by
  frame_out
  canon_tiles x h
  all_goals idx_vars x
  all_goals try simp only [k0_pay16, k0_pay17, k0_pay18, ldg, ldw]
  · exact (sz3_at _ _ _ _ _ _ _ _ _ (reads3 m c t) x0 x1).trans (congrArg₂ _ (row_eq (by simp; omega)) (Fin.ext (by omega)))
  · exact (sz2_at _ _ _ _ _ _ _ _ _ (reads2 m c t) x0 x1).trans (congrArg₂ _ (row_eq (by simp; omega)) (Fin.ext (by omega)))
  · exact (sz1_at _ _ _ _ _ _ _ _ _ (reads1 m c t) x0 x1).trans (congrArg₂ _ (row_eq (by simp; omega)) (Fin.ext (by omega)))
  · exact (sz0_at _ _ _ _ _ _ _ _ _ (reads0 m c t) x0 x1).trans (congrArg₂ _ (row_eq (by simp; omega)) (Fin.ext (by omega)))
/-- The array of window 5 after the run. -/
theorem final5 (c : Dev nD) : (dats m 0 c).arrAt 5 (cfgs 0).N = fun i => z (A0 m c) (A1 m c) (i 0) (i 1) := by
  refine (dats m 0 c).arrAt_eq_of_covers 5 _ (by decide +kernel) fun t hf y => ?_
  blk_simp; rw [after0_5]
  refine point5 m c t y _ ?_ ?_ <;> blk_simp [idx_val t] <;> try omega

end Cert.Kernel15Ideal.AttnOutBlock

end

end
-- ==== Proof.AttnOutClaim.lean ====
/- The claims about the output projection of the attention and the norm after it. -/
module

public import proofs.«01_k».proof.Defs
public import proofs.«01_k».proof.Proof.Gen.Kernel15.Frame
public import proofs.«01_k».proof.Proof.Gen.Reference15Ideal.Run
public import proofs.«01_k».proof.Proof.AttnOutBlock

set_option maxRecDepth 16384

@[expose] public section

noncomputable section

open Idealize.ShloMosaic Idealize.SL.Sem

namespace Cert.Proof

set_option maxHeartbeats 2000000 in
/-- The kernel's arrays are the reference's. -/
theorem value_AttnOut : Cert.algebraic_Kernel15Ideal_Reference15Ideal := fun m ρ m' ρ' _ hag =>
  ⟨fun c i => Cert.Kernel15Ideal.AttnOutBlock.h (Cert.Kernel15Ideal.AttnOutBlock.A0 m c) (Cert.Kernel15Ideal.AttnOutBlock.A1 m c) (Cert.Kernel15Ideal.AttnOutBlock.A2 m c) (Cert.Kernel15Ideal.AttnOutBlock.A3 m c) (i 0) (i 1),
    fun c i => Cert.Kernel15Ideal.AttnOutBlock.z (Cert.Kernel15Ideal.AttnOutBlock.A0 m c) (Cert.Kernel15Ideal.AttnOutBlock.A1 m c) (i 0) (i 1),
    (θ_run _ _ _).mono (fun _ h c => ⟨(h c).1.trans (Cert.Kernel15Ideal.AttnOutBlock.final4 m c),
      (h c).2.1.trans (Cert.Kernel15Ideal.AttnOutBlock.final5 m c),
      (h c).2.2⟩) (Cert.Kernel15Ideal.Value.run_blocks m ρ),
    (θ_run _ _ _).mono (fun _ h c => ⟨by
        refine (h c).1.trans ((Cert.Reference15Ideal.Read.val_main_v17_eq ..).trans ?_)
        show Cert.Reference15Ideal.Read.val_main_v17 (F := Ideal) (m' ((c.tc : Thread _ _).loc Cert.Reference15Ideal.main_arg0)) (m' ((c.tc : Thread _ _).loc Cert.Reference15Ideal.main_arg1)) (m' ((c.tc : Thread _ _).loc Cert.Reference15Ideal.main_arg2)) (m' ((c.tc : Thread _ _).loc Cert.Reference15Ideal.main_arg3)) = _
        rw [(hag c).1, (hag c).2.1, (hag c).2.2.1, (hag c).2.2.2]
        funext i
        idx_vars i
        exact Cert.Kernel15Ideal.AttnOutBlock.ref0 _ _ _ _ i0 i1,
      by
        refine (h c).2.1.trans ((Cert.Reference15Ideal.Read.val_main_v18_eq ..).trans ?_)
        show Cert.Reference15Ideal.Read.val_main_v18 (F := Ideal) (m' ((c.tc : Thread _ _).loc Cert.Reference15Ideal.main_arg0)) (m' ((c.tc : Thread _ _).loc Cert.Reference15Ideal.main_arg1)) = _
        rw [(hag c).1, (hag c).2.1]
        funext i
        idx_vars i
        exact Cert.Kernel15Ideal.AttnOutBlock.ref1 _ _ i0 i1,
      (h c).2.2⟩) (Cert.Reference15Ideal.Value.run m' ρ')⟩

/-- The reference runs and leaves its arguments. -/
theorem frame_AttnOutRef : Cert.quiescent_Reference15Ideal := fun m ρ _ =>
  (θ_run Cert.Reference15Ideal.defs _ _).mono (fun r h => ⟨fun c => (h c).2.2,
      sem_eq_zero_of_no_sems (by decide) r.2⟩)
    (Cert.Reference15Ideal.Value.run m ρ)

end Cert.Proof

end

end
-- ==== Proof.DwKvBlock.lean ====
/- The gradient of the key and value weight, block by block and as a whole. -/
module

public import proofs.«01_k».proof.Proof.Gen.Kernel16Ideal.Value
public import proofs.«01_k».proof.Proof.Gen.Reference16Ideal.Read
public import proofs.«01_k».proof.Proof.Finite

set_option maxRecDepth 16384

@[expose] public section

noncomputable section

open Idealize.ShloMosaic Idealize.ShloMosaic.TcCoe Idealize.SL.Sem
open Idealize.ShloMosaic.Pipeline (Dat)

namespace Cert.Kernel16Ideal.DwKvBlock

open Cert.Kernel16Ideal Cert.Kernel16Ideal.Gen
open Cert.Reference16Ideal.Read

variable (m : (ℓ : Loc nD τ sig) → Buf (Elt Ideal) ℓ)

/-- The product's left argument, read by columns. -/
abbrev A0 (c : Dev nD) : FVec Ideal S4096x1024 .bf16 := m ((c : Thread nD τ).loc main_arg0)
/-- The cotangent of the product. -/
abbrev A1 (c : Dev nD) : FVec Ideal S4096x512 .bf16 := m ((c : Thread nD τ).loc main_arg1)

/-- The second window's array at entry. -/
def DB (c : Dev nD) : FVec Ideal S1x4096x512 .bf16 := V m c main_v0
theorem DB_eq (c : Dev nD) : DB m c = broadcastInDim S1x4096x512 ![1, 2] bcast_S4096x512_S1x4096x512_1_2 (A1 m c) := by
  unfold DB V
  after_results
  try rfl
/-- It is the cotangent. -/
theorem DB_at (c : Dev nD) (t : Fin 4096) (f : Fin 512) : DB m c (ix3 0 t f) = A1 m c (ix2 t f) := by
  rw [DB_eq]
  pointwise
  try rfl

/-- The weight's gradient at an index. -/
def dwAt (a : FVec Ideal S4096x1024 .bf16) (b : FVec Ideal S4096x512 .bf16) (d : Fin 1024) (f : Fin 512) : EReal := ∑ t, a (ix2 t d) * b (ix2 t f)

/-- Every window's block index at every grid point. -/
theorem idx_val : ∀ t : Fin cfg0.N, win0_0.index t = ![0, t.val] ∧ win0_1.index t = ![0, 0, 0] ∧ win0_2.index t = ![t.val, 0] ∧ t.val < 4 :=
  (by decide +kernel : ∀ t : Fin grid0.N, _)
theorem ltN (t : Fin cfg0.N) : t.val < 4 := (idx_val t).2.2.2

/-- A block of the first window is 256 columns. -/
theorem rd0 (A : FVec Ideal S4096x1024 .bf16) (t : Fin cfg0.N) (k : Fin 4096) (f : Fin 256) (j : Fin 1024) (hj : j.val = 256 * t.val + f.val) :
    ((cfg0.win 0).blk t).view.read (Elt Ideal) A (ix2 k f) = A (ix2 k j) := by
  blk_ext [idx_val t]
/-- A block of the second window. -/
theorem rd1 (A : FVec Ideal S1x4096x512 .bf16) (t : Fin cfg0.N) (k : Fin 4096) (f : Fin 512) (j : Fin 512) (hj : j.val = f.val) :
    ((cfg0.win 1).blk t).view.read (Elt Ideal) A (ix3 0 k f) = A (ix3 0 k j) := by
  blk_ext [idx_val t]

/-- What a grid point leaves is its block of the gradient. -/
theorem point2 (c : Dev nD) (t : Fin cfg0.N) (y : S256x512.Idx) (i : S1024x512.Idx) (hi0 : (i 0 : ℕ) = 256 * t.val + (y 0 : ℕ)) (hi1 : (i 1 : ℕ) = (y 1 : ℕ)) :
    out0_2 (F := Ideal) (iblk m c 0 t) (iblk m c 1 t) y = dwAt (A0 m c) (A1 m c) (i 0) (i 1) := by
  have ht := ltN t
  frame_out
  idx_vars y
  pointwise [k0_pay1]
  exact Finset.sum_congr rfl fun k _ => congrArg₂ (· * ·) (rd0 (A0 m c) t k y0 (i 0) hi0) ((rd1 (DB m c) t k y1 (i 1) hi1).trans (DB_at m c k (i 1)))

/-- The weight's gradient after the run. -/
theorem final2 (c : Dev nD) : (dats m 0 c).arrAt 2 (cfgs 0).N = fun i => dwAt (A0 m c) (A1 m c) (i 0) (i 1) := by
  refine (dats m 0 c).arrAt_eq_of_covers 2 _ (by decide +kernel) fun t hf y => ?_
  blk_simp; rw [after0_2]
  refine point2 m c t y _ ?_ ?_ <;> blk_simp [idx_val t] <;> try omega

/-- The reference's result at an index. -/
theorem ref_at (a : FVec Ideal S4096x1024 .bf16) (b : FVec Ideal S4096x512 .bf16) (d : Fin 1024) (f : Fin 512) :
    val_main_v6 (F := Ideal) a b (ix2 d f) = dwAt a b d f := by
  unfold dwAt
  pointwise [val_main_v6, val_main_v5, val_main_v4, val_main_v3, val_main_v1]
  exact Finset.sum_congr rfl fun t _ => mul_comm _ _

end Cert.Kernel16Ideal.DwKvBlock

end

end
-- ==== Proof.DwKvClaim.lean ====
/- The claims about the gradient of the key and value weight. -/
module

public import proofs.«01_k».proof.Defs
public import proofs.«01_k».proof.Proof.Gen.Kernel16.Frame
public import proofs.«01_k».proof.Proof.Gen.Reference16Ideal.Run
public import proofs.«01_k».proof.Proof.DwKvBlock

set_option maxRecDepth 16384

@[expose] public section

noncomputable section

open Idealize.ShloMosaic Idealize.SL.Sem

namespace Cert.Proof

set_option maxHeartbeats 2000000 in
/-- The kernel's arrays are the reference's. -/
theorem value_DwKv : Cert.algebraic_Kernel16Ideal_Reference16Ideal := fun m ρ m' ρ' _ hag =>
  ⟨fun c i => Cert.Kernel16Ideal.DwKvBlock.dwAt (Cert.Kernel16Ideal.DwKvBlock.A0 m c) (Cert.Kernel16Ideal.DwKvBlock.A1 m c) (i 0) (i 1),
    (θ_run _ _ _).mono (fun _ h c => ⟨(h c).1.trans (Cert.Kernel16Ideal.DwKvBlock.final2 m c),
      (h c).2⟩) (Cert.Kernel16Ideal.Value.run_blocks m ρ),
    (θ_run _ _ _).mono (fun _ h c => ⟨by
        refine (h c).1.trans ((Cert.Reference16Ideal.Read.val_main_v6_eq ..).trans ?_)
        show Cert.Reference16Ideal.Read.val_main_v6 (F := Ideal) (m' ((c.tc : Thread _ _).loc Cert.Reference16Ideal.main_arg0)) (m' ((c.tc : Thread _ _).loc Cert.Reference16Ideal.main_arg1)) = _
        rw [(hag c).1, (hag c).2]
        funext i
        idx_vars i
        exact Cert.Kernel16Ideal.DwKvBlock.ref_at _ _ i0 i1,
      (h c).2⟩) (Cert.Reference16Ideal.Value.run m' ρ')⟩

/-- The reference runs and leaves its arguments. -/
theorem frame_DwKvRef : Cert.quiescent_Reference16Ideal := fun m ρ _ =>
  (θ_run Cert.Reference16Ideal.defs _ _).mono (fun r h => ⟨fun c => (h c).2,
      sem_eq_zero_of_no_sems (by decide) r.2⟩)
    (Cert.Reference16Ideal.Value.run m ρ)

end Cert.Proof

end

end
-- ==== Proof.AttnSpec.lean ====
/- Sliding-window attention with a sink, over the extended reals: the rotation of a head, one row of scores, its softmax and the weighted sum of the
   values, as a kernel computes them (a quotient once a row, masked keys at weight zero) and as the reference does. -/
module

public import proofs.«01_k».proof.Proof.Finite

@[expose] public section

noncomputable section

open Idealize.ShloMosaic

namespace Attn

open Finite

/-- The rotation of a head's first sixteen features, in pairs eight apart, at one position. -/
def rot (cs sn : Fin 8 → EReal) (x : Fin 64 → EReal) (d : Fin 64) : EReal :=
  if h : d.val < 8 then x d * cs ⟨d.val, h⟩ - x ⟨d.val + 8, by omega⟩ * sn ⟨d.val, h⟩
  else if h2 : d.val < 16 then x d * cs ⟨d.val - 8, by omega⟩ + x ⟨d.val - 8, by omega⟩ * sn ⟨d.val - 8, by omega⟩
  else x d

/-- A rotation of real features by real factors is real. -/
theorem rot_real {cs sn : Fin 8 → EReal} {x : Fin 64 → EReal} (hc : ∀ i, IsReal (cs i)) (hs : ∀ i, IsReal (sn i)) (hx : ∀ i, IsReal (x i)) (d : Fin 64) :
    IsReal (rot cs sn x d) := by
  unfold rot
  split
  · exact ((hx _).mul (hc _)).sub ((hx _).mul (hs _))
  · split
    · exact ((hx _).mul (hc _)).add ((hx _).mul (hs _))
    · exact hx _

/-- The rotation as three products: the features times a factor, plus the features eight after and eight before times factors that are zero but where
    the pair needs them. -/
theorem rot_three {cs sn : Fin 8 → EReal} {x : Fin 64 → EReal} (T0 T1 T2 : Fin 64 → EReal) (d : Fin 64)
    (h0 : ∀ h : d.val < 8, T0 d = cs ⟨d.val, h⟩ ∧ T1 d = -sn ⟨d.val, h⟩ ∧ T2 d = 0)
    (h1 : ∀ (_ : 8 ≤ d.val) (h : d.val < 16), T0 d = cs ⟨d.val - 8, by omega⟩ ∧ T1 d = 0 ∧ T2 d = sn ⟨d.val - 8, by omega⟩)
    (h2 : 16 ≤ d.val → T0 d = 1 ∧ T1 d = 0 ∧ T2 d = 0) :
    x d * T0 d + x ⟨(d.val + 8) % 64, Nat.mod_lt _ (by decide)⟩ * T1 d + x ⟨(d.val + 56) % 64, Nat.mod_lt _ (by decide)⟩ * T2 d = rot cs sn x d := by
  unfold rot
  split
  · rename_i h
    obtain ⟨e0, e1, e2⟩ := h0 h
    rw [e0, e1, e2, mul_zero, add_zero, mul_neg, ← sub_eq_add_neg]
    have e : (⟨(d.val + 8) % 64, Nat.mod_lt _ (by decide)⟩ : Fin 64) = ⟨d.val + 8, by omega⟩ := Fin.ext (by dsimp only; omega)
    rw [e]
  · rename_i h
    split
    · rename_i hh
      obtain ⟨e0, e1, e2⟩ := h1 (by omega) hh
      rw [e0, e1, e2, mul_zero, add_zero]
      have e : (⟨(d.val + 56) % 64, Nat.mod_lt _ (by decide)⟩ : Fin 64) = ⟨d.val - 8, by omega⟩ := Fin.ext (by dsimp only; omega)
      rw [e]
    · obtain ⟨e0, e1, e2⟩ := h2 (by omega)
      rw [e0, e1, e2, mul_one, mul_zero, mul_zero, add_zero, add_zero]

/-- The maximum of a row of scores and the sink. -/
def mx (s : Fin 256 → EReal) (k : EReal) : EReal := max (Finset.univ.fold max ⊥ s) k
/-- A key's weight before the quotient. -/
def wt (s : Fin 256 → EReal) (k : EReal) (j : Fin 256) : EReal := Ideal.exp (s j - mx s k)
/-- The sum of a row's weights and the sink's. -/
def den (s : Fin 256 → EReal) (k : EReal) : EReal := (∑ j, wt s k j) + Ideal.exp (k - mx s k)
/-- Its reciprocal. -/
def inv (s : Fin 256 → EReal) (k : EReal) : EReal := Ideal.div 1 (den s k)
/-- The weighted sum of the values. -/
def out (s : Fin 256 → EReal) (k : EReal) (v : Fin 256 → EReal) : EReal := (∑ j, v j * wt s k j) * inv s k

/-- A row of scores with the sink at its end. -/
def ext (s : Fin 256 → EReal) (k : EReal) (j : Fin 257) : EReal := if h : j.val < 256 then s ⟨j.val, h⟩ else k

/-- The maximum over the longer row. -/
theorem fold_ext (s : Fin 256 → EReal) (k : EReal) : Finset.univ.fold max ⊥ (ext s k) = mx s k := by
  have hb : ∀ {n : ℕ} (f : Fin n → EReal), Finset.univ.fold max ⊥ f = Finset.univ.sup f := fun f => rfl
  unfold mx
  rw [hb, hb]
  apply le_antisymm
  · refine Finset.sup_le fun j _ => ?_
    unfold ext
    split
    · exact le_max_of_le_left (Finset.le_sup (f := s) (Finset.mem_univ _))
    · exact le_max_right _ _
  · refine max_le (Finset.sup_le fun j _ => ?_) ?_
    · have e : s j = ext s k ⟨j.val, by omega⟩ := by unfold ext; rw [dif_pos j.isLt]
      rw [e]
      exact Finset.le_sup (f := ext s k) (Finset.mem_univ _)
    · have e : k = ext s k ⟨256, by omega⟩ := by unfold ext; rw [dif_neg (by dsimp only; omega)]
      conv_lhs => rw [e]
      exact Finset.le_sup (f := ext s k) (Finset.mem_univ _)

/-- A sum over the longer row. -/
theorem sum_ext (s : Fin 256 → EReal) (k : EReal) (g : EReal → EReal) : (∑ j, g (ext s k j)) = (∑ j, g (s j)) + g k := by
  rw [Fin.sum_univ_castSucc]
  refine congrArg₂ (· + ·) (Finset.sum_congr rfl fun j _ => congrArg g ?_) (congrArg g ?_)
  · unfold ext
    rw [dif_pos (by show j.val < 256; omega)]
    rfl
  · unfold ext
    rw [dif_neg (by show ¬ (256 < 256); omega)]

/-- The reference's sum of weights. -/
theorem den_ext (s : Fin 256 → EReal) (k : EReal) : (∑ j, Ideal.exp (ext s k j - mx s k)) = den s k :=
  sum_ext s k fun x => Ideal.exp (x - mx s k)

section
variable {s : Fin 256 → EReal} {k : EReal} (hs : ∀ j, s j = ⊥ ∨ IsReal (s j)) (hk : IsReal k)
include hs hk

/-- The maximum is real. -/
theorem mx_real : IsReal (mx s k) := by
  have hlt : mx s k < ⊤ := by
    unfold mx
    refine max_lt ?_ ?_
    · show Finset.univ.sup s < ⊤
      rw [Finset.sup_lt_iff (by exact bot_lt_top)]
      intro j _
      rcases hs j with e | ⟨r, e⟩
      · rw [e]; exact bot_lt_top
      · rw [e]; exact EReal.coe_lt_top r
    · obtain ⟨r, e⟩ := hk; rw [e]; exact EReal.coe_lt_top r
  have hgt : ⊥ < mx s k := by
    refine lt_of_lt_of_le ?_ (le_max_right _ _)
    obtain ⟨r, e⟩ := hk; rw [e]; exact EReal.bot_lt_coe r
  exact ⟨(mx s k).toReal, (EReal.coe_toReal hlt.ne hgt.ne').symm⟩

/-- A weight is a real number that is not negative. -/
theorem wt_real (j : Fin 256) : ∃ r : ℝ, 0 ≤ r ∧ wt s k j = (r : EReal) := by
  obtain ⟨μ, hμ⟩ := mx_real hs hk
  unfold wt
  rw [hμ]
  rcases hs j with e | ⟨r, e⟩
  · refine ⟨0, le_refl _, ?_⟩
    rw [e, EReal.bot_sub]
    rfl
  · refine ⟨Real.exp (r - μ), (Real.exp_pos _).le, ?_⟩
    rw [e, ← EReal.coe_sub]
    rfl

/-- A masked key has weight zero. -/
theorem wt_zero {j : Fin 256} (e : s j = ⊥) : wt s k j = 0 := by
  unfold wt
  rw [e, EReal.bot_sub]
  rfl

/-- The sum of the weights is a positive real number. -/
theorem den_real : ∃ r : ℝ, 0 < r ∧ den s k = (r : EReal) := by
  obtain ⟨μ, hμ⟩ := mx_real hs hk
  obtain ⟨κ, hκ⟩ := hk
  have hk' : IsReal k := ⟨κ, hκ⟩
  choose r hr e using wt_real hs hk'
  refine ⟨(∑ j, r j) + Real.exp (κ - μ), add_pos_of_nonneg_of_pos (Finset.sum_nonneg fun j _ => hr j) (Real.exp_pos _), ?_⟩
  unfold den
  rw [hμ, hκ, ← EReal.coe_sub]
  refine Eq.trans (congrArg (· + _) ((Finset.sum_congr rfl fun j _ => e j |> (hκ ▸ ·)).trans (coe_sum r))) ?_
  exact (EReal.coe_add _ _).symm

/-- The weighted sum with a quotient taken key by key: what it equals where the values are real, or anything under a mask. -/
theorem out_ref {v v' : Fin 256 → EReal} (hv : ∀ j, IsReal (v j)) (he : ∀ j, s j ≠ ⊥ → v' j = v j) (h0 : ∀ j, IsReal (v' j)) :
    (∑ j, v' j * Ideal.div (wt s k j) (den s k)) = out s k v := by
  obtain ⟨S, hS, eS⟩ := den_real hs hk
  choose w hw ew using wt_real hs hk
  choose r er using hv
  have hdiv : ∀ x : ℝ, Ideal.div (x : EReal) (S : EReal) = ((x * S⁻¹ : ℝ) : EReal) := by
    intro x
    unfold Ideal.div
    rw [if_neg (by exact_mod_cast hS.ne'), ← EReal.coe_inv, ← EReal.coe_mul]
  have e1 : ∀ j, v' j * Ideal.div (wt s k j) (den s k) = ((r j * w j * S⁻¹ : ℝ) : EReal) := by
    intro j
    by_cases hj : s j = ⊥
    · have hz : w j = 0 := by
        have := (ew j).symm.trans (wt_zero hs hk hj)
        exact_mod_cast this
      obtain ⟨q, hq⟩ := h0 j
      rw [ew j, eS, hdiv, hq, ← EReal.coe_mul, hz]
      norm_num
    · rw [he j hj, ew j, eS, hdiv, er j, ← EReal.coe_mul, mul_assoc]
  have e2 : inv s k = ((S⁻¹ : ℝ) : EReal) := by
    unfold inv
    rw [eS]
    have := hdiv 1
    rw [EReal.coe_one, one_mul] at this
    exact this
  unfold out
  rw [e2, Finset.sum_congr rfl fun j _ => e1 j]
  have e3 : (∑ j, v j * wt s k j) = ((∑ j, r j * w j : ℝ) : EReal) := by
    rw [← coe_sum]
    exact Finset.sum_congr rfl fun j _ => by rw [er j, ew j, EReal.coe_mul]
  rw [e3, coe_sum, ← EReal.coe_mul, Finset.sum_mul]
end

end Attn
-- ==== Proof.AttnTile.lean ====
/- Attention forward: the kernel's vectors as a few functions of the loaded blocks, each read at an index. -/
module

public import proofs.«01_k».proof.Proof.Gen.Kernel17Ideal.Value
public import proofs.«01_k».proof.Proof.AttnSpec

set_option maxRecDepth 65536

@[expose] public section

noncomputable section

open Idealize.ShloMosaic Idealize.ShloMosaic.TcCoe Idealize.SL.Sem

namespace Cert.Kernel17Ideal.AttnTile

open Cert.Kernel17Ideal Cert.Kernel17Ideal.Gen

/-- The rotation of a head of keys, by three products. -/
def ropeK (X : FVec Ideal S64x256 .f32) (tab : FVec Ideal S3x64x256 .f32) : FVec Ideal S64x256 .bf16 :=
  truncf .bf16 (addf (addf (mulf X (shapeCast S64x256 (extractStridedSlice S1x64x256 ![0, 0, 0] tab slices_S3x64x256_o0_0_0_S1x64x256) shapeCasts_S1x64x256_S64x256))
    (mulf (dynamicRotate 0 56#32 none X rotates_S64x256_d0) (shapeCast S64x256 (extractStridedSlice S1x64x256 ![1, 0, 0] tab slices_S3x64x256_o1_0_0_S1x64x256) shapeCasts_S1x64x256_S64x256)))
    (mulf (dynamicRotate 0 8#32 none X rotates_S64x256_d0) (shapeCast S64x256 (extractStridedSlice S1x64x256 ![2, 0, 0] tab slices_S3x64x256_o2_0_0_S1x64x256) shapeCasts_S1x64x256_S64x256))) bitsLt_bf16_f32

/-- The rotation of a head of queries, by three products, and its scaling. -/
def ropeQ (X : FVec Ideal S64x128 .f32) (tab : FVec Ideal S3x64x128 .f32) : FVec Ideal S64x128 .f32 :=
  mulf (addf (addf (mulf X (shapeCast S64x128 (extractStridedSlice S1x64x128 ![0, 0, 0] tab slices_S3x64x128_o0_0_0_S1x64x128) shapeCasts_S1x64x128_S64x128))
    (mulf (dynamicRotate 0 56#32 none X rotates_S64x128_d0) (shapeCast S64x128 (extractStridedSlice S1x64x128 ![1, 0, 0] tab slices_S3x64x128_o1_0_0_S1x64x128) shapeCasts_S1x64x128_S64x128)))
    (mulf (dynamicRotate 0 8#32 none X rotates_S64x128_d0) (shapeCast S64x128 (extractStridedSlice S1x64x128 ![2, 0, 0] tab slices_S3x64x128_o2_0_0_S1x64x128) shapeCasts_S1x64x128_S64x128)))
    (broadcast S64x128 (Scalar.ofBits .f32 0x3E000000#32))

/-- The heads of the keys or of the values. -/
def headK (k : FVec Ideal S256x256 .f32) : Fin 4 → FVec Ideal S64x256 .f32 :=
  ![extractStridedSlice S64x256 ![0, 0] k slices_S256x256_o0_0_S64x256, extractStridedSlice S64x256 ![64, 0] k slices_S256x256_o64_0_S64x256, extractStridedSlice S64x256 ![128, 0] k slices_S256x256_o128_0_S64x256, extractStridedSlice S64x256 ![192, 0] k slices_S256x256_o192_0_S64x256]

/-- The heads of the queries. -/
def headQ (q : FVec Ideal S1024x128 .f32) : Fin 16 → FVec Ideal S64x128 .f32 :=
  ![extractStridedSlice S64x128 ![0, 0] q slices_S1024x128_o0_0_S64x128,
    extractStridedSlice S64x128 ![64, 0] q slices_S1024x128_o64_0_S64x128,
    extractStridedSlice S64x128 ![128, 0] q slices_S1024x128_o128_0_S64x128,
    extractStridedSlice S64x128 ![192, 0] q slices_S1024x128_o192_0_S64x128,
    extractStridedSlice S64x128 ![256, 0] q slices_S1024x128_o256_0_S64x128,
    extractStridedSlice S64x128 ![320, 0] q slices_S1024x128_o320_0_S64x128,
    extractStridedSlice S64x128 ![384, 0] q slices_S1024x128_o384_0_S64x128,
    extractStridedSlice S64x128 ![448, 0] q slices_S1024x128_o448_0_S64x128,
    extractStridedSlice S64x128 ![512, 0] q slices_S1024x128_o512_0_S64x128,
    extractStridedSlice S64x128 ![576, 0] q slices_S1024x128_o576_0_S64x128,
    extractStridedSlice S64x128 ![640, 0] q slices_S1024x128_o640_0_S64x128,
    extractStridedSlice S64x128 ![704, 0] q slices_S1024x128_o704_0_S64x128,
    extractStridedSlice S64x128 ![768, 0] q slices_S1024x128_o768_0_S64x128,
    extractStridedSlice S64x128 ![832, 0] q slices_S1024x128_o832_0_S64x128,
    extractStridedSlice S64x128 ![896, 0] q slices_S1024x128_o896_0_S64x128,
    extractStridedSlice S64x128 ![960, 0] q slices_S1024x128_o960_0_S64x128]

/-- The scores of a group of four heads, side by side. -/
def scores (K : FVec Ideal S64x256 .bf16) (Q : Fin 4 → FVec Ideal S64x128 .f32) : FVec Ideal S256x512 .f32 :=
  matmul dot_S64x256_S64x512_S256x512_0_0_1_1_n_n none K (truncf .bf16 (concatenate S64x512 1 [⟨S64x128, Q 0⟩, ⟨S64x128, Q 1⟩, ⟨S64x128, Q 2⟩, ⟨S64x128, Q 3⟩] concatenates_S64x128_S64x128_S64x128_S64x128_S64x512_d1) bitsLt_bf16_f32)
    (constant S256x512 .f32 0x00000000#32)

/-- The sinks of a group of four heads, side by side. -/
def sinkRow (s : Fin 4 → EReal) : FVec Ideal S1x512 .f32 := k0_pay50 (F := Ideal) k0_pay47 (k0_pay48 (F := Ideal)) k0_pay49 (s 0) (s 1) (s 2) (s 3)

/-- The masked scores. -/
def masked (M : IVec S256x512 1) (S : FVec Ideal S256x512 .f32) : FVec Ideal S256x512 .bf16 :=
  select M (truncf .bf16 S bitsLt_bf16_f32) (broadcast S256x512 (Scalar.truncf .bf16 bitsLt_bf16_f32 (Named.named κ "mask" 0xF149F2CA#32)))

/-- The row maximum, the sink's score among them. -/
def rowMax (M : IVec S256x512 1) (S : FVec Ideal S256x512 .f32) (s : FVec Ideal S1x512 .f32) : FVec Ideal S1x512 .bf16 :=
  truncf .bf16 (maximumf (extf .f32 (shapeCast S1x512 (multiReduction .maximumf [0] S512 (masked M S) 0xFF80#16 reduces_S256x512_S512 (.inr rfl) rfl) shapeCasts_S512_S1x512) bitsLt_bf16_f32) s) bitsLt_bf16_f32

/-- The weights before the quotient. -/
def weights (M : IVec S256x512 1) (S : FVec Ideal S256x512 .f32) (s : FVec Ideal S1x512 .f32) : FVec Ideal S256x512 .bf16 :=
  exp (subf (masked M S) (broadcastTo S256x512 (rowMax M S s) broadcasts_S1x512_S256x512))

/-- The row maximum in full width. -/
def rowMaxF (M : IVec S256x512 1) (S : FVec Ideal S256x512 .f32) (s : FVec Ideal S1x512 .f32) : FVec Ideal S1x512 .f32 := extf .f32 (rowMax M S s) bitsLt_bf16_f32

/-- The reciprocal of the sum of the weights. -/
def rowInv (M : IVec S256x512 1) (S : FVec Ideal S256x512 .f32) (s : FVec Ideal S1x512 .f32) : FVec Ideal S1x512 .f32 :=
  divf (broadcast S1x512 (Scalar.ofBits .f32 0x3F800000#32))
    (addf (extractStridedSlice S1x512 ![0, 0] (matmul dot_S8x256_S256x512_S8x512_1_0_0_1_n_n none (broadcast S8x256 (Scalar.ofBits .bf16 0x3F80#16)) (weights M S s) (constant S8x512 .f32 0x00000000#32)) slices_S8x512_o0_0_S1x512)
      (exp (subf s (rowMaxF M S s))))

/-- The weighted values of a group of four heads. -/
def weighted (v : FVec Ideal S64x256 .f32) (E : FVec Ideal S256x512 .bf16) (I : FVec Ideal S1x512 .f32) : FVec Ideal S64x512 .f32 :=
  mulf (matmul dot_S64x256_S256x512_S64x512_1_0_0_1_n_n none (truncf .bf16 v bitsLt_bf16_f32) E (constant S64x512 .f32 0x00000000#32)) (broadcastTo S64x512 I broadcasts_S1x512_S64x512)

/-- The four heads of a group of results. -/
def quarter (X : FVec Ideal S64x512 .f32) : Fin 4 → FVec Ideal S64x128 .f32 :=
  ![extractStridedSlice S64x128 ![0, 0] X slices_S64x512_o0_0_S64x128, extractStridedSlice S64x128 ![0, 128] X slices_S64x512_o0_128_S64x128, extractStridedSlice S64x128 ![0, 256] X slices_S64x512_o0_256_S64x128, extractStridedSlice S64x128 ![0, 384] X slices_S64x512_o0_384_S64x128]
/-- The four heads of a group of statistics. -/
def quarterRow (X : FVec Ideal S1x512 .f32) : Fin 4 → FVec Ideal S1x128 .f32 :=
  ![extractStridedSlice S1x128 ![0, 0] X slices_S1x512_o0_0_S1x128, extractStridedSlice S1x128 ![0, 128] X slices_S1x512_o0_128_S1x128, extractStridedSlice S1x128 ![0, 256] X slices_S1x512_o0_256_S1x128, extractStridedSlice S1x128 ![0, 384] X slices_S1x512_o0_384_S1x128]

/-- All heads' results, a position to a row. -/
def assemble (p : Fin 16 → FVec Ideal S64x128 .f32) : FVec Ideal S128x1024 .bf16 :=
  truncf .bf16 (transpose S128x1024 [1, 0] (concatenate S1024x128 0 [⟨S64x128, p 0⟩, ⟨S64x128, p 1⟩, ⟨S64x128, p 2⟩, ⟨S64x128, p 3⟩, ⟨S64x128, p 4⟩, ⟨S64x128, p 5⟩, ⟨S64x128, p 6⟩, ⟨S64x128, p 7⟩, ⟨S64x128, p 8⟩, ⟨S64x128, p 9⟩, ⟨S64x128, p 10⟩, ⟨S64x128, p 11⟩, ⟨S64x128, p 12⟩, ⟨S64x128, p 13⟩, ⟨S64x128, p 14⟩, ⟨S64x128, p 15⟩] concatenates_S64x128_S64x128_S64x128_S64x128_S64x128_S64x128_S64x128_S64x128_S64x128_S64x128_S64x128_S64x128_S64x128_S64x128_S64x128_S64x128_S1024x128_d0) transposes_S1024x128_p1_0_S128x1024) bitsLt_bf16_f32
/-- All heads' statistics, a head to a row. -/
def assembleRow (p : Fin 16 → FVec Ideal S1x128 .f32) : FVec Ideal S16x128 .f32 :=
  concatenate S16x128 0 [⟨S1x128, p 0⟩, ⟨S1x128, p 1⟩, ⟨S1x128, p 2⟩, ⟨S1x128, p 3⟩, ⟨S1x128, p 4⟩, ⟨S1x128, p 5⟩, ⟨S1x128, p 6⟩, ⟨S1x128, p 7⟩, ⟨S1x128, p 8⟩, ⟨S1x128, p 9⟩, ⟨S1x128, p 10⟩, ⟨S1x128, p 11⟩, ⟨S1x128, p 12⟩, ⟨S1x128, p 13⟩, ⟨S1x128, p 14⟩, ⟨S1x128, p 15⟩] concatenates_S1x128_S1x128_S1x128_S1x128_S1x128_S1x128_S1x128_S1x128_S1x128_S1x128_S1x128_S1x128_S1x128_S1x128_S1x128_S1x128_S16x128_d0

section
variable (i : grid0.Coords) (x0 : Vec Ideal S128x1024 .bf16) (x1 x2 x3 x4 : Vec Ideal S128x256 .bf16) (x5 x6 : Vec Ideal S3x64x128 .f32) (s : Fin 16 → EReal)

/-- The scores of group `j`. -/
def S (j : Fin 4) : FVec Ideal S256x512 .f32 :=
  scores (ropeK (headK (k0_pay4 (F := Ideal) x1 x2) j) (k0_pay7 (F := Ideal) x6 x5)) fun a => ropeQ (headQ (k0_pay6 (F := Ideal) x0) ⟨4 * j.val + a.val, by omega⟩) (k0_pay3 (F := Ideal) x6)
/-- The sinks of group `j`. -/
def K (j : Fin 4) : FVec Ideal S1x512 .f32 := sinkRow fun a => s ⟨4 * j.val + a.val, by omega⟩
/-- The weights of group `j`. -/
def E (j : Fin 4) : FVec Ideal S256x512 .bf16 := weights (k0_pay2 i) (S x0 x1 x2 x5 x6 j) (K s j)
/-- The row maxima of group `j`. -/
def R (j : Fin 4) : FVec Ideal S1x512 .f32 := rowMaxF (k0_pay2 i) (S x0 x1 x2 x5 x6 j) (K s j)
/-- The reciprocals of group `j`. -/
def I (j : Fin 4) : FVec Ideal S1x512 .f32 := rowInv (k0_pay2 i) (S x0 x1 x2 x5 x6 j) (K s j)
/-- The results of group `j`. -/
def W (j : Fin 4) : FVec Ideal S64x512 .f32 := weighted (headK (k0_pay5 (F := Ideal) x3 x4) j) (E i x0 x1 x2 x5 x6 s j) (I i x0 x1 x2 x5 x6 s j)

/-- The results, assembled. -/
def O8 : FVec Ideal S128x1024 .bf16 := assemble ![quarter (W i x0 x1 x2 x3 x4 x5 x6 s 0) 0, quarter (W i x0 x1 x2 x3 x4 x5 x6 s 0) 1, quarter (W i x0 x1 x2 x3 x4 x5 x6 s 0) 2, quarter (W i x0 x1 x2 x3 x4 x5 x6 s 0) 3, quarter (W i x0 x1 x2 x3 x4 x5 x6 s 1) 0, quarter (W i x0 x1 x2 x3 x4 x5 x6 s 1) 1, quarter (W i x0 x1 x2 x3 x4 x5 x6 s 1) 2, quarter (W i x0 x1 x2 x3 x4 x5 x6 s 1) 3, quarter (W i x0 x1 x2 x3 x4 x5 x6 s 2) 0, quarter (W i x0 x1 x2 x3 x4 x5 x6 s 2) 1, quarter (W i x0 x1 x2 x3 x4 x5 x6 s 2) 2, quarter (W i x0 x1 x2 x3 x4 x5 x6 s 2) 3, quarter (W i x0 x1 x2 x3 x4 x5 x6 s 3) 0, quarter (W i x0 x1 x2 x3 x4 x5 x6 s 3) 1, quarter (W i x0 x1 x2 x3 x4 x5 x6 s 3) 2, quarter (W i x0 x1 x2 x3 x4 x5 x6 s 3) 3]
/-- The maxima, assembled. -/
def O90 : FVec Ideal S16x128 .f32 := assembleRow ![quarterRow (R i x0 x1 x2 x5 x6 s 0) 0, quarterRow (R i x0 x1 x2 x5 x6 s 0) 1, quarterRow (R i x0 x1 x2 x5 x6 s 0) 2, quarterRow (R i x0 x1 x2 x5 x6 s 0) 3, quarterRow (R i x0 x1 x2 x5 x6 s 1) 0, quarterRow (R i x0 x1 x2 x5 x6 s 1) 1, quarterRow (R i x0 x1 x2 x5 x6 s 1) 2, quarterRow (R i x0 x1 x2 x5 x6 s 1) 3, quarterRow (R i x0 x1 x2 x5 x6 s 2) 0, quarterRow (R i x0 x1 x2 x5 x6 s 2) 1, quarterRow (R i x0 x1 x2 x5 x6 s 2) 2, quarterRow (R i x0 x1 x2 x5 x6 s 2) 3, quarterRow (R i x0 x1 x2 x5 x6 s 3) 0, quarterRow (R i x0 x1 x2 x5 x6 s 3) 1, quarterRow (R i x0 x1 x2 x5 x6 s 3) 2, quarterRow (R i x0 x1 x2 x5 x6 s 3) 3]
/-- The reciprocals, assembled. -/
def O91 : FVec Ideal S16x128 .f32 := assembleRow ![quarterRow (I i x0 x1 x2 x5 x6 s 0) 0, quarterRow (I i x0 x1 x2 x5 x6 s 0) 1, quarterRow (I i x0 x1 x2 x5 x6 s 0) 2, quarterRow (I i x0 x1 x2 x5 x6 s 0) 3, quarterRow (I i x0 x1 x2 x5 x6 s 1) 0, quarterRow (I i x0 x1 x2 x5 x6 s 1) 1, quarterRow (I i x0 x1 x2 x5 x6 s 1) 2, quarterRow (I i x0 x1 x2 x5 x6 s 1) 3, quarterRow (I i x0 x1 x2 x5 x6 s 2) 0, quarterRow (I i x0 x1 x2 x5 x6 s 2) 1, quarterRow (I i x0 x1 x2 x5 x6 s 2) 2, quarterRow (I i x0 x1 x2 x5 x6 s 2) 3, quarterRow (I i x0 x1 x2 x5 x6 s 3) 0, quarterRow (I i x0 x1 x2 x5 x6 s 3) 1, quarterRow (I i x0 x1 x2 x5 x6 s 3) 2, quarterRow (I i x0 x1 x2 x5 x6 s 3) 3]
/-- What the kernel stores in its first output. -/
theorem pay8 : (k0_pay100 (F := Ideal) (k0_pay5 (F := Ideal) x3 x4) (k0_pay70 (F := Ideal) (k0_pay2 i) (k0_pay41 (F := Ideal) (k0_pay12 (F := Ideal) (k0_pay4 (F := Ideal) x1 x2) (k0_pay7 (F := Ideal) x6 x5)) (k0_pay37 (F := Ideal) (k0_pay34 (F := Ideal) (k0_pay3 (F := Ideal) x6) (k0_pay6 (F := Ideal) x0)) (k0_pay35 (F := Ideal) (k0_pay6 (F := Ideal) x0)) (k0_pay36 (F := Ideal) (k0_pay3 (F := Ideal) x6))) (k0_pay38 (F := Ideal) (k0_pay3 (F := Ideal) x6) (k0_pay31 (F := Ideal) (k0_pay6 (F := Ideal) x0))) (k0_pay39 (F := Ideal) (k0_pay3 (F := Ideal) x6) (k0_pay32 (F := Ideal) (k0_pay6 (F := Ideal) x0))) (k0_pay40 (F := Ideal) (k0_pay3 (F := Ideal) x6) (k0_pay33 (F := Ideal) (k0_pay6 (F := Ideal) x0)))) (k0_pay66) (s 8) (s 9) (s 10) (s 11)) (k0_pay72 (F := Ideal) (k0_pay2 i) (k0_pay41 (F := Ideal) (k0_pay12 (F := Ideal) (k0_pay4 (F := Ideal) x1 x2) (k0_pay7 (F := Ideal) x6 x5)) (k0_pay37 (F := Ideal) (k0_pay34 (F := Ideal) (k0_pay3 (F := Ideal) x6) (k0_pay6 (F := Ideal) x0)) (k0_pay35 (F := Ideal) (k0_pay6 (F := Ideal) x0)) (k0_pay36 (F := Ideal) (k0_pay3 (F := Ideal) x6))) (k0_pay38 (F := Ideal) (k0_pay3 (F := Ideal) x6) (k0_pay31 (F := Ideal) (k0_pay6 (F := Ideal) x0))) (k0_pay39 (F := Ideal) (k0_pay3 (F := Ideal) x6) (k0_pay32 (F := Ideal) (k0_pay6 (F := Ideal) x0))) (k0_pay40 (F := Ideal) (k0_pay3 (F := Ideal) x6) (k0_pay33 (F := Ideal) (k0_pay6 (F := Ideal) x0)))) (k0_pay66) (s 8) (s 9) (s 10) (s 11)) (k0_pay79 (F := Ideal) (k0_pay2 i) (k0_pay46 (F := Ideal) (k0_pay3 (F := Ideal) x6) (k0_pay17 (F := Ideal) (k0_pay14 (F := Ideal) (k0_pay4 (F := Ideal) x1 x2) (k0_pay7 (F := Ideal) x6 x5)) (k0_pay15 (F := Ideal) (k0_pay4 (F := Ideal) x1 x2)) (k0_pay16 (F := Ideal) (k0_pay7 (F := Ideal) x6 x5))) (k0_pay42 (F := Ideal) (k0_pay6 (F := Ideal) x0)) (k0_pay43 (F := Ideal) (k0_pay3 (F := Ideal) x6) (k0_pay6 (F := Ideal) x0)) (k0_pay44 (F := Ideal) (k0_pay3 (F := Ideal) x6) (k0_pay6 (F := Ideal) x0)) (k0_pay45 (F := Ideal) (k0_pay3 (F := Ideal) x6) (k0_pay6 (F := Ideal) x0)) (Scalar.ofBits .f32 0x3E000000#32)) (k0_pay73) (k0_pay74 (F := Ideal) (s 12) (s 13) (s 14)) (k0_pay75) (s 15)) (k0_pay81 (F := Ideal) (k0_pay2 i) (k0_pay46 (F := Ideal) (k0_pay3 (F := Ideal) x6) (k0_pay17 (F := Ideal) (k0_pay14 (F := Ideal) (k0_pay4 (F := Ideal) x1 x2) (k0_pay7 (F := Ideal) x6 x5)) (k0_pay15 (F := Ideal) (k0_pay4 (F := Ideal) x1 x2)) (k0_pay16 (F := Ideal) (k0_pay7 (F := Ideal) x6 x5))) (k0_pay42 (F := Ideal) (k0_pay6 (F := Ideal) x0)) (k0_pay43 (F := Ideal) (k0_pay3 (F := Ideal) x6) (k0_pay6 (F := Ideal) x0)) (k0_pay44 (F := Ideal) (k0_pay3 (F := Ideal) x6) (k0_pay6 (F := Ideal) x0)) (k0_pay45 (F := Ideal) (k0_pay3 (F := Ideal) x6) (k0_pay6 (F := Ideal) x0)) (Scalar.ofBits .f32 0x3E000000#32)) (k0_pay73) (k0_pay74 (F := Ideal) (s 12) (s 13) (s 14)) (k0_pay75) (s 15)) (k0_pay83 (F := Ideal) (k0_pay5 (F := Ideal) x3 x4) (k0_pay53 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3)) (k0_pay55 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3))) (k0_pay84 (F := Ideal) (k0_pay5 (F := Ideal) x3 x4) (k0_pay53 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3)) (k0_pay55 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3))) (k0_pay85 (F := Ideal) (k0_pay5 (F := Ideal) x3 x4) (k0_pay53 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3)) (k0_pay55 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3))) (k0_pay86 (F := Ideal) (k0_pay5 (F := Ideal) x3 x4) (k0_pay53 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3)) (k0_pay55 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3))) (k0_pay96 (F := Ideal) (k0_pay5 (F := Ideal) x3 x4) (k0_pay63 (F := Ideal) (k0_pay2 i) (k0_pay29 (F := Ideal) (k0_pay3 (F := Ideal) x6) (k0_pay11 (F := Ideal) (k0_pay4 (F := Ideal) x1 x2) (k0_pay7 (F := Ideal) x6 x5)) (k0_pay24 (F := Ideal) (k0_pay6 (F := Ideal) x0)) (k0_pay25 (F := Ideal) (k0_pay6 (F := Ideal) x0)) (k0_pay26 (F := Ideal) (k0_pay3 (F := Ideal) x6) (k0_pay6 (F := Ideal) x0)) (k0_pay27 (F := Ideal) (k0_pay3 (F := Ideal) x6) (k0_pay6 (F := Ideal) x0)) (k0_pay28 (F := Ideal) (k0_pay3 (F := Ideal) x6) (k0_pay6 (F := Ideal) x0))) (k0_pay58 (F := Ideal) (iota .tc S1x512 32 [1] iota_S1x512_d1_w32) (128#32) (k0_pay56) (s 4) (s 5) (s 6)) (k0_pay59 (iota .tc S1x512 32 [1] iota_S1x512_d1_w32) (128#32) (k0_pay56)) (s 7)) (k0_pay65 (F := Ideal) (k0_pay2 i) (k0_pay29 (F := Ideal) (k0_pay3 (F := Ideal) x6) (k0_pay11 (F := Ideal) (k0_pay4 (F := Ideal) x1 x2) (k0_pay7 (F := Ideal) x6 x5)) (k0_pay24 (F := Ideal) (k0_pay6 (F := Ideal) x0)) (k0_pay25 (F := Ideal) (k0_pay6 (F := Ideal) x0)) (k0_pay26 (F := Ideal) (k0_pay3 (F := Ideal) x6) (k0_pay6 (F := Ideal) x0)) (k0_pay27 (F := Ideal) (k0_pay3 (F := Ideal) x6) (k0_pay6 (F := Ideal) x0)) (k0_pay28 (F := Ideal) (k0_pay3 (F := Ideal) x6) (k0_pay6 (F := Ideal) x0))) (k0_pay58 (F := Ideal) (iota .tc S1x512 32 [1] iota_S1x512_d1_w32) (128#32) (k0_pay56) (s 4) (s 5) (s 6)) (k0_pay59 (iota .tc S1x512 32 [1] iota_S1x512_d1_w32) (128#32) (k0_pay56)) (s 7))) (k0_pay97 (F := Ideal) (k0_pay5 (F := Ideal) x3 x4) (k0_pay63 (F := Ideal) (k0_pay2 i) (k0_pay29 (F := Ideal) (k0_pay3 (F := Ideal) x6) (k0_pay11 (F := Ideal) (k0_pay4 (F := Ideal) x1 x2) (k0_pay7 (F := Ideal) x6 x5)) (k0_pay24 (F := Ideal) (k0_pay6 (F := Ideal) x0)) (k0_pay25 (F := Ideal) (k0_pay6 (F := Ideal) x0)) (k0_pay26 (F := Ideal) (k0_pay3 (F := Ideal) x6) (k0_pay6 (F := Ideal) x0)) (k0_pay27 (F := Ideal) (k0_pay3 (F := Ideal) x6) (k0_pay6 (F := Ideal) x0)) (k0_pay28 (F := Ideal) (k0_pay3 (F := Ideal) x6) (k0_pay6 (F := Ideal) x0))) (k0_pay58 (F := Ideal) (iota .tc S1x512 32 [1] iota_S1x512_d1_w32) (128#32) (k0_pay56) (s 4) (s 5) (s 6)) (k0_pay59 (iota .tc S1x512 32 [1] iota_S1x512_d1_w32) (128#32) (k0_pay56)) (s 7)) (k0_pay65 (F := Ideal) (k0_pay2 i) (k0_pay29 (F := Ideal) (k0_pay3 (F := Ideal) x6) (k0_pay11 (F := Ideal) (k0_pay4 (F := Ideal) x1 x2) (k0_pay7 (F := Ideal) x6 x5)) (k0_pay24 (F := Ideal) (k0_pay6 (F := Ideal) x0)) (k0_pay25 (F := Ideal) (k0_pay6 (F := Ideal) x0)) (k0_pay26 (F := Ideal) (k0_pay3 (F := Ideal) x6) (k0_pay6 (F := Ideal) x0)) (k0_pay27 (F := Ideal) (k0_pay3 (F := Ideal) x6) (k0_pay6 (F := Ideal) x0)) (k0_pay28 (F := Ideal) (k0_pay3 (F := Ideal) x6) (k0_pay6 (F := Ideal) x0))) (k0_pay58 (F := Ideal) (iota .tc S1x512 32 [1] iota_S1x512_d1_w32) (128#32) (k0_pay56) (s 4) (s 5) (s 6)) (k0_pay59 (iota .tc S1x512 32 [1] iota_S1x512_d1_w32) (128#32) (k0_pay56)) (s 7))) (k0_pay98 (F := Ideal) (k0_pay5 (F := Ideal) x3 x4) (k0_pay63 (F := Ideal) (k0_pay2 i) (k0_pay29 (F := Ideal) (k0_pay3 (F := Ideal) x6) (k0_pay11 (F := Ideal) (k0_pay4 (F := Ideal) x1 x2) (k0_pay7 (F := Ideal) x6 x5)) (k0_pay24 (F := Ideal) (k0_pay6 (F := Ideal) x0)) (k0_pay25 (F := Ideal) (k0_pay6 (F := Ideal) x0)) (k0_pay26 (F := Ideal) (k0_pay3 (F := Ideal) x6) (k0_pay6 (F := Ideal) x0)) (k0_pay27 (F := Ideal) (k0_pay3 (F := Ideal) x6) (k0_pay6 (F := Ideal) x0)) (k0_pay28 (F := Ideal) (k0_pay3 (F := Ideal) x6) (k0_pay6 (F := Ideal) x0))) (k0_pay58 (F := Ideal) (iota .tc S1x512 32 [1] iota_S1x512_d1_w32) (128#32) (k0_pay56) (s 4) (s 5) (s 6)) (k0_pay59 (iota .tc S1x512 32 [1] iota_S1x512_d1_w32) (128#32) (k0_pay56)) (s 7)) (k0_pay65 (F := Ideal) (k0_pay2 i) (k0_pay29 (F := Ideal) (k0_pay3 (F := Ideal) x6) (k0_pay11 (F := Ideal) (k0_pay4 (F := Ideal) x1 x2) (k0_pay7 (F := Ideal) x6 x5)) (k0_pay24 (F := Ideal) (k0_pay6 (F := Ideal) x0)) (k0_pay25 (F := Ideal) (k0_pay6 (F := Ideal) x0)) (k0_pay26 (F := Ideal) (k0_pay3 (F := Ideal) x6) (k0_pay6 (F := Ideal) x0)) (k0_pay27 (F := Ideal) (k0_pay3 (F := Ideal) x6) (k0_pay6 (F := Ideal) x0)) (k0_pay28 (F := Ideal) (k0_pay3 (F := Ideal) x6) (k0_pay6 (F := Ideal) x0))) (k0_pay58 (F := Ideal) (iota .tc S1x512 32 [1] iota_S1x512_d1_w32) (128#32) (k0_pay56) (s 4) (s 5) (s 6)) (k0_pay59 (iota .tc S1x512 32 [1] iota_S1x512_d1_w32) (128#32) (k0_pay56)) (s 7))) (k0_pay99 (F := Ideal) (k0_pay5 (F := Ideal) x3 x4) (k0_pay63 (F := Ideal) (k0_pay2 i) (k0_pay29 (F := Ideal) (k0_pay3 (F := Ideal) x6) (k0_pay11 (F := Ideal) (k0_pay4 (F := Ideal) x1 x2) (k0_pay7 (F := Ideal) x6 x5)) (k0_pay24 (F := Ideal) (k0_pay6 (F := Ideal) x0)) (k0_pay25 (F := Ideal) (k0_pay6 (F := Ideal) x0)) (k0_pay26 (F := Ideal) (k0_pay3 (F := Ideal) x6) (k0_pay6 (F := Ideal) x0)) (k0_pay27 (F := Ideal) (k0_pay3 (F := Ideal) x6) (k0_pay6 (F := Ideal) x0)) (k0_pay28 (F := Ideal) (k0_pay3 (F := Ideal) x6) (k0_pay6 (F := Ideal) x0))) (k0_pay58 (F := Ideal) (iota .tc S1x512 32 [1] iota_S1x512_d1_w32) (128#32) (k0_pay56) (s 4) (s 5) (s 6)) (k0_pay59 (iota .tc S1x512 32 [1] iota_S1x512_d1_w32) (128#32) (k0_pay56)) (s 7)) (k0_pay65 (F := Ideal) (k0_pay2 i) (k0_pay29 (F := Ideal) (k0_pay3 (F := Ideal) x6) (k0_pay11 (F := Ideal) (k0_pay4 (F := Ideal) x1 x2) (k0_pay7 (F := Ideal) x6 x5)) (k0_pay24 (F := Ideal) (k0_pay6 (F := Ideal) x0)) (k0_pay25 (F := Ideal) (k0_pay6 (F := Ideal) x0)) (k0_pay26 (F := Ideal) (k0_pay3 (F := Ideal) x6) (k0_pay6 (F := Ideal) x0)) (k0_pay27 (F := Ideal) (k0_pay3 (F := Ideal) x6) (k0_pay6 (F := Ideal) x0)) (k0_pay28 (F := Ideal) (k0_pay3 (F := Ideal) x6) (k0_pay6 (F := Ideal) x0))) (k0_pay58 (F := Ideal) (iota .tc S1x512 32 [1] iota_S1x512_d1_w32) (128#32) (k0_pay56) (s 4) (s 5) (s 6)) (k0_pay59 (iota .tc S1x512 32 [1] iota_S1x512_d1_w32) (128#32) (k0_pay56)) (s 7)))) = O8 i x0 x1 x2 x3 x4 x5 x6 s := rfl
/-- What it stores in the first half of its second output. -/
theorem pay90 : (k0_pay101 (F := Ideal) (k0_pay64 (F := Ideal) (k0_pay2 i) (k0_pay29 (F := Ideal) (k0_pay3 (F := Ideal) x6) (k0_pay11 (F := Ideal) (k0_pay4 (F := Ideal) x1 x2) (k0_pay7 (F := Ideal) x6 x5)) (k0_pay24 (F := Ideal) (k0_pay6 (F := Ideal) x0)) (k0_pay25 (F := Ideal) (k0_pay6 (F := Ideal) x0)) (k0_pay26 (F := Ideal) (k0_pay3 (F := Ideal) x6) (k0_pay6 (F := Ideal) x0)) (k0_pay27 (F := Ideal) (k0_pay3 (F := Ideal) x6) (k0_pay6 (F := Ideal) x0)) (k0_pay28 (F := Ideal) (k0_pay3 (F := Ideal) x6) (k0_pay6 (F := Ideal) x0))) (k0_pay58 (F := Ideal) (iota .tc S1x512 32 [1] iota_S1x512_d1_w32) (128#32) (k0_pay56) (s 4) (s 5) (s 6)) (k0_pay59 (iota .tc S1x512 32 [1] iota_S1x512_d1_w32) (128#32) (k0_pay56)) (s 7)) (k0_pay71 (F := Ideal) (k0_pay2 i) (k0_pay41 (F := Ideal) (k0_pay12 (F := Ideal) (k0_pay4 (F := Ideal) x1 x2) (k0_pay7 (F := Ideal) x6 x5)) (k0_pay37 (F := Ideal) (k0_pay34 (F := Ideal) (k0_pay3 (F := Ideal) x6) (k0_pay6 (F := Ideal) x0)) (k0_pay35 (F := Ideal) (k0_pay6 (F := Ideal) x0)) (k0_pay36 (F := Ideal) (k0_pay3 (F := Ideal) x6))) (k0_pay38 (F := Ideal) (k0_pay3 (F := Ideal) x6) (k0_pay31 (F := Ideal) (k0_pay6 (F := Ideal) x0))) (k0_pay39 (F := Ideal) (k0_pay3 (F := Ideal) x6) (k0_pay32 (F := Ideal) (k0_pay6 (F := Ideal) x0))) (k0_pay40 (F := Ideal) (k0_pay3 (F := Ideal) x6) (k0_pay33 (F := Ideal) (k0_pay6 (F := Ideal) x0)))) (k0_pay66) (s 8) (s 9) (s 10) (s 11)) (k0_pay80 (F := Ideal) (k0_pay2 i) (k0_pay46 (F := Ideal) (k0_pay3 (F := Ideal) x6) (k0_pay17 (F := Ideal) (k0_pay14 (F := Ideal) (k0_pay4 (F := Ideal) x1 x2) (k0_pay7 (F := Ideal) x6 x5)) (k0_pay15 (F := Ideal) (k0_pay4 (F := Ideal) x1 x2)) (k0_pay16 (F := Ideal) (k0_pay7 (F := Ideal) x6 x5))) (k0_pay42 (F := Ideal) (k0_pay6 (F := Ideal) x0)) (k0_pay43 (F := Ideal) (k0_pay3 (F := Ideal) x6) (k0_pay6 (F := Ideal) x0)) (k0_pay44 (F := Ideal) (k0_pay3 (F := Ideal) x6) (k0_pay6 (F := Ideal) x0)) (k0_pay45 (F := Ideal) (k0_pay3 (F := Ideal) x6) (k0_pay6 (F := Ideal) x0)) (Scalar.ofBits .f32 0x3E000000#32)) (k0_pay73) (k0_pay74 (F := Ideal) (s 12) (s 13) (s 14)) (k0_pay75) (s 15)) (k0_pay87 (F := Ideal) (k0_pay54 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3))) (k0_pay88 (F := Ideal) (k0_pay54 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3))) (k0_pay89 (F := Ideal) (k0_pay54 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3))) (k0_pay90 (F := Ideal) (k0_pay54 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3)))) = shapeCast S1x16x128 (O90 i x0 x1 x2 x5 x6 s) shapeCasts_S16x128_S1x16x128 := rfl
/-- What it stores in the second half. -/
theorem pay91 : (k0_pay102 (F := Ideal) (k0_pay65 (F := Ideal) (k0_pay2 i) (k0_pay29 (F := Ideal) (k0_pay3 (F := Ideal) x6) (k0_pay11 (F := Ideal) (k0_pay4 (F := Ideal) x1 x2) (k0_pay7 (F := Ideal) x6 x5)) (k0_pay24 (F := Ideal) (k0_pay6 (F := Ideal) x0)) (k0_pay25 (F := Ideal) (k0_pay6 (F := Ideal) x0)) (k0_pay26 (F := Ideal) (k0_pay3 (F := Ideal) x6) (k0_pay6 (F := Ideal) x0)) (k0_pay27 (F := Ideal) (k0_pay3 (F := Ideal) x6) (k0_pay6 (F := Ideal) x0)) (k0_pay28 (F := Ideal) (k0_pay3 (F := Ideal) x6) (k0_pay6 (F := Ideal) x0))) (k0_pay58 (F := Ideal) (iota .tc S1x512 32 [1] iota_S1x512_d1_w32) (128#32) (k0_pay56) (s 4) (s 5) (s 6)) (k0_pay59 (iota .tc S1x512 32 [1] iota_S1x512_d1_w32) (128#32) (k0_pay56)) (s 7)) (k0_pay72 (F := Ideal) (k0_pay2 i) (k0_pay41 (F := Ideal) (k0_pay12 (F := Ideal) (k0_pay4 (F := Ideal) x1 x2) (k0_pay7 (F := Ideal) x6 x5)) (k0_pay37 (F := Ideal) (k0_pay34 (F := Ideal) (k0_pay3 (F := Ideal) x6) (k0_pay6 (F := Ideal) x0)) (k0_pay35 (F := Ideal) (k0_pay6 (F := Ideal) x0)) (k0_pay36 (F := Ideal) (k0_pay3 (F := Ideal) x6))) (k0_pay38 (F := Ideal) (k0_pay3 (F := Ideal) x6) (k0_pay31 (F := Ideal) (k0_pay6 (F := Ideal) x0))) (k0_pay39 (F := Ideal) (k0_pay3 (F := Ideal) x6) (k0_pay32 (F := Ideal) (k0_pay6 (F := Ideal) x0))) (k0_pay40 (F := Ideal) (k0_pay3 (F := Ideal) x6) (k0_pay33 (F := Ideal) (k0_pay6 (F := Ideal) x0)))) (k0_pay66) (s 8) (s 9) (s 10) (s 11)) (k0_pay81 (F := Ideal) (k0_pay2 i) (k0_pay46 (F := Ideal) (k0_pay3 (F := Ideal) x6) (k0_pay17 (F := Ideal) (k0_pay14 (F := Ideal) (k0_pay4 (F := Ideal) x1 x2) (k0_pay7 (F := Ideal) x6 x5)) (k0_pay15 (F := Ideal) (k0_pay4 (F := Ideal) x1 x2)) (k0_pay16 (F := Ideal) (k0_pay7 (F := Ideal) x6 x5))) (k0_pay42 (F := Ideal) (k0_pay6 (F := Ideal) x0)) (k0_pay43 (F := Ideal) (k0_pay3 (F := Ideal) x6) (k0_pay6 (F := Ideal) x0)) (k0_pay44 (F := Ideal) (k0_pay3 (F := Ideal) x6) (k0_pay6 (F := Ideal) x0)) (k0_pay45 (F := Ideal) (k0_pay3 (F := Ideal) x6) (k0_pay6 (F := Ideal) x0)) (Scalar.ofBits .f32 0x3E000000#32)) (k0_pay73) (k0_pay74 (F := Ideal) (s 12) (s 13) (s 14)) (k0_pay75) (s 15)) (k0_pay91 (F := Ideal) (k0_pay55 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3))) (k0_pay92 (F := Ideal) (k0_pay55 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3))) (k0_pay93 (F := Ideal) (k0_pay55 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3))) (k0_pay94 (F := Ideal) (k0_pay55 (F := Ideal) (k0_pay2 i) (k0_pay22 (F := Ideal) (k0_pay3 (F := Ideal) x6) (k0_pay10 (F := Ideal) (k0_pay7 (F := Ideal) x6 x5) (k0_pay8 (F := Ideal) x1 x2) (k0_pay9 (F := Ideal) x6 x1 x2 x5)) (k0_pay18 (F := Ideal) (k0_pay6 (F := Ideal) x0)) (k0_pay19 (F := Ideal) (k0_pay3 (F := Ideal) x6) (k0_pay6 (F := Ideal) x0)) (k0_pay20 (F := Ideal) (k0_pay3 (F := Ideal) x6) (k0_pay6 (F := Ideal) x0)) (k0_pay21 (F := Ideal) (k0_pay3 (F := Ideal) x6) (k0_pay6 (F := Ideal) x0)) (Scalar.ofBits .f32 0x3E000000#32)) (k0_pay47) (k0_pay48 (F := Ideal)) (k0_pay49) (s 0) (s 1) (s 2) (s 3)))) = O91 i x0 x1 x2 x5 x6 s := rfl
end

end Cert.Kernel17Ideal.AttnTile
-- ==== Proof.AttnPoint.lean ====
/- Attention forward: the kernel's vectors read at an index. -/
module

public import proofs.«01_k».proof.Proof.AttnTile

set_option maxRecDepth 65536

@[expose] public section

noncomputable section

open Idealize.ShloMosaic Idealize.ShloMosaic.TcCoe Idealize.SL.Sem

namespace Cert.Kernel17Ideal.AttnTile

open Cert.Kernel17Ideal Cert.Kernel17Ideal.Gen

/-- A rotated head of keys at an index. -/
theorem ropeK_at (X : FVec Ideal S64x256 .f32) (tab : FVec Ideal S3x64x256 .f32) (d : Fin 64) (j : Fin 256) :
    ropeK X tab (ix2 d j) = X (ix2 d j) * tab (ix3 0 d j) + X (ix2 ⟨(d.val + 8) % 64, Nat.mod_lt _ (by decide)⟩ j) * tab (ix3 1 d j)
      + X (ix2 ⟨(d.val + 56) % 64, Nat.mod_lt _ (by decide)⟩ j) * tab (ix3 2 d j) := by
  pointwise [ropeK]
  simp only [show d.val + 64 - 56 = d.val + 8 by omega, show d.val + 64 - 8 = d.val + 56 by omega]
/-- A rotated and scaled head of queries at an index. -/
theorem ropeQ_at (X : FVec Ideal S64x128 .f32) (tab : FVec Ideal S3x64x128 .f32) (d : Fin 64) (r : Fin 128) :
    ropeQ X tab (ix2 d r) = (X (ix2 d r) * tab (ix3 0 d r) + X (ix2 ⟨(d.val + 8) % 64, Nat.mod_lt _ (by decide)⟩ r) * tab (ix3 1 d r)
      + X (ix2 ⟨(d.val + 56) % 64, Nat.mod_lt _ (by decide)⟩ r) * tab (ix3 2 d r)) * Ideal.ofBits .f32 0x3E000000#32 := by
  pointwise [ropeQ]
  simp only [show d.val + 64 - 56 = d.val + 8 by omega, show d.val + 64 - 8 = d.val + 56 by omega]
/-- A head of keys or values at an index. -/
theorem headK_at (k : FVec Ideal S256x256 .f32) (h : Fin 4) (d : Fin 64) (j : Fin 256) : headK k h (ix2 d j) = k (ix2 ⟨64 * h.val + d.val, by omega⟩ j) := by
  fin_cases h
  · show extractStridedSlice S64x256 ![0, 0] k slices_S256x256_o0_0_S64x256 (ix2 d j) = _
    pointwise
  · show extractStridedSlice S64x256 ![64, 0] k slices_S256x256_o64_0_S64x256 (ix2 d j) = _
    pointwise
  · show extractStridedSlice S64x256 ![128, 0] k slices_S256x256_o128_0_S64x256 (ix2 d j) = _
    pointwise
  · show extractStridedSlice S64x256 ![192, 0] k slices_S256x256_o192_0_S64x256 (ix2 d j) = _
    pointwise
/-- A head of queries at an index. -/
theorem headQ_at (q : FVec Ideal S1024x128 .f32) (h : Fin 16) (d : Fin 64) (r : Fin 128) : headQ q h (ix2 d r) = q (ix2 ⟨64 * h.val + d.val, by omega⟩ r) := by
  fin_cases h
  · show extractStridedSlice S64x128 ![0, 0] q slices_S1024x128_o0_0_S64x128 (ix2 d r) = _
    pointwise
  · show extractStridedSlice S64x128 ![64, 0] q slices_S1024x128_o64_0_S64x128 (ix2 d r) = _
    pointwise
  · show extractStridedSlice S64x128 ![128, 0] q slices_S1024x128_o128_0_S64x128 (ix2 d r) = _
    pointwise
  · show extractStridedSlice S64x128 ![192, 0] q slices_S1024x128_o192_0_S64x128 (ix2 d r) = _
    pointwise
  · show extractStridedSlice S64x128 ![256, 0] q slices_S1024x128_o256_0_S64x128 (ix2 d r) = _
    pointwise
  · show extractStridedSlice S64x128 ![320, 0] q slices_S1024x128_o320_0_S64x128 (ix2 d r) = _
    pointwise
  · show extractStridedSlice S64x128 ![384, 0] q slices_S1024x128_o384_0_S64x128 (ix2 d r) = _
    pointwise
  · show extractStridedSlice S64x128 ![448, 0] q slices_S1024x128_o448_0_S64x128 (ix2 d r) = _
    pointwise
  · show extractStridedSlice S64x128 ![512, 0] q slices_S1024x128_o512_0_S64x128 (ix2 d r) = _
    pointwise
  · show extractStridedSlice S64x128 ![576, 0] q slices_S1024x128_o576_0_S64x128 (ix2 d r) = _
    pointwise
  · show extractStridedSlice S64x128 ![640, 0] q slices_S1024x128_o640_0_S64x128 (ix2 d r) = _
    pointwise
  · show extractStridedSlice S64x128 ![704, 0] q slices_S1024x128_o704_0_S64x128 (ix2 d r) = _
    pointwise
  · show extractStridedSlice S64x128 ![768, 0] q slices_S1024x128_o768_0_S64x128 (ix2 d r) = _
    pointwise
  · show extractStridedSlice S64x128 ![832, 0] q slices_S1024x128_o832_0_S64x128 (ix2 d r) = _
    pointwise
  · show extractStridedSlice S64x128 ![896, 0] q slices_S1024x128_o896_0_S64x128 (ix2 d r) = _
    pointwise
  · show extractStridedSlice S64x128 ![960, 0] q slices_S1024x128_o960_0_S64x128 (ix2 d r) = _
    pointwise
/-- A head of a group's results at an index. -/
theorem quarter_at (X : FVec Ideal S64x512 .f32) (a : Fin 4) (d : Fin 64) (r : Fin 128) : quarter X a (ix2 d r) = X (ix2 d ⟨128 * a.val + r.val, by omega⟩) := by
  fin_cases a
  · show extractStridedSlice S64x128 ![0, 0] X slices_S64x512_o0_0_S64x128 (ix2 d r) = _
    pointwise
  · show extractStridedSlice S64x128 ![0, 128] X slices_S64x512_o0_128_S64x128 (ix2 d r) = _
    pointwise
  · show extractStridedSlice S64x128 ![0, 256] X slices_S64x512_o0_256_S64x128 (ix2 d r) = _
    pointwise
  · show extractStridedSlice S64x128 ![0, 384] X slices_S64x512_o0_384_S64x128 (ix2 d r) = _
    pointwise
/-- A head of a group's statistics at an index. -/
theorem quarterRow_at (X : FVec Ideal S1x512 .f32) (a : Fin 4) (r : Fin 128) : quarterRow X a (ix2 0 r) = X (ix2 0 ⟨128 * a.val + r.val, by omega⟩) := by
  fin_cases a
  · show extractStridedSlice S1x128 ![0, 0] X slices_S1x512_o0_0_S1x128 (ix2 0 r) = _
    pointwise
  · show extractStridedSlice S1x128 ![0, 128] X slices_S1x512_o0_128_S1x128 (ix2 0 r) = _
    pointwise
  · show extractStridedSlice S1x128 ![0, 256] X slices_S1x512_o0_256_S1x128 (ix2 0 r) = _
    pointwise
  · show extractStridedSlice S1x128 ![0, 384] X slices_S1x512_o0_384_S1x128 (ix2 0 r) = _
    pointwise
/-- One of four pieces of 128, by the lane. -/
theorem quad {β : Type} (f : Fin 4 → Fin 128 → β) (a : Fin 4) (r : Fin 128) :
    (if h : 128 * a.val + r.val < 128 then f 0 ⟨128 * a.val + r.val, h⟩
      else if h' : 128 * a.val + r.val - 128 < 128 then f 1 ⟨128 * a.val + r.val - 128, h'⟩
      else if h'' : 128 * a.val + r.val - 128 - 128 < 128 then f 2 ⟨128 * a.val + r.val - 128 - 128, h''⟩
      else f 3 ⟨128 * a.val + r.val - 128 - 128 - 128, by omega⟩) = f a r := by
  have key : ∀ (b : Fin 4) (q : Fin 128), a = b → q.val = r.val → f b q = f a r := by
    intro b q h1 h2
    subst h1
    rw [Fin.ext h2]
  split
  · exact key 0 _ (Fin.ext (by show a.val = 0; omega)) (by dsimp only; omega)
  · split
    · exact key 1 _ (Fin.ext (by show a.val = 1; omega)) (by dsimp only; omega)
    · split
      · exact key 2 _ (Fin.ext (by show a.val = 2; omega)) (by dsimp only; omega)
      · exact key 3 _ (Fin.ext (by show a.val = 3; omega)) (by dsimp only; omega)
/-- A group's scores at an index. -/
theorem scores_at (K : FVec Ideal S64x256 .bf16) (Q : Fin 4 → FVec Ideal S64x128 .f32) (j : Fin 256) (a : Fin 4) (r : Fin 128) :
    scores K Q (ix2 j ⟨128 * a.val + r.val, by omega⟩) = ∑ d : Fin 64, K (ix2 d j) * Q a (ix2 d r) := by
  pointwise [scores]
  exact Finset.sum_congr rfl fun d _ => congrArg _ (quad (fun a r => Q a (ix2 d r)) a r)
/-- The head of a lane within its group. -/
theorem lane_head : ∀ l : Fin 512, k0_pay47 (ix2 0 l) = BitVec.ofNat 32 (l.val / 128) := by decide +kernel
/-- The sink of a lane. -/
theorem sinkRow_at (s : Fin 4 → EReal) (a : Fin 4) (r : Fin 128) : sinkRow s (ix2 0 ⟨128 * a.val + r.val, by omega⟩) = s a := by
  have e : (⟨128 * a.val + r.val, by omega⟩ : Fin 512).val / 128 = a.val := by dsimp only; omega
  unfold sinkRow
  pointwise [k0_pay50, k0_pay48, k0_pay49]
  rw [lane_head, e]
  fin_cases a <;> rfl
/-- A masked score. -/
theorem masked_at (M : IVec S256x512 1) (S : FVec Ideal S256x512 .f32) (j : Fin 256) (l : Fin 512) :
    masked M S (ix2 j l) = if M (ix2 j l) = 1#1 then S (ix2 j l) else ⊥ := by
  pointwise [masked]
  rfl
/-- The least value, as the reduction starts from it. -/
theorem bot16 : Ideal.ofBits .bf16 0xFF80#16 = (⊥ : EReal) := by rfl
/-- The row maximum at an index. -/
theorem rowMax_at (M : IVec S256x512 1) (S : FVec Ideal S256x512 .f32) (s : FVec Ideal S1x512 .f32) (l : Fin 512) :
    rowMax M S s (ix2 0 l) = Attn.mx (fun j => masked M S (ix2 j l)) (s (ix2 0 l)) := by
  unfold Attn.mx
  pointwise [rowMax]
  rw [bot16]
/-- A weight at an index. -/
theorem weights_at (M : IVec S256x512 1) (S : FVec Ideal S256x512 .f32) (s : FVec Ideal S1x512 .f32) (j : Fin 256) (l : Fin 512) :
    weights M S s (ix2 j l) = Attn.wt (fun j => masked M S (ix2 j l)) (s (ix2 0 l)) j := by
  unfold Attn.wt
  rw [← rowMax_at]
  pointwise [weights]
/-- The row maximum in full width at an index. -/
theorem rowMaxF_at (M : IVec S256x512 1) (S : FVec Ideal S256x512 .f32) (s : FVec Ideal S1x512 .f32) (l : Fin 512) :
    rowMaxF M S s (ix2 0 l) = Attn.mx (fun j => masked M S (ix2 j l)) (s (ix2 0 l)) := by
  rw [← rowMax_at]
  pointwise [rowMaxF]
/-- The reciprocal at an index. -/
theorem rowInv_at (M : IVec S256x512 1) (S : FVec Ideal S256x512 .f32) (s : FVec Ideal S1x512 .f32) (l : Fin 512) :
    rowInv M S s (ix2 0 l) = Attn.inv (fun j => masked M S (ix2 j l)) (s (ix2 0 l)) := by
  unfold Attn.inv Attn.den
  simp only [← weights_at]
  rw [← rowMaxF_at]
  pointwise [rowInv]
/-- A weighted sum at an index. -/
theorem weighted_at (v : FVec Ideal S64x256 .f32) (E : FVec Ideal S256x512 .bf16) (I : FVec Ideal S1x512 .f32) (d : Fin 64) (l : Fin 512) :
    weighted v E I (ix2 d l) = (∑ j, v (ix2 d j) * E (ix2 j l)) * I (ix2 0 l) := by
  pointwise [weighted]
/-- Comparisons of small numbers. -/
theorem sgt_at : ∀ (j : Fin 256) (r : Fin 128), IntOp.cmpi .sgt (BitVec.ofNat 32 j.val) (BitVec.ofNat 32 r.val) = BitVec.ofBool (decide (r.val < j.val)) := by decide +kernel
theorem sle_at : ∀ (j : Fin 256) (r : Fin 128), IntOp.cmpi .sle (BitVec.ofNat 32 j.val) (IntOp.addi (BitVec.ofNat 32 r.val) 128#32) = BitVec.ofBool (decide (j.val ≤ r.val + 128)) := by decide +kernel
theorem sge_at : ∀ (j : Fin 256), IntOp.cmpi .sge (BitVec.ofNat 32 j.val) 128#32 = BitVec.ofBool (decide (128 ≤ j.val)) := by decide +kernel
theorem pos_at : ∀ (n : Fin 32), Scalar.cmpi .sgt (BitVec.ofNat 32 n.val) 0#32 = BitVec.ofBool (decide (0 < n.val)) := by decide +kernel
/-- Their combination. -/
theorem bits_at : ∀ a b c d : Bool, IntOp.andi (IntOp.andi (BitVec.ofBool a) (BitVec.ofBool b)) (IntOp.ori (BitVec.ofBool c) (BitVec.ofBool d)) = 1#1 ↔ (a = true ∧ b = true ∧ (c = true ∨ d = true)) := by decide +kernel
/-- The mask at an index. -/
theorem mask_at (i : grid0.Coords) (j : Fin 256) (a : Fin 4) (r : Fin 128) :
    k0_pay2 i (ix2 j ⟨128 * a.val + r.val, by omega⟩) = 1#1 ↔ (r.val < j.val ∧ j.val ≤ r.val + 128 ∧ (0 < (i 0).val ∨ 128 ≤ j.val)) := by
  have hn : (i 0).val < 32 := (i 0).isLt
  pointwise [k0_pay2]
  rw [quad (fun _ r => IntOp.andi (IntOp.andi (IntOp.cmpi .sgt (BitVec.ofNat 32 j.val) (BitVec.ofNat 32 r.val)) (IntOp.cmpi .sle (BitVec.ofNat 32 j.val) (IntOp.addi (BitVec.ofNat 32 r.val) 128#32)))
    (IntOp.ori (Scalar.cmpi .sgt (BitVec.ofNat 32 (i 0).val) 0#32) (IntOp.cmpi .sge (BitVec.ofNat 32 j.val) 128#32))) a r]
  have e := pos_at ⟨(i 0).val, hn⟩
  rw [sgt_at, sle_at, sge_at, e, bits_at]
  simp only [decide_eq_true_eq]
/-- Pieces of one shape side by side, read at an index: the piece the coordinate falls in. -/
theorem concat_same {α : Type} {t s : Shape} (a : Fin t.rank) (j : t.Idx) (K : ℕ) (hr : s.FitsOff t a) (hK : s.size (a.cast hr.rank_eq.symm) = K) (d : ℕ) (hd : d < K) :
    ∀ (L : List (s.Idx → α)) (n : ℕ) (hn : n < L.length) (c : ℕ) (_ : c = K * n + d)
      (hs : ∀ s' ∈ (L.map fun x => (⟨s, x⟩ : (s : Shape) × (s.Idx → α))).map (·.1), s'.FitsOff t a)
      (hc : c < (Idealize.ShloMosaic.axisSizes t a (L.map fun x => (⟨s, x⟩ : (s : Shape) × (s.Idx → α)))).sum),
      concatenateAt t a j (L.map fun x => (⟨s, x⟩ : (s : Shape) × (s.Idx → α))) hs c hc
        = L[n] (Shape.Idx.norm fun b => ⟨if b.val = a.val then d else (j (b.cast hr.rank_eq)).val, concatAt_fst_lt hr j d (hK ▸ hd) b⟩)
  | [], n, hn, _, _, _, _ => absurd hn (Nat.not_lt_zero _)
  | [x], n, hn, c, e, hs, hc => by
    obtain rfl : n = 0 := by simpa using hn
    obtain rfl : c = d := by omega
    exact concatenateAt_singleton a j x hs _ hc
  | x :: y :: L, 0, hn, c, e, hs, hc => by
    obtain rfl : c = d := by omega
    exact (concatenateAt_cons a j x _ _ hs _ hc).trans (dif_pos (by rw [hK]; exact hd))
  | x :: y :: L, n + 1, hn, c, e, hs, hc => by
    have hge : ¬ c < s.size (a.cast (hs s List.mem_cons_self).rank_eq.symm) := by
      rw [hK, e, Nat.mul_succ]; omega
    refine (concatenateAt_cons a j x _ _ hs _ hc).trans ((dif_neg hge).trans ?_)
    refine (concat_same a j K hr hK d hd (y :: L) n (by simpa using hn) _ ?_ _ _).trans rfl
    rw [hK, e, Nat.mul_succ]; omega
/-- An entry of a list of sixteen. -/
theorem pick {β : Type} (p : Fin 16 → β) (h : Fin 16) : ([p 0, p 1, p 2, p 3, p 4, p 5, p 6, p 7, p 8, p 9, p 10, p 11, p 12, p 13, p 14, p 15] : List β)[h.val]'h.isLt = p h := by
  fin_cases h <;> rfl
/-- The assembled results at an index. -/
theorem assemble_at (p : Fin 16 → FVec Ideal S64x128 .f32) (r : Fin 128) (h : Fin 16) (d : Fin 64) :
    assemble p (ix2 r ⟨64 * h.val + d.val, by omega⟩) = p h (ix2 d r) := by
  unfold assemble
  generalize hX : concatenate S1024x128 0 _ _ = X
  pointwise
  subst hX
  rw [concatenate_apply]
  refine (concat_same (s := S64x128) (t := S1024x128) 0 (ix2 _ r) 64 (concatenates_S64x128_S64x128_S64x128_S64x128_S64x128_S64x128_S64x128_S64x128_S64x128_S64x128_S64x128_S64x128_S64x128_S64x128_S64x128_S64x128_S1024x128_d0.2.1 S64x128 List.mem_cons_self) rfl d.val d.isLt [p 0, p 1, p 2, p 3, p 4, p 5, p 6, p 7, p 8, p 9, p 10, p 11, p 12, p 13, p 14, p 15] h.val h.isLt _ rfl _ _).trans ?_
  rw [pick]
  pointwise
/-- The assembled statistics at an index. -/
theorem assembleRow_at (p : Fin 16 → FVec Ideal S1x128 .f32) (r : Fin 128) (h : Fin 16) :
    assembleRow p (ix2 h r) = p h (ix2 0 r) := by
  unfold assembleRow
  rw [concatenate_apply]
  refine (concat_same (s := S1x128) (t := S16x128) 0 (ix2 h r) 1 (concatenates_S1x128_S1x128_S1x128_S1x128_S1x128_S1x128_S1x128_S1x128_S1x128_S1x128_S1x128_S1x128_S1x128_S1x128_S1x128_S1x128_S16x128_d0.2.1 S1x128 List.mem_cons_self) rfl 0 (by omega) [p 0, p 1, p 2, p 3, p 4, p 5, p 6, p 7, p 8, p 9, p 10, p 11, p 12, p 13, p 14, p 15] h.val h.isLt _ (by show h.val = 1 * h.val + 0; omega) _ _).trans ?_
  rw [pick]
  pointwise
end Cert.Kernel17Ideal.AttnTile
-- ==== Proof.AttnRef.lean ====
/- Attention forward: the reference's arrays read at an index. -/
module

public import proofs.«01_k».proof.Proof.Gen.Reference17Ideal.Read
public import proofs.«01_k».proof.Proof.AttnSpec

set_option maxRecDepth 65536

@[expose] public section

noncomputable section

open Idealize.ShloMosaic Idealize.ShloMosaic.TcCoe Idealize.SL.Sem

namespace Cert.Reference17Ideal.AttnRef

open Cert.Reference17Ideal Cert.Reference17Ideal.Read
open Finite

/-- The cosines of a position's angles. -/
def cs (t : Fin 4096) (i : Fin 8) : EReal := val_main_v18 (F := Ideal) (ix2 t i)
/-- Their sines. -/
def sn (t : Fin 4096) (i : Fin 8) : EReal := val_main_v20 (F := Ideal) (ix2 t i)
/-- A head of queries, rotated. -/
def qr (x0 : FVec Ideal S4096x1024 .bf16) (t : Fin 4096) (h : Fin 16) (d : Fin 64) : EReal := Attn.rot (cs t) (sn t) (fun d => x0 (ix2 t ⟨64 * h.val + d.val, by omega⟩)) d
/-- A head of keys, rotated. -/
def kr (x1 : FVec Ideal S4096x512 .bf16) (t : Fin 4096) (j : Fin 4) (d : Fin 64) : EReal := Attn.rot (cs t) (sn t) (fun d => x1 (ix2 t ⟨64 * j.val + d.val, by omega⟩)) d
/-- A head of values. -/
def vr (x1 : FVec Ideal S4096x512 .bf16) (t : Fin 4096) (j : Fin 4) (d : Fin 64) : EReal := x1 (ix2 t ⟨256 + (64 * j.val + d.val), by omega⟩)
/-- The position of a key of a block's window: the block before, then the block. -/
def row (n : Fin 32) (k : Fin 256) : Fin 4096 := if h : k.val < 128 then ⟨128 * (n.val - 1) + k.val, by omega⟩ else ⟨128 * n.val + (k.val - 128), by omega⟩
/-- The position of a query of a block. -/
def pos (n : Fin 32) (r : Fin 128) : Fin 4096 := ⟨128 * n.val + r.val, by omega⟩
/-- Which keys of its window a query attends to. -/
def ok (n : Fin 32) (r : Fin 128) (k : Fin 256) : Prop := r.val < k.val ∧ k.val ≤ r.val + 128 ∧ (0 < n.val ∨ 128 ≤ k.val)
instance (n : Fin 32) (r : Fin 128) (k : Fin 256) : Decidable (ok n r k) := by unfold ok; infer_instance
/-- Head `4 j + a`. -/
def hd (j a : Fin 4) : Fin 16 := ⟨4 * j.val + a.val, by omega⟩
/-- The scale of the scores. -/
def c8 : EReal := Ideal.ofBits .f32 0x3E000000#32
/-- A masked score. -/
def sc (x0 : FVec Ideal S4096x1024 .bf16) (x1 : FVec Ideal S4096x512 .bf16) (n : Fin 32) (j a : Fin 4) (r : Fin 128) (k : Fin 256) : EReal :=
  if ok n r k then ∑ d, kr x1 (row n k) j d * (qr x0 (pos n r) (hd j a) d * c8) else ⊥
/-- A sink. -/
def sk (x2 : FVec Ideal S1x16 .f32) (j a : Fin 4) : EReal := x2 (ix2 0 (hd j a))
/-- Attention's result at a position of a block, a head and a feature. -/
def o (x0 : FVec Ideal S4096x1024 .bf16) (x1 : FVec Ideal S4096x512 .bf16) (x2 : FVec Ideal S1x16 .f32) (n : Fin 32) (r : Fin 128) (j a : Fin 4) (d : Fin 64) : EReal :=
  Attn.out (sc x0 x1 n j a r) (sk x2 j a) fun k => vr x1 (row n k) j d

/-- What the precondition gives. -/
structure Real (x0 : FVec Ideal S4096x1024 .bf16) (x1 : FVec Ideal S4096x512 .bf16) (x2 : FVec Ideal S1x16 .f32) : Prop where
  q : ∀ i, IsReal (x0 i)
  kv : ∀ i, IsReal (x1 i)
  s : ∀ i, IsReal (x2 i)

section
variable (x0 : FVec Ideal S4096x1024 .bf16) (x1 : FVec Ideal S4096x512 .bf16) (x2 : FVec Ideal S1x16 .f32)

/-- The rotated queries. -/
theorem v38_at (t : Fin 4096) (h : Fin 16) (d : Fin 64) : val_main_v38 (F := Ideal) x0 (ix3 t h d) = qr x0 t h d := by
  unfold qr Attn.rot cs sn
  pointwise [val_main_v38, val_main_v37, val_main_v36, val_main_v35, val_main_v34, val_main_v33, val_main_v32, val_main_v31, val_main_v30, val_main_v29, val_main_v28, val_main_v27, val_main_v26, val_main_v25, val_main_v24, val_main_v21, val_main_v19, val_main_v0]
  simp only [Nat.mul_comm _ 64]
  split
  · simp only [Nat.add_comm 8]
  · by_cases h2 : d.val < 16
    · rw [dif_pos (show d.val - 8 < 8 by omega), dif_pos h2]
      simp only [show 8 + (d.val - 8) = d.val by omega]
    · rw [dif_neg (show ¬ d.val - 8 < 8 by omega), dif_neg h2]
      simp only [show 16 + (d.val - 8 - 8) = d.val by omega]
/-- The rotated keys. -/
theorem v53_at (t : Fin 4096) (h : Fin 4) (d : Fin 64) : val_main_v53 (F := Ideal) x1 (ix3 t h d) = kr x1 t h d := by
  unfold kr Attn.rot cs sn
  pointwise [val_main_v53, val_main_v52, val_main_v51, val_main_v50, val_main_v49, val_main_v48, val_main_v47, val_main_v46, val_main_v45, val_main_v44, val_main_v43, val_main_v42, val_main_v41, val_main_v40, val_main_v39, val_main_v22, val_main_v21, val_main_v19, val_main_v1]
  simp only [Nat.mul_comm _ 64]
  split
  · simp only [Nat.add_comm 8]
  · by_cases h2 : d.val < 16
    · rw [dif_pos (show d.val - 8 < 8 by omega), dif_pos h2]
      simp only [show 8 + (d.val - 8) = d.val by omega]
    · rw [dif_neg (show ¬ d.val - 8 < 8 by omega), dif_neg h2]
      simp only [show 16 + (d.val - 8 - 8) = d.val by omega]
/-- A window's rows: the block before and the block itself. -/
theorem win (f : Fin 4096 → EReal) (n : Fin 32) (k : Fin 256) (h1 : k.val < 128 → ¬ n.val < 1 → 128 * (n.val - 1) + k.val < 4096) (h2 : ¬ k.val < 128 → 128 * n.val + (k.val - 128) < 4096) :
    (if hk : k.val < 128 then if hn : n.val < 1 then 0 else f ⟨128 * (n.val - 1) + k.val, h1 hk hn⟩ else f ⟨128 * n.val + (k.val - 128), h2 hk⟩)
      = if n.val = 0 ∧ k.val < 128 then 0 else f (row n k) := by
  unfold row
  by_cases hk : k.val < 128
  · by_cases hn : n.val < 1
    · have h0 : n.val = 0 := by omega
      rw [dif_pos hk, dif_pos hn, if_pos ⟨h0, hk⟩]
    · have h0 : ¬ (n.val = 0 ∧ k.val < 128) := by omega
      rw [dif_pos hk, dif_neg hn, if_neg h0, dif_pos hk]
  · have h0 : ¬ (n.val = 0 ∧ k.val < 128) := fun h => hk h.2
    rw [dif_neg hk, if_neg h0, dif_neg hk]
/-- The keys of a window. -/
theorem v62_at (n : Fin 32) (k : Fin 256) (j : Fin 4) (d : Fin 64) :
    val_main_v62 (F := Ideal) x1 (ix4 n k j d) = if n.val = 0 ∧ k.val < 128 then 0 else kr x1 (row n k) j d := by
  simp only [← v53_at]
  pointwise [val_main_v62, val_main_v61, val_main_v60, val_main_v59, val_main_v58, val_main_v57, val_main_cst_3]
  simp only [Nat.mul_comm _ 128]
  exact win (fun t => val_main_v53 (F := Ideal) x1 (ix3 t j d)) n k _ _
/-- The values of a window. -/
theorem v126_at (n : Fin 32) (k : Fin 256) (j : Fin 4) (d : Fin 64) :
    val_main_v126 (F := Ideal) x1 (ix4 n k j d) = if n.val = 0 ∧ k.val < 128 then 0 else vr x1 (row n k) j d := by
  have e : ∀ t : Fin 4096, val_main_v54 (F := Ideal) x1 (ix3 t j d) = vr x1 t j d := by
    intro t
    unfold vr
    pointwise [val_main_v54, val_main_v23, val_main_v1]
    simp only [Nat.mul_comm _ 64]
  simp only [← e]
  pointwise [val_main_v126, val_main_v125, val_main_v124, val_main_v123, val_main_v122, val_main_v121, val_main_cst_16]
  simp only [Nat.mul_comm _ 128]
  exact win (fun t => val_main_v54 (F := Ideal) x1 (ix3 t j d)) n k _ _
/-- The queries of a block. -/
theorem v56_at (n : Fin 32) (r : Fin 128) (j a : Fin 4) (d : Fin 64) :
    val_main_v56 (F := Ideal) x0 (ix5 n r j a d) = qr x0 (pos n r) (hd j a) d := by
  rw [← v38_at]
  unfold pos hd
  pointwise [val_main_v56]
  simp only [Nat.mul_comm _ 128, Nat.mul_comm _ 4]
/-- The scaled scores. -/
theorem v66_at (n : Fin 32) (j a : Fin 4) (r : Fin 128) (k : Fin 256) :
    val_main_v66 (F := Ideal) x0 x1 (ix5 n j a r k) = (∑ d, (if n.val = 0 ∧ k.val < 128 then 0 else kr x1 (row n k) j d) * qr x0 (pos n r) (hd j a) d) * c8 := by
  unfold c8
  simp only [← v62_at, ← v56_at]
  pointwise [val_main_v66, val_main_v65, val_main_v64, val_main_v63, val_main_cst_4]
/-- Comparisons of small numbers. -/
theorem back_at : ∀ (r : Fin 128) (k : Fin 256), IntOp.cmpi .sge (IntOp.subi (IntOp.addi (128#32) (BitVec.ofNat 32 r.val)) (BitVec.ofNat 32 k.val)) 0#32 = BitVec.ofBool (decide (k.val ≤ r.val + 128)) := by decide +kernel
/-- Comparisons of small numbers. -/
theorem near_at : ∀ (r : Fin 128) (k : Fin 256), IntOp.cmpi .slt (IntOp.subi (IntOp.addi (128#32) (BitVec.ofNat 32 r.val)) (BitVec.ofNat 32 k.val)) 128#32 = BitVec.ofBool (decide (r.val < k.val)) := by decide +kernel
/-- Comparisons of small numbers. -/
theorem own_at : ∀ (k : Fin 256), IntOp.cmpi .sge (BitVec.ofNat 32 k.val) 128#32 = BitVec.ofBool (decide (128 ≤ k.val)) := by decide +kernel
/-- Comparisons of small numbers. -/
theorem later_at : ∀ (n : Fin 32), IntOp.cmpi .sgt (BitVec.ofNat 32 n.val) 0#32 = BitVec.ofBool (decide (0 < n.val)) := by decide +kernel
/-- Their combination. -/
theorem bits_at : ∀ a b c d : Bool, IntOp.andi (IntOp.andi (BitVec.ofBool a) (BitVec.ofBool b)) (IntOp.ori (BitVec.ofBool c) (BitVec.ofBool d)) = 1#1 ↔ (b = true ∧ a = true ∧ (c = true ∨ d = true)) := by decide +kernel
/-- The mask. -/
theorem mask_at (n : Fin 32) (j a : Fin 4) (r : Fin 128) (k : Fin 256) :
    val_main_call0_v1 (F := Ideal) (ix5 n j a r k) = 1#1 ↔ ok n r k := by
  unfold ok
  pointwise [val_main_call0_v1, val_main_call0_v0, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_c, val_main_c_5, val_main_c_6, val_main_c_7, val_main_c_8]
  rw [back_at, near_at, own_at, later_at, bits_at]
  simp only [decide_eq_true_eq]
/-- The masked scores, before they are compared with the kernel's. -/
theorem v96_at (n : Fin 32) (j a : Fin 4) (r : Fin 128) (k : Fin 256) :
    val_main_v96 (F := Ideal) x0 x1 (ix5 n j a r k) = if ok n r k then val_main_v66 (F := Ideal) x0 x1 (ix5 n j a r k) else ⊥ := by
  pointwise [val_main_v96, val_main_call0_v2, val_main_call0_v0, val_main_cst_9]
  show (if val_main_call0_v1 (F := Ideal) (ix5 n j a r k) = 1#1 then _ else _) = _
  by_cases h : ok n r k
  · rw [if_pos h, if_pos ((mask_at n j a r k).mpr h)]
  · rw [if_neg h, if_neg fun e => h ((mask_at n j a r k).mp e)]
    rfl
/-- The scores and the sink. -/
theorem v100_at (n : Fin 32) (j a : Fin 4) (r : Fin 128) (k : Fin 257) :
    val_main_v100 (F := Ideal) x0 x1 x2 (ix5 n j a r k) = Attn.ext (fun k => val_main_v96 (F := Ideal) x0 x1 (ix5 n j a r k)) (sk x2 j a) k := by
  unfold Attn.ext sk hd
  pointwise [val_main_v100, val_main_v99, val_main_v98, val_main_v97, val_main_v55]
  simp only [Nat.mul_comm _ 4]

/-- The position's number is real. -/
theorem angle_real (t : Fin 4096) (i : Fin 8) : IsReal (val_main_v17 (F := Ideal) (ix2 t i)) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2]
  have h1 : IsReal (Ideal.ofBits .f32 1073741824#32) := ⟨2, by simp [Ideal.ofBits, Ideal.ieee, -EReal.coe_mul]; norm_num⟩
  obtain ⟨b, hb⟩ : ∃ b : ℝ, Ideal.ofBits .f32 1223959552#32 = (b : EReal) := ⟨500000, by simp [Ideal.ofBits, Ideal.ieee, -EReal.coe_mul]; norm_num⟩
  have h2 : Ideal.ofBits .f32 1098907648#32 = ((16 : ℝ) : EReal) := by simp [Ideal.ofBits, Ideal.ieee, -EReal.coe_mul]; norm_num
  have hi : ∀ z : BitVec 32, IsReal (FloatOps.sitofp (F := Ideal) FTy.f32 z) := fun z => ⟨_, rfl⟩
  obtain ⟨y, hy⟩ := h1.mul (hi (BitVec.ofNat 32 i.val))
  refine (hi _).mul ?_
  rw [hy, h2, hb, ← EReal.coe_neg]
  unfold Ideal.div
  rw [if_neg (by norm_num), ← EReal.coe_inv, ← EReal.coe_mul]
  exact ⟨_, rfl⟩
/-- The cosines are real. -/
theorem cs_real (t : Fin 4096) (i : Fin 8) : IsReal (cs t i) := by
  obtain ⟨x, e⟩ := angle_real t i
  refine ⟨Real.cos x, ?_⟩
  unfold cs
  pointwise [val_main_v18]
  rw [e]
  rfl
/-- The sines are real. -/
theorem sn_real (t : Fin 4096) (i : Fin 8) : IsReal (sn t i) := by
  obtain ⟨x, e⟩ := angle_real t i
  refine ⟨Real.sin x, ?_⟩
  unfold sn
  pointwise [val_main_v20]
  rw [e]
  rfl
/-- The bits of minus infinity. -/
theorem bot32 : Ideal.ofBits .f32 0xFF800000#32 = (⊥ : EReal) := by rfl
/-- The constant it is bounded below by. -/
theorem v110_at (n : Fin 32) (j a : Fin 4) (r : Fin 128) : val_main_v110 (F := Ideal) (ix4 n j a r) = ⊥ := by
  pointwise [val_main_v110, val_main_cst_14]
  exact bot32
/-- A bound that changes nothing. -/
theorem max_at (X : FVec Ideal S32x4x4x128 .f32) (n : Fin 32) (j a : Fin 4) (r : Fin 128) :
    maximumf (F := Ideal) (φ := .f32) (val_main_v110 (F := Ideal)) X (ix4 n j a r) = X (ix4 n j a r) := by
  show max (val_main_v110 (F := Ideal) (ix4 n j a r)) (X (ix4 n j a r)) = _
  rw [v110_at]
  exact max_eq_right bot_le
variable {x0 x1 x2} (H : Real x0 x1 x2)
include H
/-- The rotated queries are real. -/
theorem qr_real (t : Fin 4096) (h : Fin 16) (d : Fin 64) : IsReal (qr x0 t h d) := Attn.rot_real (cs_real t) (sn_real t) (fun _ => H.q _) d
/-- The rotated keys are real. -/
theorem kr_real (t : Fin 4096) (j : Fin 4) (d : Fin 64) : IsReal (kr x1 t j d) := Attn.rot_real (cs_real t) (sn_real t) (fun _ => H.kv _) d
/-- The scale is real. -/
theorem c8_real : IsReal c8 := ⟨(1 / 8 : ℝ), by unfold c8; simp [Ideal.ofBits, Ideal.ieee, -EReal.coe_mul]; norm_num⟩
/-- A score is real or masked. -/
theorem sc_real (n : Fin 32) (j a : Fin 4) (r : Fin 128) (k : Fin 256) : sc x0 x1 n j a r k = ⊥ ∨ IsReal (sc x0 x1 n j a r k) := by
  unfold sc
  split
  · exact .inr (IsReal.sum fun d => (kr_real H _ _ _).mul ((qr_real H _ _ _).mul (c8_real H)))
  · exact .inl rfl
/-- The reference's masked scores. -/
theorem v96_sc (n : Fin 32) (j a : Fin 4) (r : Fin 128) : (fun k => val_main_v96 (F := Ideal) x0 x1 (ix5 n j a r k)) = sc x0 x1 n j a r := by
  funext k
  rw [v96_at]
  unfold sc
  by_cases h : ok n r k
  · rw [if_pos h, if_pos h, v66_at]
    have hz : ¬ (n.val = 0 ∧ k.val < 128) := by unfold ok at h; omega
    simp only [if_neg hz]
    obtain ⟨c, ec⟩ := c8_real H
    choose f ef using kr_real H (row n k) j
    choose g eg using qr_real H (pos n r) (hd j a)
    rw [ec]
    have e1 : ∀ d, kr x1 (row n k) j d * qr x0 (pos n r) (hd j a) d = ((f d * g d : ℝ) : EReal) := fun d => by rw [ef, eg, EReal.coe_mul]
    have e2 : ∀ d, kr x1 (row n k) j d * (qr x0 (pos n r) (hd j a) d * (c : EReal)) = ((f d * g d * c : ℝ) : EReal) := fun d => by
      rw [ef, eg, EReal.coe_mul, EReal.coe_mul, mul_assoc]
    rw [Finset.sum_congr rfl fun d _ => e1 d, Finset.sum_congr rfl fun d _ => e2 d, coe_sum, coe_sum, ← EReal.coe_mul, Finset.sum_mul]
  · rw [if_neg h, if_neg h]
/-- The reference's scores and sink. -/
theorem v100_sc (n : Fin 32) (j a : Fin 4) (r : Fin 128) (k : Fin 257) :
    val_main_v100 (F := Ideal) x0 x1 x2 (ix5 n j a r k) = Attn.ext (sc x0 x1 n j a r) (sk x2 j a) k := by
  rw [v100_at, v96_sc H]
/-- The row maximum. -/
theorem v101_at (n : Fin 32) (j a : Fin 4) (r : Fin 128) : val_main_v101 (F := Ideal) x0 x1 x2 (ix4 n j a r) = Attn.mx (sc x0 x1 n j a r) (sk x2 j a) := by
  rw [← Attn.fold_ext]
  simp only [← v100_sc H]
  pointwise [val_main_v101, val_main_cst_10]
  rw [bot32]
/-- The row maximum, taken again. -/
theorem v109_at (n : Fin 32) (j a : Fin 4) (r : Fin 128) : val_main_v109 (F := Ideal) x0 x1 x2 (ix4 n j a r) = Attn.mx (sc x0 x1 n j a r) (sk x2 j a) := by
  rw [← Attn.fold_ext]
  simp only [← v100_sc H]
  pointwise [val_main_v109, val_main_cst_13]
  rw [bot32]
/-- The row maximum, bounded below. -/
theorem v111_at (n : Fin 32) (j a : Fin 4) (r : Fin 128) : val_main_v111 (F := Ideal) x0 x1 x2 (ix4 n j a r) = Attn.mx (sc x0 x1 n j a r) (sk x2 j a) := by
  unfold val_main_v111
  exact (max_at _ n j a r).trans (v109_at H n j a r)
/-- A weight. -/
theorem v105_at (n : Fin 32) (j a : Fin 4) (r : Fin 128) (k : Fin 257) : val_main_v105 (F := Ideal) x0 x1 x2 (ix5 n j a r k)
    = Ideal.exp (Attn.ext (sc x0 x1 n j a r) (sk x2 j a) k - Attn.mx (sc x0 x1 n j a r) (sk x2 j a)) := by
  rw [← v100_sc H, ← v101_at H]
  pointwise [val_main_v105, val_main_v104, val_main_v103, val_main_v102]
/-- A weight, computed again. -/
theorem v115_at (n : Fin 32) (j a : Fin 4) (r : Fin 128) (k : Fin 257) : val_main_v115 (F := Ideal) x0 x1 x2 (ix5 n j a r k)
    = Ideal.exp (Attn.ext (sc x0 x1 n j a r) (sk x2 j a) k - Attn.mx (sc x0 x1 n j a r) (sk x2 j a)) := by
  rw [← v100_sc H, ← v111_at H]
  pointwise [val_main_v115, val_main_v114, val_main_v113, val_main_v112]
/-- The sum of the weights, for the statistics. -/
theorem v106_at (n : Fin 32) (j a : Fin 4) (r : Fin 128) : val_main_v106 (F := Ideal) x0 x1 x2 (ix4 n j a r) = Attn.den (sc x0 x1 n j a r) (sk x2 j a) := by
  rw [← Attn.den_ext]
  simp only [← v105_at H]
  pointwise [val_main_v106, val_main_cst_11]
/-- The reciprocal. -/
theorem v108_at (n : Fin 32) (j a : Fin 4) (r : Fin 128) : val_main_v108 (F := Ideal) x0 x1 x2 (ix4 n j a r) = Attn.inv (sc x0 x1 n j a r) (sk x2 j a) := by
  unfold Attn.inv
  rw [← v106_at H]
  pointwise [val_main_v108, val_main_v107, val_main_cst_12]
/-- The sum of the weights. -/
theorem v116_at (n : Fin 32) (j a : Fin 4) (r : Fin 128) : val_main_v116 (F := Ideal) x0 x1 x2 (ix4 n j a r) = Attn.den (sc x0 x1 n j a r) (sk x2 j a) := by
  rw [← Attn.den_ext]
  simp only [← v115_at H]
  pointwise [val_main_v116, val_main_cst_15]
/-- A key's share. -/
theorem v120_at (n : Fin 32) (j a : Fin 4) (r : Fin 128) (k : Fin 256) :
    val_main_v120 (F := Ideal) x0 x1 x2 (ix5 n j a r k) = Ideal.div (Attn.wt (sc x0 x1 n j a r) (sk x2 j a) k) (Attn.den (sc x0 x1 n j a r) (sk x2 j a)) := by
  have e : Attn.wt (sc x0 x1 n j a r) (sk x2 j a) k = val_main_v115 (F := Ideal) x0 x1 x2 (ix5 n j a r ⟨k.val, by omega⟩) := by
    rw [v115_at H]
    unfold Attn.ext Attn.wt
    rw [dif_pos k.isLt]
  rw [e, ← v116_at H]
  pointwise [val_main_v120, val_main_v119, val_main_v118, val_main_v117]
/-- The weighted values. -/
theorem v127_at (n : Fin 32) (j a : Fin 4) (d : Fin 64) (r : Fin 128) : val_main_v127 (F := Ideal) x0 x1 x2 (ix5 n j d a r) = o x0 x1 x2 n r j a d := by
  refine (show _ = ∑ k, val_main_v126 (F := Ideal) x1 (ix4 n k j d) * val_main_v120 (F := Ideal) x0 x1 x2 (ix5 n j a r k) from ?_).trans ?_
  · pointwise [val_main_v127]
  · simp only [v126_at, v120_at H]
    unfold o
    refine Attn.out_ref (sc_real H n j a r) (H.s _) (fun k => H.kv _) (fun k hk => ?_) (fun k => ?_)
    · have h : ok n r k := by
        by_contra h
        exact hk (by unfold sc; rw [if_neg h])
      exact if_neg (by unfold ok at h; omega)
    · split
      · exact ⟨0, rfl⟩
      · exact H.kv _
/-- The first result. -/
theorem ref0 (t : Fin 4096) (c : Fin 1024) : val_main_v130 (F := Ideal) x0 x1 x2 (ix2 t c)
    = o x0 x1 x2 ⟨t.val / 128, by omega⟩ ⟨t.val % 128, by omega⟩ ⟨c.val / 256, by omega⟩ ⟨c.val / 64 % 4, by omega⟩ ⟨c.val % 64, by omega⟩ := by
  rw [← v127_at H]
  pointwise [val_main_v130, val_main_v129, val_main_v128]
/-- The second result. -/
theorem ref1 (b : Fin 2) (h : Fin 16) (t : Fin 4096) : val_main_v135 (F := Ideal) x0 x1 x2 (ix3 b h t)
    = if _ : b.val < 1 then Attn.mx (sc x0 x1 ⟨t.val / 128, by omega⟩ ⟨h.val / 4, by omega⟩ ⟨h.val % 4, by omega⟩ ⟨t.val % 128, by omega⟩) (sk x2 ⟨h.val / 4, by omega⟩ ⟨h.val % 4, by omega⟩)
      else Attn.inv (sc x0 x1 ⟨t.val / 128, by omega⟩ ⟨h.val / 4, by omega⟩ ⟨h.val % 4, by omega⟩ ⟨t.val % 128, by omega⟩) (sk x2 ⟨h.val / 4, by omega⟩ ⟨h.val % 4, by omega⟩) := by
  rw [← v101_at H, ← v108_at H]
  unfold val_main_v135 val_main_v134 val_main_v133 val_main_v132 val_main_v131
  generalize val_main_v101 (F := Ideal) x0 x1 x2 = X
  generalize val_main_v108 (F := Ideal) x0 x1 x2 = Y
  pointwise
end

end Cert.Reference17Ideal.AttnRef
-- ==== Proof.AttnGroup.lean ====
/- Attention forward: a grid point's groups of heads, read at an index, are the reference's. -/
module

public import proofs.«01_k».proof.Proof.AttnPoint
public import proofs.«01_k».proof.Proof.AttnRef

set_option maxRecDepth 65536

@[expose] public section

noncomputable section

open Idealize.ShloMosaic Idealize.ShloMosaic.TcCoe Idealize.SL.Sem

namespace Cert.Kernel17Ideal.AttnGroup

open Cert.Kernel17Ideal Cert.Kernel17Ideal.Gen Cert.Kernel17Ideal.AttnTile
open Cert.Reference17Ideal.AttnRef (cs sn qr kr vr row pos ok hd c8 sc sk o)

/-- The keys of the two blocks, a key to a column. -/
theorem keys_at (x1 x2 : Vec Ideal S128x256 .bf16) (f : Fin 256) (k : Fin 256) :
    k0_pay4 (F := Ideal) x1 x2 (ix2 f k) = if h : k.val < 128 then x1 (ix2 ⟨k.val, h⟩ f) else x2 (ix2 ⟨k.val - 128, by omega⟩ f) := by
  pointwise [k0_pay4]
/-- The values of the two blocks, a key to a column. -/
theorem vals_at (x3 x4 : Vec Ideal S128x256 .bf16) (f : Fin 256) (k : Fin 256) :
    k0_pay5 (F := Ideal) x3 x4 (ix2 f k) = if h : k.val < 128 then x3 (ix2 ⟨k.val, h⟩ f) else x4 (ix2 ⟨k.val - 128, by omega⟩ f) := by
  pointwise [k0_pay5]
/-- The queries, a position to a column. -/
theorem queries_at (x0 : Vec Ideal S128x1024 .bf16) (f : Fin 1024) (r : Fin 128) : k0_pay6 (F := Ideal) x0 (ix2 f r) = x0 (ix2 r f) := by
  pointwise [k0_pay6]
/-- The block's own tables. -/
theorem tab_at (x6 : Vec Ideal S3x64x128 .f32) (b : Fin 3) (d : Fin 64) (r : Fin 128) : k0_pay3 (F := Ideal) x6 (ix3 b d r) = x6 (ix3 b d r) := by
  pointwise [k0_pay3]
/-- The tables of the two blocks. -/
theorem tabs_at (x5 x6 : Vec Ideal S3x64x128 .f32) (b : Fin 3) (d : Fin 64) (k : Fin 256) :
    k0_pay7 (F := Ideal) x6 x5 (ix3 b d k) = if h : k.val < 128 then x5 (ix3 b d ⟨k.val, h⟩) else x6 (ix3 b d ⟨k.val - 128, by omega⟩) := by
  pointwise [k0_pay7, k0_pay3]

/-- The three tables of the rotation at a position. -/
structure Tab (T : FVec Ideal S3x64x4096 .f32) (t : Fin 4096) : Prop where
  lo : ∀ (d : Fin 64) (h : d.val < 8), T (ix3 0 d t) = cs t ⟨d.val, h⟩ ∧ T (ix3 1 d t) = -sn t ⟨d.val, h⟩ ∧ T (ix3 2 d t) = 0
  mid : ∀ (d : Fin 64) (_ : 8 ≤ d.val) (h : d.val < 16), T (ix3 0 d t) = cs t ⟨d.val - 8, by omega⟩ ∧ T (ix3 1 d t) = 0 ∧ T (ix3 2 d t) = sn t ⟨d.val - 8, by omega⟩
  hi : ∀ d : Fin 64, 16 ≤ d.val → T (ix3 0 d t) = 1 ∧ T (ix3 1 d t) = 0 ∧ T (ix3 2 d t) = 0

/-- The loaded vectors are the blocks of the arrays. -/
structure Reads (A0 : FVec Ideal S4096x1024 .bf16) (A1 : FVec Ideal S4096x512 .bf16) (A2 : FVec Ideal S1x16 .f32) (T : FVec Ideal S3x64x4096 .f32) (n : Fin 32)
    (i : grid0.Coords) (x0 : Vec Ideal S128x1024 .bf16) (x1 x2 x3 x4 : Vec Ideal S128x256 .bf16) (x5 x6 : Vec Ideal S3x64x128 .f32) (s : Fin 16 → EReal) : Prop where
  i : (i 0).val = n.val
  q : ∀ r f, x0 (ix2 r f) = A0 (ix2 (pos n r) f)
  kp : ∀ r f, x1 (ix2 r f) = A1 (ix2 ⟨128 * (n.val - 1) + r.val, by omega⟩ ⟨f.val, by omega⟩)
  k : ∀ r f, x2 (ix2 r f) = A1 (ix2 (pos n r) ⟨f.val, by omega⟩)
  vp : ∀ r f, x3 (ix2 r f) = A1 (ix2 ⟨128 * (n.val - 1) + r.val, by omega⟩ ⟨256 + f.val, by omega⟩)
  v : ∀ r f, x4 (ix2 r f) = A1 (ix2 (pos n r) ⟨256 + f.val, by omega⟩)
  tp : ∀ b d r, x5 (ix3 b d r) = T (ix3 b d ⟨128 * (n.val - 1) + r.val, by omega⟩)
  t : ∀ b d r, x6 (ix3 b d r) = T (ix3 b d (pos n r))
  s : ∀ h, s h = A2 (ix2 0 h)
  tab : ∀ t, Tab T t

section
variable {A0 : FVec Ideal S4096x1024 .bf16} {A1 : FVec Ideal S4096x512 .bf16} {A2 : FVec Ideal S1x16 .f32} {T : FVec Ideal S3x64x4096 .f32} {n : Fin 32}
  {i : grid0.Coords} {x0 : Vec Ideal S128x1024 .bf16} {x1 x2 x3 x4 : Vec Ideal S128x256 .bf16} {x5 x6 : Vec Ideal S3x64x128 .f32} {s : Fin 16 → EReal}
  (H : Reads A0 A1 A2 T n i x0 x1 x2 x3 x4 x5 x6 s)
include H
/-- A key's entry. -/
theorem key_at (j : Fin 4) (d : Fin 64) (k : Fin 256) : headK (k0_pay4 (F := Ideal) x1 x2) j (ix2 d k) = A1 (ix2 (row n k) ⟨64 * j.val + d.val, by omega⟩) := by
  rw [headK_at, keys_at]
  unfold row
  by_cases h : k.val < 128
  · rw [dif_pos h, dif_pos h, H.kp]
  · rw [dif_neg h, dif_neg h, H.k]
    rfl
/-- A value's entry. -/
theorem val_at (j : Fin 4) (d : Fin 64) (k : Fin 256) : headK (k0_pay5 (F := Ideal) x3 x4) j (ix2 d k) = vr A1 (row n k) j d := by
  rw [headK_at, vals_at]
  unfold vr row
  by_cases h : k.val < 128
  · rw [dif_pos h, dif_pos h, H.vp]
  · rw [dif_neg h, dif_neg h, H.v]
    rfl
/-- The tables' entries at a key. -/
theorem tabs (b : Fin 3) (d : Fin 64) (k : Fin 256) : k0_pay7 (F := Ideal) x6 x5 (ix3 b d k) = T (ix3 b d (row n k)) := by
  rw [tabs_at]
  unfold row
  by_cases h : k.val < 128
  · rw [dif_pos h, dif_pos h, H.tp]
  · rw [dif_neg h, dif_neg h, H.t]
    rfl
/-- A rotated key. -/
theorem ropeK_eq (j : Fin 4) (d : Fin 64) (k : Fin 256) : ropeK (headK (k0_pay4 (F := Ideal) x1 x2) j) (k0_pay7 (F := Ideal) x6 x5) (ix2 d k) = kr A1 (row n k) j d := by
  rw [ropeK_at]
  simp only [key_at H, tabs H]
  exact Attn.rot_three (x := fun d => A1 (ix2 (row n k) ⟨64 * j.val + d.val, by omega⟩)) (fun d => T (ix3 0 d (row n k))) (fun d => T (ix3 1 d (row n k))) (fun d => T (ix3 2 d (row n k))) d
    (fun h => (H.tab _).lo d h) (fun h h' => (H.tab _).mid d h h') ((H.tab _).hi d)
/-- A rotated and scaled query. -/
theorem ropeQ_eq (h : Fin 16) (d : Fin 64) (r : Fin 128) : ropeQ (headQ (k0_pay6 (F := Ideal) x0) h) (k0_pay3 (F := Ideal) x6) (ix2 d r) = qr A0 (pos n r) h d * c8 := by
  rw [ropeQ_at]
  simp only [headQ_at, queries_at, tab_at, H.q, H.t]
  refine congrArg (· * _) ?_
  exact Attn.rot_three (x := fun d => A0 (ix2 (pos n r) ⟨64 * h.val + d.val, by omega⟩)) (fun d => T (ix3 0 d (pos n r))) (fun d => T (ix3 1 d (pos n r))) (fun d => T (ix3 2 d (pos n r))) d
    (fun h => (H.tab _).lo d h) (fun h h' => (H.tab _).mid d h h') ((H.tab _).hi d)
/-- A score. -/
theorem S_at (j a : Fin 4) (r : Fin 128) (k : Fin 256) :
    S x0 x1 x2 x5 x6 j (ix2 k ⟨128 * a.val + r.val, by omega⟩) = ∑ d, kr A1 (row n k) j d * (qr A0 (pos n r) (hd j a) d * c8) := by
  unfold S
  rw [scores_at]
  exact Finset.sum_congr rfl fun d _ => congrArg₂ (· * ·) (ropeK_eq H j d k) (ropeQ_eq H (hd j a) d r)
/-- A masked score. -/
theorem sc_at (j a : Fin 4) (r : Fin 128) : (fun k => masked (k0_pay2 i) (S x0 x1 x2 x5 x6 j) (ix2 k ⟨128 * a.val + r.val, by omega⟩)) = sc A0 A1 n j a r := by
  funext k
  rw [masked_at, S_at H]
  unfold sc
  have e := mask_at i k a r
  rw [H.i] at e
  by_cases h : ok n r k
  · rw [if_pos h, if_pos (e.mpr h)]
  · rw [if_neg h, if_neg fun e' => h (e.mp e')]
/-- A sink. -/
theorem K_at (j a : Fin 4) (r : Fin 128) : K s j (ix2 0 ⟨128 * a.val + r.val, by omega⟩) = sk A2 j a := by
  unfold K
  rw [sinkRow_at]
  exact H.s _
/-- A row maximum. -/
theorem R_at (j a : Fin 4) (r : Fin 128) : R i x0 x1 x2 x5 x6 s j (ix2 0 ⟨128 * a.val + r.val, by omega⟩) = Attn.mx (sc A0 A1 n j a r) (sk A2 j a) := by
  unfold R
  rw [rowMaxF_at, sc_at H, K_at H]
/-- A reciprocal. -/
theorem I_at (j a : Fin 4) (r : Fin 128) : I i x0 x1 x2 x5 x6 s j (ix2 0 ⟨128 * a.val + r.val, by omega⟩) = Attn.inv (sc A0 A1 n j a r) (sk A2 j a) := by
  unfold I
  rw [rowInv_at, sc_at H, K_at H]
/-- A result. -/
theorem W_at (j a : Fin 4) (d : Fin 64) (r : Fin 128) : W i x0 x1 x2 x3 x4 x5 x6 s j (ix2 d ⟨128 * a.val + r.val, by omega⟩) = o A0 A1 A2 n r j a d := by
  unfold W o Attn.out
  rw [weighted_at, I_at H]
  refine congrArg (· * _) (Finset.sum_congr rfl fun k _ => congrArg₂ (· * ·) (val_at H j d k) ?_)
  unfold E
  rw [weights_at, sc_at H, K_at H]
/-- An assembled result. -/
theorem O8_at (j a : Fin 4) (r : Fin 128) (d : Fin 64) : O8 i x0 x1 x2 x3 x4 x5 x6 s (ix2 r ⟨64 * (hd j a).val + d.val, by omega⟩) = o A0 A1 A2 n r j a d := by
  unfold O8
  rw [assemble_at, ← W_at H, ← quarter_at (W i x0 x1 x2 x3 x4 x5 x6 s j)]
  generalize W i x0 x1 x2 x3 x4 x5 x6 s = X
  fin_cases j <;> fin_cases a <;> rfl
/-- An assembled maximum. -/
theorem O90_at (j a : Fin 4) (r : Fin 128) : O90 i x0 x1 x2 x5 x6 s (ix2 (hd j a) r) = Attn.mx (sc A0 A1 n j a r) (sk A2 j a) := by
  unfold O90
  rw [assembleRow_at, ← R_at H, ← quarterRow_at (R i x0 x1 x2 x5 x6 s j)]
  generalize R i x0 x1 x2 x5 x6 s = X
  fin_cases j <;> fin_cases a <;> rfl
/-- An assembled reciprocal. -/
theorem O91_at (j a : Fin 4) (r : Fin 128) : O91 i x0 x1 x2 x5 x6 s (ix2 (hd j a) r) = Attn.inv (sc A0 A1 n j a r) (sk A2 j a) := by
  unfold O91
  rw [assembleRow_at, ← I_at H, ← quarterRow_at (I i x0 x1 x2 x5 x6 s j)]
  generalize I i x0 x1 x2 x5 x6 s = X
  fin_cases j <;> fin_cases a <;> rfl
end

end Cert.Kernel17Ideal.AttnGroup
-- ==== Proof.AttnTabs.lean ====
/- Attention forward: the tables of the rotation. -/
module

public import proofs.«01_k».proof.Proof.AttnGroup

set_option maxRecDepth 65536

@[expose] public section

noncomputable section

open Idealize.ShloMosaic Idealize.ShloMosaic.TcCoe Idealize.SL.Sem
open Idealize.ShloMosaic.Pipeline (Dat)

namespace Cert.Kernel17Ideal.AttnTabs

open Cert.Kernel17Ideal Cert.Kernel17Ideal.Gen Cert.Kernel17Ideal.AttnTile Cert.Kernel17Ideal.AttnGroup
open Cert.Reference17Ideal.AttnRef (cs sn qr kr vr row pos ok hd c8 sc sk o)

/-- The angles of the rotation. -/
def ang : FVec Ideal S8x4096 .f32 := transpose S8x4096 [1, 0]
  (mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))))) transposes_S4096x8_S8x4096_1_0
/-- A constant of eight rows. -/
def z8 : FVec Ideal S8x4096 .f32 := broadcastInDim S8x4096 ![] bcast_S_S8x4096 (constant S_ .f32 0x00000000#32)
/-- A constant of forty-eight rows. -/
def z48 : FVec Ideal S48x4096 .f32 := broadcastInDim S48x4096 ![] bcast_S_S48x4096 (constant S_ .f32 0x00000000#32)
/-- A constant of forty-eight rows. -/
def o48 : FVec Ideal S48x4096 .f32 := broadcastInDim S48x4096 ![] bcast_S_S48x4096 (constant S_ .f32 0x3F800000#32)
/-- One table. -/
def tab (a b : FVec Ideal S8x4096 .f32) (c : FVec Ideal S48x4096 .f32) : FVec Ideal S1x64x4096 .f32 :=
  broadcastInDim S1x64x4096 ![1, 2] bcast_S64x4096_S1x64x4096_1_2 (concatenate S64x4096 0 [⟨S8x4096, a⟩, ⟨S8x4096, b⟩, ⟨S48x4096, c⟩] concatenates_S8x4096_S8x4096_S48x4096_S64x4096_d0)
/-- The three tables. -/
def tabs3 (a b c : FVec Ideal S1x64x4096 .f32) : FVec Ideal S3x64x4096 .f32 :=
  concatenate S3x64x4096 0 [⟨S1x64x4096, a⟩, ⟨S1x64x4096, b⟩, ⟨S1x64x4096, c⟩] concatenates_S1x64x4096_S1x64x4096_S1x64x4096_S3x64x4096_d0
/-- The tables the kernel is given. -/
def tabs0 : FVec Ideal S3x64x4096 .f32 := tabs3 (tab (Host.cos ang) (Host.cos ang) o48) (tab (Host.negf (Host.sin ang)) z8 z48) (tab z8 (Host.sin ang) z48)

/-- One table at an index. -/
theorem tab_read (a b : FVec Ideal S8x4096 .f32) (c : FVec Ideal S48x4096 .f32) (d : Fin 64) (t : Fin 4096) :
    tab a b c (ix3 0 d t) = if h : d.val < 8 then a (ix2 ⟨d.val, h⟩ t) else if h2 : d.val - 8 < 8 then b (ix2 ⟨d.val - 8, h2⟩ t) else c (ix2 ⟨d.val - 8 - 8, by omega⟩ t) := by
  pointwise [tab]
/-- The first of three tables. -/
theorem tabs3_0 (a b c : FVec Ideal S1x64x4096 .f32) (d : Fin 64) (t : Fin 4096) : tabs3 a b c (ix3 0 d t) = a (ix3 0 d t) := by
  pointwise [tabs3]
/-- The second of three tables. -/
theorem tabs3_1 (a b c : FVec Ideal S1x64x4096 .f32) (d : Fin 64) (t : Fin 4096) : tabs3 a b c (ix3 1 d t) = b (ix3 0 d t) := by
  pointwise [tabs3]
/-- The third of three tables. -/
theorem tabs3_2 (a b c : FVec Ideal S1x64x4096 .f32) (d : Fin 64) (t : Fin 4096) : tabs3 a b c (ix3 2 d t) = c (ix3 0 d t) := by
  pointwise [tabs3]
open Cert.Reference17Ideal.Read in
/-- The angles are the reference's. -/
theorem ang_at (i : Fin 8) (t : Fin 4096) : ang (ix2 i t) = val_main_v17 (F := Ideal) (ix2 t i) := by
  pointwise [ang, val_main_v17, val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2]
open Cert.Reference17Ideal.Read in
/-- Their cosines. -/
theorem cos_at (i : Fin 8) (t : Fin 4096) : Host.cos ang (ix2 i t) = cs t i := by
  unfold cs
  show Ideal.cos (ang (ix2 i t)) = _
  rw [ang_at]
  pointwise [val_main_v18]
open Cert.Reference17Ideal.Read in
/-- Their sines. -/
theorem sin_at (i : Fin 8) (t : Fin 4096) : Host.sin ang (ix2 i t) = sn t i := by
  unfold sn
  show Ideal.sin (ang (ix2 i t)) = _
  rw [ang_at]
  pointwise [val_main_v20]
/-- Their sines, negated. -/
theorem nsin_at (i : Fin 8) (t : Fin 4096) : Host.negf (Host.sin ang) (ix2 i t) = -sn t i := by
  rw [← sin_at]
  rfl
/-- The zeros. -/
theorem z8_at (i : Fin 8) (t : Fin 4096) : z8 (ix2 i t) = 0 := by
  pointwise [z8]
/-- The zeros. -/
theorem z48_at (i : Fin 48) (t : Fin 4096) : z48 (ix2 i t) = 0 := by
  pointwise [z48]
/-- The ones. -/
theorem o48_at (i : Fin 48) (t : Fin 4096) : o48 (ix2 i t) = 1 := by
  pointwise [o48]
/-- The tables at a position. -/
theorem tabs0_tab (t : Fin 4096) : Tab tabs0 t where
  lo d h := by
    unfold tabs0
    rw [tabs3_0, tabs3_1, tabs3_2, tab_read, tab_read, tab_read, dif_pos h, dif_pos h, dif_pos h, cos_at, nsin_at, z8_at]
    exact ⟨rfl, rfl, rfl⟩
  mid d h8 h := by
    have h1 : ¬ d.val < 8 := by omega
    have h2 : d.val - 8 < 8 := by omega
    unfold tabs0
    rw [tabs3_0, tabs3_1, tabs3_2, tab_read, tab_read, tab_read, dif_neg h1, dif_neg h1, dif_neg h1, dif_pos h2, dif_pos h2, dif_pos h2, cos_at, z8_at, sin_at]
    exact ⟨rfl, rfl, rfl⟩
  hi d h := by
    have h1 : ¬ d.val < 8 := by omega
    have h2 : ¬ d.val - 8 < 8 := by omega
    unfold tabs0
    rw [tabs3_0, tabs3_1, tabs3_2, tab_read, tab_read, tab_read, dif_neg h1, dif_neg h1, dif_neg h1, dif_neg h2, dif_neg h2, dif_neg h2, o48_at, z48_at]
    exact ⟨rfl, rfl, rfl⟩

variable (m : (ℓ : Loc nD τ sig) → Buf (Elt Ideal) ℓ)
/-- The tables' array at entry. -/
def DB (c : Dev nD) : FVec Ideal S3x64x4096 .f32 := V m c main_v29
/-- It is the tables. -/
theorem DB_eq (c : Dev nD) : DB m c = tabs0 := by
  unfold DB V
  after_results
  rfl

end Cert.Kernel17Ideal.AttnTabs
-- ==== Proof.AttnBlock.lean ====
/- Attention forward: the arrays the kernel leaves. -/
module

public import proofs.«01_k».proof.Proof.AttnTabs

set_option maxHeartbeats 2000000
set_option maxRecDepth 65536

@[expose] public section

noncomputable section

open Idealize.ShloMosaic Idealize.ShloMosaic.TcCoe Idealize.SL.Sem
open Idealize.ShloMosaic.Pipeline (Dat)

namespace Cert.Kernel17Ideal.AttnBlock

open Cert.Kernel17Ideal Cert.Kernel17Ideal.Gen Cert.Kernel17Ideal.AttnTile Cert.Kernel17Ideal.AttnGroup
open Cert.Reference17Ideal.AttnRef (cs sn qr kr vr row pos ok hd c8 sc sk o)

open Cert.Kernel17Ideal.AttnTabs
variable (m : (ℓ : Loc nD τ sig) → Buf (Elt Ideal) ℓ)
/-- The queries. -/
abbrev A0 (c : Dev nD) : FVec Ideal S4096x1024 .bf16 := m ((c : Thread nD τ).loc main_arg0)
/-- The keys and the values. -/
abbrev A1 (c : Dev nD) : FVec Ideal S4096x512 .bf16 := m ((c : Thread nD τ).loc main_arg1)
/-- The sinks. -/
abbrev A2 (c : Dev nD) : FVec Ideal S1x16 .f32 := m ((c : Thread nD τ).loc main_arg2)

/-- Every window's block index at every grid point. -/
theorem idx_val : ∀ t : Fin cfg0.N, win0_0.index t = ![t.val, 0] ∧ win0_1.index t = ![t.val - 1, 0] ∧ win0_2.index t = ![t.val, 0] ∧ win0_3.index t = ![t.val - 1, 1] ∧ win0_4.index t = ![t.val, 1]
    ∧ win0_5.index t = ![0, 0, t.val - 1] ∧ win0_6.index t = ![0, 0, t.val] ∧ win0_7.index t = ![0, 0] ∧ win0_8.index t = ![t.val, 0] ∧ win0_9.index t = ![0, 0, t.val] ∧ (grid0.coords t 0).val = t.val ∧ t.val < 32 :=
  (by decide +kernel : ∀ t : Fin grid0.N, _)
theorem ltN (t : Fin cfg0.N) : t.val < 32 := (idx_val t).2.2.2.2.2.2.2.2.2.2.2
/-- The block of a grid point. -/
def blkn (t : Fin cfg0.N) : Fin 32 := ⟨t.val, ltN t⟩

/-- A block of 128 rows. -/
theorem rd0 (A : FVec Ideal S4096x1024 .bf16) (t : Fin cfg0.N) (r : Fin 128) (k : Fin 1024) :
    (((cfg0.win 0).blk t).view.read (Elt Ideal) A) (ix2 r k) = A (ix2 (pos (blkn t) r) k) := by
  unfold pos blkn
  blk_ext [idx_val t]
/-- The block before, of the keys. -/
theorem rd1 (A : FVec Ideal S4096x512 .bf16) (t : Fin cfg0.N) (r : Fin 128) (k : Fin 256) (h1) (h2) :
    (((cfg0.win 1).blk t).view.read (Elt Ideal) A) (ix2 r k) = A (ix2 ⟨128 * ((blkn t).val - 1) + r.val, h1⟩ ⟨k.val, h2⟩) := by
  unfold blkn
  blk_ext [idx_val t]
/-- The block itself, of the keys. -/
theorem rd2 (A : FVec Ideal S4096x512 .bf16) (t : Fin cfg0.N) (r : Fin 128) (k : Fin 256) (h2) :
    (((cfg0.win 2).blk t).view.read (Elt Ideal) A) (ix2 r k) = A (ix2 (pos (blkn t) r) ⟨k.val, h2⟩) := by
  unfold pos blkn
  blk_ext [idx_val t]
/-- The block before, of the values. -/
theorem rd3 (A : FVec Ideal S4096x512 .bf16) (t : Fin cfg0.N) (r : Fin 128) (k : Fin 256) (h1) (h2) :
    (((cfg0.win 3).blk t).view.read (Elt Ideal) A) (ix2 r k) = A (ix2 ⟨128 * ((blkn t).val - 1) + r.val, h1⟩ ⟨256 + k.val, h2⟩) := by
  unfold blkn
  blk_ext [idx_val t]
/-- The block itself, of the values. -/
theorem rd4 (A : FVec Ideal S4096x512 .bf16) (t : Fin cfg0.N) (r : Fin 128) (k : Fin 256) (h2) :
    (((cfg0.win 4).blk t).view.read (Elt Ideal) A) (ix2 r k) = A (ix2 (pos (blkn t) r) ⟨256 + k.val, h2⟩) := by
  unfold pos blkn
  blk_ext [idx_val t]
/-- The block before, of the tables. -/
theorem rd5 (A : FVec Ideal S3x64x4096 .f32) (t : Fin cfg0.N) (b : Fin 3) (d : Fin 64) (r : Fin 128) (h1) :
    (((cfg0.win 5).blk t).view.read (Elt Ideal) A) (ix3 b d r) = A (ix3 b d ⟨128 * ((blkn t).val - 1) + r.val, h1⟩) := by
  unfold blkn
  blk_ext [idx_val t]
/-- The block itself, of the tables. -/
theorem rd6 (A : FVec Ideal S3x64x4096 .f32) (t : Fin cfg0.N) (b : Fin 3) (d : Fin 64) (r : Fin 128) :
    (((cfg0.win 6).blk t).view.read (Elt Ideal) A) (ix3 b d r) = A (ix3 b d (pos (blkn t) r)) := by
  unfold pos blkn
  blk_ext [idx_val t]
/-- The sinks. -/
theorem rd7 (A : FVec Ideal S1x16 .f32) (t : Fin cfg0.N) (h : Fin 16) :
    (((cfg0.win 7).blk t).view.read (Elt Ideal) A) (ix2 0 h) = A (ix2 0 h) := by
  blk_ext [idx_val t]
/-- A sink. -/
theorem ldS0 (X : Vec Ideal S1x16 .f32) (h) : View.ld (Val := Elt Ideal) (e' := .f32) X (Rect.unit ![0, 0] ![1, 1] inb_S1x16_S1x1_0_0) (Shape.Idx.first h) = X (ix2 0 0) := by
  refine congrArg X (funext fun a => ?_)
  fin_cases a <;> rfl
/-- A sink. -/
theorem ldS1 (X : Vec Ideal S1x16 .f32) (h) : View.ld (Val := Elt Ideal) (e' := .f32) X (Rect.unit ![0, 1] ![1, 1] inb_S1x16_S1x1_0_1) (Shape.Idx.first h) = X (ix2 0 1) := by
  refine congrArg X (funext fun a => ?_)
  fin_cases a <;> rfl
/-- A sink. -/
theorem ldS2 (X : Vec Ideal S1x16 .f32) (h) : View.ld (Val := Elt Ideal) (e' := .f32) X (Rect.unit ![0, 2] ![1, 1] inb_S1x16_S1x1_0_2) (Shape.Idx.first h) = X (ix2 0 2) := by
  refine congrArg X (funext fun a => ?_)
  fin_cases a <;> rfl
/-- A sink. -/
theorem ldS3 (X : Vec Ideal S1x16 .f32) (h) : View.ld (Val := Elt Ideal) (e' := .f32) X (Rect.unit ![0, 3] ![1, 1] inb_S1x16_S1x1_0_3) (Shape.Idx.first h) = X (ix2 0 3) := by
  refine congrArg X (funext fun a => ?_)
  fin_cases a <;> rfl
/-- A sink. -/
theorem ldS4 (X : Vec Ideal S1x16 .f32) (h) : View.ld (Val := Elt Ideal) (e' := .f32) X (Rect.unit ![0, 4] ![1, 1] inb_S1x16_S1x1_0_4) (Shape.Idx.first h) = X (ix2 0 4) := by
  refine congrArg X (funext fun a => ?_)
  fin_cases a <;> rfl
/-- A sink. -/
theorem ldS5 (X : Vec Ideal S1x16 .f32) (h) : View.ld (Val := Elt Ideal) (e' := .f32) X (Rect.unit ![0, 5] ![1, 1] inb_S1x16_S1x1_0_5) (Shape.Idx.first h) = X (ix2 0 5) := by
  refine congrArg X (funext fun a => ?_)
  fin_cases a <;> rfl
/-- A sink. -/
theorem ldS6 (X : Vec Ideal S1x16 .f32) (h) : View.ld (Val := Elt Ideal) (e' := .f32) X (Rect.unit ![0, 6] ![1, 1] inb_S1x16_S1x1_0_6) (Shape.Idx.first h) = X (ix2 0 6) := by
  refine congrArg X (funext fun a => ?_)
  fin_cases a <;> rfl
/-- A sink. -/
theorem ldS7 (X : Vec Ideal S1x16 .f32) (h) : View.ld (Val := Elt Ideal) (e' := .f32) X (Rect.unit ![0, 7] ![1, 1] inb_S1x16_S1x1_0_7) (Shape.Idx.first h) = X (ix2 0 7) := by
  refine congrArg X (funext fun a => ?_)
  fin_cases a <;> rfl
/-- A sink. -/
theorem ldS8 (X : Vec Ideal S1x16 .f32) (h) : View.ld (Val := Elt Ideal) (e' := .f32) X (Rect.unit ![0, 8] ![1, 1] inb_S1x16_S1x1_0_8) (Shape.Idx.first h) = X (ix2 0 8) := by
  refine congrArg X (funext fun a => ?_)
  fin_cases a <;> rfl
/-- A sink. -/
theorem ldS9 (X : Vec Ideal S1x16 .f32) (h) : View.ld (Val := Elt Ideal) (e' := .f32) X (Rect.unit ![0, 9] ![1, 1] inb_S1x16_S1x1_0_9) (Shape.Idx.first h) = X (ix2 0 9) := by
  refine congrArg X (funext fun a => ?_)
  fin_cases a <;> rfl
/-- A sink. -/
theorem ldS10 (X : Vec Ideal S1x16 .f32) (h) : View.ld (Val := Elt Ideal) (e' := .f32) X (Rect.unit ![0, 10] ![1, 1] inb_S1x16_S1x1_0_10) (Shape.Idx.first h) = X (ix2 0 10) := by
  refine congrArg X (funext fun a => ?_)
  fin_cases a <;> rfl
/-- A sink. -/
theorem ldS11 (X : Vec Ideal S1x16 .f32) (h) : View.ld (Val := Elt Ideal) (e' := .f32) X (Rect.unit ![0, 11] ![1, 1] inb_S1x16_S1x1_0_11) (Shape.Idx.first h) = X (ix2 0 11) := by
  refine congrArg X (funext fun a => ?_)
  fin_cases a <;> rfl
/-- A sink. -/
theorem ldS12 (X : Vec Ideal S1x16 .f32) (h) : View.ld (Val := Elt Ideal) (e' := .f32) X (Rect.unit ![0, 12] ![1, 1] inb_S1x16_S1x1_0_12) (Shape.Idx.first h) = X (ix2 0 12) := by
  refine congrArg X (funext fun a => ?_)
  fin_cases a <;> rfl
/-- A sink. -/
theorem ldS13 (X : Vec Ideal S1x16 .f32) (h) : View.ld (Val := Elt Ideal) (e' := .f32) X (Rect.unit ![0, 13] ![1, 1] inb_S1x16_S1x1_0_13) (Shape.Idx.first h) = X (ix2 0 13) := by
  refine congrArg X (funext fun a => ?_)
  fin_cases a <;> rfl
/-- A sink. -/
theorem ldS14 (X : Vec Ideal S1x16 .f32) (h) : View.ld (Val := Elt Ideal) (e' := .f32) X (Rect.unit ![0, 14] ![1, 1] inb_S1x16_S1x1_0_14) (Shape.Idx.first h) = X (ix2 0 14) := by
  refine congrArg X (funext fun a => ?_)
  fin_cases a <;> rfl
/-- A sink. -/
theorem ldS15 (X : Vec Ideal S1x16 .f32) (h) : View.ld (Val := Elt Ideal) (e' := .f32) X (Rect.unit ![0, 15] ![1, 1] inb_S1x16_S1x1_0_15) (Shape.Idx.first h) = X (ix2 0 15) := by
  refine congrArg X (funext fun a => ?_)
  fin_cases a <;> rfl
/-- The sinks as the kernel loads them. -/
def sinkv (X : Vec Ideal S1x16 .f32) (h : 0 < S1x1.numel) : Fin 16 → EReal := ![View.ld (Val := Elt Ideal) (e' := .f32) X (Rect.unit ![0, 0] ![1, 1] inb_S1x16_S1x1_0_0) (Shape.Idx.first h), View.ld (Val := Elt Ideal) (e' := .f32) X (Rect.unit ![0, 1] ![1, 1] inb_S1x16_S1x1_0_1) (Shape.Idx.first h), View.ld (Val := Elt Ideal) (e' := .f32) X (Rect.unit ![0, 2] ![1, 1] inb_S1x16_S1x1_0_2) (Shape.Idx.first h), View.ld (Val := Elt Ideal) (e' := .f32) X (Rect.unit ![0, 3] ![1, 1] inb_S1x16_S1x1_0_3) (Shape.Idx.first h), View.ld (Val := Elt Ideal) (e' := .f32) X (Rect.unit ![0, 4] ![1, 1] inb_S1x16_S1x1_0_4) (Shape.Idx.first h), View.ld (Val := Elt Ideal) (e' := .f32) X (Rect.unit ![0, 5] ![1, 1] inb_S1x16_S1x1_0_5) (Shape.Idx.first h), View.ld (Val := Elt Ideal) (e' := .f32) X (Rect.unit ![0, 6] ![1, 1] inb_S1x16_S1x1_0_6) (Shape.Idx.first h), View.ld (Val := Elt Ideal) (e' := .f32) X (Rect.unit ![0, 7] ![1, 1] inb_S1x16_S1x1_0_7) (Shape.Idx.first h), View.ld (Val := Elt Ideal) (e' := .f32) X (Rect.unit ![0, 8] ![1, 1] inb_S1x16_S1x1_0_8) (Shape.Idx.first h), View.ld (Val := Elt Ideal) (e' := .f32) X (Rect.unit ![0, 9] ![1, 1] inb_S1x16_S1x1_0_9) (Shape.Idx.first h), View.ld (Val := Elt Ideal) (e' := .f32) X (Rect.unit ![0, 10] ![1, 1] inb_S1x16_S1x1_0_10) (Shape.Idx.first h), View.ld (Val := Elt Ideal) (e' := .f32) X (Rect.unit ![0, 11] ![1, 1] inb_S1x16_S1x1_0_11) (Shape.Idx.first h), View.ld (Val := Elt Ideal) (e' := .f32) X (Rect.unit ![0, 12] ![1, 1] inb_S1x16_S1x1_0_12) (Shape.Idx.first h), View.ld (Val := Elt Ideal) (e' := .f32) X (Rect.unit ![0, 13] ![1, 1] inb_S1x16_S1x1_0_13) (Shape.Idx.first h), View.ld (Val := Elt Ideal) (e' := .f32) X (Rect.unit ![0, 14] ![1, 1] inb_S1x16_S1x1_0_14) (Shape.Idx.first h), View.ld (Val := Elt Ideal) (e' := .f32) X (Rect.unit ![0, 15] ![1, 1] inb_S1x16_S1x1_0_15) (Shape.Idx.first h)]
/-- They are the row's entries. -/
theorem sinkv_at (X : Vec Ideal S1x16 .f32) (h) (n : Fin 16) : sinkv X h n = X (ix2 0 n) := by
  fin_cases n
  · exact ldS0 X h
  · exact ldS1 X h
  · exact ldS2 X h
  · exact ldS3 X h
  · exact ldS4 X h
  · exact ldS5 X h
  · exact ldS6 X h
  · exact ldS7 X h
  · exact ldS8 X h
  · exact ldS9 X h
  · exact ldS10 X h
  · exact ldS11 X h
  · exact ldS12 X h
  · exact ldS13 X h
  · exact ldS14 X h
  · exact ldS15 X h
/-- A grid point's blocks. -/
theorem reads (c : Dev nD) (t : Fin cfg0.N) : Reads (A0 m c) (A1 m c) (A2 m c) tabs0 (blkn t) (grid0.coords t)
    (iblk m c 0 t) (iblk m c 1 t) (iblk m c 2 t) (iblk m c 3 t) (iblk m c 4 t) (iblk m c 5 t) (iblk m c 6 t) (sinkv (iblk m c 7 t) (by decide)) where
  i := (idx_val t).2.2.2.2.2.2.2.2.2.2.1
  q r f := rd0 (A0 m c) t r f
  kp r f := rd1 (A1 m c) t r f _ _
  k r f := rd2 (A1 m c) t r f _
  vp r f := rd3 (A1 m c) t r f _ _
  v r f := rd4 (A1 m c) t r f _
  tp b d r := (rd5 (DB m c) t b d r _).trans (congrFun (DB_eq m c) _)
  t b d r := (rd6 (DB m c) t b d r).trans (congrFun (DB_eq m c) _)
  s h := (sinkv_at _ _ h).trans (rd7 (A2 m c) t h)
  tab := tabs0_tab

/-- The first result at a position and a column. -/
def res8 (A0 : FVec Ideal S4096x1024 .bf16) (A1 : FVec Ideal S4096x512 .bf16) (A2 : FVec Ideal S1x16 .f32) (t : Fin 4096) (c : Fin 1024) : EReal :=
  o A0 A1 A2 ⟨t.val / 128, by omega⟩ ⟨t.val % 128, by omega⟩ ⟨c.val / 256, by omega⟩ ⟨c.val / 64 % 4, by omega⟩ ⟨c.val % 64, by omega⟩
/-- The second result: the maxima, then the reciprocals. -/
def res9 (A0 : FVec Ideal S4096x1024 .bf16) (A1 : FVec Ideal S4096x512 .bf16) (A2 : FVec Ideal S1x16 .f32) (b : Fin 2) (h : Fin 16) (t : Fin 4096) : EReal :=
  if _ : b.val < 1 then Attn.mx (sc A0 A1 ⟨t.val / 128, by omega⟩ ⟨h.val / 4, by omega⟩ ⟨h.val % 4, by omega⟩ ⟨t.val % 128, by omega⟩) (sk A2 ⟨h.val / 4, by omega⟩ ⟨h.val % 4, by omega⟩)
  else Attn.inv (sc A0 A1 ⟨t.val / 128, by omega⟩ ⟨h.val / 4, by omega⟩ ⟨h.val % 4, by omega⟩ ⟨t.val % 128, by omega⟩) (sk A2 ⟨h.val / 4, by omega⟩ ⟨h.val % 4, by omega⟩)

/-- What a grid point leaves in window 8. -/
theorem outs8 (c : Dev nD) (t : Fin cfg0.N) (y : S128x1024.Idx) : (outsAt0 m c t).1 y = O8 (grid0.coords t) (iblk m c 0 t) (iblk m c 1 t) (iblk m c 2 t) (iblk m c 3 t) (iblk m c 4 t) (iblk m c 5 t) (iblk m c 6 t) (sinkv (iblk m c 7 t) (by decide)) y := by
  unfold outsAt0
  frame_out
  exact congrFun (pay8 (grid0.coords t) (iblk m c 0 t) (iblk m c 1 t) (iblk m c 2 t) (iblk m c 3 t) (iblk m c 4 t) (iblk m c 5 t) (iblk m c 6 t) (sinkv (iblk m c 7 t) (by decide))) y
/-- It is its block of the first result. -/
theorem point8 (c : Dev nD) (t : Fin cfg0.N) (y : S128x1024.Idx) (i : S4096x1024.Idx) (hi0 : (i 0 : ℕ) = 128 * t.val + (y 0 : ℕ)) (hi1 : (i 1 : ℕ) = (y 1 : ℕ)) :
    (outsAt0 m c t).1 y = res8 (A0 m c) (A1 m c) (A2 m c) (i 0) (i 1) := by
  rw [outs8]
  idx_vars y
  idx_vars i
  have e0 : i0.val = 128 * t.val + y0.val := hi0
  have e1 : i1.val = y1.val := hi1
  have b0 : i0.val < 4096 := i0.isLt
  have b1 : i1.val < 1024 := i1.isLt
  have b2 : y0.val < 128 := y0.isLt
  have hn : (⟨i0.val / 128, by omega⟩ : Fin 32) = blkn t := Fin.ext (by show i0.val / 128 = t.val; omega)
  have hr : (⟨i0.val % 128, by omega⟩ : Fin 128) = y0 := Fin.ext (by show i0.val % 128 = y0.val; omega)
  have hc : y1 = ⟨64 * (hd ⟨i1.val / 256, by omega⟩ ⟨i1.val / 64 % 4, by omega⟩).val + (⟨i1.val % 64, by omega⟩ : Fin 64).val, by unfold hd; dsimp only; omega⟩ :=
    Fin.ext (by unfold hd; dsimp only; omega)
  show _ = res8 (A0 m c) (A1 m c) (A2 m c) i0 i1
  unfold res8
  rw [hn, hr, ← O8_at (reads m c t)]
  exact congrArg _ (congrArg (ix2 y0) hc)
/-- The first result after the run. -/
theorem final8 (c : Dev nD) : (dats m 0 c).arrAt 8 (cfgs 0).N = fun i => res8 (A0 m c) (A1 m c) (A2 m c) (i 0) (i 1) := by
  refine (dats m 0 c).arrAt_eq_of_covers 8 _ (by decide +kernel) fun t hf y => ?_
  blk_simp; rw [after0_8]
  refine point8 m c t y _ ?_ ?_ <;> blk_simp [idx_val t] <;> try omega

/-- The maxima of a grid point. -/
theorem max_pt (c : Dev nD) (t : Fin cfg0.N) (h : Fin 16) (r : Fin 128) (b : Fin 2) (h' : Fin 16) (j : Fin 4096) (hb : b.val = 0) (hh : h'.val = h.val) (hj : j.val = 128 * t.val + r.val) :
    O90 (grid0.coords t) (iblk m c 0 t) (iblk m c 1 t) (iblk m c 2 t) (iblk m c 5 t) (iblk m c 6 t) (sinkv (iblk m c 7 t) (by decide)) (ix2 h r) = res9 (A0 m c) (A1 m c) (A2 m c) b h' j := by
  obtain rfl : h' = h := Fin.ext hh
  have hb' : b.val < 1 := by omega
  unfold res9
  refine Eq.trans ?_ (dif_pos hb').symm
  have hn : (⟨j.val / 128, by omega⟩ : Fin 32) = blkn t := Fin.ext (by show j.val / 128 = t.val; omega)
  have hr : (⟨j.val % 128, by omega⟩ : Fin 128) = r := Fin.ext (by show j.val % 128 = r.val; omega)
  have hc : h' = hd ⟨h'.val / 4, by omega⟩ ⟨h'.val % 4, by omega⟩ := Fin.ext (by unfold hd; dsimp only; omega)
  rw [hn, hr, ← O90_at (reads m c t)]
  exact congrArg _ (congrArg (fun z => ix2 z r) hc)
/-- The reciprocals of a grid point. -/
theorem inv_pt (c : Dev nD) (t : Fin cfg0.N) (h : Fin 16) (r : Fin 128) (b : Fin 2) (h' : Fin 16) (j : Fin 4096) (hb : b.val = 1) (hh : h'.val = h.val) (hj : j.val = 128 * t.val + r.val) :
    O91 (grid0.coords t) (iblk m c 0 t) (iblk m c 1 t) (iblk m c 2 t) (iblk m c 5 t) (iblk m c 6 t) (sinkv (iblk m c 7 t) (by decide)) (ix2 h r) = res9 (A0 m c) (A1 m c) (A2 m c) b h' j := by
  obtain rfl : h' = h := Fin.ext hh
  have hb' : ¬ b.val < 1 := by omega
  unfold res9
  refine Eq.trans ?_ (dif_neg hb').symm
  have hn : (⟨j.val / 128, by omega⟩ : Fin 32) = blkn t := Fin.ext (by show j.val / 128 = t.val; omega)
  have hr : (⟨j.val % 128, by omega⟩ : Fin 128) = r := Fin.ext (by show j.val % 128 = r.val; omega)
  have hc : h' = hd ⟨h'.val / 4, by omega⟩ ⟨h'.val % 4, by omega⟩ := Fin.ext (by unfold hd; dsimp only; omega)
  rw [hn, hr, ← O91_at (reads m c t)]
  exact congrArg _ (congrArg (fun z => ix2 z r) hc)
/-- The second half as it is stored. -/
theorem store1 (X : FVec Ideal S16x128 .f32) (h : Fin 16) (r : Fin 128) : k0_pay1 (F := Ideal) X (ix3 0 h r) = X (ix2 h r) := by
  pointwise [k0_pay1]
/-- The first half as it is stored. -/
theorem store0 (X : FVec Ideal S16x128 .f32) (h : Fin 16) (r : Fin 128) (hh) : shapeCast S1x16x128 X hh (ix3 0 h r) = X (ix2 h r) := by
  pointwise

/-- What a grid point leaves in window 9 is its block of the second result. -/
theorem point9 (c : Dev nD) (t : Fin cfg0.N) (y : S2x16x128.Idx) (i : S2x16x4096.Idx) (hi0 : (i 0 : ℕ) = (y 0 : ℕ)) (hi1 : (i 1 : ℕ) = (y 1 : ℕ)) (hi2 : (i 2 : ℕ) = 128 * t.val + (y 2 : ℕ)) :
    (outsAt0 m c t).2 y = res9 (A0 m c) (A1 m c) (A2 m c) (i 0) (i 1) (i 2) := by
  unfold outsAt0
  frame_out
  canon_tiles x h
  all_goals idx_vars x
  · obtain rfl : x0 = 0 := Subsingleton.elim _ _
    refine (congrFun (congrArg (k0_pay1 (F := Ideal)) (pay91 (grid0.coords t) (iblk m c 0 t) (iblk m c 1 t) (iblk m c 2 t) (iblk m c 5 t) (iblk m c 6 t) (sinkv (iblk m c 7 t) (by decide)))) (ix3 0 x1 x2)).trans ?_
    rw [store1]
    exact inv_pt m c t x1 x2 (i 0) (i 1) (i 2) (hi0.trans (h0.trans rfl)) (hi1.trans h1) (by omega)
  · obtain rfl : x0 = 0 := Subsingleton.elim _ _
    refine (congrFun (pay90 (grid0.coords t) (iblk m c 0 t) (iblk m c 1 t) (iblk m c 2 t) (iblk m c 5 t) (iblk m c 6 t) (sinkv (iblk m c 7 t) (by decide))) (ix3 0 x1 x2)).trans ?_
    rw [store0]
    exact max_pt m c t x1 x2 (i 0) (i 1) (i 2) (hi0.trans h0) (hi1.trans h1) (by omega)
/-- The second result after the run. -/
theorem final9 (c : Dev nD) : (dats m 0 c).arrAt 9 (cfgs 0).N = fun i => res9 (A0 m c) (A1 m c) (A2 m c) (i 0) (i 1) (i 2) := by
  refine (dats m 0 c).arrAt_eq_of_covers 9 _ (by decide +kernel) fun t hf y => ?_
  blk_simp; rw [after0_9]
  refine point9 m c t y _ ?_ ?_ ?_ <;> blk_simp [idx_val t] <;> try omega

end Cert.Kernel17Ideal.AttnBlock
-- ==== Proof.FinitePre3.lean ====
/- What the precondition of attention says: every entry of every argument is real. -/
module

public import proofs.«01_k».proof.Proof.Gen.Pre_finite17
public import proofs.«01_k».proof.Proof.FinitePre2
public import proofs.«01_k».proof.Proof.AttnRef

@[expose] public section

noncomputable section

open Idealize.ShloMosaic Idealize.SL.Sem

namespace Finite

/-- The precondition of attention. -/
theorem of_finite17 (x0 : FVec Ideal Cert.Pre_finite17.S4096x1024 .bf16) (x1 : FVec Ideal Cert.Pre_finite17.S4096x512 .bf16) (x2 : FVec Ideal Cert.Pre_finite17.S1x16 .f32)
    (h : Cert.Pre_finite17.fn (F := Ideal) x0 x1 x2 = fun _ => 1#1) : Cert.Reference17Ideal.AttnRef.Real x0 x1 x2 := by
  have e := congrFun h ix0
  unfold Cert.Pre_finite17.fn at e
  dsimp only at e
  obtain ⟨e, e2⟩ := andi_split _ _ _ e
  obtain ⟨e, e1⟩ := andi_split _ _ _ e
  obtain ⟨e, e0⟩ := andi_split _ _ _ e
  exact ⟨real_of_reduce16 _ _ _ _ _ _ e0, real_of_reduce16 _ _ _ _ _ _ e1, real_of_reduce _ _ _ _ _ _ e2⟩

end Finite

end

end
-- ==== Proof.AttnClaim.lean ====
/- The claims about attention. -/
module

public import proofs.«01_k».proof.Defs
public import proofs.«01_k».proof.Proof.Gen.Kernel17.Frame
public import proofs.«01_k».proof.Proof.Gen.Reference17Ideal.Run
public import proofs.«01_k».proof.Proof.AttnBlock
public import proofs.«01_k».proof.Proof.FinitePre3

set_option maxRecDepth 16384

@[expose] public section

noncomputable section

open Idealize.ShloMosaic Idealize.SL.Sem

namespace Cert.Proof

set_option maxHeartbeats 2000000 in
/-- The kernel's arrays are the reference's. -/
theorem value_Attn : Cert.algebraic_Kernel17Ideal_Reference17Ideal_pre_finite17 := fun m ρ m' ρ' hp hag =>
  ⟨fun c i => Cert.Kernel17Ideal.AttnBlock.res8 (Cert.Kernel17Ideal.AttnBlock.A0 m c) (Cert.Kernel17Ideal.AttnBlock.A1 m c) (Cert.Kernel17Ideal.AttnBlock.A2 m c) (i 0) (i 1),
    fun c i => Cert.Kernel17Ideal.AttnBlock.res9 (Cert.Kernel17Ideal.AttnBlock.A0 m c) (Cert.Kernel17Ideal.AttnBlock.A1 m c) (Cert.Kernel17Ideal.AttnBlock.A2 m c) (i 0) (i 1) (i 2),
    (θ_run _ _ _).mono (fun _ h c => ⟨(h c).1.trans (Cert.Kernel17Ideal.AttnBlock.final8 m c),
      (h c).2.1.trans (Cert.Kernel17Ideal.AttnBlock.final9 m c),
      (h c).2.2⟩) (Cert.Kernel17Ideal.Value.run_blocks m ρ),
    (θ_run _ _ _).mono (fun _ h c => ⟨by
        have f := Finite.of_finite17 _ _ _ (hp c)
        refine (h c).1.trans ((Cert.Reference17Ideal.Read.val_main_v130_eq ..).trans ?_)
        show Cert.Reference17Ideal.Read.val_main_v130 (F := Ideal) (m' ((c.tc : Thread _ _).loc Cert.Reference17Ideal.main_arg0)) (m' ((c.tc : Thread _ _).loc Cert.Reference17Ideal.main_arg1)) (m' ((c.tc : Thread _ _).loc Cert.Reference17Ideal.main_arg2)) = _
        rw [(hag c).1, (hag c).2.1, (hag c).2.2]
        funext i
        idx_vars i
        exact Cert.Reference17Ideal.AttnRef.ref0 f i0 i1,
      by
        have f := Finite.of_finite17 _ _ _ (hp c)
        refine (h c).2.1.trans ((Cert.Reference17Ideal.Read.val_main_v135_eq ..).trans ?_)
        show Cert.Reference17Ideal.Read.val_main_v135 (F := Ideal) (m' ((c.tc : Thread _ _).loc Cert.Reference17Ideal.main_arg0)) (m' ((c.tc : Thread _ _).loc Cert.Reference17Ideal.main_arg1)) (m' ((c.tc : Thread _ _).loc Cert.Reference17Ideal.main_arg2)) = _
        rw [(hag c).1, (hag c).2.1, (hag c).2.2]
        funext i
        idx_vars i
        exact Cert.Reference17Ideal.AttnRef.ref1 f i0 i1 i2,
      (h c).2.2⟩) (Cert.Reference17Ideal.Value.run m' ρ')⟩

/-- The reference runs and leaves its arguments. -/
theorem frame_AttnRef : Cert.quiescent_Reference17Ideal := fun m ρ _ =>
  (θ_run Cert.Reference17Ideal.defs _ _).mono (fun r h => ⟨fun c => (h c).2.2,
      sem_eq_zero_of_no_sems (by decide) r.2⟩)
    (Cert.Reference17Ideal.Value.run m ρ)

end Cert.Proof

end

end
-- ==== Proof.AdamSpec.lean ====
/- One step of AdamW at an entry, as both programs compute it. -/
module

public import Idealize.ShloMosaic.PureOps.Ideal

@[expose] public section

noncomputable section

open Idealize.ShloMosaic

namespace Adam

/-- The new first moment: 0.9 of the old and 0.1 of the gradient. -/
def mm (g m : EReal) : EReal := Ideal.ofBits .f32 0x3F666666#32 * m + Ideal.ofBits .f32 0x3DCCCCCD#32 * g
/-- The new second moment: 0.999 of the old and 0.001 of the gradient's square. -/
def vv (g v : EReal) : EReal := Ideal.ofBits .f32 0x3F7FBE77#32 * v + Ideal.ofBits .f32 0x3A83126F#32 * (g * g)
/-- The weight's change, from the moments without their bias and the weight's decay. -/
def dl (w g m v : EReal) : EReal :=
  Ideal.ofBits .f32 0xBA83126F#32 * (Ideal.div (Ideal.div (mm g m) (Ideal.ofBits .f32 0x3F26BD02#32))
    (Ideal.sqrt (Ideal.div (vv g v) (Ideal.ofBits .f32 0x3C231ACC#32)) + Ideal.ofBits .f32 0x322BCC77#32) + Ideal.ofBits .f32 0x3C23D70A#32 * w)

/-- The change at equal entries. -/
theorem dl_congr {w w' g g' m m' v v' : EReal} (hw : w = w') (hg : g = g') (hm : m = m') (hv : v = v') : dl w g m v = dl w' g' m' v' := by
  rw [hw, hg, hm, hv]

end Adam

end

end
-- ==== Proof.AdamInBlock.lean ====
/- The optimiser's step on the convolution mixer's input weight: the arrays the kernel leaves and the reference's results, read at an index. -/
module

public import proofs.«01_k».proof.Proof.Gen.Kernel18Ideal.Value
public import proofs.«01_k».proof.Proof.Gen.Reference18Ideal.Read
public import proofs.«01_k».proof.Proof.Finite
public import proofs.«01_k».proof.Proof.AdamSpec

set_option maxRecDepth 16384

@[expose] public section

noncomputable section

open Idealize.ShloMosaic Idealize.ShloMosaic.TcCoe Idealize.SL.Sem
open Idealize.ShloMosaic.Pipeline (Dat)

namespace Cert.Kernel18Ideal.AdamInBlock

open Cert.Kernel18Ideal Cert.Kernel18Ideal.Gen
open Cert.Reference18Ideal.Read

variable (m : (ℓ : Loc nD τ sig) → Buf (Elt Ideal) ℓ)

/-- The weight. -/
abbrev A0 (c : Dev nD) : FVec Ideal S1x1024x768 .f32 := m ((c : Thread nD τ).loc main_arg0)
/-- The gradient. -/
abbrev A1 (c : Dev nD) : FVec Ideal S1024x768 .f32 := m ((c : Thread nD τ).loc main_arg1)
/-- The first moment. -/
abbrev A2 (c : Dev nD) : FVec Ideal S1x1024x768 .f32 := m ((c : Thread nD τ).loc main_arg2)
/-- The second moment. -/
abbrev A3 (c : Dev nD) : FVec Ideal S1x1024x768 .f32 := m ((c : Thread nD τ).loc main_arg3)

/-- Every window's block index at every grid point. -/
theorem idx_val : ∀ t : Fin cfg0.N, win0_0.index t = ![0, t.val, 0] ∧ win0_1.index t = ![0, t.val, 0] ∧ win0_2.index t = ![0, t.val, 0] ∧ win0_3.index t = ![t.val, 0] ∧ win0_4.index t = ![0, t.val, 0] ∧ win0_5.index t = ![0, t.val, 0] ∧ win0_6.index t = ![0, t.val, 0] ∧ win0_7.index t = ![0, t.val, 0] ∧ t.val < 4 :=
  (by decide +kernel : ∀ t : Fin grid0.N, _)
theorem ltN (t : Fin cfg0.N) : t.val < 4 := (idx_val t).2.2.2.2.2.2.2.2

/-- A block of an array: 256 of its rows. -/
theorem rd0 (A : FVec Ideal S1x1024x768 .f32) (t : Fin cfg0.N) (r : Fin 256) (k : Fin 768) (l : Fin 1) (i : Fin 1024) (j : Fin 768) (hl : l.val = 0) (hi : i.val = 256 * t.val + r.val) (hj : j.val = k.val) :
    ((cfg0.win 0).blk t).view.read (Elt Ideal) A (ix3 0 r k) = A (ix3 l i j) := by
  blk_ext [idx_val t]
/-- A block of an array: 256 of its rows. -/
theorem rd1 (A : FVec Ideal S1x1024x768 .f32) (t : Fin cfg0.N) (r : Fin 256) (k : Fin 768) (l : Fin 1) (i : Fin 1024) (j : Fin 768) (hl : l.val = 0) (hi : i.val = 256 * t.val + r.val) (hj : j.val = k.val) :
    ((cfg0.win 1).blk t).view.read (Elt Ideal) A (ix3 0 r k) = A (ix3 l i j) := by
  blk_ext [idx_val t]
/-- A block of an array: 256 of its rows. -/
theorem rd2 (A : FVec Ideal S1x1024x768 .f32) (t : Fin cfg0.N) (r : Fin 256) (k : Fin 768) (l : Fin 1) (i : Fin 1024) (j : Fin 768) (hl : l.val = 0) (hi : i.val = 256 * t.val + r.val) (hj : j.val = k.val) :
    ((cfg0.win 2).blk t).view.read (Elt Ideal) A (ix3 0 r k) = A (ix3 l i j) := by
  blk_ext [idx_val t]
/-- A block of a gradient: 256 of its rows. -/
theorem rd3 (A : FVec Ideal S1024x768 .f32) (t : Fin cfg0.N) (r : Fin 256) (k : Fin 768) (i : Fin 1024) (j : Fin 768) (hi : i.val = 256 * t.val + r.val) (hj : j.val = k.val) :
    ((cfg0.win 3).blk t).view.read (Elt Ideal) A (ix2 r k) = A (ix2 i j) := by
  blk_ext [idx_val t]

/-- The gradient, as it is handed on, of a grid point. -/
theorem point4 (c : Dev nD) (t : Fin cfg0.N) (y : S1x256x768.Idx) (i : S1x1024x768.Idx) (hi1 : (i 1 : ℕ) = 256 * t.val + (y 1 : ℕ)) (hi2 : (i 2 : ℕ) = (y 2 : ℕ)) :
    out0_4 (F := Ideal) (iblk m c 0 t) (iblk m c 1 t) (iblk m c 2 t) (iblk m c 3 t) y = A1 m c (ix2 (i 1) (i 2)) := by
  have ht := ltN t
  frame_out
  idx_vars y
  obtain rfl : y0 = 0 := Subsingleton.elim _ _
  pointwise [k0_pay4]
  exact rd3 (A1 m c) t y1 y2 (i 1) (i 2) hi1 hi2

/-- The gradient, as it is handed on, after the run. -/
theorem final4 (c : Dev nD) : (dats m 0 c).arrAt 4 (cfgs 0).N = fun i => A1 m c (ix2 (i 1) (i 2)) := by
  refine (dats m 0 c).arrAt_eq_of_covers 4 _ (by decide +kernel) fun t hf y => ?_
  blk_simp; rw [after0_4]
  refine point4 m c t y _ ?_ ?_ <;> blk_simp [idx_val t] <;> try omega
/-- The weight's change, of a grid point. -/
theorem point5 (c : Dev nD) (t : Fin cfg0.N) (y : S1x256x768.Idx) (i : S1x1024x768.Idx) (hi1 : (i 1 : ℕ) = 256 * t.val + (y 1 : ℕ)) (hi2 : (i 2 : ℕ) = (y 2 : ℕ)) :
    out0_5 (F := Ideal) (iblk m c 0 t) (iblk m c 1 t) (iblk m c 2 t) (iblk m c 3 t) y = Adam.dl (A0 m c (ix3 0 (i 1) (i 2))) (A1 m c (ix2 (i 1) (i 2))) (A2 m c (ix3 0 (i 1) (i 2))) (A3 m c (ix3 0 (i 1) (i 2))) := by
  have ht := ltN t
  frame_out
  idx_vars y
  obtain rfl : y0 = 0 := Subsingleton.elim _ _
  pointwise [k0_pay1, k0_pay7, k0_pay5, k0_pay6]
  exact Adam.dl_congr (rd0 (A0 m c) t y1 y2 0 (i 1) (i 2) rfl hi1 hi2) (rd3 (A1 m c) t y1 y2 (i 1) (i 2) hi1 hi2) (rd1 (A2 m c) t y1 y2 0 (i 1) (i 2) rfl hi1 hi2) (rd2 (A3 m c) t y1 y2 0 (i 1) (i 2) rfl hi1 hi2)

/-- The weight's change, after the run. -/
theorem final5 (c : Dev nD) : (dats m 0 c).arrAt 5 (cfgs 0).N = fun i => Adam.dl (A0 m c (ix3 0 (i 1) (i 2))) (A1 m c (ix2 (i 1) (i 2))) (A2 m c (ix3 0 (i 1) (i 2))) (A3 m c (ix3 0 (i 1) (i 2))) := by
  refine (dats m 0 c).arrAt_eq_of_covers 5 _ (by decide +kernel) fun t hf y => ?_
  blk_simp; rw [after0_5]
  refine point5 m c t y _ ?_ ?_ <;> blk_simp [idx_val t] <;> try omega
/-- The new first moment, of a grid point. -/
theorem point6 (c : Dev nD) (t : Fin cfg0.N) (y : S1x256x768.Idx) (i : S1x1024x768.Idx) (hi1 : (i 1 : ℕ) = 256 * t.val + (y 1 : ℕ)) (hi2 : (i 2 : ℕ) = (y 2 : ℕ)) :
    out0_6 (F := Ideal) (iblk m c 0 t) (iblk m c 1 t) (iblk m c 2 t) (iblk m c 3 t) y = Adam.mm (A1 m c (ix2 (i 1) (i 2))) (A2 m c (ix3 0 (i 1) (i 2))) := by
  have ht := ltN t
  frame_out
  idx_vars y
  obtain rfl : y0 = 0 := Subsingleton.elim _ _
  pointwise [k0_pay2, k0_pay5]
  exact congrArg₂ Adam.mm (rd3 (A1 m c) t y1 y2 (i 1) (i 2) hi1 hi2) (rd1 (A2 m c) t y1 y2 0 (i 1) (i 2) rfl hi1 hi2)

/-- The new first moment, after the run. -/
theorem final6 (c : Dev nD) : (dats m 0 c).arrAt 6 (cfgs 0).N = fun i => Adam.mm (A1 m c (ix2 (i 1) (i 2))) (A2 m c (ix3 0 (i 1) (i 2))) := by
  refine (dats m 0 c).arrAt_eq_of_covers 6 _ (by decide +kernel) fun t hf y => ?_
  blk_simp; rw [after0_6]
  refine point6 m c t y _ ?_ ?_ <;> blk_simp [idx_val t] <;> try omega
/-- The new second moment, of a grid point. -/
theorem point7 (c : Dev nD) (t : Fin cfg0.N) (y : S1x256x768.Idx) (i : S1x1024x768.Idx) (hi1 : (i 1 : ℕ) = 256 * t.val + (y 1 : ℕ)) (hi2 : (i 2 : ℕ) = (y 2 : ℕ)) :
    out0_7 (F := Ideal) (iblk m c 0 t) (iblk m c 1 t) (iblk m c 2 t) (iblk m c 3 t) y = Adam.vv (A1 m c (ix2 (i 1) (i 2))) (A3 m c (ix3 0 (i 1) (i 2))) := by
  have ht := ltN t
  frame_out
  idx_vars y
  obtain rfl : y0 = 0 := Subsingleton.elim _ _
  pointwise [k0_pay3, k0_pay6]
  exact congrArg₂ Adam.vv (rd3 (A1 m c) t y1 y2 (i 1) (i 2) hi1 hi2) (rd2 (A3 m c) t y1 y2 0 (i 1) (i 2) rfl hi1 hi2)

/-- The new second moment, after the run. -/
theorem final7 (c : Dev nD) : (dats m 0 c).arrAt 7 (cfgs 0).N = fun i => Adam.vv (A1 m c (ix2 (i 1) (i 2))) (A3 m c (ix3 0 (i 1) (i 2))) := by
  refine (dats m 0 c).arrAt_eq_of_covers 7 _ (by decide +kernel) fun t hf y => ?_
  blk_simp; rw [after0_7]
  refine point7 m c t y _ ?_ ?_ <;> blk_simp [idx_val t] <;> try omega

section
variable (x0 : FVec Ideal S1x1024x768 .f32) (x1 : FVec Ideal S1024x768 .f32) (x2 : FVec Ideal S1x1024x768 .f32) (x3 : FVec Ideal S1x1024x768 .f32)
/-- The reference's result at an index. -/
theorem ref_g (i : Fin 1024) (j : Fin 768) : val_main_v0 (F := Ideal) x1 (ix3 0 i j) = x1 (ix2 i j) := by
  pointwise [val_main_v0]
  try rfl
/-- The reference's result at an index. -/
theorem ref_d (i : Fin 1024) (j : Fin 768) : val_main_v25 (F := Ideal) x0 x1 x2 x3 (ix3 0 i j) = Adam.dl (x0 (ix3 0 i j)) (x1 (ix2 i j)) (x2 (ix3 0 i j)) (x3 (ix3 0 i j)) := by
  pointwise [val_main_v25, val_main_v24, val_main_cst_7, val_main_v23, val_main_v20, val_main_v14, val_main_v6, val_main_v3, val_main_v2, val_main_cst, val_main_v5, val_main_v4, val_main_cst_0, val_main_v1, val_main_v13, val_main_cst_3, val_main_v19, val_main_v17, val_main_v16, val_main_v12, val_main_v8, val_main_v7, val_main_cst_1, val_main_v11, val_main_v10, val_main_cst_2, val_main_v9, val_main_v15, val_main_cst_4, val_main_v18, val_main_cst_5, val_main_v22, val_main_v21, val_main_cst_6]
  try rfl
/-- The reference's result at an index. -/
theorem ref_m (i : Fin 1024) (j : Fin 768) : val_main_v6 (F := Ideal) x1 x2 (ix3 0 i j) = Adam.mm (x1 (ix2 i j)) (x2 (ix3 0 i j)) := by
  pointwise [val_main_v6, val_main_v3, val_main_v2, val_main_cst, val_main_v5, val_main_v4, val_main_cst_0, val_main_v1]
  try rfl
/-- The reference's result at an index. -/
theorem ref_v (i : Fin 1024) (j : Fin 768) : val_main_v12 (F := Ideal) x1 x3 (ix3 0 i j) = Adam.vv (x1 (ix2 i j)) (x3 (ix3 0 i j)) := by
  pointwise [val_main_v12, val_main_v8, val_main_v7, val_main_cst_1, val_main_v11, val_main_v10, val_main_cst_2, val_main_v9, val_main_v1]
  try rfl
end

end Cert.Kernel18Ideal.AdamInBlock

end

end
-- ==== Proof.AdamInClaim.lean ====
/- The claims about the optimiser's step on the convolution mixer's input weight. -/
module

public import proofs.«01_k».proof.Defs
public import proofs.«01_k».proof.Proof.Gen.Kernel18.Frame
public import proofs.«01_k».proof.Proof.Gen.Reference18Ideal.Run
public import proofs.«01_k».proof.Proof.AdamInBlock

set_option maxRecDepth 16384

@[expose] public section

noncomputable section

open Idealize.ShloMosaic Idealize.SL.Sem

namespace Cert.Proof

set_option maxHeartbeats 2000000 in
/-- The kernel's arrays are the reference's. -/
theorem value_AdamIn : Cert.algebraic_Kernel18Ideal_Reference18Ideal := fun m ρ m' ρ' _ hag =>
  ⟨fun c i => Cert.Kernel18Ideal.AdamInBlock.A1 m c (ix2 (i 1) (i 2)),
    fun c i => Adam.dl (Cert.Kernel18Ideal.AdamInBlock.A0 m c (ix3 0 (i 1) (i 2))) (Cert.Kernel18Ideal.AdamInBlock.A1 m c (ix2 (i 1) (i 2))) (Cert.Kernel18Ideal.AdamInBlock.A2 m c (ix3 0 (i 1) (i 2))) (Cert.Kernel18Ideal.AdamInBlock.A3 m c (ix3 0 (i 1) (i 2))),
    fun c i => Adam.mm (Cert.Kernel18Ideal.AdamInBlock.A1 m c (ix2 (i 1) (i 2))) (Cert.Kernel18Ideal.AdamInBlock.A2 m c (ix3 0 (i 1) (i 2))),
    fun c i => Adam.vv (Cert.Kernel18Ideal.AdamInBlock.A1 m c (ix2 (i 1) (i 2))) (Cert.Kernel18Ideal.AdamInBlock.A3 m c (ix3 0 (i 1) (i 2))),
    (θ_run _ _ _).mono (fun _ h c => ⟨(h c).1.trans (Cert.Kernel18Ideal.AdamInBlock.final4 m c),
      (h c).2.1.trans (Cert.Kernel18Ideal.AdamInBlock.final5 m c),
      (h c).2.2.1.trans (Cert.Kernel18Ideal.AdamInBlock.final6 m c),
      (h c).2.2.2.1.trans (Cert.Kernel18Ideal.AdamInBlock.final7 m c),
      (h c).2.2.2.2⟩) (Cert.Kernel18Ideal.Value.run_blocks m ρ),
    (θ_run _ _ _).mono (fun _ h c => ⟨by
        refine (h c).1.trans ((Cert.Reference18Ideal.Read.val_main_v0_eq ..).trans ?_)
        show Cert.Reference18Ideal.Read.val_main_v0 (F := Ideal) (m' ((c.tc : Thread _ _).loc Cert.Reference18Ideal.main_arg1)) = _
        rw [(hag c).2.1]
        funext i
        idx_vars i
        obtain rfl : i0 = 0 := Subsingleton.elim _ _
        exact Cert.Kernel18Ideal.AdamInBlock.ref_g _ i1 i2,
      by
        refine (h c).2.1.trans ((Cert.Reference18Ideal.Read.val_main_v25_eq ..).trans ?_)
        show Cert.Reference18Ideal.Read.val_main_v25 (F := Ideal) (m' ((c.tc : Thread _ _).loc Cert.Reference18Ideal.main_arg0)) (m' ((c.tc : Thread _ _).loc Cert.Reference18Ideal.main_arg1)) (m' ((c.tc : Thread _ _).loc Cert.Reference18Ideal.main_arg2)) (m' ((c.tc : Thread _ _).loc Cert.Reference18Ideal.main_arg3)) = _
        rw [(hag c).1, (hag c).2.1, (hag c).2.2.1, (hag c).2.2.2]
        funext i
        idx_vars i
        obtain rfl : i0 = 0 := Subsingleton.elim _ _
        exact Cert.Kernel18Ideal.AdamInBlock.ref_d _ _ _ _ i1 i2,
      by
        refine (h c).2.2.1.trans ((Cert.Reference18Ideal.Read.val_main_v6_eq ..).trans ?_)
        show Cert.Reference18Ideal.Read.val_main_v6 (F := Ideal) (m' ((c.tc : Thread _ _).loc Cert.Reference18Ideal.main_arg1)) (m' ((c.tc : Thread _ _).loc Cert.Reference18Ideal.main_arg2)) = _
        rw [(hag c).2.1, (hag c).2.2.1]
        funext i
        idx_vars i
        obtain rfl : i0 = 0 := Subsingleton.elim _ _
        exact Cert.Kernel18Ideal.AdamInBlock.ref_m _ _ i1 i2,
      by
        refine (h c).2.2.2.1.trans ((Cert.Reference18Ideal.Read.val_main_v12_eq ..).trans ?_)
        show Cert.Reference18Ideal.Read.val_main_v12 (F := Ideal) (m' ((c.tc : Thread _ _).loc Cert.Reference18Ideal.main_arg1)) (m' ((c.tc : Thread _ _).loc Cert.Reference18Ideal.main_arg3)) = _
        rw [(hag c).2.1, (hag c).2.2.2]
        funext i
        idx_vars i
        obtain rfl : i0 = 0 := Subsingleton.elim _ _
        exact Cert.Kernel18Ideal.AdamInBlock.ref_v _ _ i1 i2,
      (h c).2.2.2.2⟩) (Cert.Reference18Ideal.Value.run m' ρ')⟩

/-- The reference runs and leaves its arguments. -/
theorem frame_AdamInRef : Cert.quiescent_Reference18Ideal := fun m ρ _ =>
  (θ_run Cert.Reference18Ideal.defs _ _).mono (fun r h => ⟨fun c => (h c).2.2.2.2,
      sem_eq_zero_of_no_sems (by decide) r.2⟩)
    (Cert.Reference18Ideal.Value.run m ρ)

end Cert.Proof

end

end
-- ==== Proof.AdamGuBlock.lean ====
/- The optimiser's step on the gate and up weights: the arrays the kernel leaves and the reference's results, read at an index. -/
module

public import proofs.«01_k».proof.Proof.Gen.Kernel19Ideal.Value
public import proofs.«01_k».proof.Proof.Gen.Reference19Ideal.Read
public import proofs.«01_k».proof.Proof.Finite
public import proofs.«01_k».proof.Proof.AdamSpec

set_option maxRecDepth 16384

@[expose] public section

noncomputable section

open Idealize.ShloMosaic Idealize.ShloMosaic.TcCoe Idealize.SL.Sem
open Idealize.ShloMosaic.Pipeline (Dat)

namespace Cert.Kernel19Ideal.AdamGuBlock

open Cert.Kernel19Ideal Cert.Kernel19Ideal.Gen
open Cert.Reference19Ideal.Read

variable (m : (ℓ : Loc nD τ sig) → Buf (Elt Ideal) ℓ)

/-- The weight. -/
abbrev A0 (c : Dev nD) : FVec Ideal S2x1024x1408 .f32 := m ((c : Thread nD τ).loc main_arg0)
/-- The first layer's gradient. -/
abbrev A1 (c : Dev nD) : FVec Ideal S1024x1408 .f32 := m ((c : Thread nD τ).loc main_arg1)
/-- The second layer's gradient. -/
abbrev A2 (c : Dev nD) : FVec Ideal S1024x1408 .f32 := m ((c : Thread nD τ).loc main_arg2)
/-- The first moment. -/
abbrev A3 (c : Dev nD) : FVec Ideal S2x1024x1408 .f32 := m ((c : Thread nD τ).loc main_arg3)
/-- The second moment. -/
abbrev A4 (c : Dev nD) : FVec Ideal S2x1024x1408 .f32 := m ((c : Thread nD τ).loc main_arg4)

/-- The gradient of a layer. -/
def gr (x1 x2 : FVec Ideal S1024x1408 .f32) (l : Fin 2) (i : Fin 1024) (j : Fin 1408) : EReal := if l.val < 1 then x1 (ix2 i j) else x2 (ix2 i j)

/-- Every window's block index at every grid point. -/
theorem idx_val : ∀ t : Fin cfg0.N, win0_0.index t = ![t.val / 4, t.val % 4, 0] ∧ win0_1.index t = ![t.val / 4, t.val % 4, 0] ∧ win0_2.index t = ![t.val / 4, t.val % 4, 0] ∧ win0_3.index t = ![if t.val < 4 then t.val else 3, 0] ∧ win0_4.index t = ![if t.val < 4 then 0 else t.val - 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] ∧ t.val < 8 :=
  (by decide +kernel : ∀ t : Fin grid0.N, _)
theorem ltN (t : Fin cfg0.N) : t.val < 8 := (idx_val t).2.2.2.2.2.2.2.2.2
/-- The layer of a grid point. -/
theorem layer_val : ∀ t : Fin cfg0.N, (grid0.coords t 0).val = t.val / 4 :=
  (by decide +kernel : ∀ t : Fin grid0.N, _)

/-- A block of an array: 256 rows of a layer. -/
theorem rd0 (A : FVec Ideal S2x1024x1408 .f32) (t : Fin cfg0.N) (r : Fin 256) (k : Fin 1408) (i : S2x1024x1408.Idx) (hl : (i 0).val = t.val / 4 + (0 : Fin 1).val) (hi : (i 1).val = 256 * (t.val % 4) + r.val) (hj : (i 2).val = k.val) :
    ((cfg0.win 0).blk t).view.read (Elt Ideal) A (ix3 0 r k) = A i := by
  have hl : (i 0).val = t.val / 4 := hl
  blk_ext [idx_val t]
/-- A block of an array: 256 rows of a layer. -/
theorem rd1 (A : FVec Ideal S2x1024x1408 .f32) (t : Fin cfg0.N) (r : Fin 256) (k : Fin 1408) (i : S2x1024x1408.Idx) (hl : (i 0).val = t.val / 4 + (0 : Fin 1).val) (hi : (i 1).val = 256 * (t.val % 4) + r.val) (hj : (i 2).val = k.val) :
    ((cfg0.win 1).blk t).view.read (Elt Ideal) A (ix3 0 r k) = A i := by
  have hl : (i 0).val = t.val / 4 := hl
  blk_ext [idx_val t]
/-- A block of an array: 256 rows of a layer. -/
theorem rd2 (A : FVec Ideal S2x1024x1408 .f32) (t : Fin cfg0.N) (r : Fin 256) (k : Fin 1408) (i : S2x1024x1408.Idx) (hl : (i 0).val = t.val / 4 + (0 : Fin 1).val) (hi : (i 1).val = 256 * (t.val % 4) + r.val) (hj : (i 2).val = k.val) :
    ((cfg0.win 2).blk t).view.read (Elt Ideal) A (ix3 0 r k) = A i := by
  have hl : (i 0).val = t.val / 4 := hl
  blk_ext [idx_val t]
/-- A block of a gradient: 256 of its rows. -/
theorem rd3 (A : FVec Ideal S1024x1408 .f32) (t : Fin cfg0.N) (r : Fin 256) (k : Fin 1408) (i : Fin 1024) (j : Fin 1408) (ht : t.val < 4) (hi : i.val = 256 * t.val + r.val) (hj : j.val = k.val) :
    ((cfg0.win 3).blk t).view.read (Elt Ideal) A (ix2 r k) = A (ix2 i j) := by
  blk_ext [idx_val t, if_pos ht]
/-- A block of a gradient: 256 of its rows. -/
theorem rd4 (A : FVec Ideal S1024x1408 .f32) (t : Fin cfg0.N) (r : Fin 256) (k : Fin 1408) (i : Fin 1024) (j : Fin 1408) (ht : ¬ t.val < 4) (hi : i.val = 256 * (t.val - 4) + r.val) (hj : j.val = k.val) :
    ((cfg0.win 4).blk t).view.read (Elt Ideal) A (ix2 r k) = A (ix2 i j) := by
  blk_ext [idx_val t, if_neg ht]

/-- The gradient that a grid point reads is its layer's. -/
theorem gsel (c : Dev nD) (t : Fin cfg0.N) (r : Fin 256) (k : Fin 1408) (l : Fin 2) (i : Fin 1024) (j : Fin 1408) (hl : l.val = t.val / 4) (hi : i.val = 256 * (t.val % 4) + r.val) (hj : j.val = k.val) :
    k0_pay4 (F := Ideal) (grid0.coords t) (iblk m c 3 t) (iblk m c 4 t) (ix2 r k) = gr (A1 m c) (A2 m c) l i j := by
  have ht := ltN t
  have hc := layer_val t
  unfold gr k0_pay4
  dsimp only
  rw [hc]
  by_cases h : t.val < 4
  · rw [if_pos (show l.val < 1 by omega), show t.val / 4 = 0 by omega]
    exact rd3 (A1 m c) t r k i j h (by omega) hj
  · rw [if_neg (show ¬ l.val < 1 by omega), show t.val / 4 = 1 by omega]
    exact rd4 (A2 m c) t r k i j h (by omega) hj

/-- The gradient, as it is handed on, of a grid point. -/
theorem point5 (c : Dev nD) (t : Fin cfg0.N) (y : S1x256x1408.Idx) (i : S2x1024x1408.Idx) (hi0 : (i 0 : ℕ) = t.val / 4 + (y 0 : ℕ)) (hi1 : (i 1 : ℕ) = 256 * (t.val % 4) + (y 1 : ℕ)) (hi2 : (i 2 : ℕ) = (y 2 : ℕ)) :
    out0_5 (F := Ideal) (grid0.coords t) (iblk m c 0 t) (iblk m c 1 t) (iblk m c 2 t) (iblk m c 3 t) (iblk m c 4 t) y = gr (A1 m c) (A2 m c) (i 0) (i 1) (i 2) := by
  have ht := ltN t
  frame_out
  idx_vars y
  obtain rfl : y0 = 0 := Subsingleton.elim _ _
  pointwise [k0_pay5]
  exact gsel m c t y1 y2 (i 0) (i 1) (i 2) hi0 hi1 hi2

/-- The gradient, as it is handed on, after the run. -/
theorem final5 (c : Dev nD) : (dats m 0 c).arrAt 5 (cfgs 0).N = fun i => gr (A1 m c) (A2 m c) (i 0) (i 1) (i 2) := by
  refine (dats m 0 c).arrAt_eq_of_covers 5 _ (by decide +kernel) fun t hf y => ?_
  blk_simp; rw [after0_5]
  refine point5 m c t y _ ?_ ?_ ?_ <;> blk_simp [idx_val t] <;> try omega
/-- The weight's change, of a grid point. -/
theorem point6 (c : Dev nD) (t : Fin cfg0.N) (y : S1x256x1408.Idx) (i : S2x1024x1408.Idx) (hi0 : (i 0 : ℕ) = t.val / 4 + (y 0 : ℕ)) (hi1 : (i 1 : ℕ) = 256 * (t.val % 4) + (y 1 : ℕ)) (hi2 : (i 2 : ℕ) = (y 2 : ℕ)) :
    out0_6 (F := Ideal) (grid0.coords t) (iblk m c 0 t) (iblk m c 1 t) (iblk m c 2 t) (iblk m c 3 t) (iblk m c 4 t) y = Adam.dl (A0 m c i) (gr (A1 m c) (A2 m c) (i 0) (i 1) (i 2)) (A3 m c i) (A4 m c i) := by
  have ht := ltN t
  frame_out
  idx_vars y
  obtain rfl : y0 = 0 := Subsingleton.elim _ _
  pointwise [k0_pay1, k0_pay9, k0_pay7, k0_pay8, k0_pay6]
  exact Adam.dl_congr (rd0 (A0 m c) t y1 y2 i hi0 hi1 hi2) (gsel m c t y1 y2 (i 0) (i 1) (i 2) hi0 hi1 hi2) (rd1 (A3 m c) t y1 y2 i hi0 hi1 hi2) (rd2 (A4 m c) t y1 y2 i hi0 hi1 hi2)

/-- The weight's change, after the run. -/
theorem final6 (c : Dev nD) : (dats m 0 c).arrAt 6 (cfgs 0).N = fun i => Adam.dl (A0 m c i) (gr (A1 m c) (A2 m c) (i 0) (i 1) (i 2)) (A3 m c i) (A4 m c i) := by
  refine (dats m 0 c).arrAt_eq_of_covers 6 _ (by decide +kernel) fun t hf y => ?_
  blk_simp; rw [after0_6]
  refine point6 m c t y _ ?_ ?_ ?_ <;> blk_simp [idx_val t] <;> try omega
/-- The new first moment, of a grid point. -/
theorem point7 (c : Dev nD) (t : Fin cfg0.N) (y : S1x256x1408.Idx) (i : S2x1024x1408.Idx) (hi0 : (i 0 : ℕ) = t.val / 4 + (y 0 : ℕ)) (hi1 : (i 1 : ℕ) = 256 * (t.val % 4) + (y 1 : ℕ)) (hi2 : (i 2 : ℕ) = (y 2 : ℕ)) :
    out0_7 (F := Ideal) (grid0.coords t) (iblk m c 0 t) (iblk m c 1 t) (iblk m c 2 t) (iblk m c 3 t) (iblk m c 4 t) y = Adam.mm (gr (A1 m c) (A2 m c) (i 0) (i 1) (i 2)) (A3 m c i) := by
  have ht := ltN t
  frame_out
  idx_vars y
  obtain rfl : y0 = 0 := Subsingleton.elim _ _
  pointwise [k0_pay2, k0_pay7]
  exact congrArg₂ Adam.mm (gsel m c t y1 y2 (i 0) (i 1) (i 2) hi0 hi1 hi2) (rd1 (A3 m c) t y1 y2 i hi0 hi1 hi2)

/-- The new first moment, after the run. -/
theorem final7 (c : Dev nD) : (dats m 0 c).arrAt 7 (cfgs 0).N = fun i => Adam.mm (gr (A1 m c) (A2 m c) (i 0) (i 1) (i 2)) (A3 m c i) := by
  refine (dats m 0 c).arrAt_eq_of_covers 7 _ (by decide +kernel) fun t hf y => ?_
  blk_simp; rw [after0_7]
  refine point7 m c t y _ ?_ ?_ ?_ <;> blk_simp [idx_val t] <;> try omega
/-- The new second moment, of a grid point. -/
theorem point8 (c : Dev nD) (t : Fin cfg0.N) (y : S1x256x1408.Idx) (i : S2x1024x1408.Idx) (hi0 : (i 0 : ℕ) = t.val / 4 + (y 0 : ℕ)) (hi1 : (i 1 : ℕ) = 256 * (t.val % 4) + (y 1 : ℕ)) (hi2 : (i 2 : ℕ) = (y 2 : ℕ)) :
    out0_8 (F := Ideal) (grid0.coords t) (iblk m c 0 t) (iblk m c 1 t) (iblk m c 2 t) (iblk m c 3 t) (iblk m c 4 t) y = Adam.vv (gr (A1 m c) (A2 m c) (i 0) (i 1) (i 2)) (A4 m c i) := by
  have ht := ltN t
  frame_out
  idx_vars y
  obtain rfl : y0 = 0 := Subsingleton.elim _ _
  pointwise [k0_pay3, k0_pay8]
  exact congrArg₂ Adam.vv (gsel m c t y1 y2 (i 0) (i 1) (i 2) hi0 hi1 hi2) (rd2 (A4 m c) t y1 y2 i hi0 hi1 hi2)

/-- The new second moment, after the run. -/
theorem final8 (c : Dev nD) : (dats m 0 c).arrAt 8 (cfgs 0).N = fun i => Adam.vv (gr (A1 m c) (A2 m c) (i 0) (i 1) (i 2)) (A4 m c i) := by
  refine (dats m 0 c).arrAt_eq_of_covers 8 _ (by decide +kernel) fun t hf y => ?_
  blk_simp; rw [after0_8]
  refine point8 m c t y _ ?_ ?_ ?_ <;> blk_simp [idx_val t] <;> try omega

section
variable (x0 : FVec Ideal S2x1024x1408 .f32) (x1 : FVec Ideal S1024x1408 .f32) (x2 : FVec Ideal S1024x1408 .f32) (x3 : FVec Ideal S2x1024x1408 .f32) (x4 : FVec Ideal S2x1024x1408 .f32)
/-- The reference's stacked gradients. -/
theorem ref_g (l : Fin 2) (i : Fin 1024) (j : Fin 1408) : val_main_v2 (F := Ideal) x1 x2 (ix3 l i j) = gr x1 x2 l i j := by
  unfold gr
  by_cases h : l.val < 1
  · rw [if_pos h]
    obtain rfl : l = 0 := Fin.ext (by have : (0 : Fin 2).val = 0 := rfl; omega)
    pointwise [val_main_v2, val_main_v1, val_main_v0]
    try rfl
  · rw [if_neg h]
    obtain rfl : l = 1 := Fin.ext (by have : (1 : Fin 2).val = 1 := rfl; omega)
    pointwise [val_main_v2, val_main_v1, val_main_v0]
    try rfl
/-- The reference's result at an index. -/
theorem ref_d (l : Fin 2) (i : Fin 1024) (j : Fin 1408) : val_main_v26 (F := Ideal) x0 x1 x2 x3 x4 (ix3 l i j) = Adam.dl (x0 (ix3 l i j)) (gr x1 x2 l i j) (x3 (ix3 l i j)) (x4 (ix3 l i j)) := by
  rw [← ref_g]
  pointwise [val_main_v26, val_main_v25, val_main_cst_7, val_main_v24, val_main_v21, val_main_v15, val_main_v7, val_main_v4, val_main_v3, val_main_cst, val_main_v6, val_main_v5, val_main_cst_0, val_main_v14, val_main_cst_3, val_main_v20, val_main_v18, val_main_v17, val_main_v13, val_main_v9, val_main_v8, val_main_cst_1, val_main_v12, val_main_v11, val_main_cst_2, val_main_v10, val_main_v16, val_main_cst_4, val_main_v19, val_main_cst_5, val_main_v23, val_main_v22, val_main_cst_6]
  try rfl
/-- The reference's result at an index. -/
theorem ref_m (l : Fin 2) (i : Fin 1024) (j : Fin 1408) : val_main_v7 (F := Ideal) x1 x2 x3 (ix3 l i j) = Adam.mm (gr x1 x2 l i j) (x3 (ix3 l i j)) := by
  rw [← ref_g]
  pointwise [val_main_v7, val_main_v4, val_main_v3, val_main_cst, val_main_v6, val_main_v5, val_main_cst_0]
  try rfl
/-- The reference's result at an index. -/
theorem ref_v (l : Fin 2) (i : Fin 1024) (j : Fin 1408) : val_main_v13 (F := Ideal) x1 x2 x4 (ix3 l i j) = Adam.vv (gr x1 x2 l i j) (x4 (ix3 l i j)) := by
  rw [← ref_g]
  pointwise [val_main_v13, val_main_v9, val_main_v8, val_main_cst_1, val_main_v12, val_main_v11, val_main_cst_2, val_main_v10]
  try rfl
end

end Cert.Kernel19Ideal.AdamGuBlock

end

end
-- ==== Proof.AdamGuClaim.lean ====
/- The claims about the optimiser's step on the gate and up weights. -/
module

public import proofs.«01_k».proof.Defs
public import proofs.«01_k».proof.Proof.Gen.Kernel19.Frame
public import proofs.«01_k».proof.Proof.Gen.Reference19Ideal.Run
public import proofs.«01_k».proof.Proof.AdamGuBlock

set_option maxRecDepth 16384

@[expose] public section

noncomputable section

open Idealize.ShloMosaic Idealize.SL.Sem

namespace Cert.Proof

set_option maxHeartbeats 2000000 in
/-- The kernel's arrays are the reference's. -/
theorem value_AdamGu : Cert.algebraic_Kernel19Ideal_Reference19Ideal := fun m ρ m' ρ' _ hag =>
  ⟨fun c i => Cert.Kernel19Ideal.AdamGuBlock.gr (Cert.Kernel19Ideal.AdamGuBlock.A1 m c) (Cert.Kernel19Ideal.AdamGuBlock.A2 m c) (i 0) (i 1) (i 2),
    fun c i => Adam.dl (Cert.Kernel19Ideal.AdamGuBlock.A0 m c i) (Cert.Kernel19Ideal.AdamGuBlock.gr (Cert.Kernel19Ideal.AdamGuBlock.A1 m c) (Cert.Kernel19Ideal.AdamGuBlock.A2 m c) (i 0) (i 1) (i 2)) (Cert.Kernel19Ideal.AdamGuBlock.A3 m c i) (Cert.Kernel19Ideal.AdamGuBlock.A4 m c i),
    fun c i => Adam.mm (Cert.Kernel19Ideal.AdamGuBlock.gr (Cert.Kernel19Ideal.AdamGuBlock.A1 m c) (Cert.Kernel19Ideal.AdamGuBlock.A2 m c) (i 0) (i 1) (i 2)) (Cert.Kernel19Ideal.AdamGuBlock.A3 m c i),
    fun c i => Adam.vv (Cert.Kernel19Ideal.AdamGuBlock.gr (Cert.Kernel19Ideal.AdamGuBlock.A1 m c) (Cert.Kernel19Ideal.AdamGuBlock.A2 m c) (i 0) (i 1) (i 2)) (Cert.Kernel19Ideal.AdamGuBlock.A4 m c i),
    (θ_run _ _ _).mono (fun _ h c => ⟨(h c).1.trans (Cert.Kernel19Ideal.AdamGuBlock.final5 m c),
      (h c).2.1.trans (Cert.Kernel19Ideal.AdamGuBlock.final6 m c),
      (h c).2.2.1.trans (Cert.Kernel19Ideal.AdamGuBlock.final7 m c),
      (h c).2.2.2.1.trans (Cert.Kernel19Ideal.AdamGuBlock.final8 m c),
      (h c).2.2.2.2⟩) (Cert.Kernel19Ideal.Value.run_blocks m ρ),
    (θ_run _ _ _).mono (fun _ h c => ⟨by
        refine (h c).1.trans ((Cert.Reference19Ideal.Read.val_main_v2_eq ..).trans ?_)
        show Cert.Reference19Ideal.Read.val_main_v2 (F := Ideal) (m' ((c.tc : Thread _ _).loc Cert.Reference19Ideal.main_arg1)) (m' ((c.tc : Thread _ _).loc Cert.Reference19Ideal.main_arg2)) = _
        rw [(hag c).2.1, (hag c).2.2.1]
        funext i
        idx_vars i
        exact Cert.Kernel19Ideal.AdamGuBlock.ref_g _ _ i0 i1 i2,
      by
        refine (h c).2.1.trans ((Cert.Reference19Ideal.Read.val_main_v26_eq ..).trans ?_)
        show Cert.Reference19Ideal.Read.val_main_v26 (F := Ideal) (m' ((c.tc : Thread _ _).loc Cert.Reference19Ideal.main_arg0)) (m' ((c.tc : Thread _ _).loc Cert.Reference19Ideal.main_arg1)) (m' ((c.tc : Thread _ _).loc Cert.Reference19Ideal.main_arg2)) (m' ((c.tc : Thread _ _).loc Cert.Reference19Ideal.main_arg3)) (m' ((c.tc : Thread _ _).loc Cert.Reference19Ideal.main_arg4)) = _
        rw [(hag c).1, (hag c).2.1, (hag c).2.2.1, (hag c).2.2.2.1, (hag c).2.2.2.2]
        funext i
        idx_vars i
        exact Cert.Kernel19Ideal.AdamGuBlock.ref_d _ _ _ _ _ i0 i1 i2,
      by
        refine (h c).2.2.1.trans ((Cert.Reference19Ideal.Read.val_main_v7_eq ..).trans ?_)
        show Cert.Reference19Ideal.Read.val_main_v7 (F := Ideal) (m' ((c.tc : Thread _ _).loc Cert.Reference19Ideal.main_arg1)) (m' ((c.tc : Thread _ _).loc Cert.Reference19Ideal.main_arg2)) (m' ((c.tc : Thread _ _).loc Cert.Reference19Ideal.main_arg3)) = _
        rw [(hag c).2.1, (hag c).2.2.1, (hag c).2.2.2.1]
        funext i
        idx_vars i
        exact Cert.Kernel19Ideal.AdamGuBlock.ref_m _ _ _ i0 i1 i2,
      by
        refine (h c).2.2.2.1.trans ((Cert.Reference19Ideal.Read.val_main_v13_eq ..).trans ?_)
        show Cert.Reference19Ideal.Read.val_main_v13 (F := Ideal) (m' ((c.tc : Thread _ _).loc Cert.Reference19Ideal.main_arg1)) (m' ((c.tc : Thread _ _).loc Cert.Reference19Ideal.main_arg2)) (m' ((c.tc : Thread _ _).loc Cert.Reference19Ideal.main_arg4)) = _
        rw [(hag c).2.1, (hag c).2.2.1, (hag c).2.2.2.2]
        funext i
        idx_vars i
        exact Cert.Kernel19Ideal.AdamGuBlock.ref_v _ _ _ i0 i1 i2,
      (h c).2.2.2.2⟩) (Cert.Reference19Ideal.Value.run m' ρ')⟩

/-- The reference runs and leaves its arguments. -/
theorem frame_AdamGuRef : Cert.quiescent_Reference19Ideal := fun m ρ _ =>
  (θ_run Cert.Reference19Ideal.defs _ _).mono (fun r h => ⟨fun c => (h c).2.2.2.2,
      sem_eq_zero_of_no_sems (by decide) r.2⟩)
    (Cert.Reference19Ideal.Value.run m ρ)

end Cert.Proof

end

end
-- ==== Proof.AdamDownBlock.lean ====
/- The optimiser's step on the down weights: the arrays the kernel leaves and the reference's results, read at an index. -/
module

public import proofs.«01_k».proof.Proof.Gen.Kernel20Ideal.Value
public import proofs.«01_k».proof.Proof.Gen.Reference20Ideal.Read
public import proofs.«01_k».proof.Proof.Finite
public import proofs.«01_k».proof.Proof.AdamSpec

set_option maxRecDepth 16384

@[expose] public section

noncomputable section

open Idealize.ShloMosaic Idealize.ShloMosaic.TcCoe Idealize.SL.Sem
open Idealize.ShloMosaic.Pipeline (Dat)

namespace Cert.Kernel20Ideal.AdamDownBlock

open Cert.Kernel20Ideal Cert.Kernel20Ideal.Gen
open Cert.Reference20Ideal.Read

variable (m : (ℓ : Loc nD τ sig) → Buf (Elt Ideal) ℓ)

/-- The weight. -/
abbrev A0 (c : Dev nD) : FVec Ideal S2x704x1024 .f32 := m ((c : Thread nD τ).loc main_arg0)
/-- The first layer's gradient. -/
abbrev A1 (c : Dev nD) : FVec Ideal S704x1024 .f32 := m ((c : Thread nD τ).loc main_arg1)
/-- The second layer's gradient. -/
abbrev A2 (c : Dev nD) : FVec Ideal S704x1024 .f32 := m ((c : Thread nD τ).loc main_arg2)
/-- The first moment. -/
abbrev A3 (c : Dev nD) : FVec Ideal S2x704x1024 .f32 := m ((c : Thread nD τ).loc main_arg3)
/-- The second moment. -/
abbrev A4 (c : Dev nD) : FVec Ideal S2x704x1024 .f32 := m ((c : Thread nD τ).loc main_arg4)

/-- The gradient of a layer. -/
def gr (x1 x2 : FVec Ideal S704x1024 .f32) (l : Fin 2) (i : Fin 704) (j : Fin 1024) : EReal := if l.val < 1 then x1 (ix2 i j) else x2 (ix2 i j)

/-- Every window's block index at every grid point. -/
theorem idx_val : ∀ t : Fin cfg0.N, win0_0.index t = ![t.val / 4, t.val % 4, 0] ∧ win0_1.index t = ![t.val / 4, t.val % 4, 0] ∧ win0_2.index t = ![t.val / 4, t.val % 4, 0] ∧ win0_3.index t = ![if t.val < 4 then t.val else 3, 0] ∧ win0_4.index t = ![if t.val < 4 then 0 else t.val - 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] ∧ t.val < 8 :=
  (by decide +kernel : ∀ t : Fin grid0.N, _)
theorem ltN (t : Fin cfg0.N) : t.val < 8 := (idx_val t).2.2.2.2.2.2.2.2.2
/-- The layer of a grid point. -/
theorem layer_val : ∀ t : Fin cfg0.N, (grid0.coords t 0).val = t.val / 4 :=
  (by decide +kernel : ∀ t : Fin grid0.N, _)

/-- A block of an array: 176 rows of a layer. -/
theorem rd0 (A : FVec Ideal S2x704x1024 .f32) (t : Fin cfg0.N) (r : Fin 176) (k : Fin 1024) (i : S2x704x1024.Idx) (hl : (i 0).val = t.val / 4 + (0 : Fin 1).val) (hi : (i 1).val = 176 * (t.val % 4) + r.val) (hj : (i 2).val = k.val) :
    ((cfg0.win 0).blk t).view.read (Elt Ideal) A (ix3 0 r k) = A i := by
  have hl : (i 0).val = t.val / 4 := hl
  blk_ext [idx_val t]
/-- A block of an array: 176 rows of a layer. -/
theorem rd1 (A : FVec Ideal S2x704x1024 .f32) (t : Fin cfg0.N) (r : Fin 176) (k : Fin 1024) (i : S2x704x1024.Idx) (hl : (i 0).val = t.val / 4 + (0 : Fin 1).val) (hi : (i 1).val = 176 * (t.val % 4) + r.val) (hj : (i 2).val = k.val) :
    ((cfg0.win 1).blk t).view.read (Elt Ideal) A (ix3 0 r k) = A i := by
  have hl : (i 0).val = t.val / 4 := hl
  blk_ext [idx_val t]
/-- A block of an array: 176 rows of a layer. -/
theorem rd2 (A : FVec Ideal S2x704x1024 .f32) (t : Fin cfg0.N) (r : Fin 176) (k : Fin 1024) (i : S2x704x1024.Idx) (hl : (i 0).val = t.val / 4 + (0 : Fin 1).val) (hi : (i 1).val = 176 * (t.val % 4) + r.val) (hj : (i 2).val = k.val) :
    ((cfg0.win 2).blk t).view.read (Elt Ideal) A (ix3 0 r k) = A i := by
  have hl : (i 0).val = t.val / 4 := hl
  blk_ext [idx_val t]
/-- A block of a gradient: 176 of its rows. -/
theorem rd3 (A : FVec Ideal S704x1024 .f32) (t : Fin cfg0.N) (r : Fin 176) (k : Fin 1024) (i : Fin 704) (j : Fin 1024) (ht : t.val < 4) (hi : i.val = 176 * t.val + r.val) (hj : j.val = k.val) :
    ((cfg0.win 3).blk t).view.read (Elt Ideal) A (ix2 r k) = A (ix2 i j) := by
  blk_ext [idx_val t, if_pos ht]
/-- A block of a gradient: 176 of its rows. -/
theorem rd4 (A : FVec Ideal S704x1024 .f32) (t : Fin cfg0.N) (r : Fin 176) (k : Fin 1024) (i : Fin 704) (j : Fin 1024) (ht : ¬ t.val < 4) (hi : i.val = 176 * (t.val - 4) + r.val) (hj : j.val = k.val) :
    ((cfg0.win 4).blk t).view.read (Elt Ideal) A (ix2 r k) = A (ix2 i j) := by
  blk_ext [idx_val t, if_neg ht]

/-- The gradient that a grid point reads is its layer's. -/
theorem gsel (c : Dev nD) (t : Fin cfg0.N) (r : Fin 176) (k : Fin 1024) (l : Fin 2) (i : Fin 704) (j : Fin 1024) (hl : l.val = t.val / 4) (hi : i.val = 176 * (t.val % 4) + r.val) (hj : j.val = k.val) :
    k0_pay4 (F := Ideal) (grid0.coords t) (iblk m c 3 t) (iblk m c 4 t) (ix2 r k) = gr (A1 m c) (A2 m c) l i j := by
  have ht := ltN t
  have hc := layer_val t
  unfold gr k0_pay4
  dsimp only
  rw [hc]
  by_cases h : t.val < 4
  · rw [if_pos (show l.val < 1 by omega), show t.val / 4 = 0 by omega]
    exact rd3 (A1 m c) t r k i j h (by omega) hj
  · rw [if_neg (show ¬ l.val < 1 by omega), show t.val / 4 = 1 by omega]
    exact rd4 (A2 m c) t r k i j h (by omega) hj

/-- The gradient, as it is handed on, of a grid point. -/
theorem point5 (c : Dev nD) (t : Fin cfg0.N) (y : S1x176x1024.Idx) (i : S2x704x1024.Idx) (hi0 : (i 0 : ℕ) = t.val / 4 + (y 0 : ℕ)) (hi1 : (i 1 : ℕ) = 176 * (t.val % 4) + (y 1 : ℕ)) (hi2 : (i 2 : ℕ) = (y 2 : ℕ)) :
    out0_5 (F := Ideal) (grid0.coords t) (iblk m c 0 t) (iblk m c 1 t) (iblk m c 2 t) (iblk m c 3 t) (iblk m c 4 t) y = gr (A1 m c) (A2 m c) (i 0) (i 1) (i 2) := by
  have ht := ltN t
  frame_out
  idx_vars y
  obtain rfl : y0 = 0 := Subsingleton.elim _ _
  pointwise [k0_pay5]
  exact gsel m c t y1 y2 (i 0) (i 1) (i 2) hi0 hi1 hi2

/-- The gradient, as it is handed on, after the run. -/
theorem final5 (c : Dev nD) : (dats m 0 c).arrAt 5 (cfgs 0).N = fun i => gr (A1 m c) (A2 m c) (i 0) (i 1) (i 2) := by
  refine (dats m 0 c).arrAt_eq_of_covers 5 _ (by decide +kernel) fun t hf y => ?_
  blk_simp; rw [after0_5]
  refine point5 m c t y _ ?_ ?_ ?_ <;> blk_simp [idx_val t] <;> try omega
/-- The weight's change, of a grid point. -/
theorem point6 (c : Dev nD) (t : Fin cfg0.N) (y : S1x176x1024.Idx) (i : S2x704x1024.Idx) (hi0 : (i 0 : ℕ) = t.val / 4 + (y 0 : ℕ)) (hi1 : (i 1 : ℕ) = 176 * (t.val % 4) + (y 1 : ℕ)) (hi2 : (i 2 : ℕ) = (y 2 : ℕ)) :
    out0_6 (F := Ideal) (grid0.coords t) (iblk m c 0 t) (iblk m c 1 t) (iblk m c 2 t) (iblk m c 3 t) (iblk m c 4 t) y = Adam.dl (A0 m c i) (gr (A1 m c) (A2 m c) (i 0) (i 1) (i 2)) (A3 m c i) (A4 m c i) := by
  have ht := ltN t
  frame_out
  idx_vars y
  obtain rfl : y0 = 0 := Subsingleton.elim _ _
  pointwise [k0_pay1, k0_pay9, k0_pay7, k0_pay8, k0_pay6]
  exact Adam.dl_congr (rd0 (A0 m c) t y1 y2 i hi0 hi1 hi2) (gsel m c t y1 y2 (i 0) (i 1) (i 2) hi0 hi1 hi2) (rd1 (A3 m c) t y1 y2 i hi0 hi1 hi2) (rd2 (A4 m c) t y1 y2 i hi0 hi1 hi2)

/-- The weight's change, after the run. -/
theorem final6 (c : Dev nD) : (dats m 0 c).arrAt 6 (cfgs 0).N = fun i => Adam.dl (A0 m c i) (gr (A1 m c) (A2 m c) (i 0) (i 1) (i 2)) (A3 m c i) (A4 m c i) := by
  refine (dats m 0 c).arrAt_eq_of_covers 6 _ (by decide +kernel) fun t hf y => ?_
  blk_simp; rw [after0_6]
  refine point6 m c t y _ ?_ ?_ ?_ <;> blk_simp [idx_val t] <;> try omega
/-- The new first moment, of a grid point. -/
theorem point7 (c : Dev nD) (t : Fin cfg0.N) (y : S1x176x1024.Idx) (i : S2x704x1024.Idx) (hi0 : (i 0 : ℕ) = t.val / 4 + (y 0 : ℕ)) (hi1 : (i 1 : ℕ) = 176 * (t.val % 4) + (y 1 : ℕ)) (hi2 : (i 2 : ℕ) = (y 2 : ℕ)) :
    out0_7 (F := Ideal) (grid0.coords t) (iblk m c 0 t) (iblk m c 1 t) (iblk m c 2 t) (iblk m c 3 t) (iblk m c 4 t) y = Adam.mm (gr (A1 m c) (A2 m c) (i 0) (i 1) (i 2)) (A3 m c i) := by
  have ht := ltN t
  frame_out
  idx_vars y
  obtain rfl : y0 = 0 := Subsingleton.elim _ _
  pointwise [k0_pay2, k0_pay7]
  exact congrArg₂ Adam.mm (gsel m c t y1 y2 (i 0) (i 1) (i 2) hi0 hi1 hi2) (rd1 (A3 m c) t y1 y2 i hi0 hi1 hi2)

/-- The new first moment, after the run. -/
theorem final7 (c : Dev nD) : (dats m 0 c).arrAt 7 (cfgs 0).N = fun i => Adam.mm (gr (A1 m c) (A2 m c) (i 0) (i 1) (i 2)) (A3 m c i) := by
  refine (dats m 0 c).arrAt_eq_of_covers 7 _ (by decide +kernel) fun t hf y => ?_
  blk_simp; rw [after0_7]
  refine point7 m c t y _ ?_ ?_ ?_ <;> blk_simp [idx_val t] <;> try omega
/-- The new second moment, of a grid point. -/
theorem point8 (c : Dev nD) (t : Fin cfg0.N) (y : S1x176x1024.Idx) (i : S2x704x1024.Idx) (hi0 : (i 0 : ℕ) = t.val / 4 + (y 0 : ℕ)) (hi1 : (i 1 : ℕ) = 176 * (t.val % 4) + (y 1 : ℕ)) (hi2 : (i 2 : ℕ) = (y 2 : ℕ)) :
    out0_8 (F := Ideal) (grid0.coords t) (iblk m c 0 t) (iblk m c 1 t) (iblk m c 2 t) (iblk m c 3 t) (iblk m c 4 t) y = Adam.vv (gr (A1 m c) (A2 m c) (i 0) (i 1) (i 2)) (A4 m c i) := by
  have ht := ltN t
  frame_out
  idx_vars y
  obtain rfl : y0 = 0 := Subsingleton.elim _ _
  pointwise [k0_pay3, k0_pay8]
  exact congrArg₂ Adam.vv (gsel m c t y1 y2 (i 0) (i 1) (i 2) hi0 hi1 hi2) (rd2 (A4 m c) t y1 y2 i hi0 hi1 hi2)

/-- The new second moment, after the run. -/
theorem final8 (c : Dev nD) : (dats m 0 c).arrAt 8 (cfgs 0).N = fun i => Adam.vv (gr (A1 m c) (A2 m c) (i 0) (i 1) (i 2)) (A4 m c i) := by
  refine (dats m 0 c).arrAt_eq_of_covers 8 _ (by decide +kernel) fun t hf y => ?_
  blk_simp; rw [after0_8]
  refine point8 m c t y _ ?_ ?_ ?_ <;> blk_simp [idx_val t] <;> try omega

section
variable (x0 : FVec Ideal S2x704x1024 .f32) (x1 : FVec Ideal S704x1024 .f32) (x2 : FVec Ideal S704x1024 .f32) (x3 : FVec Ideal S2x704x1024 .f32) (x4 : FVec Ideal S2x704x1024 .f32)
/-- The reference's stacked gradients. -/
theorem ref_g (l : Fin 2) (i : Fin 704) (j : Fin 1024) : val_main_v2 (F := Ideal) x1 x2 (ix3 l i j) = gr x1 x2 l i j := by
  unfold gr
  by_cases h : l.val < 1
  · rw [if_pos h]
    obtain rfl : l = 0 := Fin.ext (by have : (0 : Fin 2).val = 0 := rfl; omega)
    pointwise [val_main_v2, val_main_v1, val_main_v0]
    try rfl
  · rw [if_neg h]
    obtain rfl : l = 1 := Fin.ext (by have : (1 : Fin 2).val = 1 := rfl; omega)
    pointwise [val_main_v2, val_main_v1, val_main_v0]
    try rfl
/-- The reference's result at an index. -/
theorem ref_d (l : Fin 2) (i : Fin 704) (j : Fin 1024) : val_main_v26 (F := Ideal) x0 x1 x2 x3 x4 (ix3 l i j) = Adam.dl (x0 (ix3 l i j)) (gr x1 x2 l i j) (x3 (ix3 l i j)) (x4 (ix3 l i j)) := by
  rw [← ref_g]
  pointwise [val_main_v26, val_main_v25, val_main_cst_7, val_main_v24, val_main_v21, val_main_v15, val_main_v7, val_main_v4, val_main_v3, val_main_cst, val_main_v6, val_main_v5, val_main_cst_0, val_main_v14, val_main_cst_3, val_main_v20, val_main_v18, val_main_v17, val_main_v13, val_main_v9, val_main_v8, val_main_cst_1, val_main_v12, val_main_v11, val_main_cst_2, val_main_v10, val_main_v16, val_main_cst_4, val_main_v19, val_main_cst_5, val_main_v23, val_main_v22, val_main_cst_6]
  try rfl
/-- The reference's result at an index. -/
theorem ref_m (l : Fin 2) (i : Fin 704) (j : Fin 1024) : val_main_v7 (F := Ideal) x1 x2 x3 (ix3 l i j) = Adam.mm (gr x1 x2 l i j) (x3 (ix3 l i j)) := by
  rw [← ref_g]
  pointwise [val_main_v7, val_main_v4, val_main_v3, val_main_cst, val_main_v6, val_main_v5, val_main_cst_0]
  try rfl
/-- The reference's result at an index. -/
theorem ref_v (l : Fin 2) (i : Fin 704) (j : Fin 1024) : val_main_v13 (F := Ideal) x1 x2 x4 (ix3 l i j) = Adam.vv (gr x1 x2 l i j) (x4 (ix3 l i j)) := by
  rw [← ref_g]
  pointwise [val_main_v13, val_main_v9, val_main_v8, val_main_cst_1, val_main_v12, val_main_v11, val_main_cst_2, val_main_v10]
  try rfl
end

end Cert.Kernel20Ideal.AdamDownBlock

end

end
-- ==== Proof.AdamDownClaim.lean ====
/- The claims about the optimiser's step on the down weights. -/
module

public import proofs.«01_k».proof.Defs
public import proofs.«01_k».proof.Proof.Gen.Kernel20.Frame
public import proofs.«01_k».proof.Proof.Gen.Reference20Ideal.Run
public import proofs.«01_k».proof.Proof.AdamDownBlock

set_option maxRecDepth 16384

@[expose] public section

noncomputable section

open Idealize.ShloMosaic Idealize.SL.Sem

namespace Cert.Proof

set_option maxHeartbeats 2000000 in
/-- The kernel's arrays are the reference's. -/
theorem value_AdamDown : Cert.algebraic_Kernel20Ideal_Reference20Ideal := fun m ρ m' ρ' _ hag =>
  ⟨fun c i => Cert.Kernel20Ideal.AdamDownBlock.gr (Cert.Kernel20Ideal.AdamDownBlock.A1 m c) (Cert.Kernel20Ideal.AdamDownBlock.A2 m c) (i 0) (i 1) (i 2),
    fun c i => Adam.dl (Cert.Kernel20Ideal.AdamDownBlock.A0 m c i) (Cert.Kernel20Ideal.AdamDownBlock.gr (Cert.Kernel20Ideal.AdamDownBlock.A1 m c) (Cert.Kernel20Ideal.AdamDownBlock.A2 m c) (i 0) (i 1) (i 2)) (Cert.Kernel20Ideal.AdamDownBlock.A3 m c i) (Cert.Kernel20Ideal.AdamDownBlock.A4 m c i),
    fun c i => Adam.mm (Cert.Kernel20Ideal.AdamDownBlock.gr (Cert.Kernel20Ideal.AdamDownBlock.A1 m c) (Cert.Kernel20Ideal.AdamDownBlock.A2 m c) (i 0) (i 1) (i 2)) (Cert.Kernel20Ideal.AdamDownBlock.A3 m c i),
    fun c i => Adam.vv (Cert.Kernel20Ideal.AdamDownBlock.gr (Cert.Kernel20Ideal.AdamDownBlock.A1 m c) (Cert.Kernel20Ideal.AdamDownBlock.A2 m c) (i 0) (i 1) (i 2)) (Cert.Kernel20Ideal.AdamDownBlock.A4 m c i),
    (θ_run _ _ _).mono (fun _ h c => ⟨(h c).1.trans (Cert.Kernel20Ideal.AdamDownBlock.final5 m c),
      (h c).2.1.trans (Cert.Kernel20Ideal.AdamDownBlock.final6 m c),
      (h c).2.2.1.trans (Cert.Kernel20Ideal.AdamDownBlock.final7 m c),
      (h c).2.2.2.1.trans (Cert.Kernel20Ideal.AdamDownBlock.final8 m c),
      (h c).2.2.2.2⟩) (Cert.Kernel20Ideal.Value.run_blocks m ρ),
    (θ_run _ _ _).mono (fun _ h c => ⟨by
        refine (h c).1.trans ((Cert.Reference20Ideal.Read.val_main_v2_eq ..).trans ?_)
        show Cert.Reference20Ideal.Read.val_main_v2 (F := Ideal) (m' ((c.tc : Thread _ _).loc Cert.Reference20Ideal.main_arg1)) (m' ((c.tc : Thread _ _).loc Cert.Reference20Ideal.main_arg2)) = _
        rw [(hag c).2.1, (hag c).2.2.1]
        funext i
        idx_vars i
        exact Cert.Kernel20Ideal.AdamDownBlock.ref_g _ _ i0 i1 i2,
      by
        refine (h c).2.1.trans ((Cert.Reference20Ideal.Read.val_main_v26_eq ..).trans ?_)
        show Cert.Reference20Ideal.Read.val_main_v26 (F := Ideal) (m' ((c.tc : Thread _ _).loc Cert.Reference20Ideal.main_arg0)) (m' ((c.tc : Thread _ _).loc Cert.Reference20Ideal.main_arg1)) (m' ((c.tc : Thread _ _).loc Cert.Reference20Ideal.main_arg2)) (m' ((c.tc : Thread _ _).loc Cert.Reference20Ideal.main_arg3)) (m' ((c.tc : Thread _ _).loc Cert.Reference20Ideal.main_arg4)) = _
        rw [(hag c).1, (hag c).2.1, (hag c).2.2.1, (hag c).2.2.2.1, (hag c).2.2.2.2]
        funext i
        idx_vars i
        exact Cert.Kernel20Ideal.AdamDownBlock.ref_d _ _ _ _ _ i0 i1 i2,
      by
        refine (h c).2.2.1.trans ((Cert.Reference20Ideal.Read.val_main_v7_eq ..).trans ?_)
        show Cert.Reference20Ideal.Read.val_main_v7 (F := Ideal) (m' ((c.tc : Thread _ _).loc Cert.Reference20Ideal.main_arg1)) (m' ((c.tc : Thread _ _).loc Cert.Reference20Ideal.main_arg2)) (m' ((c.tc : Thread _ _).loc Cert.Reference20Ideal.main_arg3)) = _
        rw [(hag c).2.1, (hag c).2.2.1, (hag c).2.2.2.1]
        funext i
        idx_vars i
        exact Cert.Kernel20Ideal.AdamDownBlock.ref_m _ _ _ i0 i1 i2,
      by
        refine (h c).2.2.2.1.trans ((Cert.Reference20Ideal.Read.val_main_v13_eq ..).trans ?_)
        show Cert.Reference20Ideal.Read.val_main_v13 (F := Ideal) (m' ((c.tc : Thread _ _).loc Cert.Reference20Ideal.main_arg1)) (m' ((c.tc : Thread _ _).loc Cert.Reference20Ideal.main_arg2)) (m' ((c.tc : Thread _ _).loc Cert.Reference20Ideal.main_arg4)) = _
        rw [(hag c).2.1, (hag c).2.2.1, (hag c).2.2.2.2]
        funext i
        idx_vars i
        exact Cert.Kernel20Ideal.AdamDownBlock.ref_v _ _ _ i0 i1 i2,
      (h c).2.2.2.2⟩) (Cert.Reference20Ideal.Value.run m' ρ')⟩

/-- The reference runs and leaves its arguments. -/
theorem frame_AdamDownRef : Cert.quiescent_Reference20Ideal := fun m ρ _ =>
  (θ_run Cert.Reference20Ideal.defs _ _).mono (fun r h => ⟨fun c => (h c).2.2.2.2,
      sem_eq_zero_of_no_sems (by decide) r.2⟩)
    (Cert.Reference20Ideal.Value.run m ρ)

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite2
public import proofs.«01_k».proof.Proof.Gen.Pre_finite3
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite8
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Pre_finite17
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.ConvArray
public import proofs.«01_k».proof.Proof.ConvRef
public import proofs.«01_k».proof.Proof.Ffn2Claim
public import proofs.«01_k».proof.Proof.Ffn3Claim
public import proofs.«01_k».proof.Proof.InClaim
public import proofs.«01_k».proof.Proof.LossClaim
public import proofs.«01_k».proof.Proof.DownClaim
public import proofs.«01_k».proof.Proof.QkvClaim
public import proofs.«01_k».proof.Proof.InBwdClaim
public import proofs.«01_k».proof.Proof.PreClaim
public import proofs.«01_k».proof.Proof.DwInClaim
public import proofs.«01_k».proof.Proof.MixClaim
public import proofs.«01_k».proof.Proof.ProjClaim
public import proofs.«01_k».proof.Proof.DwSqClaim
public import proofs.«01_k».proof.Proof.ConvFwdClaim
public import proofs.«01_k».proof.Proof.AttnOutClaim
public import proofs.«01_k».proof.Proof.DwKvClaim
public import proofs.«01_k».proof.Proof.AttnClaim
public import proofs.«01_k».proof.Proof.AdamInClaim
public import proofs.«01_k».proof.Proof.AdamGuClaim
public import proofs.«01_k».proof.Proof.AdamDownClaim
public import Idealize.ShloMosaic.Lib.Claim
public import Idealize.ShloMosaic.Adequacy
public import Idealize.ShloMosaic.Init

@[expose] public section

noncomputable section

namespace Cert.Proof

open Idealize.ShloMosaic Idealize.SL.Sem

/-- The kernel of the convolution's gradient runs, leaves its arguments and ends with every counter at zero. -/
theorem frame_conv : Cert.quiescent_Kernel := fun m ρ _ => Cert.Kernel.Gen.frame m ρ

/-- The same of its idealization. -/
theorem frame_convIdeal : Cert.quiescent_KernelIdeal := fun m ρ _ => Cert.KernelIdeal.Gen.frame m ρ

/-- The reference of the convolution's gradient runs and leaves its arguments; it has no counters. -/
theorem frame_convRef : Cert.quiescent_ReferenceIdeal := fun m ρ _ =>
  (θ_run Cert.ReferenceIdeal.defs _ _).mono (fun r h => ⟨fun c => (h c).2.2,
      sem_eq_zero_of_no_sems (by decide) r.2⟩)
    (Cert.ReferenceIdeal.Value.run m ρ)

/-- The kernel's two gradients are the reference's: both are the formulas of ConvSpec. -/
theorem value_conv : Cert.algebraic_KernelIdeal_ReferenceIdeal := fun m ρ m' ρ' _ hag =>
  ⟨fun c => Conv.dB (m ((c.tc : Thread _ _).loc Cert.KernelIdeal.main_arg0)) (m ((c.tc : Thread _ _).loc Cert.KernelIdeal.main_arg1))
      (m ((c.tc : Thread _ _).loc Cert.KernelIdeal.main_arg2)),
    fun c => Conv.dW (m ((c.tc : Thread _ _).loc Cert.KernelIdeal.main_arg0)) (m ((c.tc : Thread _ _).loc Cert.KernelIdeal.main_arg1)),
    (θ_run _ _ _).mono (fun _ h c => ⟨(h c).1.trans (Cert.KernelIdeal.ConvBlock.final9 m c),
      (h c).2.1.trans (Cert.KernelIdeal.ConvBlock.final10 m c), (h c).2.2⟩) (Cert.KernelIdeal.Value.run_blocks m ρ),
    (θ_run _ _ _).mono (fun _ h c => ⟨by
        rw [(h c).1, Cert.ReferenceIdeal.Read.val_main_v68_eq, Cert.ReferenceIdeal.ConvRef.dB_eq, (hag c).1, (hag c).2.1, (hag c).2.2],
      by
        rw [(h c).2.1]
        refine (Cert.ReferenceIdeal.Read.val_main_v70_eq _ _).trans ?_
        rw [Cert.ReferenceIdeal.ConvRef.dW_eq, (hag c).1, (hag c).2.1],
      (h c).2.2⟩) (Cert.ReferenceIdeal.Value.run m' ρ')⟩

/-- The references of the SwiGLU block's gradients run and leave their arguments. -/
theorem frame_ffn2Ref : Cert.quiescent_Reference2Ideal := fun m ρ _ =>
  (θ_run Cert.Reference2Ideal.defs _ _).mono (fun r h => ⟨fun c => (h c).2.2.2.2.2,
      sem_eq_zero_of_no_sems (by decide) r.2⟩)
    (Cert.Reference2Ideal.Value.run m ρ)
theorem frame_ffn3Ref : Cert.quiescent_Reference3Ideal := fun m ρ _ =>
  (θ_run Cert.Reference3Ideal.defs _ _).mono (fun r h => ⟨fun c => (h c).2,
      sem_eq_zero_of_no_sems (by decide) r.2⟩)
    (Cert.Reference3Ideal.Value.run m ρ)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Pre_finite2.Gen.facts, Cert.Pre_finite3.Gen.facts, Cert.Pre_finite5.Gen.facts, Cert.Pre_finite7.Gen.facts, Cert.Pre_finite8.Gen.facts, Cert.Pre_finite17.Gen.facts,
  frame_conv, frame_convIdeal, frame_convRef,
  fun m ρ _ => Cert.Kernel2.Gen.frame m ρ, fun m ρ _ => Cert.Kernel2Ideal.Gen.frame m ρ, fun m ρ _ => Cert.Kernel2Ideal.Gen.frame m ρ,
  frame_ffn2Ref, fun m ρ _ => frame_ffn2Ref m ρ trivial,
  fun m ρ _ => Cert.Kernel3.Gen.frame m ρ, fun m ρ _ => Cert.Kernel3Ideal.Gen.frame m ρ, fun m ρ _ => Cert.Kernel3Ideal.Gen.frame m ρ,
  frame_ffn3Ref, fun m ρ _ => frame_ffn3Ref m ρ trivial,
  fun m ρ _ => Cert.Kernel4.Gen.frame m ρ, fun m ρ _ => Cert.Kernel4Ideal.Gen.frame m ρ, frame_InRef,
  fun m ρ _ => Cert.Kernel5.Gen.frame m ρ, fun m ρ _ => Cert.Kernel5Ideal.Gen.frame m ρ, fun m ρ _ => Cert.Kernel5Ideal.Gen.frame m ρ,
  frame_LossRef, fun m ρ _ => frame_LossRef m ρ trivial,
  fun m ρ _ => Cert.Kernel6.Gen.frame m ρ, fun m ρ _ => Cert.Kernel6Ideal.Gen.frame m ρ, frame_DownRef,
  fun m ρ _ => Cert.Kernel7.Gen.frame m ρ, fun m ρ _ => Cert.Kernel7Ideal.Gen.frame m ρ, fun m ρ _ => Cert.Kernel7Ideal.Gen.frame m ρ,
  frame_QkvRef, fun m ρ _ => frame_QkvRef m ρ trivial,
  fun m ρ _ => Cert.Kernel8.Gen.frame m ρ, fun m ρ _ => Cert.Kernel8Ideal.Gen.frame m ρ, fun m ρ _ => Cert.Kernel8Ideal.Gen.frame m ρ,
  frame_InBwdRef, fun m ρ _ => frame_InBwdRef m ρ trivial,
  fun m ρ _ => Cert.Kernel9.Gen.frame m ρ, fun m ρ _ => Cert.Kernel9Ideal.Gen.frame m ρ, frame_PreRef,
  fun m ρ _ => Cert.Kernel10.Gen.frame m ρ, fun m ρ _ => Cert.Kernel10Ideal.Gen.frame m ρ, frame_DwInRef,
  fun m ρ _ => Cert.Kernel11.Gen.frame m ρ, fun m ρ _ => Cert.Kernel11Ideal.Gen.frame m ρ, frame_MixRef,
  fun m ρ _ => Cert.Kernel12.Gen.frame m ρ, fun m ρ _ => Cert.Kernel12Ideal.Gen.frame m ρ, frame_ProjRef,
  fun m ρ _ => Cert.Kernel13.Gen.frame m ρ, fun m ρ _ => Cert.Kernel13Ideal.Gen.frame m ρ, frame_DwSqRef,
  fun m ρ _ => Cert.Kernel14.Gen.frame m ρ, fun m ρ _ => Cert.Kernel14Ideal.Gen.frame m ρ, frame_ConvFwdRef,
  fun m ρ _ => Cert.Kernel15.Gen.frame m ρ, fun m ρ _ => Cert.Kernel15Ideal.Gen.frame m ρ, frame_AttnOutRef,
  fun m ρ _ => Cert.Kernel16.Gen.frame m ρ, fun m ρ _ => Cert.Kernel16Ideal.Gen.frame m ρ, frame_DwKvRef,
  fun m ρ _ => Cert.Kernel17.Gen.frame m ρ, fun m ρ _ => Cert.Kernel17Ideal.Gen.frame m ρ, fun m ρ _ => Cert.Kernel17Ideal.Gen.frame m ρ,
  frame_AttnRef, fun m ρ _ => frame_AttnRef m ρ trivial,
  fun m ρ _ => Cert.Kernel18.Gen.frame m ρ, fun m ρ _ => Cert.Kernel18Ideal.Gen.frame m ρ, frame_AdamInRef,
  fun m ρ _ => Cert.Kernel19.Gen.frame m ρ, fun m ρ _ => Cert.Kernel19Ideal.Gen.frame m ρ, frame_AdamGuRef,
  fun m ρ _ => Cert.Kernel20.Gen.frame m ρ, fun m ρ _ => Cert.Kernel20Ideal.Gen.frame m ρ, frame_AdamDownRef,
  trivial, value_conv, trivial, value_ffn2, trivial, value_ffn3, trivial, value_In, trivial, value_Loss, trivial, value_Down, trivial, value_Qkv, trivial, value_InBwd, trivial, value_Pre, trivial, value_DwIn, trivial, value_Mix, trivial, value_Proj, trivial, value_DwSq, trivial, value_ConvFwd, trivial, value_AttnOut, trivial, value_DwKv, IdealRules.named_const.statement Cert.Kernel17Ideal.κ "mask" .f32 0xF149F2CA#32 ⊥ rfl, value_Attn, trivial, value_AdamIn, trivial, value_AdamGu, trivial, value_AdamDown⟩

end Cert.Proof

end
